-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradReferenceIdeal (m : (ℓ : Loc Cert.GradReferenceIdeal.nD Cert.GradReferenceIdeal.τ Cert.GradReferenceIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnReferenceIdeal (m : (ℓ : Loc Cert.AdamFfnReferenceIdeal.nD Cert.AdamFfnReferenceIdeal.τ Cert.AdamFfnReferenceIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutReferenceIdeal (m : (ℓ : Loc Cert.AdamFfnOutReferenceIdeal.nD Cert.AdamFfnOutReferenceIdeal.τ Cert.AdamFfnOutReferenceIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInReferenceIdeal (m : (ℓ : Loc Cert.AdamConvInReferenceIdeal.nD Cert.AdamConvInReferenceIdeal.τ Cert.AdamConvInReferenceIdeal.sig) → Buf (Elt Ideal) ℓ) : Prop :=
  True

def Pre_AdamConvOut (m : (ℓ : Loc Cert.AdamConvOut.nD Cert.AdamConvOut.τ Cert.AdamConvOut.sig) → Buf (Elt Bits) ℓ) : Prop :=
  True

def Pre_AdamConvOutIdeal (m : (ℓ : Loc Cert.AdamConvOutIdeal.nD Cert.AdamConvOutIdeal.τ Cert.AdamConvOutIdeal.sig) → Buf (Elt Ideal) ℓ) : Prop :=
  True

def Pre_AdamConvOutReferenceIdeal (m : (ℓ : Loc Cert.AdamConvOutReferenceIdeal.nD Cert.AdamConvOutReferenceIdeal.τ Cert.AdamConvOutReferenceIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvReferenceIdeal (m : (ℓ : Loc Cert.AdamQkvReferenceIdeal.nD Cert.AdamQkvReferenceIdeal.τ Cert.AdamQkvReferenceIdeal.sig) → Buf (Elt Ideal) ℓ) : Prop :=
  True

def Pre_AdamAttnOut (m : (ℓ : Loc Cert.AdamAttnOut.nD Cert.AdamAttnOut.τ Cert.AdamAttnOut.sig) → Buf (Elt Bits) ℓ) : Prop :=
  True

def Pre_AdamAttnOutIdeal (m : (ℓ : Loc Cert.AdamAttnOutIdeal.nD Cert.AdamAttnOutIdeal.τ Cert.AdamAttnOutIdeal.sig) → Buf (Elt Ideal) ℓ) : Prop :=
  True

def Pre_AdamAttnOutReferenceIdeal (m : (ℓ : Loc Cert.AdamAttnOutReferenceIdeal.nD Cert.AdamAttnOutReferenceIdeal.τ Cert.AdamAttnOutReferenceIdeal.sig) → Buf (Elt Ideal) ℓ) : Prop :=
  True

def Pre_AdamCond (m : (ℓ : Loc Cert.AdamCond.nD Cert.AdamCond.τ Cert.AdamCond.sig) → Buf (Elt Bits) ℓ) : Prop :=
  True

def Pre_AdamCondIdeal (m : (ℓ : Loc Cert.AdamCondIdeal.nD Cert.AdamCondIdeal.τ Cert.AdamCondIdeal.sig) → Buf (Elt Ideal) ℓ) : Prop :=
  True

def Pre_AdamCondReferenceIdeal (m : (ℓ : Loc Cert.AdamCondReferenceIdeal.nD Cert.AdamCondReferenceIdeal.τ Cert.AdamCondReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdReferenceIdeal (m : (ℓ : Loc Cert.ModBwdReferenceIdeal.nD Cert.ModBwdReferenceIdeal.τ Cert.ModBwdReferenceIdeal.sig) → Buf (Elt Ideal) ℓ) : Prop :=
  True

def Pre_CondBwd (m : (ℓ : Loc Cert.CondBwd.nD Cert.CondBwd.τ Cert.CondBwd.sig) → Buf (Elt Bits) ℓ) : Prop :=
  True

def Pre_CondBwdIdeal (m : (ℓ : Loc Cert.CondBwdIdeal.nD Cert.CondBwdIdeal.τ Cert.CondBwdIdeal.sig) → Buf (Elt Ideal) ℓ) : Prop :=
  True

def Pre_CondBwdIdeal_finite_pre [hPre_finite_pre : Cert.Pre_finite_pre.Facts] (m : (ℓ : Loc Cert.CondBwdIdeal.nD Cert.CondBwdIdeal.τ Cert.CondBwdIdeal.sig) → Buf (Elt Ideal) ℓ) : Prop :=
  ∀ c : Dev Cert.CondBwdIdeal.nD,
    (Cert.Pre_finite_pre.fn (F := Ideal) (m ((c.tc : Thread Cert.CondBwdIdeal.nD Cert.CondBwdIdeal.τ).loc Cert.CondBwdIdeal.main_arg0)) (m ((c.tc : Thread Cert.CondBwdIdeal.nD Cert.CondBwdIdeal.τ).loc Cert.CondBwdIdeal.main_arg1)) (m ((c.tc : Thread Cert.CondBwdIdeal.nD Cert.CondBwdIdeal.τ).loc Cert.CondBwdIdeal.main_arg2))) = (fun _ => 1#1)

def Pre_CondBwdReferenceIdeal (m : (ℓ : Loc Cert.CondBwdReferenceIdeal.nD Cert.CondBwdReferenceIdeal.τ Cert.CondBwdReferenceIdeal.sig) → Buf (Elt Ideal) ℓ) : Prop :=
  True

def Pre_CondBwdReferenceIdeal_finite_pre [hPre_finite_pre : Cert.Pre_finite_pre.Facts] (m : (ℓ : Loc Cert.CondBwdReferenceIdeal.nD Cert.CondBwdReferenceIdeal.τ Cert.CondBwdReferenceIdeal.sig) → Buf (Elt Ideal) ℓ) : Prop :=
  ∀ c : Dev Cert.CondBwdReferenceIdeal.nD,
    (Cert.Pre_finite_pre.fn (F := Ideal) (m ((c.tc : Thread Cert.CondBwdReferenceIdeal.nD Cert.CondBwdReferenceIdeal.τ).loc Cert.CondBwdReferenceIdeal.main_arg0)) (m ((c.tc : Thread Cert.CondBwdReferenceIdeal.nD Cert.CondBwdReferenceIdeal.τ).loc Cert.CondBwdReferenceIdeal.main_arg1)) (m ((c.tc : Thread Cert.CondBwdReferenceIdeal.nD Cert.CondBwdReferenceIdeal.τ).loc Cert.CondBwdReferenceIdeal.main_arg2))) = (fun _ => 1#1)

def Pre_SumAda (m : (ℓ : Loc Cert.SumAda.nD Cert.SumAda.τ Cert.SumAda.sig) → Buf (Elt Bits) ℓ) : Prop :=
  True

def Pre_SumAdaIdeal (m : (ℓ : Loc Cert.SumAdaIdeal.nD Cert.SumAdaIdeal.τ Cert.SumAdaIdeal.sig) → Buf (Elt Ideal) ℓ) : Prop :=
  True

def Pre_SumAdaReferenceIdeal (m : (ℓ : Loc Cert.SumAdaReferenceIdeal.nD Cert.SumAdaReferenceIdeal.τ Cert.SumAdaReferenceIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumFfnIn (m : (ℓ : Loc Cert.SumFfnIn.nD Cert.SumFfnIn.τ Cert.SumFfnIn.sig) → Buf (Elt Bits) ℓ) : Prop :=
  True

def Pre_SumFfnInIdeal (m : (ℓ : Loc Cert.SumFfnInIdeal.nD Cert.SumFfnInIdeal.τ Cert.SumFfnInIdeal.sig) → Buf (Elt Ideal) ℓ) : Prop :=
  True

def Pre_SumFfnInReferenceIdeal (m : (ℓ : Loc Cert.SumFfnInReferenceIdeal.nD Cert.SumFfnInReferenceIdeal.τ Cert.SumFfnInReferenceIdeal.sig) → Buf (Elt Ideal) ℓ) : Prop :=
  True

def Pre_SumFfnOut (m : (ℓ : Loc Cert.SumFfnOut.nD Cert.SumFfnOut.τ Cert.SumFfnOut.sig) → Buf (Elt Bits) ℓ) : Prop :=
  True

def Pre_SumFfnOutIdeal (m : (ℓ : Loc Cert.SumFfnOutIdeal.nD Cert.SumFfnOutIdeal.τ Cert.SumFfnOutIdeal.sig) → Buf (Elt Ideal) ℓ) : Prop :=
  True

def Pre_SumFfnOutReferenceIdeal (m : (ℓ : Loc Cert.SumFfnOutReferenceIdeal.nD Cert.SumFfnOutReferenceIdeal.τ Cert.SumFfnOutReferenceIdeal.sig) → Buf (Elt Ideal) ℓ) : Prop :=
  True

def Pre_SumConvIn (m : (ℓ : Loc Cert.SumConvIn.nD Cert.SumConvIn.τ Cert.SumConvIn.sig) → Buf (Elt Bits) ℓ) : Prop :=
  True

def Pre_SumConvInIdeal (m : (ℓ : Loc Cert.SumConvInIdeal.nD Cert.SumConvInIdeal.τ Cert.SumConvInIdeal.sig) → Buf (Elt Ideal) ℓ) : Prop :=
  True

def Pre_SumConvInReferenceIdeal (m : (ℓ : Loc Cert.SumConvInReferenceIdeal.nD Cert.SumConvInReferenceIdeal.τ Cert.SumConvInReferenceIdeal.sig) → Buf (Elt Ideal) ℓ) : Prop :=
  True

def Pre_SumConvOut (m : (ℓ : Loc Cert.SumConvOut.nD Cert.SumConvOut.τ Cert.SumConvOut.sig) → Buf (Elt Bits) ℓ) : Prop :=
  True

def Pre_SumConvOutIdeal (m : (ℓ : Loc Cert.SumConvOutIdeal.nD Cert.SumConvOutIdeal.τ Cert.SumConvOutIdeal.sig) → Buf (Elt Ideal) ℓ) : Prop :=
  True

def Pre_SumConvOutReferenceIdeal (m : (ℓ : Loc Cert.SumConvOutReferenceIdeal.nD Cert.SumConvOutReferenceIdeal.τ Cert.SumConvOutReferenceIdeal.sig) → Buf (Elt Ideal) ℓ) : Prop :=
  True

def Pre_SumQkv (m : (ℓ : Loc Cert.SumQkv.nD Cert.SumQkv.τ Cert.SumQkv.sig) → Buf (Elt Bits) ℓ) : Prop :=
  True

def Pre_SumQkvIdeal (m : (ℓ : Loc Cert.SumQkvIdeal.nD Cert.SumQkvIdeal.τ Cert.SumQkvIdeal.sig) → Buf (Elt Ideal) ℓ) : Prop :=
  True

def Pre_SumQkvReferenceIdeal (m : (ℓ : Loc Cert.SumQkvReferenceIdeal.nD Cert.SumQkvReferenceIdeal.τ Cert.SumQkvReferenceIdeal.sig) → Buf (Elt Ideal) ℓ) : Prop :=
  True

def Pre_SumAttnOut (m : (ℓ : Loc Cert.SumAttnOut.nD Cert.SumAttnOut.τ Cert.SumAttnOut.sig) → Buf (Elt Bits) ℓ) : Prop :=
  True

def Pre_SumAttnOutIdeal (m : (ℓ : Loc Cert.SumAttnOutIdeal.nD Cert.SumAttnOutIdeal.τ Cert.SumAttnOutIdeal.sig) → Buf (Elt Ideal) ℓ) : Prop :=
  True

def Pre_SumAttnOutReferenceIdeal (m : (ℓ : Loc Cert.SumAttnOutReferenceIdeal.nD Cert.SumAttnOutReferenceIdeal.τ Cert.SumAttnOutReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_CondPre (m : (ℓ : Loc Cert.CondPre.nD Cert.CondPre.τ Cert.CondPre.sig) → Buf (Elt Bits) ℓ) : Prop :=
  True

def Pre_CondPreIdeal (m : (ℓ : Loc Cert.CondPreIdeal.nD Cert.CondPreIdeal.τ Cert.CondPreIdeal.sig) → Buf (Elt Ideal) ℓ) : Prop :=
  True

def Pre_CondPreReferenceIdeal (m : (ℓ : Loc Cert.CondPreReferenceIdeal.nD Cert.CondPreReferenceIdeal.τ Cert.CondPreReferenceIdeal.sig) → Buf (Elt Ideal) ℓ) : Prop :=
  True

def Pre_CondE (m : (ℓ : Loc Cert.CondE.nD Cert.CondE.τ Cert.CondE.sig) → Buf (Elt Bits) ℓ) : Prop :=
  True

def Pre_CondEIdeal (m : (ℓ : Loc Cert.CondEIdeal.nD Cert.CondEIdeal.τ Cert.CondEIdeal.sig) → Buf (Elt Ideal) ℓ) : Prop :=
  True

def Pre_CondEReferenceIdeal (m : (ℓ : Loc Cert.CondEReferenceIdeal.nD Cert.CondEReferenceIdeal.τ Cert.CondEReferenceIdeal.sig) → Buf (Elt Ideal) ℓ) : Prop :=
  True

def Pre_ModCols (m : (ℓ : Loc Cert.ModCols.nD Cert.ModCols.τ Cert.ModCols.sig) → Buf (Elt Bits) ℓ) : Prop :=
  True

def Pre_ModColsIdeal (m : (ℓ : Loc Cert.ModColsIdeal.nD Cert.ModColsIdeal.τ Cert.ModColsIdeal.sig) → Buf (Elt Ideal) ℓ) : Prop :=
  True

def Pre_ModColsReferenceIdeal (m : (ℓ : Loc Cert.ModColsReferenceIdeal.nD Cert.ModColsReferenceIdeal.τ Cert.ModColsReferenceIdeal.sig) → Buf (Elt Ideal) ℓ) : Prop :=
  True

def Pre_GradConvIn (m : (ℓ : Loc Cert.GradConvIn.nD Cert.GradConvIn.τ Cert.GradConvIn.sig) → Buf (Elt Bits) ℓ) : Prop :=
  True

def Pre_GradConvInIdeal (m : (ℓ : Loc Cert.GradConvInIdeal.nD Cert.GradConvInIdeal.τ Cert.GradConvInIdeal.sig) → Buf (Elt Ideal) ℓ) : Prop :=
  True

def Pre_GradConvInReferenceIdeal (m : (ℓ : Loc Cert.GradConvInReferenceIdeal.nD Cert.GradConvInReferenceIdeal.τ Cert.GradConvInReferenceIdeal.sig) → Buf (Elt Ideal) ℓ) : Prop :=
  True

def Pre_GradConvOut (m : (ℓ : Loc Cert.GradConvOut.nD Cert.GradConvOut.τ Cert.GradConvOut.sig) → Buf (Elt Bits) ℓ) : Prop :=
  True

def Pre_GradConvOutIdeal (m : (ℓ : Loc Cert.GradConvOutIdeal.nD Cert.GradConvOutIdeal.τ Cert.GradConvOutIdeal.sig) → Buf (Elt Ideal) ℓ) : Prop :=
  True

def Pre_GradConvOutReferenceIdeal (m : (ℓ : Loc Cert.GradConvOutReferenceIdeal.nD Cert.GradConvOutReferenceIdeal.τ Cert.GradConvOutReferenceIdeal.sig) → Buf (Elt Ideal) ℓ) : Prop :=
  True

def Pre_GradQkv (m : (ℓ : Loc Cert.GradQkv.nD Cert.GradQkv.τ Cert.GradQkv.sig) → Buf (Elt Bits) ℓ) : Prop :=
  True

def Pre_GradQkvIdeal (m : (ℓ : Loc Cert.GradQkvIdeal.nD Cert.GradQkvIdeal.τ Cert.GradQkvIdeal.sig) → Buf (Elt Ideal) ℓ) : Prop :=
  True

def Pre_GradQkvReferenceIdeal (m : (ℓ : Loc Cert.GradQkvReferenceIdeal.nD Cert.GradQkvReferenceIdeal.τ Cert.GradQkvReferenceIdeal.sig) → Buf (Elt Ideal) ℓ) : Prop :=
  True

def Pre_GradAttnOut (m : (ℓ : Loc Cert.GradAttnOut.nD Cert.GradAttnOut.τ Cert.GradAttnOut.sig) → Buf (Elt Bits) ℓ) : Prop :=
  True

def Pre_GradAttnOutIdeal (m : (ℓ : Loc Cert.GradAttnOutIdeal.nD Cert.GradAttnOutIdeal.τ Cert.GradAttnOutIdeal.sig) → Buf (Elt Ideal) ℓ) : Prop :=
  True

def Pre_GradAttnOutReferenceIdeal (m : (ℓ : Loc Cert.GradAttnOutReferenceIdeal.nD Cert.GradAttnOutReferenceIdeal.τ Cert.GradAttnOutReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdReferenceIdeal (m : (ℓ : Loc Cert.OutBwdReferenceIdeal.nD Cert.OutBwdReferenceIdeal.τ Cert.OutBwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnReferenceIdeal [hAdamFfnReferenceIdeal : Cert.AdamFfnReferenceIdeal.Facts] : Prop :=
  ∀ (m : (ℓ : Loc Cert.AdamFfnReferenceIdeal.nD Cert.AdamFfnReferenceIdeal.τ Cert.AdamFfnReferenceIdeal.sig) → Buf (Elt Ideal) ℓ) (g : Dev Cert.AdamFfnReferenceIdeal.nD → PrngReg), Pre_AdamFfnReferenceIdeal m →
    θ_run (Cert.AdamFfnReferenceIdeal.defs (F := Ideal)) (onTc (τ := Cert.AdamFfnReferenceIdeal.τ) (Cert.AdamFfnReferenceIdeal.main (F := Ideal))) ⟨m, fun _ => 0, g⟩ (fun r => (∀ c : Dev Cert.AdamFfnReferenceIdeal.nD,
      r.2.mem ((c.tc : Thread Cert.AdamFfnReferenceIdeal.nD Cert.AdamFfnReferenceIdeal.τ).loc Cert.AdamFfnReferenceIdeal.main_arg0) = m ((c.tc : Thread Cert.AdamFfnReferenceIdeal.nD Cert.AdamFfnReferenceIdeal.τ).loc Cert.AdamFfnReferenceIdeal.main_arg0)
      ∧ r.2.mem ((c.tc : Thread Cert.AdamFfnReferenceIdeal.nD Cert.AdamFfnReferenceIdeal.τ).loc Cert.AdamFfnReferenceIdeal.main_arg1) = m ((c.tc : Thread Cert.AdamFfnReferenceIdeal.nD Cert.AdamFfnReferenceIdeal.τ).loc Cert.AdamFfnReferenceIdeal.main_arg1)
      ∧ r.2.mem ((c.tc : Thread Cert.AdamFfnReferenceIdeal.nD Cert.AdamFfnReferenceIdeal.τ).loc Cert.AdamFfnReferenceIdeal.main_arg2) = m ((c.tc : Thread Cert.AdamFfnReferenceIdeal.nD Cert.AdamFfnReferenceIdeal.τ).loc Cert.AdamFfnReferenceIdeal.main_arg2)
      ∧ r.2.mem ((c.tc : Thread Cert.AdamFfnReferenceIdeal.nD Cert.AdamFfnReferenceIdeal.τ).loc Cert.AdamFfnReferenceIdeal.main_arg3) = m ((c.tc : Thread Cert.AdamFfnReferenceIdeal.nD Cert.AdamFfnReferenceIdeal.τ).loc Cert.AdamFfnReferenceIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutReferenceIdeal [hAdamFfnOutReferenceIdeal : Cert.AdamFfnOutReferenceIdeal.Facts] : Prop :=
  ∀ (m : (ℓ : Loc Cert.AdamFfnOutReferenceIdeal.nD Cert.AdamFfnOutReferenceIdeal.τ Cert.AdamFfnOutReferenceIdeal.sig) → Buf (Elt Ideal) ℓ) (g : Dev Cert.AdamFfnOutReferenceIdeal.nD → PrngReg), Pre_AdamFfnOutReferenceIdeal m →
    θ_run (Cert.AdamFfnOutReferenceIdeal.defs (F := Ideal)) (onTc (τ := Cert.AdamFfnOutReferenceIdeal.τ) (Cert.AdamFfnOutReferenceIdeal.main (F := Ideal))) ⟨m, fun _ => 0, g⟩ (fun r => (∀ c : Dev Cert.AdamFfnOutReferenceIdeal.nD,
      r.2.mem ((c.tc : Thread Cert.AdamFfnOutReferenceIdeal.nD Cert.AdamFfnOutReferenceIdeal.τ).loc Cert.AdamFfnOutReferenceIdeal.main_arg0) = m ((c.tc : Thread Cert.AdamFfnOutReferenceIdeal.nD Cert.AdamFfnOutReferenceIdeal.τ).loc Cert.AdamFfnOutReferenceIdeal.main_arg0)
      ∧ r.2.mem ((c.tc : Thread Cert.AdamFfnOutReferenceIdeal.nD Cert.AdamFfnOutReferenceIdeal.τ).loc Cert.AdamFfnOutReferenceIdeal.main_arg1) = m ((c.tc : Thread Cert.AdamFfnOutReferenceIdeal.nD Cert.AdamFfnOutReferenceIdeal.τ).loc Cert.AdamFfnOutReferenceIdeal.main_arg1)
      ∧ r.2.mem ((c.tc : Thread Cert.AdamFfnOutReferenceIdeal.nD Cert.AdamFfnOutReferenceIdeal.τ).loc Cert.AdamFfnOutReferenceIdeal.main_arg2) = m ((c.tc : Thread Cert.AdamFfnOutReferenceIdeal.nD Cert.AdamFfnOutReferenceIdeal.τ).loc Cert.AdamFfnOutReferenceIdeal.main_arg2)
      ∧ r.2.mem ((c.tc : Thread Cert.AdamFfnOutReferenceIdeal.nD Cert.AdamFfnOutReferenceIdeal.τ).loc Cert.AdamFfnOutReferenceIdeal.main_arg3) = m ((c.tc : Thread Cert.AdamFfnOutReferenceIdeal.nD Cert.AdamFfnOutReferenceIdeal.τ).loc Cert.AdamFfnOutReferenceIdeal.main_arg3))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ r.2.sem = fun _ => 0)

def quiescent_AdamConvInReferenceIdeal [hAdamConvInReferenceIdeal : Cert.AdamConvInReferenceIdeal.Facts] : Prop :=
  ∀ (m : (ℓ : Loc Cert.AdamConvInReferenceIdeal.nD Cert.AdamConvInReferenceIdeal.τ Cert.AdamConvInReferenceIdeal.sig) → Buf (Elt Ideal) ℓ) (g : Dev Cert.AdamConvInReferenceIdeal.nD → PrngReg), Pre_AdamConvInReferenceIdeal m →
    θ_run (Cert.AdamConvInReferenceIdeal.defs (F := Ideal)) (onTc (τ := Cert.AdamConvInReferenceIdeal.τ) (Cert.AdamConvInReferenceIdeal.main (F := Ideal))) ⟨m, fun _ => 0, g⟩ (fun r => (∀ c : Dev Cert.AdamConvInReferenceIdeal.nD,
      r.2.mem ((c.tc : Thread Cert.AdamConvInReferenceIdeal.nD Cert.AdamConvInReferenceIdeal.τ).loc Cert.AdamConvInReferenceIdeal.main_arg0) = m ((c.tc : Thread Cert.AdamConvInReferenceIdeal.nD Cert.AdamConvInReferenceIdeal.τ).loc Cert.AdamConvInReferenceIdeal.main_arg0)
      ∧ r.2.mem ((c.tc : Thread Cert.AdamConvInReferenceIdeal.nD Cert.AdamConvInReferenceIdeal.τ).loc Cert.AdamConvInReferenceIdeal.main_arg1) = m ((c.tc : Thread Cert.AdamConvInReferenceIdeal.nD Cert.AdamConvInReferenceIdeal.τ).loc Cert.AdamConvInReferenceIdeal.main_arg1)
      ∧ r.2.mem ((c.tc : Thread Cert.AdamConvInReferenceIdeal.nD Cert.AdamConvInReferenceIdeal.τ).loc Cert.AdamConvInReferenceIdeal.main_arg2) = m ((c.tc : Thread Cert.AdamConvInReferenceIdeal.nD Cert.AdamConvInReferenceIdeal.τ).loc Cert.AdamConvInReferenceIdeal.main_arg2)
      ∧ r.2.mem ((c.tc : Thread Cert.AdamConvInReferenceIdeal.nD Cert.AdamConvInReferenceIdeal.τ).loc Cert.AdamConvInReferenceIdeal.main_arg3) = m ((c.tc : Thread Cert.AdamConvInReferenceIdeal.nD Cert.AdamConvInReferenceIdeal.τ).loc Cert.AdamConvInReferenceIdeal.main_arg3))
      ∧ r.2.sem = fun _ => 0)

def quiescent_AdamConvOut [hAdamConvOut : Cert.AdamConvOut.Facts] : Prop :=
  ∀ (m : (ℓ : Loc Cert.AdamConvOut.nD Cert.AdamConvOut.τ Cert.AdamConvOut.sig) → Buf (Elt Bits) ℓ) (g : Dev Cert.AdamConvOut.nD → PrngReg), Pre_AdamConvOut m →
    θ_run (Cert.AdamConvOut.defs (F := Bits)) (onTc (τ := Cert.AdamConvOut.τ) (Cert.AdamConvOut.main (F := Bits))) ⟨m, fun _ => 0, g⟩ (fun r => (∀ c : Dev Cert.AdamConvOut.nD,
      r.2.mem ((c.tc : Thread Cert.AdamConvOut.nD Cert.AdamConvOut.τ).loc Cert.AdamConvOut.main_arg0) = m ((c.tc : Thread Cert.AdamConvOut.nD Cert.AdamConvOut.τ).loc Cert.AdamConvOut.main_arg0)
      ∧ r.2.mem ((c.tc : Thread Cert.AdamConvOut.nD Cert.AdamConvOut.τ).loc Cert.AdamConvOut.main_arg1) = m ((c.tc : Thread Cert.AdamConvOut.nD Cert.AdamConvOut.τ).loc Cert.AdamConvOut.main_arg1)
      ∧ r.2.mem ((c.tc : Thread Cert.AdamConvOut.nD Cert.AdamConvOut.τ).loc Cert.AdamConvOut.main_arg2) = m ((c.tc : Thread Cert.AdamConvOut.nD Cert.AdamConvOut.τ).loc Cert.AdamConvOut.main_arg2)
      ∧ r.2.mem ((c.tc : Thread Cert.AdamConvOut.nD Cert.AdamConvOut.τ).loc Cert.AdamConvOut.main_arg3) = m ((c.tc : Thread Cert.AdamConvOut.nD Cert.AdamConvOut.τ).loc Cert.AdamConvOut.main_arg3))
      ∧ r.2.sem = fun _ => 0)

def quiescent_AdamConvOutIdeal [hAdamConvOutIdeal : Cert.AdamConvOutIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg), Pre_AdamConvOutIdeal m →
    θ_run (Cert.AdamConvOutIdeal.defs (F := Ideal)) (onTc (τ := Cert.AdamConvOutIdeal.τ) (Cert.AdamConvOutIdeal.main (F := Ideal))) ⟨m, fun _ => 0, g⟩ (fun r => (∀ c : Dev Cert.AdamConvOutIdeal.nD,
      r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
      ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
      ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
      ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ r.2.sem = fun _ => 0)

def quiescent_AdamConvOutReferenceIdeal [hAdamConvOutReferenceIdeal : Cert.AdamConvOutReferenceIdeal.Facts] : Prop :=
  ∀ (m : (ℓ : Loc Cert.AdamConvOutReferenceIdeal.nD Cert.AdamConvOutReferenceIdeal.τ Cert.AdamConvOutReferenceIdeal.sig) → Buf (Elt Ideal) ℓ) (g : Dev Cert.AdamConvOutReferenceIdeal.nD → PrngReg), Pre_AdamConvOutReferenceIdeal m →
    θ_run (Cert.AdamConvOutReferenceIdeal.defs (F := Ideal)) (onTc (τ := Cert.AdamConvOutReferenceIdeal.τ) (Cert.AdamConvOutReferenceIdeal.main (F := Ideal))) ⟨m, fun _ => 0, g⟩ (fun r => (∀ c : Dev Cert.AdamConvOutReferenceIdeal.nD,
      r.2.mem ((c.tc : Thread Cert.AdamConvOutReferenceIdeal.nD Cert.AdamConvOutReferenceIdeal.τ).loc Cert.AdamConvOutReferenceIdeal.main_arg0) = m ((c.tc : Thread Cert.AdamConvOutReferenceIdeal.nD Cert.AdamConvOutReferenceIdeal.τ).loc Cert.AdamConvOutReferenceIdeal.main_arg0)
      ∧ r.2.mem ((c.tc : Thread Cert.AdamConvOutReferenceIdeal.nD Cert.AdamConvOutReferenceIdeal.τ).loc Cert.AdamConvOutReferenceIdeal.main_arg1) = m ((c.tc : Thread Cert.AdamConvOutReferenceIdeal.nD Cert.AdamConvOutReferenceIdeal.τ).loc Cert.AdamConvOutReferenceIdeal.main_arg1)
      ∧ r.2.mem ((c.tc : Thread Cert.AdamConvOutReferenceIdeal.nD Cert.AdamConvOutReferenceIdeal.τ).loc Cert.AdamConvOutReferenceIdeal.main_arg2) = m ((c.tc : Thread Cert.AdamConvOutReferenceIdeal.nD Cert.AdamConvOutReferenceIdeal.τ).loc Cert.AdamConvOutReferenceIdeal.main_arg2)
      ∧ r.2.mem ((c.tc : Thread Cert.AdamConvOutReferenceIdeal.nD Cert.AdamConvOutReferenceIdeal.τ).loc Cert.AdamConvOutReferenceIdeal.main_arg3) = m ((c.tc : Thread Cert.AdamConvOutReferenceIdeal.nD Cert.AdamConvOutReferenceIdeal.τ).loc Cert.AdamConvOutReferenceIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvReferenceIdeal [hAdamQkvReferenceIdeal : Cert.AdamQkvReferenceIdeal.Facts] : Prop :=
  ∀ (m : (ℓ : Loc Cert.AdamQkvReferenceIdeal.nD Cert.AdamQkvReferenceIdeal.τ Cert.AdamQkvReferenceIdeal.sig) → Buf (Elt Ideal) ℓ) (g : Dev Cert.AdamQkvReferenceIdeal.nD → PrngReg), Pre_AdamQkvReferenceIdeal m →
    θ_run (Cert.AdamQkvReferenceIdeal.defs (F := Ideal)) (onTc (τ := Cert.AdamQkvReferenceIdeal.τ) (Cert.AdamQkvReferenceIdeal.main (F := Ideal))) ⟨m, fun _ => 0, g⟩ (fun r => (∀ c : Dev Cert.AdamQkvReferenceIdeal.nD,
      r.2.mem ((c.tc : Thread Cert.AdamQkvReferenceIdeal.nD Cert.AdamQkvReferenceIdeal.τ).loc Cert.AdamQkvReferenceIdeal.main_arg0) = m ((c.tc : Thread Cert.AdamQkvReferenceIdeal.nD Cert.AdamQkvReferenceIdeal.τ).loc Cert.AdamQkvReferenceIdeal.main_arg0)
      ∧ r.2.mem ((c.tc : Thread Cert.AdamQkvReferenceIdeal.nD Cert.AdamQkvReferenceIdeal.τ).loc Cert.AdamQkvReferenceIdeal.main_arg1) = m ((c.tc : Thread Cert.AdamQkvReferenceIdeal.nD Cert.AdamQkvReferenceIdeal.τ).loc Cert.AdamQkvReferenceIdeal.main_arg1)
      ∧ r.2.mem ((c.tc : Thread Cert.AdamQkvReferenceIdeal.nD Cert.AdamQkvReferenceIdeal.τ).loc Cert.AdamQkvReferenceIdeal.main_arg2) = m ((c.tc : Thread Cert.AdamQkvReferenceIdeal.nD Cert.AdamQkvReferenceIdeal.τ).loc Cert.AdamQkvReferenceIdeal.main_arg2)
      ∧ r.2.mem ((c.tc : Thread Cert.AdamQkvReferenceIdeal.nD Cert.AdamQkvReferenceIdeal.τ).loc Cert.AdamQkvReferenceIdeal.main_arg3) = m ((c.tc : Thread Cert.AdamQkvReferenceIdeal.nD Cert.AdamQkvReferenceIdeal.τ).loc Cert.AdamQkvReferenceIdeal.main_arg3))
      ∧ r.2.sem = fun _ => 0)

def quiescent_AdamAttnOut [hAdamAttnOut : Cert.AdamAttnOut.Facts] : Prop :=
  ∀ (m : (ℓ : Loc Cert.AdamAttnOut.nD Cert.AdamAttnOut.τ Cert.AdamAttnOut.sig) → Buf (Elt Bits) ℓ) (g : Dev Cert.AdamAttnOut.nD → PrngReg), Pre_AdamAttnOut m →
    θ_run (Cert.AdamAttnOut.defs (F := Bits)) (onTc (τ := Cert.AdamAttnOut.τ) (Cert.AdamAttnOut.main (F := Bits))) ⟨m, fun _ => 0, g⟩ (fun r => (∀ c : Dev Cert.AdamAttnOut.nD,
      r.2.mem ((c.tc : Thread Cert.AdamAttnOut.nD Cert.AdamAttnOut.τ).loc Cert.AdamAttnOut.main_arg0) = m ((c.tc : Thread Cert.AdamAttnOut.nD Cert.AdamAttnOut.τ).loc Cert.AdamAttnOut.main_arg0)
      ∧ r.2.mem ((c.tc : Thread Cert.AdamAttnOut.nD Cert.AdamAttnOut.τ).loc Cert.AdamAttnOut.main_arg1) = m ((c.tc : Thread Cert.AdamAttnOut.nD Cert.AdamAttnOut.τ).loc Cert.AdamAttnOut.main_arg1)
      ∧ r.2.mem ((c.tc : Thread Cert.AdamAttnOut.nD Cert.AdamAttnOut.τ).loc Cert.AdamAttnOut.main_arg2) = m ((c.tc : Thread Cert.AdamAttnOut.nD Cert.AdamAttnOut.τ).loc Cert.AdamAttnOut.main_arg2)
      ∧ r.2.mem ((c.tc : Thread Cert.AdamAttnOut.nD Cert.AdamAttnOut.τ).loc Cert.AdamAttnOut.main_arg3) = m ((c.tc : Thread Cert.AdamAttnOut.nD Cert.AdamAttnOut.τ).loc Cert.AdamAttnOut.main_arg3))
      ∧ r.2.sem = fun _ => 0)

def quiescent_AdamAttnOutIdeal [hAdamAttnOutIdeal : Cert.AdamAttnOutIdeal.Facts] : Prop :=
  ∀ (m : (ℓ : Loc Cert.AdamAttnOutIdeal.nD Cert.AdamAttnOutIdeal.τ Cert.AdamAttnOutIdeal.sig) → Buf (Elt Ideal) ℓ) (g : Dev Cert.AdamAttnOutIdeal.nD → PrngReg), Pre_AdamAttnOutIdeal m →
    θ_run (Cert.AdamAttnOutIdeal.defs (F := Ideal)) (onTc (τ := Cert.AdamAttnOutIdeal.τ) (Cert.AdamAttnOutIdeal.main (F := Ideal))) ⟨m, fun _ => 0, g⟩ (fun r => (∀ c : Dev Cert.AdamAttnOutIdeal.nD,
      r.2.mem ((c.tc : Thread Cert.AdamAttnOutIdeal.nD Cert.AdamAttnOutIdeal.τ).loc Cert.AdamAttnOutIdeal.main_arg0) = m ((c.tc : Thread Cert.AdamAttnOutIdeal.nD Cert.AdamAttnOutIdeal.τ).loc Cert.AdamAttnOutIdeal.main_arg0)
      ∧ r.2.mem ((c.tc : Thread Cert.AdamAttnOutIdeal.nD Cert.AdamAttnOutIdeal.τ).loc Cert.AdamAttnOutIdeal.main_arg1) = m ((c.tc : Thread Cert.AdamAttnOutIdeal.nD Cert.AdamAttnOutIdeal.τ).loc Cert.AdamAttnOutIdeal.main_arg1)
      ∧ r.2.mem ((c.tc : Thread Cert.AdamAttnOutIdeal.nD Cert.AdamAttnOutIdeal.τ).loc Cert.AdamAttnOutIdeal.main_arg2) = m ((c.tc : Thread Cert.AdamAttnOutIdeal.nD Cert.AdamAttnOutIdeal.τ).loc Cert.AdamAttnOutIdeal.main_arg2)
      ∧ r.2.mem ((c.tc : Thread Cert.AdamAttnOutIdeal.nD Cert.AdamAttnOutIdeal.τ).loc Cert.AdamAttnOutIdeal.main_arg3) = m ((c.tc : Thread Cert.AdamAttnOutIdeal.nD Cert.AdamAttnOutIdeal.τ).loc Cert.AdamAttnOutIdeal.main_arg3))
      ∧ r.2.sem = fun _ => 0)

def quiescent_AdamAttnOutReferenceIdeal [hAdamAttnOutReferenceIdeal : Cert.AdamAttnOutReferenceIdeal.Facts] : Prop :=
  ∀ (m : (ℓ : Loc Cert.AdamAttnOutReferenceIdeal.nD Cert.AdamAttnOutReferenceIdeal.τ Cert.AdamAttnOutReferenceIdeal.sig) → Buf (Elt Ideal) ℓ) (g : Dev Cert.AdamAttnOutReferenceIdeal.nD → PrngReg), Pre_AdamAttnOutReferenceIdeal m →
    θ_run (Cert.AdamAttnOutReferenceIdeal.defs (F := Ideal)) (onTc (τ := Cert.AdamAttnOutReferenceIdeal.τ) (Cert.AdamAttnOutReferenceIdeal.main (F := Ideal))) ⟨m, fun _ => 0, g⟩ (fun r => (∀ c : Dev Cert.AdamAttnOutReferenceIdeal.nD,
      r.2.mem ((c.tc : Thread Cert.AdamAttnOutReferenceIdeal.nD Cert.AdamAttnOutReferenceIdeal.τ).loc Cert.AdamAttnOutReferenceIdeal.main_arg0) = m ((c.tc : Thread Cert.AdamAttnOutReferenceIdeal.nD Cert.AdamAttnOutReferenceIdeal.τ).loc Cert.AdamAttnOutReferenceIdeal.main_arg0)
      ∧ r.2.mem ((c.tc : Thread Cert.AdamAttnOutReferenceIdeal.nD Cert.AdamAttnOutReferenceIdeal.τ).loc Cert.AdamAttnOutReferenceIdeal.main_arg1) = m ((c.tc : Thread Cert.AdamAttnOutReferenceIdeal.nD Cert.AdamAttnOutReferenceIdeal.τ).loc Cert.AdamAttnOutReferenceIdeal.main_arg1)
      ∧ r.2.mem ((c.tc : Thread Cert.AdamAttnOutReferenceIdeal.nD Cert.AdamAttnOutReferenceIdeal.τ).loc Cert.AdamAttnOutReferenceIdeal.main_arg2) = m ((c.tc : Thread Cert.AdamAttnOutReferenceIdeal.nD Cert.AdamAttnOutReferenceIdeal.τ).loc Cert.AdamAttnOutReferenceIdeal.main_arg2)
      ∧ r.2.mem ((c.tc : Thread Cert.AdamAttnOutReferenceIdeal.nD Cert.AdamAttnOutReferenceIdeal.τ).loc Cert.AdamAttnOutReferenceIdeal.main_arg3) = m ((c.tc : Thread Cert.AdamAttnOutReferenceIdeal.nD Cert.AdamAttnOutReferenceIdeal.τ).loc Cert.AdamAttnOutReferenceIdeal.main_arg3))
      ∧ r.2.sem = fun _ => 0)

def quiescent_AdamCond [hAdamCond : Cert.AdamCond.Facts] : Prop :=
  ∀ (m : (ℓ : Loc Cert.AdamCond.nD Cert.AdamCond.τ Cert.AdamCond.sig) → Buf (Elt Bits) ℓ) (g : Dev Cert.AdamCond.nD → PrngReg), Pre_AdamCond m →
    θ_run (Cert.AdamCond.defs (F := Bits)) (onTc (τ := Cert.AdamCond.τ) (Cert.AdamCond.main (F := Bits))) ⟨m, fun _ => 0, g⟩ (fun r => (∀ c : Dev Cert.AdamCond.nD,
      r.2.mem ((c.tc : Thread Cert.AdamCond.nD Cert.AdamCond.τ).loc Cert.AdamCond.main_arg0) = m ((c.tc : Thread Cert.AdamCond.nD Cert.AdamCond.τ).loc Cert.AdamCond.main_arg0)
      ∧ r.2.mem ((c.tc : Thread Cert.AdamCond.nD Cert.AdamCond.τ).loc Cert.AdamCond.main_arg1) = m ((c.tc : Thread Cert.AdamCond.nD Cert.AdamCond.τ).loc Cert.AdamCond.main_arg1)
      ∧ r.2.mem ((c.tc : Thread Cert.AdamCond.nD Cert.AdamCond.τ).loc Cert.AdamCond.main_arg2) = m ((c.tc : Thread Cert.AdamCond.nD Cert.AdamCond.τ).loc Cert.AdamCond.main_arg2)
      ∧ r.2.mem ((c.tc : Thread Cert.AdamCond.nD Cert.AdamCond.τ).loc Cert.AdamCond.main_arg3) = m ((c.tc : Thread Cert.AdamCond.nD Cert.AdamCond.τ).loc Cert.AdamCond.main_arg3))
      ∧ r.2.sem = fun _ => 0)

def quiescent_AdamCondIdeal [hAdamCondIdeal : Cert.AdamCondIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg), Pre_AdamCondIdeal m →
    θ_run (Cert.AdamCondIdeal.defs (F := Ideal)) (onTc (τ := Cert.AdamCondIdeal.τ) (Cert.AdamCondIdeal.main (F := Ideal))) ⟨m, fun _ => 0, g⟩ (fun r => (∀ c : Dev Cert.AdamCondIdeal.nD,
      r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
      ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
      ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
      ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ r.2.sem = fun _ => 0)

def quiescent_AdamCondReferenceIdeal [hAdamCondReferenceIdeal : Cert.AdamCondReferenceIdeal.Facts] : Prop :=
  ∀ (m : (ℓ : Loc Cert.AdamCondReferenceIdeal.nD Cert.AdamCondReferenceIdeal.τ Cert.AdamCondReferenceIdeal.sig) → Buf (Elt Ideal) ℓ) (g : Dev Cert.AdamCondReferenceIdeal.nD → PrngReg), Pre_AdamCondReferenceIdeal m →
    θ_run (Cert.AdamCondReferenceIdeal.defs (F := Ideal)) (onTc (τ := Cert.AdamCondReferenceIdeal.τ) (Cert.AdamCondReferenceIdeal.main (F := Ideal))) ⟨m, fun _ => 0, g⟩ (fun r => (∀ c : Dev Cert.AdamCondReferenceIdeal.nD,
      r.2.mem ((c.tc : Thread Cert.AdamCondReferenceIdeal.nD Cert.AdamCondReferenceIdeal.τ).loc Cert.AdamCondReferenceIdeal.main_arg0) = m ((c.tc : Thread Cert.AdamCondReferenceIdeal.nD Cert.AdamCondReferenceIdeal.τ).loc Cert.AdamCondReferenceIdeal.main_arg0)
      ∧ r.2.mem ((c.tc : Thread Cert.AdamCondReferenceIdeal.nD Cert.AdamCondReferenceIdeal.τ).loc Cert.AdamCondReferenceIdeal.main_arg1) = m ((c.tc : Thread Cert.AdamCondReferenceIdeal.nD Cert.AdamCondReferenceIdeal.τ).loc Cert.AdamCondReferenceIdeal.main_arg1)
      ∧ r.2.mem ((c.tc : Thread Cert.AdamCondReferenceIdeal.nD Cert.AdamCondReferenceIdeal.τ).loc Cert.AdamCondReferenceIdeal.main_arg2) = m ((c.tc : Thread Cert.AdamCondReferenceIdeal.nD Cert.AdamCondReferenceIdeal.τ).loc Cert.AdamCondReferenceIdeal.main_arg2)
      ∧ r.2.mem ((c.tc : Thread Cert.AdamCondReferenceIdeal.nD Cert.AdamCondReferenceIdeal.τ).loc Cert.AdamCondReferenceIdeal.main_arg3) = m ((c.tc : Thread Cert.AdamCondReferenceIdeal.nD Cert.AdamCondReferenceIdeal.τ).loc Cert.AdamCondReferenceIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3)
      ∧ r.2.mem ((c.tc : Thread Cert.AdamSmallReferenceIdeal.nD Cert.AdamSmallReferenceIdeal.τ).loc Cert.AdamSmallReferenceIdeal.main_arg4) = m ((c.tc : Thread Cert.AdamSmallReferenceIdeal.nD Cert.AdamSmallReferenceIdeal.τ).loc Cert.AdamSmallReferenceIdeal.main_arg4)
      ∧ r.2.mem ((c.tc : Thread Cert.AdamSmallReferenceIdeal.nD Cert.AdamSmallReferenceIdeal.τ).loc Cert.AdamSmallReferenceIdeal.main_arg5) = m ((c.tc : Thread Cert.AdamSmallReferenceIdeal.nD Cert.AdamSmallReferenceIdeal.τ).loc Cert.AdamSmallReferenceIdeal.main_arg5)
      ∧ r.2.mem ((c.tc : Thread Cert.AdamSmallReferenceIdeal.nD Cert.AdamSmallReferenceIdeal.τ).loc Cert.AdamSmallReferenceIdeal.main_arg6) = m ((c.tc : Thread Cert.AdamSmallReferenceIdeal.nD Cert.AdamSmallReferenceIdeal.τ).loc Cert.AdamSmallReferenceIdeal.main_arg6)
      ∧ r.2.mem ((c.tc : Thread Cert.AdamSmallReferenceIdeal.nD Cert.AdamSmallReferenceIdeal.τ).loc Cert.AdamSmallReferenceIdeal.main_arg7) = m ((c.tc : Thread Cert.AdamSmallReferenceIdeal.nD Cert.AdamSmallReferenceIdeal.τ).loc Cert.AdamSmallReferenceIdeal.main_arg7)
      ∧ r.2.mem ((c.tc : Thread Cert.AdamSmallReferenceIdeal.nD Cert.AdamSmallReferenceIdeal.τ).loc Cert.AdamSmallReferenceIdeal.main_arg8) = m ((c.tc : Thread Cert.AdamSmallReferenceIdeal.nD Cert.AdamSmallReferenceIdeal.τ).loc Cert.AdamSmallReferenceIdeal.main_arg8)
      ∧ r.2.mem ((c.tc : Thread Cert.AdamSmallReferenceIdeal.nD Cert.AdamSmallReferenceIdeal.τ).loc Cert.AdamSmallReferenceIdeal.main_arg9) = m ((c.tc : Thread Cert.AdamSmallReferenceIdeal.nD Cert.AdamSmallReferenceIdeal.τ).loc Cert.AdamSmallReferenceIdeal.main_arg9)
      ∧ r.2.mem ((c.tc : Thread Cert.AdamSmallReferenceIdeal.nD Cert.AdamSmallReferenceIdeal.τ).loc Cert.AdamSmallReferenceIdeal.main_arg10) = m ((c.tc : Thread Cert.AdamSmallReferenceIdeal.nD Cert.AdamSmallReferenceIdeal.τ).loc Cert.AdamSmallReferenceIdeal.main_arg10)
      ∧ r.2.mem ((c.tc : Thread Cert.AdamSmallReferenceIdeal.nD Cert.AdamSmallReferenceIdeal.τ).loc Cert.AdamSmallReferenceIdeal.main_arg11) = m ((c.tc : Thread Cert.AdamSmallReferenceIdeal.nD Cert.AdamSmallReferenceIdeal.τ).loc Cert.AdamSmallReferenceIdeal.main_arg11)
      ∧ r.2.mem ((c.tc : Thread Cert.AdamSmallReferenceIdeal.nD Cert.AdamSmallReferenceIdeal.τ).loc Cert.AdamSmallReferenceIdeal.main_arg12) = m ((c.tc : Thread Cert.AdamSmallReferenceIdeal.nD Cert.AdamSmallReferenceIdeal.τ).loc Cert.AdamSmallReferenceIdeal.main_arg12)
      ∧ r.2.mem ((c.tc : Thread Cert.AdamSmallReferenceIdeal.nD Cert.AdamSmallReferenceIdeal.τ).loc Cert.AdamSmallReferenceIdeal.main_arg13) = m ((c.tc : Thread Cert.AdamSmallReferenceIdeal.nD Cert.AdamSmallReferenceIdeal.τ).loc Cert.AdamSmallReferenceIdeal.main_arg13)
      ∧ r.2.mem ((c.tc : Thread Cert.AdamSmallReferenceIdeal.nD Cert.AdamSmallReferenceIdeal.τ).loc Cert.AdamSmallReferenceIdeal.main_arg14) = m ((c.tc : Thread Cert.AdamSmallReferenceIdeal.nD Cert.AdamSmallReferenceIdeal.τ).loc Cert.AdamSmallReferenceIdeal.main_arg14)
      ∧ r.2.mem ((c.tc : Thread Cert.AdamSmallReferenceIdeal.nD Cert.AdamSmallReferenceIdeal.τ).loc Cert.AdamSmallReferenceIdeal.main_arg15) = m ((c.tc : Thread Cert.AdamSmallReferenceIdeal.nD Cert.AdamSmallReferenceIdeal.τ).loc Cert.AdamSmallReferenceIdeal.main_arg15)
      ∧ r.2.mem ((c.tc : Thread Cert.AdamSmallReferenceIdeal.nD Cert.AdamSmallReferenceIdeal.τ).loc Cert.AdamSmallReferenceIdeal.main_arg16) = m ((c.tc : Thread Cert.AdamSmallReferenceIdeal.nD Cert.AdamSmallReferenceIdeal.τ).loc Cert.AdamSmallReferenceIdeal.main_arg16)
      ∧ r.2.mem ((c.tc : Thread Cert.AdamSmallReferenceIdeal.nD Cert.AdamSmallReferenceIdeal.τ).loc Cert.AdamSmallReferenceIdeal.main_arg17) = m ((c.tc : Thread Cert.AdamSmallReferenceIdeal.nD Cert.AdamSmallReferenceIdeal.τ).loc Cert.AdamSmallReferenceIdeal.main_arg17)
      ∧ r.2.mem ((c.tc : Thread Cert.AdamSmallReferenceIdeal.nD Cert.AdamSmallReferenceIdeal.τ).loc Cert.AdamSmallReferenceIdeal.main_arg18) = m ((c.tc : Thread Cert.AdamSmallReferenceIdeal.nD Cert.AdamSmallReferenceIdeal.τ).loc Cert.AdamSmallReferenceIdeal.main_arg18)
      ∧ r.2.mem ((c.tc : Thread Cert.AdamSmallReferenceIdeal.nD Cert.AdamSmallReferenceIdeal.τ).loc Cert.AdamSmallReferenceIdeal.main_arg19) = m ((c.tc : Thread Cert.AdamSmallReferenceIdeal.nD Cert.AdamSmallReferenceIdeal.τ).loc Cert.AdamSmallReferenceIdeal.main_arg19)
      ∧ r.2.mem ((c.tc : Thread Cert.AdamSmallReferenceIdeal.nD Cert.AdamSmallReferenceIdeal.τ).loc Cert.AdamSmallReferenceIdeal.main_arg20) = m ((c.tc : Thread Cert.AdamSmallReferenceIdeal.nD Cert.AdamSmallReferenceIdeal.τ).loc Cert.AdamSmallReferenceIdeal.main_arg20)
      ∧ r.2.mem ((c.tc : Thread Cert.AdamSmallReferenceIdeal.nD Cert.AdamSmallReferenceIdeal.τ).loc Cert.AdamSmallReferenceIdeal.main_arg21) = m ((c.tc : Thread Cert.AdamSmallReferenceIdeal.nD Cert.AdamSmallReferenceIdeal.τ).loc Cert.AdamSmallReferenceIdeal.main_arg21)
      ∧ r.2.mem ((c.tc : Thread Cert.AdamSmallReferenceIdeal.nD Cert.AdamSmallReferenceIdeal.τ).loc Cert.AdamSmallReferenceIdeal.main_arg22) = m ((c.tc : Thread Cert.AdamSmallReferenceIdeal.nD Cert.AdamSmallReferenceIdeal.τ).loc Cert.AdamSmallReferenceIdeal.main_arg22)
      ∧ r.2.mem ((c.tc : Thread Cert.AdamSmallReferenceIdeal.nD Cert.AdamSmallReferenceIdeal.τ).loc Cert.AdamSmallReferenceIdeal.main_arg23) = m ((c.tc : Thread Cert.AdamSmallReferenceIdeal.nD Cert.AdamSmallReferenceIdeal.τ).loc Cert.AdamSmallReferenceIdeal.main_arg23)
      ∧ r.2.mem ((c.tc : Thread Cert.AdamSmallReferenceIdeal.nD Cert.AdamSmallReferenceIdeal.τ).loc Cert.AdamSmallReferenceIdeal.main_arg24) = m ((c.tc : Thread Cert.AdamSmallReferenceIdeal.nD Cert.AdamSmallReferenceIdeal.τ).loc Cert.AdamSmallReferenceIdeal.main_arg24)
      ∧ r.2.mem ((c.tc : Thread Cert.AdamSmallReferenceIdeal.nD Cert.AdamSmallReferenceIdeal.τ).loc Cert.AdamSmallReferenceIdeal.main_arg25) = m ((c.tc : Thread Cert.AdamSmallReferenceIdeal.nD Cert.AdamSmallReferenceIdeal.τ).loc Cert.AdamSmallReferenceIdeal.main_arg25)
      ∧ r.2.mem ((c.tc : Thread Cert.AdamSmallReferenceIdeal.nD Cert.AdamSmallReferenceIdeal.τ).loc Cert.AdamSmallReferenceIdeal.main_arg26) = m ((c.tc : Thread Cert.AdamSmallReferenceIdeal.nD Cert.AdamSmallReferenceIdeal.τ).loc Cert.AdamSmallReferenceIdeal.main_arg26)
      ∧ r.2.mem ((c.tc : Thread Cert.AdamSmallReferenceIdeal.nD Cert.AdamSmallReferenceIdeal.τ).loc Cert.AdamSmallReferenceIdeal.main_arg27) = m ((c.tc : Thread Cert.AdamSmallReferenceIdeal.nD Cert.AdamSmallReferenceIdeal.τ).loc Cert.AdamSmallReferenceIdeal.main_arg27)
      ∧ r.2.mem ((c.tc : Thread Cert.AdamSmallReferenceIdeal.nD Cert.AdamSmallReferenceIdeal.τ).loc Cert.AdamSmallReferenceIdeal.main_arg28) = m ((c.tc : Thread Cert.AdamSmallReferenceIdeal.nD Cert.AdamSmallReferenceIdeal.τ).loc Cert.AdamSmallReferenceIdeal.main_arg28)
      ∧ r.2.mem ((c.tc : Thread Cert.AdamSmallReferenceIdeal.nD Cert.AdamSmallReferenceIdeal.τ).loc Cert.AdamSmallReferenceIdeal.main_arg29) = m ((c.tc : Thread Cert.AdamSmallReferenceIdeal.nD Cert.AdamSmallReferenceIdeal.τ).loc Cert.AdamSmallReferenceIdeal.main_arg29)
      ∧ r.2.mem ((c.tc : Thread Cert.AdamSmallReferenceIdeal.nD Cert.AdamSmallReferenceIdeal.τ).loc Cert.AdamSmallReferenceIdeal.main_arg30) = m ((c.tc : Thread Cert.AdamSmallReferenceIdeal.nD Cert.AdamSmallReferenceIdeal.τ).loc Cert.AdamSmallReferenceIdeal.main_arg30)
      ∧ r.2.mem ((c.tc : Thread Cert.AdamSmallReferenceIdeal.nD Cert.AdamSmallReferenceIdeal.τ).loc Cert.AdamSmallReferenceIdeal.main_arg31) = m ((c.tc : Thread Cert.AdamSmallReferenceIdeal.nD Cert.AdamSmallReferenceIdeal.τ).loc Cert.AdamSmallReferenceIdeal.main_arg31)
      ∧ r.2.mem ((c.tc : Thread Cert.AdamSmallReferenceIdeal.nD Cert.AdamSmallReferenceIdeal.τ).loc Cert.AdamSmallReferenceIdeal.main_arg32) = m ((c.tc : Thread Cert.AdamSmallReferenceIdeal.nD Cert.AdamSmallReferenceIdeal.τ).loc Cert.AdamSmallReferenceIdeal.main_arg32)
      ∧ r.2.mem ((c.tc : Thread Cert.AdamSmallReferenceIdeal.nD Cert.AdamSmallReferenceIdeal.τ).loc Cert.AdamSmallReferenceIdeal.main_arg33) = m ((c.tc : Thread Cert.AdamSmallReferenceIdeal.nD Cert.AdamSmallReferenceIdeal.τ).loc Cert.AdamSmallReferenceIdeal.main_arg33)
      ∧ r.2.mem ((c.tc : Thread Cert.AdamSmallReferenceIdeal.nD Cert.AdamSmallReferenceIdeal.τ).loc Cert.AdamSmallReferenceIdeal.main_arg34) = m ((c.tc : Thread Cert.AdamSmallReferenceIdeal.nD Cert.AdamSmallReferenceIdeal.τ).loc Cert.AdamSmallReferenceIdeal.main_arg34)
      ∧ r.2.mem ((c.tc : Thread Cert.AdamSmallReferenceIdeal.nD Cert.AdamSmallReferenceIdeal.τ).loc Cert.AdamSmallReferenceIdeal.main_arg35) = m ((c.tc : Thread Cert.AdamSmallReferenceIdeal.nD Cert.AdamSmallReferenceIdeal.τ).loc Cert.AdamSmallReferenceIdeal.main_arg35)
      ∧ r.2.mem ((c.tc : Thread Cert.AdamSmallReferenceIdeal.nD Cert.AdamSmallReferenceIdeal.τ).loc Cert.AdamSmallReferenceIdeal.main_arg36) = m ((c.tc : Thread Cert.AdamSmallReferenceIdeal.nD Cert.AdamSmallReferenceIdeal.τ).loc Cert.AdamSmallReferenceIdeal.main_arg36)
      ∧ r.2.mem ((c.tc : Thread Cert.AdamSmallReferenceIdeal.nD Cert.AdamSmallReferenceIdeal.τ).loc Cert.AdamSmallReferenceIdeal.main_arg37) = m ((c.tc : Thread Cert.AdamSmallReferenceIdeal.nD Cert.AdamSmallReferenceIdeal.τ).loc Cert.AdamSmallReferenceIdeal.main_arg37)
      ∧ r.2.mem ((c.tc : Thread Cert.AdamSmallReferenceIdeal.nD Cert.AdamSmallReferenceIdeal.τ).loc Cert.AdamSmallReferenceIdeal.main_arg38) = m ((c.tc : Thread Cert.AdamSmallReferenceIdeal.nD Cert.AdamSmallReferenceIdeal.τ).loc Cert.AdamSmallReferenceIdeal.main_arg38)
      ∧ r.2.mem ((c.tc : Thread Cert.AdamSmallReferenceIdeal.nD Cert.AdamSmallReferenceIdeal.τ).loc Cert.AdamSmallReferenceIdeal.main_arg39) = m ((c.tc : Thread Cert.AdamSmallReferenceIdeal.nD Cert.AdamSmallReferenceIdeal.τ).loc Cert.AdamSmallReferenceIdeal.main_arg39)
      ∧ r.2.mem ((c.tc : Thread Cert.AdamSmallReferenceIdeal.nD Cert.AdamSmallReferenceIdeal.τ).loc Cert.AdamSmallReferenceIdeal.main_arg40) = m ((c.tc : Thread Cert.AdamSmallReferenceIdeal.nD Cert.AdamSmallReferenceIdeal.τ).loc Cert.AdamSmallReferenceIdeal.main_arg40)
      ∧ r.2.mem ((c.tc : Thread Cert.AdamSmallReferenceIdeal.nD Cert.AdamSmallReferenceIdeal.τ).loc Cert.AdamSmallReferenceIdeal.main_arg41) = m ((c.tc : Thread Cert.AdamSmallReferenceIdeal.nD Cert.AdamSmallReferenceIdeal.τ).loc Cert.AdamSmallReferenceIdeal.main_arg41)
      ∧ r.2.mem ((c.tc : Thread Cert.AdamSmallReferenceIdeal.nD Cert.AdamSmallReferenceIdeal.τ).loc Cert.AdamSmallReferenceIdeal.main_arg42) = m ((c.tc : Thread Cert.AdamSmallReferenceIdeal.nD Cert.AdamSmallReferenceIdeal.τ).loc Cert.AdamSmallReferenceIdeal.main_arg42)
      ∧ r.2.mem ((c.tc : Thread Cert.AdamSmallReferenceIdeal.nD Cert.AdamSmallReferenceIdeal.τ).loc Cert.AdamSmallReferenceIdeal.main_arg43) = m ((c.tc : Thread Cert.AdamSmallReferenceIdeal.nD Cert.AdamSmallReferenceIdeal.τ).loc Cert.AdamSmallReferenceIdeal.main_arg43)
      ∧ r.2.mem ((c.tc : Thread Cert.AdamSmallReferenceIdeal.nD Cert.AdamSmallReferenceIdeal.τ).loc Cert.AdamSmallReferenceIdeal.main_arg44) = m ((c.tc : Thread Cert.AdamSmallReferenceIdeal.nD Cert.AdamSmallReferenceIdeal.τ).loc Cert.AdamSmallReferenceIdeal.main_arg44)
      ∧ r.2.mem ((c.tc : Thread Cert.AdamSmallReferenceIdeal.nD Cert.AdamSmallReferenceIdeal.τ).loc Cert.AdamSmallReferenceIdeal.main_arg45) = m ((c.tc : Thread Cert.AdamSmallReferenceIdeal.nD Cert.AdamSmallReferenceIdeal.τ).loc Cert.AdamSmallReferenceIdeal.main_arg45)
      ∧ r.2.mem ((c.tc : Thread Cert.AdamSmallReferenceIdeal.nD Cert.AdamSmallReferenceIdeal.τ).loc Cert.AdamSmallReferenceIdeal.main_arg46) = m ((c.tc : Thread Cert.AdamSmallReferenceIdeal.nD Cert.AdamSmallReferenceIdeal.τ).loc Cert.AdamSmallReferenceIdeal.main_arg46)
      ∧ r.2.mem ((c.tc : Thread Cert.AdamSmallReferenceIdeal.nD Cert.AdamSmallReferenceIdeal.τ).loc Cert.AdamSmallReferenceIdeal.main_arg47) = m ((c.tc : Thread Cert.AdamSmallReferenceIdeal.nD Cert.AdamSmallReferenceIdeal.τ).loc Cert.AdamSmallReferenceIdeal.main_arg47)
      ∧ r.2.mem ((c.tc : Thread Cert.AdamSmallReferenceIdeal.nD Cert.AdamSmallReferenceIdeal.τ).loc Cert.AdamSmallReferenceIdeal.main_arg48) = m ((c.tc : Thread Cert.AdamSmallReferenceIdeal.nD Cert.AdamSmallReferenceIdeal.τ).loc Cert.AdamSmallReferenceIdeal.main_arg48)
      ∧ r.2.mem ((c.tc : Thread Cert.AdamSmallReferenceIdeal.nD Cert.AdamSmallReferenceIdeal.τ).loc Cert.AdamSmallReferenceIdeal.main_arg49) = m ((c.tc : Thread Cert.AdamSmallReferenceIdeal.nD Cert.AdamSmallReferenceIdeal.τ).loc Cert.AdamSmallReferenceIdeal.main_arg49)
      ∧ r.2.mem ((c.tc : Thread Cert.AdamSmallReferenceIdeal.nD Cert.AdamSmallReferenceIdeal.τ).loc Cert.AdamSmallReferenceIdeal.main_arg50) = m ((c.tc : Thread Cert.AdamSmallReferenceIdeal.nD Cert.AdamSmallReferenceIdeal.τ).loc Cert.AdamSmallReferenceIdeal.main_arg50)
      ∧ r.2.mem ((c.tc : Thread Cert.AdamSmallReferenceIdeal.nD Cert.AdamSmallReferenceIdeal.τ).loc Cert.AdamSmallReferenceIdeal.main_arg51) = m ((c.tc : Thread Cert.AdamSmallReferenceIdeal.nD Cert.AdamSmallReferenceIdeal.τ).loc Cert.AdamSmallReferenceIdeal.main_arg51)
      ∧ r.2.mem ((c.tc : Thread Cert.AdamSmallReferenceIdeal.nD Cert.AdamSmallReferenceIdeal.τ).loc Cert.AdamSmallReferenceIdeal.main_arg52) = m ((c.tc : Thread Cert.AdamSmallReferenceIdeal.nD Cert.AdamSmallReferenceIdeal.τ).loc Cert.AdamSmallReferenceIdeal.main_arg52)
      ∧ r.2.mem ((c.tc : Thread Cert.AdamSmallReferenceIdeal.nD Cert.AdamSmallReferenceIdeal.τ).loc Cert.AdamSmallReferenceIdeal.main_arg53) = m ((c.tc : Thread Cert.AdamSmallReferenceIdeal.nD Cert.AdamSmallReferenceIdeal.τ).loc Cert.AdamSmallReferenceIdeal.main_arg53)
      ∧ r.2.mem ((c.tc : Thread Cert.AdamSmallReferenceIdeal.nD Cert.AdamSmallReferenceIdeal.τ).loc Cert.AdamSmallReferenceIdeal.main_arg54) = m ((c.tc : Thread Cert.AdamSmallReferenceIdeal.nD Cert.AdamSmallReferenceIdeal.τ).loc Cert.AdamSmallReferenceIdeal.main_arg54)
      ∧ r.2.mem ((c.tc : Thread Cert.AdamSmallReferenceIdeal.nD Cert.AdamSmallReferenceIdeal.τ).loc Cert.AdamSmallReferenceIdeal.main_arg55) = m ((c.tc : Thread Cert.AdamSmallReferenceIdeal.nD Cert.AdamSmallReferenceIdeal.τ).loc Cert.AdamSmallReferenceIdeal.main_arg55))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ r.2.sem = fun _ => 0)

def quiescent_ModBwdReferenceIdeal [hModBwdReferenceIdeal : Cert.ModBwdReferenceIdeal.Facts] : Prop :=
  ∀ (m : (ℓ : Loc Cert.ModBwdReferenceIdeal.nD Cert.ModBwdReferenceIdeal.τ Cert.ModBwdReferenceIdeal.sig) → Buf (Elt Ideal) ℓ) (g : Dev Cert.ModBwdReferenceIdeal.nD → PrngReg), Pre_ModBwdReferenceIdeal m →
    θ_run (Cert.ModBwdReferenceIdeal.defs (F := Ideal)) (onTc (τ := Cert.ModBwdReferenceIdeal.τ) (Cert.ModBwdReferenceIdeal.main (F := Ideal))) ⟨m, fun _ => 0, g⟩ (fun r => (∀ c : Dev Cert.ModBwdReferenceIdeal.nD,
      r.2.mem ((c.tc : Thread Cert.ModBwdReferenceIdeal.nD Cert.ModBwdReferenceIdeal.τ).loc Cert.ModBwdReferenceIdeal.main_arg0) = m ((c.tc : Thread Cert.ModBwdReferenceIdeal.nD Cert.ModBwdReferenceIdeal.τ).loc Cert.ModBwdReferenceIdeal.main_arg0)
      ∧ r.2.mem ((c.tc : Thread Cert.ModBwdReferenceIdeal.nD Cert.ModBwdReferenceIdeal.τ).loc Cert.ModBwdReferenceIdeal.main_arg1) = m ((c.tc : Thread Cert.ModBwdReferenceIdeal.nD Cert.ModBwdReferenceIdeal.τ).loc Cert.ModBwdReferenceIdeal.main_arg1)
      ∧ r.2.mem ((c.tc : Thread Cert.ModBwdReferenceIdeal.nD Cert.ModBwdReferenceIdeal.τ).loc Cert.ModBwdReferenceIdeal.main_arg2) = m ((c.tc : Thread Cert.ModBwdReferenceIdeal.nD Cert.ModBwdReferenceIdeal.τ).loc Cert.ModBwdReferenceIdeal.main_arg2))
      ∧ r.2.sem = fun _ => 0)

def quiescent_CondBwd [hCondBwd : Cert.CondBwd.Facts] : Prop :=
  ∀ (m : (ℓ : Loc Cert.CondBwd.nD Cert.CondBwd.τ Cert.CondBwd.sig) → Buf (Elt Bits) ℓ) (g : Dev Cert.CondBwd.nD → PrngReg), Pre_CondBwd m →
    θ_run (Cert.CondBwd.defs (F := Bits)) (onTc (τ := Cert.CondBwd.τ) (Cert.CondBwd.main (F := Bits))) ⟨m, fun _ => 0, g⟩ (fun r => (∀ c : Dev Cert.CondBwd.nD,
      r.2.mem ((c.tc : Thread Cert.CondBwd.nD Cert.CondBwd.τ).loc Cert.CondBwd.main_arg0) = m ((c.tc : Thread Cert.CondBwd.nD Cert.CondBwd.τ).loc Cert.CondBwd.main_arg0)
      ∧ r.2.mem ((c.tc : Thread Cert.CondBwd.nD Cert.CondBwd.τ).loc Cert.CondBwd.main_arg1) = m ((c.tc : Thread Cert.CondBwd.nD Cert.CondBwd.τ).loc Cert.CondBwd.main_arg1)
      ∧ r.2.mem ((c.tc : Thread Cert.CondBwd.nD Cert.CondBwd.τ).loc Cert.CondBwd.main_arg2) = m ((c.tc : Thread Cert.CondBwd.nD Cert.CondBwd.τ).loc Cert.CondBwd.main_arg2))
      ∧ r.2.sem = fun _ => 0)

def quiescent_CondBwdIdeal [hCondBwdIdeal : Cert.CondBwdIdeal.Facts] : Prop :=
  ∀ (m : (ℓ : Loc Cert.CondBwdIdeal.nD Cert.CondBwdIdeal.τ Cert.CondBwdIdeal.sig) → Buf (Elt Ideal) ℓ) (g : Dev Cert.CondBwdIdeal.nD → PrngReg), Pre_CondBwdIdeal m →
    θ_run (Cert.CondBwdIdeal.defs (F := Ideal)) (onTc (τ := Cert.CondBwdIdeal.τ) (Cert.CondBwdIdeal.main (F := Ideal))) ⟨m, fun _ => 0, g⟩ (fun r => (∀ c : Dev Cert.CondBwdIdeal.nD,
      r.2.mem ((c.tc : Thread Cert.CondBwdIdeal.nD Cert.CondBwdIdeal.τ).loc Cert.CondBwdIdeal.main_arg0) = m ((c.tc : Thread Cert.CondBwdIdeal.nD Cert.CondBwdIdeal.τ).loc Cert.CondBwdIdeal.main_arg0)
      ∧ r.2.mem ((c.tc : Thread Cert.CondBwdIdeal.nD Cert.CondBwdIdeal.τ).loc Cert.CondBwdIdeal.main_arg1) = m ((c.tc : Thread Cert.CondBwdIdeal.nD Cert.CondBwdIdeal.τ).loc Cert.CondBwdIdeal.main_arg1)
      ∧ r.2.mem ((c.tc : Thread Cert.CondBwdIdeal.nD Cert.CondBwdIdeal.τ).loc Cert.CondBwdIdeal.main_arg2) = m ((c.tc : Thread Cert.CondBwdIdeal.nD Cert.CondBwdIdeal.τ).loc Cert.CondBwdIdeal.main_arg2))
      ∧ r.2.sem = fun _ => 0)

def quiescent_CondBwdIdeal_pre_finite_pre [hCondBwdIdeal : Cert.CondBwdIdeal.Facts] [hPre_finite_pre : Cert.Pre_finite_pre.Facts] : Prop :=
  ∀ (m : (ℓ : Loc Cert.CondBwdIdeal.nD Cert.CondBwdIdeal.τ Cert.CondBwdIdeal.sig) → Buf (Elt Ideal) ℓ) (g : Dev Cert.CondBwdIdeal.nD → PrngReg), Pre_CondBwdIdeal_finite_pre m →
    θ_run (Cert.CondBwdIdeal.defs (F := Ideal)) (onTc (τ := Cert.CondBwdIdeal.τ) (Cert.CondBwdIdeal.main (F := Ideal))) ⟨m, fun _ => 0, g⟩ (fun r => (∀ c : Dev Cert.CondBwdIdeal.nD,
      r.2.mem ((c.tc : Thread Cert.CondBwdIdeal.nD Cert.CondBwdIdeal.τ).loc Cert.CondBwdIdeal.main_arg0) = m ((c.tc : Thread Cert.CondBwdIdeal.nD Cert.CondBwdIdeal.τ).loc Cert.CondBwdIdeal.main_arg0)
      ∧ r.2.mem ((c.tc : Thread Cert.CondBwdIdeal.nD Cert.CondBwdIdeal.τ).loc Cert.CondBwdIdeal.main_arg1) = m ((c.tc : Thread Cert.CondBwdIdeal.nD Cert.CondBwdIdeal.τ).loc Cert.CondBwdIdeal.main_arg1)
      ∧ r.2.mem ((c.tc : Thread Cert.CondBwdIdeal.nD Cert.CondBwdIdeal.τ).loc Cert.CondBwdIdeal.main_arg2) = m ((c.tc : Thread Cert.CondBwdIdeal.nD Cert.CondBwdIdeal.τ).loc Cert.CondBwdIdeal.main_arg2))
      ∧ r.2.sem = fun _ => 0)

def quiescent_CondBwdReferenceIdeal [hCondBwdReferenceIdeal : Cert.CondBwdReferenceIdeal.Facts] : Prop :=
  ∀ (m : (ℓ : Loc Cert.CondBwdReferenceIdeal.nD Cert.CondBwdReferenceIdeal.τ Cert.CondBwdReferenceIdeal.sig) → Buf (Elt Ideal) ℓ) (g : Dev Cert.CondBwdReferenceIdeal.nD → PrngReg), Pre_CondBwdReferenceIdeal m →
    θ_run (Cert.CondBwdReferenceIdeal.defs (F := Ideal)) (onTc (τ := Cert.CondBwdReferenceIdeal.τ) (Cert.CondBwdReferenceIdeal.main (F := Ideal))) ⟨m, fun _ => 0, g⟩ (fun r => (∀ c : Dev Cert.CondBwdReferenceIdeal.nD,
      r.2.mem ((c.tc : Thread Cert.CondBwdReferenceIdeal.nD Cert.CondBwdReferenceIdeal.τ).loc Cert.CondBwdReferenceIdeal.main_arg0) = m ((c.tc : Thread Cert.CondBwdReferenceIdeal.nD Cert.CondBwdReferenceIdeal.τ).loc Cert.CondBwdReferenceIdeal.main_arg0)
      ∧ r.2.mem ((c.tc : Thread Cert.CondBwdReferenceIdeal.nD Cert.CondBwdReferenceIdeal.τ).loc Cert.CondBwdReferenceIdeal.main_arg1) = m ((c.tc : Thread Cert.CondBwdReferenceIdeal.nD Cert.CondBwdReferenceIdeal.τ).loc Cert.CondBwdReferenceIdeal.main_arg1)
      ∧ r.2.mem ((c.tc : Thread Cert.CondBwdReferenceIdeal.nD Cert.CondBwdReferenceIdeal.τ).loc Cert.CondBwdReferenceIdeal.main_arg2) = m ((c.tc : Thread Cert.CondBwdReferenceIdeal.nD Cert.CondBwdReferenceIdeal.τ).loc Cert.CondBwdReferenceIdeal.main_arg2))
      ∧ r.2.sem = fun _ => 0)

def quiescent_CondBwdReferenceIdeal_pre_finite_pre [hCondBwdReferenceIdeal : Cert.CondBwdReferenceIdeal.Facts] [hPre_finite_pre : Cert.Pre_finite_pre.Facts] : Prop :=
  ∀ (m : (ℓ : Loc Cert.CondBwdReferenceIdeal.nD Cert.CondBwdReferenceIdeal.τ Cert.CondBwdReferenceIdeal.sig) → Buf (Elt Ideal) ℓ) (g : Dev Cert.CondBwdReferenceIdeal.nD → PrngReg), Pre_CondBwdReferenceIdeal_finite_pre m →
    θ_run (Cert.CondBwdReferenceIdeal.defs (F := Ideal)) (onTc (τ := Cert.CondBwdReferenceIdeal.τ) (Cert.CondBwdReferenceIdeal.main (F := Ideal))) ⟨m, fun _ => 0, g⟩ (fun r => (∀ c : Dev Cert.CondBwdReferenceIdeal.nD,
      r.2.mem ((c.tc : Thread Cert.CondBwdReferenceIdeal.nD Cert.CondBwdReferenceIdeal.τ).loc Cert.CondBwdReferenceIdeal.main_arg0) = m ((c.tc : Thread Cert.CondBwdReferenceIdeal.nD Cert.CondBwdReferenceIdeal.τ).loc Cert.CondBwdReferenceIdeal.main_arg0)
      ∧ r.2.mem ((c.tc : Thread Cert.CondBwdReferenceIdeal.nD Cert.CondBwdReferenceIdeal.τ).loc Cert.CondBwdReferenceIdeal.main_arg1) = m ((c.tc : Thread Cert.CondBwdReferenceIdeal.nD Cert.CondBwdReferenceIdeal.τ).loc Cert.CondBwdReferenceIdeal.main_arg1)
      ∧ r.2.mem ((c.tc : Thread Cert.CondBwdReferenceIdeal.nD Cert.CondBwdReferenceIdeal.τ).loc Cert.CondBwdReferenceIdeal.main_arg2) = m ((c.tc : Thread Cert.CondBwdReferenceIdeal.nD Cert.CondBwdReferenceIdeal.τ).loc Cert.CondBwdReferenceIdeal.main_arg2))
      ∧ r.2.sem = fun _ => 0)

def quiescent_SumAda [hSumAda : Cert.SumAda.Facts] : Prop :=
  ∀ (m : (ℓ : Loc Cert.SumAda.nD Cert.SumAda.τ Cert.SumAda.sig) → Buf (Elt Bits) ℓ) (g : Dev Cert.SumAda.nD → PrngReg), Pre_SumAda m →
    θ_run (Cert.SumAda.defs (F := Bits)) (onTc (τ := Cert.SumAda.τ) (Cert.SumAda.main (F := Bits))) ⟨m, fun _ => 0, g⟩ (fun r => (∀ c : Dev Cert.SumAda.nD,
      r.2.mem ((c.tc : Thread Cert.SumAda.nD Cert.SumAda.τ).loc Cert.SumAda.main_arg0) = m ((c.tc : Thread Cert.SumAda.nD Cert.SumAda.τ).loc Cert.SumAda.main_arg0))
      ∧ r.2.sem = fun _ => 0)

def quiescent_SumAdaIdeal [hSumAdaIdeal : Cert.SumAdaIdeal.Facts] : Prop :=
  ∀ (m : (ℓ : Loc Cert.SumAdaIdeal.nD Cert.SumAdaIdeal.τ Cert.SumAdaIdeal.sig) → Buf (Elt Ideal) ℓ) (g : Dev Cert.SumAdaIdeal.nD → PrngReg), Pre_SumAdaIdeal m →
    θ_run (Cert.SumAdaIdeal.defs (F := Ideal)) (onTc (τ := Cert.SumAdaIdeal.τ) (Cert.SumAdaIdeal.main (F := Ideal))) ⟨m, fun _ => 0, g⟩ (fun r => (∀ c : Dev Cert.SumAdaIdeal.nD,
      r.2.mem ((c.tc : Thread Cert.SumAdaIdeal.nD Cert.SumAdaIdeal.τ).loc Cert.SumAdaIdeal.main_arg0) = m ((c.tc : Thread Cert.SumAdaIdeal.nD Cert.SumAdaIdeal.τ).loc Cert.SumAdaIdeal.main_arg0))
      ∧ r.2.sem = fun _ => 0)

def quiescent_SumAdaReferenceIdeal [hSumAdaReferenceIdeal : Cert.SumAdaReferenceIdeal.Facts] : Prop :=
  ∀ (m : (ℓ : Loc Cert.SumAdaReferenceIdeal.nD Cert.SumAdaReferenceIdeal.τ Cert.SumAdaReferenceIdeal.sig) → Buf (Elt Ideal) ℓ) (g : Dev Cert.SumAdaReferenceIdeal.nD → PrngReg), Pre_SumAdaReferenceIdeal m →
    θ_run (Cert.SumAdaReferenceIdeal.defs (F := Ideal)) (onTc (τ := Cert.SumAdaReferenceIdeal.τ) (Cert.SumAdaReferenceIdeal.main (F := Ideal))) ⟨m, fun _ => 0, g⟩ (fun r => (∀ c : Dev Cert.SumAdaReferenceIdeal.nD,
      r.2.mem ((c.tc : Thread Cert.SumAdaReferenceIdeal.nD Cert.SumAdaReferenceIdeal.τ).loc Cert.SumAdaReferenceIdeal.main_arg0) = m ((c.tc : Thread Cert.SumAdaReferenceIdeal.nD Cert.SumAdaReferenceIdeal.τ).loc Cert.SumAdaReferenceIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1))
      ∧ r.2.sem = fun _ => 0)

def quiescent_SumFfnIn [hSumFfnIn : Cert.SumFfnIn.Facts] : Prop :=
  ∀ (m : (ℓ : Loc Cert.SumFfnIn.nD Cert.SumFfnIn.τ Cert.SumFfnIn.sig) → Buf (Elt Bits) ℓ) (g : Dev Cert.SumFfnIn.nD → PrngReg), Pre_SumFfnIn m →
    θ_run (Cert.SumFfnIn.defs (F := Bits)) (onTc (τ := Cert.SumFfnIn.τ) (Cert.SumFfnIn.main (F := Bits))) ⟨m, fun _ => 0, g⟩ (fun r => (∀ c : Dev Cert.SumFfnIn.nD,
      r.2.mem ((c.tc : Thread Cert.SumFfnIn.nD Cert.SumFfnIn.τ).loc Cert.SumFfnIn.main_arg0) = m ((c.tc : Thread Cert.SumFfnIn.nD Cert.SumFfnIn.τ).loc Cert.SumFfnIn.main_arg0)
      ∧ r.2.mem ((c.tc : Thread Cert.SumFfnIn.nD Cert.SumFfnIn.τ).loc Cert.SumFfnIn.main_arg1) = m ((c.tc : Thread Cert.SumFfnIn.nD Cert.SumFfnIn.τ).loc Cert.SumFfnIn.main_arg1)
      ∧ r.2.mem ((c.tc : Thread Cert.SumFfnIn.nD Cert.SumFfnIn.τ).loc Cert.SumFfnIn.main_arg2) = m ((c.tc : Thread Cert.SumFfnIn.nD Cert.SumFfnIn.τ).loc Cert.SumFfnIn.main_arg2))
      ∧ r.2.sem = fun _ => 0)

def quiescent_SumFfnInIdeal [hSumFfnInIdeal : Cert.SumFfnInIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg), Pre_SumFfnInIdeal m →
    θ_run (Cert.SumFfnInIdeal.defs (F := Ideal)) (onTc (τ := Cert.SumFfnInIdeal.τ) (Cert.SumFfnInIdeal.main (F := Ideal))) ⟨m, fun _ => 0, g⟩ (fun r => (∀ c : Dev Cert.SumFfnInIdeal.nD,
      r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0)
      ∧ r.2.mem ((c.tc : Thread Cert.SumFfnInIdeal.nD Cert.SumFfnInIdeal.τ).loc Cert.SumFfnInIdeal.main_arg1) = m ((c.tc : Thread Cert.SumFfnInIdeal.nD Cert.SumFfnInIdeal.τ).loc Cert.SumFfnInIdeal.main_arg1)
      ∧ r.2.mem ((c.tc : Thread Cert.SumFfnInIdeal.nD Cert.SumFfnInIdeal.τ).loc Cert.SumFfnInIdeal.main_arg2) = m ((c.tc : Thread Cert.SumFfnInIdeal.nD Cert.SumFfnInIdeal.τ).loc Cert.SumFfnInIdeal.main_arg2))
      ∧ r.2.sem = fun _ => 0)

def quiescent_SumFfnInReferenceIdeal [hSumFfnInReferenceIdeal : Cert.SumFfnInReferenceIdeal.Facts] : Prop :=
  ∀ (m : (ℓ : Loc Cert.SumFfnInReferenceIdeal.nD Cert.SumFfnInReferenceIdeal.τ Cert.SumFfnInReferenceIdeal.sig) → Buf (Elt Ideal) ℓ) (g : Dev Cert.SumFfnInReferenceIdeal.nD → PrngReg), Pre_SumFfnInReferenceIdeal m →
    θ_run (Cert.SumFfnInReferenceIdeal.defs (F := Ideal)) (onTc (τ := Cert.SumFfnInReferenceIdeal.τ) (Cert.SumFfnInReferenceIdeal.main (F := Ideal))) ⟨m, fun _ => 0, g⟩ (fun r => (∀ c : Dev Cert.SumFfnInReferenceIdeal.nD,
      r.2.mem ((c.tc : Thread Cert.SumFfnInReferenceIdeal.nD Cert.SumFfnInReferenceIdeal.τ).loc Cert.SumFfnInReferenceIdeal.main_arg0) = m ((c.tc : Thread Cert.SumFfnInReferenceIdeal.nD Cert.SumFfnInReferenceIdeal.τ).loc Cert.SumFfnInReferenceIdeal.main_arg0)
      ∧ r.2.mem ((c.tc : Thread Cert.SumFfnInReferenceIdeal.nD Cert.SumFfnInReferenceIdeal.τ).loc Cert.SumFfnInReferenceIdeal.main_arg1) = m ((c.tc : Thread Cert.SumFfnInReferenceIdeal.nD Cert.SumFfnInReferenceIdeal.τ).loc Cert.SumFfnInReferenceIdeal.main_arg1)
      ∧ r.2.mem ((c.tc : Thread Cert.SumFfnInReferenceIdeal.nD Cert.SumFfnInReferenceIdeal.τ).loc Cert.SumFfnInReferenceIdeal.main_arg2) = m ((c.tc : Thread Cert.SumFfnInReferenceIdeal.nD Cert.SumFfnInReferenceIdeal.τ).loc Cert.SumFfnInReferenceIdeal.main_arg2))
      ∧ r.2.sem = fun _ => 0)

def quiescent_SumFfnOut [hSumFfnOut : Cert.SumFfnOut.Facts] : Prop :=
  ∀ (m : (ℓ : Loc Cert.SumFfnOut.nD Cert.SumFfnOut.τ Cert.SumFfnOut.sig) → Buf (Elt Bits) ℓ) (g : Dev Cert.SumFfnOut.nD → PrngReg), Pre_SumFfnOut m →
    θ_run (Cert.SumFfnOut.defs (F := Bits)) (onTc (τ := Cert.SumFfnOut.τ) (Cert.SumFfnOut.main (F := Bits))) ⟨m, fun _ => 0, g⟩ (fun r => (∀ c : Dev Cert.SumFfnOut.nD,
      r.2.mem ((c.tc : Thread Cert.SumFfnOut.nD Cert.SumFfnOut.τ).loc Cert.SumFfnOut.main_arg0) = m ((c.tc : Thread Cert.SumFfnOut.nD Cert.SumFfnOut.τ).loc Cert.SumFfnOut.main_arg0)
      ∧ r.2.mem ((c.tc : Thread Cert.SumFfnOut.nD Cert.SumFfnOut.τ).loc Cert.SumFfnOut.main_arg1) = m ((c.tc : Thread Cert.SumFfnOut.nD Cert.SumFfnOut.τ).loc Cert.SumFfnOut.main_arg1)
      ∧ r.2.mem ((c.tc : Thread Cert.SumFfnOut.nD Cert.SumFfnOut.τ).loc Cert.SumFfnOut.main_arg2) = m ((c.tc : Thread Cert.SumFfnOut.nD Cert.SumFfnOut.τ).loc Cert.SumFfnOut.main_arg2))
      ∧ r.2.sem = fun _ => 0)

def quiescent_SumFfnOutIdeal [hSumFfnOutIdeal : Cert.SumFfnOutIdeal.Facts] : Prop :=
  ∀ (m : (ℓ : Loc Cert.SumFfnOutIdeal.nD Cert.SumFfnOutIdeal.τ Cert.SumFfnOutIdeal.sig) → Buf (Elt Ideal) ℓ) (g : Dev Cert.SumFfnOutIdeal.nD → PrngReg), Pre_SumFfnOutIdeal m →
    θ_run (Cert.SumFfnOutIdeal.defs (F := Ideal)) (onTc (τ := Cert.SumFfnOutIdeal.τ) (Cert.SumFfnOutIdeal.main (F := Ideal))) ⟨m, fun _ => 0, g⟩ (fun r => (∀ c : Dev Cert.SumFfnOutIdeal.nD,
      r.2.mem ((c.tc : Thread Cert.SumFfnOutIdeal.nD Cert.SumFfnOutIdeal.τ).loc Cert.SumFfnOutIdeal.main_arg0) = m ((c.tc : Thread Cert.SumFfnOutIdeal.nD Cert.SumFfnOutIdeal.τ).loc Cert.SumFfnOutIdeal.main_arg0)
      ∧ r.2.mem ((c.tc : Thread Cert.SumFfnOutIdeal.nD Cert.SumFfnOutIdeal.τ).loc Cert.SumFfnOutIdeal.main_arg1) = m ((c.tc : Thread Cert.SumFfnOutIdeal.nD Cert.SumFfnOutIdeal.τ).loc Cert.SumFfnOutIdeal.main_arg1)
      ∧ r.2.mem ((c.tc : Thread Cert.SumFfnOutIdeal.nD Cert.SumFfnOutIdeal.τ).loc Cert.SumFfnOutIdeal.main_arg2) = m ((c.tc : Thread Cert.SumFfnOutIdeal.nD Cert.SumFfnOutIdeal.τ).loc Cert.SumFfnOutIdeal.main_arg2))
      ∧ r.2.sem = fun _ => 0)

def quiescent_SumFfnOutReferenceIdeal [hSumFfnOutReferenceIdeal : Cert.SumFfnOutReferenceIdeal.Facts] : Prop :=
  ∀ (m : (ℓ : Loc Cert.SumFfnOutReferenceIdeal.nD Cert.SumFfnOutReferenceIdeal.τ Cert.SumFfnOutReferenceIdeal.sig) → Buf (Elt Ideal) ℓ) (g : Dev Cert.SumFfnOutReferenceIdeal.nD → PrngReg), Pre_SumFfnOutReferenceIdeal m →
    θ_run (Cert.SumFfnOutReferenceIdeal.defs (F := Ideal)) (onTc (τ := Cert.SumFfnOutReferenceIdeal.τ) (Cert.SumFfnOutReferenceIdeal.main (F := Ideal))) ⟨m, fun _ => 0, g⟩ (fun r => (∀ c : Dev Cert.SumFfnOutReferenceIdeal.nD,
      r.2.mem ((c.tc : Thread Cert.SumFfnOutReferenceIdeal.nD Cert.SumFfnOutReferenceIdeal.τ).loc Cert.SumFfnOutReferenceIdeal.main_arg0) = m ((c.tc : Thread Cert.SumFfnOutReferenceIdeal.nD Cert.SumFfnOutReferenceIdeal.τ).loc Cert.SumFfnOutReferenceIdeal.main_arg0)
      ∧ r.2.mem ((c.tc : Thread Cert.SumFfnOutReferenceIdeal.nD Cert.SumFfnOutReferenceIdeal.τ).loc Cert.SumFfnOutReferenceIdeal.main_arg1) = m ((c.tc : Thread Cert.SumFfnOutReferenceIdeal.nD Cert.SumFfnOutReferenceIdeal.τ).loc Cert.SumFfnOutReferenceIdeal.main_arg1)
      ∧ r.2.mem ((c.tc : Thread Cert.SumFfnOutReferenceIdeal.nD Cert.SumFfnOutReferenceIdeal.τ).loc Cert.SumFfnOutReferenceIdeal.main_arg2) = m ((c.tc : Thread Cert.SumFfnOutReferenceIdeal.nD Cert.SumFfnOutReferenceIdeal.τ).loc Cert.SumFfnOutReferenceIdeal.main_arg2))
      ∧ r.2.sem = fun _ => 0)

def quiescent_SumConvIn [hSumConvIn : Cert.SumConvIn.Facts] : Prop :=
  ∀ (m : (ℓ : Loc Cert.SumConvIn.nD Cert.SumConvIn.τ Cert.SumConvIn.sig) → Buf (Elt Bits) ℓ) (g : Dev Cert.SumConvIn.nD → PrngReg), Pre_SumConvIn m →
    θ_run (Cert.SumConvIn.defs (F := Bits)) (onTc (τ := Cert.SumConvIn.τ) (Cert.SumConvIn.main (F := Bits))) ⟨m, fun _ => 0, g⟩ (fun r => (∀ c : Dev Cert.SumConvIn.nD,
      r.2.mem ((c.tc : Thread Cert.SumConvIn.nD Cert.SumConvIn.τ).loc Cert.SumConvIn.main_arg0) = m ((c.tc : Thread Cert.SumConvIn.nD Cert.SumConvIn.τ).loc Cert.SumConvIn.main_arg0)
      ∧ r.2.mem ((c.tc : Thread Cert.SumConvIn.nD Cert.SumConvIn.τ).loc Cert.SumConvIn.main_arg1) = m ((c.tc : Thread Cert.SumConvIn.nD Cert.SumConvIn.τ).loc Cert.SumConvIn.main_arg1)
      ∧ r.2.mem ((c.tc : Thread Cert.SumConvIn.nD Cert.SumConvIn.τ).loc Cert.SumConvIn.main_arg2) = m ((c.tc : Thread Cert.SumConvIn.nD Cert.SumConvIn.τ).loc Cert.SumConvIn.main_arg2))
      ∧ r.2.sem = fun _ => 0)

def quiescent_SumConvInIdeal [hSumConvInIdeal : Cert.SumConvInIdeal.Facts] : Prop :=
  ∀ (m : (ℓ : Loc Cert.SumConvInIdeal.nD Cert.SumConvInIdeal.τ Cert.SumConvInIdeal.sig) → Buf (Elt Ideal) ℓ) (g : Dev Cert.SumConvInIdeal.nD → PrngReg), Pre_SumConvInIdeal m →
    θ_run (Cert.SumConvInIdeal.defs (F := Ideal)) (onTc (τ := Cert.SumConvInIdeal.τ) (Cert.SumConvInIdeal.main (F := Ideal))) ⟨m, fun _ => 0, g⟩ (fun r => (∀ c : Dev Cert.SumConvInIdeal.nD,
      r.2.mem ((c.tc : Thread Cert.SumConvInIdeal.nD Cert.SumConvInIdeal.τ).loc Cert.SumConvInIdeal.main_arg0) = m ((c.tc : Thread Cert.SumConvInIdeal.nD Cert.SumConvInIdeal.τ).loc Cert.SumConvInIdeal.main_arg0)
      ∧ r.2.mem ((c.tc : Thread Cert.SumConvInIdeal.nD Cert.SumConvInIdeal.τ).loc Cert.SumConvInIdeal.main_arg1) = m ((c.tc : Thread Cert.SumConvInIdeal.nD Cert.SumConvInIdeal.τ).loc Cert.SumConvInIdeal.main_arg1)
      ∧ r.2.mem ((c.tc : Thread Cert.SumConvInIdeal.nD Cert.SumConvInIdeal.τ).loc Cert.SumConvInIdeal.main_arg2) = m ((c.tc : Thread Cert.SumConvInIdeal.nD Cert.SumConvInIdeal.τ).loc Cert.SumConvInIdeal.main_arg2))
      ∧ r.2.sem = fun _ => 0)

def quiescent_SumConvInReferenceIdeal [hSumConvInReferenceIdeal : Cert.SumConvInReferenceIdeal.Facts] : Prop :=
  ∀ (m : (ℓ : Loc Cert.SumConvInReferenceIdeal.nD Cert.SumConvInReferenceIdeal.τ Cert.SumConvInReferenceIdeal.sig) → Buf (Elt Ideal) ℓ) (g : Dev Cert.SumConvInReferenceIdeal.nD → PrngReg), Pre_SumConvInReferenceIdeal m →
    θ_run (Cert.SumConvInReferenceIdeal.defs (F := Ideal)) (onTc (τ := Cert.SumConvInReferenceIdeal.τ) (Cert.SumConvInReferenceIdeal.main (F := Ideal))) ⟨m, fun _ => 0, g⟩ (fun r => (∀ c : Dev Cert.SumConvInReferenceIdeal.nD,
      r.2.mem ((c.tc : Thread Cert.SumConvInReferenceIdeal.nD Cert.SumConvInReferenceIdeal.τ).loc Cert.SumConvInReferenceIdeal.main_arg0) = m ((c.tc : Thread Cert.SumConvInReferenceIdeal.nD Cert.SumConvInReferenceIdeal.τ).loc Cert.SumConvInReferenceIdeal.main_arg0)
      ∧ r.2.mem ((c.tc : Thread Cert.SumConvInReferenceIdeal.nD Cert.SumConvInReferenceIdeal.τ).loc Cert.SumConvInReferenceIdeal.main_arg1) = m ((c.tc : Thread Cert.SumConvInReferenceIdeal.nD Cert.SumConvInReferenceIdeal.τ).loc Cert.SumConvInReferenceIdeal.main_arg1)
      ∧ r.2.mem ((c.tc : Thread Cert.SumConvInReferenceIdeal.nD Cert.SumConvInReferenceIdeal.τ).loc Cert.SumConvInReferenceIdeal.main_arg2) = m ((c.tc : Thread Cert.SumConvInReferenceIdeal.nD Cert.SumConvInReferenceIdeal.τ).loc Cert.SumConvInReferenceIdeal.main_arg2))
      ∧ r.2.sem = fun _ => 0)

def quiescent_SumConvOut [hSumConvOut : Cert.SumConvOut.Facts] : Prop :=
  ∀ (m : (ℓ : Loc Cert.SumConvOut.nD Cert.SumConvOut.τ Cert.SumConvOut.sig) → Buf (Elt Bits) ℓ) (g : Dev Cert.SumConvOut.nD → PrngReg), Pre_SumConvOut m →
    θ_run (Cert.SumConvOut.defs (F := Bits)) (onTc (τ := Cert.SumConvOut.τ) (Cert.SumConvOut.main (F := Bits))) ⟨m, fun _ => 0, g⟩ (fun r => (∀ c : Dev Cert.SumConvOut.nD,
      r.2.mem ((c.tc : Thread Cert.SumConvOut.nD Cert.SumConvOut.τ).loc Cert.SumConvOut.main_arg0) = m ((c.tc : Thread Cert.SumConvOut.nD Cert.SumConvOut.τ).loc Cert.SumConvOut.main_arg0)
      ∧ r.2.mem ((c.tc : Thread Cert.SumConvOut.nD Cert.SumConvOut.τ).loc Cert.SumConvOut.main_arg1) = m ((c.tc : Thread Cert.SumConvOut.nD Cert.SumConvOut.τ).loc Cert.SumConvOut.main_arg1)
      ∧ r.2.mem ((c.tc : Thread Cert.SumConvOut.nD Cert.SumConvOut.τ).loc Cert.SumConvOut.main_arg2) = m ((c.tc : Thread Cert.SumConvOut.nD Cert.SumConvOut.τ).loc Cert.SumConvOut.main_arg2))
      ∧ r.2.sem = fun _ => 0)

def quiescent_SumConvOutIdeal [hSumConvOutIdeal : Cert.SumConvOutIdeal.Facts] : Prop :=
  ∀ (m : (ℓ : Loc Cert.SumConvOutIdeal.nD Cert.SumConvOutIdeal.τ Cert.SumConvOutIdeal.sig) → Buf (Elt Ideal) ℓ) (g : Dev Cert.SumConvOutIdeal.nD → PrngReg), Pre_SumConvOutIdeal m →
    θ_run (Cert.SumConvOutIdeal.defs (F := Ideal)) (onTc (τ := Cert.SumConvOutIdeal.τ) (Cert.SumConvOutIdeal.main (F := Ideal))) ⟨m, fun _ => 0, g⟩ (fun r => (∀ c : Dev Cert.SumConvOutIdeal.nD,
      r.2.mem ((c.tc : Thread Cert.SumConvOutIdeal.nD Cert.SumConvOutIdeal.τ).loc Cert.SumConvOutIdeal.main_arg0) = m ((c.tc : Thread Cert.SumConvOutIdeal.nD Cert.SumConvOutIdeal.τ).loc Cert.SumConvOutIdeal.main_arg0)
      ∧ r.2.mem ((c.tc : Thread Cert.SumConvOutIdeal.nD Cert.SumConvOutIdeal.τ).loc Cert.SumConvOutIdeal.main_arg1) = m ((c.tc : Thread Cert.SumConvOutIdeal.nD Cert.SumConvOutIdeal.τ).loc Cert.SumConvOutIdeal.main_arg1)
      ∧ r.2.mem ((c.tc : Thread Cert.SumConvOutIdeal.nD Cert.SumConvOutIdeal.τ).loc Cert.SumConvOutIdeal.main_arg2) = m ((c.tc : Thread Cert.SumConvOutIdeal.nD Cert.SumConvOutIdeal.τ).loc Cert.SumConvOutIdeal.main_arg2))
      ∧ r.2.sem = fun _ => 0)

def quiescent_SumConvOutReferenceIdeal [hSumConvOutReferenceIdeal : Cert.SumConvOutReferenceIdeal.Facts] : Prop :=
  ∀ (m : (ℓ : Loc Cert.SumConvOutReferenceIdeal.nD Cert.SumConvOutReferenceIdeal.τ Cert.SumConvOutReferenceIdeal.sig) → Buf (Elt Ideal) ℓ) (g : Dev Cert.SumConvOutReferenceIdeal.nD → PrngReg), Pre_SumConvOutReferenceIdeal m →
    θ_run (Cert.SumConvOutReferenceIdeal.defs (F := Ideal)) (onTc (τ := Cert.SumConvOutReferenceIdeal.τ) (Cert.SumConvOutReferenceIdeal.main (F := Ideal))) ⟨m, fun _ => 0, g⟩ (fun r => (∀ c : Dev Cert.SumConvOutReferenceIdeal.nD,
      r.2.mem ((c.tc : Thread Cert.SumConvOutReferenceIdeal.nD Cert.SumConvOutReferenceIdeal.τ).loc Cert.SumConvOutReferenceIdeal.main_arg0) = m ((c.tc : Thread Cert.SumConvOutReferenceIdeal.nD Cert.SumConvOutReferenceIdeal.τ).loc Cert.SumConvOutReferenceIdeal.main_arg0)
      ∧ r.2.mem ((c.tc : Thread Cert.SumConvOutReferenceIdeal.nD Cert.SumConvOutReferenceIdeal.τ).loc Cert.SumConvOutReferenceIdeal.main_arg1) = m ((c.tc : Thread Cert.SumConvOutReferenceIdeal.nD Cert.SumConvOutReferenceIdeal.τ).loc Cert.SumConvOutReferenceIdeal.main_arg1)
      ∧ r.2.mem ((c.tc : Thread Cert.SumConvOutReferenceIdeal.nD Cert.SumConvOutReferenceIdeal.τ).loc Cert.SumConvOutReferenceIdeal.main_arg2) = m ((c.tc : Thread Cert.SumConvOutReferenceIdeal.nD Cert.SumConvOutReferenceIdeal.τ).loc Cert.SumConvOutReferenceIdeal.main_arg2))
      ∧ r.2.sem = fun _ => 0)

def quiescent_SumQkv [hSumQkv : Cert.SumQkv.Facts] : Prop :=
  ∀ (m : (ℓ : Loc Cert.SumQkv.nD Cert.SumQkv.τ Cert.SumQkv.sig) → Buf (Elt Bits) ℓ) (g : Dev Cert.SumQkv.nD → PrngReg), Pre_SumQkv m →
    θ_run (Cert.SumQkv.defs (F := Bits)) (onTc (τ := Cert.SumQkv.τ) (Cert.SumQkv.main (F := Bits))) ⟨m, fun _ => 0, g⟩ (fun r => (∀ c : Dev Cert.SumQkv.nD,
      r.2.mem ((c.tc : Thread Cert.SumQkv.nD Cert.SumQkv.τ).loc Cert.SumQkv.main_arg0) = m ((c.tc : Thread Cert.SumQkv.nD Cert.SumQkv.τ).loc Cert.SumQkv.main_arg0)
      ∧ r.2.mem ((c.tc : Thread Cert.SumQkv.nD Cert.SumQkv.τ).loc Cert.SumQkv.main_arg1) = m ((c.tc : Thread Cert.SumQkv.nD Cert.SumQkv.τ).loc Cert.SumQkv.main_arg1)
      ∧ r.2.mem ((c.tc : Thread Cert.SumQkv.nD Cert.SumQkv.τ).loc Cert.SumQkv.main_arg2) = m ((c.tc : Thread Cert.SumQkv.nD Cert.SumQkv.τ).loc Cert.SumQkv.main_arg2))
      ∧ r.2.sem = fun _ => 0)

def quiescent_SumQkvIdeal [hSumQkvIdeal : Cert.SumQkvIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg), Pre_SumQkvIdeal m →
    θ_run (Cert.SumQkvIdeal.defs (F := Ideal)) (onTc (τ := Cert.SumQkvIdeal.τ) (Cert.SumQkvIdeal.main (F := Ideal))) ⟨m, fun _ => 0, g⟩ (fun r => (∀ c : Dev Cert.SumQkvIdeal.nD,
      r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0)
      ∧ r.2.mem ((c.tc : Thread Cert.SumQkvIdeal.nD Cert.SumQkvIdeal.τ).loc Cert.SumQkvIdeal.main_arg1) = m ((c.tc : Thread Cert.SumQkvIdeal.nD Cert.SumQkvIdeal.τ).loc Cert.SumQkvIdeal.main_arg1)
      ∧ r.2.mem ((c.tc : Thread Cert.SumQkvIdeal.nD Cert.SumQkvIdeal.τ).loc Cert.SumQkvIdeal.main_arg2) = m ((c.tc : Thread Cert.SumQkvIdeal.nD Cert.SumQkvIdeal.τ).loc Cert.SumQkvIdeal.main_arg2))
      ∧ r.2.sem = fun _ => 0)

def quiescent_SumQkvReferenceIdeal [hSumQkvReferenceIdeal : Cert.SumQkvReferenceIdeal.Facts] : Prop :=
  ∀ (m : (ℓ : Loc Cert.SumQkvReferenceIdeal.nD Cert.SumQkvReferenceIdeal.τ Cert.SumQkvReferenceIdeal.sig) → Buf (Elt Ideal) ℓ) (g : Dev Cert.SumQkvReferenceIdeal.nD → PrngReg), Pre_SumQkvReferenceIdeal m →
    θ_run (Cert.SumQkvReferenceIdeal.defs (F := Ideal)) (onTc (τ := Cert.SumQkvReferenceIdeal.τ) (Cert.SumQkvReferenceIdeal.main (F := Ideal))) ⟨m, fun _ => 0, g⟩ (fun r => (∀ c : Dev Cert.SumQkvReferenceIdeal.nD,
      r.2.mem ((c.tc : Thread Cert.SumQkvReferenceIdeal.nD Cert.SumQkvReferenceIdeal.τ).loc Cert.SumQkvReferenceIdeal.main_arg0) = m ((c.tc : Thread Cert.SumQkvReferenceIdeal.nD Cert.SumQkvReferenceIdeal.τ).loc Cert.SumQkvReferenceIdeal.main_arg0)
      ∧ r.2.mem ((c.tc : Thread Cert.SumQkvReferenceIdeal.nD Cert.SumQkvReferenceIdeal.τ).loc Cert.SumQkvReferenceIdeal.main_arg1) = m ((c.tc : Thread Cert.SumQkvReferenceIdeal.nD Cert.SumQkvReferenceIdeal.τ).loc Cert.SumQkvReferenceIdeal.main_arg1)
      ∧ r.2.mem ((c.tc : Thread Cert.SumQkvReferenceIdeal.nD Cert.SumQkvReferenceIdeal.τ).loc Cert.SumQkvReferenceIdeal.main_arg2) = m ((c.tc : Thread Cert.SumQkvReferenceIdeal.nD Cert.SumQkvReferenceIdeal.τ).loc Cert.SumQkvReferenceIdeal.main_arg2))
      ∧ r.2.sem = fun _ => 0)

def quiescent_SumAttnOut [hSumAttnOut : Cert.SumAttnOut.Facts] : Prop :=
  ∀ (m : (ℓ : Loc Cert.SumAttnOut.nD Cert.SumAttnOut.τ Cert.SumAttnOut.sig) → Buf (Elt Bits) ℓ) (g : Dev Cert.SumAttnOut.nD → PrngReg), Pre_SumAttnOut m →
    θ_run (Cert.SumAttnOut.defs (F := Bits)) (onTc (τ := Cert.SumAttnOut.τ) (Cert.SumAttnOut.main (F := Bits))) ⟨m, fun _ => 0, g⟩ (fun r => (∀ c : Dev Cert.SumAttnOut.nD,
      r.2.mem ((c.tc : Thread Cert.SumAttnOut.nD Cert.SumAttnOut.τ).loc Cert.SumAttnOut.main_arg0) = m ((c.tc : Thread Cert.SumAttnOut.nD Cert.SumAttnOut.τ).loc Cert.SumAttnOut.main_arg0)
      ∧ r.2.mem ((c.tc : Thread Cert.SumAttnOut.nD Cert.SumAttnOut.τ).loc Cert.SumAttnOut.main_arg1) = m ((c.tc : Thread Cert.SumAttnOut.nD Cert.SumAttnOut.τ).loc Cert.SumAttnOut.main_arg1)
      ∧ r.2.mem ((c.tc : Thread Cert.SumAttnOut.nD Cert.SumAttnOut.τ).loc Cert.SumAttnOut.main_arg2) = m ((c.tc : Thread Cert.SumAttnOut.nD Cert.SumAttnOut.τ).loc Cert.SumAttnOut.main_arg2))
      ∧ r.2.sem = fun _ => 0)

def quiescent_SumAttnOutIdeal [hSumAttnOutIdeal : Cert.SumAttnOutIdeal.Facts] : Prop :=
  ∀ (m : (ℓ : Loc Cert.SumAttnOutIdeal.nD Cert.SumAttnOutIdeal.τ Cert.SumAttnOutIdeal.sig) → Buf (Elt Ideal) ℓ) (g : Dev Cert.SumAttnOutIdeal.nD → PrngReg), Pre_SumAttnOutIdeal m →
    θ_run (Cert.SumAttnOutIdeal.defs (F := Ideal)) (onTc (τ := Cert.SumAttnOutIdeal.τ) (Cert.SumAttnOutIdeal.main (F := Ideal))) ⟨m, fun _ => 0, g⟩ (fun r => (∀ c : Dev Cert.SumAttnOutIdeal.nD,
      r.2.mem ((c.tc : Thread Cert.SumAttnOutIdeal.nD Cert.SumAttnOutIdeal.τ).loc Cert.SumAttnOutIdeal.main_arg0) = m ((c.tc : Thread Cert.SumAttnOutIdeal.nD Cert.SumAttnOutIdeal.τ).loc Cert.SumAttnOutIdeal.main_arg0)
      ∧ r.2.mem ((c.tc : Thread Cert.SumAttnOutIdeal.nD Cert.SumAttnOutIdeal.τ).loc Cert.SumAttnOutIdeal.main_arg1) = m ((c.tc : Thread Cert.SumAttnOutIdeal.nD Cert.SumAttnOutIdeal.τ).loc Cert.SumAttnOutIdeal.main_arg1)
      ∧ r.2.mem ((c.tc : Thread Cert.SumAttnOutIdeal.nD Cert.SumAttnOutIdeal.τ).loc Cert.SumAttnOutIdeal.main_arg2) = m ((c.tc : Thread Cert.SumAttnOutIdeal.nD Cert.SumAttnOutIdeal.τ).loc Cert.SumAttnOutIdeal.main_arg2))
      ∧ r.2.sem = fun _ => 0)

def quiescent_SumAttnOutReferenceIdeal [hSumAttnOutReferenceIdeal : Cert.SumAttnOutReferenceIdeal.Facts] : Prop :=
  ∀ (m : (ℓ : Loc Cert.SumAttnOutReferenceIdeal.nD Cert.SumAttnOutReferenceIdeal.τ Cert.SumAttnOutReferenceIdeal.sig) → Buf (Elt Ideal) ℓ) (g : Dev Cert.SumAttnOutReferenceIdeal.nD → PrngReg), Pre_SumAttnOutReferenceIdeal m →
    θ_run (Cert.SumAttnOutReferenceIdeal.defs (F := Ideal)) (onTc (τ := Cert.SumAttnOutReferenceIdeal.τ) (Cert.SumAttnOutReferenceIdeal.main (F := Ideal))) ⟨m, fun _ => 0, g⟩ (fun r => (∀ c : Dev Cert.SumAttnOutReferenceIdeal.nD,
      r.2.mem ((c.tc : Thread Cert.SumAttnOutReferenceIdeal.nD Cert.SumAttnOutReferenceIdeal.τ).loc Cert.SumAttnOutReferenceIdeal.main_arg0) = m ((c.tc : Thread Cert.SumAttnOutReferenceIdeal.nD Cert.SumAttnOutReferenceIdeal.τ).loc Cert.SumAttnOutReferenceIdeal.main_arg0)
      ∧ r.2.mem ((c.tc : Thread Cert.SumAttnOutReferenceIdeal.nD Cert.SumAttnOutReferenceIdeal.τ).loc Cert.SumAttnOutReferenceIdeal.main_arg1) = m ((c.tc : Thread Cert.SumAttnOutReferenceIdeal.nD Cert.SumAttnOutReferenceIdeal.τ).loc Cert.SumAttnOutReferenceIdeal.main_arg1)
      ∧ r.2.mem ((c.tc : Thread Cert.SumAttnOutReferenceIdeal.nD Cert.SumAttnOutReferenceIdeal.τ).loc Cert.SumAttnOutReferenceIdeal.main_arg2) = m ((c.tc : Thread Cert.SumAttnOutReferenceIdeal.nD Cert.SumAttnOutReferenceIdeal.τ).loc Cert.SumAttnOutReferenceIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1))
      ∧ r.2.sem = fun _ => 0)

def quiescent_CondPre [hCondPre : Cert.CondPre.Facts] : Prop :=
  ∀ (m : (ℓ : Loc Cert.CondPre.nD Cert.CondPre.τ Cert.CondPre.sig) → Buf (Elt Bits) ℓ) (g : Dev Cert.CondPre.nD → PrngReg), Pre_CondPre m →
    θ_run (Cert.CondPre.defs (F := Bits)) (onTc (τ := Cert.CondPre.τ) (Cert.CondPre.main (F := Bits))) ⟨m, fun _ => 0, g⟩ (fun r => (∀ c : Dev Cert.CondPre.nD,
      r.2.mem ((c.tc : Thread Cert.CondPre.nD Cert.CondPre.τ).loc Cert.CondPre.main_arg0) = m ((c.tc : Thread Cert.CondPre.nD Cert.CondPre.τ).loc Cert.CondPre.main_arg0)
      ∧ r.2.mem ((c.tc : Thread Cert.CondPre.nD Cert.CondPre.τ).loc Cert.CondPre.main_arg1) = m ((c.tc : Thread Cert.CondPre.nD Cert.CondPre.τ).loc Cert.CondPre.main_arg1))
      ∧ r.2.sem = fun _ => 0)

def quiescent_CondPreIdeal [hCondPreIdeal : Cert.CondPreIdeal.Facts] : Prop :=
  ∀ (m : (ℓ : Loc Cert.CondPreIdeal.nD Cert.CondPreIdeal.τ Cert.CondPreIdeal.sig) → Buf (Elt Ideal) ℓ) (g : Dev Cert.CondPreIdeal.nD → PrngReg), Pre_CondPreIdeal m →
    θ_run (Cert.CondPreIdeal.defs (F := Ideal)) (onTc (τ := Cert.CondPreIdeal.τ) (Cert.CondPreIdeal.main (F := Ideal))) ⟨m, fun _ => 0, g⟩ (fun r => (∀ c : Dev Cert.CondPreIdeal.nD,
      r.2.mem ((c.tc : Thread Cert.CondPreIdeal.nD Cert.CondPreIdeal.τ).loc Cert.CondPreIdeal.main_arg0) = m ((c.tc : Thread Cert.CondPreIdeal.nD Cert.CondPreIdeal.τ).loc Cert.CondPreIdeal.main_arg0)
      ∧ r.2.mem ((c.tc : Thread Cert.CondPreIdeal.nD Cert.CondPreIdeal.τ).loc Cert.CondPreIdeal.main_arg1) = m ((c.tc : Thread Cert.CondPreIdeal.nD Cert.CondPreIdeal.τ).loc Cert.CondPreIdeal.main_arg1))
      ∧ r.2.sem = fun _ => 0)

def quiescent_CondPreReferenceIdeal [hCondPreReferenceIdeal : Cert.CondPreReferenceIdeal.Facts] : Prop :=
  ∀ (m : (ℓ : Loc Cert.CondPreReferenceIdeal.nD Cert.CondPreReferenceIdeal.τ Cert.CondPreReferenceIdeal.sig) → Buf (Elt Ideal) ℓ) (g : Dev Cert.CondPreReferenceIdeal.nD → PrngReg), Pre_CondPreReferenceIdeal m →
    θ_run (Cert.CondPreReferenceIdeal.defs (F := Ideal)) (onTc (τ := Cert.CondPreReferenceIdeal.τ) (Cert.CondPreReferenceIdeal.main (F := Ideal))) ⟨m, fun _ => 0, g⟩ (fun r => (∀ c : Dev Cert.CondPreReferenceIdeal.nD,
      r.2.mem ((c.tc : Thread Cert.CondPreReferenceIdeal.nD Cert.CondPreReferenceIdeal.τ).loc Cert.CondPreReferenceIdeal.main_arg0) = m ((c.tc : Thread Cert.CondPreReferenceIdeal.nD Cert.CondPreReferenceIdeal.τ).loc Cert.CondPreReferenceIdeal.main_arg0)
      ∧ r.2.mem ((c.tc : Thread Cert.CondPreReferenceIdeal.nD Cert.CondPreReferenceIdeal.τ).loc Cert.CondPreReferenceIdeal.main_arg1) = m ((c.tc : Thread Cert.CondPreReferenceIdeal.nD Cert.CondPreReferenceIdeal.τ).loc Cert.CondPreReferenceIdeal.main_arg1))
      ∧ r.2.sem = fun _ => 0)

def quiescent_CondE [hCondE : Cert.CondE.Facts] : Prop :=
  ∀ (m : (ℓ : Loc Cert.CondE.nD Cert.CondE.τ Cert.CondE.sig) → Buf (Elt Bits) ℓ) (g : Dev Cert.CondE.nD → PrngReg), Pre_CondE m →
    θ_run (Cert.CondE.defs (F := Bits)) (onTc (τ := Cert.CondE.τ) (Cert.CondE.main (F := Bits))) ⟨m, fun _ => 0, g⟩ (fun r => (∀ c : Dev Cert.CondE.nD,
      r.2.mem ((c.tc : Thread Cert.CondE.nD Cert.CondE.τ).loc Cert.CondE.main_arg0) = m ((c.tc : Thread Cert.CondE.nD Cert.CondE.τ).loc Cert.CondE.main_arg0)
      ∧ r.2.mem ((c.tc : Thread Cert.CondE.nD Cert.CondE.τ).loc Cert.CondE.main_arg1) = m ((c.tc : Thread Cert.CondE.nD Cert.CondE.τ).loc Cert.CondE.main_arg1))
      ∧ r.2.sem = fun _ => 0)

def quiescent_CondEIdeal [hCondEIdeal : Cert.CondEIdeal.Facts] : Prop :=
  ∀ (m : (ℓ : Loc Cert.CondEIdeal.nD Cert.CondEIdeal.τ Cert.CondEIdeal.sig) → Buf (Elt Ideal) ℓ) (g : Dev Cert.CondEIdeal.nD → PrngReg), Pre_CondEIdeal m →
    θ_run (Cert.CondEIdeal.defs (F := Ideal)) (onTc (τ := Cert.CondEIdeal.τ) (Cert.CondEIdeal.main (F := Ideal))) ⟨m, fun _ => 0, g⟩ (fun r => (∀ c : Dev Cert.CondEIdeal.nD,
      r.2.mem ((c.tc : Thread Cert.CondEIdeal.nD Cert.CondEIdeal.τ).loc Cert.CondEIdeal.main_arg0) = m ((c.tc : Thread Cert.CondEIdeal.nD Cert.CondEIdeal.τ).loc Cert.CondEIdeal.main_arg0)
      ∧ r.2.mem ((c.tc : Thread Cert.CondEIdeal.nD Cert.CondEIdeal.τ).loc Cert.CondEIdeal.main_arg1) = m ((c.tc : Thread Cert.CondEIdeal.nD Cert.CondEIdeal.τ).loc Cert.CondEIdeal.main_arg1))
      ∧ r.2.sem = fun _ => 0)

def quiescent_CondEReferenceIdeal [hCondEReferenceIdeal : Cert.CondEReferenceIdeal.Facts] : Prop :=
  ∀ (m : (ℓ : Loc Cert.CondEReferenceIdeal.nD Cert.CondEReferenceIdeal.τ Cert.CondEReferenceIdeal.sig) → Buf (Elt Ideal) ℓ) (g : Dev Cert.CondEReferenceIdeal.nD → PrngReg), Pre_CondEReferenceIdeal m →
    θ_run (Cert.CondEReferenceIdeal.defs (F := Ideal)) (onTc (τ := Cert.CondEReferenceIdeal.τ) (Cert.CondEReferenceIdeal.main (F := Ideal))) ⟨m, fun _ => 0, g⟩ (fun r => (∀ c : Dev Cert.CondEReferenceIdeal.nD,
      r.2.mem ((c.tc : Thread Cert.CondEReferenceIdeal.nD Cert.CondEReferenceIdeal.τ).loc Cert.CondEReferenceIdeal.main_arg0) = m ((c.tc : Thread Cert.CondEReferenceIdeal.nD Cert.CondEReferenceIdeal.τ).loc Cert.CondEReferenceIdeal.main_arg0)
      ∧ r.2.mem ((c.tc : Thread Cert.CondEReferenceIdeal.nD Cert.CondEReferenceIdeal.τ).loc Cert.CondEReferenceIdeal.main_arg1) = m ((c.tc : Thread Cert.CondEReferenceIdeal.nD Cert.CondEReferenceIdeal.τ).loc Cert.CondEReferenceIdeal.main_arg1))
      ∧ r.2.sem = fun _ => 0)

def quiescent_ModCols [hModCols : Cert.ModCols.Facts] : Prop :=
  ∀ (m : (ℓ : Loc Cert.ModCols.nD Cert.ModCols.τ Cert.ModCols.sig) → Buf (Elt Bits) ℓ) (g : Dev Cert.ModCols.nD → PrngReg), Pre_ModCols m →
    θ_run (Cert.ModCols.defs (F := Bits)) (onTc (τ := Cert.ModCols.τ) (Cert.ModCols.main (F := Bits))) ⟨m, fun _ => 0, g⟩ (fun r => (∀ c : Dev Cert.ModCols.nD,
      r.2.mem ((c.tc : Thread Cert.ModCols.nD Cert.ModCols.τ).loc Cert.ModCols.main_arg0) = m ((c.tc : Thread Cert.ModCols.nD Cert.ModCols.τ).loc Cert.ModCols.main_arg0)
      ∧ r.2.mem ((c.tc : Thread Cert.ModCols.nD Cert.ModCols.τ).loc Cert.ModCols.main_arg1) = m ((c.tc : Thread Cert.ModCols.nD Cert.ModCols.τ).loc Cert.ModCols.main_arg1)
      ∧ r.2.mem ((c.tc : Thread Cert.ModCols.nD Cert.ModCols.τ).loc Cert.ModCols.main_arg2) = m ((c.tc : Thread Cert.ModCols.nD Cert.ModCols.τ).loc Cert.ModCols.main_arg2))
      ∧ r.2.sem = fun _ => 0)

def quiescent_ModColsIdeal [hModColsIdeal : Cert.ModColsIdeal.Facts] : Prop :=
  ∀ (m : (ℓ : Loc Cert.ModColsIdeal.nD Cert.ModColsIdeal.τ Cert.ModColsIdeal.sig) → Buf (Elt Ideal) ℓ) (g : Dev Cert.ModColsIdeal.nD → PrngReg), Pre_ModColsIdeal m →
    θ_run (Cert.ModColsIdeal.defs (F := Ideal)) (onTc (τ := Cert.ModColsIdeal.τ) (Cert.ModColsIdeal.main (F := Ideal))) ⟨m, fun _ => 0, g⟩ (fun r => (∀ c : Dev Cert.ModColsIdeal.nD,
      r.2.mem ((c.tc : Thread Cert.ModColsIdeal.nD Cert.ModColsIdeal.τ).loc Cert.ModColsIdeal.main_arg0) = m ((c.tc : Thread Cert.ModColsIdeal.nD Cert.ModColsIdeal.τ).loc Cert.ModColsIdeal.main_arg0)
      ∧ r.2.mem ((c.tc : Thread Cert.ModColsIdeal.nD Cert.ModColsIdeal.τ).loc Cert.ModColsIdeal.main_arg1) = m ((c.tc : Thread Cert.ModColsIdeal.nD Cert.ModColsIdeal.τ).loc Cert.ModColsIdeal.main_arg1)
      ∧ r.2.mem ((c.tc : Thread Cert.ModColsIdeal.nD Cert.ModColsIdeal.τ).loc Cert.ModColsIdeal.main_arg2) = m ((c.tc : Thread Cert.ModColsIdeal.nD Cert.ModColsIdeal.τ).loc Cert.ModColsIdeal.main_arg2))
      ∧ r.2.sem = fun _ => 0)

def quiescent_ModColsReferenceIdeal [hModColsReferenceIdeal : Cert.ModColsReferenceIdeal.Facts] : Prop :=
  ∀ (m : (ℓ : Loc Cert.ModColsReferenceIdeal.nD Cert.ModColsReferenceIdeal.τ Cert.ModColsReferenceIdeal.sig) → Buf (Elt Ideal) ℓ) (g : Dev Cert.ModColsReferenceIdeal.nD → PrngReg), Pre_ModColsReferenceIdeal m →
    θ_run (Cert.ModColsReferenceIdeal.defs (F := Ideal)) (onTc (τ := Cert.ModColsReferenceIdeal.τ) (Cert.ModColsReferenceIdeal.main (F := Ideal))) ⟨m, fun _ => 0, g⟩ (fun r => (∀ c : Dev Cert.ModColsReferenceIdeal.nD,
      r.2.mem ((c.tc : Thread Cert.ModColsReferenceIdeal.nD Cert.ModColsReferenceIdeal.τ).loc Cert.ModColsReferenceIdeal.main_arg0) = m ((c.tc : Thread Cert.ModColsReferenceIdeal.nD Cert.ModColsReferenceIdeal.τ).loc Cert.ModColsReferenceIdeal.main_arg0)
      ∧ r.2.mem ((c.tc : Thread Cert.ModColsReferenceIdeal.nD Cert.ModColsReferenceIdeal.τ).loc Cert.ModColsReferenceIdeal.main_arg1) = m ((c.tc : Thread Cert.ModColsReferenceIdeal.nD Cert.ModColsReferenceIdeal.τ).loc Cert.ModColsReferenceIdeal.main_arg1)
      ∧ r.2.mem ((c.tc : Thread Cert.ModColsReferenceIdeal.nD Cert.ModColsReferenceIdeal.τ).loc Cert.ModColsReferenceIdeal.main_arg2) = m ((c.tc : Thread Cert.ModColsReferenceIdeal.nD Cert.ModColsReferenceIdeal.τ).loc Cert.ModColsReferenceIdeal.main_arg2))
      ∧ r.2.sem = fun _ => 0)

def quiescent_GradConvIn [hGradConvIn : Cert.GradConvIn.Facts] : Prop :=
  ∀ (m : (ℓ : Loc Cert.GradConvIn.nD Cert.GradConvIn.τ Cert.GradConvIn.sig) → Buf (Elt Bits) ℓ) (g : Dev Cert.GradConvIn.nD → PrngReg), Pre_GradConvIn m →
    θ_run (Cert.GradConvIn.defs (F := Bits)) (onTc (τ := Cert.GradConvIn.τ) (Cert.GradConvIn.main (F := Bits))) ⟨m, fun _ => 0, g⟩ (fun r => (∀ c : Dev Cert.GradConvIn.nD,
      r.2.mem ((c.tc : Thread Cert.GradConvIn.nD Cert.GradConvIn.τ).loc Cert.GradConvIn.main_arg0) = m ((c.tc : Thread Cert.GradConvIn.nD Cert.GradConvIn.τ).loc Cert.GradConvIn.main_arg0)
      ∧ r.2.mem ((c.tc : Thread Cert.GradConvIn.nD Cert.GradConvIn.τ).loc Cert.GradConvIn.main_arg1) = m ((c.tc : Thread Cert.GradConvIn.nD Cert.GradConvIn.τ).loc Cert.GradConvIn.main_arg1)
      ∧ r.2.mem ((c.tc : Thread Cert.GradConvIn.nD Cert.GradConvIn.τ).loc Cert.GradConvIn.main_arg2) = m ((c.tc : Thread Cert.GradConvIn.nD Cert.GradConvIn.τ).loc Cert.GradConvIn.main_arg2))
      ∧ r.2.sem = fun _ => 0)

def quiescent_GradConvInIdeal [hGradConvInIdeal : Cert.GradConvInIdeal.Facts] : Prop :=
  ∀ (m : (ℓ : Loc Cert.GradConvInIdeal.nD Cert.GradConvInIdeal.τ Cert.GradConvInIdeal.sig) → Buf (Elt Ideal) ℓ) (g : Dev Cert.GradConvInIdeal.nD → PrngReg), Pre_GradConvInIdeal m →
    θ_run (Cert.GradConvInIdeal.defs (F := Ideal)) (onTc (τ := Cert.GradConvInIdeal.τ) (Cert.GradConvInIdeal.main (F := Ideal))) ⟨m, fun _ => 0, g⟩ (fun r => (∀ c : Dev Cert.GradConvInIdeal.nD,
      r.2.mem ((c.tc : Thread Cert.GradConvInIdeal.nD Cert.GradConvInIdeal.τ).loc Cert.GradConvInIdeal.main_arg0) = m ((c.tc : Thread Cert.GradConvInIdeal.nD Cert.GradConvInIdeal.τ).loc Cert.GradConvInIdeal.main_arg0)
      ∧ r.2.mem ((c.tc : Thread Cert.GradConvInIdeal.nD Cert.GradConvInIdeal.τ).loc Cert.GradConvInIdeal.main_arg1) = m ((c.tc : Thread Cert.GradConvInIdeal.nD Cert.GradConvInIdeal.τ).loc Cert.GradConvInIdeal.main_arg1)
      ∧ r.2.mem ((c.tc : Thread Cert.GradConvInIdeal.nD Cert.GradConvInIdeal.τ).loc Cert.GradConvInIdeal.main_arg2) = m ((c.tc : Thread Cert.GradConvInIdeal.nD Cert.GradConvInIdeal.τ).loc Cert.GradConvInIdeal.main_arg2))
      ∧ r.2.sem = fun _ => 0)

def quiescent_GradConvInReferenceIdeal [hGradConvInReferenceIdeal : Cert.GradConvInReferenceIdeal.Facts] : Prop :=
  ∀ (m : (ℓ : Loc Cert.GradConvInReferenceIdeal.nD Cert.GradConvInReferenceIdeal.τ Cert.GradConvInReferenceIdeal.sig) → Buf (Elt Ideal) ℓ) (g : Dev Cert.GradConvInReferenceIdeal.nD → PrngReg), Pre_GradConvInReferenceIdeal m →
    θ_run (Cert.GradConvInReferenceIdeal.defs (F := Ideal)) (onTc (τ := Cert.GradConvInReferenceIdeal.τ) (Cert.GradConvInReferenceIdeal.main (F := Ideal))) ⟨m, fun _ => 0, g⟩ (fun r => (∀ c : Dev Cert.GradConvInReferenceIdeal.nD,
      r.2.mem ((c.tc : Thread Cert.GradConvInReferenceIdeal.nD Cert.GradConvInReferenceIdeal.τ).loc Cert.GradConvInReferenceIdeal.main_arg0) = m ((c.tc : Thread Cert.GradConvInReferenceIdeal.nD Cert.GradConvInReferenceIdeal.τ).loc Cert.GradConvInReferenceIdeal.main_arg0)
      ∧ r.2.mem ((c.tc : Thread Cert.GradConvInReferenceIdeal.nD Cert.GradConvInReferenceIdeal.τ).loc Cert.GradConvInReferenceIdeal.main_arg1) = m ((c.tc : Thread Cert.GradConvInReferenceIdeal.nD Cert.GradConvInReferenceIdeal.τ).loc Cert.GradConvInReferenceIdeal.main_arg1)
      ∧ r.2.mem ((c.tc : Thread Cert.GradConvInReferenceIdeal.nD Cert.GradConvInReferenceIdeal.τ).loc Cert.GradConvInReferenceIdeal.main_arg2) = m ((c.tc : Thread Cert.GradConvInReferenceIdeal.nD Cert.GradConvInReferenceIdeal.τ).loc Cert.GradConvInReferenceIdeal.main_arg2))
      ∧ r.2.sem = fun _ => 0)

def quiescent_GradConvOut [hGradConvOut : Cert.GradConvOut.Facts] : Prop :=
  ∀ (m : (ℓ : Loc Cert.GradConvOut.nD Cert.GradConvOut.τ Cert.GradConvOut.sig) → Buf (Elt Bits) ℓ) (g : Dev Cert.GradConvOut.nD → PrngReg), Pre_GradConvOut m →
    θ_run (Cert.GradConvOut.defs (F := Bits)) (onTc (τ := Cert.GradConvOut.τ) (Cert.GradConvOut.main (F := Bits))) ⟨m, fun _ => 0, g⟩ (fun r => (∀ c : Dev Cert.GradConvOut.nD,
      r.2.mem ((c.tc : Thread Cert.GradConvOut.nD Cert.GradConvOut.τ).loc Cert.GradConvOut.main_arg0) = m ((c.tc : Thread Cert.GradConvOut.nD Cert.GradConvOut.τ).loc Cert.GradConvOut.main_arg0)
      ∧ r.2.mem ((c.tc : Thread Cert.GradConvOut.nD Cert.GradConvOut.τ).loc Cert.GradConvOut.main_arg1) = m ((c.tc : Thread Cert.GradConvOut.nD Cert.GradConvOut.τ).loc Cert.GradConvOut.main_arg1)
      ∧ r.2.mem ((c.tc : Thread Cert.GradConvOut.nD Cert.GradConvOut.τ).loc Cert.GradConvOut.main_arg2) = m ((c.tc : Thread Cert.GradConvOut.nD Cert.GradConvOut.τ).loc Cert.GradConvOut.main_arg2))
      ∧ r.2.sem = fun _ => 0)

def quiescent_GradConvOutIdeal [hGradConvOutIdeal : Cert.GradConvOutIdeal.Facts] : Prop :=
  ∀ (m : (ℓ : Loc Cert.GradConvOutIdeal.nD Cert.GradConvOutIdeal.τ Cert.GradConvOutIdeal.sig) → Buf (Elt Ideal) ℓ) (g : Dev Cert.GradConvOutIdeal.nD → PrngReg), Pre_GradConvOutIdeal m →
    θ_run (Cert.GradConvOutIdeal.defs (F := Ideal)) (onTc (τ := Cert.GradConvOutIdeal.τ) (Cert.GradConvOutIdeal.main (F := Ideal))) ⟨m, fun _ => 0, g⟩ (fun r => (∀ c : Dev Cert.GradConvOutIdeal.nD,
      r.2.mem ((c.tc : Thread Cert.GradConvOutIdeal.nD Cert.GradConvOutIdeal.τ).loc Cert.GradConvOutIdeal.main_arg0) = m ((c.tc : Thread Cert.GradConvOutIdeal.nD Cert.GradConvOutIdeal.τ).loc Cert.GradConvOutIdeal.main_arg0)
      ∧ r.2.mem ((c.tc : Thread Cert.GradConvOutIdeal.nD Cert.GradConvOutIdeal.τ).loc Cert.GradConvOutIdeal.main_arg1) = m ((c.tc : Thread Cert.GradConvOutIdeal.nD Cert.GradConvOutIdeal.τ).loc Cert.GradConvOutIdeal.main_arg1)
      ∧ r.2.mem ((c.tc : Thread Cert.GradConvOutIdeal.nD Cert.GradConvOutIdeal.τ).loc Cert.GradConvOutIdeal.main_arg2) = m ((c.tc : Thread Cert.GradConvOutIdeal.nD Cert.GradConvOutIdeal.τ).loc Cert.GradConvOutIdeal.main_arg2))
      ∧ r.2.sem = fun _ => 0)

def quiescent_GradConvOutReferenceIdeal [hGradConvOutReferenceIdeal : Cert.GradConvOutReferenceIdeal.Facts] : Prop :=
  ∀ (m : (ℓ : Loc Cert.GradConvOutReferenceIdeal.nD Cert.GradConvOutReferenceIdeal.τ Cert.GradConvOutReferenceIdeal.sig) → Buf (Elt Ideal) ℓ) (g : Dev Cert.GradConvOutReferenceIdeal.nD → PrngReg), Pre_GradConvOutReferenceIdeal m →
    θ_run (Cert.GradConvOutReferenceIdeal.defs (F := Ideal)) (onTc (τ := Cert.GradConvOutReferenceIdeal.τ) (Cert.GradConvOutReferenceIdeal.main (F := Ideal))) ⟨m, fun _ => 0, g⟩ (fun r => (∀ c : Dev Cert.GradConvOutReferenceIdeal.nD,
      r.2.mem ((c.tc : Thread Cert.GradConvOutReferenceIdeal.nD Cert.GradConvOutReferenceIdeal.τ).loc Cert.GradConvOutReferenceIdeal.main_arg0) = m ((c.tc : Thread Cert.GradConvOutReferenceIdeal.nD Cert.GradConvOutReferenceIdeal.τ).loc Cert.GradConvOutReferenceIdeal.main_arg0)
      ∧ r.2.mem ((c.tc : Thread Cert.GradConvOutReferenceIdeal.nD Cert.GradConvOutReferenceIdeal.τ).loc Cert.GradConvOutReferenceIdeal.main_arg1) = m ((c.tc : Thread Cert.GradConvOutReferenceIdeal.nD Cert.GradConvOutReferenceIdeal.τ).loc Cert.GradConvOutReferenceIdeal.main_arg1)
      ∧ r.2.mem ((c.tc : Thread Cert.GradConvOutReferenceIdeal.nD Cert.GradConvOutReferenceIdeal.τ).loc Cert.GradConvOutReferenceIdeal.main_arg2) = m ((c.tc : Thread Cert.GradConvOutReferenceIdeal.nD Cert.GradConvOutReferenceIdeal.τ).loc Cert.GradConvOutReferenceIdeal.main_arg2))
      ∧ r.2.sem = fun _ => 0)

def quiescent_GradQkv [hGradQkv : Cert.GradQkv.Facts] : Prop :=
  ∀ (m : (ℓ : Loc Cert.GradQkv.nD Cert.GradQkv.τ Cert.GradQkv.sig) → Buf (Elt Bits) ℓ) (g : Dev Cert.GradQkv.nD → PrngReg), Pre_GradQkv m →
    θ_run (Cert.GradQkv.defs (F := Bits)) (onTc (τ := Cert.GradQkv.τ) (Cert.GradQkv.main (F := Bits))) ⟨m, fun _ => 0, g⟩ (fun r => (∀ c : Dev Cert.GradQkv.nD,
      r.2.mem ((c.tc : Thread Cert.GradQkv.nD Cert.GradQkv.τ).loc Cert.GradQkv.main_arg0) = m ((c.tc : Thread Cert.GradQkv.nD Cert.GradQkv.τ).loc Cert.GradQkv.main_arg0)
      ∧ r.2.mem ((c.tc : Thread Cert.GradQkv.nD Cert.GradQkv.τ).loc Cert.GradQkv.main_arg1) = m ((c.tc : Thread Cert.GradQkv.nD Cert.GradQkv.τ).loc Cert.GradQkv.main_arg1)
      ∧ r.2.mem ((c.tc : Thread Cert.GradQkv.nD Cert.GradQkv.τ).loc Cert.GradQkv.main_arg2) = m ((c.tc : Thread Cert.GradQkv.nD Cert.GradQkv.τ).loc Cert.GradQkv.main_arg2))
      ∧ r.2.sem = fun _ => 0)

def quiescent_GradQkvIdeal [hGradQkvIdeal : Cert.GradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg), Pre_GradQkvIdeal m →
    θ_run (Cert.GradQkvIdeal.defs (F := Ideal)) (onTc (τ := Cert.GradQkvIdeal.τ) (Cert.GradQkvIdeal.main (F := Ideal))) ⟨m, fun _ => 0, g⟩ (fun r => (∀ c : Dev Cert.GradQkvIdeal.nD,
      r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
      ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1)
      ∧ r.2.mem ((c.tc : Thread Cert.GradQkvIdeal.nD Cert.GradQkvIdeal.τ).loc Cert.GradQkvIdeal.main_arg2) = m ((c.tc : Thread Cert.GradQkvIdeal.nD Cert.GradQkvIdeal.τ).loc Cert.GradQkvIdeal.main_arg2))
      ∧ r.2.sem = fun _ => 0)

def quiescent_GradQkvReferenceIdeal [hGradQkvReferenceIdeal : Cert.GradQkvReferenceIdeal.Facts] : Prop :=
  ∀ (m : (ℓ : Loc Cert.GradQkvReferenceIdeal.nD Cert.GradQkvReferenceIdeal.τ Cert.GradQkvReferenceIdeal.sig) → Buf (Elt Ideal) ℓ) (g : Dev Cert.GradQkvReferenceIdeal.nD → PrngReg), Pre_GradQkvReferenceIdeal m →
    θ_run (Cert.GradQkvReferenceIdeal.defs (F := Ideal)) (onTc (τ := Cert.GradQkvReferenceIdeal.τ) (Cert.GradQkvReferenceIdeal.main (F := Ideal))) ⟨m, fun _ => 0, g⟩ (fun r => (∀ c : Dev Cert.GradQkvReferenceIdeal.nD,
      r.2.mem ((c.tc : Thread Cert.GradQkvReferenceIdeal.nD Cert.GradQkvReferenceIdeal.τ).loc Cert.GradQkvReferenceIdeal.main_arg0) = m ((c.tc : Thread Cert.GradQkvReferenceIdeal.nD Cert.GradQkvReferenceIdeal.τ).loc Cert.GradQkvReferenceIdeal.main_arg0)
      ∧ r.2.mem ((c.tc : Thread Cert.GradQkvReferenceIdeal.nD Cert.GradQkvReferenceIdeal.τ).loc Cert.GradQkvReferenceIdeal.main_arg1) = m ((c.tc : Thread Cert.GradQkvReferenceIdeal.nD Cert.GradQkvReferenceIdeal.τ).loc Cert.GradQkvReferenceIdeal.main_arg1)
      ∧ r.2.mem ((c.tc : Thread Cert.GradQkvReferenceIdeal.nD Cert.GradQkvReferenceIdeal.τ).loc Cert.GradQkvReferenceIdeal.main_arg2) = m ((c.tc : Thread Cert.GradQkvReferenceIdeal.nD Cert.GradQkvReferenceIdeal.τ).loc Cert.GradQkvReferenceIdeal.main_arg2))
      ∧ r.2.sem = fun _ => 0)

def quiescent_GradAttnOut [hGradAttnOut : Cert.GradAttnOut.Facts] : Prop :=
  ∀ (m : (ℓ : Loc Cert.GradAttnOut.nD Cert.GradAttnOut.τ Cert.GradAttnOut.sig) → Buf (Elt Bits) ℓ) (g : Dev Cert.GradAttnOut.nD → PrngReg), Pre_GradAttnOut m →
    θ_run (Cert.GradAttnOut.defs (F := Bits)) (onTc (τ := Cert.GradAttnOut.τ) (Cert.GradAttnOut.main (F := Bits))) ⟨m, fun _ => 0, g⟩ (fun r => (∀ c : Dev Cert.GradAttnOut.nD,
      r.2.mem ((c.tc : Thread Cert.GradAttnOut.nD Cert.GradAttnOut.τ).loc Cert.GradAttnOut.main_arg0) = m ((c.tc : Thread Cert.GradAttnOut.nD Cert.GradAttnOut.τ).loc Cert.GradAttnOut.main_arg0)
      ∧ r.2.mem ((c.tc : Thread Cert.GradAttnOut.nD Cert.GradAttnOut.τ).loc Cert.GradAttnOut.main_arg1) = m ((c.tc : Thread Cert.GradAttnOut.nD Cert.GradAttnOut.τ).loc Cert.GradAttnOut.main_arg1)
      ∧ r.2.mem ((c.tc : Thread Cert.GradAttnOut.nD Cert.GradAttnOut.τ).loc Cert.GradAttnOut.main_arg2) = m ((c.tc : Thread Cert.GradAttnOut.nD Cert.GradAttnOut.τ).loc Cert.GradAttnOut.main_arg2))
      ∧ r.2.sem = fun _ => 0)

def quiescent_GradAttnOutIdeal [hGradAttnOutIdeal : Cert.GradAttnOutIdeal.Facts] : Prop :=
  ∀ (m : (ℓ : Loc Cert.GradAttnOutIdeal.nD Cert.GradAttnOutIdeal.τ Cert.GradAttnOutIdeal.sig) → Buf (Elt Ideal) ℓ) (g : Dev Cert.GradAttnOutIdeal.nD → PrngReg), Pre_GradAttnOutIdeal m →
    θ_run (Cert.GradAttnOutIdeal.defs (F := Ideal)) (onTc (τ := Cert.GradAttnOutIdeal.τ) (Cert.GradAttnOutIdeal.main (F := Ideal))) ⟨m, fun _ => 0, g⟩ (fun r => (∀ c : Dev Cert.GradAttnOutIdeal.nD,
      r.2.mem ((c.tc : Thread Cert.GradAttnOutIdeal.nD Cert.GradAttnOutIdeal.τ).loc Cert.GradAttnOutIdeal.main_arg0) = m ((c.tc : Thread Cert.GradAttnOutIdeal.nD Cert.GradAttnOutIdeal.τ).loc Cert.GradAttnOutIdeal.main_arg0)
      ∧ r.2.mem ((c.tc : Thread Cert.GradAttnOutIdeal.nD Cert.GradAttnOutIdeal.τ).loc Cert.GradAttnOutIdeal.main_arg1) = m ((c.tc : Thread Cert.GradAttnOutIdeal.nD Cert.GradAttnOutIdeal.τ).loc Cert.GradAttnOutIdeal.main_arg1)
      ∧ r.2.mem ((c.tc : Thread Cert.GradAttnOutIdeal.nD Cert.GradAttnOutIdeal.τ).loc Cert.GradAttnOutIdeal.main_arg2) = m ((c.tc : Thread Cert.GradAttnOutIdeal.nD Cert.GradAttnOutIdeal.τ).loc Cert.GradAttnOutIdeal.main_arg2))
      ∧ r.2.sem = fun _ => 0)

def quiescent_GradAttnOutReferenceIdeal [hGradAttnOutReferenceIdeal : Cert.GradAttnOutReferenceIdeal.Facts] : Prop :=
  ∀ (m : (ℓ : Loc Cert.GradAttnOutReferenceIdeal.nD Cert.GradAttnOutReferenceIdeal.τ Cert.GradAttnOutReferenceIdeal.sig) → Buf (Elt Ideal) ℓ) (g : Dev Cert.GradAttnOutReferenceIdeal.nD → PrngReg), Pre_GradAttnOutReferenceIdeal m →
    θ_run (Cert.GradAttnOutReferenceIdeal.defs (F := Ideal)) (onTc (τ := Cert.GradAttnOutReferenceIdeal.τ) (Cert.GradAttnOutReferenceIdeal.main (F := Ideal))) ⟨m, fun _ => 0, g⟩ (fun r => (∀ c : Dev Cert.GradAttnOutReferenceIdeal.nD,
      r.2.mem ((c.tc : Thread Cert.GradAttnOutReferenceIdeal.nD Cert.GradAttnOutReferenceIdeal.τ).loc Cert.GradAttnOutReferenceIdeal.main_arg0) = m ((c.tc : Thread Cert.GradAttnOutReferenceIdeal.nD Cert.GradAttnOutReferenceIdeal.τ).loc Cert.GradAttnOutReferenceIdeal.main_arg0)
      ∧ r.2.mem ((c.tc : Thread Cert.GradAttnOutReferenceIdeal.nD Cert.GradAttnOutReferenceIdeal.τ).loc Cert.GradAttnOutReferenceIdeal.main_arg1) = m ((c.tc : Thread Cert.GradAttnOutReferenceIdeal.nD Cert.GradAttnOutReferenceIdeal.τ).loc Cert.GradAttnOutReferenceIdeal.main_arg1)
      ∧ r.2.mem ((c.tc : Thread Cert.GradAttnOutReferenceIdeal.nD Cert.GradAttnOutReferenceIdeal.τ).loc Cert.GradAttnOutReferenceIdeal.main_arg2) = m ((c.tc : Thread Cert.GradAttnOutReferenceIdeal.nD Cert.GradAttnOutReferenceIdeal.τ).loc Cert.GradAttnOutReferenceIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v11_1)) (v3 : (c : Dev Cert.KernelIdeal.nD) → Buf (Elt Ideal) ((c.tc : Thread Cert.KernelIdeal.nD Cert.KernelIdeal.τ).loc Cert.KernelIdeal.main_v11_2)) (v4 : (c : Dev Cert.KernelIdeal.nD) → Buf (Elt Ideal) ((c.tc : Thread Cert.KernelIdeal.nD Cert.KernelIdeal.τ).loc Cert.KernelIdeal.main_v11_3)) (v5 : (c : Dev Cert.KernelIdeal.nD) → Buf (Elt Ideal) ((c.tc : Thread Cert.KernelIdeal.nD Cert.KernelIdeal.τ).loc Cert.KernelIdeal.main_v11_4)) (v6 : (c : Dev Cert.KernelIdeal.nD) → Buf (Elt Ideal) ((c.tc : Thread Cert.KernelIdeal.nD Cert.KernelIdeal.τ).loc Cert.KernelIdeal.main_v11_5)) (v7 : (c : Dev Cert.KernelIdeal.nD) → Buf (Elt Ideal) ((c.tc : Thread Cert.KernelIdeal.nD Cert.KernelIdeal.τ).loc Cert.KernelIdeal.main_v11_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_v11_3) = v4 c
          ∧ r.2.mem ((c.tc : Thread Cert.KernelIdeal.nD Cert.KernelIdeal.τ).loc Cert.KernelIdeal.main_v11_4) = v5 c
          ∧ r.2.mem ((c.tc : Thread Cert.KernelIdeal.nD Cert.KernelIdeal.τ).loc Cert.KernelIdeal.main_v11_5) = v6 c
          ∧ r.2.mem ((c.tc : Thread Cert.KernelIdeal.nD Cert.KernelIdeal.τ).loc Cert.KernelIdeal.main_v11_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_v94) = v6 c
          ∧ r.2.mem ((c.tc : Thread Cert.ReferenceIdeal.nD Cert.ReferenceIdeal.τ).loc Cert.ReferenceIdeal.main_v82) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Grad_GradIdeal : Prop :=
  True

def algebraic_GradIdeal_GradReferenceIdeal [hGradIdeal : Cert.GradIdeal.Facts] [hGradReferenceIdeal : Cert.GradReferenceIdeal.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)) →
    ∃ (v0 : (c : Dev Cert.GradIdeal.nD) → Buf (Elt Ideal) ((c.tc : Thread Cert.GradIdeal.nD Cert.GradIdeal.τ).loc Cert.GradIdeal.main_v0)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v0) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v10) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2))

def preserves_AdamFfn_AdamFfnIdeal : Prop :=
  True

def algebraic_AdamFfnIdeal_AdamFfnReferenceIdeal [hAdamFfnIdeal : Cert.AdamFfnIdeal.Facts] [hAdamFfnReferenceIdeal : Cert.AdamFfnReferenceIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnReferenceIdeal.nD Cert.AdamFfnReferenceIdeal.τ Cert.AdamFfnReferenceIdeal.sig) → Buf (Elt Ideal) ℓ) (g' : Dev Cert.AdamFfnReferenceIdeal.nD → PrngReg), Pre_AdamFfnIdeal m →
    (∀ c : Dev Cert.AdamFfnIdeal.nD,
      m' ((c.tc : Thread Cert.AdamFfnReferenceIdeal.nD Cert.AdamFfnReferenceIdeal.τ).loc Cert.AdamFfnReferenceIdeal.main_arg0) = m ((c.tc : Thread Cert.AdamFfnIdeal.nD Cert.AdamFfnIdeal.τ).loc Cert.AdamFfnIdeal.main_arg0)
      ∧ m' ((c.tc : Thread Cert.AdamFfnReferenceIdeal.nD Cert.AdamFfnReferenceIdeal.τ).loc Cert.AdamFfnReferenceIdeal.main_arg1) = m ((c.tc : Thread Cert.AdamFfnIdeal.nD Cert.AdamFfnIdeal.τ).loc Cert.AdamFfnIdeal.main_arg1)
      ∧ m' ((c.tc : Thread Cert.AdamFfnReferenceIdeal.nD Cert.AdamFfnReferenceIdeal.τ).loc Cert.AdamFfnReferenceIdeal.main_arg2) = m ((c.tc : Thread Cert.AdamFfnIdeal.nD Cert.AdamFfnIdeal.τ).loc Cert.AdamFfnIdeal.main_arg2)
      ∧ m' ((c.tc : Thread Cert.AdamFfnReferenceIdeal.nD Cert.AdamFfnReferenceIdeal.τ).loc Cert.AdamFfnReferenceIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v11)) (v1 : (c : Dev Cert.AdamFfnIdeal.nD) → Buf (Elt Ideal) ((c.tc : Thread Cert.AdamFfnIdeal.nD Cert.AdamFfnIdeal.τ).loc Cert.AdamFfnIdeal.main_v12)) (v2 : (c : Dev Cert.AdamFfnIdeal.nD) → Buf (Elt Ideal) ((c.tc : Thread Cert.AdamFfnIdeal.nD Cert.AdamFfnIdeal.τ).loc Cert.AdamFfnIdeal.main_v13)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v11) = v0 c
          ∧ r.2.mem ((c.tc : Thread Cert.AdamFfnIdeal.nD Cert.AdamFfnIdeal.τ).loc Cert.AdamFfnIdeal.main_v12) = v1 c
          ∧ r.2.mem ((c.tc : Thread Cert.AdamFfnIdeal.nD Cert.AdamFfnIdeal.τ).loc Cert.AdamFfnIdeal.main_v13) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnReferenceIdeal.defs (F := Ideal)) (onTc (τ := Cert.AdamFfnReferenceIdeal.τ) (Cert.AdamFfnReferenceIdeal.main (F := Ideal))) ⟨m', fun _ => 0, g'⟩ (fun r => ∀ c : Dev Cert.AdamFfnReferenceIdeal.nD,
          r.2.mem ((c.tc : Thread Cert.AdamFfnReferenceIdeal.nD Cert.AdamFfnReferenceIdeal.τ).loc Cert.AdamFfnReferenceIdeal.main_v24) = v0 c
          ∧ r.2.mem ((c.tc : Thread Cert.AdamFfnReferenceIdeal.nD Cert.AdamFfnReferenceIdeal.τ).loc Cert.AdamFfnReferenceIdeal.main_v5) = v1 c
          ∧ r.2.mem ((c.tc : Thread Cert.AdamFfnReferenceIdeal.nD Cert.AdamFfnReferenceIdeal.τ).loc Cert.AdamFfnReferenceIdeal.main_v11) = v2 c
          ∧ r.2.mem ((c.tc : Thread Cert.AdamFfnReferenceIdeal.nD Cert.AdamFfnReferenceIdeal.τ).loc Cert.AdamFfnReferenceIdeal.main_arg0) = m' ((c.tc : Thread Cert.AdamFfnReferenceIdeal.nD Cert.AdamFfnReferenceIdeal.τ).loc Cert.AdamFfnReferenceIdeal.main_arg0)
          ∧ r.2.mem ((c.tc : Thread Cert.AdamFfnReferenceIdeal.nD Cert.AdamFfnReferenceIdeal.τ).loc Cert.AdamFfnReferenceIdeal.main_arg1) = m' ((c.tc : Thread Cert.AdamFfnReferenceIdeal.nD Cert.AdamFfnReferenceIdeal.τ).loc Cert.AdamFfnReferenceIdeal.main_arg1)
          ∧ r.2.mem ((c.tc : Thread Cert.AdamFfnReferenceIdeal.nD Cert.AdamFfnReferenceIdeal.τ).loc Cert.AdamFfnReferenceIdeal.main_arg2) = m' ((c.tc : Thread Cert.AdamFfnReferenceIdeal.nD Cert.AdamFfnReferenceIdeal.τ).loc Cert.AdamFfnReferenceIdeal.main_arg2)
          ∧ r.2.mem ((c.tc : Thread Cert.AdamFfnReferenceIdeal.nD Cert.AdamFfnReferenceIdeal.τ).loc Cert.AdamFfnReferenceIdeal.main_arg3) = m' ((c.tc : Thread Cert.AdamFfnReferenceIdeal.nD Cert.AdamFfnReferenceIdeal.τ).loc Cert.AdamFfnReferenceIdeal.main_arg3))

def preserves_AdamFfnOut_AdamFfnOutIdeal : Prop :=
  True

def algebraic_AdamFfnOutIdeal_AdamFfnOutReferenceIdeal [hAdamFfnOutIdeal : Cert.AdamFfnOutIdeal.Facts] [hAdamFfnOutReferenceIdeal : Cert.AdamFfnOutReferenceIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutReferenceIdeal.nD Cert.AdamFfnOutReferenceIdeal.τ Cert.AdamFfnOutReferenceIdeal.sig) → Buf (Elt Ideal) ℓ) (g' : Dev Cert.AdamFfnOutReferenceIdeal.nD → PrngReg), Pre_AdamFfnOutIdeal m →
    (∀ c : Dev Cert.AdamFfnOutIdeal.nD,
      m' ((c.tc : Thread Cert.AdamFfnOutReferenceIdeal.nD Cert.AdamFfnOutReferenceIdeal.τ).loc Cert.AdamFfnOutReferenceIdeal.main_arg0) = m ((c.tc : Thread Cert.AdamFfnOutIdeal.nD Cert.AdamFfnOutIdeal.τ).loc Cert.AdamFfnOutIdeal.main_arg0)
      ∧ m' ((c.tc : Thread Cert.AdamFfnOutReferenceIdeal.nD Cert.AdamFfnOutReferenceIdeal.τ).loc Cert.AdamFfnOutReferenceIdeal.main_arg1) = m ((c.tc : Thread Cert.AdamFfnOutIdeal.nD Cert.AdamFfnOutIdeal.τ).loc Cert.AdamFfnOutIdeal.main_arg1)
      ∧ m' ((c.tc : Thread Cert.AdamFfnOutReferenceIdeal.nD Cert.AdamFfnOutReferenceIdeal.τ).loc Cert.AdamFfnOutReferenceIdeal.main_arg2) = m ((c.tc : Thread Cert.AdamFfnOutIdeal.nD Cert.AdamFfnOutIdeal.τ).loc Cert.AdamFfnOutIdeal.main_arg2)
      ∧ m' ((c.tc : Thread Cert.AdamFfnOutReferenceIdeal.nD Cert.AdamFfnOutReferenceIdeal.τ).loc Cert.AdamFfnOutReferenceIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v5)) (v1 : (c : Dev Cert.AdamFfnOutIdeal.nD) → Buf (Elt Ideal) ((c.tc : Thread Cert.AdamFfnOutIdeal.nD Cert.AdamFfnOutIdeal.τ).loc Cert.AdamFfnOutIdeal.main_v6)) (v2 : (c : Dev Cert.AdamFfnOutIdeal.nD) → Buf (Elt Ideal) ((c.tc : Thread Cert.AdamFfnOutIdeal.nD Cert.AdamFfnOutIdeal.τ).loc Cert.AdamFfnOutIdeal.main_v7)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v5) = v0 c
          ∧ r.2.mem ((c.tc : Thread Cert.AdamFfnOutIdeal.nD Cert.AdamFfnOutIdeal.τ).loc Cert.AdamFfnOutIdeal.main_v6) = v1 c
          ∧ r.2.mem ((c.tc : Thread Cert.AdamFfnOutIdeal.nD Cert.AdamFfnOutIdeal.τ).loc Cert.AdamFfnOutIdeal.main_v7) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutReferenceIdeal.defs (F := Ideal)) (onTc (τ := Cert.AdamFfnOutReferenceIdeal.τ) (Cert.AdamFfnOutReferenceIdeal.main (F := Ideal))) ⟨m', fun _ => 0, g'⟩ (fun r => ∀ c : Dev Cert.AdamFfnOutReferenceIdeal.nD,
          r.2.mem ((c.tc : Thread Cert.AdamFfnOutReferenceIdeal.nD Cert.AdamFfnOutReferenceIdeal.τ).loc Cert.AdamFfnOutReferenceIdeal.main_v23) = v0 c
          ∧ r.2.mem ((c.tc : Thread Cert.AdamFfnOutReferenceIdeal.nD Cert.AdamFfnOutReferenceIdeal.τ).loc Cert.AdamFfnOutReferenceIdeal.main_v4) = v1 c
          ∧ r.2.mem ((c.tc : Thread Cert.AdamFfnOutReferenceIdeal.nD Cert.AdamFfnOutReferenceIdeal.τ).loc Cert.AdamFfnOutReferenceIdeal.main_v10) = v2 c
          ∧ r.2.mem ((c.tc : Thread Cert.AdamFfnOutReferenceIdeal.nD Cert.AdamFfnOutReferenceIdeal.τ).loc Cert.AdamFfnOutReferenceIdeal.main_arg0) = m' ((c.tc : Thread Cert.AdamFfnOutReferenceIdeal.nD Cert.AdamFfnOutReferenceIdeal.τ).loc Cert.AdamFfnOutReferenceIdeal.main_arg0)
          ∧ r.2.mem ((c.tc : Thread Cert.AdamFfnOutReferenceIdeal.nD Cert.AdamFfnOutReferenceIdeal.τ).loc Cert.AdamFfnOutReferenceIdeal.main_arg1) = m' ((c.tc : Thread Cert.AdamFfnOutReferenceIdeal.nD Cert.AdamFfnOutReferenceIdeal.τ).loc Cert.AdamFfnOutReferenceIdeal.main_arg1)
          ∧ r.2.mem ((c.tc : Thread Cert.AdamFfnOutReferenceIdeal.nD Cert.AdamFfnOutReferenceIdeal.τ).loc Cert.AdamFfnOutReferenceIdeal.main_arg2) = m' ((c.tc : Thread Cert.AdamFfnOutReferenceIdeal.nD Cert.AdamFfnOutReferenceIdeal.τ).loc Cert.AdamFfnOutReferenceIdeal.main_arg2)
          ∧ r.2.mem ((c.tc : Thread Cert.AdamFfnOutReferenceIdeal.nD Cert.AdamFfnOutReferenceIdeal.τ).loc Cert.AdamFfnOutReferenceIdeal.main_arg3) = m' ((c.tc : Thread Cert.AdamFfnOutReferenceIdeal.nD Cert.AdamFfnOutReferenceIdeal.τ).loc Cert.AdamFfnOutReferenceIdeal.main_arg3))

def preserves_AdamConvIn_AdamConvInIdeal : Prop :=
  True

def algebraic_AdamConvInIdeal_AdamConvInReferenceIdeal [hAdamConvInIdeal : Cert.AdamConvInIdeal.Facts] [hAdamConvInReferenceIdeal : Cert.AdamConvInReferenceIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInReferenceIdeal.nD Cert.AdamConvInReferenceIdeal.τ Cert.AdamConvInReferenceIdeal.sig) → Buf (Elt Ideal) ℓ) (g' : Dev Cert.AdamConvInReferenceIdeal.nD → PrngReg), Pre_AdamConvInIdeal m →
    (∀ c : Dev Cert.AdamConvInIdeal.nD,
      m' ((c.tc : Thread Cert.AdamConvInReferenceIdeal.nD Cert.AdamConvInReferenceIdeal.τ).loc Cert.AdamConvInReferenceIdeal.main_arg0) = m ((c.tc : Thread Cert.AdamConvInIdeal.nD Cert.AdamConvInIdeal.τ).loc Cert.AdamConvInIdeal.main_arg0)
      ∧ m' ((c.tc : Thread Cert.AdamConvInReferenceIdeal.nD Cert.AdamConvInReferenceIdeal.τ).loc Cert.AdamConvInReferenceIdeal.main_arg1) = m ((c.tc : Thread Cert.AdamConvInIdeal.nD Cert.AdamConvInIdeal.τ).loc Cert.AdamConvInIdeal.main_arg1)
      ∧ m' ((c.tc : Thread Cert.AdamConvInReferenceIdeal.nD Cert.AdamConvInReferenceIdeal.τ).loc Cert.AdamConvInReferenceIdeal.main_arg2) = m ((c.tc : Thread Cert.AdamConvInIdeal.nD Cert.AdamConvInIdeal.τ).loc Cert.AdamConvInIdeal.main_arg2)
      ∧ m' ((c.tc : Thread Cert.AdamConvInReferenceIdeal.nD Cert.AdamConvInReferenceIdeal.τ).loc Cert.AdamConvInReferenceIdeal.main_arg3) = m ((c.tc : Thread Cert.AdamConvInIdeal.nD Cert.AdamConvInIdeal.τ).loc Cert.AdamConvInIdeal.main_arg3)) →
    ∃ (v0 : (c : Dev Cert.AdamConvInIdeal.nD) → Buf (Elt Ideal) ((c.tc : Thread Cert.AdamConvInIdeal.nD Cert.AdamConvInIdeal.τ).loc Cert.AdamConvInIdeal.main_v5)) (v1 : (c : Dev Cert.AdamConvInIdeal.nD) → Buf (Elt Ideal) ((c.tc : Thread Cert.AdamConvInIdeal.nD Cert.AdamConvInIdeal.τ).loc Cert.AdamConvInIdeal.main_v6)) (v2 : (c : Dev Cert.AdamConvInIdeal.nD) → Buf (Elt Ideal) ((c.tc : Thread Cert.AdamConvInIdeal.nD Cert.AdamConvInIdeal.τ).loc Cert.AdamConvInIdeal.main_v7)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v5) = v0 c
          ∧ r.2.mem ((c.tc : Thread Cert.AdamConvInIdeal.nD Cert.AdamConvInIdeal.τ).loc Cert.AdamConvInIdeal.main_v6) = v1 c
          ∧ r.2.mem ((c.tc : Thread Cert.AdamConvInIdeal.nD Cert.AdamConvInIdeal.τ).loc Cert.AdamConvInIdeal.main_v7) = v2 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ θ_run (Cert.AdamConvInReferenceIdeal.defs (F := Ideal)) (onTc (τ := Cert.AdamConvInReferenceIdeal.τ) (Cert.AdamConvInReferenceIdeal.main (F := Ideal))) ⟨m', fun _ => 0, g'⟩ (fun r => ∀ c : Dev Cert.AdamConvInReferenceIdeal.nD,
          r.2.mem ((c.tc : Thread Cert.AdamConvInReferenceIdeal.nD Cert.AdamConvInReferenceIdeal.τ).loc Cert.AdamConvInReferenceIdeal.main_v23) = v0 c
          ∧ r.2.mem ((c.tc : Thread Cert.AdamConvInReferenceIdeal.nD Cert.AdamConvInReferenceIdeal.τ).loc Cert.AdamConvInReferenceIdeal.main_v4) = v1 c
          ∧ r.2.mem ((c.tc : Thread Cert.AdamConvInReferenceIdeal.nD Cert.AdamConvInReferenceIdeal.τ).loc Cert.AdamConvInReferenceIdeal.main_v10) = v2 c
          ∧ r.2.mem ((c.tc : Thread Cert.AdamConvInReferenceIdeal.nD Cert.AdamConvInReferenceIdeal.τ).loc Cert.AdamConvInReferenceIdeal.main_arg0) = m' ((c.tc : Thread Cert.AdamConvInReferenceIdeal.nD Cert.AdamConvInReferenceIdeal.τ).loc Cert.AdamConvInReferenceIdeal.main_arg0)
          ∧ r.2.mem ((c.tc : Thread Cert.AdamConvInReferenceIdeal.nD Cert.AdamConvInReferenceIdeal.τ).loc Cert.AdamConvInReferenceIdeal.main_arg1) = m' ((c.tc : Thread Cert.AdamConvInReferenceIdeal.nD Cert.AdamConvInReferenceIdeal.τ).loc Cert.AdamConvInReferenceIdeal.main_arg1)
          ∧ r.2.mem ((c.tc : Thread Cert.AdamConvInReferenceIdeal.nD Cert.AdamConvInReferenceIdeal.τ).loc Cert.AdamConvInReferenceIdeal.main_arg2) = m' ((c.tc : Thread Cert.AdamConvInReferenceIdeal.nD Cert.AdamConvInReferenceIdeal.τ).loc Cert.AdamConvInReferenceIdeal.main_arg2)
          ∧ r.2.mem ((c.tc : Thread Cert.AdamConvInReferenceIdeal.nD Cert.AdamConvInReferenceIdeal.τ).loc Cert.AdamConvInReferenceIdeal.main_arg3) = m' ((c.tc : Thread Cert.AdamConvInReferenceIdeal.nD Cert.AdamConvInReferenceIdeal.τ).loc Cert.AdamConvInReferenceIdeal.main_arg3))

def preserves_AdamConvOut_AdamConvOutIdeal : Prop :=
  True

def algebraic_AdamConvOutIdeal_AdamConvOutReferenceIdeal [hAdamConvOutIdeal : Cert.AdamConvOutIdeal.Facts] [hAdamConvOutReferenceIdeal : Cert.AdamConvOutReferenceIdeal.Facts] : Prop :=
  ∀ (m : (ℓ : Loc Cert.AdamConvOutIdeal.nD Cert.AdamConvOutIdeal.τ Cert.AdamConvOutIdeal.sig) → Buf (Elt Ideal) ℓ) (g : Dev Cert.AdamConvOutIdeal.nD → PrngReg)
    (m' : (ℓ : Loc Cert.AdamConvOutReferenceIdeal.nD Cert.AdamConvOutReferenceIdeal.τ Cert.AdamConvOutReferenceIdeal.sig) → Buf (Elt Ideal) ℓ) (g' : Dev Cert.AdamConvOutReferenceIdeal.nD → PrngReg), Pre_AdamConvOutIdeal m →
    (∀ c : Dev Cert.AdamConvOutIdeal.nD,
      m' ((c.tc : Thread Cert.AdamConvOutReferenceIdeal.nD Cert.AdamConvOutReferenceIdeal.τ).loc Cert.AdamConvOutReferenceIdeal.main_arg0) = m ((c.tc : Thread Cert.AdamConvOutIdeal.nD Cert.AdamConvOutIdeal.τ).loc Cert.AdamConvOutIdeal.main_arg0)
      ∧ m' ((c.tc : Thread Cert.AdamConvOutReferenceIdeal.nD Cert.AdamConvOutReferenceIdeal.τ).loc Cert.AdamConvOutReferenceIdeal.main_arg1) = m ((c.tc : Thread Cert.AdamConvOutIdeal.nD Cert.AdamConvOutIdeal.τ).loc Cert.AdamConvOutIdeal.main_arg1)
      ∧ m' ((c.tc : Thread Cert.AdamConvOutReferenceIdeal.nD Cert.AdamConvOutReferenceIdeal.τ).loc Cert.AdamConvOutReferenceIdeal.main_arg2) = m ((c.tc : Thread Cert.AdamConvOutIdeal.nD Cert.AdamConvOutIdeal.τ).loc Cert.AdamConvOutIdeal.main_arg2)
      ∧ m' ((c.tc : Thread Cert.AdamConvOutReferenceIdeal.nD Cert.AdamConvOutReferenceIdeal.τ).loc Cert.AdamConvOutReferenceIdeal.main_arg3) = m ((c.tc : Thread Cert.AdamConvOutIdeal.nD Cert.AdamConvOutIdeal.τ).loc Cert.AdamConvOutIdeal.main_arg3)) →
    ∃ (v0 : (c : Dev Cert.AdamConvOutIdeal.nD) → Buf (Elt Ideal) ((c.tc : Thread Cert.AdamConvOutIdeal.nD Cert.AdamConvOutIdeal.τ).loc Cert.AdamConvOutIdeal.main_v5)) (v1 : (c : Dev Cert.AdamConvOutIdeal.nD) → Buf (Elt Ideal) ((c.tc : Thread Cert.AdamConvOutIdeal.nD Cert.AdamConvOutIdeal.τ).loc Cert.AdamConvOutIdeal.main_v6)) (v2 : (c : Dev Cert.AdamConvOutIdeal.nD) → Buf (Elt Ideal) ((c.tc : Thread Cert.AdamConvOutIdeal.nD Cert.AdamConvOutIdeal.τ).loc Cert.AdamConvOutIdeal.main_v7)),
      θ_run (Cert.AdamConvOutIdeal.defs (F := Ideal)) (onTc (τ := Cert.AdamConvOutIdeal.τ) (Cert.AdamConvOutIdeal.main (F := Ideal))) ⟨m, fun _ => 0, g⟩ (fun r => ∀ c : Dev Cert.AdamConvOutIdeal.nD,
          r.2.mem ((c.tc : Thread Cert.AdamConvOutIdeal.nD Cert.AdamConvOutIdeal.τ).loc Cert.AdamConvOutIdeal.main_v5) = v0 c
          ∧ r.2.mem ((c.tc : Thread Cert.AdamConvOutIdeal.nD Cert.AdamConvOutIdeal.τ).loc Cert.AdamConvOutIdeal.main_v6) = v1 c
          ∧ r.2.mem ((c.tc : Thread Cert.AdamConvOutIdeal.nD Cert.AdamConvOutIdeal.τ).loc Cert.AdamConvOutIdeal.main_v7) = v2 c
          ∧ r.2.mem ((c.tc : Thread Cert.AdamConvOutIdeal.nD Cert.AdamConvOutIdeal.τ).loc Cert.AdamConvOutIdeal.main_arg0) = m ((c.tc : Thread Cert.AdamConvOutIdeal.nD Cert.AdamConvOutIdeal.τ).loc Cert.AdamConvOutIdeal.main_arg0)
          ∧ r.2.mem ((c.tc : Thread Cert.AdamConvOutIdeal.nD Cert.AdamConvOutIdeal.τ).loc Cert.AdamConvOutIdeal.main_arg1) = m ((c.tc : Thread Cert.AdamConvOutIdeal.nD Cert.AdamConvOutIdeal.τ).loc Cert.AdamConvOutIdeal.main_arg1)
          ∧ r.2.mem ((c.tc : Thread Cert.AdamConvOutIdeal.nD Cert.AdamConvOutIdeal.τ).loc Cert.AdamConvOutIdeal.main_arg2) = m ((c.tc : Thread Cert.AdamConvOutIdeal.nD Cert.AdamConvOutIdeal.τ).loc Cert.AdamConvOutIdeal.main_arg2)
          ∧ r.2.mem ((c.tc : Thread Cert.AdamConvOutIdeal.nD Cert.AdamConvOutIdeal.τ).loc Cert.AdamConvOutIdeal.main_arg3) = m ((c.tc : Thread Cert.AdamConvOutIdeal.nD Cert.AdamConvOutIdeal.τ).loc Cert.AdamConvOutIdeal.main_arg3))
      ∧ θ_run (Cert.AdamConvOutReferenceIdeal.defs (F := Ideal)) (onTc (τ := Cert.AdamConvOutReferenceIdeal.τ) (Cert.AdamConvOutReferenceIdeal.main (F := Ideal))) ⟨m', fun _ => 0, g'⟩ (fun r => ∀ c : Dev Cert.AdamConvOutReferenceIdeal.nD,
          r.2.mem ((c.tc : Thread Cert.AdamConvOutReferenceIdeal.nD Cert.AdamConvOutReferenceIdeal.τ).loc Cert.AdamConvOutReferenceIdeal.main_v23) = v0 c
          ∧ r.2.mem ((c.tc : Thread Cert.AdamConvOutReferenceIdeal.nD Cert.AdamConvOutReferenceIdeal.τ).loc Cert.AdamConvOutReferenceIdeal.main_v4) = v1 c
          ∧ r.2.mem ((c.tc : Thread Cert.AdamConvOutReferenceIdeal.nD Cert.AdamConvOutReferenceIdeal.τ).loc Cert.AdamConvOutReferenceIdeal.main_v10) = v2 c
          ∧ r.2.mem ((c.tc : Thread Cert.AdamConvOutReferenceIdeal.nD Cert.AdamConvOutReferenceIdeal.τ).loc Cert.AdamConvOutReferenceIdeal.main_arg0) = m' ((c.tc : Thread Cert.AdamConvOutReferenceIdeal.nD Cert.AdamConvOutReferenceIdeal.τ).loc Cert.AdamConvOutReferenceIdeal.main_arg0)
          ∧ r.2.mem ((c.tc : Thread Cert.AdamConvOutReferenceIdeal.nD Cert.AdamConvOutReferenceIdeal.τ).loc Cert.AdamConvOutReferenceIdeal.main_arg1) = m' ((c.tc : Thread Cert.AdamConvOutReferenceIdeal.nD Cert.AdamConvOutReferenceIdeal.τ).loc Cert.AdamConvOutReferenceIdeal.main_arg1)
          ∧ r.2.mem ((c.tc : Thread Cert.AdamConvOutReferenceIdeal.nD Cert.AdamConvOutReferenceIdeal.τ).loc Cert.AdamConvOutReferenceIdeal.main_arg2) = m' ((c.tc : Thread Cert.AdamConvOutReferenceIdeal.nD Cert.AdamConvOutReferenceIdeal.τ).loc Cert.AdamConvOutReferenceIdeal.main_arg2)
          ∧ r.2.mem ((c.tc : Thread Cert.AdamConvOutReferenceIdeal.nD Cert.AdamConvOutReferenceIdeal.τ).loc Cert.AdamConvOutReferenceIdeal.main_arg3) = m' ((c.tc : Thread Cert.AdamConvOutReferenceIdeal.nD Cert.AdamConvOutReferenceIdeal.τ).loc Cert.AdamConvOutReferenceIdeal.main_arg3))

def preserves_AdamQkv_AdamQkvIdeal : Prop :=
  True

def algebraic_AdamQkvIdeal_AdamQkvReferenceIdeal [hAdamQkvIdeal : Cert.AdamQkvIdeal.Facts] [hAdamQkvReferenceIdeal : Cert.AdamQkvReferenceIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvReferenceIdeal.nD Cert.AdamQkvReferenceIdeal.τ Cert.AdamQkvReferenceIdeal.sig) → Buf (Elt Ideal) ℓ) (g' : Dev Cert.AdamQkvReferenceIdeal.nD → PrngReg), Pre_AdamQkvIdeal m →
    (∀ c : Dev Cert.AdamQkvIdeal.nD,
      m' ((c.tc : Thread Cert.AdamQkvReferenceIdeal.nD Cert.AdamQkvReferenceIdeal.τ).loc Cert.AdamQkvReferenceIdeal.main_arg0) = m ((c.tc : Thread Cert.AdamQkvIdeal.nD Cert.AdamQkvIdeal.τ).loc Cert.AdamQkvIdeal.main_arg0)
      ∧ m' ((c.tc : Thread Cert.AdamQkvReferenceIdeal.nD Cert.AdamQkvReferenceIdeal.τ).loc Cert.AdamQkvReferenceIdeal.main_arg1) = m ((c.tc : Thread Cert.AdamQkvIdeal.nD Cert.AdamQkvIdeal.τ).loc Cert.AdamQkvIdeal.main_arg1)
      ∧ m' ((c.tc : Thread Cert.AdamQkvReferenceIdeal.nD Cert.AdamQkvReferenceIdeal.τ).loc Cert.AdamQkvReferenceIdeal.main_arg2) = m ((c.tc : Thread Cert.AdamQkvIdeal.nD Cert.AdamQkvIdeal.τ).loc Cert.AdamQkvIdeal.main_arg2)
      ∧ m' ((c.tc : Thread Cert.AdamQkvReferenceIdeal.nD Cert.AdamQkvReferenceIdeal.τ).loc Cert.AdamQkvReferenceIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v5)) (v1 : (c : Dev Cert.AdamQkvIdeal.nD) → Buf (Elt Ideal) ((c.tc : Thread Cert.AdamQkvIdeal.nD Cert.AdamQkvIdeal.τ).loc Cert.AdamQkvIdeal.main_v6)) (v2 : (c : Dev Cert.AdamQkvIdeal.nD) → Buf (Elt Ideal) ((c.tc : Thread Cert.AdamQkvIdeal.nD Cert.AdamQkvIdeal.τ).loc Cert.AdamQkvIdeal.main_v7)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v5) = v0 c
          ∧ r.2.mem ((c.tc : Thread Cert.AdamQkvIdeal.nD Cert.AdamQkvIdeal.τ).loc Cert.AdamQkvIdeal.main_v6) = v1 c
          ∧ r.2.mem ((c.tc : Thread Cert.AdamQkvIdeal.nD Cert.AdamQkvIdeal.τ).loc Cert.AdamQkvIdeal.main_v7) = v2 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvReferenceIdeal.defs (F := Ideal)) (onTc (τ := Cert.AdamQkvReferenceIdeal.τ) (Cert.AdamQkvReferenceIdeal.main (F := Ideal))) ⟨m', fun _ => 0, g'⟩ (fun r => ∀ c : Dev Cert.AdamQkvReferenceIdeal.nD,
          r.2.mem ((c.tc : Thread Cert.AdamQkvReferenceIdeal.nD Cert.AdamQkvReferenceIdeal.τ).loc Cert.AdamQkvReferenceIdeal.main_v23) = v0 c
          ∧ r.2.mem ((c.tc : Thread Cert.AdamQkvReferenceIdeal.nD Cert.AdamQkvReferenceIdeal.τ).loc Cert.AdamQkvReferenceIdeal.main_v4) = v1 c
          ∧ r.2.mem ((c.tc : Thread Cert.AdamQkvReferenceIdeal.nD Cert.AdamQkvReferenceIdeal.τ).loc Cert.AdamQkvReferenceIdeal.main_v10) = v2 c
          ∧ r.2.mem ((c.tc : Thread Cert.AdamQkvReferenceIdeal.nD Cert.AdamQkvReferenceIdeal.τ).loc Cert.AdamQkvReferenceIdeal.main_arg0) = m' ((c.tc : Thread Cert.AdamQkvReferenceIdeal.nD Cert.AdamQkvReferenceIdeal.τ).loc Cert.AdamQkvReferenceIdeal.main_arg0)
          ∧ r.2.mem ((c.tc : Thread Cert.AdamQkvReferenceIdeal.nD Cert.AdamQkvReferenceIdeal.τ).loc Cert.AdamQkvReferenceIdeal.main_arg1) = m' ((c.tc : Thread Cert.AdamQkvReferenceIdeal.nD Cert.AdamQkvReferenceIdeal.τ).loc Cert.AdamQkvReferenceIdeal.main_arg1)
          ∧ r.2.mem ((c.tc : Thread Cert.AdamQkvReferenceIdeal.nD Cert.AdamQkvReferenceIdeal.τ).loc Cert.AdamQkvReferenceIdeal.main_arg2) = m' ((c.tc : Thread Cert.AdamQkvReferenceIdeal.nD Cert.AdamQkvReferenceIdeal.τ).loc Cert.AdamQkvReferenceIdeal.main_arg2)
          ∧ r.2.mem ((c.tc : Thread Cert.AdamQkvReferenceIdeal.nD Cert.AdamQkvReferenceIdeal.τ).loc Cert.AdamQkvReferenceIdeal.main_arg3) = m' ((c.tc : Thread Cert.AdamQkvReferenceIdeal.nD Cert.AdamQkvReferenceIdeal.τ).loc Cert.AdamQkvReferenceIdeal.main_arg3))

def preserves_AdamAttnOut_AdamAttnOutIdeal : Prop :=
  True

def algebraic_AdamAttnOutIdeal_AdamAttnOutReferenceIdeal [hAdamAttnOutIdeal : Cert.AdamAttnOutIdeal.Facts] [hAdamAttnOutReferenceIdeal : Cert.AdamAttnOutReferenceIdeal.Facts] : Prop :=
  ∀ (m : (ℓ : Loc Cert.AdamAttnOutIdeal.nD Cert.AdamAttnOutIdeal.τ Cert.AdamAttnOutIdeal.sig) → Buf (Elt Ideal) ℓ) (g : Dev Cert.AdamAttnOutIdeal.nD → PrngReg)
    (m' : (ℓ : Loc Cert.AdamAttnOutReferenceIdeal.nD Cert.AdamAttnOutReferenceIdeal.τ Cert.AdamAttnOutReferenceIdeal.sig) → Buf (Elt Ideal) ℓ) (g' : Dev Cert.AdamAttnOutReferenceIdeal.nD → PrngReg), Pre_AdamAttnOutIdeal m →
    (∀ c : Dev Cert.AdamAttnOutIdeal.nD,
      m' ((c.tc : Thread Cert.AdamAttnOutReferenceIdeal.nD Cert.AdamAttnOutReferenceIdeal.τ).loc Cert.AdamAttnOutReferenceIdeal.main_arg0) = m ((c.tc : Thread Cert.AdamAttnOutIdeal.nD Cert.AdamAttnOutIdeal.τ).loc Cert.AdamAttnOutIdeal.main_arg0)
      ∧ m' ((c.tc : Thread Cert.AdamAttnOutReferenceIdeal.nD Cert.AdamAttnOutReferenceIdeal.τ).loc Cert.AdamAttnOutReferenceIdeal.main_arg1) = m ((c.tc : Thread Cert.AdamAttnOutIdeal.nD Cert.AdamAttnOutIdeal.τ).loc Cert.AdamAttnOutIdeal.main_arg1)
      ∧ m' ((c.tc : Thread Cert.AdamAttnOutReferenceIdeal.nD Cert.AdamAttnOutReferenceIdeal.τ).loc Cert.AdamAttnOutReferenceIdeal.main_arg2) = m ((c.tc : Thread Cert.AdamAttnOutIdeal.nD Cert.AdamAttnOutIdeal.τ).loc Cert.AdamAttnOutIdeal.main_arg2)
      ∧ m' ((c.tc : Thread Cert.AdamAttnOutReferenceIdeal.nD Cert.AdamAttnOutReferenceIdeal.τ).loc Cert.AdamAttnOutReferenceIdeal.main_arg3) = m ((c.tc : Thread Cert.AdamAttnOutIdeal.nD Cert.AdamAttnOutIdeal.τ).loc Cert.AdamAttnOutIdeal.main_arg3)) →
    ∃ (v0 : (c : Dev Cert.AdamAttnOutIdeal.nD) → Buf (Elt Ideal) ((c.tc : Thread Cert.AdamAttnOutIdeal.nD Cert.AdamAttnOutIdeal.τ).loc Cert.AdamAttnOutIdeal.main_v5)) (v1 : (c : Dev Cert.AdamAttnOutIdeal.nD) → Buf (Elt Ideal) ((c.tc : Thread Cert.AdamAttnOutIdeal.nD Cert.AdamAttnOutIdeal.τ).loc Cert.AdamAttnOutIdeal.main_v6)) (v2 : (c : Dev Cert.AdamAttnOutIdeal.nD) → Buf (Elt Ideal) ((c.tc : Thread Cert.AdamAttnOutIdeal.nD Cert.AdamAttnOutIdeal.τ).loc Cert.AdamAttnOutIdeal.main_v7)),
      θ_run (Cert.AdamAttnOutIdeal.defs (F := Ideal)) (onTc (τ := Cert.AdamAttnOutIdeal.τ) (Cert.AdamAttnOutIdeal.main (F := Ideal))) ⟨m, fun _ => 0, g⟩ (fun r => ∀ c : Dev Cert.AdamAttnOutIdeal.nD,
          r.2.mem ((c.tc : Thread Cert.AdamAttnOutIdeal.nD Cert.AdamAttnOutIdeal.τ).loc Cert.AdamAttnOutIdeal.main_v5) = v0 c
          ∧ r.2.mem ((c.tc : Thread Cert.AdamAttnOutIdeal.nD Cert.AdamAttnOutIdeal.τ).loc Cert.AdamAttnOutIdeal.main_v6) = v1 c
          ∧ r.2.mem ((c.tc : Thread Cert.AdamAttnOutIdeal.nD Cert.AdamAttnOutIdeal.τ).loc Cert.AdamAttnOutIdeal.main_v7) = v2 c
          ∧ r.2.mem ((c.tc : Thread Cert.AdamAttnOutIdeal.nD Cert.AdamAttnOutIdeal.τ).loc Cert.AdamAttnOutIdeal.main_arg0) = m ((c.tc : Thread Cert.AdamAttnOutIdeal.nD Cert.AdamAttnOutIdeal.τ).loc Cert.AdamAttnOutIdeal.main_arg0)
          ∧ r.2.mem ((c.tc : Thread Cert.AdamAttnOutIdeal.nD Cert.AdamAttnOutIdeal.τ).loc Cert.AdamAttnOutIdeal.main_arg1) = m ((c.tc : Thread Cert.AdamAttnOutIdeal.nD Cert.AdamAttnOutIdeal.τ).loc Cert.AdamAttnOutIdeal.main_arg1)
          ∧ r.2.mem ((c.tc : Thread Cert.AdamAttnOutIdeal.nD Cert.AdamAttnOutIdeal.τ).loc Cert.AdamAttnOutIdeal.main_arg2) = m ((c.tc : Thread Cert.AdamAttnOutIdeal.nD Cert.AdamAttnOutIdeal.τ).loc Cert.AdamAttnOutIdeal.main_arg2)
          ∧ r.2.mem ((c.tc : Thread Cert.AdamAttnOutIdeal.nD Cert.AdamAttnOutIdeal.τ).loc Cert.AdamAttnOutIdeal.main_arg3) = m ((c.tc : Thread Cert.AdamAttnOutIdeal.nD Cert.AdamAttnOutIdeal.τ).loc Cert.AdamAttnOutIdeal.main_arg3))
      ∧ θ_run (Cert.AdamAttnOutReferenceIdeal.defs (F := Ideal)) (onTc (τ := Cert.AdamAttnOutReferenceIdeal.τ) (Cert.AdamAttnOutReferenceIdeal.main (F := Ideal))) ⟨m', fun _ => 0, g'⟩ (fun r => ∀ c : Dev Cert.AdamAttnOutReferenceIdeal.nD,
          r.2.mem ((c.tc : Thread Cert.AdamAttnOutReferenceIdeal.nD Cert.AdamAttnOutReferenceIdeal.τ).loc Cert.AdamAttnOutReferenceIdeal.main_v23) = v0 c
          ∧ r.2.mem ((c.tc : Thread Cert.AdamAttnOutReferenceIdeal.nD Cert.AdamAttnOutReferenceIdeal.τ).loc Cert.AdamAttnOutReferenceIdeal.main_v4) = v1 c
          ∧ r.2.mem ((c.tc : Thread Cert.AdamAttnOutReferenceIdeal.nD Cert.AdamAttnOutReferenceIdeal.τ).loc Cert.AdamAttnOutReferenceIdeal.main_v10) = v2 c
          ∧ r.2.mem ((c.tc : Thread Cert.AdamAttnOutReferenceIdeal.nD Cert.AdamAttnOutReferenceIdeal.τ).loc Cert.AdamAttnOutReferenceIdeal.main_arg0) = m' ((c.tc : Thread Cert.AdamAttnOutReferenceIdeal.nD Cert.AdamAttnOutReferenceIdeal.τ).loc Cert.AdamAttnOutReferenceIdeal.main_arg0)
          ∧ r.2.mem ((c.tc : Thread Cert.AdamAttnOutReferenceIdeal.nD Cert.AdamAttnOutReferenceIdeal.τ).loc Cert.AdamAttnOutReferenceIdeal.main_arg1) = m' ((c.tc : Thread Cert.AdamAttnOutReferenceIdeal.nD Cert.AdamAttnOutReferenceIdeal.τ).loc Cert.AdamAttnOutReferenceIdeal.main_arg1)
          ∧ r.2.mem ((c.tc : Thread Cert.AdamAttnOutReferenceIdeal.nD Cert.AdamAttnOutReferenceIdeal.τ).loc Cert.AdamAttnOutReferenceIdeal.main_arg2) = m' ((c.tc : Thread Cert.AdamAttnOutReferenceIdeal.nD Cert.AdamAttnOutReferenceIdeal.τ).loc Cert.AdamAttnOutReferenceIdeal.main_arg2)
          ∧ r.2.mem ((c.tc : Thread Cert.AdamAttnOutReferenceIdeal.nD Cert.AdamAttnOutReferenceIdeal.τ).loc Cert.AdamAttnOutReferenceIdeal.main_arg3) = m' ((c.tc : Thread Cert.AdamAttnOutReferenceIdeal.nD Cert.AdamAttnOutReferenceIdeal.τ).loc Cert.AdamAttnOutReferenceIdeal.main_arg3))

def preserves_AdamCond_AdamCondIdeal : Prop :=
  True

def algebraic_AdamCondIdeal_AdamCondReferenceIdeal [hAdamCondIdeal : Cert.AdamCondIdeal.Facts] [hAdamCondReferenceIdeal : Cert.AdamCondReferenceIdeal.Facts] : Prop :=
  ∀ (m : (ℓ : Loc Cert.AdamCondIdeal.nD Cert.AdamCondIdeal.τ Cert.AdamCondIdeal.sig) → Buf (Elt Ideal) ℓ) (g : Dev Cert.AdamCondIdeal.nD → PrngReg)
    (m' : (ℓ : Loc Cert.AdamCondReferenceIdeal.nD Cert.AdamCondReferenceIdeal.τ Cert.AdamCondReferenceIdeal.sig) → Buf (Elt Ideal) ℓ) (g' : Dev Cert.AdamCondReferenceIdeal.nD → PrngReg), Pre_AdamCondIdeal m →
    (∀ c : Dev Cert.AdamCondIdeal.nD,
      m' ((c.tc : Thread Cert.AdamCondReferenceIdeal.nD Cert.AdamCondReferenceIdeal.τ).loc Cert.AdamCondReferenceIdeal.main_arg0) = m ((c.tc : Thread Cert.AdamCondIdeal.nD Cert.AdamCondIdeal.τ).loc Cert.AdamCondIdeal.main_arg0)
      ∧ m' ((c.tc : Thread Cert.AdamCondReferenceIdeal.nD Cert.AdamCondReferenceIdeal.τ).loc Cert.AdamCondReferenceIdeal.main_arg1) = m ((c.tc : Thread Cert.AdamCondIdeal.nD Cert.AdamCondIdeal.τ).loc Cert.AdamCondIdeal.main_arg1)
      ∧ m' ((c.tc : Thread Cert.AdamCondReferenceIdeal.nD Cert.AdamCondReferenceIdeal.τ).loc Cert.AdamCondReferenceIdeal.main_arg2) = m ((c.tc : Thread Cert.AdamCondIdeal.nD Cert.AdamCondIdeal.τ).loc Cert.AdamCondIdeal.main_arg2)
      ∧ m' ((c.tc : Thread Cert.AdamCondReferenceIdeal.nD Cert.AdamCondReferenceIdeal.τ).loc Cert.AdamCondReferenceIdeal.main_arg3) = m ((c.tc : Thread Cert.AdamCondIdeal.nD Cert.AdamCondIdeal.τ).loc Cert.AdamCondIdeal.main_arg3)) →
    ∃ (v0 : (c : Dev Cert.AdamCondIdeal.nD) → Buf (Elt Ideal) ((c.tc : Thread Cert.AdamCondIdeal.nD Cert.AdamCondIdeal.τ).loc Cert.AdamCondIdeal.main_v0_0)) (v1 : (c : Dev Cert.AdamCondIdeal.nD) → Buf (Elt Ideal) ((c.tc : Thread Cert.AdamCondIdeal.nD Cert.AdamCondIdeal.τ).loc Cert.AdamCondIdeal.main_v0_1)) (v2 : (c : Dev Cert.AdamCondIdeal.nD) → Buf (Elt Ideal) ((c.tc : Thread Cert.AdamCondIdeal.nD Cert.AdamCondIdeal.τ).loc Cert.AdamCondIdeal.main_v0_2)),
      θ_run (Cert.AdamCondIdeal.defs (F := Ideal)) (onTc (τ := Cert.AdamCondIdeal.τ) (Cert.AdamCondIdeal.main (F := Ideal))) ⟨m, fun _ => 0, g⟩ (fun r => ∀ c : Dev Cert.AdamCondIdeal.nD,
          r.2.mem ((c.tc : Thread Cert.AdamCondIdeal.nD Cert.AdamCondIdeal.τ).loc Cert.AdamCondIdeal.main_v0_0) = v0 c
          ∧ r.2.mem ((c.tc : Thread Cert.AdamCondIdeal.nD Cert.AdamCondIdeal.τ).loc Cert.AdamCondIdeal.main_v0_1) = v1 c
          ∧ r.2.mem ((c.tc : Thread Cert.AdamCondIdeal.nD Cert.AdamCondIdeal.τ).loc Cert.AdamCondIdeal.main_v0_2) = v2 c
          ∧ r.2.mem ((c.tc : Thread Cert.AdamCondIdeal.nD Cert.AdamCondIdeal.τ).loc Cert.AdamCondIdeal.main_arg0) = m ((c.tc : Thread Cert.AdamCondIdeal.nD Cert.AdamCondIdeal.τ).loc Cert.AdamCondIdeal.main_arg0)
          ∧ r.2.mem ((c.tc : Thread Cert.AdamCondIdeal.nD Cert.AdamCondIdeal.τ).loc Cert.AdamCondIdeal.main_arg1) = m ((c.tc : Thread Cert.AdamCondIdeal.nD Cert.AdamCondIdeal.τ).loc Cert.AdamCondIdeal.main_arg1)
          ∧ r.2.mem ((c.tc : Thread Cert.AdamCondIdeal.nD Cert.AdamCondIdeal.τ).loc Cert.AdamCondIdeal.main_arg2) = m ((c.tc : Thread Cert.AdamCondIdeal.nD Cert.AdamCondIdeal.τ).loc Cert.AdamCondIdeal.main_arg2)
          ∧ r.2.mem ((c.tc : Thread Cert.AdamCondIdeal.nD Cert.AdamCondIdeal.τ).loc Cert.AdamCondIdeal.main_arg3) = m ((c.tc : Thread Cert.AdamCondIdeal.nD Cert.AdamCondIdeal.τ).loc Cert.AdamCondIdeal.main_arg3))
      ∧ θ_run (Cert.AdamCondReferenceIdeal.defs (F := Ideal)) (onTc (τ := Cert.AdamCondReferenceIdeal.τ) (Cert.AdamCondReferenceIdeal.main (F := Ideal))) ⟨m', fun _ => 0, g'⟩ (fun r => ∀ c : Dev Cert.AdamCondReferenceIdeal.nD,
          r.2.mem ((c.tc : Thread Cert.AdamCondReferenceIdeal.nD Cert.AdamCondReferenceIdeal.τ).loc Cert.AdamCondReferenceIdeal.main_v23) = v0 c
          ∧ r.2.mem ((c.tc : Thread Cert.AdamCondReferenceIdeal.nD Cert.AdamCondReferenceIdeal.τ).loc Cert.AdamCondReferenceIdeal.main_v4) = v1 c
          ∧ r.2.mem ((c.tc : Thread Cert.AdamCondReferenceIdeal.nD Cert.AdamCondReferenceIdeal.τ).loc Cert.AdamCondReferenceIdeal.main_v10) = v2 c
          ∧ r.2.mem ((c.tc : Thread Cert.AdamCondReferenceIdeal.nD Cert.AdamCondReferenceIdeal.τ).loc Cert.AdamCondReferenceIdeal.main_arg0) = m' ((c.tc : Thread Cert.AdamCondReferenceIdeal.nD Cert.AdamCondReferenceIdeal.τ).loc Cert.AdamCondReferenceIdeal.main_arg0)
          ∧ r.2.mem ((c.tc : Thread Cert.AdamCondReferenceIdeal.nD Cert.AdamCondReferenceIdeal.τ).loc Cert.AdamCondReferenceIdeal.main_arg1) = m' ((c.tc : Thread Cert.AdamCondReferenceIdeal.nD Cert.AdamCondReferenceIdeal.τ).loc Cert.AdamCondReferenceIdeal.main_arg1)
          ∧ r.2.mem ((c.tc : Thread Cert.AdamCondReferenceIdeal.nD Cert.AdamCondReferenceIdeal.τ).loc Cert.AdamCondReferenceIdeal.main_arg2) = m' ((c.tc : Thread Cert.AdamCondReferenceIdeal.nD Cert.AdamCondReferenceIdeal.τ).loc Cert.AdamCondReferenceIdeal.main_arg2)
          ∧ r.2.mem ((c.tc : Thread Cert.AdamCondReferenceIdeal.nD Cert.AdamCondReferenceIdeal.τ).loc Cert.AdamCondReferenceIdeal.main_arg3) = m' ((c.tc : Thread Cert.AdamCondReferenceIdeal.nD Cert.AdamCondReferenceIdeal.τ).loc Cert.AdamCondReferenceIdeal.main_arg3))

def preserves_AdamAda_AdamAdaIdeal : Prop :=
  True

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v5)) (v1 : (c : Dev Cert.AdamAdaIdeal.nD) → Buf (Elt Ideal) ((c.tc : Thread Cert.AdamAdaIdeal.nD Cert.AdamAdaIdeal.τ).loc Cert.AdamAdaIdeal.main_v6)) (v2 : (c : Dev Cert.AdamAdaIdeal.nD) → Buf (Elt Ideal) ((c.tc : Thread Cert.AdamAdaIdeal.nD Cert.AdamAdaIdeal.τ).loc Cert.AdamAdaIdeal.main_v7)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v5) = v0 c
          ∧ r.2.mem ((c.tc : Thread Cert.AdamAdaIdeal.nD Cert.AdamAdaIdeal.τ).loc Cert.AdamAdaIdeal.main_v6) = v1 c
          ∧ r.2.mem ((c.tc : Thread Cert.AdamAdaIdeal.nD Cert.AdamAdaIdeal.τ).loc Cert.AdamAdaIdeal.main_v7) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v23) = v0 c
          ∧ r.2.mem ((c.tc : Thread Cert.AdamAdaReferenceIdeal.nD Cert.AdamAdaReferenceIdeal.τ).loc Cert.AdamAdaReferenceIdeal.main_v4) = v1 c
          ∧ r.2.mem ((c.tc : Thread Cert.AdamAdaReferenceIdeal.nD Cert.AdamAdaReferenceIdeal.τ).loc Cert.AdamAdaReferenceIdeal.main_v10) = v2 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)
      ∧ m' ((c.tc : Thread Cert.AdamSmallReferenceIdeal.nD Cert.AdamSmallReferenceIdeal.τ).loc Cert.AdamSmallReferenceIdeal.main_arg4) = m ((c.tc : Thread Cert.AdamSmallIdeal.nD Cert.AdamSmallIdeal.τ).loc Cert.AdamSmallIdeal.main_arg4)
      ∧ m' ((c.tc : Thread Cert.AdamSmallReferenceIdeal.nD Cert.AdamSmallReferenceIdeal.τ).loc Cert.AdamSmallReferenceIdeal.main_arg5) = m ((c.tc : Thread Cert.AdamSmallIdeal.nD Cert.AdamSmallIdeal.τ).loc Cert.AdamSmallIdeal.main_arg5)
      ∧ m' ((c.tc : Thread Cert.AdamSmallReferenceIdeal.nD Cert.AdamSmallReferenceIdeal.τ).loc Cert.AdamSmallReferenceIdeal.main_arg6) = m ((c.tc : Thread Cert.AdamSmallIdeal.nD Cert.AdamSmallIdeal.τ).loc Cert.AdamSmallIdeal.main_arg6)
      ∧ m' ((c.tc : Thread Cert.AdamSmallReferenceIdeal.nD Cert.AdamSmallReferenceIdeal.τ).loc Cert.AdamSmallReferenceIdeal.main_arg7) = m ((c.tc : Thread Cert.AdamSmallIdeal.nD Cert.AdamSmallIdeal.τ).loc Cert.AdamSmallIdeal.main_arg7)
      ∧ m' ((c.tc : Thread Cert.AdamSmallReferenceIdeal.nD Cert.AdamSmallReferenceIdeal.τ).loc Cert.AdamSmallReferenceIdeal.main_arg8) = m ((c.tc : Thread Cert.AdamSmallIdeal.nD Cert.AdamSmallIdeal.τ).loc Cert.AdamSmallIdeal.main_arg8)
      ∧ m' ((c.tc : Thread Cert.AdamSmallReferenceIdeal.nD Cert.AdamSmallReferenceIdeal.τ).loc Cert.AdamSmallReferenceIdeal.main_arg9) = m ((c.tc : Thread Cert.AdamSmallIdeal.nD Cert.AdamSmallIdeal.τ).loc Cert.AdamSmallIdeal.main_arg9)
      ∧ m' ((c.tc : Thread Cert.AdamSmallReferenceIdeal.nD Cert.AdamSmallReferenceIdeal.τ).loc Cert.AdamSmallReferenceIdeal.main_arg10) = m ((c.tc : Thread Cert.AdamSmallIdeal.nD Cert.AdamSmallIdeal.τ).loc Cert.AdamSmallIdeal.main_arg10)
      ∧ m' ((c.tc : Thread Cert.AdamSmallReferenceIdeal.nD Cert.AdamSmallReferenceIdeal.τ).loc Cert.AdamSmallReferenceIdeal.main_arg11) = m ((c.tc : Thread Cert.AdamSmallIdeal.nD Cert.AdamSmallIdeal.τ).loc Cert.AdamSmallIdeal.main_arg11)
      ∧ m' ((c.tc : Thread Cert.AdamSmallReferenceIdeal.nD Cert.AdamSmallReferenceIdeal.τ).loc Cert.AdamSmallReferenceIdeal.main_arg12) = m ((c.tc : Thread Cert.AdamSmallIdeal.nD Cert.AdamSmallIdeal.τ).loc Cert.AdamSmallIdeal.main_arg12)
      ∧ m' ((c.tc : Thread Cert.AdamSmallReferenceIdeal.nD Cert.AdamSmallReferenceIdeal.τ).loc Cert.AdamSmallReferenceIdeal.main_arg13) = m ((c.tc : Thread Cert.AdamSmallIdeal.nD Cert.AdamSmallIdeal.τ).loc Cert.AdamSmallIdeal.main_arg13)
      ∧ m' ((c.tc : Thread Cert.AdamSmallReferenceIdeal.nD Cert.AdamSmallReferenceIdeal.τ).loc Cert.AdamSmallReferenceIdeal.main_arg14) = m ((c.tc : Thread Cert.AdamSmallIdeal.nD Cert.AdamSmallIdeal.τ).loc Cert.AdamSmallIdeal.main_arg14)
      ∧ m' ((c.tc : Thread Cert.AdamSmallReferenceIdeal.nD Cert.AdamSmallReferenceIdeal.τ).loc Cert.AdamSmallReferenceIdeal.main_arg15) = m ((c.tc : Thread Cert.AdamSmallIdeal.nD Cert.AdamSmallIdeal.τ).loc Cert.AdamSmallIdeal.main_arg15)
      ∧ m' ((c.tc : Thread Cert.AdamSmallReferenceIdeal.nD Cert.AdamSmallReferenceIdeal.τ).loc Cert.AdamSmallReferenceIdeal.main_arg16) = m ((c.tc : Thread Cert.AdamSmallIdeal.nD Cert.AdamSmallIdeal.τ).loc Cert.AdamSmallIdeal.main_arg16)
      ∧ m' ((c.tc : Thread Cert.AdamSmallReferenceIdeal.nD Cert.AdamSmallReferenceIdeal.τ).loc Cert.AdamSmallReferenceIdeal.main_arg17) = m ((c.tc : Thread Cert.AdamSmallIdeal.nD Cert.AdamSmallIdeal.τ).loc Cert.AdamSmallIdeal.main_arg17)
      ∧ m' ((c.tc : Thread Cert.AdamSmallReferenceIdeal.nD Cert.AdamSmallReferenceIdeal.τ).loc Cert.AdamSmallReferenceIdeal.main_arg18) = m ((c.tc : Thread Cert.AdamSmallIdeal.nD Cert.AdamSmallIdeal.τ).loc Cert.AdamSmallIdeal.main_arg18)
      ∧ m' ((c.tc : Thread Cert.AdamSmallReferenceIdeal.nD Cert.AdamSmallReferenceIdeal.τ).loc Cert.AdamSmallReferenceIdeal.main_arg19) = m ((c.tc : Thread Cert.AdamSmallIdeal.nD Cert.AdamSmallIdeal.τ).loc Cert.AdamSmallIdeal.main_arg19)
      ∧ m' ((c.tc : Thread Cert.AdamSmallReferenceIdeal.nD Cert.AdamSmallReferenceIdeal.τ).loc Cert.AdamSmallReferenceIdeal.main_arg20) = m ((c.tc : Thread Cert.AdamSmallIdeal.nD Cert.AdamSmallIdeal.τ).loc Cert.AdamSmallIdeal.main_arg20)
      ∧ m' ((c.tc : Thread Cert.AdamSmallReferenceIdeal.nD Cert.AdamSmallReferenceIdeal.τ).loc Cert.AdamSmallReferenceIdeal.main_arg21) = m ((c.tc : Thread Cert.AdamSmallIdeal.nD Cert.AdamSmallIdeal.τ).loc Cert.AdamSmallIdeal.main_arg21)
      ∧ m' ((c.tc : Thread Cert.AdamSmallReferenceIdeal.nD Cert.AdamSmallReferenceIdeal.τ).loc Cert.AdamSmallReferenceIdeal.main_arg22) = m ((c.tc : Thread Cert.AdamSmallIdeal.nD Cert.AdamSmallIdeal.τ).loc Cert.AdamSmallIdeal.main_arg22)
      ∧ m' ((c.tc : Thread Cert.AdamSmallReferenceIdeal.nD Cert.AdamSmallReferenceIdeal.τ).loc Cert.AdamSmallReferenceIdeal.main_arg23) = m ((c.tc : Thread Cert.AdamSmallIdeal.nD Cert.AdamSmallIdeal.τ).loc Cert.AdamSmallIdeal.main_arg23)
      ∧ m' ((c.tc : Thread Cert.AdamSmallReferenceIdeal.nD Cert.AdamSmallReferenceIdeal.τ).loc Cert.AdamSmallReferenceIdeal.main_arg24) = m ((c.tc : Thread Cert.AdamSmallIdeal.nD Cert.AdamSmallIdeal.τ).loc Cert.AdamSmallIdeal.main_arg24)
      ∧ m' ((c.tc : Thread Cert.AdamSmallReferenceIdeal.nD Cert.AdamSmallReferenceIdeal.τ).loc Cert.AdamSmallReferenceIdeal.main_arg25) = m ((c.tc : Thread Cert.AdamSmallIdeal.nD Cert.AdamSmallIdeal.τ).loc Cert.AdamSmallIdeal.main_arg25)
      ∧ m' ((c.tc : Thread Cert.AdamSmallReferenceIdeal.nD Cert.AdamSmallReferenceIdeal.τ).loc Cert.AdamSmallReferenceIdeal.main_arg26) = m ((c.tc : Thread Cert.AdamSmallIdeal.nD Cert.AdamSmallIdeal.τ).loc Cert.AdamSmallIdeal.main_arg26)
      ∧ m' ((c.tc : Thread Cert.AdamSmallReferenceIdeal.nD Cert.AdamSmallReferenceIdeal.τ).loc Cert.AdamSmallReferenceIdeal.main_arg27) = m ((c.tc : Thread Cert.AdamSmallIdeal.nD Cert.AdamSmallIdeal.τ).loc Cert.AdamSmallIdeal.main_arg27)
      ∧ m' ((c.tc : Thread Cert.AdamSmallReferenceIdeal.nD Cert.AdamSmallReferenceIdeal.τ).loc Cert.AdamSmallReferenceIdeal.main_arg28) = m ((c.tc : Thread Cert.AdamSmallIdeal.nD Cert.AdamSmallIdeal.τ).loc Cert.AdamSmallIdeal.main_arg28)
      ∧ m' ((c.tc : Thread Cert.AdamSmallReferenceIdeal.nD Cert.AdamSmallReferenceIdeal.τ).loc Cert.AdamSmallReferenceIdeal.main_arg29) = m ((c.tc : Thread Cert.AdamSmallIdeal.nD Cert.AdamSmallIdeal.τ).loc Cert.AdamSmallIdeal.main_arg29)
      ∧ m' ((c.tc : Thread Cert.AdamSmallReferenceIdeal.nD Cert.AdamSmallReferenceIdeal.τ).loc Cert.AdamSmallReferenceIdeal.main_arg30) = m ((c.tc : Thread Cert.AdamSmallIdeal.nD Cert.AdamSmallIdeal.τ).loc Cert.AdamSmallIdeal.main_arg30)
      ∧ m' ((c.tc : Thread Cert.AdamSmallReferenceIdeal.nD Cert.AdamSmallReferenceIdeal.τ).loc Cert.AdamSmallReferenceIdeal.main_arg31) = m ((c.tc : Thread Cert.AdamSmallIdeal.nD Cert.AdamSmallIdeal.τ).loc Cert.AdamSmallIdeal.main_arg31)
      ∧ m' ((c.tc : Thread Cert.AdamSmallReferenceIdeal.nD Cert.AdamSmallReferenceIdeal.τ).loc Cert.AdamSmallReferenceIdeal.main_arg32) = m ((c.tc : Thread Cert.AdamSmallIdeal.nD Cert.AdamSmallIdeal.τ).loc Cert.AdamSmallIdeal.main_arg32)
      ∧ m' ((c.tc : Thread Cert.AdamSmallReferenceIdeal.nD Cert.AdamSmallReferenceIdeal.τ).loc Cert.AdamSmallReferenceIdeal.main_arg33) = m ((c.tc : Thread Cert.AdamSmallIdeal.nD Cert.AdamSmallIdeal.τ).loc Cert.AdamSmallIdeal.main_arg33)
      ∧ m' ((c.tc : Thread Cert.AdamSmallReferenceIdeal.nD Cert.AdamSmallReferenceIdeal.τ).loc Cert.AdamSmallReferenceIdeal.main_arg34) = m ((c.tc : Thread Cert.AdamSmallIdeal.nD Cert.AdamSmallIdeal.τ).loc Cert.AdamSmallIdeal.main_arg34)
      ∧ m' ((c.tc : Thread Cert.AdamSmallReferenceIdeal.nD Cert.AdamSmallReferenceIdeal.τ).loc Cert.AdamSmallReferenceIdeal.main_arg35) = m ((c.tc : Thread Cert.AdamSmallIdeal.nD Cert.AdamSmallIdeal.τ).loc Cert.AdamSmallIdeal.main_arg35)
      ∧ m' ((c.tc : Thread Cert.AdamSmallReferenceIdeal.nD Cert.AdamSmallReferenceIdeal.τ).loc Cert.AdamSmallReferenceIdeal.main_arg36) = m ((c.tc : Thread Cert.AdamSmallIdeal.nD Cert.AdamSmallIdeal.τ).loc Cert.AdamSmallIdeal.main_arg36)
      ∧ m' ((c.tc : Thread Cert.AdamSmallReferenceIdeal.nD Cert.AdamSmallReferenceIdeal.τ).loc Cert.AdamSmallReferenceIdeal.main_arg37) = m ((c.tc : Thread Cert.AdamSmallIdeal.nD Cert.AdamSmallIdeal.τ).loc Cert.AdamSmallIdeal.main_arg37)
      ∧ m' ((c.tc : Thread Cert.AdamSmallReferenceIdeal.nD Cert.AdamSmallReferenceIdeal.τ).loc Cert.AdamSmallReferenceIdeal.main_arg38) = m ((c.tc : Thread Cert.AdamSmallIdeal.nD Cert.AdamSmallIdeal.τ).loc Cert.AdamSmallIdeal.main_arg38)
      ∧ m' ((c.tc : Thread Cert.AdamSmallReferenceIdeal.nD Cert.AdamSmallReferenceIdeal.τ).loc Cert.AdamSmallReferenceIdeal.main_arg39) = m ((c.tc : Thread Cert.AdamSmallIdeal.nD Cert.AdamSmallIdeal.τ).loc Cert.AdamSmallIdeal.main_arg39)
      ∧ m' ((c.tc : Thread Cert.AdamSmallReferenceIdeal.nD Cert.AdamSmallReferenceIdeal.τ).loc Cert.AdamSmallReferenceIdeal.main_arg40) = m ((c.tc : Thread Cert.AdamSmallIdeal.nD Cert.AdamSmallIdeal.τ).loc Cert.AdamSmallIdeal.main_arg40)
      ∧ m' ((c.tc : Thread Cert.AdamSmallReferenceIdeal.nD Cert.AdamSmallReferenceIdeal.τ).loc Cert.AdamSmallReferenceIdeal.main_arg41) = m ((c.tc : Thread Cert.AdamSmallIdeal.nD Cert.AdamSmallIdeal.τ).loc Cert.AdamSmallIdeal.main_arg41)
      ∧ m' ((c.tc : Thread Cert.AdamSmallReferenceIdeal.nD Cert.AdamSmallReferenceIdeal.τ).loc Cert.AdamSmallReferenceIdeal.main_arg42) = m ((c.tc : Thread Cert.AdamSmallIdeal.nD Cert.AdamSmallIdeal.τ).loc Cert.AdamSmallIdeal.main_arg42)
      ∧ m' ((c.tc : Thread Cert.AdamSmallReferenceIdeal.nD Cert.AdamSmallReferenceIdeal.τ).loc Cert.AdamSmallReferenceIdeal.main_arg43) = m ((c.tc : Thread Cert.AdamSmallIdeal.nD Cert.AdamSmallIdeal.τ).loc Cert.AdamSmallIdeal.main_arg43)
      ∧ m' ((c.tc : Thread Cert.AdamSmallReferenceIdeal.nD Cert.AdamSmallReferenceIdeal.τ).loc Cert.AdamSmallReferenceIdeal.main_arg44) = m ((c.tc : Thread Cert.AdamSmallIdeal.nD Cert.AdamSmallIdeal.τ).loc Cert.AdamSmallIdeal.main_arg44)
      ∧ m' ((c.tc : Thread Cert.AdamSmallReferenceIdeal.nD Cert.AdamSmallReferenceIdeal.τ).loc Cert.AdamSmallReferenceIdeal.main_arg45) = m ((c.tc : Thread Cert.AdamSmallIdeal.nD Cert.AdamSmallIdeal.τ).loc Cert.AdamSmallIdeal.main_arg45)
      ∧ m' ((c.tc : Thread Cert.AdamSmallReferenceIdeal.nD Cert.AdamSmallReferenceIdeal.τ).loc Cert.AdamSmallReferenceIdeal.main_arg46) = m ((c.tc : Thread Cert.AdamSmallIdeal.nD Cert.AdamSmallIdeal.τ).loc Cert.AdamSmallIdeal.main_arg46)
      ∧ m' ((c.tc : Thread Cert.AdamSmallReferenceIdeal.nD Cert.AdamSmallReferenceIdeal.τ).loc Cert.AdamSmallReferenceIdeal.main_arg47) = m ((c.tc : Thread Cert.AdamSmallIdeal.nD Cert.AdamSmallIdeal.τ).loc Cert.AdamSmallIdeal.main_arg47)
      ∧ m' ((c.tc : Thread Cert.AdamSmallReferenceIdeal.nD Cert.AdamSmallReferenceIdeal.τ).loc Cert.AdamSmallReferenceIdeal.main_arg48) = m ((c.tc : Thread Cert.AdamSmallIdeal.nD Cert.AdamSmallIdeal.τ).loc Cert.AdamSmallIdeal.main_arg48)
      ∧ m' ((c.tc : Thread Cert.AdamSmallReferenceIdeal.nD Cert.AdamSmallReferenceIdeal.τ).loc Cert.AdamSmallReferenceIdeal.main_arg49) = m ((c.tc : Thread Cert.AdamSmallIdeal.nD Cert.AdamSmallIdeal.τ).loc Cert.AdamSmallIdeal.main_arg49)
      ∧ m' ((c.tc : Thread Cert.AdamSmallReferenceIdeal.nD Cert.AdamSmallReferenceIdeal.τ).loc Cert.AdamSmallReferenceIdeal.main_arg50) = m ((c.tc : Thread Cert.AdamSmallIdeal.nD Cert.AdamSmallIdeal.τ).loc Cert.AdamSmallIdeal.main_arg50)
      ∧ m' ((c.tc : Thread Cert.AdamSmallReferenceIdeal.nD Cert.AdamSmallReferenceIdeal.τ).loc Cert.AdamSmallReferenceIdeal.main_arg51) = m ((c.tc : Thread Cert.AdamSmallIdeal.nD Cert.AdamSmallIdeal.τ).loc Cert.AdamSmallIdeal.main_arg51)
      ∧ m' ((c.tc : Thread Cert.AdamSmallReferenceIdeal.nD Cert.AdamSmallReferenceIdeal.τ).loc Cert.AdamSmallReferenceIdeal.main_arg52) = m ((c.tc : Thread Cert.AdamSmallIdeal.nD Cert.AdamSmallIdeal.τ).loc Cert.AdamSmallIdeal.main_arg52)
      ∧ m' ((c.tc : Thread Cert.AdamSmallReferenceIdeal.nD Cert.AdamSmallReferenceIdeal.τ).loc Cert.AdamSmallReferenceIdeal.main_arg53) = m ((c.tc : Thread Cert.AdamSmallIdeal.nD Cert.AdamSmallIdeal.τ).loc Cert.AdamSmallIdeal.main_arg53)
      ∧ m' ((c.tc : Thread Cert.AdamSmallReferenceIdeal.nD Cert.AdamSmallReferenceIdeal.τ).loc Cert.AdamSmallReferenceIdeal.main_arg54) = m ((c.tc : Thread Cert.AdamSmallIdeal.nD Cert.AdamSmallIdeal.τ).loc Cert.AdamSmallIdeal.main_arg54)
      ∧ m' ((c.tc : Thread Cert.AdamSmallReferenceIdeal.nD Cert.AdamSmallReferenceIdeal.τ).loc Cert.AdamSmallReferenceIdeal.main_arg55) = m ((c.tc : Thread Cert.AdamSmallIdeal.nD Cert.AdamSmallIdeal.τ).loc Cert.AdamSmallIdeal.main_arg55)) →
    ∃ (v0 : (c : Dev Cert.AdamSmallIdeal.nD) → Buf (Elt Ideal) ((c.tc : Thread Cert.AdamSmallIdeal.nD Cert.AdamSmallIdeal.τ).loc Cert.AdamSmallIdeal.main_v67)) (v1 : (c : Dev Cert.AdamSmallIdeal.nD) → Buf (Elt Ideal) ((c.tc : Thread Cert.AdamSmallIdeal.nD Cert.AdamSmallIdeal.τ).loc Cert.AdamSmallIdeal.main_v69)) (v2 : (c : Dev Cert.AdamSmallIdeal.nD) → Buf (Elt Ideal) ((c.tc : Thread Cert.AdamSmallIdeal.nD Cert.AdamSmallIdeal.τ).loc Cert.AdamSmallIdeal.main_v71)) (v3 : (c : Dev Cert.AdamSmallIdeal.nD) → Buf (Elt Ideal) ((c.tc : Thread Cert.AdamSmallIdeal.nD Cert.AdamSmallIdeal.τ).loc Cert.AdamSmallIdeal.main_v73)) (v4 : (c : Dev Cert.AdamSmallIdeal.nD) → Buf (Elt Ideal) ((c.tc : Thread Cert.AdamSmallIdeal.nD Cert.AdamSmallIdeal.τ).loc Cert.AdamSmallIdeal.main_v75)) (v5 : (c : Dev Cert.AdamSmallIdeal.nD) → Buf (Elt Ideal) ((c.tc : Thread Cert.AdamSmallIdeal.nD Cert.AdamSmallIdeal.τ).loc Cert.AdamSmallIdeal.main_v77)) (v6 : (c : Dev Cert.AdamSmallIdeal.nD) → Buf (Elt Ideal) ((c.tc : Thread Cert.AdamSmallIdeal.nD Cert.AdamSmallIdeal.τ).loc Cert.AdamSmallIdeal.main_v79)) (v7 : (c : Dev Cert.AdamSmallIdeal.nD) → Buf (Elt Ideal) ((c.tc : Thread Cert.AdamSmallIdeal.nD Cert.AdamSmallIdeal.τ).loc Cert.AdamSmallIdeal.main_v81)) (v8 : (c : Dev Cert.AdamSmallIdeal.nD) → Buf (Elt Ideal) ((c.tc : Thread Cert.AdamSmallIdeal.nD Cert.AdamSmallIdeal.τ).loc Cert.AdamSmallIdeal.main_v83)) (v9 : (c : Dev Cert.AdamSmallIdeal.nD) → Buf (Elt Ideal) ((c.tc : Thread Cert.AdamSmallIdeal.nD Cert.AdamSmallIdeal.τ).loc Cert.AdamSmallIdeal.main_v85)) (v10 : (c : Dev Cert.AdamSmallIdeal.nD) → Buf (Elt Ideal) ((c.tc : Thread Cert.AdamSmallIdeal.nD Cert.AdamSmallIdeal.τ).loc Cert.AdamSmallIdeal.main_v86)) (v11 : (c : Dev Cert.AdamSmallIdeal.nD) → Buf (Elt Ideal) ((c.tc : Thread Cert.AdamSmallIdeal.nD Cert.AdamSmallIdeal.τ).loc Cert.AdamSmallIdeal.main_v88)) (v12 : (c : Dev Cert.AdamSmallIdeal.nD) → Buf (Elt Ideal) ((c.tc : Thread Cert.AdamSmallIdeal.nD Cert.AdamSmallIdeal.τ).loc Cert.AdamSmallIdeal.main_v90)) (v13 : (c : Dev Cert.AdamSmallIdeal.nD) → Buf (Elt Ideal) ((c.tc : Thread Cert.AdamSmallIdeal.nD Cert.AdamSmallIdeal.τ).loc Cert.AdamSmallIdeal.main_v92)) (v14 : (c : Dev Cert.AdamSmallIdeal.nD) → Buf (Elt Ideal) ((c.tc : Thread Cert.AdamSmallIdeal.nD Cert.AdamSmallIdeal.τ).loc Cert.AdamSmallIdeal.main_v95)) (v15 : (c : Dev Cert.AdamSmallIdeal.nD) → Buf (Elt Ideal) ((c.tc : Thread Cert.AdamSmallIdeal.nD Cert.AdamSmallIdeal.τ).loc Cert.AdamSmallIdeal.main_v97)) (v16 : (c : Dev Cert.AdamSmallIdeal.nD) → Buf (Elt Ideal) ((c.tc : Thread Cert.AdamSmallIdeal.nD Cert.AdamSmallIdeal.τ).loc Cert.AdamSmallIdeal.main_v99)) (v17 : (c : Dev Cert.AdamSmallIdeal.nD) → Buf (Elt Ideal) ((c.tc : Thread Cert.AdamSmallIdeal.nD Cert.AdamSmallIdeal.τ).loc Cert.AdamSmallIdeal.main_v101)) (v18 : (c : Dev Cert.AdamSmallIdeal.nD) → Buf (Elt Ideal) ((c.tc : Thread Cert.AdamSmallIdeal.nD Cert.AdamSmallIdeal.τ).loc Cert.AdamSmallIdeal.main_v103)) (v19 : (c : Dev Cert.AdamSmallIdeal.nD) → Buf (Elt Ideal) ((c.tc : Thread Cert.AdamSmallIdeal.nD Cert.AdamSmallIdeal.τ).loc Cert.AdamSmallIdeal.main_v105)) (v20 : (c : Dev Cert.AdamSmallIdeal.nD) → Buf (Elt Ideal) ((c.tc : Thread Cert.AdamSmallIdeal.nD Cert.AdamSmallIdeal.τ).loc Cert.AdamSmallIdeal.main_v107)) (v21 : (c : Dev Cert.AdamSmallIdeal.nD) → Buf (Elt Ideal) ((c.tc : Thread Cert.AdamSmallIdeal.nD Cert.AdamSmallIdeal.τ).loc Cert.AdamSmallIdeal.main_v109)) (v22 : (c : Dev Cert.AdamSmallIdeal.nD) → Buf (Elt Ideal) ((c.tc : Thread Cert.AdamSmallIdeal.nD Cert.AdamSmallIdeal.τ).loc Cert.AdamSmallIdeal.main_v111)) (v23 : (c : Dev Cert.AdamSmallIdeal.nD) → Buf (Elt Ideal) ((c.tc : Thread Cert.AdamSmallIdeal.nD Cert.AdamSmallIdeal.τ).loc Cert.AdamSmallIdeal.main_v113)) (v24 : (c : Dev Cert.AdamSmallIdeal.nD) → Buf (Elt Ideal) ((c.tc : Thread Cert.AdamSmallIdeal.nD Cert.AdamSmallIdeal.τ).loc Cert.AdamSmallIdeal.main_v114)) (v25 : (c : Dev Cert.AdamSmallIdeal.nD) → Buf (Elt Ideal) ((c.tc : Thread Cert.AdamSmallIdeal.nD Cert.AdamSmallIdeal.τ).loc Cert.AdamSmallIdeal.main_v116)) (v26 : (c : Dev Cert.AdamSmallIdeal.nD) → Buf (Elt Ideal) ((c.tc : Thread Cert.AdamSmallIdeal.nD Cert.AdamSmallIdeal.τ).loc Cert.AdamSmallIdeal.main_v118)) (v27 : (c : Dev Cert.AdamSmallIdeal.nD) → Buf (Elt Ideal) ((c.tc : Thread Cert.AdamSmallIdeal.nD Cert.AdamSmallIdeal.τ).loc Cert.AdamSmallIdeal.main_v120)) (v28 : (c : Dev Cert.AdamSmallIdeal.nD) → Buf (Elt Ideal) ((c.tc : Thread Cert.AdamSmallIdeal.nD Cert.AdamSmallIdeal.τ).loc Cert.AdamSmallIdeal.main_v123)) (v29 : (c : Dev Cert.AdamSmallIdeal.nD) → Buf (Elt Ideal) ((c.tc : Thread Cert.AdamSmallIdeal.nD Cert.AdamSmallIdeal.τ).loc Cert.AdamSmallIdeal.main_v125)) (v30 : (c : Dev Cert.AdamSmallIdeal.nD) → Buf (Elt Ideal) ((c.tc : Thread Cert.AdamSmallIdeal.nD Cert.AdamSmallIdeal.τ).loc Cert.AdamSmallIdeal.main_v127)) (v31 : (c : Dev Cert.AdamSmallIdeal.nD) → Buf (Elt Ideal) ((c.tc : Thread Cert.AdamSmallIdeal.nD Cert.AdamSmallIdeal.τ).loc Cert.AdamSmallIdeal.main_v129)) (v32 : (c : Dev Cert.AdamSmallIdeal.nD) → Buf (Elt Ideal) ((c.tc : Thread Cert.AdamSmallIdeal.nD Cert.AdamSmallIdeal.τ).loc Cert.AdamSmallIdeal.main_v131)) (v33 : (c : Dev Cert.AdamSmallIdeal.nD) → Buf (Elt Ideal) ((c.tc : Thread Cert.AdamSmallIdeal.nD Cert.AdamSmallIdeal.τ).loc Cert.AdamSmallIdeal.main_v133)) (v34 : (c : Dev Cert.AdamSmallIdeal.nD) → Buf (Elt Ideal) ((c.tc : Thread Cert.AdamSmallIdeal.nD Cert.AdamSmallIdeal.τ).loc Cert.AdamSmallIdeal.main_v135)) (v35 : (c : Dev Cert.AdamSmallIdeal.nD) → Buf (Elt Ideal) ((c.tc : Thread Cert.AdamSmallIdeal.nD Cert.AdamSmallIdeal.τ).loc Cert.AdamSmallIdeal.main_v137)) (v36 : (c : Dev Cert.AdamSmallIdeal.nD) → Buf (Elt Ideal) ((c.tc : Thread Cert.AdamSmallIdeal.nD Cert.AdamSmallIdeal.τ).loc Cert.AdamSmallIdeal.main_v139)) (v37 : (c : Dev Cert.AdamSmallIdeal.nD) → Buf (Elt Ideal) ((c.tc : Thread Cert.AdamSmallIdeal.nD Cert.AdamSmallIdeal.τ).loc Cert.AdamSmallIdeal.main_v141)) (v38 : (c : Dev Cert.AdamSmallIdeal.nD) → Buf (Elt Ideal) ((c.tc : Thread Cert.AdamSmallIdeal.nD Cert.AdamSmallIdeal.τ).loc Cert.AdamSmallIdeal.main_v142)) (v39 : (c : Dev Cert.AdamSmallIdeal.nD) → Buf (Elt Ideal) ((c.tc : Thread Cert.AdamSmallIdeal.nD Cert.AdamSmallIdeal.τ).loc Cert.AdamSmallIdeal.main_v144)) (v40 : (c : Dev Cert.AdamSmallIdeal.nD) → Buf (Elt Ideal) ((c.tc : Thread Cert.AdamSmallIdeal.nD Cert.AdamSmallIdeal.τ).loc Cert.AdamSmallIdeal.main_v146)) (v41 : (c : Dev Cert.AdamSmallIdeal.nD) → Buf (Elt Ideal) ((c.tc : Thread Cert.AdamSmallIdeal.nD Cert.AdamSmallIdeal.τ).loc Cert.AdamSmallIdeal.main_v148)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v67) = v0 c
          ∧ r.2.mem ((c.tc : Thread Cert.AdamSmallIdeal.nD Cert.AdamSmallIdeal.τ).loc Cert.AdamSmallIdeal.main_v69) = v1 c
          ∧ r.2.mem ((c.tc : Thread Cert.AdamSmallIdeal.nD Cert.AdamSmallIdeal.τ).loc Cert.AdamSmallIdeal.main_v71) = v2 c
          ∧ r.2.mem ((c.tc : Thread Cert.AdamSmallIdeal.nD Cert.AdamSmallIdeal.τ).loc Cert.AdamSmallIdeal.main_v73) = v3 c
          ∧ r.2.mem ((c.tc : Thread Cert.AdamSmallIdeal.nD Cert.AdamSmallIdeal.τ).loc Cert.AdamSmallIdeal.main_v75) = v4 c
          ∧ r.2.mem ((c.tc : Thread Cert.AdamSmallIdeal.nD Cert.AdamSmallIdeal.τ).loc Cert.AdamSmallIdeal.main_v77) = v5 c
          ∧ r.2.mem ((c.tc : Thread Cert.AdamSmallIdeal.nD Cert.AdamSmallIdeal.τ).loc Cert.AdamSmallIdeal.main_v79) = v6 c
          ∧ r.2.mem ((c.tc : Thread Cert.AdamSmallIdeal.nD Cert.AdamSmallIdeal.τ).loc Cert.AdamSmallIdeal.main_v81) = v7 c
          ∧ r.2.mem ((c.tc : Thread Cert.AdamSmallIdeal.nD Cert.AdamSmallIdeal.τ).loc Cert.AdamSmallIdeal.main_v83) = v8 c
          ∧ r.2.mem ((c.tc : Thread Cert.AdamSmallIdeal.nD Cert.AdamSmallIdeal.τ).loc Cert.AdamSmallIdeal.main_v85) = v9 c
          ∧ r.2.mem ((c.tc : Thread Cert.AdamSmallIdeal.nD Cert.AdamSmallIdeal.τ).loc Cert.AdamSmallIdeal.main_v86) = v10 c
          ∧ r.2.mem ((c.tc : Thread Cert.AdamSmallIdeal.nD Cert.AdamSmallIdeal.τ).loc Cert.AdamSmallIdeal.main_v88) = v11 c
          ∧ r.2.mem ((c.tc : Thread Cert.AdamSmallIdeal.nD Cert.AdamSmallIdeal.τ).loc Cert.AdamSmallIdeal.main_v90) = v12 c
          ∧ r.2.mem ((c.tc : Thread Cert.AdamSmallIdeal.nD Cert.AdamSmallIdeal.τ).loc Cert.AdamSmallIdeal.main_v92) = v13 c
          ∧ r.2.mem ((c.tc : Thread Cert.AdamSmallIdeal.nD Cert.AdamSmallIdeal.τ).loc Cert.AdamSmallIdeal.main_v95) = v14 c
          ∧ r.2.mem ((c.tc : Thread Cert.AdamSmallIdeal.nD Cert.AdamSmallIdeal.τ).loc Cert.AdamSmallIdeal.main_v97) = v15 c
          ∧ r.2.mem ((c.tc : Thread Cert.AdamSmallIdeal.nD Cert.AdamSmallIdeal.τ).loc Cert.AdamSmallIdeal.main_v99) = v16 c
          ∧ r.2.mem ((c.tc : Thread Cert.AdamSmallIdeal.nD Cert.AdamSmallIdeal.τ).loc Cert.AdamSmallIdeal.main_v101) = v17 c
          ∧ r.2.mem ((c.tc : Thread Cert.AdamSmallIdeal.nD Cert.AdamSmallIdeal.τ).loc Cert.AdamSmallIdeal.main_v103) = v18 c
          ∧ r.2.mem ((c.tc : Thread Cert.AdamSmallIdeal.nD Cert.AdamSmallIdeal.τ).loc Cert.AdamSmallIdeal.main_v105) = v19 c
          ∧ r.2.mem ((c.tc : Thread Cert.AdamSmallIdeal.nD Cert.AdamSmallIdeal.τ).loc Cert.AdamSmallIdeal.main_v107) = v20 c
          ∧ r.2.mem ((c.tc : Thread Cert.AdamSmallIdeal.nD Cert.AdamSmallIdeal.τ).loc Cert.AdamSmallIdeal.main_v109) = v21 c
          ∧ r.2.mem ((c.tc : Thread Cert.AdamSmallIdeal.nD Cert.AdamSmallIdeal.τ).loc Cert.AdamSmallIdeal.main_v111) = v22 c
          ∧ r.2.mem ((c.tc : Thread Cert.AdamSmallIdeal.nD Cert.AdamSmallIdeal.τ).loc Cert.AdamSmallIdeal.main_v113) = v23 c
          ∧ r.2.mem ((c.tc : Thread Cert.AdamSmallIdeal.nD Cert.AdamSmallIdeal.τ).loc Cert.AdamSmallIdeal.main_v114) = v24 c
          ∧ r.2.mem ((c.tc : Thread Cert.AdamSmallIdeal.nD Cert.AdamSmallIdeal.τ).loc Cert.AdamSmallIdeal.main_v116) = v25 c
          ∧ r.2.mem ((c.tc : Thread Cert.AdamSmallIdeal.nD Cert.AdamSmallIdeal.τ).loc Cert.AdamSmallIdeal.main_v118) = v26 c
          ∧ r.2.mem ((c.tc : Thread Cert.AdamSmallIdeal.nD Cert.AdamSmallIdeal.τ).loc Cert.AdamSmallIdeal.main_v120) = v27 c
          ∧ r.2.mem ((c.tc : Thread Cert.AdamSmallIdeal.nD Cert.AdamSmallIdeal.τ).loc Cert.AdamSmallIdeal.main_v123) = v28 c
          ∧ r.2.mem ((c.tc : Thread Cert.AdamSmallIdeal.nD Cert.AdamSmallIdeal.τ).loc Cert.AdamSmallIdeal.main_v125) = v29 c
          ∧ r.2.mem ((c.tc : Thread Cert.AdamSmallIdeal.nD Cert.AdamSmallIdeal.τ).loc Cert.AdamSmallIdeal.main_v127) = v30 c
          ∧ r.2.mem ((c.tc : Thread Cert.AdamSmallIdeal.nD Cert.AdamSmallIdeal.τ).loc Cert.AdamSmallIdeal.main_v129) = v31 c
          ∧ r.2.mem ((c.tc : Thread Cert.AdamSmallIdeal.nD Cert.AdamSmallIdeal.τ).loc Cert.AdamSmallIdeal.main_v131) = v32 c
          ∧ r.2.mem ((c.tc : Thread Cert.AdamSmallIdeal.nD Cert.AdamSmallIdeal.τ).loc Cert.AdamSmallIdeal.main_v133) = v33 c
          ∧ r.2.mem ((c.tc : Thread Cert.AdamSmallIdeal.nD Cert.AdamSmallIdeal.τ).loc Cert.AdamSmallIdeal.main_v135) = v34 c
          ∧ r.2.mem ((c.tc : Thread Cert.AdamSmallIdeal.nD Cert.AdamSmallIdeal.τ).loc Cert.AdamSmallIdeal.main_v137) = v35 c
          ∧ r.2.mem ((c.tc : Thread Cert.AdamSmallIdeal.nD Cert.AdamSmallIdeal.τ).loc Cert.AdamSmallIdeal.main_v139) = v36 c
          ∧ r.2.mem ((c.tc : Thread Cert.AdamSmallIdeal.nD Cert.AdamSmallIdeal.τ).loc Cert.AdamSmallIdeal.main_v141) = v37 c
          ∧ r.2.mem ((c.tc : Thread Cert.AdamSmallIdeal.nD Cert.AdamSmallIdeal.τ).loc Cert.AdamSmallIdeal.main_v142) = v38 c
          ∧ r.2.mem ((c.tc : Thread Cert.AdamSmallIdeal.nD Cert.AdamSmallIdeal.τ).loc Cert.AdamSmallIdeal.main_v144) = v39 c
          ∧ r.2.mem ((c.tc : Thread Cert.AdamSmallIdeal.nD Cert.AdamSmallIdeal.τ).loc Cert.AdamSmallIdeal.main_v146) = v40 c
          ∧ r.2.mem ((c.tc : Thread Cert.AdamSmallIdeal.nD Cert.AdamSmallIdeal.τ).loc Cert.AdamSmallIdeal.main_v148) = v41 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v47) = v1 c
          ∧ r.2.mem ((c.tc : Thread Cert.AdamSmallReferenceIdeal.nD Cert.AdamSmallReferenceIdeal.τ).loc Cert.AdamSmallReferenceIdeal.main_v71) = v2 c
          ∧ r.2.mem ((c.tc : Thread Cert.AdamSmallReferenceIdeal.nD Cert.AdamSmallReferenceIdeal.τ).loc Cert.AdamSmallReferenceIdeal.main_v95) = v3 c
          ∧ r.2.mem ((c.tc : Thread Cert.AdamSmallReferenceIdeal.nD Cert.AdamSmallReferenceIdeal.τ).loc Cert.AdamSmallReferenceIdeal.main_v119) = v4 c
          ∧ r.2.mem ((c.tc : Thread Cert.AdamSmallReferenceIdeal.nD Cert.AdamSmallReferenceIdeal.τ).loc Cert.AdamSmallReferenceIdeal.main_v143) = v5 c
          ∧ r.2.mem ((c.tc : Thread Cert.AdamSmallReferenceIdeal.nD Cert.AdamSmallReferenceIdeal.τ).loc Cert.AdamSmallReferenceIdeal.main_v167) = v6 c
          ∧ r.2.mem ((c.tc : Thread Cert.AdamSmallReferenceIdeal.nD Cert.AdamSmallReferenceIdeal.τ).loc Cert.AdamSmallReferenceIdeal.main_v191) = v7 c
          ∧ r.2.mem ((c.tc : Thread Cert.AdamSmallReferenceIdeal.nD Cert.AdamSmallReferenceIdeal.τ).loc Cert.AdamSmallReferenceIdeal.main_v215) = v8 c
          ∧ r.2.mem ((c.tc : Thread Cert.AdamSmallReferenceIdeal.nD Cert.AdamSmallReferenceIdeal.τ).loc Cert.AdamSmallReferenceIdeal.main_v239) = v9 c
          ∧ r.2.mem ((c.tc : Thread Cert.AdamSmallReferenceIdeal.nD Cert.AdamSmallReferenceIdeal.τ).loc Cert.AdamSmallReferenceIdeal.main_v263) = v10 c
          ∧ r.2.mem ((c.tc : Thread Cert.AdamSmallReferenceIdeal.nD Cert.AdamSmallReferenceIdeal.τ).loc Cert.AdamSmallReferenceIdeal.main_v287) = v11 c
          ∧ r.2.mem ((c.tc : Thread Cert.AdamSmallReferenceIdeal.nD Cert.AdamSmallReferenceIdeal.τ).loc Cert.AdamSmallReferenceIdeal.main_v311) = v12 c
          ∧ r.2.mem ((c.tc : Thread Cert.AdamSmallReferenceIdeal.nD Cert.AdamSmallReferenceIdeal.τ).loc Cert.AdamSmallReferenceIdeal.main_v335) = v13 c
          ∧ r.2.mem ((c.tc : Thread Cert.AdamSmallReferenceIdeal.nD Cert.AdamSmallReferenceIdeal.τ).loc Cert.AdamSmallReferenceIdeal.main_v4) = v14 c
          ∧ r.2.mem ((c.tc : Thread Cert.AdamSmallReferenceIdeal.nD Cert.AdamSmallReferenceIdeal.τ).loc Cert.AdamSmallReferenceIdeal.main_v28) = v15 c
          ∧ r.2.mem ((c.tc : Thread Cert.AdamSmallReferenceIdeal.nD Cert.AdamSmallReferenceIdeal.τ).loc Cert.AdamSmallReferenceIdeal.main_v52) = v16 c
          ∧ r.2.mem ((c.tc : Thread Cert.AdamSmallReferenceIdeal.nD Cert.AdamSmallReferenceIdeal.τ).loc Cert.AdamSmallReferenceIdeal.main_v76) = v17 c
          ∧ r.2.mem ((c.tc : Thread Cert.AdamSmallReferenceIdeal.nD Cert.AdamSmallReferenceIdeal.τ).loc Cert.AdamSmallReferenceIdeal.main_v100) = v18 c
          ∧ r.2.mem ((c.tc : Thread Cert.AdamSmallReferenceIdeal.nD Cert.AdamSmallReferenceIdeal.τ).loc Cert.AdamSmallReferenceIdeal.main_v124) = v19 c
          ∧ r.2.mem ((c.tc : Thread Cert.AdamSmallReferenceIdeal.nD Cert.AdamSmallReferenceIdeal.τ).loc Cert.AdamSmallReferenceIdeal.main_v148) = v20 c
          ∧ r.2.mem ((c.tc : Thread Cert.AdamSmallReferenceIdeal.nD Cert.AdamSmallReferenceIdeal.τ).loc Cert.AdamSmallReferenceIdeal.main_v172) = v21 c
          ∧ r.2.mem ((c.tc : Thread Cert.AdamSmallReferenceIdeal.nD Cert.AdamSmallReferenceIdeal.τ).loc Cert.AdamSmallReferenceIdeal.main_v196) = v22 c
          ∧ r.2.mem ((c.tc : Thread Cert.AdamSmallReferenceIdeal.nD Cert.AdamSmallReferenceIdeal.τ).loc Cert.AdamSmallReferenceIdeal.main_v220) = v23 c
          ∧ r.2.mem ((c.tc : Thread Cert.AdamSmallReferenceIdeal.nD Cert.AdamSmallReferenceIdeal.τ).loc Cert.AdamSmallReferenceIdeal.main_v244) = v24 c
          ∧ r.2.mem ((c.tc : Thread Cert.AdamSmallReferenceIdeal.nD Cert.AdamSmallReferenceIdeal.τ).loc Cert.AdamSmallReferenceIdeal.main_v268) = v25 c
          ∧ r.2.mem ((c.tc : Thread Cert.AdamSmallReferenceIdeal.nD Cert.AdamSmallReferenceIdeal.τ).loc Cert.AdamSmallReferenceIdeal.main_v292) = v26 c
          ∧ r.2.mem ((c.tc : Thread Cert.AdamSmallReferenceIdeal.nD Cert.AdamSmallReferenceIdeal.τ).loc Cert.AdamSmallReferenceIdeal.main_v316) = v27 c
          ∧ r.2.mem ((c.tc : Thread Cert.AdamSmallReferenceIdeal.nD Cert.AdamSmallReferenceIdeal.τ).loc Cert.AdamSmallReferenceIdeal.main_v10) = v28 c
          ∧ r.2.mem ((c.tc : Thread Cert.AdamSmallReferenceIdeal.nD Cert.AdamSmallReferenceIdeal.τ).loc Cert.AdamSmallReferenceIdeal.main_v34) = v29 c
          ∧ r.2.mem ((c.tc : Thread Cert.AdamSmallReferenceIdeal.nD Cert.AdamSmallReferenceIdeal.τ).loc Cert.AdamSmallReferenceIdeal.main_v58) = v30 c
          ∧ r.2.mem ((c.tc : Thread Cert.AdamSmallReferenceIdeal.nD Cert.AdamSmallReferenceIdeal.τ).loc Cert.AdamSmallReferenceIdeal.main_v82) = v31 c
          ∧ r.2.mem ((c.tc : Thread Cert.AdamSmallReferenceIdeal.nD Cert.AdamSmallReferenceIdeal.τ).loc Cert.AdamSmallReferenceIdeal.main_v106) = v32 c
          ∧ r.2.mem ((c.tc : Thread Cert.AdamSmallReferenceIdeal.nD Cert.AdamSmallReferenceIdeal.τ).loc Cert.AdamSmallReferenceIdeal.main_v130) = v33 c
          ∧ r.2.mem ((c.tc : Thread Cert.AdamSmallReferenceIdeal.nD Cert.AdamSmallReferenceIdeal.τ).loc Cert.AdamSmallReferenceIdeal.main_v154) = v34 c
          ∧ r.2.mem ((c.tc : Thread Cert.AdamSmallReferenceIdeal.nD Cert.AdamSmallReferenceIdeal.τ).loc Cert.AdamSmallReferenceIdeal.main_v178) = v35 c
          ∧ r.2.mem ((c.tc : Thread Cert.AdamSmallReferenceIdeal.nD Cert.AdamSmallReferenceIdeal.τ).loc Cert.AdamSmallReferenceIdeal.main_v202) = v36 c
          ∧ r.2.mem ((c.tc : Thread Cert.AdamSmallReferenceIdeal.nD Cert.AdamSmallReferenceIdeal.τ).loc Cert.AdamSmallReferenceIdeal.main_v226) = v37 c
          ∧ r.2.mem ((c.tc : Thread Cert.AdamSmallReferenceIdeal.nD Cert.AdamSmallReferenceIdeal.τ).loc Cert.AdamSmallReferenceIdeal.main_v250) = v38 c
          ∧ r.2.mem ((c.tc : Thread Cert.AdamSmallReferenceIdeal.nD Cert.AdamSmallReferenceIdeal.τ).loc Cert.AdamSmallReferenceIdeal.main_v274) = v39 c
          ∧ r.2.mem ((c.tc : Thread Cert.AdamSmallReferenceIdeal.nD Cert.AdamSmallReferenceIdeal.τ).loc Cert.AdamSmallReferenceIdeal.main_v298) = v40 c
          ∧ r.2.mem ((c.tc : Thread Cert.AdamSmallReferenceIdeal.nD Cert.AdamSmallReferenceIdeal.τ).loc Cert.AdamSmallReferenceIdeal.main_v322) = v41 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3)
          ∧ r.2.mem ((c.tc : Thread Cert.AdamSmallReferenceIdeal.nD Cert.AdamSmallReferenceIdeal.τ).loc Cert.AdamSmallReferenceIdeal.main_arg4) = m' ((c.tc : Thread Cert.AdamSmallReferenceIdeal.nD Cert.AdamSmallReferenceIdeal.τ).loc Cert.AdamSmallReferenceIdeal.main_arg4)
          ∧ r.2.mem ((c.tc : Thread Cert.AdamSmallReferenceIdeal.nD Cert.AdamSmallReferenceIdeal.τ).loc Cert.AdamSmallReferenceIdeal.main_arg5) = m' ((c.tc : Thread Cert.AdamSmallReferenceIdeal.nD Cert.AdamSmallReferenceIdeal.τ).loc Cert.AdamSmallReferenceIdeal.main_arg5)
          ∧ r.2.mem ((c.tc : Thread Cert.AdamSmallReferenceIdeal.nD Cert.AdamSmallReferenceIdeal.τ).loc Cert.AdamSmallReferenceIdeal.main_arg6) = m' ((c.tc : Thread Cert.AdamSmallReferenceIdeal.nD Cert.AdamSmallReferenceIdeal.τ).loc Cert.AdamSmallReferenceIdeal.main_arg6)
          ∧ r.2.mem ((c.tc : Thread Cert.AdamSmallReferenceIdeal.nD Cert.AdamSmallReferenceIdeal.τ).loc Cert.AdamSmallReferenceIdeal.main_arg7) = m' ((c.tc : Thread Cert.AdamSmallReferenceIdeal.nD Cert.AdamSmallReferenceIdeal.τ).loc Cert.AdamSmallReferenceIdeal.main_arg7)
          ∧ r.2.mem ((c.tc : Thread Cert.AdamSmallReferenceIdeal.nD Cert.AdamSmallReferenceIdeal.τ).loc Cert.AdamSmallReferenceIdeal.main_arg8) = m' ((c.tc : Thread Cert.AdamSmallReferenceIdeal.nD Cert.AdamSmallReferenceIdeal.τ).loc Cert.AdamSmallReferenceIdeal.main_arg8)
          ∧ r.2.mem ((c.tc : Thread Cert.AdamSmallReferenceIdeal.nD Cert.AdamSmallReferenceIdeal.τ).loc Cert.AdamSmallReferenceIdeal.main_arg9) = m' ((c.tc : Thread Cert.AdamSmallReferenceIdeal.nD Cert.AdamSmallReferenceIdeal.τ).loc Cert.AdamSmallReferenceIdeal.main_arg9)
          ∧ r.2.mem ((c.tc : Thread Cert.AdamSmallReferenceIdeal.nD Cert.AdamSmallReferenceIdeal.τ).loc Cert.AdamSmallReferenceIdeal.main_arg10) = m' ((c.tc : Thread Cert.AdamSmallReferenceIdeal.nD Cert.AdamSmallReferenceIdeal.τ).loc Cert.AdamSmallReferenceIdeal.main_arg10)
          ∧ r.2.mem ((c.tc : Thread Cert.AdamSmallReferenceIdeal.nD Cert.AdamSmallReferenceIdeal.τ).loc Cert.AdamSmallReferenceIdeal.main_arg11) = m' ((c.tc : Thread Cert.AdamSmallReferenceIdeal.nD Cert.AdamSmallReferenceIdeal.τ).loc Cert.AdamSmallReferenceIdeal.main_arg11)
          ∧ r.2.mem ((c.tc : Thread Cert.AdamSmallReferenceIdeal.nD Cert.AdamSmallReferenceIdeal.τ).loc Cert.AdamSmallReferenceIdeal.main_arg12) = m' ((c.tc : Thread Cert.AdamSmallReferenceIdeal.nD Cert.AdamSmallReferenceIdeal.τ).loc Cert.AdamSmallReferenceIdeal.main_arg12)
          ∧ r.2.mem ((c.tc : Thread Cert.AdamSmallReferenceIdeal.nD Cert.AdamSmallReferenceIdeal.τ).loc Cert.AdamSmallReferenceIdeal.main_arg13) = m' ((c.tc : Thread Cert.AdamSmallReferenceIdeal.nD Cert.AdamSmallReferenceIdeal.τ).loc Cert.AdamSmallReferenceIdeal.main_arg13)
          ∧ r.2.mem ((c.tc : Thread Cert.AdamSmallReferenceIdeal.nD Cert.AdamSmallReferenceIdeal.τ).loc Cert.AdamSmallReferenceIdeal.main_arg14) = m' ((c.tc : Thread Cert.AdamSmallReferenceIdeal.nD Cert.AdamSmallReferenceIdeal.τ).loc Cert.AdamSmallReferenceIdeal.main_arg14)
          ∧ r.2.mem ((c.tc : Thread Cert.AdamSmallReferenceIdeal.nD Cert.AdamSmallReferenceIdeal.τ).loc Cert.AdamSmallReferenceIdeal.main_arg15) = m' ((c.tc : Thread Cert.AdamSmallReferenceIdeal.nD Cert.AdamSmallReferenceIdeal.τ).loc Cert.AdamSmallReferenceIdeal.main_arg15)
          ∧ r.2.mem ((c.tc : Thread Cert.AdamSmallReferenceIdeal.nD Cert.AdamSmallReferenceIdeal.τ).loc Cert.AdamSmallReferenceIdeal.main_arg16) = m' ((c.tc : Thread Cert.AdamSmallReferenceIdeal.nD Cert.AdamSmallReferenceIdeal.τ).loc Cert.AdamSmallReferenceIdeal.main_arg16)
          ∧ r.2.mem ((c.tc : Thread Cert.AdamSmallReferenceIdeal.nD Cert.AdamSmallReferenceIdeal.τ).loc Cert.AdamSmallReferenceIdeal.main_arg17) = m' ((c.tc : Thread Cert.AdamSmallReferenceIdeal.nD Cert.AdamSmallReferenceIdeal.τ).loc Cert.AdamSmallReferenceIdeal.main_arg17)
          ∧ r.2.mem ((c.tc : Thread Cert.AdamSmallReferenceIdeal.nD Cert.AdamSmallReferenceIdeal.τ).loc Cert.AdamSmallReferenceIdeal.main_arg18) = m' ((c.tc : Thread Cert.AdamSmallReferenceIdeal.nD Cert.AdamSmallReferenceIdeal.τ).loc Cert.AdamSmallReferenceIdeal.main_arg18)
          ∧ r.2.mem ((c.tc : Thread Cert.AdamSmallReferenceIdeal.nD Cert.AdamSmallReferenceIdeal.τ).loc Cert.AdamSmallReferenceIdeal.main_arg19) = m' ((c.tc : Thread Cert.AdamSmallReferenceIdeal.nD Cert.AdamSmallReferenceIdeal.τ).loc Cert.AdamSmallReferenceIdeal.main_arg19)
          ∧ r.2.mem ((c.tc : Thread Cert.AdamSmallReferenceIdeal.nD Cert.AdamSmallReferenceIdeal.τ).loc Cert.AdamSmallReferenceIdeal.main_arg20) = m' ((c.tc : Thread Cert.AdamSmallReferenceIdeal.nD Cert.AdamSmallReferenceIdeal.τ).loc Cert.AdamSmallReferenceIdeal.main_arg20)
          ∧ r.2.mem ((c.tc : Thread Cert.AdamSmallReferenceIdeal.nD Cert.AdamSmallReferenceIdeal.τ).loc Cert.AdamSmallReferenceIdeal.main_arg21) = m' ((c.tc : Thread Cert.AdamSmallReferenceIdeal.nD Cert.AdamSmallReferenceIdeal.τ).loc Cert.AdamSmallReferenceIdeal.main_arg21)
          ∧ r.2.mem ((c.tc : Thread Cert.AdamSmallReferenceIdeal.nD Cert.AdamSmallReferenceIdeal.τ).loc Cert.AdamSmallReferenceIdeal.main_arg22) = m' ((c.tc : Thread Cert.AdamSmallReferenceIdeal.nD Cert.AdamSmallReferenceIdeal.τ).loc Cert.AdamSmallReferenceIdeal.main_arg22)
          ∧ r.2.mem ((c.tc : Thread Cert.AdamSmallReferenceIdeal.nD Cert.AdamSmallReferenceIdeal.τ).loc Cert.AdamSmallReferenceIdeal.main_arg23) = m' ((c.tc : Thread Cert.AdamSmallReferenceIdeal.nD Cert.AdamSmallReferenceIdeal.τ).loc Cert.AdamSmallReferenceIdeal.main_arg23)
          ∧ r.2.mem ((c.tc : Thread Cert.AdamSmallReferenceIdeal.nD Cert.AdamSmallReferenceIdeal.τ).loc Cert.AdamSmallReferenceIdeal.main_arg24) = m' ((c.tc : Thread Cert.AdamSmallReferenceIdeal.nD Cert.AdamSmallReferenceIdeal.τ).loc Cert.AdamSmallReferenceIdeal.main_arg24)
          ∧ r.2.mem ((c.tc : Thread Cert.AdamSmallReferenceIdeal.nD Cert.AdamSmallReferenceIdeal.τ).loc Cert.AdamSmallReferenceIdeal.main_arg25) = m' ((c.tc : Thread Cert.AdamSmallReferenceIdeal.nD Cert.AdamSmallReferenceIdeal.τ).loc Cert.AdamSmallReferenceIdeal.main_arg25)
          ∧ r.2.mem ((c.tc : Thread Cert.AdamSmallReferenceIdeal.nD Cert.AdamSmallReferenceIdeal.τ).loc Cert.AdamSmallReferenceIdeal.main_arg26) = m' ((c.tc : Thread Cert.AdamSmallReferenceIdeal.nD Cert.AdamSmallReferenceIdeal.τ).loc Cert.AdamSmallReferenceIdeal.main_arg26)
          ∧ r.2.mem ((c.tc : Thread Cert.AdamSmallReferenceIdeal.nD Cert.AdamSmallReferenceIdeal.τ).loc Cert.AdamSmallReferenceIdeal.main_arg27) = m' ((c.tc : Thread Cert.AdamSmallReferenceIdeal.nD Cert.AdamSmallReferenceIdeal.τ).loc Cert.AdamSmallReferenceIdeal.main_arg27)
          ∧ r.2.mem ((c.tc : Thread Cert.AdamSmallReferenceIdeal.nD Cert.AdamSmallReferenceIdeal.τ).loc Cert.AdamSmallReferenceIdeal.main_arg28) = m' ((c.tc : Thread Cert.AdamSmallReferenceIdeal.nD Cert.AdamSmallReferenceIdeal.τ).loc Cert.AdamSmallReferenceIdeal.main_arg28)
          ∧ r.2.mem ((c.tc : Thread Cert.AdamSmallReferenceIdeal.nD Cert.AdamSmallReferenceIdeal.τ).loc Cert.AdamSmallReferenceIdeal.main_arg29) = m' ((c.tc : Thread Cert.AdamSmallReferenceIdeal.nD Cert.AdamSmallReferenceIdeal.τ).loc Cert.AdamSmallReferenceIdeal.main_arg29)
          ∧ r.2.mem ((c.tc : Thread Cert.AdamSmallReferenceIdeal.nD Cert.AdamSmallReferenceIdeal.τ).loc Cert.AdamSmallReferenceIdeal.main_arg30) = m' ((c.tc : Thread Cert.AdamSmallReferenceIdeal.nD Cert.AdamSmallReferenceIdeal.τ).loc Cert.AdamSmallReferenceIdeal.main_arg30)
          ∧ r.2.mem ((c.tc : Thread Cert.AdamSmallReferenceIdeal.nD Cert.AdamSmallReferenceIdeal.τ).loc Cert.AdamSmallReferenceIdeal.main_arg31) = m' ((c.tc : Thread Cert.AdamSmallReferenceIdeal.nD Cert.AdamSmallReferenceIdeal.τ).loc Cert.AdamSmallReferenceIdeal.main_arg31)
          ∧ r.2.mem ((c.tc : Thread Cert.AdamSmallReferenceIdeal.nD Cert.AdamSmallReferenceIdeal.τ).loc Cert.AdamSmallReferenceIdeal.main_arg32) = m' ((c.tc : Thread Cert.AdamSmallReferenceIdeal.nD Cert.AdamSmallReferenceIdeal.τ).loc Cert.AdamSmallReferenceIdeal.main_arg32)
          ∧ r.2.mem ((c.tc : Thread Cert.AdamSmallReferenceIdeal.nD Cert.AdamSmallReferenceIdeal.τ).loc Cert.AdamSmallReferenceIdeal.main_arg33) = m' ((c.tc : Thread Cert.AdamSmallReferenceIdeal.nD Cert.AdamSmallReferenceIdeal.τ).loc Cert.AdamSmallReferenceIdeal.main_arg33)
          ∧ r.2.mem ((c.tc : Thread Cert.AdamSmallReferenceIdeal.nD Cert.AdamSmallReferenceIdeal.τ).loc Cert.AdamSmallReferenceIdeal.main_arg34) = m' ((c.tc : Thread Cert.AdamSmallReferenceIdeal.nD Cert.AdamSmallReferenceIdeal.τ).loc Cert.AdamSmallReferenceIdeal.main_arg34)
          ∧ r.2.mem ((c.tc : Thread Cert.AdamSmallReferenceIdeal.nD Cert.AdamSmallReferenceIdeal.τ).loc Cert.AdamSmallReferenceIdeal.main_arg35) = m' ((c.tc : Thread Cert.AdamSmallReferenceIdeal.nD Cert.AdamSmallReferenceIdeal.τ).loc Cert.AdamSmallReferenceIdeal.main_arg35)
          ∧ r.2.mem ((c.tc : Thread Cert.AdamSmallReferenceIdeal.nD Cert.AdamSmallReferenceIdeal.τ).loc Cert.AdamSmallReferenceIdeal.main_arg36) = m' ((c.tc : Thread Cert.AdamSmallReferenceIdeal.nD Cert.AdamSmallReferenceIdeal.τ).loc Cert.AdamSmallReferenceIdeal.main_arg36)
          ∧ r.2.mem ((c.tc : Thread Cert.AdamSmallReferenceIdeal.nD Cert.AdamSmallReferenceIdeal.τ).loc Cert.AdamSmallReferenceIdeal.main_arg37) = m' ((c.tc : Thread Cert.AdamSmallReferenceIdeal.nD Cert.AdamSmallReferenceIdeal.τ).loc Cert.AdamSmallReferenceIdeal.main_arg37)
          ∧ r.2.mem ((c.tc : Thread Cert.AdamSmallReferenceIdeal.nD Cert.AdamSmallReferenceIdeal.τ).loc Cert.AdamSmallReferenceIdeal.main_arg38) = m' ((c.tc : Thread Cert.AdamSmallReferenceIdeal.nD Cert.AdamSmallReferenceIdeal.τ).loc Cert.AdamSmallReferenceIdeal.main_arg38)
          ∧ r.2.mem ((c.tc : Thread Cert.AdamSmallReferenceIdeal.nD Cert.AdamSmallReferenceIdeal.τ).loc Cert.AdamSmallReferenceIdeal.main_arg39) = m' ((c.tc : Thread Cert.AdamSmallReferenceIdeal.nD Cert.AdamSmallReferenceIdeal.τ).loc Cert.AdamSmallReferenceIdeal.main_arg39)
          ∧ r.2.mem ((c.tc : Thread Cert.AdamSmallReferenceIdeal.nD Cert.AdamSmallReferenceIdeal.τ).loc Cert.AdamSmallReferenceIdeal.main_arg40) = m' ((c.tc : Thread Cert.AdamSmallReferenceIdeal.nD Cert.AdamSmallReferenceIdeal.τ).loc Cert.AdamSmallReferenceIdeal.main_arg40)
          ∧ r.2.mem ((c.tc : Thread Cert.AdamSmallReferenceIdeal.nD Cert.AdamSmallReferenceIdeal.τ).loc Cert.AdamSmallReferenceIdeal.main_arg41) = m' ((c.tc : Thread Cert.AdamSmallReferenceIdeal.nD Cert.AdamSmallReferenceIdeal.τ).loc Cert.AdamSmallReferenceIdeal.main_arg41)
          ∧ r.2.mem ((c.tc : Thread Cert.AdamSmallReferenceIdeal.nD Cert.AdamSmallReferenceIdeal.τ).loc Cert.AdamSmallReferenceIdeal.main_arg42) = m' ((c.tc : Thread Cert.AdamSmallReferenceIdeal.nD Cert.AdamSmallReferenceIdeal.τ).loc Cert.AdamSmallReferenceIdeal.main_arg42)
          ∧ r.2.mem ((c.tc : Thread Cert.AdamSmallReferenceIdeal.nD Cert.AdamSmallReferenceIdeal.τ).loc Cert.AdamSmallReferenceIdeal.main_arg43) = m' ((c.tc : Thread Cert.AdamSmallReferenceIdeal.nD Cert.AdamSmallReferenceIdeal.τ).loc Cert.AdamSmallReferenceIdeal.main_arg43)
          ∧ r.2.mem ((c.tc : Thread Cert.AdamSmallReferenceIdeal.nD Cert.AdamSmallReferenceIdeal.τ).loc Cert.AdamSmallReferenceIdeal.main_arg44) = m' ((c.tc : Thread Cert.AdamSmallReferenceIdeal.nD Cert.AdamSmallReferenceIdeal.τ).loc Cert.AdamSmallReferenceIdeal.main_arg44)
          ∧ r.2.mem ((c.tc : Thread Cert.AdamSmallReferenceIdeal.nD Cert.AdamSmallReferenceIdeal.τ).loc Cert.AdamSmallReferenceIdeal.main_arg45) = m' ((c.tc : Thread Cert.AdamSmallReferenceIdeal.nD Cert.AdamSmallReferenceIdeal.τ).loc Cert.AdamSmallReferenceIdeal.main_arg45)
          ∧ r.2.mem ((c.tc : Thread Cert.AdamSmallReferenceIdeal.nD Cert.AdamSmallReferenceIdeal.τ).loc Cert.AdamSmallReferenceIdeal.main_arg46) = m' ((c.tc : Thread Cert.AdamSmallReferenceIdeal.nD Cert.AdamSmallReferenceIdeal.τ).loc Cert.AdamSmallReferenceIdeal.main_arg46)
          ∧ r.2.mem ((c.tc : Thread Cert.AdamSmallReferenceIdeal.nD Cert.AdamSmallReferenceIdeal.τ).loc Cert.AdamSmallReferenceIdeal.main_arg47) = m' ((c.tc : Thread Cert.AdamSmallReferenceIdeal.nD Cert.AdamSmallReferenceIdeal.τ).loc Cert.AdamSmallReferenceIdeal.main_arg47)
          ∧ r.2.mem ((c.tc : Thread Cert.AdamSmallReferenceIdeal.nD Cert.AdamSmallReferenceIdeal.τ).loc Cert.AdamSmallReferenceIdeal.main_arg48) = m' ((c.tc : Thread Cert.AdamSmallReferenceIdeal.nD Cert.AdamSmallReferenceIdeal.τ).loc Cert.AdamSmallReferenceIdeal.main_arg48)
          ∧ r.2.mem ((c.tc : Thread Cert.AdamSmallReferenceIdeal.nD Cert.AdamSmallReferenceIdeal.τ).loc Cert.AdamSmallReferenceIdeal.main_arg49) = m' ((c.tc : Thread Cert.AdamSmallReferenceIdeal.nD Cert.AdamSmallReferenceIdeal.τ).loc Cert.AdamSmallReferenceIdeal.main_arg49)
          ∧ r.2.mem ((c.tc : Thread Cert.AdamSmallReferenceIdeal.nD Cert.AdamSmallReferenceIdeal.τ).loc Cert.AdamSmallReferenceIdeal.main_arg50) = m' ((c.tc : Thread Cert.AdamSmallReferenceIdeal.nD Cert.AdamSmallReferenceIdeal.τ).loc Cert.AdamSmallReferenceIdeal.main_arg50)
          ∧ r.2.mem ((c.tc : Thread Cert.AdamSmallReferenceIdeal.nD Cert.AdamSmallReferenceIdeal.τ).loc Cert.AdamSmallReferenceIdeal.main_arg51) = m' ((c.tc : Thread Cert.AdamSmallReferenceIdeal.nD Cert.AdamSmallReferenceIdeal.τ).loc Cert.AdamSmallReferenceIdeal.main_arg51)
          ∧ r.2.mem ((c.tc : Thread Cert.AdamSmallReferenceIdeal.nD Cert.AdamSmallReferenceIdeal.τ).loc Cert.AdamSmallReferenceIdeal.main_arg52) = m' ((c.tc : Thread Cert.AdamSmallReferenceIdeal.nD Cert.AdamSmallReferenceIdeal.τ).loc Cert.AdamSmallReferenceIdeal.main_arg52)
          ∧ r.2.mem ((c.tc : Thread Cert.AdamSmallReferenceIdeal.nD Cert.AdamSmallReferenceIdeal.τ).loc Cert.AdamSmallReferenceIdeal.main_arg53) = m' ((c.tc : Thread Cert.AdamSmallReferenceIdeal.nD Cert.AdamSmallReferenceIdeal.τ).loc Cert.AdamSmallReferenceIdeal.main_arg53)
          ∧ r.2.mem ((c.tc : Thread Cert.AdamSmallReferenceIdeal.nD Cert.AdamSmallReferenceIdeal.τ).loc Cert.AdamSmallReferenceIdeal.main_arg54) = m' ((c.tc : Thread Cert.AdamSmallReferenceIdeal.nD Cert.AdamSmallReferenceIdeal.τ).loc Cert.AdamSmallReferenceIdeal.main_arg54)
          ∧ r.2.mem ((c.tc : Thread Cert.AdamSmallReferenceIdeal.nD Cert.AdamSmallReferenceIdeal.τ).loc Cert.AdamSmallReferenceIdeal.main_arg55) = m' ((c.tc : Thread Cert.AdamSmallReferenceIdeal.nD Cert.AdamSmallReferenceIdeal.τ).loc Cert.AdamSmallReferenceIdeal.main_arg55))

def preserves_ModBwd_ModBwdIdeal : Prop :=
  True

def algebraic_ModBwdIdeal_ModBwdReferenceIdeal [hModBwdIdeal : Cert.ModBwdIdeal.Facts] [hModBwdReferenceIdeal : Cert.ModBwdReferenceIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdReferenceIdeal.nD Cert.ModBwdReferenceIdeal.τ Cert.ModBwdReferenceIdeal.sig) → Buf (Elt Ideal) ℓ) (g' : Dev Cert.ModBwdReferenceIdeal.nD → PrngReg), Pre_ModBwdIdeal m →
    (∀ c : Dev Cert.ModBwdIdeal.nD,
      m' ((c.tc : Thread Cert.ModBwdReferenceIdeal.nD Cert.ModBwdReferenceIdeal.τ).loc Cert.ModBwdReferenceIdeal.main_arg0) = m ((c.tc : Thread Cert.ModBwdIdeal.nD Cert.ModBwdIdeal.τ).loc Cert.ModBwdIdeal.main_arg0)
      ∧ m' ((c.tc : Thread Cert.ModBwdReferenceIdeal.nD Cert.ModBwdReferenceIdeal.τ).loc Cert.ModBwdReferenceIdeal.main_arg1) = m ((c.tc : Thread Cert.ModBwdIdeal.nD Cert.ModBwdIdeal.τ).loc Cert.ModBwdIdeal.main_arg1)
      ∧ m' ((c.tc : Thread Cert.ModBwdReferenceIdeal.nD Cert.ModBwdReferenceIdeal.τ).loc Cert.ModBwdReferenceIdeal.main_arg2) = m ((c.tc : Thread Cert.ModBwdIdeal.nD Cert.ModBwdIdeal.τ).loc Cert.ModBwdIdeal.main_arg2)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ θ_run (Cert.ModBwdReferenceIdeal.defs (F := Ideal)) (onTc (τ := Cert.ModBwdReferenceIdeal.τ) (Cert.ModBwdReferenceIdeal.main (F := Ideal))) ⟨m', fun _ => 0, g'⟩ (fun r => ∀ c : Dev Cert.ModBwdReferenceIdeal.nD,
          r.2.mem ((c.tc : Thread Cert.ModBwdReferenceIdeal.nD Cert.ModBwdReferenceIdeal.τ).loc Cert.ModBwdReferenceIdeal.main_v5) = v0 c
          ∧ r.2.mem ((c.tc : Thread Cert.ModBwdReferenceIdeal.nD Cert.ModBwdReferenceIdeal.τ).loc Cert.ModBwdReferenceIdeal.main_v3) = v1 c
          ∧ r.2.mem ((c.tc : Thread Cert.ModBwdReferenceIdeal.nD Cert.ModBwdReferenceIdeal.τ).loc Cert.ModBwdReferenceIdeal.main_arg0) = m' ((c.tc : Thread Cert.ModBwdReferenceIdeal.nD Cert.ModBwdReferenceIdeal.τ).loc Cert.ModBwdReferenceIdeal.main_arg0)
          ∧ r.2.mem ((c.tc : Thread Cert.ModBwdReferenceIdeal.nD Cert.ModBwdReferenceIdeal.τ).loc Cert.ModBwdReferenceIdeal.main_arg1) = m' ((c.tc : Thread Cert.ModBwdReferenceIdeal.nD Cert.ModBwdReferenceIdeal.τ).loc Cert.ModBwdReferenceIdeal.main_arg1)
          ∧ r.2.mem ((c.tc : Thread Cert.ModBwdReferenceIdeal.nD Cert.ModBwdReferenceIdeal.τ).loc Cert.ModBwdReferenceIdeal.main_arg2) = m' ((c.tc : Thread Cert.ModBwdReferenceIdeal.nD Cert.ModBwdReferenceIdeal.τ).loc Cert.ModBwdReferenceIdeal.main_arg2))

def preserves_CondBwd_CondBwdIdeal : Prop :=
  True

def algebraic_CondBwdIdeal_CondBwdReferenceIdeal_pre_finite_pre [hCondBwdIdeal : Cert.CondBwdIdeal.Facts] [hCondBwdReferenceIdeal : Cert.CondBwdReferenceIdeal.Facts] [hPre_finite_pre : Cert.Pre_finite_pre.Facts] : Prop :=
  ∀ (m : (ℓ : Loc Cert.CondBwdIdeal.nD Cert.CondBwdIdeal.τ Cert.CondBwdIdeal.sig) → Buf (Elt Ideal) ℓ) (g : Dev Cert.CondBwdIdeal.nD → PrngReg)
    (m' : (ℓ : Loc Cert.CondBwdReferenceIdeal.nD Cert.CondBwdReferenceIdeal.τ Cert.CondBwdReferenceIdeal.sig) → Buf (Elt Ideal) ℓ) (g' : Dev Cert.CondBwdReferenceIdeal.nD → PrngReg), Pre_CondBwdIdeal_finite_pre m →
    (∀ c : Dev Cert.CondBwdIdeal.nD,
      m' ((c.tc : Thread Cert.CondBwdReferenceIdeal.nD Cert.CondBwdReferenceIdeal.τ).loc Cert.CondBwdReferenceIdeal.main_arg0) = m ((c.tc : Thread Cert.CondBwdIdeal.nD Cert.CondBwdIdeal.τ).loc Cert.CondBwdIdeal.main_arg0)
      ∧ m' ((c.tc : Thread Cert.CondBwdReferenceIdeal.nD Cert.CondBwdReferenceIdeal.τ).loc Cert.CondBwdReferenceIdeal.main_arg1) = m ((c.tc : Thread Cert.CondBwdIdeal.nD Cert.CondBwdIdeal.τ).loc Cert.CondBwdIdeal.main_arg1)
      ∧ m' ((c.tc : Thread Cert.CondBwdReferenceIdeal.nD Cert.CondBwdReferenceIdeal.τ).loc Cert.CondBwdReferenceIdeal.main_arg2) = m ((c.tc : Thread Cert.CondBwdIdeal.nD Cert.CondBwdIdeal.τ).loc Cert.CondBwdIdeal.main_arg2)) →
    ∃ (v0 : (c : Dev Cert.CondBwdIdeal.nD) → Buf (Elt Ideal) ((c.tc : Thread Cert.CondBwdIdeal.nD Cert.CondBwdIdeal.τ).loc Cert.CondBwdIdeal.main_v0_0)) (v1 : (c : Dev Cert.CondBwdIdeal.nD) → Buf (Elt Ideal) ((c.tc : Thread Cert.CondBwdIdeal.nD Cert.CondBwdIdeal.τ).loc Cert.CondBwdIdeal.main_v0_1)),
      θ_run (Cert.CondBwdIdeal.defs (F := Ideal)) (onTc (τ := Cert.CondBwdIdeal.τ) (Cert.CondBwdIdeal.main (F := Ideal))) ⟨m, fun _ => 0, g⟩ (fun r => ∀ c : Dev Cert.CondBwdIdeal.nD,
          r.2.mem ((c.tc : Thread Cert.CondBwdIdeal.nD Cert.CondBwdIdeal.τ).loc Cert.CondBwdIdeal.main_v0_0) = v0 c
          ∧ r.2.mem ((c.tc : Thread Cert.CondBwdIdeal.nD Cert.CondBwdIdeal.τ).loc Cert.CondBwdIdeal.main_v0_1) = v1 c
          ∧ r.2.mem ((c.tc : Thread Cert.CondBwdIdeal.nD Cert.CondBwdIdeal.τ).loc Cert.CondBwdIdeal.main_arg0) = m ((c.tc : Thread Cert.CondBwdIdeal.nD Cert.CondBwdIdeal.τ).loc Cert.CondBwdIdeal.main_arg0)
          ∧ r.2.mem ((c.tc : Thread Cert.CondBwdIdeal.nD Cert.CondBwdIdeal.τ).loc Cert.CondBwdIdeal.main_arg1) = m ((c.tc : Thread Cert.CondBwdIdeal.nD Cert.CondBwdIdeal.τ).loc Cert.CondBwdIdeal.main_arg1)
          ∧ r.2.mem ((c.tc : Thread Cert.CondBwdIdeal.nD Cert.CondBwdIdeal.τ).loc Cert.CondBwdIdeal.main_arg2) = m ((c.tc : Thread Cert.CondBwdIdeal.nD Cert.CondBwdIdeal.τ).loc Cert.CondBwdIdeal.main_arg2))
      ∧ θ_run (Cert.CondBwdReferenceIdeal.defs (F := Ideal)) (onTc (τ := Cert.CondBwdReferenceIdeal.τ) (Cert.CondBwdReferenceIdeal.main (F := Ideal))) ⟨m', fun _ => 0, g'⟩ (fun r => ∀ c : Dev Cert.CondBwdReferenceIdeal.nD,
          r.2.mem ((c.tc : Thread Cert.CondBwdReferenceIdeal.nD Cert.CondBwdReferenceIdeal.τ).loc Cert.CondBwdReferenceIdeal.main_v21) = v0 c
          ∧ r.2.mem ((c.tc : Thread Cert.CondBwdReferenceIdeal.nD Cert.CondBwdReferenceIdeal.τ).loc Cert.CondBwdReferenceIdeal.main_v19) = v1 c
          ∧ r.2.mem ((c.tc : Thread Cert.CondBwdReferenceIdeal.nD Cert.CondBwdReferenceIdeal.τ).loc Cert.CondBwdReferenceIdeal.main_arg0) = m' ((c.tc : Thread Cert.CondBwdReferenceIdeal.nD Cert.CondBwdReferenceIdeal.τ).loc Cert.CondBwdReferenceIdeal.main_arg0)
          ∧ r.2.mem ((c.tc : Thread Cert.CondBwdReferenceIdeal.nD Cert.CondBwdReferenceIdeal.τ).loc Cert.CondBwdReferenceIdeal.main_arg1) = m' ((c.tc : Thread Cert.CondBwdReferenceIdeal.nD Cert.CondBwdReferenceIdeal.τ).loc Cert.CondBwdReferenceIdeal.main_arg1)
          ∧ r.2.mem ((c.tc : Thread Cert.CondBwdReferenceIdeal.nD Cert.CondBwdReferenceIdeal.τ).loc Cert.CondBwdReferenceIdeal.main_arg2) = m' ((c.tc : Thread Cert.CondBwdReferenceIdeal.nD Cert.CondBwdReferenceIdeal.τ).loc Cert.CondBwdReferenceIdeal.main_arg2))

def preserves_SumAda_SumAdaIdeal : Prop :=
  True

def algebraic_SumAdaIdeal_SumAdaReferenceIdeal [hSumAdaIdeal : Cert.SumAdaIdeal.Facts] [hSumAdaReferenceIdeal : Cert.SumAdaReferenceIdeal.Facts] : Prop :=
  ∀ (m : (ℓ : Loc Cert.SumAdaIdeal.nD Cert.SumAdaIdeal.τ Cert.SumAdaIdeal.sig) → Buf (Elt Ideal) ℓ) (g : Dev Cert.SumAdaIdeal.nD → PrngReg)
    (m' : (ℓ : Loc Cert.SumAdaReferenceIdeal.nD Cert.SumAdaReferenceIdeal.τ Cert.SumAdaReferenceIdeal.sig) → Buf (Elt Ideal) ℓ) (g' : Dev Cert.SumAdaReferenceIdeal.nD → PrngReg), Pre_SumAdaIdeal m →
    (∀ c : Dev Cert.SumAdaIdeal.nD,
      m' ((c.tc : Thread Cert.SumAdaReferenceIdeal.nD Cert.SumAdaReferenceIdeal.τ).loc Cert.SumAdaReferenceIdeal.main_arg0) = m ((c.tc : Thread Cert.SumAdaIdeal.nD Cert.SumAdaIdeal.τ).loc Cert.SumAdaIdeal.main_arg0)) →
    ∃ (v0 : (c : Dev Cert.SumAdaIdeal.nD) → Buf (Elt Ideal) ((c.tc : Thread Cert.SumAdaIdeal.nD Cert.SumAdaIdeal.τ).loc Cert.SumAdaIdeal.main_v0)),
      θ_run (Cert.SumAdaIdeal.defs (F := Ideal)) (onTc (τ := Cert.SumAdaIdeal.τ) (Cert.SumAdaIdeal.main (F := Ideal))) ⟨m, fun _ => 0, g⟩ (fun r => ∀ c : Dev Cert.SumAdaIdeal.nD,
          r.2.mem ((c.tc : Thread Cert.SumAdaIdeal.nD Cert.SumAdaIdeal.τ).loc Cert.SumAdaIdeal.main_v0) = v0 c
          ∧ r.2.mem ((c.tc : Thread Cert.SumAdaIdeal.nD Cert.SumAdaIdeal.τ).loc Cert.SumAdaIdeal.main_arg0) = m ((c.tc : Thread Cert.SumAdaIdeal.nD Cert.SumAdaIdeal.τ).loc Cert.SumAdaIdeal.main_arg0))
      ∧ θ_run (Cert.SumAdaReferenceIdeal.defs (F := Ideal)) (onTc (τ := Cert.SumAdaReferenceIdeal.τ) (Cert.SumAdaReferenceIdeal.main (F := Ideal))) ⟨m', fun _ => 0, g'⟩ (fun r => ∀ c : Dev Cert.SumAdaReferenceIdeal.nD,
          r.2.mem ((c.tc : Thread Cert.SumAdaReferenceIdeal.nD Cert.SumAdaReferenceIdeal.τ).loc Cert.SumAdaReferenceIdeal.main_v0) = v0 c
          ∧ r.2.mem ((c.tc : Thread Cert.SumAdaReferenceIdeal.nD Cert.SumAdaReferenceIdeal.τ).loc Cert.SumAdaReferenceIdeal.main_arg0) = m' ((c.tc : Thread Cert.SumAdaReferenceIdeal.nD Cert.SumAdaReferenceIdeal.τ).loc Cert.SumAdaReferenceIdeal.main_arg0))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)
      ∧ m' ((c.tc : Thread Cert.SumSmallReferenceIdeal.nD Cert.SumSmallReferenceIdeal.τ).loc Cert.SumSmallReferenceIdeal.main_arg1) = m ((c.tc : Thread Cert.SumSmallIdeal.nD Cert.SumSmallIdeal.τ).loc Cert.SumSmallIdeal.main_arg1)) →
    ∃ (v0 : (c : Dev Cert.SumSmallIdeal.nD) → Buf (Elt Ideal) ((c.tc : Thread Cert.SumSmallIdeal.nD Cert.SumSmallIdeal.τ).loc Cert.SumSmallIdeal.main_v30)) (v1 : (c : Dev Cert.SumSmallIdeal.nD) → Buf (Elt Ideal) ((c.tc : Thread Cert.SumSmallIdeal.nD Cert.SumSmallIdeal.τ).loc Cert.SumSmallIdeal.main_v35)) (v2 : (c : Dev Cert.SumSmallIdeal.nD) → Buf (Elt Ideal) ((c.tc : Thread Cert.SumSmallIdeal.nD Cert.SumSmallIdeal.τ).loc Cert.SumSmallIdeal.main_v40)) (v3 : (c : Dev Cert.SumSmallIdeal.nD) → Buf (Elt Ideal) ((c.tc : Thread Cert.SumSmallIdeal.nD Cert.SumSmallIdeal.τ).loc Cert.SumSmallIdeal.main_v45)) (v4 : (c : Dev Cert.SumSmallIdeal.nD) → Buf (Elt Ideal) ((c.tc : Thread Cert.SumSmallIdeal.nD Cert.SumSmallIdeal.τ).loc Cert.SumSmallIdeal.main_v50)) (v5 : (c : Dev Cert.SumSmallIdeal.nD) → Buf (Elt Ideal) ((c.tc : Thread Cert.SumSmallIdeal.nD Cert.SumSmallIdeal.τ).loc Cert.SumSmallIdeal.main_v55)) (v6 : (c : Dev Cert.SumSmallIdeal.nD) → Buf (Elt Ideal) ((c.tc : Thread Cert.SumSmallIdeal.nD Cert.SumSmallIdeal.τ).loc Cert.SumSmallIdeal.main_v60)) (v7 : (c : Dev Cert.SumSmallIdeal.nD) → Buf (Elt Ideal) ((c.tc : Thread Cert.SumSmallIdeal.nD Cert.SumSmallIdeal.τ).loc Cert.SumSmallIdeal.main_v65)) (v8 : (c : Dev Cert.SumSmallIdeal.nD) → Buf (Elt Ideal) ((c.tc : Thread Cert.SumSmallIdeal.nD Cert.SumSmallIdeal.τ).loc Cert.SumSmallIdeal.main_v70)) (v9 : (c : Dev Cert.SumSmallIdeal.nD) → Buf (Elt Ideal) ((c.tc : Thread Cert.SumSmallIdeal.nD Cert.SumSmallIdeal.τ).loc Cert.SumSmallIdeal.main_v75)) (v10 : (c : Dev Cert.SumSmallIdeal.nD) → Buf (Elt Ideal) ((c.tc : Thread Cert.SumSmallIdeal.nD Cert.SumSmallIdeal.τ).loc Cert.SumSmallIdeal.main_v23)) (v11 : (c : Dev Cert.SumSmallIdeal.nD) → Buf (Elt Ideal) ((c.tc : Thread Cert.SumSmallIdeal.nD Cert.SumSmallIdeal.τ).loc Cert.SumSmallIdeal.main_v25)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v30) = v0 c
          ∧ r.2.mem ((c.tc : Thread Cert.SumSmallIdeal.nD Cert.SumSmallIdeal.τ).loc Cert.SumSmallIdeal.main_v35) = v1 c
          ∧ r.2.mem ((c.tc : Thread Cert.SumSmallIdeal.nD Cert.SumSmallIdeal.τ).loc Cert.SumSmallIdeal.main_v40) = v2 c
          ∧ r.2.mem ((c.tc : Thread Cert.SumSmallIdeal.nD Cert.SumSmallIdeal.τ).loc Cert.SumSmallIdeal.main_v45) = v3 c
          ∧ r.2.mem ((c.tc : Thread Cert.SumSmallIdeal.nD Cert.SumSmallIdeal.τ).loc Cert.SumSmallIdeal.main_v50) = v4 c
          ∧ r.2.mem ((c.tc : Thread Cert.SumSmallIdeal.nD Cert.SumSmallIdeal.τ).loc Cert.SumSmallIdeal.main_v55) = v5 c
          ∧ r.2.mem ((c.tc : Thread Cert.SumSmallIdeal.nD Cert.SumSmallIdeal.τ).loc Cert.SumSmallIdeal.main_v60) = v6 c
          ∧ r.2.mem ((c.tc : Thread Cert.SumSmallIdeal.nD Cert.SumSmallIdeal.τ).loc Cert.SumSmallIdeal.main_v65) = v7 c
          ∧ r.2.mem ((c.tc : Thread Cert.SumSmallIdeal.nD Cert.SumSmallIdeal.τ).loc Cert.SumSmallIdeal.main_v70) = v8 c
          ∧ r.2.mem ((c.tc : Thread Cert.SumSmallIdeal.nD Cert.SumSmallIdeal.τ).loc Cert.SumSmallIdeal.main_v75) = v9 c
          ∧ r.2.mem ((c.tc : Thread Cert.SumSmallIdeal.nD Cert.SumSmallIdeal.τ).loc Cert.SumSmallIdeal.main_v23) = v10 c
          ∧ r.2.mem ((c.tc : Thread Cert.SumSmallIdeal.nD Cert.SumSmallIdeal.τ).loc Cert.SumSmallIdeal.main_v25) = v11 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v8) = v0 c
          ∧ r.2.mem ((c.tc : Thread Cert.SumSmallReferenceIdeal.nD Cert.SumSmallReferenceIdeal.τ).loc Cert.SumSmallReferenceIdeal.main_v15) = v1 c
          ∧ r.2.mem ((c.tc : Thread Cert.SumSmallReferenceIdeal.nD Cert.SumSmallReferenceIdeal.τ).loc Cert.SumSmallReferenceIdeal.main_v22) = v2 c
          ∧ r.2.mem ((c.tc : Thread Cert.SumSmallReferenceIdeal.nD Cert.SumSmallReferenceIdeal.τ).loc Cert.SumSmallReferenceIdeal.main_v29) = v3 c
          ∧ r.2.mem ((c.tc : Thread Cert.SumSmallReferenceIdeal.nD Cert.SumSmallReferenceIdeal.τ).loc Cert.SumSmallReferenceIdeal.main_v36) = v4 c
          ∧ r.2.mem ((c.tc : Thread Cert.SumSmallReferenceIdeal.nD Cert.SumSmallReferenceIdeal.τ).loc Cert.SumSmallReferenceIdeal.main_v43) = v5 c
          ∧ r.2.mem ((c.tc : Thread Cert.SumSmallReferenceIdeal.nD Cert.SumSmallReferenceIdeal.τ).loc Cert.SumSmallReferenceIdeal.main_v50) = v6 c
          ∧ r.2.mem ((c.tc : Thread Cert.SumSmallReferenceIdeal.nD Cert.SumSmallReferenceIdeal.τ).loc Cert.SumSmallReferenceIdeal.main_v57) = v7 c
          ∧ r.2.mem ((c.tc : Thread Cert.SumSmallReferenceIdeal.nD Cert.SumSmallReferenceIdeal.τ).loc Cert.SumSmallReferenceIdeal.main_v64) = v8 c
          ∧ r.2.mem ((c.tc : Thread Cert.SumSmallReferenceIdeal.nD Cert.SumSmallReferenceIdeal.τ).loc Cert.SumSmallReferenceIdeal.main_v71) = v9 c
          ∧ r.2.mem ((c.tc : Thread Cert.SumSmallReferenceIdeal.nD Cert.SumSmallReferenceIdeal.τ).loc Cert.SumSmallReferenceIdeal.main_v73) = v10 c
          ∧ r.2.mem ((c.tc : Thread Cert.SumSmallReferenceIdeal.nD Cert.SumSmallReferenceIdeal.τ).loc Cert.SumSmallReferenceIdeal.main_v75) = v11 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1))

def preserves_SumFfnIn_SumFfnInIdeal : Prop :=
  True

def algebraic_SumFfnInIdeal_SumFfnInReferenceIdeal [hSumFfnInIdeal : Cert.SumFfnInIdeal.Facts] [hSumFfnInReferenceIdeal : Cert.SumFfnInReferenceIdeal.Facts] : Prop :=
  ∀ (m : (ℓ : Loc Cert.SumFfnInIdeal.nD Cert.SumFfnInIdeal.τ Cert.SumFfnInIdeal.sig) → Buf (Elt Ideal) ℓ) (g : Dev Cert.SumFfnInIdeal.nD → PrngReg)
    (m' : (ℓ : Loc Cert.SumFfnInReferenceIdeal.nD Cert.SumFfnInReferenceIdeal.τ Cert.SumFfnInReferenceIdeal.sig) → Buf (Elt Ideal) ℓ) (g' : Dev Cert.SumFfnInReferenceIdeal.nD → PrngReg), Pre_SumFfnInIdeal m →
    (∀ c : Dev Cert.SumFfnInIdeal.nD,
      m' ((c.tc : Thread Cert.SumFfnInReferenceIdeal.nD Cert.SumFfnInReferenceIdeal.τ).loc Cert.SumFfnInReferenceIdeal.main_arg0) = m ((c.tc : Thread Cert.SumFfnInIdeal.nD Cert.SumFfnInIdeal.τ).loc Cert.SumFfnInIdeal.main_arg0)
      ∧ m' ((c.tc : Thread Cert.SumFfnInReferenceIdeal.nD Cert.SumFfnInReferenceIdeal.τ).loc Cert.SumFfnInReferenceIdeal.main_arg1) = m ((c.tc : Thread Cert.SumFfnInIdeal.nD Cert.SumFfnInIdeal.τ).loc Cert.SumFfnInIdeal.main_arg1)
      ∧ m' ((c.tc : Thread Cert.SumFfnInReferenceIdeal.nD Cert.SumFfnInReferenceIdeal.τ).loc Cert.SumFfnInReferenceIdeal.main_arg2) = m ((c.tc : Thread Cert.SumFfnInIdeal.nD Cert.SumFfnInIdeal.τ).loc Cert.SumFfnInIdeal.main_arg2)) →
    ∃ (v0 : (c : Dev Cert.SumFfnInIdeal.nD) → Buf (Elt Ideal) ((c.tc : Thread Cert.SumFfnInIdeal.nD Cert.SumFfnInIdeal.τ).loc Cert.SumFfnInIdeal.main_v12)),
      θ_run (Cert.SumFfnInIdeal.defs (F := Ideal)) (onTc (τ := Cert.SumFfnInIdeal.τ) (Cert.SumFfnInIdeal.main (F := Ideal))) ⟨m, fun _ => 0, g⟩ (fun r => ∀ c : Dev Cert.SumFfnInIdeal.nD,
          r.2.mem ((c.tc : Thread Cert.SumFfnInIdeal.nD Cert.SumFfnInIdeal.τ).loc Cert.SumFfnInIdeal.main_v12) = v0 c
          ∧ r.2.mem ((c.tc : Thread Cert.SumFfnInIdeal.nD Cert.SumFfnInIdeal.τ).loc Cert.SumFfnInIdeal.main_arg0) = m ((c.tc : Thread Cert.SumFfnInIdeal.nD Cert.SumFfnInIdeal.τ).loc Cert.SumFfnInIdeal.main_arg0)
          ∧ r.2.mem ((c.tc : Thread Cert.SumFfnInIdeal.nD Cert.SumFfnInIdeal.τ).loc Cert.SumFfnInIdeal.main_arg1) = m ((c.tc : Thread Cert.SumFfnInIdeal.nD Cert.SumFfnInIdeal.τ).loc Cert.SumFfnInIdeal.main_arg1)
          ∧ r.2.mem ((c.tc : Thread Cert.SumFfnInIdeal.nD Cert.SumFfnInIdeal.τ).loc Cert.SumFfnInIdeal.main_arg2) = m ((c.tc : Thread Cert.SumFfnInIdeal.nD Cert.SumFfnInIdeal.τ).loc Cert.SumFfnInIdeal.main_arg2))
      ∧ θ_run (Cert.SumFfnInReferenceIdeal.defs (F := Ideal)) (onTc (τ := Cert.SumFfnInReferenceIdeal.τ) (Cert.SumFfnInReferenceIdeal.main (F := Ideal))) ⟨m', fun _ => 0, g'⟩ (fun r => ∀ c : Dev Cert.SumFfnInReferenceIdeal.nD,
          r.2.mem ((c.tc : Thread Cert.SumFfnInReferenceIdeal.nD Cert.SumFfnInReferenceIdeal.τ).loc Cert.SumFfnInReferenceIdeal.main_v8) = v0 c
          ∧ r.2.mem ((c.tc : Thread Cert.SumFfnInReferenceIdeal.nD Cert.SumFfnInReferenceIdeal.τ).loc Cert.SumFfnInReferenceIdeal.main_arg0) = m' ((c.tc : Thread Cert.SumFfnInReferenceIdeal.nD Cert.SumFfnInReferenceIdeal.τ).loc Cert.SumFfnInReferenceIdeal.main_arg0)
          ∧ r.2.mem ((c.tc : Thread Cert.SumFfnInReferenceIdeal.nD Cert.SumFfnInReferenceIdeal.τ).loc Cert.SumFfnInReferenceIdeal.main_arg1) = m' ((c.tc : Thread Cert.SumFfnInReferenceIdeal.nD Cert.SumFfnInReferenceIdeal.τ).loc Cert.SumFfnInReferenceIdeal.main_arg1)
          ∧ r.2.mem ((c.tc : Thread Cert.SumFfnInReferenceIdeal.nD Cert.SumFfnInReferenceIdeal.τ).loc Cert.SumFfnInReferenceIdeal.main_arg2) = m' ((c.tc : Thread Cert.SumFfnInReferenceIdeal.nD Cert.SumFfnInReferenceIdeal.τ).loc Cert.SumFfnInReferenceIdeal.main_arg2))

def preserves_SumFfnOut_SumFfnOutIdeal : Prop :=
  True

def algebraic_SumFfnOutIdeal_SumFfnOutReferenceIdeal [hSumFfnOutIdeal : Cert.SumFfnOutIdeal.Facts] [hSumFfnOutReferenceIdeal : Cert.SumFfnOutReferenceIdeal.Facts] : Prop :=
  ∀ (m : (ℓ : Loc Cert.SumFfnOutIdeal.nD Cert.SumFfnOutIdeal.τ Cert.SumFfnOutIdeal.sig) → Buf (Elt Ideal) ℓ) (g : Dev Cert.SumFfnOutIdeal.nD → PrngReg)
    (m' : (ℓ : Loc Cert.SumFfnOutReferenceIdeal.nD Cert.SumFfnOutReferenceIdeal.τ Cert.SumFfnOutReferenceIdeal.sig) → Buf (Elt Ideal) ℓ) (g' : Dev Cert.SumFfnOutReferenceIdeal.nD → PrngReg), Pre_SumFfnOutIdeal m →
    (∀ c : Dev Cert.SumFfnOutIdeal.nD,
      m' ((c.tc : Thread Cert.SumFfnOutReferenceIdeal.nD Cert.SumFfnOutReferenceIdeal.τ).loc Cert.SumFfnOutReferenceIdeal.main_arg0) = m ((c.tc : Thread Cert.SumFfnOutIdeal.nD Cert.SumFfnOutIdeal.τ).loc Cert.SumFfnOutIdeal.main_arg0)
      ∧ m' ((c.tc : Thread Cert.SumFfnOutReferenceIdeal.nD Cert.SumFfnOutReferenceIdeal.τ).loc Cert.SumFfnOutReferenceIdeal.main_arg1) = m ((c.tc : Thread Cert.SumFfnOutIdeal.nD Cert.SumFfnOutIdeal.τ).loc Cert.SumFfnOutIdeal.main_arg1)
      ∧ m' ((c.tc : Thread Cert.SumFfnOutReferenceIdeal.nD Cert.SumFfnOutReferenceIdeal.τ).loc Cert.SumFfnOutReferenceIdeal.main_arg2) = m ((c.tc : Thread Cert.SumFfnOutIdeal.nD Cert.SumFfnOutIdeal.τ).loc Cert.SumFfnOutIdeal.main_arg2)) →
    ∃ (v0 : (c : Dev Cert.SumFfnOutIdeal.nD) → Buf (Elt Ideal) ((c.tc : Thread Cert.SumFfnOutIdeal.nD Cert.SumFfnOutIdeal.τ).loc Cert.SumFfnOutIdeal.main_v11)),
      θ_run (Cert.SumFfnOutIdeal.defs (F := Ideal)) (onTc (τ := Cert.SumFfnOutIdeal.τ) (Cert.SumFfnOutIdeal.main (F := Ideal))) ⟨m, fun _ => 0, g⟩ (fun r => ∀ c : Dev Cert.SumFfnOutIdeal.nD,
          r.2.mem ((c.tc : Thread Cert.SumFfnOutIdeal.nD Cert.SumFfnOutIdeal.τ).loc Cert.SumFfnOutIdeal.main_v11) = v0 c
          ∧ r.2.mem ((c.tc : Thread Cert.SumFfnOutIdeal.nD Cert.SumFfnOutIdeal.τ).loc Cert.SumFfnOutIdeal.main_arg0) = m ((c.tc : Thread Cert.SumFfnOutIdeal.nD Cert.SumFfnOutIdeal.τ).loc Cert.SumFfnOutIdeal.main_arg0)
          ∧ r.2.mem ((c.tc : Thread Cert.SumFfnOutIdeal.nD Cert.SumFfnOutIdeal.τ).loc Cert.SumFfnOutIdeal.main_arg1) = m ((c.tc : Thread Cert.SumFfnOutIdeal.nD Cert.SumFfnOutIdeal.τ).loc Cert.SumFfnOutIdeal.main_arg1)
          ∧ r.2.mem ((c.tc : Thread Cert.SumFfnOutIdeal.nD Cert.SumFfnOutIdeal.τ).loc Cert.SumFfnOutIdeal.main_arg2) = m ((c.tc : Thread Cert.SumFfnOutIdeal.nD Cert.SumFfnOutIdeal.τ).loc Cert.SumFfnOutIdeal.main_arg2))
      ∧ θ_run (Cert.SumFfnOutReferenceIdeal.defs (F := Ideal)) (onTc (τ := Cert.SumFfnOutReferenceIdeal.τ) (Cert.SumFfnOutReferenceIdeal.main (F := Ideal))) ⟨m', fun _ => 0, g'⟩ (fun r => ∀ c : Dev Cert.SumFfnOutReferenceIdeal.nD,
          r.2.mem ((c.tc : Thread Cert.SumFfnOutReferenceIdeal.nD Cert.SumFfnOutReferenceIdeal.τ).loc Cert.SumFfnOutReferenceIdeal.main_v7) = v0 c
          ∧ r.2.mem ((c.tc : Thread Cert.SumFfnOutReferenceIdeal.nD Cert.SumFfnOutReferenceIdeal.τ).loc Cert.SumFfnOutReferenceIdeal.main_arg0) = m' ((c.tc : Thread Cert.SumFfnOutReferenceIdeal.nD Cert.SumFfnOutReferenceIdeal.τ).loc Cert.SumFfnOutReferenceIdeal.main_arg0)
          ∧ r.2.mem ((c.tc : Thread Cert.SumFfnOutReferenceIdeal.nD Cert.SumFfnOutReferenceIdeal.τ).loc Cert.SumFfnOutReferenceIdeal.main_arg1) = m' ((c.tc : Thread Cert.SumFfnOutReferenceIdeal.nD Cert.SumFfnOutReferenceIdeal.τ).loc Cert.SumFfnOutReferenceIdeal.main_arg1)
          ∧ r.2.mem ((c.tc : Thread Cert.SumFfnOutReferenceIdeal.nD Cert.SumFfnOutReferenceIdeal.τ).loc Cert.SumFfnOutReferenceIdeal.main_arg2) = m' ((c.tc : Thread Cert.SumFfnOutReferenceIdeal.nD Cert.SumFfnOutReferenceIdeal.τ).loc Cert.SumFfnOutReferenceIdeal.main_arg2))

def preserves_SumConvIn_SumConvInIdeal : Prop :=
  True

def algebraic_SumConvInIdeal_SumConvInReferenceIdeal [hSumConvInIdeal : Cert.SumConvInIdeal.Facts] [hSumConvInReferenceIdeal : Cert.SumConvInReferenceIdeal.Facts] : Prop :=
  ∀ (m : (ℓ : Loc Cert.SumConvInIdeal.nD Cert.SumConvInIdeal.τ Cert.SumConvInIdeal.sig) → Buf (Elt Ideal) ℓ) (g : Dev Cert.SumConvInIdeal.nD → PrngReg)
    (m' : (ℓ : Loc Cert.SumConvInReferenceIdeal.nD Cert.SumConvInReferenceIdeal.τ Cert.SumConvInReferenceIdeal.sig) → Buf (Elt Ideal) ℓ) (g' : Dev Cert.SumConvInReferenceIdeal.nD → PrngReg), Pre_SumConvInIdeal m →
    (∀ c : Dev Cert.SumConvInIdeal.nD,
      m' ((c.tc : Thread Cert.SumConvInReferenceIdeal.nD Cert.SumConvInReferenceIdeal.τ).loc Cert.SumConvInReferenceIdeal.main_arg0) = m ((c.tc : Thread Cert.SumConvInIdeal.nD Cert.SumConvInIdeal.τ).loc Cert.SumConvInIdeal.main_arg0)
      ∧ m' ((c.tc : Thread Cert.SumConvInReferenceIdeal.nD Cert.SumConvInReferenceIdeal.τ).loc Cert.SumConvInReferenceIdeal.main_arg1) = m ((c.tc : Thread Cert.SumConvInIdeal.nD Cert.SumConvInIdeal.τ).loc Cert.SumConvInIdeal.main_arg1)
      ∧ m' ((c.tc : Thread Cert.SumConvInReferenceIdeal.nD Cert.SumConvInReferenceIdeal.τ).loc Cert.SumConvInReferenceIdeal.main_arg2) = m ((c.tc : Thread Cert.SumConvInIdeal.nD Cert.SumConvInIdeal.τ).loc Cert.SumConvInIdeal.main_arg2)) →
    ∃ (v0 : (c : Dev Cert.SumConvInIdeal.nD) → Buf (Elt Ideal) ((c.tc : Thread Cert.SumConvInIdeal.nD Cert.SumConvInIdeal.τ).loc Cert.SumConvInIdeal.main_v11)),
      θ_run (Cert.SumConvInIdeal.defs (F := Ideal)) (onTc (τ := Cert.SumConvInIdeal.τ) (Cert.SumConvInIdeal.main (F := Ideal))) ⟨m, fun _ => 0, g⟩ (fun r => ∀ c : Dev Cert.SumConvInIdeal.nD,
          r.2.mem ((c.tc : Thread Cert.SumConvInIdeal.nD Cert.SumConvInIdeal.τ).loc Cert.SumConvInIdeal.main_v11) = v0 c
          ∧ r.2.mem ((c.tc : Thread Cert.SumConvInIdeal.nD Cert.SumConvInIdeal.τ).loc Cert.SumConvInIdeal.main_arg0) = m ((c.tc : Thread Cert.SumConvInIdeal.nD Cert.SumConvInIdeal.τ).loc Cert.SumConvInIdeal.main_arg0)
          ∧ r.2.mem ((c.tc : Thread Cert.SumConvInIdeal.nD Cert.SumConvInIdeal.τ).loc Cert.SumConvInIdeal.main_arg1) = m ((c.tc : Thread Cert.SumConvInIdeal.nD Cert.SumConvInIdeal.τ).loc Cert.SumConvInIdeal.main_arg1)
          ∧ r.2.mem ((c.tc : Thread Cert.SumConvInIdeal.nD Cert.SumConvInIdeal.τ).loc Cert.SumConvInIdeal.main_arg2) = m ((c.tc : Thread Cert.SumConvInIdeal.nD Cert.SumConvInIdeal.τ).loc Cert.SumConvInIdeal.main_arg2))
      ∧ θ_run (Cert.SumConvInReferenceIdeal.defs (F := Ideal)) (onTc (τ := Cert.SumConvInReferenceIdeal.τ) (Cert.SumConvInReferenceIdeal.main (F := Ideal))) ⟨m', fun _ => 0, g'⟩ (fun r => ∀ c : Dev Cert.SumConvInReferenceIdeal.nD,
          r.2.mem ((c.tc : Thread Cert.SumConvInReferenceIdeal.nD Cert.SumConvInReferenceIdeal.τ).loc Cert.SumConvInReferenceIdeal.main_v6) = v0 c
          ∧ r.2.mem ((c.tc : Thread Cert.SumConvInReferenceIdeal.nD Cert.SumConvInReferenceIdeal.τ).loc Cert.SumConvInReferenceIdeal.main_arg0) = m' ((c.tc : Thread Cert.SumConvInReferenceIdeal.nD Cert.SumConvInReferenceIdeal.τ).loc Cert.SumConvInReferenceIdeal.main_arg0)
          ∧ r.2.mem ((c.tc : Thread Cert.SumConvInReferenceIdeal.nD Cert.SumConvInReferenceIdeal.τ).loc Cert.SumConvInReferenceIdeal.main_arg1) = m' ((c.tc : Thread Cert.SumConvInReferenceIdeal.nD Cert.SumConvInReferenceIdeal.τ).loc Cert.SumConvInReferenceIdeal.main_arg1)
          ∧ r.2.mem ((c.tc : Thread Cert.SumConvInReferenceIdeal.nD Cert.SumConvInReferenceIdeal.τ).loc Cert.SumConvInReferenceIdeal.main_arg2) = m' ((c.tc : Thread Cert.SumConvInReferenceIdeal.nD Cert.SumConvInReferenceIdeal.τ).loc Cert.SumConvInReferenceIdeal.main_arg2))

def preserves_SumConvOut_SumConvOutIdeal : Prop :=
  True

def algebraic_SumConvOutIdeal_SumConvOutReferenceIdeal [hSumConvOutIdeal : Cert.SumConvOutIdeal.Facts] [hSumConvOutReferenceIdeal : Cert.SumConvOutReferenceIdeal.Facts] : Prop :=
  ∀ (m : (ℓ : Loc Cert.SumConvOutIdeal.nD Cert.SumConvOutIdeal.τ Cert.SumConvOutIdeal.sig) → Buf (Elt Ideal) ℓ) (g : Dev Cert.SumConvOutIdeal.nD → PrngReg)
    (m' : (ℓ : Loc Cert.SumConvOutReferenceIdeal.nD Cert.SumConvOutReferenceIdeal.τ Cert.SumConvOutReferenceIdeal.sig) → Buf (Elt Ideal) ℓ) (g' : Dev Cert.SumConvOutReferenceIdeal.nD → PrngReg), Pre_SumConvOutIdeal m →
    (∀ c : Dev Cert.SumConvOutIdeal.nD,
      m' ((c.tc : Thread Cert.SumConvOutReferenceIdeal.nD Cert.SumConvOutReferenceIdeal.τ).loc Cert.SumConvOutReferenceIdeal.main_arg0) = m ((c.tc : Thread Cert.SumConvOutIdeal.nD Cert.SumConvOutIdeal.τ).loc Cert.SumConvOutIdeal.main_arg0)
      ∧ m' ((c.tc : Thread Cert.SumConvOutReferenceIdeal.nD Cert.SumConvOutReferenceIdeal.τ).loc Cert.SumConvOutReferenceIdeal.main_arg1) = m ((c.tc : Thread Cert.SumConvOutIdeal.nD Cert.SumConvOutIdeal.τ).loc Cert.SumConvOutIdeal.main_arg1)
      ∧ m' ((c.tc : Thread Cert.SumConvOutReferenceIdeal.nD Cert.SumConvOutReferenceIdeal.τ).loc Cert.SumConvOutReferenceIdeal.main_arg2) = m ((c.tc : Thread Cert.SumConvOutIdeal.nD Cert.SumConvOutIdeal.τ).loc Cert.SumConvOutIdeal.main_arg2)) →
    ∃ (v0 : (c : Dev Cert.SumConvOutIdeal.nD) → Buf (Elt Ideal) ((c.tc : Thread Cert.SumConvOutIdeal.nD Cert.SumConvOutIdeal.τ).loc Cert.SumConvOutIdeal.main_v11)),
      θ_run (Cert.SumConvOutIdeal.defs (F := Ideal)) (onTc (τ := Cert.SumConvOutIdeal.τ) (Cert.SumConvOutIdeal.main (F := Ideal))) ⟨m, fun _ => 0, g⟩ (fun r => ∀ c : Dev Cert.SumConvOutIdeal.nD,
          r.2.mem ((c.tc : Thread Cert.SumConvOutIdeal.nD Cert.SumConvOutIdeal.τ).loc Cert.SumConvOutIdeal.main_v11) = v0 c
          ∧ r.2.mem ((c.tc : Thread Cert.SumConvOutIdeal.nD Cert.SumConvOutIdeal.τ).loc Cert.SumConvOutIdeal.main_arg0) = m ((c.tc : Thread Cert.SumConvOutIdeal.nD Cert.SumConvOutIdeal.τ).loc Cert.SumConvOutIdeal.main_arg0)
          ∧ r.2.mem ((c.tc : Thread Cert.SumConvOutIdeal.nD Cert.SumConvOutIdeal.τ).loc Cert.SumConvOutIdeal.main_arg1) = m ((c.tc : Thread Cert.SumConvOutIdeal.nD Cert.SumConvOutIdeal.τ).loc Cert.SumConvOutIdeal.main_arg1)
          ∧ r.2.mem ((c.tc : Thread Cert.SumConvOutIdeal.nD Cert.SumConvOutIdeal.τ).loc Cert.SumConvOutIdeal.main_arg2) = m ((c.tc : Thread Cert.SumConvOutIdeal.nD Cert.SumConvOutIdeal.τ).loc Cert.SumConvOutIdeal.main_arg2))
      ∧ θ_run (Cert.SumConvOutReferenceIdeal.defs (F := Ideal)) (onTc (τ := Cert.SumConvOutReferenceIdeal.τ) (Cert.SumConvOutReferenceIdeal.main (F := Ideal))) ⟨m', fun _ => 0, g'⟩ (fun r => ∀ c : Dev Cert.SumConvOutReferenceIdeal.nD,
          r.2.mem ((c.tc : Thread Cert.SumConvOutReferenceIdeal.nD Cert.SumConvOutReferenceIdeal.τ).loc Cert.SumConvOutReferenceIdeal.main_v6) = v0 c
          ∧ r.2.mem ((c.tc : Thread Cert.SumConvOutReferenceIdeal.nD Cert.SumConvOutReferenceIdeal.τ).loc Cert.SumConvOutReferenceIdeal.main_arg0) = m' ((c.tc : Thread Cert.SumConvOutReferenceIdeal.nD Cert.SumConvOutReferenceIdeal.τ).loc Cert.SumConvOutReferenceIdeal.main_arg0)
          ∧ r.2.mem ((c.tc : Thread Cert.SumConvOutReferenceIdeal.nD Cert.SumConvOutReferenceIdeal.τ).loc Cert.SumConvOutReferenceIdeal.main_arg1) = m' ((c.tc : Thread Cert.SumConvOutReferenceIdeal.nD Cert.SumConvOutReferenceIdeal.τ).loc Cert.SumConvOutReferenceIdeal.main_arg1)
          ∧ r.2.mem ((c.tc : Thread Cert.SumConvOutReferenceIdeal.nD Cert.SumConvOutReferenceIdeal.τ).loc Cert.SumConvOutReferenceIdeal.main_arg2) = m' ((c.tc : Thread Cert.SumConvOutReferenceIdeal.nD Cert.SumConvOutReferenceIdeal.τ).loc Cert.SumConvOutReferenceIdeal.main_arg2))

def preserves_SumQkv_SumQkvIdeal : Prop :=
  True

def algebraic_SumQkvIdeal_SumQkvReferenceIdeal [hSumQkvIdeal : Cert.SumQkvIdeal.Facts] [hSumQkvReferenceIdeal : Cert.SumQkvReferenceIdeal.Facts] : Prop :=
  ∀ (m : (ℓ : Loc Cert.SumQkvIdeal.nD Cert.SumQkvIdeal.τ Cert.SumQkvIdeal.sig) → Buf (Elt Ideal) ℓ) (g : Dev Cert.SumQkvIdeal.nD → PrngReg)
    (m' : (ℓ : Loc Cert.SumQkvReferenceIdeal.nD Cert.SumQkvReferenceIdeal.τ Cert.SumQkvReferenceIdeal.sig) → Buf (Elt Ideal) ℓ) (g' : Dev Cert.SumQkvReferenceIdeal.nD → PrngReg), Pre_SumQkvIdeal m →
    (∀ c : Dev Cert.SumQkvIdeal.nD,
      m' ((c.tc : Thread Cert.SumQkvReferenceIdeal.nD Cert.SumQkvReferenceIdeal.τ).loc Cert.SumQkvReferenceIdeal.main_arg0) = m ((c.tc : Thread Cert.SumQkvIdeal.nD Cert.SumQkvIdeal.τ).loc Cert.SumQkvIdeal.main_arg0)
      ∧ m' ((c.tc : Thread Cert.SumQkvReferenceIdeal.nD Cert.SumQkvReferenceIdeal.τ).loc Cert.SumQkvReferenceIdeal.main_arg1) = m ((c.tc : Thread Cert.SumQkvIdeal.nD Cert.SumQkvIdeal.τ).loc Cert.SumQkvIdeal.main_arg1)
      ∧ m' ((c.tc : Thread Cert.SumQkvReferenceIdeal.nD Cert.SumQkvReferenceIdeal.τ).loc Cert.SumQkvReferenceIdeal.main_arg2) = m ((c.tc : Thread Cert.SumQkvIdeal.nD Cert.SumQkvIdeal.τ).loc Cert.SumQkvIdeal.main_arg2)) →
    ∃ (v0 : (c : Dev Cert.SumQkvIdeal.nD) → Buf (Elt Ideal) ((c.tc : Thread Cert.SumQkvIdeal.nD Cert.SumQkvIdeal.τ).loc Cert.SumQkvIdeal.main_v11)),
      θ_run (Cert.SumQkvIdeal.defs (F := Ideal)) (onTc (τ := Cert.SumQkvIdeal.τ) (Cert.SumQkvIdeal.main (F := Ideal))) ⟨m, fun _ => 0, g⟩ (fun r => ∀ c : Dev Cert.SumQkvIdeal.nD,
          r.2.mem ((c.tc : Thread Cert.SumQkvIdeal.nD Cert.SumQkvIdeal.τ).loc Cert.SumQkvIdeal.main_v11) = v0 c
          ∧ r.2.mem ((c.tc : Thread Cert.SumQkvIdeal.nD Cert.SumQkvIdeal.τ).loc Cert.SumQkvIdeal.main_arg0) = m ((c.tc : Thread Cert.SumQkvIdeal.nD Cert.SumQkvIdeal.τ).loc Cert.SumQkvIdeal.main_arg0)
          ∧ r.2.mem ((c.tc : Thread Cert.SumQkvIdeal.nD Cert.SumQkvIdeal.τ).loc Cert.SumQkvIdeal.main_arg1) = m ((c.tc : Thread Cert.SumQkvIdeal.nD Cert.SumQkvIdeal.τ).loc Cert.SumQkvIdeal.main_arg1)
          ∧ r.2.mem ((c.tc : Thread Cert.SumQkvIdeal.nD Cert.SumQkvIdeal.τ).loc Cert.SumQkvIdeal.main_arg2) = m ((c.tc : Thread Cert.SumQkvIdeal.nD Cert.SumQkvIdeal.τ).loc Cert.SumQkvIdeal.main_arg2))
      ∧ θ_run (Cert.SumQkvReferenceIdeal.defs (F := Ideal)) (onTc (τ := Cert.SumQkvReferenceIdeal.τ) (Cert.SumQkvReferenceIdeal.main (F := Ideal))) ⟨m', fun _ => 0, g'⟩ (fun r => ∀ c : Dev Cert.SumQkvReferenceIdeal.nD,
          r.2.mem ((c.tc : Thread Cert.SumQkvReferenceIdeal.nD Cert.SumQkvReferenceIdeal.τ).loc Cert.SumQkvReferenceIdeal.main_v6) = v0 c
          ∧ r.2.mem ((c.tc : Thread Cert.SumQkvReferenceIdeal.nD Cert.SumQkvReferenceIdeal.τ).loc Cert.SumQkvReferenceIdeal.main_arg0) = m' ((c.tc : Thread Cert.SumQkvReferenceIdeal.nD Cert.SumQkvReferenceIdeal.τ).loc Cert.SumQkvReferenceIdeal.main_arg0)
          ∧ r.2.mem ((c.tc : Thread Cert.SumQkvReferenceIdeal.nD Cert.SumQkvReferenceIdeal.τ).loc Cert.SumQkvReferenceIdeal.main_arg1) = m' ((c.tc : Thread Cert.SumQkvReferenceIdeal.nD Cert.SumQkvReferenceIdeal.τ).loc Cert.SumQkvReferenceIdeal.main_arg1)
          ∧ r.2.mem ((c.tc : Thread Cert.SumQkvReferenceIdeal.nD Cert.SumQkvReferenceIdeal.τ).loc Cert.SumQkvReferenceIdeal.main_arg2) = m' ((c.tc : Thread Cert.SumQkvReferenceIdeal.nD Cert.SumQkvReferenceIdeal.τ).loc Cert.SumQkvReferenceIdeal.main_arg2))

def preserves_SumAttnOut_SumAttnOutIdeal : Prop :=
  True

def algebraic_SumAttnOutIdeal_SumAttnOutReferenceIdeal [hSumAttnOutIdeal : Cert.SumAttnOutIdeal.Facts] [hSumAttnOutReferenceIdeal : Cert.SumAttnOutReferenceIdeal.Facts] : Prop :=
  ∀ (m : (ℓ : Loc Cert.SumAttnOutIdeal.nD Cert.SumAttnOutIdeal.τ Cert.SumAttnOutIdeal.sig) → Buf (Elt Ideal) ℓ) (g : Dev Cert.SumAttnOutIdeal.nD → PrngReg)
    (m' : (ℓ : Loc Cert.SumAttnOutReferenceIdeal.nD Cert.SumAttnOutReferenceIdeal.τ Cert.SumAttnOutReferenceIdeal.sig) → Buf (Elt Ideal) ℓ) (g' : Dev Cert.SumAttnOutReferenceIdeal.nD → PrngReg), Pre_SumAttnOutIdeal m →
    (∀ c : Dev Cert.SumAttnOutIdeal.nD,
      m' ((c.tc : Thread Cert.SumAttnOutReferenceIdeal.nD Cert.SumAttnOutReferenceIdeal.τ).loc Cert.SumAttnOutReferenceIdeal.main_arg0) = m ((c.tc : Thread Cert.SumAttnOutIdeal.nD Cert.SumAttnOutIdeal.τ).loc Cert.SumAttnOutIdeal.main_arg0)
      ∧ m' ((c.tc : Thread Cert.SumAttnOutReferenceIdeal.nD Cert.SumAttnOutReferenceIdeal.τ).loc Cert.SumAttnOutReferenceIdeal.main_arg1) = m ((c.tc : Thread Cert.SumAttnOutIdeal.nD Cert.SumAttnOutIdeal.τ).loc Cert.SumAttnOutIdeal.main_arg1)
      ∧ m' ((c.tc : Thread Cert.SumAttnOutReferenceIdeal.nD Cert.SumAttnOutReferenceIdeal.τ).loc Cert.SumAttnOutReferenceIdeal.main_arg2) = m ((c.tc : Thread Cert.SumAttnOutIdeal.nD Cert.SumAttnOutIdeal.τ).loc Cert.SumAttnOutIdeal.main_arg2)) →
    ∃ (v0 : (c : Dev Cert.SumAttnOutIdeal.nD) → Buf (Elt Ideal) ((c.tc : Thread Cert.SumAttnOutIdeal.nD Cert.SumAttnOutIdeal.τ).loc Cert.SumAttnOutIdeal.main_v11)),
      θ_run (Cert.SumAttnOutIdeal.defs (F := Ideal)) (onTc (τ := Cert.SumAttnOutIdeal.τ) (Cert.SumAttnOutIdeal.main (F := Ideal))) ⟨m, fun _ => 0, g⟩ (fun r => ∀ c : Dev Cert.SumAttnOutIdeal.nD,
          r.2.mem ((c.tc : Thread Cert.SumAttnOutIdeal.nD Cert.SumAttnOutIdeal.τ).loc Cert.SumAttnOutIdeal.main_v11) = v0 c
          ∧ r.2.mem ((c.tc : Thread Cert.SumAttnOutIdeal.nD Cert.SumAttnOutIdeal.τ).loc Cert.SumAttnOutIdeal.main_arg0) = m ((c.tc : Thread Cert.SumAttnOutIdeal.nD Cert.SumAttnOutIdeal.τ).loc Cert.SumAttnOutIdeal.main_arg0)
          ∧ r.2.mem ((c.tc : Thread Cert.SumAttnOutIdeal.nD Cert.SumAttnOutIdeal.τ).loc Cert.SumAttnOutIdeal.main_arg1) = m ((c.tc : Thread Cert.SumAttnOutIdeal.nD Cert.SumAttnOutIdeal.τ).loc Cert.SumAttnOutIdeal.main_arg1)
          ∧ r.2.mem ((c.tc : Thread Cert.SumAttnOutIdeal.nD Cert.SumAttnOutIdeal.τ).loc Cert.SumAttnOutIdeal.main_arg2) = m ((c.tc : Thread Cert.SumAttnOutIdeal.nD Cert.SumAttnOutIdeal.τ).loc Cert.SumAttnOutIdeal.main_arg2))
      ∧ θ_run (Cert.SumAttnOutReferenceIdeal.defs (F := Ideal)) (onTc (τ := Cert.SumAttnOutReferenceIdeal.τ) (Cert.SumAttnOutReferenceIdeal.main (F := Ideal))) ⟨m', fun _ => 0, g'⟩ (fun r => ∀ c : Dev Cert.SumAttnOutReferenceIdeal.nD,
          r.2.mem ((c.tc : Thread Cert.SumAttnOutReferenceIdeal.nD Cert.SumAttnOutReferenceIdeal.τ).loc Cert.SumAttnOutReferenceIdeal.main_v6) = v0 c
          ∧ r.2.mem ((c.tc : Thread Cert.SumAttnOutReferenceIdeal.nD Cert.SumAttnOutReferenceIdeal.τ).loc Cert.SumAttnOutReferenceIdeal.main_arg0) = m' ((c.tc : Thread Cert.SumAttnOutReferenceIdeal.nD Cert.SumAttnOutReferenceIdeal.τ).loc Cert.SumAttnOutReferenceIdeal.main_arg0)
          ∧ r.2.mem ((c.tc : Thread Cert.SumAttnOutReferenceIdeal.nD Cert.SumAttnOutReferenceIdeal.τ).loc Cert.SumAttnOutReferenceIdeal.main_arg1) = m' ((c.tc : Thread Cert.SumAttnOutReferenceIdeal.nD Cert.SumAttnOutReferenceIdeal.τ).loc Cert.SumAttnOutReferenceIdeal.main_arg1)
          ∧ r.2.mem ((c.tc : Thread Cert.SumAttnOutReferenceIdeal.nD Cert.SumAttnOutReferenceIdeal.τ).loc Cert.SumAttnOutReferenceIdeal.main_arg2) = m' ((c.tc : Thread Cert.SumAttnOutReferenceIdeal.nD Cert.SumAttnOutReferenceIdeal.τ).loc Cert.SumAttnOutReferenceIdeal.main_arg2))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v4)) (v1 : (c : Dev Cert.LossHeadIdeal.nD) → Buf (Elt Ideal) ((c.tc : Thread Cert.LossHeadIdeal.nD Cert.LossHeadIdeal.τ).loc Cert.LossHeadIdeal.main_v0_0)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v4) = v0 c
          ∧ r.2.mem ((c.tc : Thread Cert.LossHeadIdeal.nD Cert.LossHeadIdeal.τ).loc Cert.LossHeadIdeal.main_v0_0) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v8) = v0 c
          ∧ r.2.mem ((c.tc : Thread Cert.LossHeadReferenceIdeal.nD Cert.LossHeadReferenceIdeal.τ).loc Cert.LossHeadReferenceIdeal.main_v14) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1))

def preserves_CondPre_CondPreIdeal : Prop :=
  True

def algebraic_CondPreIdeal_CondPreReferenceIdeal [hCondPreIdeal : Cert.CondPreIdeal.Facts] [hCondPreReferenceIdeal : Cert.CondPreReferenceIdeal.Facts] : Prop :=
  ∀ (m : (ℓ : Loc Cert.CondPreIdeal.nD Cert.CondPreIdeal.τ Cert.CondPreIdeal.sig) → Buf (Elt Ideal) ℓ) (g : Dev Cert.CondPreIdeal.nD → PrngReg)
    (m' : (ℓ : Loc Cert.CondPreReferenceIdeal.nD Cert.CondPreReferenceIdeal.τ Cert.CondPreReferenceIdeal.sig) → Buf (Elt Ideal) ℓ) (g' : Dev Cert.CondPreReferenceIdeal.nD → PrngReg), Pre_CondPreIdeal m →
    (∀ c : Dev Cert.CondPreIdeal.nD,
      m' ((c.tc : Thread Cert.CondPreReferenceIdeal.nD Cert.CondPreReferenceIdeal.τ).loc Cert.CondPreReferenceIdeal.main_arg0) = m ((c.tc : Thread Cert.CondPreIdeal.nD Cert.CondPreIdeal.τ).loc Cert.CondPreIdeal.main_arg0)
      ∧ m' ((c.tc : Thread Cert.CondPreReferenceIdeal.nD Cert.CondPreReferenceIdeal.τ).loc Cert.CondPreReferenceIdeal.main_arg1) = m ((c.tc : Thread Cert.CondPreIdeal.nD Cert.CondPreIdeal.τ).loc Cert.CondPreIdeal.main_arg1)) →
    ∃ (v0 : (c : Dev Cert.CondPreIdeal.nD) → Buf (Elt Ideal) ((c.tc : Thread Cert.CondPreIdeal.nD Cert.CondPreIdeal.τ).loc Cert.CondPreIdeal.main_v0)),
      θ_run (Cert.CondPreIdeal.defs (F := Ideal)) (onTc (τ := Cert.CondPreIdeal.τ) (Cert.CondPreIdeal.main (F := Ideal))) ⟨m, fun _ => 0, g⟩ (fun r => ∀ c : Dev Cert.CondPreIdeal.nD,
          r.2.mem ((c.tc : Thread Cert.CondPreIdeal.nD Cert.CondPreIdeal.τ).loc Cert.CondPreIdeal.main_v0) = v0 c
          ∧ r.2.mem ((c.tc : Thread Cert.CondPreIdeal.nD Cert.CondPreIdeal.τ).loc Cert.CondPreIdeal.main_arg0) = m ((c.tc : Thread Cert.CondPreIdeal.nD Cert.CondPreIdeal.τ).loc Cert.CondPreIdeal.main_arg0)
          ∧ r.2.mem ((c.tc : Thread Cert.CondPreIdeal.nD Cert.CondPreIdeal.τ).loc Cert.CondPreIdeal.main_arg1) = m ((c.tc : Thread Cert.CondPreIdeal.nD Cert.CondPreIdeal.τ).loc Cert.CondPreIdeal.main_arg1))
      ∧ θ_run (Cert.CondPreReferenceIdeal.defs (F := Ideal)) (onTc (τ := Cert.CondPreReferenceIdeal.τ) (Cert.CondPreReferenceIdeal.main (F := Ideal))) ⟨m', fun _ => 0, g'⟩ (fun r => ∀ c : Dev Cert.CondPreReferenceIdeal.nD,
          r.2.mem ((c.tc : Thread Cert.CondPreReferenceIdeal.nD Cert.CondPreReferenceIdeal.τ).loc Cert.CondPreReferenceIdeal.main_v0) = v0 c
          ∧ r.2.mem ((c.tc : Thread Cert.CondPreReferenceIdeal.nD Cert.CondPreReferenceIdeal.τ).loc Cert.CondPreReferenceIdeal.main_arg0) = m' ((c.tc : Thread Cert.CondPreReferenceIdeal.nD Cert.CondPreReferenceIdeal.τ).loc Cert.CondPreReferenceIdeal.main_arg0)
          ∧ r.2.mem ((c.tc : Thread Cert.CondPreReferenceIdeal.nD Cert.CondPreReferenceIdeal.τ).loc Cert.CondPreReferenceIdeal.main_arg1) = m' ((c.tc : Thread Cert.CondPreReferenceIdeal.nD Cert.CondPreReferenceIdeal.τ).loc Cert.CondPreReferenceIdeal.main_arg1))

def preserves_CondE_CondEIdeal : Prop :=
  True

def algebraic_CondEIdeal_CondEReferenceIdeal [hCondEIdeal : Cert.CondEIdeal.Facts] [hCondEReferenceIdeal : Cert.CondEReferenceIdeal.Facts] : Prop :=
  ∀ (m : (ℓ : Loc Cert.CondEIdeal.nD Cert.CondEIdeal.τ Cert.CondEIdeal.sig) → Buf (Elt Ideal) ℓ) (g : Dev Cert.CondEIdeal.nD → PrngReg)
    (m' : (ℓ : Loc Cert.CondEReferenceIdeal.nD Cert.CondEReferenceIdeal.τ Cert.CondEReferenceIdeal.sig) → Buf (Elt Ideal) ℓ) (g' : Dev Cert.CondEReferenceIdeal.nD → PrngReg), Pre_CondEIdeal m →
    (∀ c : Dev Cert.CondEIdeal.nD,
      m' ((c.tc : Thread Cert.CondEReferenceIdeal.nD Cert.CondEReferenceIdeal.τ).loc Cert.CondEReferenceIdeal.main_arg0) = m ((c.tc : Thread Cert.CondEIdeal.nD Cert.CondEIdeal.τ).loc Cert.CondEIdeal.main_arg0)
      ∧ m' ((c.tc : Thread Cert.CondEReferenceIdeal.nD Cert.CondEReferenceIdeal.τ).loc Cert.CondEReferenceIdeal.main_arg1) = m ((c.tc : Thread Cert.CondEIdeal.nD Cert.CondEIdeal.τ).loc Cert.CondEIdeal.main_arg1)) →
    ∃ (v0 : (c : Dev Cert.CondEIdeal.nD) → Buf (Elt Ideal) ((c.tc : Thread Cert.CondEIdeal.nD Cert.CondEIdeal.τ).loc Cert.CondEIdeal.main_v0_0)) (v1 : (c : Dev Cert.CondEIdeal.nD) → Buf (Elt Ideal) ((c.tc : Thread Cert.CondEIdeal.nD Cert.CondEIdeal.τ).loc Cert.CondEIdeal.main_v0_1)),
      θ_run (Cert.CondEIdeal.defs (F := Ideal)) (onTc (τ := Cert.CondEIdeal.τ) (Cert.CondEIdeal.main (F := Ideal))) ⟨m, fun _ => 0, g⟩ (fun r => ∀ c : Dev Cert.CondEIdeal.nD,
          r.2.mem ((c.tc : Thread Cert.CondEIdeal.nD Cert.CondEIdeal.τ).loc Cert.CondEIdeal.main_v0_0) = v0 c
          ∧ r.2.mem ((c.tc : Thread Cert.CondEIdeal.nD Cert.CondEIdeal.τ).loc Cert.CondEIdeal.main_v0_1) = v1 c
          ∧ r.2.mem ((c.tc : Thread Cert.CondEIdeal.nD Cert.CondEIdeal.τ).loc Cert.CondEIdeal.main_arg0) = m ((c.tc : Thread Cert.CondEIdeal.nD Cert.CondEIdeal.τ).loc Cert.CondEIdeal.main_arg0)
          ∧ r.2.mem ((c.tc : Thread Cert.CondEIdeal.nD Cert.CondEIdeal.τ).loc Cert.CondEIdeal.main_arg1) = m ((c.tc : Thread Cert.CondEIdeal.nD Cert.CondEIdeal.τ).loc Cert.CondEIdeal.main_arg1))
      ∧ θ_run (Cert.CondEReferenceIdeal.defs (F := Ideal)) (onTc (τ := Cert.CondEReferenceIdeal.τ) (Cert.CondEReferenceIdeal.main (F := Ideal))) ⟨m', fun _ => 0, g'⟩ (fun r => ∀ c : Dev Cert.CondEReferenceIdeal.nD,
          r.2.mem ((c.tc : Thread Cert.CondEReferenceIdeal.nD Cert.CondEReferenceIdeal.τ).loc Cert.CondEReferenceIdeal.main_v12) = v0 c
          ∧ r.2.mem ((c.tc : Thread Cert.CondEReferenceIdeal.nD Cert.CondEReferenceIdeal.τ).loc Cert.CondEReferenceIdeal.main_v13) = v1 c
          ∧ r.2.mem ((c.tc : Thread Cert.CondEReferenceIdeal.nD Cert.CondEReferenceIdeal.τ).loc Cert.CondEReferenceIdeal.main_arg0) = m' ((c.tc : Thread Cert.CondEReferenceIdeal.nD Cert.CondEReferenceIdeal.τ).loc Cert.CondEReferenceIdeal.main_arg0)
          ∧ r.2.mem ((c.tc : Thread Cert.CondEReferenceIdeal.nD Cert.CondEReferenceIdeal.τ).loc Cert.CondEReferenceIdeal.main_arg1) = m' ((c.tc : Thread Cert.CondEReferenceIdeal.nD Cert.CondEReferenceIdeal.τ).loc Cert.CondEReferenceIdeal.main_arg1))

def preserves_ModCols_ModColsIdeal : Prop :=
  True

def algebraic_ModColsIdeal_ModColsReferenceIdeal [hModColsIdeal : Cert.ModColsIdeal.Facts] [hModColsReferenceIdeal : Cert.ModColsReferenceIdeal.Facts] : Prop :=
  ∀ (m : (ℓ : Loc Cert.ModColsIdeal.nD Cert.ModColsIdeal.τ Cert.ModColsIdeal.sig) → Buf (Elt Ideal) ℓ) (g : Dev Cert.ModColsIdeal.nD → PrngReg)
    (m' : (ℓ : Loc Cert.ModColsReferenceIdeal.nD Cert.ModColsReferenceIdeal.τ Cert.ModColsReferenceIdeal.sig) → Buf (Elt Ideal) ℓ) (g' : Dev Cert.ModColsReferenceIdeal.nD → PrngReg), Pre_ModColsIdeal m →
    (∀ c : Dev Cert.ModColsIdeal.nD,
      m' ((c.tc : Thread Cert.ModColsReferenceIdeal.nD Cert.ModColsReferenceIdeal.τ).loc Cert.ModColsReferenceIdeal.main_arg0) = m ((c.tc : Thread Cert.ModColsIdeal.nD Cert.ModColsIdeal.τ).loc Cert.ModColsIdeal.main_arg0)
      ∧ m' ((c.tc : Thread Cert.ModColsReferenceIdeal.nD Cert.ModColsReferenceIdeal.τ).loc Cert.ModColsReferenceIdeal.main_arg1) = m ((c.tc : Thread Cert.ModColsIdeal.nD Cert.ModColsIdeal.τ).loc Cert.ModColsIdeal.main_arg1)
      ∧ m' ((c.tc : Thread Cert.ModColsReferenceIdeal.nD Cert.ModColsReferenceIdeal.τ).loc Cert.ModColsReferenceIdeal.main_arg2) = m ((c.tc : Thread Cert.ModColsIdeal.nD Cert.ModColsIdeal.τ).loc Cert.ModColsIdeal.main_arg2)) →
    ∃ (v0 : (c : Dev Cert.ModColsIdeal.nD) → Buf (Elt Ideal) ((c.tc : Thread Cert.ModColsIdeal.nD Cert.ModColsIdeal.τ).loc Cert.ModColsIdeal.main_v0)),
      θ_run (Cert.ModColsIdeal.defs (F := Ideal)) (onTc (τ := Cert.ModColsIdeal.τ) (Cert.ModColsIdeal.main (F := Ideal))) ⟨m, fun _ => 0, g⟩ (fun r => ∀ c : Dev Cert.ModColsIdeal.nD,
          r.2.mem ((c.tc : Thread Cert.ModColsIdeal.nD Cert.ModColsIdeal.τ).loc Cert.ModColsIdeal.main_v0) = v0 c
          ∧ r.2.mem ((c.tc : Thread Cert.ModColsIdeal.nD Cert.ModColsIdeal.τ).loc Cert.ModColsIdeal.main_arg0) = m ((c.tc : Thread Cert.ModColsIdeal.nD Cert.ModColsIdeal.τ).loc Cert.ModColsIdeal.main_arg0)
          ∧ r.2.mem ((c.tc : Thread Cert.ModColsIdeal.nD Cert.ModColsIdeal.τ).loc Cert.ModColsIdeal.main_arg1) = m ((c.tc : Thread Cert.ModColsIdeal.nD Cert.ModColsIdeal.τ).loc Cert.ModColsIdeal.main_arg1)
          ∧ r.2.mem ((c.tc : Thread Cert.ModColsIdeal.nD Cert.ModColsIdeal.τ).loc Cert.ModColsIdeal.main_arg2) = m ((c.tc : Thread Cert.ModColsIdeal.nD Cert.ModColsIdeal.τ).loc Cert.ModColsIdeal.main_arg2))
      ∧ θ_run (Cert.ModColsReferenceIdeal.defs (F := Ideal)) (onTc (τ := Cert.ModColsReferenceIdeal.τ) (Cert.ModColsReferenceIdeal.main (F := Ideal))) ⟨m', fun _ => 0, g'⟩ (fun r => ∀ c : Dev Cert.ModColsReferenceIdeal.nD,
          r.2.mem ((c.tc : Thread Cert.ModColsReferenceIdeal.nD Cert.ModColsReferenceIdeal.τ).loc Cert.ModColsReferenceIdeal.main_v3) = v0 c
          ∧ r.2.mem ((c.tc : Thread Cert.ModColsReferenceIdeal.nD Cert.ModColsReferenceIdeal.τ).loc Cert.ModColsReferenceIdeal.main_arg0) = m' ((c.tc : Thread Cert.ModColsReferenceIdeal.nD Cert.ModColsReferenceIdeal.τ).loc Cert.ModColsReferenceIdeal.main_arg0)
          ∧ r.2.mem ((c.tc : Thread Cert.ModColsReferenceIdeal.nD Cert.ModColsReferenceIdeal.τ).loc Cert.ModColsReferenceIdeal.main_arg1) = m' ((c.tc : Thread Cert.ModColsReferenceIdeal.nD Cert.ModColsReferenceIdeal.τ).loc Cert.ModColsReferenceIdeal.main_arg1)
          ∧ r.2.mem ((c.tc : Thread Cert.ModColsReferenceIdeal.nD Cert.ModColsReferenceIdeal.τ).loc Cert.ModColsReferenceIdeal.main_arg2) = m' ((c.tc : Thread Cert.ModColsReferenceIdeal.nD Cert.ModColsReferenceIdeal.τ).loc Cert.ModColsReferenceIdeal.main_arg2))

def preserves_GradConvIn_GradConvInIdeal : Prop :=
  True

def algebraic_GradConvInIdeal_GradConvInReferenceIdeal [hGradConvInIdeal : Cert.GradConvInIdeal.Facts] [hGradConvInReferenceIdeal : Cert.GradConvInReferenceIdeal.Facts] : Prop :=
  ∀ (m : (ℓ : Loc Cert.GradConvInIdeal.nD Cert.GradConvInIdeal.τ Cert.GradConvInIdeal.sig) → Buf (Elt Ideal) ℓ) (g : Dev Cert.GradConvInIdeal.nD → PrngReg)
    (m' : (ℓ : Loc Cert.GradConvInReferenceIdeal.nD Cert.GradConvInReferenceIdeal.τ Cert.GradConvInReferenceIdeal.sig) → Buf (Elt Ideal) ℓ) (g' : Dev Cert.GradConvInReferenceIdeal.nD → PrngReg), Pre_GradConvInIdeal m →
    (∀ c : Dev Cert.GradConvInIdeal.nD,
      m' ((c.tc : Thread Cert.GradConvInReferenceIdeal.nD Cert.GradConvInReferenceIdeal.τ).loc Cert.GradConvInReferenceIdeal.main_arg0) = m ((c.tc : Thread Cert.GradConvInIdeal.nD Cert.GradConvInIdeal.τ).loc Cert.GradConvInIdeal.main_arg0)
      ∧ m' ((c.tc : Thread Cert.GradConvInReferenceIdeal.nD Cert.GradConvInReferenceIdeal.τ).loc Cert.GradConvInReferenceIdeal.main_arg1) = m ((c.tc : Thread Cert.GradConvInIdeal.nD Cert.GradConvInIdeal.τ).loc Cert.GradConvInIdeal.main_arg1)
      ∧ m' ((c.tc : Thread Cert.GradConvInReferenceIdeal.nD Cert.GradConvInReferenceIdeal.τ).loc Cert.GradConvInReferenceIdeal.main_arg2) = m ((c.tc : Thread Cert.GradConvInIdeal.nD Cert.GradConvInIdeal.τ).loc Cert.GradConvInIdeal.main_arg2)) →
    ∃ (v0 : (c : Dev Cert.GradConvInIdeal.nD) → Buf (Elt Ideal) ((c.tc : Thread Cert.GradConvInIdeal.nD Cert.GradConvInIdeal.τ).loc Cert.GradConvInIdeal.main_v0)),
      θ_run (Cert.GradConvInIdeal.defs (F := Ideal)) (onTc (τ := Cert.GradConvInIdeal.τ) (Cert.GradConvInIdeal.main (F := Ideal))) ⟨m, fun _ => 0, g⟩ (fun r => ∀ c : Dev Cert.GradConvInIdeal.nD,
          r.2.mem ((c.tc : Thread Cert.GradConvInIdeal.nD Cert.GradConvInIdeal.τ).loc Cert.GradConvInIdeal.main_v0) = v0 c
          ∧ r.2.mem ((c.tc : Thread Cert.GradConvInIdeal.nD Cert.GradConvInIdeal.τ).loc Cert.GradConvInIdeal.main_arg0) = m ((c.tc : Thread Cert.GradConvInIdeal.nD Cert.GradConvInIdeal.τ).loc Cert.GradConvInIdeal.main_arg0)
          ∧ r.2.mem ((c.tc : Thread Cert.GradConvInIdeal.nD Cert.GradConvInIdeal.τ).loc Cert.GradConvInIdeal.main_arg1) = m ((c.tc : Thread Cert.GradConvInIdeal.nD Cert.GradConvInIdeal.τ).loc Cert.GradConvInIdeal.main_arg1)
          ∧ r.2.mem ((c.tc : Thread Cert.GradConvInIdeal.nD Cert.GradConvInIdeal.τ).loc Cert.GradConvInIdeal.main_arg2) = m ((c.tc : Thread Cert.GradConvInIdeal.nD Cert.GradConvInIdeal.τ).loc Cert.GradConvInIdeal.main_arg2))
      ∧ θ_run (Cert.GradConvInReferenceIdeal.defs (F := Ideal)) (onTc (τ := Cert.GradConvInReferenceIdeal.τ) (Cert.GradConvInReferenceIdeal.main (F := Ideal))) ⟨m', fun _ => 0, g'⟩ (fun r => ∀ c : Dev Cert.GradConvInReferenceIdeal.nD,
          r.2.mem ((c.tc : Thread Cert.GradConvInReferenceIdeal.nD Cert.GradConvInReferenceIdeal.τ).loc Cert.GradConvInReferenceIdeal.main_v10) = v0 c
          ∧ r.2.mem ((c.tc : Thread Cert.GradConvInReferenceIdeal.nD Cert.GradConvInReferenceIdeal.τ).loc Cert.GradConvInReferenceIdeal.main_arg0) = m' ((c.tc : Thread Cert.GradConvInReferenceIdeal.nD Cert.GradConvInReferenceIdeal.τ).loc Cert.GradConvInReferenceIdeal.main_arg0)
          ∧ r.2.mem ((c.tc : Thread Cert.GradConvInReferenceIdeal.nD Cert.GradConvInReferenceIdeal.τ).loc Cert.GradConvInReferenceIdeal.main_arg1) = m' ((c.tc : Thread Cert.GradConvInReferenceIdeal.nD Cert.GradConvInReferenceIdeal.τ).loc Cert.GradConvInReferenceIdeal.main_arg1)
          ∧ r.2.mem ((c.tc : Thread Cert.GradConvInReferenceIdeal.nD Cert.GradConvInReferenceIdeal.τ).loc Cert.GradConvInReferenceIdeal.main_arg2) = m' ((c.tc : Thread Cert.GradConvInReferenceIdeal.nD Cert.GradConvInReferenceIdeal.τ).loc Cert.GradConvInReferenceIdeal.main_arg2))

def preserves_GradConvOut_GradConvOutIdeal : Prop :=
  True

def algebraic_GradConvOutIdeal_GradConvOutReferenceIdeal [hGradConvOutIdeal : Cert.GradConvOutIdeal.Facts] [hGradConvOutReferenceIdeal : Cert.GradConvOutReferenceIdeal.Facts] : Prop :=
  ∀ (m : (ℓ : Loc Cert.GradConvOutIdeal.nD Cert.GradConvOutIdeal.τ Cert.GradConvOutIdeal.sig) → Buf (Elt Ideal) ℓ) (g : Dev Cert.GradConvOutIdeal.nD → PrngReg)
    (m' : (ℓ : Loc Cert.GradConvOutReferenceIdeal.nD Cert.GradConvOutReferenceIdeal.τ Cert.GradConvOutReferenceIdeal.sig) → Buf (Elt Ideal) ℓ) (g' : Dev Cert.GradConvOutReferenceIdeal.nD → PrngReg), Pre_GradConvOutIdeal m →
    (∀ c : Dev Cert.GradConvOutIdeal.nD,
      m' ((c.tc : Thread Cert.GradConvOutReferenceIdeal.nD Cert.GradConvOutReferenceIdeal.τ).loc Cert.GradConvOutReferenceIdeal.main_arg0) = m ((c.tc : Thread Cert.GradConvOutIdeal.nD Cert.GradConvOutIdeal.τ).loc Cert.GradConvOutIdeal.main_arg0)
      ∧ m' ((c.tc : Thread Cert.GradConvOutReferenceIdeal.nD Cert.GradConvOutReferenceIdeal.τ).loc Cert.GradConvOutReferenceIdeal.main_arg1) = m ((c.tc : Thread Cert.GradConvOutIdeal.nD Cert.GradConvOutIdeal.τ).loc Cert.GradConvOutIdeal.main_arg1)
      ∧ m' ((c.tc : Thread Cert.GradConvOutReferenceIdeal.nD Cert.GradConvOutReferenceIdeal.τ).loc Cert.GradConvOutReferenceIdeal.main_arg2) = m ((c.tc : Thread Cert.GradConvOutIdeal.nD Cert.GradConvOutIdeal.τ).loc Cert.GradConvOutIdeal.main_arg2)) →
    ∃ (v0 : (c : Dev Cert.GradConvOutIdeal.nD) → Buf (Elt Ideal) ((c.tc : Thread Cert.GradConvOutIdeal.nD Cert.GradConvOutIdeal.τ).loc Cert.GradConvOutIdeal.main_v0)),
      θ_run (Cert.GradConvOutIdeal.defs (F := Ideal)) (onTc (τ := Cert.GradConvOutIdeal.τ) (Cert.GradConvOutIdeal.main (F := Ideal))) ⟨m, fun _ => 0, g⟩ (fun r => ∀ c : Dev Cert.GradConvOutIdeal.nD,
          r.2.mem ((c.tc : Thread Cert.GradConvOutIdeal.nD Cert.GradConvOutIdeal.τ).loc Cert.GradConvOutIdeal.main_v0) = v0 c
          ∧ r.2.mem ((c.tc : Thread Cert.GradConvOutIdeal.nD Cert.GradConvOutIdeal.τ).loc Cert.GradConvOutIdeal.main_arg0) = m ((c.tc : Thread Cert.GradConvOutIdeal.nD Cert.GradConvOutIdeal.τ).loc Cert.GradConvOutIdeal.main_arg0)
          ∧ r.2.mem ((c.tc : Thread Cert.GradConvOutIdeal.nD Cert.GradConvOutIdeal.τ).loc Cert.GradConvOutIdeal.main_arg1) = m ((c.tc : Thread Cert.GradConvOutIdeal.nD Cert.GradConvOutIdeal.τ).loc Cert.GradConvOutIdeal.main_arg1)
          ∧ r.2.mem ((c.tc : Thread Cert.GradConvOutIdeal.nD Cert.GradConvOutIdeal.τ).loc Cert.GradConvOutIdeal.main_arg2) = m ((c.tc : Thread Cert.GradConvOutIdeal.nD Cert.GradConvOutIdeal.τ).loc Cert.GradConvOutIdeal.main_arg2))
      ∧ θ_run (Cert.GradConvOutReferenceIdeal.defs (F := Ideal)) (onTc (τ := Cert.GradConvOutReferenceIdeal.τ) (Cert.GradConvOutReferenceIdeal.main (F := Ideal))) ⟨m', fun _ => 0, g'⟩ (fun r => ∀ c : Dev Cert.GradConvOutReferenceIdeal.nD,
          r.2.mem ((c.tc : Thread Cert.GradConvOutReferenceIdeal.nD Cert.GradConvOutReferenceIdeal.τ).loc Cert.GradConvOutReferenceIdeal.main_v8) = v0 c
          ∧ r.2.mem ((c.tc : Thread Cert.GradConvOutReferenceIdeal.nD Cert.GradConvOutReferenceIdeal.τ).loc Cert.GradConvOutReferenceIdeal.main_arg0) = m' ((c.tc : Thread Cert.GradConvOutReferenceIdeal.nD Cert.GradConvOutReferenceIdeal.τ).loc Cert.GradConvOutReferenceIdeal.main_arg0)
          ∧ r.2.mem ((c.tc : Thread Cert.GradConvOutReferenceIdeal.nD Cert.GradConvOutReferenceIdeal.τ).loc Cert.GradConvOutReferenceIdeal.main_arg1) = m' ((c.tc : Thread Cert.GradConvOutReferenceIdeal.nD Cert.GradConvOutReferenceIdeal.τ).loc Cert.GradConvOutReferenceIdeal.main_arg1)
          ∧ r.2.mem ((c.tc : Thread Cert.GradConvOutReferenceIdeal.nD Cert.GradConvOutReferenceIdeal.τ).loc Cert.GradConvOutReferenceIdeal.main_arg2) = m' ((c.tc : Thread Cert.GradConvOutReferenceIdeal.nD Cert.GradConvOutReferenceIdeal.τ).loc Cert.GradConvOutReferenceIdeal.main_arg2))

def preserves_GradQkv_GradQkvIdeal : Prop :=
  True

def algebraic_GradQkvIdeal_GradQkvReferenceIdeal [hGradQkvIdeal : Cert.GradQkvIdeal.Facts] [hGradQkvReferenceIdeal : Cert.GradQkvReferenceIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg)
    (m' : (ℓ : Loc Cert.GradQkvReferenceIdeal.nD Cert.GradQkvReferenceIdeal.τ Cert.GradQkvReferenceIdeal.sig) → Buf (Elt Ideal) ℓ) (g' : Dev Cert.GradQkvReferenceIdeal.nD → PrngReg), Pre_GradQkvIdeal m →
    (∀ c : Dev Cert.GradQkvIdeal.nD,
      m' ((c.tc : Thread Cert.GradQkvReferenceIdeal.nD Cert.GradQkvReferenceIdeal.τ).loc Cert.GradQkvReferenceIdeal.main_arg0) = m ((c.tc : Thread Cert.GradQkvIdeal.nD Cert.GradQkvIdeal.τ).loc Cert.GradQkvIdeal.main_arg0)
      ∧ m' ((c.tc : Thread Cert.GradQkvReferenceIdeal.nD Cert.GradQkvReferenceIdeal.τ).loc Cert.GradQkvReferenceIdeal.main_arg1) = m ((c.tc : Thread Cert.GradQkvIdeal.nD Cert.GradQkvIdeal.τ).loc Cert.GradQkvIdeal.main_arg1)
      ∧ m' ((c.tc : Thread Cert.GradQkvReferenceIdeal.nD Cert.GradQkvReferenceIdeal.τ).loc Cert.GradQkvReferenceIdeal.main_arg2) = m ((c.tc : Thread Cert.GradQkvIdeal.nD Cert.GradQkvIdeal.τ).loc Cert.GradQkvIdeal.main_arg2)) →
    ∃ (v0 : (c : Dev Cert.GradQkvIdeal.nD) → Buf (Elt Ideal) ((c.tc : Thread Cert.GradQkvIdeal.nD Cert.GradQkvIdeal.τ).loc Cert.GradQkvIdeal.main_v0)),
      θ_run (Cert.GradQkvIdeal.defs (F := Ideal)) (onTc (τ := Cert.GradQkvIdeal.τ) (Cert.GradQkvIdeal.main (F := Ideal))) ⟨m, fun _ => 0, g⟩ (fun r => ∀ c : Dev Cert.GradQkvIdeal.nD,
          r.2.mem ((c.tc : Thread Cert.GradQkvIdeal.nD Cert.GradQkvIdeal.τ).loc Cert.GradQkvIdeal.main_v0) = v0 c
          ∧ r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
          ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1)
          ∧ r.2.mem ((c.tc : Thread Cert.GradQkvIdeal.nD Cert.GradQkvIdeal.τ).loc Cert.GradQkvIdeal.main_arg2) = m ((c.tc : Thread Cert.GradQkvIdeal.nD Cert.GradQkvIdeal.τ).loc Cert.GradQkvIdeal.main_arg2))
      ∧ θ_run (Cert.GradQkvReferenceIdeal.defs (F := Ideal)) (onTc (τ := Cert.GradQkvReferenceIdeal.τ) (Cert.GradQkvReferenceIdeal.main (F := Ideal))) ⟨m', fun _ => 0, g'⟩ (fun r => ∀ c : Dev Cert.GradQkvReferenceIdeal.nD,
          r.2.mem ((c.tc : Thread Cert.GradQkvReferenceIdeal.nD Cert.GradQkvReferenceIdeal.τ).loc Cert.GradQkvReferenceIdeal.main_v8) = v0 c
          ∧ r.2.mem ((c.tc : Thread Cert.GradQkvReferenceIdeal.nD Cert.GradQkvReferenceIdeal.τ).loc Cert.GradQkvReferenceIdeal.main_arg0) = m' ((c.tc : Thread Cert.GradQkvReferenceIdeal.nD Cert.GradQkvReferenceIdeal.τ).loc Cert.GradQkvReferenceIdeal.main_arg0)
          ∧ r.2.mem ((c.tc : Thread Cert.GradQkvReferenceIdeal.nD Cert.GradQkvReferenceIdeal.τ).loc Cert.GradQkvReferenceIdeal.main_arg1) = m' ((c.tc : Thread Cert.GradQkvReferenceIdeal.nD Cert.GradQkvReferenceIdeal.τ).loc Cert.GradQkvReferenceIdeal.main_arg1)
          ∧ r.2.mem ((c.tc : Thread Cert.GradQkvReferenceIdeal.nD Cert.GradQkvReferenceIdeal.τ).loc Cert.GradQkvReferenceIdeal.main_arg2) = m' ((c.tc : Thread Cert.GradQkvReferenceIdeal.nD Cert.GradQkvReferenceIdeal.τ).loc Cert.GradQkvReferenceIdeal.main_arg2))

def preserves_GradAttnOut_GradAttnOutIdeal : Prop :=
  True

def algebraic_GradAttnOutIdeal_GradAttnOutReferenceIdeal [hGradAttnOutIdeal : Cert.GradAttnOutIdeal.Facts] [hGradAttnOutReferenceIdeal : Cert.GradAttnOutReferenceIdeal.Facts] : Prop :=
  ∀ (m : (ℓ : Loc Cert.GradAttnOutIdeal.nD Cert.GradAttnOutIdeal.τ Cert.GradAttnOutIdeal.sig) → Buf (Elt Ideal) ℓ) (g : Dev Cert.GradAttnOutIdeal.nD → PrngReg)
    (m' : (ℓ : Loc Cert.GradAttnOutReferenceIdeal.nD Cert.GradAttnOutReferenceIdeal.τ Cert.GradAttnOutReferenceIdeal.sig) → Buf (Elt Ideal) ℓ) (g' : Dev Cert.GradAttnOutReferenceIdeal.nD → PrngReg), Pre_GradAttnOutIdeal m →
    (∀ c : Dev Cert.GradAttnOutIdeal.nD,
      m' ((c.tc : Thread Cert.GradAttnOutReferenceIdeal.nD Cert.GradAttnOutReferenceIdeal.τ).loc Cert.GradAttnOutReferenceIdeal.main_arg0) = m ((c.tc : Thread Cert.GradAttnOutIdeal.nD Cert.GradAttnOutIdeal.τ).loc Cert.GradAttnOutIdeal.main_arg0)
      ∧ m' ((c.tc : Thread Cert.GradAttnOutReferenceIdeal.nD Cert.GradAttnOutReferenceIdeal.τ).loc Cert.GradAttnOutReferenceIdeal.main_arg1) = m ((c.tc : Thread Cert.GradAttnOutIdeal.nD Cert.GradAttnOutIdeal.τ).loc Cert.GradAttnOutIdeal.main_arg1)
      ∧ m' ((c.tc : Thread Cert.GradAttnOutReferenceIdeal.nD Cert.GradAttnOutReferenceIdeal.τ).loc Cert.GradAttnOutReferenceIdeal.main_arg2) = m ((c.tc : Thread Cert.GradAttnOutIdeal.nD Cert.GradAttnOutIdeal.τ).loc Cert.GradAttnOutIdeal.main_arg2)) →
    ∃ (v0 : (c : Dev Cert.GradAttnOutIdeal.nD) → Buf (Elt Ideal) ((c.tc : Thread Cert.GradAttnOutIdeal.nD Cert.GradAttnOutIdeal.τ).loc Cert.GradAttnOutIdeal.main_v0)),
      θ_run (Cert.GradAttnOutIdeal.defs (F := Ideal)) (onTc (τ := Cert.GradAttnOutIdeal.τ) (Cert.GradAttnOutIdeal.main (F := Ideal))) ⟨m, fun _ => 0, g⟩ (fun r => ∀ c : Dev Cert.GradAttnOutIdeal.nD,
          r.2.mem ((c.tc : Thread Cert.GradAttnOutIdeal.nD Cert.GradAttnOutIdeal.τ).loc Cert.GradAttnOutIdeal.main_v0) = v0 c
          ∧ r.2.mem ((c.tc : Thread Cert.GradAttnOutIdeal.nD Cert.GradAttnOutIdeal.τ).loc Cert.GradAttnOutIdeal.main_arg0) = m ((c.tc : Thread Cert.GradAttnOutIdeal.nD Cert.GradAttnOutIdeal.τ).loc Cert.GradAttnOutIdeal.main_arg0)
          ∧ r.2.mem ((c.tc : Thread Cert.GradAttnOutIdeal.nD Cert.GradAttnOutIdeal.τ).loc Cert.GradAttnOutIdeal.main_arg1) = m ((c.tc : Thread Cert.GradAttnOutIdeal.nD Cert.GradAttnOutIdeal.τ).loc Cert.GradAttnOutIdeal.main_arg1)
          ∧ r.2.mem ((c.tc : Thread Cert.GradAttnOutIdeal.nD Cert.GradAttnOutIdeal.τ).loc Cert.GradAttnOutIdeal.main_arg2) = m ((c.tc : Thread Cert.GradAttnOutIdeal.nD Cert.GradAttnOutIdeal.τ).loc Cert.GradAttnOutIdeal.main_arg2))
      ∧ θ_run (Cert.GradAttnOutReferenceIdeal.defs (F := Ideal)) (onTc (τ := Cert.GradAttnOutReferenceIdeal.τ) (Cert.GradAttnOutReferenceIdeal.main (F := Ideal))) ⟨m', fun _ => 0, g'⟩ (fun r => ∀ c : Dev Cert.GradAttnOutReferenceIdeal.nD,
          r.2.mem ((c.tc : Thread Cert.GradAttnOutReferenceIdeal.nD Cert.GradAttnOutReferenceIdeal.τ).loc Cert.GradAttnOutReferenceIdeal.main_v6) = v0 c
          ∧ r.2.mem ((c.tc : Thread Cert.GradAttnOutReferenceIdeal.nD Cert.GradAttnOutReferenceIdeal.τ).loc Cert.GradAttnOutReferenceIdeal.main_arg0) = m' ((c.tc : Thread Cert.GradAttnOutReferenceIdeal.nD Cert.GradAttnOutReferenceIdeal.τ).loc Cert.GradAttnOutReferenceIdeal.main_arg0)
          ∧ r.2.mem ((c.tc : Thread Cert.GradAttnOutReferenceIdeal.nD Cert.GradAttnOutReferenceIdeal.τ).loc Cert.GradAttnOutReferenceIdeal.main_arg1) = m' ((c.tc : Thread Cert.GradAttnOutReferenceIdeal.nD Cert.GradAttnOutReferenceIdeal.τ).loc Cert.GradAttnOutReferenceIdeal.main_arg1)
          ∧ r.2.mem ((c.tc : Thread Cert.GradAttnOutReferenceIdeal.nD Cert.GradAttnOutReferenceIdeal.τ).loc Cert.GradAttnOutReferenceIdeal.main_arg2) = m' ((c.tc : Thread Cert.GradAttnOutReferenceIdeal.nD Cert.GradAttnOutReferenceIdeal.τ).loc Cert.GradAttnOutReferenceIdeal.main_arg2))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v8) = v0 c
          ∧ r.2.mem ((c.tc : Thread Cert.OutFwdReferenceIdeal.nD Cert.OutFwdReferenceIdeal.τ).loc Cert.OutFwdReferenceIdeal.main_v9) = v1 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3))

def preserves_OutBwd_OutBwdIdeal : Prop :=
  True

def algebraic_OutBwdIdeal_OutBwdReferenceIdeal [hOutBwdIdeal : Cert.OutBwdIdeal.Facts] [hOutBwdReferenceIdeal : Cert.OutBwdReferenceIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)) (v2 : (c : Dev Cert.OutBwdIdeal.nD) → Buf (Elt Ideal) ((c.tc : Thread Cert.OutBwdIdeal.nD Cert.OutBwdIdeal.τ).loc Cert.OutBwdIdeal.main_v0_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_v0_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v15) = v0 c
          ∧ r.2.mem ((c.tc : Thread Cert.OutBwdReferenceIdeal.nD Cert.OutBwdReferenceIdeal.τ).loc Cert.OutBwdReferenceIdeal.main_v9) = v1 c
          ∧ r.2.mem ((c.tc : Thread Cert.OutBwdReferenceIdeal.nD Cert.OutBwdReferenceIdeal.τ).loc Cert.OutBwdReferenceIdeal.main_v18) = v2 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3))

def Claim : Prop :=
  ∃ (hKernel : Cert.Kernel.Facts) (hKernelIdeal : Cert.KernelIdeal.Facts) (hReferenceIdeal : Cert.ReferenceIdeal.Facts) (hGrad : Cert.Grad.Facts) (hGradIdeal : Cert.GradIdeal.Facts) (hGradReferenceIdeal : Cert.GradReferenceIdeal.Facts) (hAdamFfn : Cert.AdamFfn.Facts) (hAdamFfnIdeal : Cert.AdamFfnIdeal.Facts) (hAdamFfnReferenceIdeal : Cert.AdamFfnReferenceIdeal.Facts) (hAdamFfnOut : Cert.AdamFfnOut.Facts) (hAdamFfnOutIdeal : Cert.AdamFfnOutIdeal.Facts) (hAdamFfnOutReferenceIdeal : Cert.AdamFfnOutReferenceIdeal.Facts) (hAdamConvIn : Cert.AdamConvIn.Facts) (hAdamConvInIdeal : Cert.AdamConvInIdeal.Facts) (hAdamConvInReferenceIdeal : Cert.AdamConvInReferenceIdeal.Facts) (hAdamConvOut : Cert.AdamConvOut.Facts) (hAdamConvOutIdeal : Cert.AdamConvOutIdeal.Facts) (hAdamConvOutReferenceIdeal : Cert.AdamConvOutReferenceIdeal.Facts) (hAdamQkv : Cert.AdamQkv.Facts) (hAdamQkvIdeal : Cert.AdamQkvIdeal.Facts) (hAdamQkvReferenceIdeal : Cert.AdamQkvReferenceIdeal.Facts) (hAdamAttnOut : Cert.AdamAttnOut.Facts) (hAdamAttnOutIdeal : Cert.AdamAttnOutIdeal.Facts) (hAdamAttnOutReferenceIdeal : Cert.AdamAttnOutReferenceIdeal.Facts) (hAdamCond : Cert.AdamCond.Facts) (hAdamCondIdeal : Cert.AdamCondIdeal.Facts) (hAdamCondReferenceIdeal : Cert.AdamCondReferenceIdeal.Facts) (hAdamAda : Cert.AdamAda.Facts) (hAdamAdaIdeal : Cert.AdamAdaIdeal.Facts) (hAdamAdaReferenceIdeal : Cert.AdamAdaReferenceIdeal.Facts) (hAdamSmall : Cert.AdamSmall.Facts) (hAdamSmallIdeal : Cert.AdamSmallIdeal.Facts) (hAdamSmallReferenceIdeal : Cert.AdamSmallReferenceIdeal.Facts) (hModBwd : Cert.ModBwd.Facts) (hModBwdIdeal : Cert.ModBwdIdeal.Facts) (hModBwdReferenceIdeal : Cert.ModBwdReferenceIdeal.Facts) (hCondBwd : Cert.CondBwd.Facts) (hCondBwdIdeal : Cert.CondBwdIdeal.Facts) (hCondBwdReferenceIdeal : Cert.CondBwdReferenceIdeal.Facts) (hSumAda : Cert.SumAda.Facts) (hSumAdaIdeal : Cert.SumAdaIdeal.Facts) (hSumAdaReferenceIdeal : Cert.SumAdaReferenceIdeal.Facts) (hSumSmall : Cert.SumSmall.Facts) (hSumSmallIdeal : Cert.SumSmallIdeal.Facts) (hSumSmallReferenceIdeal : Cert.SumSmallReferenceIdeal.Facts) (hSumFfnIn : Cert.SumFfnIn.Facts) (hSumFfnInIdeal : Cert.SumFfnInIdeal.Facts) (hSumFfnInReferenceIdeal : Cert.SumFfnInReferenceIdeal.Facts) (hSumFfnOut : Cert.SumFfnOut.Facts) (hSumFfnOutIdeal : Cert.SumFfnOutIdeal.Facts) (hSumFfnOutReferenceIdeal : Cert.SumFfnOutReferenceIdeal.Facts) (hSumConvIn : Cert.SumConvIn.Facts) (hSumConvInIdeal : Cert.SumConvInIdeal.Facts) (hSumConvInReferenceIdeal : Cert.SumConvInReferenceIdeal.Facts) (hSumConvOut : Cert.SumConvOut.Facts) (hSumConvOutIdeal : Cert.SumConvOutIdeal.Facts) (hSumConvOutReferenceIdeal : Cert.SumConvOutReferenceIdeal.Facts) (hSumQkv : Cert.SumQkv.Facts) (hSumQkvIdeal : Cert.SumQkvIdeal.Facts) (hSumQkvReferenceIdeal : Cert.SumQkvReferenceIdeal.Facts) (hSumAttnOut : Cert.SumAttnOut.Facts) (hSumAttnOutIdeal : Cert.SumAttnOutIdeal.Facts) (hSumAttnOutReferenceIdeal : Cert.SumAttnOutReferenceIdeal.Facts) (hLossHead : Cert.LossHead.Facts) (hLossHeadIdeal : Cert.LossHeadIdeal.Facts) (hLossHeadReferenceIdeal : Cert.LossHeadReferenceIdeal.Facts) (hCondPre : Cert.CondPre.Facts) (hCondPreIdeal : Cert.CondPreIdeal.Facts) (hCondPreReferenceIdeal : Cert.CondPreReferenceIdeal.Facts) (hCondE : Cert.CondE.Facts) (hCondEIdeal : Cert.CondEIdeal.Facts) (hCondEReferenceIdeal : Cert.CondEReferenceIdeal.Facts) (hModCols : Cert.ModCols.Facts) (hModColsIdeal : Cert.ModColsIdeal.Facts) (hModColsReferenceIdeal : Cert.ModColsReferenceIdeal.Facts) (hGradConvIn : Cert.GradConvIn.Facts) (hGradConvInIdeal : Cert.GradConvInIdeal.Facts) (hGradConvInReferenceIdeal : Cert.GradConvInReferenceIdeal.Facts) (hGradConvOut : Cert.GradConvOut.Facts) (hGradConvOutIdeal : Cert.GradConvOutIdeal.Facts) (hGradConvOutReferenceIdeal : Cert.GradConvOutReferenceIdeal.Facts) (hGradQkv : Cert.GradQkv.Facts) (hGradQkvIdeal : Cert.GradQkvIdeal.Facts) (hGradQkvReferenceIdeal : Cert.GradQkvReferenceIdeal.Facts) (hGradAttnOut : Cert.GradAttnOut.Facts) (hGradAttnOutIdeal : Cert.GradAttnOutIdeal.Facts) (hGradAttnOutReferenceIdeal : Cert.GradAttnOutReferenceIdeal.Facts) (hOutFwd : Cert.OutFwd.Facts) (hOutFwdIdeal : Cert.OutFwdIdeal.Facts) (hOutFwdReferenceIdeal : Cert.OutFwdReferenceIdeal.Facts) (hOutBwd : Cert.OutBwd.Facts) (hOutBwdIdeal : Cert.OutBwdIdeal.Facts) (hOutBwdReferenceIdeal : Cert.OutBwdReferenceIdeal.Facts) (hPre_finite : Cert.Pre_finite.Facts) (hPre_finite_pre : Cert.Pre_finite_pre.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Grad (hGrad := hGrad)
    ∧ quiescent_GradIdeal (hGradIdeal := hGradIdeal)
    ∧ quiescent_GradReferenceIdeal (hGradReferenceIdeal := hGradReferenceIdeal)
    ∧ quiescent_AdamFfn (hAdamFfn := hAdamFfn)
    ∧ quiescent_AdamFfnIdeal (hAdamFfnIdeal := hAdamFfnIdeal)
    ∧ quiescent_AdamFfnReferenceIdeal (hAdamFfnReferenceIdeal := hAdamFfnReferenceIdeal)
    ∧ quiescent_AdamFfnOut (hAdamFfnOut := hAdamFfnOut)
    ∧ quiescent_AdamFfnOutIdeal (hAdamFfnOutIdeal := hAdamFfnOutIdeal)
    ∧ quiescent_AdamFfnOutReferenceIdeal (hAdamFfnOutReferenceIdeal := hAdamFfnOutReferenceIdeal)
    ∧ quiescent_AdamConvIn (hAdamConvIn := hAdamConvIn)
    ∧ quiescent_AdamConvInIdeal (hAdamConvInIdeal := hAdamConvInIdeal)
    ∧ quiescent_AdamConvInReferenceIdeal (hAdamConvInReferenceIdeal := hAdamConvInReferenceIdeal)
    ∧ quiescent_AdamConvOut (hAdamConvOut := hAdamConvOut)
    ∧ quiescent_AdamConvOutIdeal (hAdamConvOutIdeal := hAdamConvOutIdeal)
    ∧ quiescent_AdamConvOutReferenceIdeal (hAdamConvOutReferenceIdeal := hAdamConvOutReferenceIdeal)
    ∧ quiescent_AdamQkv (hAdamQkv := hAdamQkv)
    ∧ quiescent_AdamQkvIdeal (hAdamQkvIdeal := hAdamQkvIdeal)
    ∧ quiescent_AdamQkvReferenceIdeal (hAdamQkvReferenceIdeal := hAdamQkvReferenceIdeal)
    ∧ quiescent_AdamAttnOut (hAdamAttnOut := hAdamAttnOut)
    ∧ quiescent_AdamAttnOutIdeal (hAdamAttnOutIdeal := hAdamAttnOutIdeal)
    ∧ quiescent_AdamAttnOutReferenceIdeal (hAdamAttnOutReferenceIdeal := hAdamAttnOutReferenceIdeal)
    ∧ quiescent_AdamCond (hAdamCond := hAdamCond)
    ∧ quiescent_AdamCondIdeal (hAdamCondIdeal := hAdamCondIdeal)
    ∧ quiescent_AdamCondReferenceIdeal (hAdamCondReferenceIdeal := hAdamCondReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_ModBwd (hModBwd := hModBwd)
    ∧ quiescent_ModBwdIdeal (hModBwdIdeal := hModBwdIdeal)
    ∧ quiescent_ModBwdReferenceIdeal (hModBwdReferenceIdeal := hModBwdReferenceIdeal)
    ∧ quiescent_CondBwd (hCondBwd := hCondBwd)
    ∧ quiescent_CondBwdIdeal (hCondBwdIdeal := hCondBwdIdeal)
    ∧ quiescent_CondBwdIdeal_pre_finite_pre (hCondBwdIdeal := hCondBwdIdeal) (hPre_finite_pre := hPre_finite_pre)
    ∧ quiescent_CondBwdReferenceIdeal (hCondBwdReferenceIdeal := hCondBwdReferenceIdeal)
    ∧ quiescent_CondBwdReferenceIdeal_pre_finite_pre (hCondBwdReferenceIdeal := hCondBwdReferenceIdeal) (hPre_finite_pre := hPre_finite_pre)
    ∧ quiescent_SumAda (hSumAda := hSumAda)
    ∧ quiescent_SumAdaIdeal (hSumAdaIdeal := hSumAdaIdeal)
    ∧ quiescent_SumAdaReferenceIdeal (hSumAdaReferenceIdeal := hSumAdaReferenceIdeal)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_SumFfnIn (hSumFfnIn := hSumFfnIn)
    ∧ quiescent_SumFfnInIdeal (hSumFfnInIdeal := hSumFfnInIdeal)
    ∧ quiescent_SumFfnInReferenceIdeal (hSumFfnInReferenceIdeal := hSumFfnInReferenceIdeal)
    ∧ quiescent_SumFfnOut (hSumFfnOut := hSumFfnOut)
    ∧ quiescent_SumFfnOutIdeal (hSumFfnOutIdeal := hSumFfnOutIdeal)
    ∧ quiescent_SumFfnOutReferenceIdeal (hSumFfnOutReferenceIdeal := hSumFfnOutReferenceIdeal)
    ∧ quiescent_SumConvIn (hSumConvIn := hSumConvIn)
    ∧ quiescent_SumConvInIdeal (hSumConvInIdeal := hSumConvInIdeal)
    ∧ quiescent_SumConvInReferenceIdeal (hSumConvInReferenceIdeal := hSumConvInReferenceIdeal)
    ∧ quiescent_SumConvOut (hSumConvOut := hSumConvOut)
    ∧ quiescent_SumConvOutIdeal (hSumConvOutIdeal := hSumConvOutIdeal)
    ∧ quiescent_SumConvOutReferenceIdeal (hSumConvOutReferenceIdeal := hSumConvOutReferenceIdeal)
    ∧ quiescent_SumQkv (hSumQkv := hSumQkv)
    ∧ quiescent_SumQkvIdeal (hSumQkvIdeal := hSumQkvIdeal)
    ∧ quiescent_SumQkvReferenceIdeal (hSumQkvReferenceIdeal := hSumQkvReferenceIdeal)
    ∧ quiescent_SumAttnOut (hSumAttnOut := hSumAttnOut)
    ∧ quiescent_SumAttnOutIdeal (hSumAttnOutIdeal := hSumAttnOutIdeal)
    ∧ quiescent_SumAttnOutReferenceIdeal (hSumAttnOutReferenceIdeal := hSumAttnOutReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_CondPre (hCondPre := hCondPre)
    ∧ quiescent_CondPreIdeal (hCondPreIdeal := hCondPreIdeal)
    ∧ quiescent_CondPreReferenceIdeal (hCondPreReferenceIdeal := hCondPreReferenceIdeal)
    ∧ quiescent_CondE (hCondE := hCondE)
    ∧ quiescent_CondEIdeal (hCondEIdeal := hCondEIdeal)
    ∧ quiescent_CondEReferenceIdeal (hCondEReferenceIdeal := hCondEReferenceIdeal)
    ∧ quiescent_ModCols (hModCols := hModCols)
    ∧ quiescent_ModColsIdeal (hModColsIdeal := hModColsIdeal)
    ∧ quiescent_ModColsReferenceIdeal (hModColsReferenceIdeal := hModColsReferenceIdeal)
    ∧ quiescent_GradConvIn (hGradConvIn := hGradConvIn)
    ∧ quiescent_GradConvInIdeal (hGradConvInIdeal := hGradConvInIdeal)
    ∧ quiescent_GradConvInReferenceIdeal (hGradConvInReferenceIdeal := hGradConvInReferenceIdeal)
    ∧ quiescent_GradConvOut (hGradConvOut := hGradConvOut)
    ∧ quiescent_GradConvOutIdeal (hGradConvOutIdeal := hGradConvOutIdeal)
    ∧ quiescent_GradConvOutReferenceIdeal (hGradConvOutReferenceIdeal := hGradConvOutReferenceIdeal)
    ∧ quiescent_GradQkv (hGradQkv := hGradQkv)
    ∧ quiescent_GradQkvIdeal (hGradQkvIdeal := hGradQkvIdeal)
    ∧ quiescent_GradQkvReferenceIdeal (hGradQkvReferenceIdeal := hGradQkvReferenceIdeal)
    ∧ quiescent_GradAttnOut (hGradAttnOut := hGradAttnOut)
    ∧ quiescent_GradAttnOutIdeal (hGradAttnOutIdeal := hGradAttnOutIdeal)
    ∧ quiescent_GradAttnOutReferenceIdeal (hGradAttnOutReferenceIdeal := hGradAttnOutReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_OutBwd (hOutBwd := hOutBwd)
    ∧ quiescent_OutBwdIdeal (hOutBwdIdeal := hOutBwdIdeal)
    ∧ quiescent_OutBwdReferenceIdeal (hOutBwdReferenceIdeal := hOutBwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Grad_GradIdeal
    ∧ algebraic_GradIdeal_GradReferenceIdeal (hGradIdeal := hGradIdeal) (hGradReferenceIdeal := hGradReferenceIdeal)
    ∧ preserves_AdamFfn_AdamFfnIdeal
    ∧ algebraic_AdamFfnIdeal_AdamFfnReferenceIdeal (hAdamFfnIdeal := hAdamFfnIdeal) (hAdamFfnReferenceIdeal := hAdamFfnReferenceIdeal)
    ∧ preserves_AdamFfnOut_AdamFfnOutIdeal
    ∧ algebraic_AdamFfnOutIdeal_AdamFfnOutReferenceIdeal (hAdamFfnOutIdeal := hAdamFfnOutIdeal) (hAdamFfnOutReferenceIdeal := hAdamFfnOutReferenceIdeal)
    ∧ preserves_AdamConvIn_AdamConvInIdeal
    ∧ algebraic_AdamConvInIdeal_AdamConvInReferenceIdeal (hAdamConvInIdeal := hAdamConvInIdeal) (hAdamConvInReferenceIdeal := hAdamConvInReferenceIdeal)
    ∧ preserves_AdamConvOut_AdamConvOutIdeal
    ∧ algebraic_AdamConvOutIdeal_AdamConvOutReferenceIdeal (hAdamConvOutIdeal := hAdamConvOutIdeal) (hAdamConvOutReferenceIdeal := hAdamConvOutReferenceIdeal)
    ∧ preserves_AdamQkv_AdamQkvIdeal
    ∧ algebraic_AdamQkvIdeal_AdamQkvReferenceIdeal (hAdamQkvIdeal := hAdamQkvIdeal) (hAdamQkvReferenceIdeal := hAdamQkvReferenceIdeal)
    ∧ preserves_AdamAttnOut_AdamAttnOutIdeal
    ∧ algebraic_AdamAttnOutIdeal_AdamAttnOutReferenceIdeal (hAdamAttnOutIdeal := hAdamAttnOutIdeal) (hAdamAttnOutReferenceIdeal := hAdamAttnOutReferenceIdeal)
    ∧ preserves_AdamCond_AdamCondIdeal
    ∧ algebraic_AdamCondIdeal_AdamCondReferenceIdeal (hAdamCondIdeal := hAdamCondIdeal) (hAdamCondReferenceIdeal := hAdamCondReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_ModBwd_ModBwdIdeal
    ∧ algebraic_ModBwdIdeal_ModBwdReferenceIdeal (hModBwdIdeal := hModBwdIdeal) (hModBwdReferenceIdeal := hModBwdReferenceIdeal)
    ∧ preserves_CondBwd_CondBwdIdeal
    ∧ algebraic_CondBwdIdeal_CondBwdReferenceIdeal_pre_finite_pre (hCondBwdIdeal := hCondBwdIdeal) (hCondBwdReferenceIdeal := hCondBwdReferenceIdeal) (hPre_finite_pre := hPre_finite_pre)
    ∧ preserves_SumAda_SumAdaIdeal
    ∧ algebraic_SumAdaIdeal_SumAdaReferenceIdeal (hSumAdaIdeal := hSumAdaIdeal) (hSumAdaReferenceIdeal := hSumAdaReferenceIdeal)
    ∧ preserves_SumSmall_SumSmallIdeal
    ∧ algebraic_SumSmallIdeal_SumSmallReferenceIdeal (hSumSmallIdeal := hSumSmallIdeal) (hSumSmallReferenceIdeal := hSumSmallReferenceIdeal)
    ∧ preserves_SumFfnIn_SumFfnInIdeal
    ∧ algebraic_SumFfnInIdeal_SumFfnInReferenceIdeal (hSumFfnInIdeal := hSumFfnInIdeal) (hSumFfnInReferenceIdeal := hSumFfnInReferenceIdeal)
    ∧ preserves_SumFfnOut_SumFfnOutIdeal
    ∧ algebraic_SumFfnOutIdeal_SumFfnOutReferenceIdeal (hSumFfnOutIdeal := hSumFfnOutIdeal) (hSumFfnOutReferenceIdeal := hSumFfnOutReferenceIdeal)
    ∧ preserves_SumConvIn_SumConvInIdeal
    ∧ algebraic_SumConvInIdeal_SumConvInReferenceIdeal (hSumConvInIdeal := hSumConvInIdeal) (hSumConvInReferenceIdeal := hSumConvInReferenceIdeal)
    ∧ preserves_SumConvOut_SumConvOutIdeal
    ∧ algebraic_SumConvOutIdeal_SumConvOutReferenceIdeal (hSumConvOutIdeal := hSumConvOutIdeal) (hSumConvOutReferenceIdeal := hSumConvOutReferenceIdeal)
    ∧ preserves_SumQkv_SumQkvIdeal
    ∧ algebraic_SumQkvIdeal_SumQkvReferenceIdeal (hSumQkvIdeal := hSumQkvIdeal) (hSumQkvReferenceIdeal := hSumQkvReferenceIdeal)
    ∧ preserves_SumAttnOut_SumAttnOutIdeal
    ∧ algebraic_SumAttnOutIdeal_SumAttnOutReferenceIdeal (hSumAttnOutIdeal := hSumAttnOutIdeal) (hSumAttnOutReferenceIdeal := hSumAttnOutReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_CondPre_CondPreIdeal
    ∧ algebraic_CondPreIdeal_CondPreReferenceIdeal (hCondPreIdeal := hCondPreIdeal) (hCondPreReferenceIdeal := hCondPreReferenceIdeal)
    ∧ preserves_CondE_CondEIdeal
    ∧ algebraic_CondEIdeal_CondEReferenceIdeal (hCondEIdeal := hCondEIdeal) (hCondEReferenceIdeal := hCondEReferenceIdeal)
    ∧ preserves_ModCols_ModColsIdeal
    ∧ algebraic_ModColsIdeal_ModColsReferenceIdeal (hModColsIdeal := hModColsIdeal) (hModColsReferenceIdeal := hModColsReferenceIdeal)
    ∧ preserves_GradConvIn_GradConvInIdeal
    ∧ algebraic_GradConvInIdeal_GradConvInReferenceIdeal (hGradConvInIdeal := hGradConvInIdeal) (hGradConvInReferenceIdeal := hGradConvInReferenceIdeal)
    ∧ preserves_GradConvOut_GradConvOutIdeal
    ∧ algebraic_GradConvOutIdeal_GradConvOutReferenceIdeal (hGradConvOutIdeal := hGradConvOutIdeal) (hGradConvOutReferenceIdeal := hGradConvOutReferenceIdeal)
    ∧ preserves_GradQkv_GradQkvIdeal
    ∧ algebraic_GradQkvIdeal_GradQkvReferenceIdeal (hGradQkvIdeal := hGradQkvIdeal) (hGradQkvReferenceIdeal := hGradQkvReferenceIdeal)
    ∧ preserves_GradAttnOut_GradAttnOutIdeal
    ∧ algebraic_GradAttnOutIdeal_GradAttnOutReferenceIdeal (hGradAttnOutIdeal := hGradAttnOutIdeal) (hGradAttnOutReferenceIdeal := hGradAttnOutReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_OutBwd_OutBwdIdeal
    ∧ algebraic_OutBwdIdeal_OutBwdReferenceIdeal (hOutBwdIdeal := hOutBwdIdeal) (hOutBwdReferenceIdeal := hOutBwdReferenceIdeal)
-- ==== Pre_finite.lean ====
abbrev S16384x1024 : Shape := ⟨2, ![16384, 1024]⟩
abbrev S1024 : Shape := ⟨1, ![1024]⟩
abbrev S4x2x4x1024x704 : Shape := ⟨5, ![4, 2, 4, 1024, 704]⟩
abbrev S4x2x4x704x1024 : Shape := ⟨5, ![4, 2, 4, 704, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S4x2x4x1024x704 : S_.BroadcastsInDim S4x2x4x1024x704 (![] : Fin 0 → Fin S4x2x4x1024x704.rank)
  reducesTo_S4x2x4x1024x704_S_d0_1_2_3_4 : S4x2x4x1024x704.ReducesTo [0, 1, 2, 3, 4] S_
  bcast_S_S4x2x4x704x1024 : S_.BroadcastsInDim S4x2x4x704x1024 (![] : Fin 0 → Fin S4x2x4x704x1024.rank)
  reducesTo_S4x2x4x704x1024_S_d0_1_2_3_4 : S4x2x4x704x1024.ReducesTo [0, 1, 2, 3, 4] S_

variable [Facts]

def fn_part2 {F : FTy → Type} [FloatOps F] (main_arg7 : FVec F S4x2x4x1024x704 .bf16) (main_arg8 : FVec F S4x2x4x704x1024 .bf16) (main_v28 : IVec S_ 1) (main_v33 : IVec S_ 1) : IVec S_ 1 :=
  let main_v34 : IVec S_ 1 := andi main_v28 main_v33
  let main_v35 : FVec F S4x2x4x1024x704 .f32 := (extf .f32 · bitsLt_bf16_f32) main_arg7
  let main_v36 : FVec F S4x2x4x1024x704 .f32 := Host.absf main_v35
  let main_cst_12 : FVec F S_ .f32 := constant S_ .f32 0x7F800000#32
  let main_v37 : FVec F S4x2x4x1024x704 .f32 := broadcastInDim S4x2x4x1024x704 ![] bcast_S_S4x2x4x1024x704 main_cst_12
  let main_v38 : IVec S4x2x4x1024x704 1 := cmpf .olt main_v36 main_v37
  let main_c_13 : IVec S_ 1 := constantI S_ 1 1#1
  let main_v39 : IVec S_ 1 := (fun x v => Host.reduce IntOp.andi x v reducesTo_S4x2x4x1024x704_S_d0_1_2_3_4 h_S_) main_v38 main_c_13
  let main_v40 : IVec S_ 1 := andi main_v34 main_v39
  let main_v41 : FVec F S4x2x4x704x1024 .f32 := (extf .f32 · bitsLt_bf16_f32) main_arg8
  let main_v42 : FVec F S4x2x4x704x1024 .f32 := Host.absf main_v41
  let main_cst_14 : FVec F S_ .f32 := constant S_ .f32 0x7F800000#32
  let main_v43 : FVec F S4x2x4x704x1024 .f32 := broadcastInDim S4x2x4x704x1024 ![] bcast_S_S4x2x4x704x1024 main_cst_14
  let main_v44 : IVec S4x2x4x704x1024 1 := cmpf .olt main_v42 main_v43
  let main_c_15 : IVec S_ 1 := constantI S_ 1 1#1
  let main_v45 : IVec S_ 1 := (fun x v => Host.reduce IntOp.andi x v reducesTo_S4x2x4x704x1024_S_d0_1_2_3_4 h_S_) main_v44 main_c_15
  let main_v46 : IVec S_ 1 := andi main_v40 main_v45
  main_v46

def fn_part1 {F : FTy → Type} [FloatOps F] (main_arg4 : FVec F S1024 .f32) (main_arg5 : FVec F S1024 .f32) (main_arg6 : FVec F S4x2x4x1024x704 .bf16) (main_arg7 : FVec F S4x2x4x1024x704 .bf16) (main_arg8 : FVec F S4x2x4x704x1024 .bf16) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4x2x4x1024x704 .f32 := (extf .f32 · bitsLt_bf16_f32) main_arg6
  let main_v30 : FVec F S4x2x4x1024x704 .f32 := Host.absf main_v29
  let main_cst_10 : FVec F S_ .f32 := constant S_ .f32 0x7F800000#32
  let main_v31 : FVec F S4x2x4x1024x704 .f32 := broadcastInDim S4x2x4x1024x704 ![] bcast_S_S4x2x4x1024x704 main_cst_10
  let main_v32 : IVec S4x2x4x1024x704 1 := cmpf .olt main_v30 main_v31
  let main_c_11 : IVec S_ 1 := constantI S_ 1 1#1
  let main_v33 : IVec S_ 1 := (fun x v => Host.reduce IntOp.andi x v reducesTo_S4x2x4x1024x704_S_d0_1_2_3_4 h_S_) main_v32 main_c_11
  fn_part2 (F := F) main_arg7 main_arg8 main_v28 main_v33

def fn {F : FTy → Type} [FloatOps F] (main_arg0 : FVec F S16384x1024 .f32) (main_arg1 : FVec F S16384x1024 .f32) (main_arg2 : FVec F S1024 .f32) (main_arg3 : FVec F S1024 .f32) (main_arg4 : FVec F S1024 .f32) (main_arg5 : FVec F S1024 .f32) (main_arg6 : FVec F S4x2x4x1024x704 .bf16) (main_arg7 : FVec F S4x2x4x1024x704 .bf16) (main_arg8 : FVec F S4x2x4x704x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite_pre.lean ====
abbrev S8x8x1024 : Shape := ⟨3, ![8, 8, 1024]⟩
abbrev S8x1024 : Shape := ⟨2, ![8, 1024]⟩
abbrev S8x256 : Shape := ⟨2, ![8, 256]⟩
abbrev S1x8x1024 : Shape := ⟨3, ![1, 8, 1024]⟩
abbrev S_ : Shape := ⟨0, ![]⟩

class Facts : Prop where
  slices_S8x8x1024_S1x8x1024_0_0_0 : S8x8x1024.Slices ![0, 0, 0] S1x8x1024
  shapeCasts_S1x8x1024_S8x1024 : S1x8x1024.ShapeCasts S8x1024
  slices_S8x8x1024_S1x8x1024_2_0_0 : S8x8x1024.Slices ![2, 0, 0] S1x8x1024
  slices_S8x8x1024_S1x8x1024_4_0_0 : S8x8x1024.Slices ![4, 0, 0] S1x8x1024
  slices_S8x8x1024_S1x8x1024_6_0_0 : S8x8x1024.Slices ![6, 0, 0] S1x8x1024
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x8x1024 .f32) (main_arg1 : FVec F S8x1024 .f32) (main_arg2 : FVec F S8x256 .f32) : IVec S_ 1 :=
  let main_v0 : FVec F S1x8x1024 .f32 := (extractStridedSlice S1x8x1024 ![0, 0, 0] · slices_S8x8x1024_S1x8x1024_0_0_0) main_arg0
  let main_v1 : FVec F S8x1024 .f32 := shapeCast S8x1024 main_v0 shapeCasts_S1x8x1024_S8x1024
  let main_v2 : FVec F S1x8x1024 .f32 := (extractStridedSlice S1x8x1024 ![2, 0, 0] · slices_S8x8x1024_S1x8x1024_2_0_0) main_arg0
  let main_v3 : FVec F S8x1024 .f32 := shapeCast S8x1024 main_v2 shapeCasts_S1x8x1024_S8x1024
  let main_v4 : FVec F S8x1024 .f32 := addf main_v1 main_v3
  let main_v5 : FVec F S1x8x1024 .f32 := (extractStridedSlice S1x8x1024 ![4, 0, 0] · slices_S8x8x1024_S1x8x1024_4_0_0) main_arg0
  let main_v6 : FVec F S8x1024 .f32 := shapeCast S8x1024 main_v5 shapeCasts_S1x8x1024_S8x1024
  let main_v7 : FVec F S8x1024 .f32 := addf main_v4 main_v6
  let main_v8 : FVec F S1x8x1024 .f32 := (extractStridedSlice S1x8x1024 ![6, 0, 0] · slices_S8x8x1024_S1x8x1024_6_0_0) main_arg0
  let main_v9 : FVec F S8x1024 .f32 := shapeCast S8x1024 main_v8 shapeCasts_S1x8x1024_S8x1024
  let main_v10 : FVec F S8x1024 .f32 := addf main_v7 main_v9
  let main_v11 : FVec F S8x1024 .f32 := Host.absf main_v10
  let main_cst : FVec F S_ .f32 := constant S_ .f32 0x7F800000#32
  let main_v12 : FVec F S8x1024 .f32 := broadcastInDim S8x1024 ![] bcast_S_S8x1024 main_cst
  let main_v13 : IVec S8x1024 1 := cmpf .olt main_v11 main_v12
  let main_c : IVec S_ 1 := constantI S_ 1 1#1
  let main_v14 : IVec S_ 1 := (fun x v => Host.reduce IntOp.andi x v reducesTo_S8x1024_S_d0_1 h_S_) main_v13 main_c
  let main_v15 : FVec F S8x1024 .f32 := Host.absf main_arg1
  let main_cst_0 : FVec F S_ .f32 := constant S_ .f32 0x7F800000#32
  let main_v16 : FVec F S8x1024 .f32 := broadcastInDim S8x1024 ![] bcast_S_S8x1024 main_cst_0
  let main_v17 : IVec S8x1024 1 := cmpf .olt main_v15 main_v16
  let main_c_1 : IVec S_ 1 := constantI S_ 1 1#1
  let main_v18 : IVec S_ 1 := (fun x v => Host.reduce IntOp.andi x v reducesTo_S8x1024_S_d0_1 h_S_) main_v17 main_c_1
  let main_v19 : IVec S_ 1 := andi main_v14 main_v18
  main_v19
-- ==== Kernel.lean ====
abbrev S16384x1024 : Shape := ⟨2, ![16384, 1024]⟩
abbrev S1024 : Shape := ⟨1, ![1024]⟩
abbrev S4x2x4x1024x704 : Shape := ⟨5, ![4, 2, 4, 1024, 704]⟩
abbrev S4x2x4x704x1024 : Shape := ⟨5, ![4, 2, 4, 704, 1024]⟩
abbrev S_ : Shape := ⟨0, ![]⟩
abbrev S1x1024 : Shape := ⟨2, ![1, 1024]⟩
abbrev S5x1024 : Shape := ⟨2, ![5, 1024]⟩
abbrev S8x1024 : Shape := ⟨2, ![8, 1024]⟩
abbrev S4x16384x704 : Shape := ⟨3, ![4, 16384, 704]⟩
abbrev S512x1024 : Shape := ⟨2, ![512, 1024]⟩
abbrev S1x1x4x1024x704 : Shape := ⟨5, ![1, 1, 4, 1024, 704]⟩
abbrev S1x1x4x704x1024 : Shape := ⟨5, ![1, 1, 4, 704, 1024]⟩
abbrev S4x512x704 : Shape := ⟨3, ![4, 512, 704]⟩
abbrev S512 : Shape := ⟨1, ![512]⟩
abbrev S512x1 : Shape := ⟨2, ![512, 1]⟩
abbrev S1x1x1x1024x704 : Shape := ⟨5, ![1, 1, 1, 1024, 704]⟩
abbrev S1024x704 : Shape := ⟨2, ![1024, 704]⟩
abbrev S512x704 : Shape := ⟨2, ![512, 704]⟩
abbrev S1x512x704 : Shape := ⟨3, ![1, 512, 704]⟩
abbrev S1x1x1x704x1024 : Shape := ⟨5, ![1, 1, 1, 704, 1024]⟩
abbrev S704x1024 : Shape := ⟨2, ![704, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x256x704 : Shape := ⟨3, ![1, 256, 704]⟩
abbrev S256x704 : Shape := ⟨2, ![256, 704]⟩

abbrev nBuf : Space → Nat
  | .hbm => 33
  | .vmem => 41
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4x2x4x1024x704, .bf16⟩
  | .hbm, ⟨7, _⟩ => ⟨S4x2x4x1024x704, .bf16⟩
  | .hbm, ⟨8, _⟩ => ⟨S4x2x4x704x1024, .bf16⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S5x1024, .f32⟩
  | .hbm, ⟨21, _⟩ => ⟨S8x1024, .f32⟩
  | .hbm, ⟨22, _⟩ => ⟨S16384x1024, .f32⟩
  | .hbm, ⟨23, _⟩ => ⟨S4x16384x704, .bf16⟩
  | .hbm, ⟨24, _⟩ => ⟨S4x16384x704, .bf16⟩
  | .hbm, ⟨25, _⟩ => ⟨S16384x1024, .bf16⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S4x16384x704, .bf16⟩
  | .hbm, ⟨30, _⟩ => ⟨S4x16384x704, .bf16⟩
  | .hbm, ⟨31, _⟩ => ⟨S4x16384x704, .bf16⟩
  | .hbm, ⟨32, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1x4x1024x704, .bf16⟩
  | .local _ .vmem, ⟨4, _⟩ => ⟨S1x1x4x1024x704, .bf16⟩
  | .local _ .vmem, ⟨5, _⟩ => ⟨S1x1x4x704x1024, .bf16⟩
  | .local _ .vmem, ⟨6, _⟩ => ⟨S512x1024, .f32⟩
  | .local _ .vmem, ⟨7, _⟩ => ⟨S512x1024, .f32⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S512x1024, .bf16⟩
  | .local _ .vmem, ⟨13, _⟩ => ⟨S512x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | .local _ .vmem, ⟨25, _⟩ => ⟨S1x1x4x1024x704, .bf16⟩
  | .local _ .vmem, ⟨26, _⟩ => ⟨S1x1x4x1024x704, .bf16⟩
  | .local _ .vmem, ⟨27, _⟩ => ⟨S1x1x4x704x1024, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S4x256x704, .bf16⟩
  | .local _ .vmem, ⟨35, _⟩ => ⟨S4x256x704, .bf16⟩
  | .local _ .vmem, ⟨36, _⟩ => ⟨S4x256x704, .bf16⟩
  | .local _ .vmem, ⟨37, _⟩ => ⟨S4x256x704, .bf16⟩
  | .local _ .vmem, ⟨38, _⟩ => ⟨S4x256x704, .bf16⟩
  | .local _ .vmem, ⟨39, _⟩ => ⟨S4x256x704, .bf16⟩
  | .local _ .vmem, ⟨40, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4x1024x704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_7 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_8 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x256x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x4x1024x704 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1x4x1024x704 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1x4x704x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4x256x704 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S4x256x704 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S4x256x704 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S8x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== ReferenceIdeal.lean ====
abbrev S16384x1024 : Shape := ⟨2, ![16384, 1024]⟩
abbrev S1024 : Shape := ⟨1, ![1024]⟩
abbrev S4x2x4x1024x704 : Shape := ⟨5, ![4, 2, 4, 1024, 704]⟩
abbrev S4x2x4x704x1024 : Shape := ⟨5, ![4, 2, 4, 704, 1024]⟩
abbrev S1x1x4x1024x704 : Shape := ⟨5, ![1, 1, 4, 1024, 704]⟩
abbrev S4x1024x704 : Shape := ⟨3, ![4, 1024, 704]⟩
abbrev S1024x4x704 : Shape := ⟨3, ![1024, 4, 704]⟩
abbrev S1024x2816 : Shape := ⟨2, ![1024, 2816]⟩
abbrev S1x1x4x704x1024 : Shape := ⟨5, ![1, 1, 4, 704, 1024]⟩
abbrev S4x704x1024 : Shape := ⟨3, ![4, 704, 1024]⟩
abbrev S2816x1024 : Shape := ⟨2, ![2816, 1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩
abbrev S16384x2816 : Shape := ⟨2, ![16384, 2816]⟩
abbrev S5x1024 : Shape := ⟨2, ![5, 1024]⟩
abbrev S8x1024 : Shape := ⟨2, ![8, 1024]⟩
abbrev S16384x4x704 : Shape := ⟨3, ![16384, 4, 704]⟩
abbrev S4x16384x704 : Shape := ⟨3, ![4, 16384, 704]⟩

abbrev nBuf : Space → Nat
  | .hbm => 132
  | .vmem => 0
  | .smem => 0
  | _ => 0

abbrev hbmTy0_0 (i : Nat) : BufTy := match i % 128 with
  | 0 => ⟨S16384x1024, .f32⟩
  | 1 => ⟨S16384x1024, .f32⟩
  | 2 => ⟨S1024, .f32⟩
  | 3 => ⟨S1024, .f32⟩
  | 4 => ⟨S1024, .f32⟩
  | 5 => ⟨S1024, .f32⟩
  | 6 => ⟨S4x2x4x1024x704, .bf16⟩
  | 7 => ⟨S4x2x4x1024x704, .bf16⟩
  | 8 => ⟨S4x2x4x704x1024, .bf16⟩
  | 9 => ⟨S1x1x4x1024x704, .bf16⟩
  | 10 => ⟨S4x1024x704, .bf16⟩
  | 11 => ⟨S4x1024x704, .f32⟩
  | 12 => ⟨S1024x4x704, .f32⟩
  | 13 => ⟨S1024x2816, .f32⟩
  | 14 => ⟨S1x1x4x1024x704, .bf16⟩
  | 15 => ⟨S4x1024x704, .bf16⟩
  | 16 => ⟨S4x1024x704, .f32⟩
  | 17 => ⟨S1024x4x704, .f32⟩
  | 18 => ⟨S1024x2816, .f32⟩
  | 19 => ⟨S1x1x4x704x1024, .bf16⟩
  | 20 => ⟨S4x704x1024, .bf16⟩
  | 21 => ⟨S4x704x1024, .f32⟩
  | 22 => ⟨S2816x1024, .f32⟩
  | 23 => ⟨S_, .f32⟩
  | 24 => ⟨S1024, .f32⟩
  | 25 => ⟨S1024, .f32⟩
  | 26 => ⟨S1024, .f32⟩
  | 27 => ⟨S1x1024, .f32⟩
  | 28 => ⟨S1x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S_, .f32⟩
  | 37 => ⟨S16384x1, .f32⟩
  | 38 => ⟨S16384x1, .f32⟩
  | 39 => ⟨S16384x1, .f32⟩
  | 40 => ⟨S16384x1, .f32⟩
  | 41 => ⟨S_, .f32⟩
  | 42 => ⟨S16384x1, .f32⟩
  | 43 => ⟨S16384x1, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x2816, .f32⟩
  | 51 => ⟨S16384x2816, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S_, .f32⟩
  | 61 => ⟨S16384x2816, .f32⟩
  | 62 => ⟨S16384x2816, .f32⟩
  | 63 => ⟨S16384x2816, .f32⟩
  | 64 => ⟨S16384x2816, .f32⟩
  | 65 => ⟨S16384x2816, .f32⟩
  | 66 => ⟨S16384x1024, .f32⟩
  | 67 => ⟨S_, .f32⟩
  | 68 => ⟨S1024, .f32⟩
  | 69 => ⟨S1024, .f32⟩
  | 70 => ⟨S1x1024, .f32⟩
  | 71 => ⟨S16384x1024, .f32⟩
  | 72 => ⟨S16384x1024, .f32⟩
  | 73 => ⟨S16384x1024, .f32⟩
  | 74 => ⟨S16384x1024, .f32⟩
  | 75 => ⟨S16384x1024, .f32⟩
  | 76 => ⟨S16384x1024, .f32⟩
  | 77 => ⟨S16384x1024, .f32⟩
  | 78 => ⟨S_, .f32⟩
  | 79 => ⟨S1024, .f32⟩
  | 80 => ⟨S1x1024, .f32⟩
  | 81 => ⟨S16384x2816, .f32⟩
  | 82 => ⟨S16384x2816, .f32⟩
  | 83 => ⟨S16384x2816, .f32⟩
  | 84 => ⟨S16384x2816, .f32⟩
  | 85 => ⟨S16384x2816, .f32⟩
  | 86 => ⟨S16384x2816, .f32⟩
  | 87 => ⟨S16384x2816, .f32⟩
  | 88 => ⟨S16384x1024, .f32⟩
  | 89 => ⟨S16384x1024, .f32⟩
  | 90 => ⟨S16384x1024, .f32⟩
  | 91 => ⟨S_, .f32⟩
  | 92 => ⟨S1024, .f32⟩
  | 93 => ⟨S1x1024, .f32⟩
  | 94 => ⟨S16384x1024, .f32⟩
  | 95 => ⟨S_, .f32⟩
  | 96 => ⟨S1024, .f32⟩
  | 97 => ⟨S1x1024, .f32⟩
  | 98 => ⟨S16384x1024, .f32⟩
  | 99 => ⟨S16384x1024, .f32⟩
  | 100 => ⟨S16384x1024, .f32⟩
  | 101 => ⟨S_, .f32⟩
  | 102 => ⟨S16384, .f32⟩
  | 103 => ⟨S16384x1, .f32⟩
  | 104 => ⟨S16384x1024, .f32⟩
  | 105 => ⟨S16384x1024, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S_, .f32⟩
  | 118 => ⟨S5x1024, .f32⟩
  | 119 => ⟨S8x1024, .f32⟩
  | 120 => ⟨S16384x1024, .f32⟩
  | 121 => ⟨S16384x1024, .bf16⟩
  | 122 => ⟨S16384x1024, .bf16⟩
  | 123 => ⟨S16384x4x704, .f32⟩
  | 124 => ⟨S4x16384x704, .f32⟩
  | 125 => ⟨S4x16384x704, .bf16⟩
  | 126 => ⟨S16384x4x704, .f32⟩
  | 127 => ⟨S4x16384x704, .f32⟩
  | _ => ⟨S16384x1024, .f32⟩

abbrev hbmTy0_1 (i : Nat) : BufTy := match i % 128 with
  | 0 => ⟨S4x16384x704, .bf16⟩
  | 1 => ⟨S16384x4x704, .f32⟩
  | 2 => ⟨S4x16384x704, .f32⟩
  | 3 => ⟨S4x16384x704, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v38_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v38_1 : Ref sig .tc := ⟨.hbm, 63, rfl⟩
abbrev main_v38_0 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_6 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_8 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_9 : Ref sig .tc := ⟨.hbm, 107, rfl⟩
abbrev main_v73 : Ref sig .tc := ⟨.hbm, 108, rfl⟩
abbrev main_v74 : Ref sig .tc := ⟨.hbm, 109, rfl⟩
abbrev main_cst_10 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_11 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Grad.lean ====
abbrev S4x16384x704 : Shape := ⟨3, ![4, 16384, 704]⟩
abbrev S16384x1024 : Shape := ⟨2, ![16384, 1024]⟩
abbrev S8x4x704x1024 : Shape := ⟨4, ![8, 4, 704, 1024]⟩
abbrev S1x1024x704 : Shape := ⟨3, ![1, 1024, 704]⟩
abbrev S1024x1024 : Shape := ⟨2, ![1024, 1024]⟩
abbrev S1x1x704x1024 : Shape := ⟨4, ![1, 1, 704, 1024]⟩
abbrev S704x1024 : Shape := ⟨2, ![704, 1024]⟩
abbrev S1024x704 : Shape := ⟨2, ![1024, 704]⟩

abbrev nBuf : Space → Nat
  | .hbm => 4
  | .vmem => 6
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S8x4x704x1024, .f32⟩
  | .hbm, ⟨3, _⟩ => ⟨S8x4x704x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x704x1024, .f32⟩
  | .local _ .vmem, ⟨5, _⟩ => ⟨S1x1x704x1024, .f32⟩
  | _, _ => ⟨S4x16384x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradReferenceIdeal.lean ====
abbrev S4x16384x704 : Shape := ⟨3, ![4, 16384, 704]⟩
abbrev S16384x1024 : Shape := ⟨2, ![16384, 1024]⟩
abbrev S8x4x704x1024 : Shape := ⟨4, ![8, 4, 704, 1024]⟩
abbrev S16384x4x704 : Shape := ⟨3, ![16384, 4, 704]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩
abbrev S1x4x704x1024 : Shape := ⟨4, ![1, 4, 704, 1024]⟩
abbrev S7x4x704x1024 : Shape := ⟨4, ![7, 4, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x16384x704, .bf16⟩
  | .hbm, ⟨1, _⟩ => ⟨S16384x1024, .bf16⟩
  | .hbm, ⟨2, _⟩ => ⟨S8x4x704x1024, .f32⟩
  | .hbm, ⟨3, _⟩ => ⟨S4x16384x704, .f32⟩
  | .hbm, ⟨4, _⟩ => ⟨S16384x4x704, .f32⟩
  | .hbm, ⟨5, _⟩ => ⟨S16384x2816, .f32⟩
  | .hbm, ⟨6, _⟩ => ⟨S_, .f32⟩
  | .hbm, ⟨7, _⟩ => ⟨S2816x1024, .f32⟩
  | .hbm, ⟨8, _⟩ => ⟨S16384x1024, .f32⟩
  | .hbm, ⟨9, _⟩ => ⟨S16384x1024, .f32⟩
  | .hbm, ⟨10, _⟩ => ⟨S1024x2816, .f32⟩
  | .hbm, ⟨11, _⟩ => ⟨S2816x1024, .f32⟩
  | .hbm, ⟨12, _⟩ => ⟨S1x4x704x1024, .f32⟩
  | .hbm, ⟨13, _⟩ => ⟨S7x4x704x1024, .f32⟩
  | .hbm, ⟨14, _⟩ => ⟨S8x4x704x1024, .f32⟩
  | _, _ => ⟨S4x16384x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AdamFfn.lean ====
abbrev S4x2x1024x704 : Shape := ⟨4, ![4, 2, 1024, 704]⟩
abbrev S4x2x704x1024 : Shape := ⟨4, ![4, 2, 704, 1024]⟩
abbrev S5632x1024 : Shape := ⟨2, ![5632, 1024]⟩
abbrev S256x1024 : Shape := ⟨2, ![256, 1024]⟩

abbrev nBuf : Space → Nat
  | .hbm => 20
  | .vmem => 14
  | .smem => 0
  | _ => 0

abbrev bufTy : (tb : Table) → Fin (tcTables nBuf tb) → BufTy
  | .hbm, ⟨0, _⟩ => ⟨S4x2x1024x704, .f32⟩
  | .hbm, ⟨1, _⟩ => ⟨S4x2x704x1024, .f32⟩
  | .hbm, ⟨2, _⟩ => ⟨S4x2x1024x704, .f32⟩
  | .hbm, ⟨3, _⟩ => ⟨S4x2x1024x704, .f32⟩
  | .hbm, ⟨4, _⟩ => ⟨S4x2x704x1024, .f32⟩
  | .hbm, ⟨5, _⟩ => ⟨S4x2x704x1024, .f32⟩
  | .hbm, ⟨6, _⟩ => ⟨S4x2x704x1024, .f32⟩
  | .hbm, ⟨7, _⟩ => ⟨S5632x1024, .f32⟩
  | .hbm, ⟨8, _⟩ => ⟨S5632x1024, .f32⟩
  | .hbm, ⟨9, _⟩ => ⟨S5632x1024, .f32⟩
  | .hbm, ⟨10, _⟩ => ⟨S5632x1024, .f32⟩
  | .hbm, ⟨11, _⟩ => ⟨S5632x1024, .f32⟩
  | .hbm, ⟨12, _⟩ => ⟨S5632x1024, .f32⟩
  | .hbm, ⟨13, _⟩ => ⟨S5632x1024, .f32⟩
  | .hbm, ⟨14, _⟩ => ⟨S4x2x704x1024, .f32⟩
  | .hbm, ⟨15, _⟩ => ⟨S4x2x704x1024, .f32⟩
  | .hbm, ⟨16, _⟩ => ⟨S4x2x704x1024, .f32⟩
  | .hbm, ⟨17, _⟩ => ⟨S4x2x1024x704, .f32⟩
  | .hbm, ⟨18, _⟩ => ⟨S4x2x1024x704, .f32⟩
  | .hbm, ⟨19, _⟩ => ⟨S4x2x1024x704, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnReferenceIdeal.lean ====
abbrev S4x2x1024x704 : Shape := ⟨4, ![4, 2, 1024, 704]⟩
abbrev S4x2x704x1024 : Shape := ⟨4, ![4, 2, 704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4x2x1024x704, .f32⟩
  | .hbm, ⟨1, _⟩ => ⟨S4x2x704x1024, .f32⟩
  | .hbm, ⟨2, _⟩ => ⟨S4x2x1024x704, .f32⟩
  | .hbm, ⟨3, _⟩ => ⟨S4x2x1024x704, .f32⟩
  | .hbm, ⟨4, _⟩ => ⟨S4x2x1024x704, .f32⟩
  | .hbm, ⟨5, _⟩ => ⟨S_, .f32⟩
  | .hbm, ⟨6, _⟩ => ⟨S4x2x1024x704, .f32⟩
  | .hbm, ⟨7, _⟩ => ⟨S4x2x1024x704, .f32⟩
  | .hbm, ⟨8, _⟩ => ⟨S_, .f32⟩
  | .hbm, ⟨9, _⟩ => ⟨S4x2x1024x704, .f32⟩
  | .hbm, ⟨10, _⟩ => ⟨S4x2x1024x704, .f32⟩
  | .hbm, ⟨11, _⟩ => ⟨S4x2x1024x704, .f32⟩
  | .hbm, ⟨12, _⟩ => ⟨S_, .f32⟩
  | .hbm, ⟨13, _⟩ => ⟨S4x2x1024x704, .f32⟩
  | .hbm, ⟨14, _⟩ => ⟨S4x2x1024x704, .f32⟩
  | .hbm, ⟨15, _⟩ => ⟨S4x2x1024x704, .f32⟩
  | .hbm, ⟨16, _⟩ => ⟨S_, .f32⟩
  | .hbm, ⟨17, _⟩ => ⟨S4x2x1024x704, .f32⟩
  | .hbm, ⟨18, _⟩ => ⟨S4x2x1024x704, .f32⟩
  | .hbm, ⟨19, _⟩ => ⟨S4x2x1024x704, .f32⟩
  | .hbm, ⟨20, _⟩ => ⟨S_, .f32⟩
  | .hbm, ⟨21, _⟩ => ⟨S4x2x1024x704, .f32⟩
  | .hbm, ⟨22, _⟩ => ⟨S4x2x1024x704, .f32⟩
  | .hbm, ⟨23, _⟩ => ⟨S_, .f32⟩
  | .hbm, ⟨24, _⟩ => ⟨S4x2x1024x704, .f32⟩
  | .hbm, ⟨25, _⟩ => ⟨S4x2x1024x704, .f32⟩
  | .hbm, ⟨26, _⟩ => ⟨S4x2x1024x704, .f32⟩
  | .hbm, ⟨27, _⟩ => ⟨S_, .f32⟩
  | .hbm, ⟨28, _⟩ => ⟨S4x2x1024x704, .f32⟩
  | .hbm, ⟨29, _⟩ => ⟨S4x2x1024x704, .f32⟩
  | .hbm, ⟨30, _⟩ => ⟨S4x2x1024x704, .f32⟩
  | .hbm, ⟨31, _⟩ => ⟨S_, .f32⟩
  | .hbm, ⟨32, _⟩ => ⟨S4x2x1024x704, .f32⟩
  | .hbm, ⟨33, _⟩ => ⟨S4x2x1024x704, .f32⟩
  | .hbm, ⟨34, _⟩ => ⟨S4x2x1024x704, .f32⟩
  | .hbm, ⟨35, _⟩ => ⟨S_, .f32⟩
  | .hbm, ⟨36, _⟩ => ⟨S4x2x1024x704, .f32⟩
  | .hbm, ⟨37, _⟩ => ⟨S4x2x1024x704, .f32⟩
  | _, _ => ⟨S4x2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamFfnOut.lean ====
abbrev S4x2x704x1024 : Shape := ⟨4, ![4, 2, 704, 1024]⟩
abbrev S5632x1024 : Shape := ⟨2, ![5632, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x2x704x1024, .f32⟩
  | .hbm, ⟨1, _⟩ => ⟨S4x2x704x1024, .f32⟩
  | .hbm, ⟨2, _⟩ => ⟨S4x2x704x1024, .f32⟩
  | .hbm, ⟨3, _⟩ => ⟨S4x2x704x1024, .f32⟩
  | .hbm, ⟨4, _⟩ => ⟨S5632x1024, .f32⟩
  | .hbm, ⟨5, _⟩ => ⟨S5632x1024, .f32⟩
  | .hbm, ⟨6, _⟩ => ⟨S5632x1024, .f32⟩
  | .hbm, ⟨7, _⟩ => ⟨S5632x1024, .f32⟩
  | .hbm, ⟨8, _⟩ => ⟨S5632x1024, .f32⟩
  | .hbm, ⟨9, _⟩ => ⟨S5632x1024, .f32⟩
  | .hbm, ⟨10, _⟩ => ⟨S5632x1024, .f32⟩
  | .hbm, ⟨11, _⟩ => ⟨S4x2x704x1024, .f32⟩
  | .hbm, ⟨12, _⟩ => ⟨S4x2x704x1024, .f32⟩
  | .hbm, ⟨13, _⟩ => ⟨S4x2x704x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutReferenceIdeal.lean ====
abbrev S4x2x704x1024 : Shape := ⟨4, ![4, 2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2x704x1024, .f32⟩
  | .hbm, ⟨1, _⟩ => ⟨S4x2x704x1024, .f32⟩
  | .hbm, ⟨2, _⟩ => ⟨S4x2x704x1024, .f32⟩
  | .hbm, ⟨3, _⟩ => ⟨S4x2x704x1024, .f32⟩
  | .hbm, ⟨4, _⟩ => ⟨S_, .f32⟩
  | .hbm, ⟨5, _⟩ => ⟨S4x2x704x1024, .f32⟩
  | .hbm, ⟨6, _⟩ => ⟨S4x2x704x1024, .f32⟩
  | .hbm, ⟨7, _⟩ => ⟨S_, .f32⟩
  | .hbm, ⟨8, _⟩ => ⟨S4x2x704x1024, .f32⟩
  | .hbm, ⟨9, _⟩ => ⟨S4x2x704x1024, .f32⟩
  | .hbm, ⟨10, _⟩ => ⟨S4x2x704x1024, .f32⟩
  | .hbm, ⟨11, _⟩ => ⟨S_, .f32⟩
  | .hbm, ⟨12, _⟩ => ⟨S4x2x704x1024, .f32⟩
  | .hbm, ⟨13, _⟩ => ⟨S4x2x704x1024, .f32⟩
  | .hbm, ⟨14, _⟩ => ⟨S4x2x704x1024, .f32⟩
  | .hbm, ⟨15, _⟩ => ⟨S_, .f32⟩
  | .hbm, ⟨16, _⟩ => ⟨S4x2x704x1024, .f32⟩
  | .hbm, ⟨17, _⟩ => ⟨S4x2x704x1024, .f32⟩
  | .hbm, ⟨18, _⟩ => ⟨S4x2x704x1024, .f32⟩
  | .hbm, ⟨19, _⟩ => ⟨S_, .f32⟩
  | .hbm, ⟨20, _⟩ => ⟨S4x2x704x1024, .f32⟩
  | .hbm, ⟨21, _⟩ => ⟨S4x2x704x1024, .f32⟩
  | .hbm, ⟨22, _⟩ => ⟨S_, .f32⟩
  | .hbm, ⟨23, _⟩ => ⟨S4x2x704x1024, .f32⟩
  | .hbm, ⟨24, _⟩ => ⟨S4x2x704x1024, .f32⟩
  | .hbm, ⟨25, _⟩ => ⟨S4x2x704x1024, .f32⟩
  | .hbm, ⟨26, _⟩ => ⟨S_, .f32⟩
  | .hbm, ⟨27, _⟩ => ⟨S4x2x704x1024, .f32⟩
  | .hbm, ⟨28, _⟩ => ⟨S4x2x704x1024, .f32⟩
  | .hbm, ⟨29, _⟩ => ⟨S4x2x704x1024, .f32⟩
  | .hbm, ⟨30, _⟩ => ⟨S_, .f32⟩
  | .hbm, ⟨31, _⟩ => ⟨S4x2x704x1024, .f32⟩
  | .hbm, ⟨32, _⟩ => ⟨S4x2x704x1024, .f32⟩
  | .hbm, ⟨33, _⟩ => ⟨S4x2x704x1024, .f32⟩
  | .hbm, ⟨34, _⟩ => ⟨S_, .f32⟩
  | .hbm, ⟨35, _⟩ => ⟨S4x2x704x1024, .f32⟩
  | .hbm, ⟨36, _⟩ => ⟨S4x2x704x1024, .f32⟩
  | _, _ => ⟨S4x2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvIn.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 14
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInReferenceIdeal.lean ====
abbrev S2x1024x512 : Shape := ⟨3, ![2, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvOutReferenceIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkv.lean ====
abbrev S1x1024x768 : Shape := ⟨3, ![1, 1024, 768]⟩
abbrev S1024x768 : Shape := ⟨2, ![1024, 768]⟩
abbrev S256x768 : Shape := ⟨2, ![256, 768]⟩

abbrev nBuf : Space → Nat
  | .hbm => 14
  | .vmem => 14
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamQkvReferenceIdeal.lean ====
abbrev S1x1024x768 : Shape := ⟨3, ![1, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1x1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S1x1024x768, .f32⟩
  | .hbm, ⟨11, _⟩ => ⟨S_, .f32⟩
  | .hbm, ⟨12, _⟩ => ⟨S1x1024x768, .f32⟩
  | .hbm, ⟨13, _⟩ => ⟨S1x1024x768, .f32⟩
  | .hbm, ⟨14, _⟩ => ⟨S1x1024x768, .f32⟩
  | .hbm, ⟨15, _⟩ => ⟨S_, .f32⟩
  | .hbm, ⟨16, _⟩ => ⟨S1x1024x768, .f32⟩
  | .hbm, ⟨17, _⟩ => ⟨S1x1024x768, .f32⟩
  | .hbm, ⟨18, _⟩ => ⟨S1x1024x768, .f32⟩
  | .hbm, ⟨19, _⟩ => ⟨S_, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S1x1024x768, .f32⟩
  | .hbm, ⟨26, _⟩ => ⟨S_, .f32⟩
  | .hbm, ⟨27, _⟩ => ⟨S1x1024x768, .f32⟩
  | .hbm, ⟨28, _⟩ => ⟨S1x1024x768, .f32⟩
  | .hbm, ⟨29, _⟩ => ⟨S1x1024x768, .f32⟩
  | .hbm, ⟨30, _⟩ => ⟨S_, .f32⟩
  | .hbm, ⟨31, _⟩ => ⟨S1x1024x768, .f32⟩
  | .hbm, ⟨32, _⟩ => ⟨S1x1024x768, .f32⟩
  | .hbm, ⟨33, _⟩ => ⟨S1x1024x768, .f32⟩
  | .hbm, ⟨34, _⟩ => ⟨S_, .f32⟩
  | .hbm, ⟨35, _⟩ => ⟨S1x1024x768, .f32⟩
  | .hbm, ⟨36, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttnOut.lean ====
abbrev S1x256x1024 : Shape := ⟨3, ![1, 256, 1024]⟩
abbrev S256x1024 : Shape := ⟨2, ![256, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S1x256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAttnOutReferenceIdeal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamCond.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamCondReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S4x1024x2304 : Shape := ⟨3, ![4, 1024, 2304]⟩
abbrev S4096x2304 : Shape := ⟨2, ![4096, 2304]⟩
abbrev S64x2304 : Shape := ⟨2, ![64, 2304]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S4096x2304, .f32⟩
  | .hbm, ⟨5, _⟩ => ⟨S4096x2304, .f32⟩
  | .hbm, ⟨6, _⟩ => ⟨S4096x2304, .f32⟩
  | .hbm, ⟨7, _⟩ => ⟨S4096x2304, .f32⟩
  | .hbm, ⟨8, _⟩ => ⟨S4096x2304, .f32⟩
  | .hbm, ⟨9, _⟩ => ⟨S4096x2304, .f32⟩
  | .hbm, ⟨10, _⟩ => ⟨S4096x2304, .f32⟩
  | .hbm, ⟨11, _⟩ => ⟨S4x1024x2304, .f32⟩
  | .hbm, ⟨12, _⟩ => ⟨S4x1024x2304, .f32⟩
  | .hbm, ⟨13, _⟩ => ⟨S4x1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | _, _ => ⟨S4x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaReferenceIdeal.lean ====
abbrev S4x1024x2304 : Shape := ⟨3, ![4, 1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x2304, .f32⟩
  | .hbm, ⟨1, _⟩ => ⟨S4x1024x2304, .f32⟩
  | .hbm, ⟨2, _⟩ => ⟨S4x1024x2304, .f32⟩
  | .hbm, ⟨3, _⟩ => ⟨S4x1024x2304, .f32⟩
  | .hbm, ⟨4, _⟩ => ⟨S_, .f32⟩
  | .hbm, ⟨5, _⟩ => ⟨S4x1024x2304, .f32⟩
  | .hbm, ⟨6, _⟩ => ⟨S4x1024x2304, .f32⟩
  | .hbm, ⟨7, _⟩ => ⟨S_, .f32⟩
  | .hbm, ⟨8, _⟩ => ⟨S4x1024x2304, .f32⟩
  | .hbm, ⟨9, _⟩ => ⟨S4x1024x2304, .f32⟩
  | .hbm, ⟨10, _⟩ => ⟨S4x1024x2304, .f32⟩
  | .hbm, ⟨11, _⟩ => ⟨S_, .f32⟩
  | .hbm, ⟨12, _⟩ => ⟨S4x1024x2304, .f32⟩
  | .hbm, ⟨13, _⟩ => ⟨S4x1024x2304, .f32⟩
  | .hbm, ⟨14, _⟩ => ⟨S4x1024x2304, .f32⟩
  | .hbm, ⟨15, _⟩ => ⟨S_, .f32⟩
  | .hbm, ⟨16, _⟩ => ⟨S4x1024x2304, .f32⟩
  | .hbm, ⟨17, _⟩ => ⟨S4x1024x2304, .f32⟩
  | .hbm, ⟨18, _⟩ => ⟨S4x1024x2304, .f32⟩
  | .hbm, ⟨19, _⟩ => ⟨S_, .f32⟩
  | .hbm, ⟨20, _⟩ => ⟨S4x1024x2304, .f32⟩
  | .hbm, ⟨21, _⟩ => ⟨S4x1024x2304, .f32⟩
  | .hbm, ⟨22, _⟩ => ⟨S_, .f32⟩
  | .hbm, ⟨23, _⟩ => ⟨S4x1024x2304, .f32⟩
  | .hbm, ⟨24, _⟩ => ⟨S4x1024x2304, .f32⟩
  | .hbm, ⟨25, _⟩ => ⟨S4x1024x2304, .f32⟩
  | .hbm, ⟨26, _⟩ => ⟨S_, .f32⟩
  | .hbm, ⟨27, _⟩ => ⟨S4x1024x2304, .f32⟩
  | .hbm, ⟨28, _⟩ => ⟨S4x1024x2304, .f32⟩
  | .hbm, ⟨29, _⟩ => ⟨S4x1024x2304, .f32⟩
  | .hbm, ⟨30, _⟩ => ⟨S_, .f32⟩
  | .hbm, ⟨31, _⟩ => ⟨S4x1024x2304, .f32⟩
  | .hbm, ⟨32, _⟩ => ⟨S4x1024x2304, .f32⟩
  | .hbm, ⟨33, _⟩ => ⟨S4x1024x2304, .f32⟩
  | .hbm, ⟨34, _⟩ => ⟨S_, .f32⟩
  | .hbm, ⟨35, _⟩ => ⟨S4x1024x2304, .f32⟩
  | .hbm, ⟨36, _⟩ => ⟨S4x1024x2304, .f32⟩
  | _, _ => ⟨S4x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S4x3x256 : Shape := ⟨3, ![4, 3, 256]⟩
abbrev S2x512 : Shape := ⟨2, ![2, 512]⟩
abbrev S2x31x256 : Shape := ⟨3, ![2, 31, 256]⟩
abbrev S2x256 : Shape := ⟨2, ![2, 256]⟩
abbrev S1x4x64x256 : Shape := ⟨4, ![1, 4, 64, 256]⟩
abbrev S1x4x64 : Shape := ⟨3, ![1, 4, 64]⟩
abbrev S1x256 : Shape := ⟨2, ![1, 256]⟩
abbrev S1024 : Shape := ⟨1, ![1024]⟩
abbrev S4x9216 : Shape := ⟨2, ![4, 9216]⟩
abbrev S1x64 : Shape := ⟨2, ![1, 64]⟩
abbrev S3072 : Shape := ⟨1, ![3072]⟩
abbrev S15872 : Shape := ⟨1, ![15872]⟩
abbrev S512 : Shape := ⟨1, ![512]⟩
abbrev S65536 : Shape := ⟨1, ![65536]⟩
abbrev S256 : Shape := ⟨1, ![256]⟩
abbrev S36864 : Shape := ⟨1, ![36864]⟩
abbrev S64 : Shape := ⟨1, ![64]⟩
abbrev S126080 : Shape := ⟨1, ![126080]⟩
abbrev S_ : Shape := ⟨0, ![]⟩
abbrev S126976 : Shape := ⟨1, ![126976]⟩
abbrev S992x128 : Shape := ⟨2, ![992, 128]⟩

abbrev nBuf : Space → Nat
  | .hbm => 215
  | .vmem => 7
  | .smem => 0
  | _ => 0

abbrev hbmTy0_0 (i : Nat) : BufTy := match i % 128 with
  | 0 => ⟨S4x3x256, .f32⟩
  | 1 => ⟨S2x512, .f32⟩
  | 2 => ⟨S2x31x256, .f32⟩
  | 3 => ⟨S2x256, .f32⟩
  | 4 => ⟨S2x256, .f32⟩
  | 5 => ⟨S2x256, .f32⟩
  | 6 => ⟨S2x256, .f32⟩
  | 7 => ⟨S1x4x64x256, .f32⟩
  | 8 => ⟨S1x4x64, .f32⟩
  | 9 => ⟨S1x256, .f32⟩
  | 10 => ⟨S1024, .f32⟩
  | 11 => ⟨S4x9216, .f32⟩
  | 12 => ⟨S1x64, .f32⟩
  | 13 => ⟨S1x64, .f32⟩
  | 14 => ⟨S4x3x256, .f32⟩
  | 15 => ⟨S2x512, .f32⟩
  | 16 => ⟨S2x31x256, .f32⟩
  | 17 => ⟨S2x256, .f32⟩
  | 18 => ⟨S2x256, .f32⟩
  | 19 => ⟨S2x256, .f32⟩
  | 20 => ⟨S2x256, .f32⟩
  | 21 => ⟨S1x4x64x256, .f32⟩
  | 22 => ⟨S1x4x64, .f32⟩
  | 23 => ⟨S1x256, .f32⟩
  | 24 => ⟨S1024, .f32⟩
  | 25 => ⟨S4x9216, .f32⟩
  | 26 => ⟨S1x64, .f32⟩
  | 27 => ⟨S1x64, .f32⟩
  | 28 => ⟨S4x3x256, .f32⟩
  | 29 => ⟨S2x512, .f32⟩
  | 30 => ⟨S2x31x256, .f32⟩
  | 31 => ⟨S2x256, .f32⟩
  | 32 => ⟨S2x256, .f32⟩
  | 33 => ⟨S2x256, .f32⟩
  | 34 => ⟨S2x256, .f32⟩
  | 35 => ⟨S1x4x64x256, .f32⟩
  | 36 => ⟨S1x4x64, .f32⟩
  | 37 => ⟨S1x256, .f32⟩
  | 38 => ⟨S1024, .f32⟩
  | 39 => ⟨S4x9216, .f32⟩
  | 40 => ⟨S1x64, .f32⟩
  | 41 => ⟨S1x64, .f32⟩
  | 42 => ⟨S4x3x256, .f32⟩
  | 43 => ⟨S2x512, .f32⟩
  | 44 => ⟨S2x31x256, .f32⟩
  | 45 => ⟨S2x256, .f32⟩
  | 46 => ⟨S2x256, .f32⟩
  | 47 => ⟨S2x256, .f32⟩
  | 48 => ⟨S2x256, .f32⟩
  | 49 => ⟨S1x4x64x256, .f32⟩
  | 50 => ⟨S1x4x64, .f32⟩
  | 51 => ⟨S1x256, .f32⟩
  | 52 => ⟨S1024, .f32⟩
  | 53 => ⟨S4x9216, .f32⟩
  | 54 => ⟨S1x64, .f32⟩
  | 55 => ⟨S1x64, .f32⟩
  | 56 => ⟨S3072, .f32⟩
  | 57 => ⟨S1024, .f32⟩
  | 58 => ⟨S15872, .f32⟩
  | 59 => ⟨S512, .f32⟩
  | 60 => ⟨S512, .f32⟩
  | 61 => ⟨S512, .f32⟩
  | 62 => ⟨S512, .f32⟩
  | 63 => ⟨S65536, .f32⟩
  | 64 => ⟨S256, .f32⟩
  | 65 => ⟨S256, .f32⟩
  | 66 => ⟨S36864, .f32⟩
  | 67 => ⟨S64, .f32⟩
  | 68 => ⟨S64, .f32⟩
  | 69 => ⟨S126080, .f32⟩
  | 70 => ⟨S_, .i32⟩
  | 71 => ⟨S_, .f32⟩
  | 72 => ⟨S126976, .f32⟩
  | 73 => ⟨S992x128, .f32⟩
  | 74 => ⟨S3072, .f32⟩
  | 75 => ⟨S1024, .f32⟩
  | 76 => ⟨S15872, .f32⟩
  | 77 => ⟨S512, .f32⟩
  | 78 => ⟨S512, .f32⟩
  | 79 => ⟨S512, .f32⟩
  | 80 => ⟨S512, .f32⟩
  | 81 => ⟨S65536, .f32⟩
  | 82 => ⟨S256, .f32⟩
  | 83 => ⟨S256, .f32⟩
  | 84 => ⟨S36864, .f32⟩
  | 85 => ⟨S64, .f32⟩
  | 86 => ⟨S64, .f32⟩
  | 87 => ⟨S126080, .f32⟩
  | 88 => ⟨S_, .i32⟩
  | 89 => ⟨S_, .f32⟩
  | 90 => ⟨S126976, .f32⟩
  | 91 => ⟨S992x128, .f32⟩
  | 92 => ⟨S3072, .f32⟩
  | 93 => ⟨S1024, .f32⟩
  | 94 => ⟨S15872, .f32⟩
  | 95 => ⟨S512, .f32⟩
  | 96 => ⟨S512, .f32⟩
  | 97 => ⟨S512, .f32⟩
  | 98 => ⟨S512, .f32⟩
  | 99 => ⟨S65536, .f32⟩
  | 100 => ⟨S256, .f32⟩
  | 101 => ⟨S256, .f32⟩
  | 102 => ⟨S36864, .f32⟩
  | 103 => ⟨S64, .f32⟩
  | 104 => ⟨S64, .f32⟩
  | 105 => ⟨S126080, .f32⟩
  | 106 => ⟨S_, .i32⟩
  | 107 => ⟨S_, .f32⟩
  | 108 => ⟨S126976, .f32⟩
  | 109 => ⟨S992x128, .f32⟩
  | 110 => ⟨S3072, .f32⟩
  | 111 => ⟨S1024, .f32⟩
  | 112 => ⟨S15872, .f32⟩
  | 113 => ⟨S512, .f32⟩
  | 114 => ⟨S512, .f32⟩
  | 115 => ⟨S512, .f32⟩
  | 116 => ⟨S512, .f32⟩
  | 117 => ⟨S65536, .f32⟩
  | 118 => ⟨S256, .f32⟩
  | 119 => ⟨S256, .f32⟩
  | 120 => ⟨S36864, .f32⟩
  | 121 => ⟨S64, .f32⟩
  | 122 => ⟨S64, .f32⟩
  | 123 => ⟨S126080, .f32⟩
  | 124 => ⟨S_, .i32⟩
  | 125 => ⟨S_, .f32⟩
  | 126 => ⟨S126976, .f32⟩
  | 127 => ⟨S992x128, .f32⟩
  | _ => ⟨S4x3x256, .f32⟩

abbrev hbmTy0_1 (i : Nat) : BufTy := match i % 128 with
  | 0 => ⟨S992x128, .f32⟩
  | 1 => ⟨S992x128, .f32⟩
  | 2 => ⟨S992x128, .f32⟩
  | 3 => ⟨S126976, .f32⟩
  | 4 => ⟨S3072, .f32⟩
  | 5 => ⟨S4x3x256, .f32⟩
  | 6 => ⟨S1024, .f32⟩
  | 7 => ⟨S2x512, .f32⟩
  | 8 => ⟨S15872, .f32⟩
  | 9 => ⟨S2x31x256, .f32⟩
  | 10 => ⟨S512, .f32⟩
  | 11 => ⟨S2x256, .f32⟩
  | 12 => ⟨S512, .f32⟩
  | 13 => ⟨S2x256, .f32⟩
  | 14 => ⟨S512, .f32⟩
  | 15 => ⟨S2x256, .f32⟩
  | 16 => ⟨S512, .f32⟩
  | 17 => ⟨S2x256, .f32⟩
  | 18 => ⟨S65536, .f32⟩
  | 19 => ⟨S1x4x64x256, .f32⟩
  | 20 => ⟨S256, .f32⟩
  | 21 => ⟨S1x4x64, .f32⟩
  | 22 => ⟨S256, .f32⟩
  | 23 => ⟨S1x256, .f32⟩
  | 24 => ⟨S1024, .f32⟩
  | 25 => ⟨S36864, .f32⟩
  | 26 => ⟨S4x9216, .f32⟩
  | 27 => ⟨S64, .f32⟩
  | 28 => ⟨S1x64, .f32⟩
  | 29 => ⟨S64, .f32⟩
  | 30 => ⟨S1x64, .f32⟩
  | 31 => ⟨S126976, .f32⟩
  | 32 => ⟨S3072, .f32⟩
  | 33 => ⟨S4x3x256, .f32⟩
  | 34 => ⟨S1024, .f32⟩
  | 35 => ⟨S2x512, .f32⟩
  | 36 => ⟨S15872, .f32⟩
  | 37 => ⟨S2x31x256, .f32⟩
  | 38 => ⟨S512, .f32⟩
  | 39 => ⟨S2x256, .f32⟩
  | 40 => ⟨S512, .f32⟩
  | 41 => ⟨S2x256, .f32⟩
  | 42 => ⟨S512, .f32⟩
  | 43 => ⟨S2x256, .f32⟩
  | 44 => ⟨S512, .f32⟩
  | 45 => ⟨S2x256, .f32⟩
  | 46 => ⟨S65536, .f32⟩
  | 47 => ⟨S1x4x64x256, .f32⟩
  | 48 => ⟨S256, .f32⟩
  | 49 => ⟨S1x4x64, .f32⟩
  | 50 => ⟨S256, .f32⟩
  | 51 => ⟨S1x256, .f32⟩
  | 52 => ⟨S1024, .f32⟩
  | 53 => ⟨S36864, .f32⟩
  | 54 => ⟨S4x9216, .f32⟩
  | 55 => ⟨S64, .f32⟩
  | 56 => ⟨S1x64, .f32⟩
  | 57 => ⟨S64, .f32⟩
  | 58 => ⟨S1x64, .f32⟩
  | 59 => ⟨S126976, .f32⟩
  | 60 => ⟨S3072, .f32⟩
  | 61 => ⟨S4x3x256, .f32⟩
  | 62 => ⟨S1024, .f32⟩
  | 63 => ⟨S2x512, .f32⟩
  | 64 => ⟨S15872, .f32⟩
  | 65 => ⟨S2x31x256, .f32⟩
  | 66 => ⟨S512, .f32⟩
  | 67 => ⟨S2x256, .f32⟩
  | 68 => ⟨S512, .f32⟩
  | 69 => ⟨S2x256, .f32⟩
  | 70 => ⟨S512, .f32⟩
  | 71 => ⟨S2x256, .f32⟩
  | 72 => ⟨S512, .f32⟩
  | 73 => ⟨S2x256, .f32⟩
  | 74 => ⟨S65536, .f32⟩
  | 75 => ⟨S1x4x64x256, .f32⟩
  | 76 => ⟨S256, .f32⟩
  | 77 => ⟨S1x4x64, .f32⟩
  | 78 => ⟨S256, .f32⟩
  | 79 => ⟨S1x256, .f32⟩
  | 80 => ⟨S1024, .f32⟩
  | 81 => ⟨S36864, .f32⟩
  | 82 => ⟨S4x9216, .f32⟩
  | 83 => ⟨S64, .f32⟩
  | 84 => ⟨S1x64, .f32⟩
  | 85 => ⟨S64, .f32⟩
  | 86 => ⟨S1x64, .f32⟩
  | _ => ⟨S4x3x256, .f32⟩

abbrev hbmTy (i : Nat) : BufTy := match i / 128 with
  | 0 => hbmTy0_0 i
  | 1 => hbmTy0_1 i
  | _ => ⟨S4x3x256, .f32⟩

abbrev bufTy : (tb : Table) → Fin (tcTables nBuf tb) → BufTy
  | .hbm, ⟨i, _⟩ => hbmTy i
  | .local _ .vmem, ⟨0, _⟩ => ⟨S992x128, .f32⟩
  | .local _ .vmem, ⟨1, _⟩ => ⟨S992x128, .f32⟩
  | .local _ .vmem, ⟨2, _⟩ => ⟨S992x128, .f32⟩
  | .local _ .vmem, ⟨3, _⟩ => ⟨S992x128, .f32⟩
  | .local _ .vmem, ⟨4, _⟩ => ⟨S992x128, .f32⟩
  | .local _ .vmem, ⟨5, _⟩ => ⟨S992x128, .f32⟩
  | .local _ .vmem, ⟨6, _⟩ => ⟨S992x128, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_v0 : Ref sig .tc := ⟨.hbm, 56, rfl⟩
abbrev main_v1 : Ref sig .tc := ⟨.hbm, 57, rfl⟩
abbrev main_v2 : Ref sig .tc := ⟨.hbm, 58, rfl⟩
abbrev main_v3 : Ref sig .tc := ⟨.hbm, 59, rfl⟩
abbrev main_v4 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_c : Ref sig .tc := ⟨.hbm, 70, rfl⟩
abbrev main_call0_v0 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_c_0 : Ref sig .tc := ⟨.hbm, 88, rfl⟩
abbrev main_call1_v0 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_c_1 : Ref sig .tc := ⟨.hbm, 106, rfl⟩
abbrev main_call2_v0 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_c_2 : Ref sig .tc := ⟨.hbm, 124, rfl⟩
abbrev main_call3_v0 : Ref sig .tc := ⟨.hbm, 125, rfl⟩
abbrev main_v62 : Ref sig .tc := ⟨.hbm, 126, rfl⟩
abbrev main_v63 : Ref sig .tc := ⟨.hbm, 127, rfl⟩
abbrev main_v64_0 : Ref sig .tc := ⟨.hbm, 128, rfl⟩
abbrev main_v64_1 : Ref sig .tc := ⟨.hbm, 129, rfl⟩
abbrev main_v64_2 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S992x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S992x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S992x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S992x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S992x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S992x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S992x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallReferenceIdeal.lean ====
abbrev S4x3x256 : Shape := ⟨3, ![4, 3, 256]⟩
abbrev S2x512 : Shape := ⟨2, ![2, 512]⟩
abbrev S2x31x256 : Shape := ⟨3, ![2, 31, 256]⟩
abbrev S2x256 : Shape := ⟨2, ![2, 256]⟩
abbrev S1x4x64x256 : Shape := ⟨4, ![1, 4, 64, 256]⟩
abbrev S1x4x64 : Shape := ⟨3, ![1, 4, 64]⟩
abbrev S1x256 : Shape := ⟨2, ![1, 256]⟩
abbrev S1024 : Shape := ⟨1, ![1024]⟩
abbrev S4x9216 : Shape := ⟨2, ![4, 9216]⟩
abbrev S1x64 : Shape := ⟨2, ![1, 64]⟩
abbrev S_ : Shape := ⟨0, ![]⟩

abbrev nBuf : Space → Nat
  | .hbm => 518
  | .vmem => 0
  | .smem => 0
  | _ => 0

abbrev hbmTy0_0 (i : Nat) : BufTy := match i % 128 with
  | 0 => ⟨S4x3x256, .f32⟩
  | 1 => ⟨S2x512, .f32⟩
  | 2 => ⟨S2x31x256, .f32⟩
  | 3 => ⟨S2x256, .f32⟩
  | 4 => ⟨S2x256, .f32⟩
  | 5 => ⟨S2x256, .f32⟩
  | 6 => ⟨S2x256, .f32⟩
  | 7 => ⟨S1x4x64x256, .f32⟩
  | 8 => ⟨S1x4x64, .f32⟩
  | 9 => ⟨S1x256, .f32⟩
  | 10 => ⟨S1024, .f32⟩
  | 11 => ⟨S4x9216, .f32⟩
  | 12 => ⟨S1x64, .f32⟩
  | 13 => ⟨S1x64, .f32⟩
  | 14 => ⟨S4x3x256, .f32⟩
  | 15 => ⟨S2x512, .f32⟩
  | 16 => ⟨S2x31x256, .f32⟩
  | 17 => ⟨S2x256, .f32⟩
  | 18 => ⟨S2x256, .f32⟩
  | 19 => ⟨S2x256, .f32⟩
  | 20 => ⟨S2x256, .f32⟩
  | 21 => ⟨S1x4x64x256, .f32⟩
  | 22 => ⟨S1x4x64, .f32⟩
  | 23 => ⟨S1x256, .f32⟩
  | 24 => ⟨S1024, .f32⟩
  | 25 => ⟨S4x9216, .f32⟩
  | 26 => ⟨S1x64, .f32⟩
  | 27 => ⟨S1x64, .f32⟩
  | 28 => ⟨S4x3x256, .f32⟩
  | 29 => ⟨S2x512, .f32⟩
  | 30 => ⟨S2x31x256, .f32⟩
  | 31 => ⟨S2x256, .f32⟩
  | 32 => ⟨S2x256, .f32⟩
  | 33 => ⟨S2x256, .f32⟩
  | 34 => ⟨S2x256, .f32⟩
  | 35 => ⟨S1x4x64x256, .f32⟩
  | 36 => ⟨S1x4x64, .f32⟩
  | 37 => ⟨S1x256, .f32⟩
  | 38 => ⟨S1024, .f32⟩
  | 39 => ⟨S4x9216, .f32⟩
  | 40 => ⟨S1x64, .f32⟩
  | 41 => ⟨S1x64, .f32⟩
  | 42 => ⟨S4x3x256, .f32⟩
  | 43 => ⟨S2x512, .f32⟩
  | 44 => ⟨S2x31x256, .f32⟩
  | 45 => ⟨S2x256, .f32⟩
  | 46 => ⟨S2x256, .f32⟩
  | 47 => ⟨S2x256, .f32⟩
  | 48 => ⟨S2x256, .f32⟩
  | 49 => ⟨S1x4x64x256, .f32⟩
  | 50 => ⟨S1x4x64, .f32⟩
  | 51 => ⟨S1x256, .f32⟩
  | 52 => ⟨S1024, .f32⟩
  | 53 => ⟨S4x9216, .f32⟩
  | 54 => ⟨S1x64, .f32⟩
  | 55 => ⟨S1x64, .f32⟩
  | 56 => ⟨S_, .f32⟩
  | 57 => ⟨S4x3x256, .f32⟩
  | 58 => ⟨S4x3x256, .f32⟩
  | 59 => ⟨S_, .f32⟩
  | 60 => ⟨S4x3x256, .f32⟩
  | 61 => ⟨S4x3x256, .f32⟩
  | 62 => ⟨S4x3x256, .f32⟩
  | 63 => ⟨S_, .f32⟩
  | 64 => ⟨S4x3x256, .f32⟩
  | 65 => ⟨S4x3x256, .f32⟩
  | 66 => ⟨S4x3x256, .f32⟩
  | 67 => ⟨S_, .f32⟩
  | 68 => ⟨S4x3x256, .f32⟩
  | 69 => ⟨S4x3x256, .f32⟩
  | 70 => ⟨S4x3x256, .f32⟩
  | 71 => ⟨S_, .f32⟩
  | 72 => ⟨S4x3x256, .f32⟩
  | 73 => ⟨S4x3x256, .f32⟩
  | 74 => ⟨S_, .f32⟩
  | 75 => ⟨S4x3x256, .f32⟩
  | 76 => ⟨S4x3x256, .f32⟩
  | 77 => ⟨S4x3x256, .f32⟩
  | 78 => ⟨S_, .f32⟩
  | 79 => ⟨S4x3x256, .f32⟩
  | 80 => ⟨S4x3x256, .f32⟩
  | 81 => ⟨S4x3x256, .f32⟩
  | 82 => ⟨S_, .f32⟩
  | 83 => ⟨S4x3x256, .f32⟩
  | 84 => ⟨S4x3x256, .f32⟩
  | 85 => ⟨S4x3x256, .f32⟩
  | 86 => ⟨S_, .f32⟩
  | 87 => ⟨S4x3x256, .f32⟩
  | 88 => ⟨S4x3x256, .f32⟩
  | 89 => ⟨S_, .f32⟩
  | 90 => ⟨S2x512, .f32⟩
  | 91 => ⟨S2x512, .f32⟩
  | 92 => ⟨S_, .f32⟩
  | 93 => ⟨S2x512, .f32⟩
  | 94 => ⟨S2x512, .f32⟩
  | 95 => ⟨S2x512, .f32⟩
  | 96 => ⟨S_, .f32⟩
  | 97 => ⟨S2x512, .f32⟩
  | 98 => ⟨S2x512, .f32⟩
  | 99 => ⟨S2x512, .f32⟩
  | 100 => ⟨S_, .f32⟩
  | 101 => ⟨S2x512, .f32⟩
  | 102 => ⟨S2x512, .f32⟩
  | 103 => ⟨S2x512, .f32⟩
  | 104 => ⟨S_, .f32⟩
  | 105 => ⟨S2x512, .f32⟩
  | 106 => ⟨S2x512, .f32⟩
  | 107 => ⟨S_, .f32⟩
  | 108 => ⟨S2x512, .f32⟩
  | 109 => ⟨S2x512, .f32⟩
  | 110 => ⟨S2x512, .f32⟩
  | 111 => ⟨S_, .f32⟩
  | 112 => ⟨S2x512, .f32⟩
  | 113 => ⟨S2x512, .f32⟩
  | 114 => ⟨S2x512, .f32⟩
  | 115 => ⟨S_, .f32⟩
  | 116 => ⟨S2x512, .f32⟩
  | 117 => ⟨S2x512, .f32⟩
  | 118 => ⟨S2x512, .f32⟩
  | 119 => ⟨S_, .f32⟩
  | 120 => ⟨S2x512, .f32⟩
  | 121 => ⟨S2x512, .f32⟩
  | 122 => ⟨S_, .f32⟩
  | 123 => ⟨S2x31x256, .f32⟩
  | 124 => ⟨S2x31x256, .f32⟩
  | 125 => ⟨S_, .f32⟩
  | 126 => ⟨S2x31x256, .f32⟩
  | 127 => ⟨S2x31x256, .f32⟩
  | _ => ⟨S4x3x256, .f32⟩

abbrev hbmTy0_1 (i : Nat) : BufTy := match i % 128 with
  | 0 => ⟨S2x31x256, .f32⟩
  | 1 => ⟨S_, .f32⟩
  | 2 => ⟨S2x31x256, .f32⟩
  | 3 => ⟨S2x31x256, .f32⟩
  | 4 => ⟨S2x31x256, .f32⟩
  | 5 => ⟨S_, .f32⟩
  | 6 => ⟨S2x31x256, .f32⟩
  | 7 => ⟨S2x31x256, .f32⟩
  | 8 => ⟨S2x31x256, .f32⟩
  | 9 => ⟨S_, .f32⟩
  | 10 => ⟨S2x31x256, .f32⟩
  | 11 => ⟨S2x31x256, .f32⟩
  | 12 => ⟨S_, .f32⟩
  | 13 => ⟨S2x31x256, .f32⟩
  | 14 => ⟨S2x31x256, .f32⟩
  | 15 => ⟨S2x31x256, .f32⟩
  | 16 => ⟨S_, .f32⟩
  | 17 => ⟨S2x31x256, .f32⟩
  | 18 => ⟨S2x31x256, .f32⟩
  | 19 => ⟨S2x31x256, .f32⟩
  | 20 => ⟨S_, .f32⟩
  | 21 => ⟨S2x31x256, .f32⟩
  | 22 => ⟨S2x31x256, .f32⟩
  | 23 => ⟨S2x31x256, .f32⟩
  | 24 => ⟨S_, .f32⟩
  | 25 => ⟨S2x31x256, .f32⟩
  | 26 => ⟨S2x31x256, .f32⟩
  | 27 => ⟨S_, .f32⟩
  | 28 => ⟨S2x256, .f32⟩
  | 29 => ⟨S2x256, .f32⟩
  | 30 => ⟨S_, .f32⟩
  | 31 => ⟨S2x256, .f32⟩
  | 32 => ⟨S2x256, .f32⟩
  | 33 => ⟨S2x256, .f32⟩
  | 34 => ⟨S_, .f32⟩
  | 35 => ⟨S2x256, .f32⟩
  | 36 => ⟨S2x256, .f32⟩
  | 37 => ⟨S2x256, .f32⟩
  | 38 => ⟨S_, .f32⟩
  | 39 => ⟨S2x256, .f32⟩
  | 40 => ⟨S2x256, .f32⟩
  | 41 => ⟨S2x256, .f32⟩
  | 42 => ⟨S_, .f32⟩
  | 43 => ⟨S2x256, .f32⟩
  | 44 => ⟨S2x256, .f32⟩
  | 45 => ⟨S_, .f32⟩
  | 46 => ⟨S2x256, .f32⟩
  | 47 => ⟨S2x256, .f32⟩
  | 48 => ⟨S2x256, .f32⟩
  | 49 => ⟨S_, .f32⟩
  | 50 => ⟨S2x256, .f32⟩
  | 51 => ⟨S2x256, .f32⟩
  | 52 => ⟨S2x256, .f32⟩
  | 53 => ⟨S_, .f32⟩
  | 54 => ⟨S2x256, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S_, .f32⟩
  | 61 => ⟨S2x256, .f32⟩
  | 62 => ⟨S2x256, .f32⟩
  | 63 => ⟨S_, .f32⟩
  | 64 => ⟨S2x256, .f32⟩
  | 65 => ⟨S2x256, .f32⟩
  | 66 => ⟨S2x256, .f32⟩
  | 67 => ⟨S_, .f32⟩
  | 68 => ⟨S2x256, .f32⟩
  | 69 => ⟨S2x256, .f32⟩
  | 70 => ⟨S2x256, .f32⟩
  | 71 => ⟨S_, .f32⟩
  | 72 => ⟨S2x256, .f32⟩
  | 73 => ⟨S2x256, .f32⟩
  | 74 => ⟨S2x256, .f32⟩
  | 75 => ⟨S_, .f32⟩
  | 76 => ⟨S2x256, .f32⟩
  | 77 => ⟨S2x256, .f32⟩
  | 78 => ⟨S_, .f32⟩
  | 79 => ⟨S2x256, .f32⟩
  | 80 => ⟨S2x256, .f32⟩
  | 81 => ⟨S2x256, .f32⟩
  | 82 => ⟨S_, .f32⟩
  | 83 => ⟨S2x256, .f32⟩
  | 84 => ⟨S2x256, .f32⟩
  | 85 => ⟨S2x256, .f32⟩
  | 86 => ⟨S_, .f32⟩
  | 87 => ⟨S2x256, .f32⟩
  | 88 => ⟨S2x256, .f32⟩
  | 89 => ⟨S2x256, .f32⟩
  | 90 => ⟨S_, .f32⟩
  | 91 => ⟨S2x256, .f32⟩
  | 92 => ⟨S2x256, .f32⟩
  | 93 => ⟨S_, .f32⟩
  | 94 => ⟨S2x256, .f32⟩
  | 95 => ⟨S2x256, .f32⟩
  | 96 => ⟨S_, .f32⟩
  | 97 => ⟨S2x256, .f32⟩
  | 98 => ⟨S2x256, .f32⟩
  | 99 => ⟨S2x256, .f32⟩
  | 100 => ⟨S_, .f32⟩
  | 101 => ⟨S2x256, .f32⟩
  | 102 => ⟨S2x256, .f32⟩
  | 103 => ⟨S2x256, .f32⟩
  | 104 => ⟨S_, .f32⟩
  | 105 => ⟨S2x256, .f32⟩
  | 106 => ⟨S2x256, .f32⟩
  | 107 => ⟨S2x256, .f32⟩
  | 108 => ⟨S_, .f32⟩
  | 109 => ⟨S2x256, .f32⟩
  | 110 => ⟨S2x256, .f32⟩
  | 111 => ⟨S_, .f32⟩
  | 112 => ⟨S2x256, .f32⟩
  | 113 => ⟨S2x256, .f32⟩
  | 114 => ⟨S2x256, .f32⟩
  | 115 => ⟨S_, .f32⟩
  | 116 => ⟨S2x256, .f32⟩
  | 117 => ⟨S2x256, .f32⟩
  | 118 => ⟨S2x256, .f32⟩
  | 119 => ⟨S_, .f32⟩
  | 120 => ⟨S2x256, .f32⟩
  | 121 => ⟨S2x256, .f32⟩
  | 122 => ⟨S2x256, .f32⟩
  | 123 => ⟨S_, .f32⟩
  | 124 => ⟨S2x256, .f32⟩
  | 125 => ⟨S2x256, .f32⟩
  | 126 => ⟨S_, .f32⟩
  | 127 => ⟨S2x256, .f32⟩
  | _ => ⟨S4x3x256, .f32⟩

abbrev hbmTy0_2 (i : Nat) : BufTy := match i % 128 with
  | 0 => ⟨S2x256, .f32⟩
  | 1 => ⟨S_, .f32⟩
  | 2 => ⟨S2x256, .f32⟩
  | 3 => ⟨S2x256, .f32⟩
  | 4 => ⟨S2x256, .f32⟩
  | 5 => ⟨S_, .f32⟩
  | 6 => ⟨S2x256, .f32⟩
  | 7 => ⟨S2x256, .f32⟩
  | 8 => ⟨S2x256, .f32⟩
  | 9 => ⟨S_, .f32⟩
  | 10 => ⟨S2x256, .f32⟩
  | 11 => ⟨S2x256, .f32⟩
  | 12 => ⟨S2x256, .f32⟩
  | 13 => ⟨S_, .f32⟩
  | 14 => ⟨S2x256, .f32⟩
  | 15 => ⟨S2x256, .f32⟩
  | 16 => ⟨S_, .f32⟩
  | 17 => ⟨S2x256, .f32⟩
  | 18 => ⟨S2x256, .f32⟩
  | 19 => ⟨S2x256, .f32⟩
  | 20 => ⟨S_, .f32⟩
  | 21 => ⟨S2x256, .f32⟩
  | 22 => ⟨S2x256, .f32⟩
  | 23 => ⟨S2x256, .f32⟩
  | 24 => ⟨S_, .f32⟩
  | 25 => ⟨S2x256, .f32⟩
  | 26 => ⟨S2x256, .f32⟩
  | 27 => ⟨S2x256, .f32⟩
  | 28 => ⟨S_, .f32⟩
  | 29 => ⟨S2x256, .f32⟩
  | 30 => ⟨S2x256, .f32⟩
  | 31 => ⟨S_, .f32⟩
  | 32 => ⟨S1x4x64x256, .f32⟩
  | 33 => ⟨S1x4x64x256, .f32⟩
  | 34 => ⟨S_, .f32⟩
  | 35 => ⟨S1x4x64x256, .f32⟩
  | 36 => ⟨S1x4x64x256, .f32⟩
  | 37 => ⟨S1x4x64x256, .f32⟩
  | 38 => ⟨S_, .f32⟩
  | 39 => ⟨S1x4x64x256, .f32⟩
  | 40 => ⟨S1x4x64x256, .f32⟩
  | 41 => ⟨S1x4x64x256, .f32⟩
  | 42 => ⟨S_, .f32⟩
  | 43 => ⟨S1x4x64x256, .f32⟩
  | 44 => ⟨S1x4x64x256, .f32⟩
  | 45 => ⟨S1x4x64x256, .f32⟩
  | 46 => ⟨S_, .f32⟩
  | 47 => ⟨S1x4x64x256, .f32⟩
  | 48 => ⟨S1x4x64x256, .f32⟩
  | 49 => ⟨S_, .f32⟩
  | 50 => ⟨S1x4x64x256, .f32⟩
  | 51 => ⟨S1x4x64x256, .f32⟩
  | 52 => ⟨S1x4x64x256, .f32⟩
  | 53 => ⟨S_, .f32⟩
  | 54 => ⟨S1x4x64x256, .f32⟩
  | 55 => ⟨S1x4x64x256, .f32⟩
  | 56 => ⟨S1x4x64x256, .f32⟩
  | 57 => ⟨S_, .f32⟩
  | 58 => ⟨S1x4x64x256, .f32⟩
  | 59 => ⟨S1x4x64x256, .f32⟩
  | 60 => ⟨S1x4x64x256, .f32⟩
  | 61 => ⟨S_, .f32⟩
  | 62 => ⟨S1x4x64x256, .f32⟩
  | 63 => ⟨S1x4x64x256, .f32⟩
  | 64 => ⟨S_, .f32⟩
  | 65 => ⟨S1x4x64, .f32⟩
  | 66 => ⟨S1x4x64, .f32⟩
  | 67 => ⟨S_, .f32⟩
  | 68 => ⟨S1x4x64, .f32⟩
  | 69 => ⟨S1x4x64, .f32⟩
  | 70 => ⟨S1x4x64, .f32⟩
  | 71 => ⟨S_, .f32⟩
  | 72 => ⟨S1x4x64, .f32⟩
  | 73 => ⟨S1x4x64, .f32⟩
  | 74 => ⟨S1x4x64, .f32⟩
  | 75 => ⟨S_, .f32⟩
  | 76 => ⟨S1x4x64, .f32⟩
  | 77 => ⟨S1x4x64, .f32⟩
  | 78 => ⟨S1x4x64, .f32⟩
  | 79 => ⟨S_, .f32⟩
  | 80 => ⟨S1x4x64, .f32⟩
  | 81 => ⟨S1x4x64, .f32⟩
  | 82 => ⟨S_, .f32⟩
  | 83 => ⟨S1x4x64, .f32⟩
  | 84 => ⟨S1x4x64, .f32⟩
  | 85 => ⟨S1x4x64, .f32⟩
  | 86 => ⟨S_, .f32⟩
  | 87 => ⟨S1x4x64, .f32⟩
  | 88 => ⟨S1x4x64, .f32⟩
  | 89 => ⟨S1x4x64, .f32⟩
  | 90 => ⟨S_, .f32⟩
  | 91 => ⟨S1x4x64, .f32⟩
  | 92 => ⟨S1x4x64, .f32⟩
  | 93 => ⟨S1x4x64, .f32⟩
  | 94 => ⟨S_, .f32⟩
  | 95 => ⟨S1x4x64, .f32⟩
  | 96 => ⟨S1x4x64, .f32⟩
  | 97 => ⟨S_, .f32⟩
  | 98 => ⟨S1x256, .f32⟩
  | 99 => ⟨S1x256, .f32⟩
  | 100 => ⟨S_, .f32⟩
  | 101 => ⟨S1x256, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S1x256, .f32⟩
  | 112 => ⟨S_, .f32⟩
  | 113 => ⟨S1x256, .f32⟩
  | 114 => ⟨S1x256, .f32⟩
  | 115 => ⟨S_, .f32⟩
  | 116 => ⟨S1x256, .f32⟩
  | 117 => ⟨S1x256, .f32⟩
  | 118 => ⟨S1x256, .f32⟩
  | 119 => ⟨S_, .f32⟩
  | 120 => ⟨S1x256, .f32⟩
  | 121 => ⟨S1x256, .f32⟩
  | 122 => ⟨S1x256, .f32⟩
  | 123 => ⟨S_, .f32⟩
  | 124 => ⟨S1x256, .f32⟩
  | 125 => ⟨S1x256, .f32⟩
  | 126 => ⟨S1x256, .f32⟩
  | 127 => ⟨S_, .f32⟩
  | _ => ⟨S4x3x256, .f32⟩

abbrev hbmTy0_3 (i : Nat) : BufTy := match i % 128 with
  | 0 => ⟨S1x256, .f32⟩
  | 1 => ⟨S1x256, .f32⟩
  | 2 => ⟨S_, .f32⟩
  | 3 => ⟨S1024, .f32⟩
  | 4 => ⟨S1024, .f32⟩
  | 5 => ⟨S_, .f32⟩
  | 6 => ⟨S1024, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S_, .f32⟩
  | 25 => ⟨S1024, .f32⟩
  | 26 => ⟨S1024, .f32⟩
  | 27 => ⟨S1024, .f32⟩
  | 28 => ⟨S_, .f32⟩
  | 29 => ⟨S1024, .f32⟩
  | 30 => ⟨S1024, .f32⟩
  | 31 => ⟨S1024, .f32⟩
  | 32 => ⟨S_, .f32⟩
  | 33 => ⟨S1024, .f32⟩
  | 34 => ⟨S1024, .f32⟩
  | 35 => ⟨S_, .f32⟩
  | 36 => ⟨S4x9216, .f32⟩
  | 37 => ⟨S4x9216, .f32⟩
  | 38 => ⟨S_, .f32⟩
  | 39 => ⟨S4x9216, .f32⟩
  | 40 => ⟨S4x9216, .f32⟩
  | 41 => ⟨S4x9216, .f32⟩
  | 42 => ⟨S_, .f32⟩
  | 43 => ⟨S4x9216, .f32⟩
  | 44 => ⟨S4x9216, .f32⟩
  | 45 => ⟨S4x9216, .f32⟩
  | 46 => ⟨S_, .f32⟩
  | 47 => ⟨S4x9216, .f32⟩
  | 48 => ⟨S4x9216, .f32⟩
  | 49 => ⟨S4x9216, .f32⟩
  | 50 => ⟨S_, .f32⟩
  | 51 => ⟨S4x9216, .f32⟩
  | 52 => ⟨S4x9216, .f32⟩
  | 53 => ⟨S_, .f32⟩
  | 54 => ⟨S4x9216, .f32⟩
  | 55 => ⟨S4x9216, .f32⟩
  | 56 => ⟨S4x9216, .f32⟩
  | 57 => ⟨S_, .f32⟩
  | 58 => ⟨S4x9216, .f32⟩
  | 59 => ⟨S4x9216, .f32⟩
  | 60 => ⟨S4x9216, .f32⟩
  | 61 => ⟨S_, .f32⟩
  | 62 => ⟨S4x9216, .f32⟩
  | 63 => ⟨S4x9216, .f32⟩
  | 64 => ⟨S4x9216, .f32⟩
  | 65 => ⟨S_, .f32⟩
  | 66 => ⟨S4x9216, .f32⟩
  | 67 => ⟨S4x9216, .f32⟩
  | 68 => ⟨S_, .f32⟩
  | 69 => ⟨S1x64, .f32⟩
  | 70 => ⟨S1x64, .f32⟩
  | 71 => ⟨S_, .f32⟩
  | 72 => ⟨S1x64, .f32⟩
  | 73 => ⟨S1x64, .f32⟩
  | 74 => ⟨S1x64, .f32⟩
  | 75 => ⟨S_, .f32⟩
  | 76 => ⟨S1x64, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S1x64, .f32⟩
  | 83 => ⟨S_, .f32⟩
  | 84 => ⟨S1x64, .f32⟩
  | 85 => ⟨S1x64, .f32⟩
  | 86 => ⟨S_, .f32⟩
  | 87 => ⟨S1x64, .f32⟩
  | 88 => ⟨S1x64, .f32⟩
  | 89 => ⟨S1x64, .f32⟩
  | 90 => ⟨S_, .f32⟩
  | 91 => ⟨S1x64, .f32⟩
  | 92 => ⟨S1x64, .f32⟩
  | 93 => ⟨S1x64, .f32⟩
  | 94 => ⟨S_, .f32⟩
  | 95 => ⟨S1x64, .f32⟩
  | 96 => ⟨S1x64, .f32⟩
  | 97 => ⟨S1x64, .f32⟩
  | 98 => ⟨S_, .f32⟩
  | 99 => ⟨S1x64, .f32⟩
  | 100 => ⟨S1x64, .f32⟩
  | 101 => ⟨S_, .f32⟩
  | 102 => ⟨S1x64, .f32⟩
  | 103 => ⟨S1x64, .f32⟩
  | 104 => ⟨S_, .f32⟩
  | 105 => ⟨S1x64, .f32⟩
  | 106 => ⟨S1x64, .f32⟩
  | 107 => ⟨S1x64, .f32⟩
  | 108 => ⟨S_, .f32⟩
  | 109 => ⟨S1x64, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S_, .f32⟩
  | _ => ⟨S4x3x256, .f32⟩

abbrev hbmTy0_4 (i : Nat) : BufTy := match i % 128 with
  | 0 => ⟨S1x64, .f32⟩
  | 1 => ⟨S1x64, .f32⟩
  | 2 => ⟨S1x64, .f32⟩
  | 3 => ⟨S_, .f32⟩
  | 4 => ⟨S1x64, .f32⟩
  | 5 => ⟨S1x64, .f32⟩
  | _ => ⟨S4x3x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x3x256, .f32⟩

abbrev bufTy : (tb : Table) → Fin (tcTables nBuf tb) → BufTy
  | .hbm, ⟨i, _⟩ => hbmTy i
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_cst : Ref sig .tc := ⟨.hbm, 56, rfl⟩
abbrev main_v0 : Ref sig .tc := ⟨.hbm, 57, rfl⟩
abbrev main_v1 : Ref sig .tc := ⟨.hbm, 58, rfl⟩
abbrev main_cst_0 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_cst_1 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_cst_2 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst_3 : Ref sig .tc := ⟨.hbm, 71, rfl⟩
abbrev main_v11 : Ref sig .tc := ⟨.hbm, 72, rfl⟩
abbrev main_v12 : Ref sig .tc := ⟨.hbm, 73, rfl⟩
abbrev main_cst_4 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_cst_5 : Ref sig .tc := ⟨.hbm, 78, rfl⟩
abbrev main_v16 : Ref sig .tc := ⟨.hbm, 79, rfl⟩
abbrev main_v17 : Ref sig .tc := ⟨.hbm, 80, rfl⟩
abbrev main_v18 : Ref sig .tc := ⟨.hbm, 81, rfl⟩
abbrev main_cst_6 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_cst_7 : Ref sig .tc := ⟨.hbm, 86, rfl⟩
abbrev main_v22 : Ref sig .tc := ⟨.hbm, 87, rfl⟩
abbrev main_v23 : Ref sig .tc := ⟨.hbm, 88, rfl⟩
abbrev main_cst_8 : Ref sig .tc := ⟨.hbm, 89, rfl⟩
abbrev main_v24 : Ref sig .tc := ⟨.hbm, 90, rfl⟩
abbrev main_v25 : Ref sig .tc := ⟨.hbm, 91, rfl⟩
abbrev main_cst_9 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_cst_10 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_cst_11 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_cst_12 : Ref sig .tc := ⟨.hbm, 104, rfl⟩
abbrev main_v35 : Ref sig .tc := ⟨.hbm, 105, rfl⟩
abbrev main_v36 : Ref sig .tc := ⟨.hbm, 106, rfl⟩
abbrev main_cst_13 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_14 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_cst_15 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_cst_16 : Ref sig .tc := ⟨.hbm, 119, rfl⟩
abbrev main_v46 : Ref sig .tc := ⟨.hbm, 120, rfl⟩
abbrev main_v47 : Ref sig .tc := ⟨.hbm, 121, rfl⟩
abbrev main_cst_17 : Ref sig .tc := ⟨.hbm, 122, rfl⟩
abbrev main_v48 : Ref sig .tc := ⟨.hbm, 123, rfl⟩
abbrev main_v49 : Ref sig .tc := ⟨.hbm, 124, rfl⟩
abbrev main_cst_18 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_cst_19 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_cst_20 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_cst_21 : Ref sig .tc := ⟨.hbm, 137, rfl⟩
abbrev main_v59 : Ref sig .tc := ⟨.hbm, 138, rfl⟩
abbrev main_v60 : Ref sig .tc := ⟨.hbm, 139, rfl⟩
abbrev main_cst_22 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_23 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_cst_24 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_cst_25 : Ref sig .tc := ⟨.hbm, 152, rfl⟩
abbrev main_v70 : Ref sig .tc := ⟨.hbm, 153, rfl⟩
abbrev main_v71 : Ref sig .tc := ⟨.hbm, 154, rfl⟩
abbrev main_cst_26 : Ref sig .tc := ⟨.hbm, 155, rfl⟩
abbrev main_v72 : Ref sig .tc := ⟨.hbm, 156, rfl⟩
abbrev main_v73 : Ref sig .tc := ⟨.hbm, 157, rfl⟩
abbrev main_cst_27 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_cst_28 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_cst_29 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_cst_31 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_cst_32 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_33 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_cst_34 : Ref sig .tc := ⟨.hbm, 185, rfl⟩
abbrev main_v94 : Ref sig .tc := ⟨.hbm, 186, rfl⟩
abbrev main_v95 : Ref sig .tc := ⟨.hbm, 187, rfl⟩
abbrev main_cst_35 : Ref sig .tc := ⟨.hbm, 188, rfl⟩
abbrev main_v96 : Ref sig .tc := ⟨.hbm, 189, rfl⟩
abbrev main_v97 : Ref sig .tc := ⟨.hbm, 190, rfl⟩
abbrev main_cst_36 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_37 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_cst_38 : Ref sig .tc := ⟨.hbm, 199, rfl⟩
abbrev main_v104 : Ref sig .tc := ⟨.hbm, 200, rfl⟩
abbrev main_v105 : Ref sig .tc := ⟨.hbm, 201, rfl⟩
abbrev main_v106 : Ref sig .tc := ⟨.hbm, 202, rfl⟩
abbrev main_cst_39 : Ref sig .tc := ⟨.hbm, 203, rfl⟩
abbrev main_v107 : Ref sig .tc := ⟨.hbm, 204, rfl⟩
abbrev main_v108 : Ref sig .tc := ⟨.hbm, 205, rfl⟩
abbrev main_cst_40 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_cst_41 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_cst_42 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_cst_43 : Ref sig .tc := ⟨.hbm, 218, rfl⟩
abbrev main_v118 : Ref sig .tc := ⟨.hbm, 219, rfl⟩
abbrev main_v119 : Ref sig .tc := ⟨.hbm, 220, rfl⟩
abbrev main_cst_44 : Ref sig .tc := ⟨.hbm, 221, rfl⟩
abbrev main_v120 : Ref sig .tc := ⟨.hbm, 222, rfl⟩
abbrev main_v121 : Ref sig .tc := ⟨.hbm, 223, rfl⟩
abbrev main_cst_45 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_cst_46 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_cst_47 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_cst_48 : Ref sig .tc := ⟨.hbm, 236, rfl⟩
abbrev main_v131 : Ref sig .tc := ⟨.hbm, 237, rfl⟩
abbrev main_v132 : Ref sig .tc := ⟨.hbm, 238, rfl⟩
abbrev main_cst_49 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_50 : Ref sig .tc := ⟨.hbm, 243, rfl⟩
abbrev main_v136 : Ref sig .tc := ⟨.hbm, 244, rfl⟩
abbrev main_v137 : Ref sig .tc := ⟨.hbm, 245, rfl⟩
abbrev main_v138 : Ref sig .tc := ⟨.hbm, 246, rfl⟩
abbrev main_cst_51 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_52 : Ref sig .tc := ⟨.hbm, 251, rfl⟩
abbrev main_v142 : Ref sig .tc := ⟨.hbm, 252, rfl⟩
abbrev main_v143 : Ref sig .tc := ⟨.hbm, 253, rfl⟩
abbrev main_cst_53 : Ref sig .tc := ⟨.hbm, 254, rfl⟩
abbrev main_v144 : Ref sig .tc := ⟨.hbm, 255, rfl⟩
abbrev main_v145 : Ref sig .tc := ⟨.hbm, 256, rfl⟩
abbrev main_cst_54 : Ref sig .tc := ⟨.hbm, 257, rfl⟩
abbrev main_v146 : Ref sig .tc := ⟨.hbm, 258, rfl⟩
abbrev main_v147 : Ref sig .tc := ⟨.hbm, 259, rfl⟩
abbrev main_v148 : Ref sig .tc := ⟨.hbm, 260, rfl⟩
abbrev main_cst_55 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_cst_56 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_57 : Ref sig .tc := ⟨.hbm, 269, rfl⟩
abbrev main_v155 : Ref sig .tc := ⟨.hbm, 270, rfl⟩
abbrev main_v156 : Ref sig .tc := ⟨.hbm, 271, rfl⟩
abbrev main_cst_58 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_cst_59 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_cst_60 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_61 : Ref sig .tc := ⟨.hbm, 284, rfl⟩
abbrev main_v166 : Ref sig .tc := ⟨.hbm, 285, rfl⟩
abbrev main_v167 : Ref sig .tc := ⟨.hbm, 286, rfl⟩
abbrev main_cst_62 : Ref sig .tc := ⟨.hbm, 287, rfl⟩
abbrev main_v168 : Ref sig .tc := ⟨.hbm, 288, rfl⟩
abbrev main_v169 : Ref sig .tc := ⟨.hbm, 289, rfl⟩
abbrev main_cst_63 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_cst_64 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_65 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_66 : Ref sig .tc := ⟨.hbm, 302, rfl⟩
abbrev main_v179 : Ref sig .tc := ⟨.hbm, 303, rfl⟩
abbrev main_v180 : Ref sig .tc := ⟨.hbm, 304, rfl⟩
abbrev main_cst_67 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_68 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_69 : Ref sig .tc := ⟨.hbm, 313, rfl⟩
abbrev main_v187 : Ref sig .tc := ⟨.hbm, 314, rfl⟩
abbrev main_v188 : Ref sig .tc := ⟨.hbm, 315, rfl⟩
abbrev main_v189 : Ref sig .tc := ⟨.hbm, 316, rfl⟩
abbrev main_cst_70 : Ref sig .tc := ⟨.hbm, 317, rfl⟩
abbrev main_v190 : Ref sig .tc := ⟨.hbm, 318, rfl⟩
abbrev main_v191 : Ref sig .tc := ⟨.hbm, 319, rfl⟩
abbrev main_cst_71 : Ref sig .tc := ⟨.hbm, 320, rfl⟩
abbrev main_v192 : Ref sig .tc := ⟨.hbm, 321, rfl⟩
abbrev main_v193 : Ref sig .tc := ⟨.hbm, 322, rfl⟩
abbrev main_cst_72 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_cst_73 : Ref sig .tc := ⟨.hbm, 327, rfl⟩
abbrev main_v197 : Ref sig .tc := ⟨.hbm, 328, rfl⟩
abbrev main_v198 : Ref sig .tc := ⟨.hbm, 329, rfl⟩
abbrev main_v199 : Ref sig .tc := ⟨.hbm, 330, rfl⟩
abbrev main_cst_74 : Ref sig .tc := ⟨.hbm, 331, rfl⟩
abbrev main_v200 : Ref sig .tc := ⟨.hbm, 332, rfl⟩
abbrev main_v201 : Ref sig .tc := ⟨.hbm, 333, rfl⟩
abbrev main_v202 : Ref sig .tc := ⟨.hbm, 334, rfl⟩
abbrev main_cst_75 : Ref sig .tc := ⟨.hbm, 335, rfl⟩
abbrev main_v203 : Ref sig .tc := ⟨.hbm, 336, rfl⟩
abbrev main_v204 : Ref sig .tc := ⟨.hbm, 337, rfl⟩
abbrev main_cst_76 : Ref sig .tc := ⟨.hbm, 338, rfl⟩
abbrev main_v205 : Ref sig .tc := ⟨.hbm, 339, rfl⟩
abbrev main_v206 : Ref sig .tc := ⟨.hbm, 340, rfl⟩
abbrev main_v207 : Ref sig .tc := ⟨.hbm, 341, rfl⟩
abbrev main_cst_77 : Ref sig .tc := ⟨.hbm, 342, rfl⟩
abbrev main_v208 : Ref sig .tc := ⟨.hbm, 343, rfl⟩
abbrev main_v209 : Ref sig .tc := ⟨.hbm, 344, rfl⟩
abbrev main_v210 : Ref sig .tc := ⟨.hbm, 345, rfl⟩
abbrev main_cst_78 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_cst_79 : Ref sig .tc := ⟨.hbm, 350, rfl⟩
abbrev main_v214 : Ref sig .tc := ⟨.hbm, 351, rfl⟩
abbrev main_v215 : Ref sig .tc := ⟨.hbm, 352, rfl⟩
abbrev main_cst_80 : Ref sig .tc := ⟨.hbm, 353, rfl⟩
abbrev main_v216 : Ref sig .tc := ⟨.hbm, 354, rfl⟩
abbrev main_v217 : Ref sig .tc := ⟨.hbm, 355, rfl⟩
abbrev main_cst_81 : Ref sig .tc := ⟨.hbm, 356, rfl⟩
abbrev main_v218 : Ref sig .tc := ⟨.hbm, 357, rfl⟩
abbrev main_v219 : Ref sig .tc := ⟨.hbm, 358, rfl⟩
abbrev main_v220 : Ref sig .tc := ⟨.hbm, 359, rfl⟩
abbrev main_cst_82 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_cst_83 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_cst_84 : Ref sig .tc := ⟨.hbm, 368, rfl⟩
abbrev main_v227 : Ref sig .tc := ⟨.hbm, 369, rfl⟩
abbrev main_v228 : Ref sig .tc := ⟨.hbm, 370, rfl⟩
abbrev main_cst_85 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_cst_86 : Ref sig .tc := ⟨.hbm, 375, rfl⟩
abbrev main_v232 : Ref sig .tc := ⟨.hbm, 376, rfl⟩
abbrev main_v233 : Ref sig .tc := ⟨.hbm, 377, rfl⟩
abbrev main_v234 : Ref sig .tc := ⟨.hbm, 378, rfl⟩
abbrev main_cst_87 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_cst_88 : Ref sig .tc := ⟨.hbm, 383, rfl⟩
abbrev main_v238 : Ref sig .tc := ⟨.hbm, 384, rfl⟩
abbrev main_v239 : Ref sig .tc := ⟨.hbm, 385, rfl⟩
abbrev main_cst_89 : Ref sig .tc := ⟨.hbm, 386, rfl⟩
abbrev main_v240 : Ref sig .tc := ⟨.hbm, 387, rfl⟩
abbrev main_v241 : Ref sig .tc := ⟨.hbm, 388, rfl⟩
abbrev main_cst_90 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_cst_91 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_cst_92 : Ref sig .tc := ⟨.hbm, 397, rfl⟩
abbrev main_v248 : Ref sig .tc := ⟨.hbm, 398, rfl⟩
abbrev main_v249 : Ref sig .tc := ⟨.hbm, 399, rfl⟩
abbrev main_v250 : Ref sig .tc := ⟨.hbm, 400, rfl⟩
abbrev main_cst_93 : Ref sig .tc := ⟨.hbm, 401, rfl⟩
abbrev main_v251 : Ref sig .tc := ⟨.hbm, 402, rfl⟩
abbrev main_v252 : Ref sig .tc := ⟨.hbm, 403, rfl⟩
abbrev main_cst_94 : Ref sig .tc := ⟨.hbm, 404, rfl⟩
abbrev main_v253 : Ref sig .tc := ⟨.hbm, 405, rfl⟩
abbrev main_v254 : Ref sig .tc := ⟨.hbm, 406, rfl⟩
abbrev main_v255 : Ref sig .tc := ⟨.hbm, 407, rfl⟩
abbrev main_cst_95 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_cst_96 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_cst_97 : Ref sig .tc := ⟨.hbm, 416, rfl⟩
abbrev main_v262 : Ref sig .tc := ⟨.hbm, 417, rfl⟩
abbrev main_v263 : Ref sig .tc := ⟨.hbm, 418, rfl⟩
abbrev main_cst_98 : Ref sig .tc := ⟨.hbm, 419, rfl⟩
abbrev main_v264 : Ref sig .tc := ⟨.hbm, 420, rfl⟩
abbrev main_v265 : Ref sig .tc := ⟨.hbm, 421, rfl⟩
abbrev main_cst_99 : Ref sig .tc := ⟨.hbm, 422, rfl⟩
abbrev main_v266 : Ref sig .tc := ⟨.hbm, 423, rfl⟩
abbrev main_v267 : Ref sig .tc := ⟨.hbm, 424, rfl⟩
abbrev main_v268 : Ref sig .tc := ⟨.hbm, 425, rfl⟩
abbrev main_cst_100 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_cst_101 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_cst_102 : Ref sig .tc := ⟨.hbm, 434, rfl⟩
abbrev main_v275 : Ref sig .tc := ⟨.hbm, 435, rfl⟩
abbrev main_v276 : Ref sig .tc := ⟨.hbm, 436, rfl⟩
abbrev main_cst_103 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_cst_104 : Ref sig .tc := ⟨.hbm, 441, rfl⟩
abbrev main_v280 : Ref sig .tc := ⟨.hbm, 442, rfl⟩
abbrev main_v281 : Ref sig .tc := ⟨.hbm, 443, rfl⟩
abbrev main_v282 : Ref sig .tc := ⟨.hbm, 444, rfl⟩
abbrev main_cst_105 : Ref sig .tc := ⟨.hbm, 445, rfl⟩
abbrev main_v283 : Ref sig .tc := ⟨.hbm, 446, rfl⟩
abbrev main_v284 : Ref sig .tc := ⟨.hbm, 447, rfl⟩
abbrev main_v285 : Ref sig .tc := ⟨.hbm, 448, rfl⟩
abbrev main_cst_106 : Ref sig .tc := ⟨.hbm, 449, rfl⟩
abbrev main_v286 : Ref sig .tc := ⟨.hbm, 450, rfl⟩
abbrev main_v287 : Ref sig .tc := ⟨.hbm, 451, rfl⟩
abbrev main_cst_107 : Ref sig .tc := ⟨.hbm, 452, rfl⟩
abbrev main_v288 : Ref sig .tc := ⟨.hbm, 453, rfl⟩
abbrev main_v289 : Ref sig .tc := ⟨.hbm, 454, rfl⟩
abbrev main_cst_108 : Ref sig .tc := ⟨.hbm, 455, rfl⟩
abbrev main_v290 : Ref sig .tc := ⟨.hbm, 456, rfl⟩
abbrev main_v291 : Ref sig .tc := ⟨.hbm, 457, rfl⟩
abbrev main_v292 : Ref sig .tc := ⟨.hbm, 458, rfl⟩
abbrev main_cst_109 : Ref sig .tc := ⟨.hbm, 459, rfl⟩
abbrev main_v293 : Ref sig .tc := ⟨.hbm, 460, rfl⟩
abbrev main_v294 : Ref sig .tc := ⟨.hbm, 461, rfl⟩
abbrev main_v295 : Ref sig .tc := ⟨.hbm, 462, rfl⟩
abbrev main_cst_110 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_cst_111 : Ref sig .tc := ⟨.hbm, 467, rfl⟩
abbrev main_v299 : Ref sig .tc := ⟨.hbm, 468, rfl⟩
abbrev main_v300 : Ref sig .tc := ⟨.hbm, 469, rfl⟩
abbrev main_cst_112 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_cst_113 : Ref sig .tc := ⟨.hbm, 474, rfl⟩
abbrev main_v304 : Ref sig .tc := ⟨.hbm, 475, rfl⟩
abbrev main_v305 : Ref sig .tc := ⟨.hbm, 476, rfl⟩
abbrev main_v306 : Ref sig .tc := ⟨.hbm, 477, rfl⟩
abbrev main_cst_114 : Ref sig .tc := ⟨.hbm, 478, rfl⟩
abbrev main_v307 : Ref sig .tc := ⟨.hbm, 479, rfl⟩
abbrev main_v308 : Ref sig .tc := ⟨.hbm, 480, rfl⟩
abbrev main_v309 : Ref sig .tc := ⟨.hbm, 481, rfl⟩
abbrev main_cst_115 : Ref sig .tc := ⟨.hbm, 482, rfl⟩
abbrev main_v310 : Ref sig .tc := ⟨.hbm, 483, rfl⟩
abbrev main_v311 : Ref sig .tc := ⟨.hbm, 484, rfl⟩
abbrev main_cst_116 : Ref sig .tc := ⟨.hbm, 485, rfl⟩
abbrev main_v312 : Ref sig .tc := ⟨.hbm, 486, rfl⟩
abbrev main_v313 : Ref sig .tc := ⟨.hbm, 487, rfl⟩
abbrev main_cst_117 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_cst_118 : Ref sig .tc := ⟨.hbm, 492, rfl⟩
abbrev main_v317 : Ref sig .tc := ⟨.hbm, 493, rfl⟩
abbrev main_v318 : Ref sig .tc := ⟨.hbm, 494, rfl⟩
abbrev main_v319 : Ref sig .tc := ⟨.hbm, 495, rfl⟩
abbrev main_cst_119 : Ref sig .tc := ⟨.hbm, 496, rfl⟩
abbrev main_v320 : Ref sig .tc := ⟨.hbm, 497, rfl⟩
abbrev main_v321 : Ref sig .tc := ⟨.hbm, 498, rfl⟩
abbrev main_v322 : Ref sig .tc := ⟨.hbm, 499, rfl⟩
abbrev main_cst_120 : Ref sig .tc := ⟨.hbm, 500, rfl⟩
abbrev main_v323 : Ref sig .tc := ⟨.hbm, 501, rfl⟩
abbrev main_v324 : Ref sig .tc := ⟨.hbm, 502, rfl⟩
abbrev main_cst_121 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_cst_122 : Ref sig .tc := ⟨.hbm, 507, rfl⟩
abbrev main_v328 : Ref sig .tc := ⟨.hbm, 508, rfl⟩
abbrev main_v329 : Ref sig .tc := ⟨.hbm, 509, rfl⟩
abbrev main_v330 : Ref sig .tc := ⟨.hbm, 510, rfl⟩
abbrev main_cst_123 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_cst_124 : Ref sig .tc := ⟨.hbm, 515, rfl⟩
abbrev main_v334 : Ref sig .tc := ⟨.hbm, 516, rfl⟩
abbrev main_v335 : Ref sig .tc := ⟨.hbm, 517, rfl⟩

abbrev nD : Nat := 1
abbrev τ : Topo := Topo.v7x

variable {F : FTy → Type} [FloatOps F]
-- ==== ModBwd.lean ====
abbrev S8x1024 : Shape := ⟨2, ![8, 1024]⟩
abbrev S4x8x2304 : Shape := ⟨3, ![4, 8, 2304]⟩
abbrev S4x1024x2304 : Shape := ⟨3, ![4, 1024, 2304]⟩
abbrev S1x8x2304 : Shape := ⟨3, ![1, 8, 2304]⟩
abbrev S1x1024x2304 : Shape := ⟨3, ![1, 1024, 2304]⟩
abbrev S8x2304 : Shape := ⟨2, ![8, 2304]⟩
abbrev S1024x2304 : Shape := ⟨2, ![1024, 2304]⟩

abbrev nBuf : Space → Nat
  | .hbm => 5
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S4x8x2304, .f32⟩
  | .hbm, ⟨2, _⟩ => ⟨S4x1024x2304, .f32⟩
  | .hbm, ⟨3, _⟩ => ⟨S4x1024x2304, .f32⟩
  | .hbm, ⟨4, _⟩ => ⟨S8x1024, .f32⟩
  | .local _ .vmem, ⟨0, _⟩ => ⟨S8x1024, .f32⟩
  | .local _ .vmem, ⟨1, _⟩ => ⟨S1x8x2304, .f32⟩
  | .local _ .vmem, ⟨2, _⟩ => ⟨S1x8x2304, .f32⟩
  | .local _ .vmem, ⟨3, _⟩ => ⟨S1x1024x2304, .f32⟩
  | .local _ .vmem, ⟨4, _⟩ => ⟨S1x1024x2304, .f32⟩
  | .local _ .vmem, ⟨5, _⟩ => ⟨S1x1024x2304, .f32⟩
  | .local _ .vmem, ⟨6, _⟩ => ⟨S1x1024x2304, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ModBwdReferenceIdeal.lean ====
abbrev S8x1024 : Shape := ⟨2, ![8, 1024]⟩
abbrev S4x8x2304 : Shape := ⟨3, ![4, 8, 2304]⟩
abbrev S4x1024x2304 : Shape := ⟨3, ![4, 1024, 2304]⟩
abbrev S4x2304x8 : Shape := ⟨3, ![4, 2304, 8]⟩
abbrev S4x2304x1024 : Shape := ⟨3, ![4, 2304, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x2304, .f32⟩
  | .hbm, ⟨2, _⟩ => ⟨S4x1024x2304, .f32⟩
  | .hbm, ⟨3, _⟩ => ⟨S4x2304x8, .f32⟩
  | .hbm, ⟨4, _⟩ => ⟨S4x8x2304, .f32⟩
  | .hbm, ⟨5, _⟩ => ⟨S4x2304x8, .f32⟩
  | .hbm, ⟨6, _⟩ => ⟨S8x1024, .f32⟩
  | .hbm, ⟨7, _⟩ => ⟨S4x2304x1024, .f32⟩
  | .hbm, ⟨8, _⟩ => ⟨S4x1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== CondBwd.lean ====
abbrev S8x8x1024 : Shape := ⟨3, ![8, 8, 1024]⟩
abbrev S8x1024 : Shape := ⟨2, ![8, 1024]⟩
abbrev S8x256 : Shape := ⟨2, ![8, 256]⟩
abbrev S256x1024 : Shape := ⟨2, ![256, 1024]⟩
abbrev S1x1024 : Shape := ⟨2, ![1, 1024]⟩
abbrev S1x8x1024 : Shape := ⟨3, ![1, 8, 1024]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x256, .f32⟩
  | .hbm, ⟨3, _⟩ => ⟨S256x1024, .f32⟩
  | .hbm, ⟨4, _⟩ => ⟨S1x1024, .f32⟩
  | .local _ .vmem, ⟨0, _⟩ => ⟨S8x8x1024, .f32⟩
  | .local _ .vmem, ⟨1, _⟩ => ⟨S8x1024, .f32⟩
  | .local _ .vmem, ⟨2, _⟩ => ⟨S8x256, .f32⟩
  | .local _ .vmem, ⟨3, _⟩ => ⟨S256x1024, .f32⟩
  | .local _ .vmem, ⟨4, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CondBwdReferenceIdeal.lean ====
abbrev S8x8x1024 : Shape := ⟨3, ![8, 8, 1024]⟩
abbrev S8x1024 : Shape := ⟨2, ![8, 1024]⟩
abbrev S8x256 : Shape := ⟨2, ![8, 256]⟩
abbrev S1x8x1024 : Shape := ⟨3, ![1, 8, 1024]⟩
abbrev S_ : Shape := ⟨0, ![]⟩
abbrev S256x1024 : Shape := ⟨2, ![256, 1024]⟩
abbrev S1x1024 : Shape := ⟨2, ![1, 1024]⟩
abbrev S1024 : Shape := ⟨1, ![1024]⟩
abbrev S1024x256 : Shape := ⟨2, ![1024, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .hbm, ⟨2, _⟩ => ⟨S8x256, .f32⟩
  | .hbm, ⟨3, _⟩ => ⟨S1x8x1024, .f32⟩
  | .hbm, ⟨4, _⟩ => ⟨S8x1024, .f32⟩
  | .hbm, ⟨5, _⟩ => ⟨S1x8x1024, .f32⟩
  | .hbm, ⟨6, _⟩ => ⟨S8x1024, .f32⟩
  | .hbm, ⟨7, _⟩ => ⟨S8x1024, .f32⟩
  | .hbm, ⟨8, _⟩ => ⟨S1x8x1024, .f32⟩
  | .hbm, ⟨9, _⟩ => ⟨S8x1024, .f32⟩
  | .hbm, ⟨10, _⟩ => ⟨S8x1024, .f32⟩
  | .hbm, ⟨11, _⟩ => ⟨S1x8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S256x1024, .f32⟩
  | .hbm, ⟨33, _⟩ => ⟨S_, .f32⟩
  | .hbm, ⟨34, _⟩ => ⟨S1x1024, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S1024x256, .f32⟩
  | .hbm, ⟨42, _⟩ => ⟨S256x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v11_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v11_1 : Ref sig .tc := ⟨.hbm, 25, rfl⟩
abbrev main_v11_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== SumAda.lean ====
abbrev S8x4x9216 : Shape := ⟨3, ![8, 4, 9216]⟩
abbrev S4x9216 : Shape := ⟨2, ![4, 9216]⟩
abbrev S1x4x9216 : Shape := ⟨3, ![1, 4, 9216]⟩

abbrev nBuf : Space → Nat
  | .hbm => 2
  | .vmem => 2
  | .smem => 0
  | _ => 0

abbrev bufTy : (tb : Table) → Fin (tcTables nBuf tb) → BufTy
  | .hbm, ⟨0, _⟩ => ⟨S8x4x9216, .f32⟩
  | .hbm, ⟨1, _⟩ => ⟨S4x9216, .f32⟩
  | .local _ .vmem, ⟨0, _⟩ => ⟨S8x4x9216, .f32⟩
  | .local _ .vmem, ⟨1, _⟩ => ⟨S4x9216, .f32⟩
  | _, _ => ⟨S8x4x9216, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumAdaReferenceIdeal.lean ====
abbrev S8x4x9216 : Shape := ⟨3, ![8, 4, 9216]⟩
abbrev S_ : Shape := ⟨0, ![]⟩
abbrev S4x9216 : Shape := ⟨2, ![4, 9216]⟩

abbrev nBuf : Space → Nat
  | .hbm => 3
  | .vmem => 0
  | .smem => 0
  | _ => 0

abbrev bufTy : (tb : Table) → Fin (tcTables nBuf tb) → BufTy
  | .hbm, ⟨0, _⟩ => ⟨S8x4x9216, .f32⟩
  | .hbm, ⟨1, _⟩ => ⟨S_, .f32⟩
  | .hbm, ⟨2, _⟩ => ⟨S4x9216, .f32⟩
  | _, _ => ⟨S8x4x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSmall.lean ====
abbrev S8x2768x128 : Shape := ⟨3, ![8, 2768, 128]⟩
abbrev S_ : Shape := ⟨0, ![]⟩
abbrev S2768x128 : Shape := ⟨2, ![2768, 128]⟩
abbrev S8x1384x128 : Shape := ⟨3, ![8, 1384, 128]⟩
abbrev S1384x128 : Shape := ⟨2, ![1384, 128]⟩
abbrev S1x1384x128 : Shape := ⟨3, ![1, 1384, 128]⟩
abbrev S354304 : Shape := ⟨1, ![354304]⟩
abbrev S12288 : Shape := ⟨1, ![12288]⟩
abbrev S4x3x1024 : Shape := ⟨3, ![4, 3, 1024]⟩
abbrev S4096 : Shape := ⟨1, ![4096]⟩
abbrev S2x2048 : Shape := ⟨2, ![2, 2048]⟩
abbrev S63488 : Shape := ⟨1, ![63488]⟩
abbrev S2x31x1024 : Shape := ⟨3, ![2, 31, 1024]⟩
abbrev S2048 : Shape := ⟨1, ![2048]⟩
abbrev S2x1024 : Shape := ⟨2, ![2, 1024]⟩
abbrev S262144 : Shape := ⟨1, ![262144]⟩
abbrev S1x4x256x256 : Shape := ⟨4, ![1, 4, 256, 256]⟩
abbrev S1024 : Shape := ⟨1, ![1024]⟩
abbrev S1x4x256 : Shape := ⟨3, ![1, 4, 256]⟩
abbrev S1x1024 : Shape := ⟨2, ![1, 1024]⟩
abbrev S64 : Shape := ⟨1, ![64]⟩
abbrev S1x64 : Shape := ⟨2, ![1, 64]⟩
abbrev S4x3x256 : Shape := ⟨3, ![4, 3, 256]⟩
abbrev S2x512 : Shape := ⟨2, ![2, 512]⟩
abbrev S2x31x256 : Shape := ⟨3, ![2, 31, 256]⟩
abbrev S2x256 : Shape := ⟨2, ![2, 256]⟩
abbrev S1x4x64x256 : Shape := ⟨4, ![1, 4, 64, 256]⟩
abbrev S1x4x64 : Shape := ⟨3, ![1, 4, 64]⟩
abbrev S1x256 : Shape := ⟨2, ![1, 256]⟩

abbrev nBuf : Space → Nat
  | .hbm => 123
  | .vmem => 4
  | .smem => 0
  | _ => 0

abbrev bufTy : (tb : Table) → Fin (tcTables nBuf tb) → BufTy
  | .hbm, ⟨0, _⟩ => ⟨S8x2768x128, .f32⟩
  | .hbm, ⟨1, _⟩ => ⟨S_, .i32⟩
  | .hbm, ⟨2, _⟩ => ⟨S2768x128, .f32⟩
  | .hbm, ⟨3, _⟩ => ⟨S354304, .f32⟩
  | .hbm, ⟨4, _⟩ => ⟨S12288, .f32⟩
  | .hbm, ⟨5, _⟩ => ⟨S4x3x1024, .f32⟩
  | .hbm, ⟨6, _⟩ => ⟨S4096, .f32⟩
  | .hbm, ⟨7, _⟩ => ⟨S2x2048, .f32⟩
  | .hbm, ⟨8, _⟩ => ⟨S63488, .f32⟩
  | .hbm, ⟨9, _⟩ => ⟨S2x31x1024, .f32⟩
  | .hbm, ⟨10, _⟩ => ⟨S2048, .f32⟩
  | .hbm, ⟨11, _⟩ => ⟨S2x1024, .f32⟩
  | .hbm, ⟨12, _⟩ => ⟨S2048, .f32⟩
  | .hbm, ⟨13, _⟩ => ⟨S2x1024, .f32⟩
  | .hbm, ⟨14, _⟩ => ⟨S2048, .f32⟩
  | .hbm, ⟨15, _⟩ => ⟨S2x1024, .f32⟩
  | .hbm, ⟨16, _⟩ => ⟨S2048, .f32⟩
  | .hbm, ⟨17, _⟩ => ⟨S2x1024, .f32⟩
  | .hbm, ⟨18, _⟩ => ⟨S262144, .f32⟩
  | .hbm, ⟨19, _⟩ => ⟨S1x4x256x256, .f32⟩
  | .hbm, ⟨20, _⟩ => ⟨S1024, .f32⟩
  | .hbm, ⟨21, _⟩ => ⟨S1x4x256, .f32⟩
  | .hbm, ⟨22, _⟩ => ⟨S1024, .f32⟩
  | .hbm, ⟨23, _⟩ => ⟨S1x1024, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4x3x256, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S2x512, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S2x31x256, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2x256, .f32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S2x256, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S2x256, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i1⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S_, .i32⟩
  | .hbm, ⟨92, _⟩ => ⟨S2x256, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S1x4x64x256, .f32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S1x4x64, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i1⟩
  | .hbm, ⟨118, _⟩ => ⟨S_, .i32⟩
  | .hbm, ⟨119, _⟩ => ⟨S_, .i32⟩
  | .hbm, ⟨120, _⟩ => ⟨S_, .i32⟩
  | .hbm, ⟨121, _⟩ => ⟨S_, .i32⟩
  | .hbm, ⟨122, _⟩ => ⟨S1x256, .f32⟩
  | .local _ .vmem, ⟨0, _⟩ => ⟨S8x1384x128, .f32⟩
  | .local _ .vmem, ⟨1, _⟩ => ⟨S8x1384x128, .f32⟩
  | .local _ .vmem, ⟨2, _⟩ => ⟨S1384x128, .f32⟩
  | .local _ .vmem, ⟨3, _⟩ => ⟨S1384x128, .f32⟩
  | _, _ => ⟨S8x2768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_c : Ref sig .tc := ⟨.hbm, 28, rfl⟩
abbrev main_v26 : Ref sig .tc := ⟨.hbm, 29, rfl⟩
abbrev main_c_0 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_c_3 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_c_5 : Ref sig .tc := ⟨.hbm, 40, rfl⟩
abbrev main_v32 : Ref sig .tc := ⟨.hbm, 41, rfl⟩
abbrev main_c_6 : Ref sig .tc := ⟨.hbm, 42, rfl⟩
abbrev main_v33 : Ref sig .tc := ⟨.hbm, 43, rfl⟩
abbrev main_v34 : Ref sig .tc := ⟨.hbm, 44, rfl⟩
abbrev main_c_7 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_c_9 : Ref sig .tc := ⟨.hbm, 49, rfl⟩
abbrev main_v37 : Ref sig .tc := ⟨.hbm, 50, rfl⟩
abbrev main_c_10 : Ref sig .tc := ⟨.hbm, 51, rfl⟩
abbrev main_v38 : Ref sig .tc := ⟨.hbm, 52, rfl⟩
abbrev main_v39 : Ref sig .tc := ⟨.hbm, 53, rfl⟩
abbrev main_c_11 : Ref sig .tc := ⟨.hbm, 54, rfl⟩
abbrev main_c_12 : Ref sig .tc := ⟨.hbm, 55, rfl⟩
abbrev main_v40 : Ref sig .tc := ⟨.hbm, 56, rfl⟩
abbrev main_c_13 : Ref sig .tc := ⟨.hbm, 57, rfl⟩
abbrev main_v41 : Ref sig .tc := ⟨.hbm, 58, rfl⟩
abbrev main_c_14 : Ref sig .tc := ⟨.hbm, 59, rfl⟩
abbrev main_v42 : Ref sig .tc := ⟨.hbm, 60, rfl⟩
abbrev main_c_15 : Ref sig .tc := ⟨.hbm, 61, rfl⟩
abbrev main_v43 : Ref sig .tc := ⟨.hbm, 62, rfl⟩
abbrev main_v44 : Ref sig .tc := ⟨.hbm, 63, rfl⟩
abbrev main_c_16 : Ref sig .tc := ⟨.hbm, 64, rfl⟩
abbrev main_v45 : Ref sig .tc := ⟨.hbm, 65, rfl⟩
abbrev main_c_17 : Ref sig .tc := ⟨.hbm, 66, rfl⟩
abbrev main_v46 : Ref sig .tc := ⟨.hbm, 67, rfl⟩
abbrev main_c_18 : Ref sig .tc := ⟨.hbm, 68, rfl⟩
abbrev main_v47 : Ref sig .tc := ⟨.hbm, 69, rfl⟩
abbrev main_c_19 : Ref sig .tc := ⟨.hbm, 70, rfl⟩
abbrev main_v48 : Ref sig .tc := ⟨.hbm, 71, rfl⟩
abbrev main_v49 : Ref sig .tc := ⟨.hbm, 72, rfl⟩
abbrev main_c_20 : Ref sig .tc := ⟨.hbm, 73, rfl⟩
abbrev main_v50 : Ref sig .tc := ⟨.hbm, 74, rfl⟩
abbrev main_c_21 : Ref sig .tc := ⟨.hbm, 75, rfl⟩
abbrev main_v51 : Ref sig .tc := ⟨.hbm, 76, rfl⟩
abbrev main_c_22 : Ref sig .tc := ⟨.hbm, 77, rfl⟩
abbrev main_v52 : Ref sig .tc := ⟨.hbm, 78, rfl⟩
abbrev main_c_23 : Ref sig .tc := ⟨.hbm, 79, rfl⟩
abbrev main_v53 : Ref sig .tc := ⟨.hbm, 80, rfl⟩
abbrev main_v54 : Ref sig .tc := ⟨.hbm, 81, rfl⟩
abbrev main_c_24 : Ref sig .tc := ⟨.hbm, 82, rfl⟩
abbrev main_v55 : Ref sig .tc := ⟨.hbm, 83, rfl⟩
abbrev main_c_25 : Ref sig .tc := ⟨.hbm, 84, rfl⟩
abbrev main_v56 : Ref sig .tc := ⟨.hbm, 85, rfl⟩
abbrev main_c_26 : Ref sig .tc := ⟨.hbm, 86, rfl⟩
abbrev main_v57 : Ref sig .tc := ⟨.hbm, 87, rfl⟩
abbrev main_c_27 : Ref sig .tc := ⟨.hbm, 88, rfl⟩
abbrev main_v58 : Ref sig .tc := ⟨.hbm, 89, rfl⟩
abbrev main_v59 : Ref sig .tc := ⟨.hbm, 90, rfl⟩
abbrev main_c_28 : Ref sig .tc := ⟨.hbm, 91, rfl⟩
abbrev main_v60 : Ref sig .tc := ⟨.hbm, 92, rfl⟩
abbrev main_c_29 : Ref sig .tc := ⟨.hbm, 93, rfl⟩
abbrev main_v61 : Ref sig .tc := ⟨.hbm, 94, rfl⟩
abbrev main_c_30 : Ref sig .tc := ⟨.hbm, 95, rfl⟩
abbrev main_v62 : Ref sig .tc := ⟨.hbm, 96, rfl⟩
abbrev main_c_31 : Ref sig .tc := ⟨.hbm, 97, rfl⟩
abbrev main_v63 : Ref sig .tc := ⟨.hbm, 98, rfl⟩
abbrev main_v64 : Ref sig .tc := ⟨.hbm, 99, rfl⟩
abbrev main_c_32 : Ref sig .tc := ⟨.hbm, 100, rfl⟩
abbrev main_c_33 : Ref sig .tc := ⟨.hbm, 101, rfl⟩
abbrev main_c_34 : Ref sig .tc := ⟨.hbm, 102, rfl⟩
abbrev main_v65 : Ref sig .tc := ⟨.hbm, 103, rfl⟩
abbrev main_c_35 : Ref sig .tc := ⟨.hbm, 104, rfl⟩
abbrev main_v66 : Ref sig .tc := ⟨.hbm, 105, rfl⟩
abbrev main_c_36 : Ref sig .tc := ⟨.hbm, 106, rfl⟩
abbrev main_v67 : Ref sig .tc := ⟨.hbm, 107, rfl⟩
abbrev main_c_37 : Ref sig .tc := ⟨.hbm, 108, rfl⟩
abbrev main_v68 : Ref sig .tc := ⟨.hbm, 109, rfl⟩
abbrev main_v69 : Ref sig .tc := ⟨.hbm, 110, rfl⟩
abbrev main_c_38 : Ref sig .tc := ⟨.hbm, 111, rfl⟩
abbrev main_c_39 : Ref sig .tc := ⟨.hbm, 112, rfl⟩
abbrev main_v70 : Ref sig .tc := ⟨.hbm, 113, rfl⟩
abbrev main_c_40 : Ref sig .tc := ⟨.hbm, 114, rfl⟩
abbrev main_v71 : Ref sig .tc := ⟨.hbm, 115, rfl⟩
abbrev main_c_41 : Ref sig .tc := ⟨.hbm, 116, rfl⟩
abbrev main_v72 : Ref sig .tc := ⟨.hbm, 117, rfl⟩
abbrev main_c_42 : Ref sig .tc := ⟨.hbm, 118, rfl⟩
abbrev main_v73 : Ref sig .tc := ⟨.hbm, 119, rfl⟩
abbrev main_v74 : Ref sig .tc := ⟨.hbm, 120, rfl⟩
abbrev main_c_43 : Ref sig .tc := ⟨.hbm, 121, rfl⟩
abbrev main_v75 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallReferenceIdeal.lean ====
abbrev S8x2768x128 : Shape := ⟨3, ![8, 2768, 128]⟩
abbrev S_ : Shape := ⟨0, ![]⟩
abbrev S2768x128 : Shape := ⟨2, ![2768, 128]⟩
abbrev S354304 : Shape := ⟨1, ![354304]⟩
abbrev S12288 : Shape := ⟨1, ![12288]⟩
abbrev S4x3x1024 : Shape := ⟨3, ![4, 3, 1024]⟩
abbrev S4x3x256 : Shape := ⟨3, ![4, 3, 256]⟩
abbrev S4096 : Shape := ⟨1, ![4096]⟩
abbrev S2x2048 : Shape := ⟨2, ![2, 2048]⟩
abbrev S2x512 : Shape := ⟨2, ![2, 512]⟩
abbrev S63488 : Shape := ⟨1, ![63488]⟩
abbrev S2x31x1024 : Shape := ⟨3, ![2, 31, 1024]⟩
abbrev S2x31x256 : Shape := ⟨3, ![2, 31, 256]⟩
abbrev S2048 : Shape := ⟨1, ![2048]⟩
abbrev S2x1024 : Shape := ⟨2, ![2, 1024]⟩
abbrev S2x256 : Shape := ⟨2, ![2, 256]⟩
abbrev S262144 : Shape := ⟨1, ![262144]⟩
abbrev S1x4x256x256 : Shape := ⟨4, ![1, 4, 256, 256]⟩
abbrev S1x4x64x256 : Shape := ⟨4, ![1, 4, 64, 256]⟩
abbrev S1024 : Shape := ⟨1, ![1024]⟩
abbrev S1x4x256 : Shape := ⟨3, ![1, 4, 256]⟩
abbrev S1x4x64 : Shape := ⟨3, ![1, 4, 64]⟩
abbrev S1x1024 : Shape := ⟨2, ![1, 1024]⟩
abbrev S1x256 : Shape := ⟨2, ![1, 256]⟩
abbrev S64 : Shape := ⟨1, ![64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S8x2768x128, .f32⟩
  | .hbm, ⟨1, _⟩ => ⟨S_, .i32⟩
  | .hbm, ⟨2, _⟩ => ⟨S_, .f32⟩
  | .hbm, ⟨3, _⟩ => ⟨S2768x128, .f32⟩
  | .hbm, ⟨4, _⟩ => ⟨S354304, .f32⟩
  | .hbm, ⟨5, _⟩ => ⟨S12288, .f32⟩
  | .hbm, ⟨6, _⟩ => ⟨S4x3x1024, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x3x256, .f32⟩
  | .hbm, ⟨17, _⟩ => ⟨S4096, .f32⟩
  | .hbm, ⟨18, _⟩ => ⟨S2x2048, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2x512, .f32⟩
  | .hbm, ⟨28, _⟩ => ⟨S63488, .f32⟩
  | .hbm, ⟨29, _⟩ => ⟨S2x31x1024, .f32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S2x31x256, .f32⟩
  | .hbm, ⟨40, _⟩ => ⟨S2048, .f32⟩
  | .hbm, ⟨41, _⟩ => ⟨S2x1024, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S2x256, .f32⟩
  | .hbm, ⟨51, _⟩ => ⟨S2048, .f32⟩
  | .hbm, ⟨52, _⟩ => ⟨S2x1024, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S2x256, .f32⟩
  | .hbm, ⟨62, _⟩ => ⟨S2048, .f32⟩
  | .hbm, ⟨63, _⟩ => ⟨S2x1024, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S2x256, .f32⟩
  | .hbm, ⟨73, _⟩ => ⟨S2048, .f32⟩
  | .hbm, ⟨74, _⟩ => ⟨S2x1024, .f32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S2x256, .f32⟩
  | .hbm, ⟨84, _⟩ => ⟨S262144, .f32⟩
  | .hbm, ⟨85, _⟩ => ⟨S1x4x256x256, .f32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i1⟩
  | .hbm, ⟨90, _⟩ => ⟨S_, .i32⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x4x64x256, .f32⟩
  | .hbm, ⟨97, _⟩ => ⟨S1024, .f32⟩
  | .hbm, ⟨98, _⟩ => ⟨S1x4x256, .f32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i1⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S1x4x64, .f32⟩
  | .hbm, ⟨109, _⟩ => ⟨S1024, .f32⟩
  | .hbm, ⟨110, _⟩ => ⟨S1x1024, .f32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i1⟩
  | .hbm, ⟨115, _⟩ => ⟨S_, .i32⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S1x256, .f32⟩
  | .hbm, ⟨120, _⟩ => ⟨S64, .f32⟩
  | .hbm, ⟨121, _⟩ => ⟨S1x64, .f32⟩
  | .hbm, ⟨122, _⟩ => ⟨S64, .f32⟩
  | .hbm, ⟨123, _⟩ => ⟨S1x64, .f32⟩
  | _, _ => ⟨S8x2768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_c_6 : Ref sig .tc := ⟨.hbm, 23, rfl⟩
abbrev main_v13 : Ref sig .tc := ⟨.hbm, 24, rfl⟩
abbrev main_v14 : Ref sig .tc := ⟨.hbm, 25, rfl⟩
abbrev main_c_7 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_8 : Ref sig .tc := ⟨.hbm, 30, rfl⟩
abbrev main_v18 : Ref sig .tc := ⟨.hbm, 31, rfl⟩
abbrev main_c_9 : Ref sig .tc := ⟨.hbm, 32, rfl⟩
abbrev main_v19 : Ref sig .tc := ⟨.hbm, 33, rfl⟩
abbrev main_c_10 : Ref sig .tc := ⟨.hbm, 34, rfl⟩
abbrev main_v20 : Ref sig .tc := ⟨.hbm, 35, rfl⟩
abbrev main_v21 : Ref sig .tc := ⟨.hbm, 36, rfl⟩
abbrev main_c_11 : Ref sig .tc := ⟨.hbm, 37, rfl⟩
abbrev main_c_12 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_13 : Ref sig .tc := ⟨.hbm, 42, rfl⟩
abbrev main_v25 : Ref sig .tc := ⟨.hbm, 43, rfl⟩
abbrev main_c_14 : Ref sig .tc := ⟨.hbm, 44, rfl⟩
abbrev main_v26 : Ref sig .tc := ⟨.hbm, 45, rfl⟩
abbrev main_c_15 : Ref sig .tc := ⟨.hbm, 46, rfl⟩
abbrev main_v27 : Ref sig .tc := ⟨.hbm, 47, rfl⟩
abbrev main_v28 : Ref sig .tc := ⟨.hbm, 48, rfl⟩
abbrev main_c_16 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_17 : Ref sig .tc := ⟨.hbm, 53, rfl⟩
abbrev main_v32 : Ref sig .tc := ⟨.hbm, 54, rfl⟩
abbrev main_c_18 : Ref sig .tc := ⟨.hbm, 55, rfl⟩
abbrev main_v33 : Ref sig .tc := ⟨.hbm, 56, rfl⟩
abbrev main_c_19 : Ref sig .tc := ⟨.hbm, 57, rfl⟩
abbrev main_v34 : Ref sig .tc := ⟨.hbm, 58, rfl⟩
abbrev main_v35 : Ref sig .tc := ⟨.hbm, 59, rfl⟩
abbrev main_c_20 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_21 : Ref sig .tc := ⟨.hbm, 64, rfl⟩
abbrev main_v39 : Ref sig .tc := ⟨.hbm, 65, rfl⟩
abbrev main_c_22 : Ref sig .tc := ⟨.hbm, 66, rfl⟩
abbrev main_v40 : Ref sig .tc := ⟨.hbm, 67, rfl⟩
abbrev main_c_23 : Ref sig .tc := ⟨.hbm, 68, rfl⟩
abbrev main_v41 : Ref sig .tc := ⟨.hbm, 69, rfl⟩
abbrev main_v42 : Ref sig .tc := ⟨.hbm, 70, rfl⟩
abbrev main_c_24 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_25 : Ref sig .tc := ⟨.hbm, 75, rfl⟩
abbrev main_v46 : Ref sig .tc := ⟨.hbm, 76, rfl⟩
abbrev main_c_26 : Ref sig .tc := ⟨.hbm, 77, rfl⟩
abbrev main_v47 : Ref sig .tc := ⟨.hbm, 78, rfl⟩
abbrev main_c_27 : Ref sig .tc := ⟨.hbm, 79, rfl⟩
abbrev main_v48 : Ref sig .tc := ⟨.hbm, 80, rfl⟩
abbrev main_v49 : Ref sig .tc := ⟨.hbm, 81, rfl⟩
abbrev main_c_28 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_29 : Ref sig .tc := ⟨.hbm, 86, rfl⟩
abbrev main_v53 : Ref sig .tc := ⟨.hbm, 87, rfl⟩
abbrev main_c_30 : Ref sig .tc := ⟨.hbm, 88, rfl⟩
abbrev main_v54 : Ref sig .tc := ⟨.hbm, 89, rfl⟩
abbrev main_c_31 : Ref sig .tc := ⟨.hbm, 90, rfl⟩
abbrev main_v55 : Ref sig .tc := ⟨.hbm, 91, rfl⟩
abbrev main_v56 : Ref sig .tc := ⟨.hbm, 92, rfl⟩
abbrev main_c_32 : Ref sig .tc := ⟨.hbm, 93, rfl⟩
abbrev main_c_33 : Ref sig .tc := ⟨.hbm, 94, rfl⟩
abbrev main_c_34 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_35 : Ref sig .tc := ⟨.hbm, 99, rfl⟩
abbrev main_v60 : Ref sig .tc := ⟨.hbm, 100, rfl⟩
abbrev main_c_36 : Ref sig .tc := ⟨.hbm, 101, rfl⟩
abbrev main_v61 : Ref sig .tc := ⟨.hbm, 102, rfl⟩
abbrev main_c_37 : Ref sig .tc := ⟨.hbm, 103, rfl⟩
abbrev main_v62 : Ref sig .tc := ⟨.hbm, 104, rfl⟩
abbrev main_v63 : Ref sig .tc := ⟨.hbm, 105, rfl⟩
abbrev main_c_38 : Ref sig .tc := ⟨.hbm, 106, rfl⟩
abbrev main_c_39 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_c_40 : Ref sig .tc := ⟨.hbm, 111, rfl⟩
abbrev main_v67 : Ref sig .tc := ⟨.hbm, 112, rfl⟩
abbrev main_c_41 : Ref sig .tc := ⟨.hbm, 113, rfl⟩
abbrev main_v68 : Ref sig .tc := ⟨.hbm, 114, rfl⟩
abbrev main_c_42 : Ref sig .tc := ⟨.hbm, 115, rfl⟩
abbrev main_v69 : Ref sig .tc := ⟨.hbm, 116, rfl⟩
abbrev main_v70 : Ref sig .tc := ⟨.hbm, 117, rfl⟩
abbrev main_c_43 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩

abbrev nD : Nat := 1
abbrev τ : Topo := Topo.v7x

variable {F : FTy → Type} [FloatOps F]
-- ==== SumFfnIn.lean ====
abbrev S4x8x352x1024 : Shape := ⟨4, ![4, 8, 352, 1024]⟩
abbrev S8x352x1024 : Shape := ⟨3, ![8, 352, 1024]⟩
abbrev S_ : Shape := ⟨0, ![]⟩
abbrev S4x2816x1024 : Shape := ⟨3, ![4, 2816, 1024]⟩
abbrev S2816x1024 : Shape := ⟨2, ![2816, 1024]⟩
abbrev S4x256x1024 : Shape := ⟨3, ![4, 256, 1024]⟩
abbrev S256x1024 : Shape := ⟨2, ![256, 1024]⟩
abbrev S1x256x1024 : Shape := ⟨3, ![1, 256, 1024]⟩
abbrev S8x1x352x1024 : Shape := ⟨4, ![8, 1, 352, 1024]⟩
abbrev S8x2x352x1024 : Shape := ⟨4, ![8, 2, 352, 1024]⟩
abbrev S4x2x704x1024 : Shape := ⟨4, ![4, 2, 704, 1024]⟩
abbrev S4x2x1024x704 : Shape := ⟨4, ![4, 2, 1024, 704]⟩

abbrev nBuf : Space → Nat
  | .hbm => 17
  | .vmem => 4
  | .smem => 0
  | _ => 0

abbrev bufTy : (tb : Table) → Fin (tcTables nBuf tb) → BufTy
  | .hbm, ⟨0, _⟩ => ⟨S4x8x352x1024, .bf16⟩
  | .hbm, ⟨1, _⟩ => ⟨S8x352x1024, .f32⟩
  | .hbm, ⟨2, _⟩ => ⟨S_, .i32⟩
  | .hbm, ⟨3, _⟩ => ⟨S4x2816x1024, .bf16⟩
  | .hbm, ⟨4, _⟩ => ⟨S2816x1024, .f32⟩
  | .hbm, ⟨5, _⟩ => ⟨S8x352x1024, .f32⟩
  | .hbm, ⟨6, _⟩ => ⟨S_, .i32⟩
  | .hbm, ⟨7, _⟩ => ⟨S_, .i1⟩
  | .hbm, ⟨8, _⟩ => ⟨S8x1x352x1024, .f32⟩
  | .hbm, ⟨9, _⟩ => ⟨S8x1x352x1024, .f32⟩
  | .hbm, ⟨10, _⟩ => ⟨S8x2x352x1024, .f32⟩
  | .hbm, ⟨11, _⟩ => ⟨S8x1x352x1024, .f32⟩
  | .hbm, ⟨12, _⟩ => ⟨S8x1x352x1024, .f32⟩
  | .hbm, ⟨13, _⟩ => ⟨S8x2x352x1024, .f32⟩
  | .hbm, ⟨14, _⟩ => ⟨S8x2x352x1024, .f32⟩
  | .hbm, ⟨15, _⟩ => ⟨S4x2x704x1024, .f32⟩
  | .hbm, ⟨16, _⟩ => ⟨S4x2x1024x704, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnInReferenceIdeal.lean ====
abbrev S4x8x352x1024 : Shape := ⟨4, ![4, 8, 352, 1024]⟩
abbrev S8x352x1024 : Shape := ⟨3, ![8, 352, 1024]⟩
abbrev S_ : Shape := ⟨0, ![]⟩
abbrev S8x704x1024 : Shape := ⟨3, ![8, 704, 1024]⟩
abbrev S4x2x704x1024 : Shape := ⟨4, ![4, 2, 704, 1024]⟩
abbrev S4x2x1024x704 : Shape := ⟨4, ![4, 2, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S4x8x352x1024, .bf16⟩
  | .hbm, ⟨1, _⟩ => ⟨S8x352x1024, .f32⟩
  | .hbm, ⟨2, _⟩ => ⟨S_, .i32⟩
  | .hbm, ⟨3, _⟩ => ⟨S4x8x352x1024, .f32⟩
  | .hbm, ⟨4, _⟩ => ⟨S_, .f32⟩
  | .hbm, ⟨5, _⟩ => ⟨S8x352x1024, .f32⟩
  | .hbm, ⟨6, _⟩ => ⟨S_, .i32⟩
  | .hbm, ⟨7, _⟩ => ⟨S_, .i1⟩
  | .hbm, ⟨8, _⟩ => ⟨S8x352x1024, .f32⟩
  | .hbm, ⟨9, _⟩ => ⟨S_, .i32⟩
  | .hbm, ⟨10, _⟩ => ⟨S_, .i1⟩
  | .hbm, ⟨11, _⟩ => ⟨S8x352x1024, .f32⟩
  | .hbm, ⟨12, _⟩ => ⟨S8x704x1024, .f32⟩
  | .hbm, ⟨13, _⟩ => ⟨S4x2x704x1024, .f32⟩
  | .hbm, ⟨14, _⟩ => ⟨S4x2x1024x704, .f32⟩
  | _, _ => ⟨S4x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== SumFfnOut.lean ====
abbrev S4x8x352x1024 : Shape := ⟨4, ![4, 8, 352, 1024]⟩
abbrev S8x352x1024 : Shape := ⟨3, ![8, 352, 1024]⟩
abbrev S_ : Shape := ⟨0, ![]⟩
abbrev S4x2816x1024 : Shape := ⟨3, ![4, 2816, 1024]⟩
abbrev S2816x1024 : Shape := ⟨2, ![2816, 1024]⟩
abbrev S4x256x1024 : Shape := ⟨3, ![4, 256, 1024]⟩
abbrev S256x1024 : Shape := ⟨2, ![256, 1024]⟩
abbrev S1x256x1024 : Shape := ⟨3, ![1, 256, 1024]⟩
abbrev S8x1x352x1024 : Shape := ⟨4, ![8, 1, 352, 1024]⟩
abbrev S8x2x352x1024 : Shape := ⟨4, ![8, 2, 352, 1024]⟩
abbrev S4x2x704x1024 : Shape := ⟨4, ![4, 2, 704, 1024]⟩

abbrev nBuf : Space → Nat
  | .hbm => 16
  | .vmem => 4
  | .smem => 0
  | _ => 0

abbrev bufTy : (tb : Table) → Fin (tcTables nBuf tb) → BufTy
  | .hbm, ⟨0, _⟩ => ⟨S4x8x352x1024, .bf16⟩
  | .hbm, ⟨1, _⟩ => ⟨S8x352x1024, .f32⟩
  | .hbm, ⟨2, _⟩ => ⟨S_, .i32⟩
  | .hbm, ⟨3, _⟩ => ⟨S4x2816x1024, .bf16⟩
  | .hbm, ⟨4, _⟩ => ⟨S2816x1024, .f32⟩
  | .hbm, ⟨5, _⟩ => ⟨S8x352x1024, .f32⟩
  | .hbm, ⟨6, _⟩ => ⟨S_, .i32⟩
  | .hbm, ⟨7, _⟩ => ⟨S_, .i1⟩
  | .hbm, ⟨8, _⟩ => ⟨S8x1x352x1024, .f32⟩
  | .hbm, ⟨9, _⟩ => ⟨S8x1x352x1024, .f32⟩
  | .hbm, ⟨10, _⟩ => ⟨S8x2x352x1024, .f32⟩
  | .hbm, ⟨11, _⟩ => ⟨S8x1x352x1024, .f32⟩
  | .hbm, ⟨12, _⟩ => ⟨S8x1x352x1024, .f32⟩
  | .hbm, ⟨13, _⟩ => ⟨S8x2x352x1024, .f32⟩
  | .hbm, ⟨14, _⟩ => ⟨S8x2x352x1024, .f32⟩
  | .hbm, ⟨15, _⟩ => ⟨S4x2x704x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumFfnOutReferenceIdeal.lean ====
abbrev S4x8x352x1024 : Shape := ⟨4, ![4, 8, 352, 1024]⟩
abbrev S8x352x1024 : Shape := ⟨3, ![8, 352, 1024]⟩
abbrev S_ : Shape := ⟨0, ![]⟩
abbrev S8x704x1024 : Shape := ⟨3, ![8, 704, 1024]⟩
abbrev S4x2x704x1024 : Shape := ⟨4, ![4, 2, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8x352x1024, .bf16⟩
  | .hbm, ⟨1, _⟩ => ⟨S8x352x1024, .f32⟩
  | .hbm, ⟨2, _⟩ => ⟨S_, .i32⟩
  | .hbm, ⟨3, _⟩ => ⟨S4x8x352x1024, .f32⟩
  | .hbm, ⟨4, _⟩ => ⟨S_, .f32⟩
  | .hbm, ⟨5, _⟩ => ⟨S8x352x1024, .f32⟩
  | .hbm, ⟨6, _⟩ => ⟨S_, .i32⟩
  | .hbm, ⟨7, _⟩ => ⟨S_, .i1⟩
  | .hbm, ⟨8, _⟩ => ⟨S8x352x1024, .f32⟩
  | .hbm, ⟨9, _⟩ => ⟨S_, .i32⟩
  | .hbm, ⟨10, _⟩ => ⟨S_, .i1⟩
  | .hbm, ⟨11, _⟩ => ⟨S8x352x1024, .f32⟩
  | .hbm, ⟨12, _⟩ => ⟨S8x704x1024, .f32⟩
  | .hbm, ⟨13, _⟩ => ⟨S4x2x704x1024, .f32⟩
  | _, _ => ⟨S4x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== SumConvIn.lean ====
abbrev S4x2x512x512 : Shape := ⟨4, ![4, 2, 512, 512]⟩
abbrev S2x512x512 : Shape := ⟨3, ![2, 512, 512]⟩
abbrev S_ : Shape := ⟨0, ![]⟩
abbrev S4x1024x512 : Shape := ⟨3, ![4, 1024, 512]⟩
abbrev S1024x512 : Shape := ⟨2, ![1024, 512]⟩
abbrev S4x512x512 : Shape := ⟨3, ![4, 512, 512]⟩
abbrev S512x512 : Shape := ⟨2, ![512, 512]⟩
abbrev S1x512x512 : Shape := ⟨3, ![1, 512, 512]⟩
abbrev S2x1x512x512 : Shape := ⟨4, ![2, 1, 512, 512]⟩
abbrev S2x2x512x512 : Shape := ⟨4, ![2, 2, 512, 512]⟩
abbrev S2x1024x512 : Shape := ⟨3, ![2, 1024, 512]⟩

abbrev nBuf : Space → Nat
  | .hbm => 16
  | .vmem => 4
  | .smem => 0
  | _ => 0

abbrev bufTy : (tb : Table) → Fin (tcTables nBuf tb) → BufTy
  | .hbm, ⟨0, _⟩ => ⟨S4x2x512x512, .bf16⟩
  | .hbm, ⟨1, _⟩ => ⟨S2x512x512, .f32⟩
  | .hbm, ⟨2, _⟩ => ⟨S_, .i32⟩
  | .hbm, ⟨3, _⟩ => ⟨S4x1024x512, .bf16⟩
  | .hbm, ⟨4, _⟩ => ⟨S1024x512, .f32⟩
  | .hbm, ⟨5, _⟩ => ⟨S2x512x512, .f32⟩
  | .hbm, ⟨6, _⟩ => ⟨S_, .i32⟩
  | .hbm, ⟨7, _⟩ => ⟨S_, .i1⟩
  | .hbm, ⟨8, _⟩ => ⟨S2x1x512x512, .f32⟩
  | .hbm, ⟨9, _⟩ => ⟨S2x1x512x512, .f32⟩
  | .hbm, ⟨10, _⟩ => ⟨S2x2x512x512, .f32⟩
  | .hbm, ⟨11, _⟩ => ⟨S2x1x512x512, .f32⟩
  | .hbm, ⟨12, _⟩ => ⟨S2x1x512x512, .f32⟩
  | .hbm, ⟨13, _⟩ => ⟨S2x2x512x512, .f32⟩
  | .hbm, ⟨14, _⟩ => ⟨S2x2x512x512, .f32⟩
  | .hbm, ⟨15, _⟩ => ⟨S2x1024x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | _, _ => ⟨S4x2x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumConvInReferenceIdeal.lean ====
abbrev S4x2x512x512 : Shape := ⟨4, ![4, 2, 512, 512]⟩
abbrev S2x512x512 : Shape := ⟨3, ![2, 512, 512]⟩
abbrev S_ : Shape := ⟨0, ![]⟩
abbrev S2x1024x512 : Shape := ⟨3, ![2, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S4x2x512x512, .bf16⟩
  | .hbm, ⟨1, _⟩ => ⟨S2x512x512, .f32⟩
  | .hbm, ⟨2, _⟩ => ⟨S_, .i32⟩
  | .hbm, ⟨3, _⟩ => ⟨S4x2x512x512, .f32⟩
  | .hbm, ⟨4, _⟩ => ⟨S_, .f32⟩
  | .hbm, ⟨5, _⟩ => ⟨S2x512x512, .f32⟩
  | .hbm, ⟨6, _⟩ => ⟨S_, .i32⟩
  | .hbm, ⟨7, _⟩ => ⟨S_, .i1⟩
  | .hbm, ⟨8, _⟩ => ⟨S2x512x512, .f32⟩
  | .hbm, ⟨9, _⟩ => ⟨S_, .i32⟩
  | .hbm, ⟨10, _⟩ => ⟨S_, .i1⟩
  | .hbm, ⟨11, _⟩ => ⟨S2x512x512, .f32⟩
  | .hbm, ⟨12, _⟩ => ⟨S2x1024x512, .f32⟩
  | _, _ => ⟨S4x2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== SumConvOut.lean ====
abbrev S4x2x128x1024 : Shape := ⟨4, ![4, 2, 128, 1024]⟩
abbrev S2x128x1024 : Shape := ⟨3, ![2, 128, 1024]⟩
abbrev S_ : Shape := ⟨0, ![]⟩
abbrev S4x256x1024 : Shape := ⟨3, ![4, 256, 1024]⟩
abbrev S256x1024 : Shape := ⟨2, ![256, 1024]⟩
abbrev S1x256x1024 : Shape := ⟨3, ![1, 256, 1024]⟩
abbrev S2x1x128x1024 : Shape := ⟨4, ![2, 1, 128, 1024]⟩
abbrev S2x2x128x1024 : Shape := ⟨4, ![2, 2, 128, 1024]⟩
abbrev S2x256x1024 : Shape := ⟨3, ![2, 256, 1024]⟩

abbrev nBuf : Space → Nat
  | .hbm => 16
  | .vmem => 2
  | .smem => 0
  | _ => 0

abbrev bufTy : (tb : Table) → Fin (tcTables nBuf tb) → BufTy
  | .hbm, ⟨0, _⟩ => ⟨S4x2x128x1024, .bf16⟩
  | .hbm, ⟨1, _⟩ => ⟨S2x128x1024, .f32⟩
  | .hbm, ⟨2, _⟩ => ⟨S_, .i32⟩
  | .hbm, ⟨3, _⟩ => ⟨S4x256x1024, .bf16⟩
  | .hbm, ⟨4, _⟩ => ⟨S256x1024, .f32⟩
  | .hbm, ⟨5, _⟩ => ⟨S2x128x1024, .f32⟩
  | .hbm, ⟨6, _⟩ => ⟨S_, .i32⟩
  | .hbm, ⟨7, _⟩ => ⟨S_, .i1⟩
  | .hbm, ⟨8, _⟩ => ⟨S2x1x128x1024, .f32⟩
  | .hbm, ⟨9, _⟩ => ⟨S2x1x128x1024, .f32⟩
  | .hbm, ⟨10, _⟩ => ⟨S2x2x128x1024, .f32⟩
  | .hbm, ⟨11, _⟩ => ⟨S2x1x128x1024, .f32⟩
  | .hbm, ⟨12, _⟩ => ⟨S2x1x128x1024, .f32⟩
  | .hbm, ⟨13, _⟩ => ⟨S2x2x128x1024, .f32⟩
  | .hbm, ⟨14, _⟩ => ⟨S2x2x128x1024, .f32⟩
  | .hbm, ⟨15, _⟩ => ⟨S2x256x1024, .f32⟩
  | .local _ .vmem, ⟨0, _⟩ => ⟨S4x256x1024, .bf16⟩
  | .local _ .vmem, ⟨1, _⟩ => ⟨S256x1024, .f32⟩
  | _, _ => ⟨S4x2x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumConvOutReferenceIdeal.lean ====
abbrev S4x2x128x1024 : Shape := ⟨4, ![4, 2, 128, 1024]⟩
abbrev S2x128x1024 : Shape := ⟨3, ![2, 128, 1024]⟩
abbrev S_ : Shape := ⟨0, ![]⟩
abbrev S2x256x1024 : Shape := ⟨3, ![2, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x2x128x1024, .bf16⟩
  | .hbm, ⟨1, _⟩ => ⟨S2x128x1024, .f32⟩
  | .hbm, ⟨2, _⟩ => ⟨S_, .i32⟩
  | .hbm, ⟨3, _⟩ => ⟨S4x2x128x1024, .f32⟩
  | .hbm, ⟨4, _⟩ => ⟨S_, .f32⟩
  | .hbm, ⟨5, _⟩ => ⟨S2x128x1024, .f32⟩
  | .hbm, ⟨6, _⟩ => ⟨S_, .i32⟩
  | .hbm, ⟨7, _⟩ => ⟨S_, .i1⟩
  | .hbm, ⟨8, _⟩ => ⟨S2x128x1024, .f32⟩
  | .hbm, ⟨9, _⟩ => ⟨S_, .i32⟩
  | .hbm, ⟨10, _⟩ => ⟨S_, .i1⟩
  | .hbm, ⟨11, _⟩ => ⟨S2x128x1024, .f32⟩
  | .hbm, ⟨12, _⟩ => ⟨S2x256x1024, .f32⟩
  | _, _ => ⟨S4x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== SumQkv.lean ====
abbrev S4x1x512x768 : Shape := ⟨4, ![4, 1, 512, 768]⟩
abbrev S1x512x768 : Shape := ⟨3, ![1, 512, 768]⟩
abbrev S_ : Shape := ⟨0, ![]⟩
abbrev S4x512x768 : Shape := ⟨3, ![4, 512, 768]⟩
abbrev S512x768 : Shape := ⟨2, ![512, 768]⟩
abbrev S4x256x768 : Shape := ⟨3, ![4, 256, 768]⟩
abbrev S256x768 : Shape := ⟨2, ![256, 768]⟩
abbrev S1x256x768 : Shape := ⟨3, ![1, 256, 768]⟩
abbrev S1x1x512x768 : Shape := ⟨4, ![1, 1, 512, 768]⟩
abbrev S1x2x512x768 : Shape := ⟨4, ![1, 2, 512, 768]⟩
abbrev S1x1024x768 : Shape := ⟨3, ![1, 1024, 768]⟩

abbrev nBuf : Space → Nat
  | .hbm => 16
  | .vmem => 4
  | .smem => 0
  | _ => 0

abbrev bufTy : (tb : Table) → Fin (tcTables nBuf tb) → BufTy
  | .hbm, ⟨0, _⟩ => ⟨S4x1x512x768, .bf16⟩
  | .hbm, ⟨1, _⟩ => ⟨S1x512x768, .f32⟩
  | .hbm, ⟨2, _⟩ => ⟨S_, .i32⟩
  | .hbm, ⟨3, _⟩ => ⟨S4x512x768, .bf16⟩
  | .hbm, ⟨4, _⟩ => ⟨S512x768, .f32⟩
  | .hbm, ⟨5, _⟩ => ⟨S1x512x768, .f32⟩
  | .hbm, ⟨6, _⟩ => ⟨S_, .i32⟩
  | .hbm, ⟨7, _⟩ => ⟨S_, .i1⟩
  | .hbm, ⟨8, _⟩ => ⟨S1x1x512x768, .f32⟩
  | .hbm, ⟨9, _⟩ => ⟨S1x1x512x768, .f32⟩
  | .hbm, ⟨10, _⟩ => ⟨S1x2x512x768, .f32⟩
  | .hbm, ⟨11, _⟩ => ⟨S1x1x512x768, .f32⟩
  | .hbm, ⟨12, _⟩ => ⟨S1x1x512x768, .f32⟩
  | .hbm, ⟨13, _⟩ => ⟨S1x2x512x768, .f32⟩
  | .hbm, ⟨14, _⟩ => ⟨S1x2x512x768, .f32⟩
  | .hbm, ⟨15, _⟩ => ⟨S1x1024x768, .f32⟩
  | .local _ .vmem, ⟨0, _⟩ => ⟨S4x256x768, .bf16⟩
  | .local _ .vmem, ⟨1, _⟩ => ⟨S4x256x768, .bf16⟩
  | .local _ .vmem, ⟨2, _⟩ => ⟨S256x768, .f32⟩
  | .local _ .vmem, ⟨3, _⟩ => ⟨S256x768, .f32⟩
  | _, _ => ⟨S4x1x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumQkvReferenceIdeal.lean ====
abbrev S4x1x512x768 : Shape := ⟨4, ![4, 1, 512, 768]⟩
abbrev S1x512x768 : Shape := ⟨3, ![1, 512, 768]⟩
abbrev S_ : Shape := ⟨0, ![]⟩
abbrev S1x1024x768 : Shape := ⟨3, ![1, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S4x1x512x768, .bf16⟩
  | .hbm, ⟨1, _⟩ => ⟨S1x512x768, .f32⟩
  | .hbm, ⟨2, _⟩ => ⟨S_, .i32⟩
  | .hbm, ⟨3, _⟩ => ⟨S4x1x512x768, .f32⟩
  | .hbm, ⟨4, _⟩ => ⟨S_, .f32⟩
  | .hbm, ⟨5, _⟩ => ⟨S1x512x768, .f32⟩
  | .hbm, ⟨6, _⟩ => ⟨S_, .i32⟩
  | .hbm, ⟨7, _⟩ => ⟨S_, .i1⟩
  | .hbm, ⟨8, _⟩ => ⟨S1x512x768, .f32⟩
  | .hbm, ⟨9, _⟩ => ⟨S_, .i32⟩
  | .hbm, ⟨10, _⟩ => ⟨S_, .i1⟩
  | .hbm, ⟨11, _⟩ => ⟨S1x512x768, .f32⟩
  | .hbm, ⟨12, _⟩ => ⟨S1x1024x768, .f32⟩
  | _, _ => ⟨S4x1x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== SumAttnOut.lean ====
abbrev S4x1x128x1024 : Shape := ⟨4, ![4, 1, 128, 1024]⟩
abbrev S1x128x1024 : Shape := ⟨3, ![1, 128, 1024]⟩
abbrev S_ : Shape := ⟨0, ![]⟩
abbrev S4x128x1024 : Shape := ⟨3, ![4, 128, 1024]⟩
abbrev S128x1024 : Shape := ⟨2, ![128, 1024]⟩
abbrev S1x1x128x1024 : Shape := ⟨4, ![1, 1, 128, 1024]⟩
abbrev S1x2x128x1024 : Shape := ⟨4, ![1, 2, 128, 1024]⟩
abbrev S1x256x1024 : Shape := ⟨3, ![1, 256, 1024]⟩

abbrev nBuf : Space → Nat
  | .hbm => 16
  | .vmem => 2
  | .smem => 0
  | _ => 0

abbrev bufTy : (tb : Table) → Fin (tcTables nBuf tb) → BufTy
  | .hbm, ⟨0, _⟩ => ⟨S4x1x128x1024, .bf16⟩
  | .hbm, ⟨1, _⟩ => ⟨S1x128x1024, .f32⟩
  | .hbm, ⟨2, _⟩ => ⟨S_, .i32⟩
  | .hbm, ⟨3, _⟩ => ⟨S4x128x1024, .bf16⟩
  | .hbm, ⟨4, _⟩ => ⟨S128x1024, .f32⟩
  | .hbm, ⟨5, _⟩ => ⟨S1x128x1024, .f32⟩
  | .hbm, ⟨6, _⟩ => ⟨S_, .i32⟩
  | .hbm, ⟨7, _⟩ => ⟨S_, .i1⟩
  | .hbm, ⟨8, _⟩ => ⟨S1x1x128x1024, .f32⟩
  | .hbm, ⟨9, _⟩ => ⟨S1x1x128x1024, .f32⟩
  | .hbm, ⟨10, _⟩ => ⟨S1x2x128x1024, .f32⟩
  | .hbm, ⟨11, _⟩ => ⟨S1x1x128x1024, .f32⟩
  | .hbm, ⟨12, _⟩ => ⟨S1x1x128x1024, .f32⟩
  | .hbm, ⟨13, _⟩ => ⟨S1x2x128x1024, .f32⟩
  | .hbm, ⟨14, _⟩ => ⟨S1x2x128x1024, .f32⟩
  | .hbm, ⟨15, _⟩ => ⟨S1x256x1024, .f32⟩
  | .local _ .vmem, ⟨0, _⟩ => ⟨S4x128x1024, .bf16⟩
  | .local _ .vmem, ⟨1, _⟩ => ⟨S128x1024, .f32⟩
  | _, _ => ⟨S4x1x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumAttnOutReferenceIdeal.lean ====
abbrev S4x1x128x1024 : Shape := ⟨4, ![4, 1, 128, 1024]⟩
abbrev S1x128x1024 : Shape := ⟨3, ![1, 128, 1024]⟩
abbrev S_ : Shape := ⟨0, ![]⟩
abbrev S1x256x1024 : Shape := ⟨3, ![1, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x1x128x1024, .bf16⟩
  | .hbm, ⟨1, _⟩ => ⟨S1x128x1024, .f32⟩
  | .hbm, ⟨2, _⟩ => ⟨S_, .i32⟩
  | .hbm, ⟨3, _⟩ => ⟨S4x1x128x1024, .f32⟩
  | .hbm, ⟨4, _⟩ => ⟨S_, .f32⟩
  | .hbm, ⟨5, _⟩ => ⟨S1x128x1024, .f32⟩
  | .hbm, ⟨6, _⟩ => ⟨S_, .i32⟩
  | .hbm, ⟨7, _⟩ => ⟨S_, .i1⟩
  | .hbm, ⟨8, _⟩ => ⟨S1x128x1024, .f32⟩
  | .hbm, ⟨9, _⟩ => ⟨S_, .i32⟩
  | .hbm, ⟨10, _⟩ => ⟨S_, .i1⟩
  | .hbm, ⟨11, _⟩ => ⟨S1x128x1024, .f32⟩
  | .hbm, ⟨12, _⟩ => ⟨S1x256x1024, .f32⟩
  | _, _ => ⟨S4x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== LossHead.lean ====
abbrev S16384x1024 : Shape := ⟨2, ![16384, 1024]⟩
abbrev S8x1024 : Shape := ⟨2, ![8, 1024]⟩
abbrev S512x1024 : Shape := ⟨2, ![512, 1024]⟩
abbrev S1x1024 : Shape := ⟨2, ![1, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x1024, .f32⟩
  | .hbm, ⟨4, _⟩ => ⟨S1x1024, .f32⟩
  | .hbm, ⟨5, _⟩ => ⟨S1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossHeadReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== CondPre.lean ====
abbrev S8x256 : Shape := ⟨2, ![8, 256]⟩
abbrev S256x1024 : Shape := ⟨2, ![256, 1024]⟩
abbrev S8x1024 : Shape := ⟨2, ![8, 1024]⟩

abbrev nBuf : Space → Nat
  | .hbm => 3
  | .vmem => 3
  | .smem => 0
  | _ => 0

abbrev bufTy : (tb : Table) → Fin (tcTables nBuf tb) → BufTy
  | .hbm, ⟨0, _⟩ => ⟨S8x256, .f32⟩
  | .hbm, ⟨1, _⟩ => ⟨S256x1024, .f32⟩
  | .hbm, ⟨2, _⟩ => ⟨S8x1024, .f32⟩
  | .local _ .vmem, ⟨0, _⟩ => ⟨S8x256, .f32⟩
  | .local _ .vmem, ⟨1, _⟩ => ⟨S256x1024, .f32⟩
  | .local _ .vmem, ⟨2, _⟩ => ⟨S8x1024, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CondPreReferenceIdeal.lean ====
abbrev S8x256 : Shape := ⟨2, ![8, 256]⟩
abbrev S256x1024 : Shape := ⟨2, ![256, 1024]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S256x1024, .f32⟩
  | .hbm, ⟨2, _⟩ => ⟨S8x1024, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== CondE.lean ====
abbrev S8x8x1024 : Shape := ⟨3, ![8, 8, 1024]⟩
abbrev S1x1024 : Shape := ⟨2, ![1, 1024]⟩
abbrev S8x1024 : Shape := ⟨2, ![8, 1024]⟩
abbrev S1x8x1024 : Shape := ⟨3, ![1, 8, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S8x1024, .f32⟩
  | .hbm, ⟨3, _⟩ => ⟨S8x1024, .f32⟩
  | .local _ .vmem, ⟨0, _⟩ => ⟨S8x8x1024, .f32⟩
  | .local _ .vmem, ⟨1, _⟩ => ⟨S1x1024, .f32⟩
  | .local _ .vmem, ⟨2, _⟩ => ⟨S8x1024, .f32⟩
  | .local _ .vmem, ⟨3, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== CondEReferenceIdeal.lean ====
abbrev S8x8x1024 : Shape := ⟨3, ![8, 8, 1024]⟩
abbrev S1x1024 : Shape := ⟨2, ![1, 1024]⟩
abbrev S1x8x1024 : Shape := ⟨3, ![1, 8, 1024]⟩
abbrev S8x1024 : Shape := ⟨2, ![8, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x8x1024, .f32⟩
  | .hbm, ⟨3, _⟩ => ⟨S8x1024, .f32⟩
  | .hbm, ⟨4, _⟩ => ⟨S1x8x1024, .f32⟩
  | .hbm, ⟨5, _⟩ => ⟨S8x1024, .f32⟩
  | .hbm, ⟨6, _⟩ => ⟨S8x1024, .f32⟩
  | .hbm, ⟨7, _⟩ => ⟨S1x8x1024, .f32⟩
  | .hbm, ⟨8, _⟩ => ⟨S8x1024, .f32⟩
  | .hbm, ⟨9, _⟩ => ⟨S8x1024, .f32⟩
  | .hbm, ⟨10, _⟩ => ⟨S1x8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S8x1024, .f32⟩
  | .hbm, ⟨23, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== ModCols.lean ====
abbrev S8x1024 : Shape := ⟨2, ![8, 1024]⟩
abbrev S4x1024x2304 : Shape := ⟨3, ![4, 1024, 2304]⟩
abbrev S4x1x2304 : Shape := ⟨3, ![4, 1, 2304]⟩
abbrev S4x8x2304 : Shape := ⟨3, ![4, 8, 2304]⟩
abbrev S1x1024x2304 : Shape := ⟨3, ![1, 1024, 2304]⟩
abbrev S1x1x2304 : Shape := ⟨3, ![1, 1, 2304]⟩
abbrev S1x8x2304 : Shape := ⟨3, ![1, 8, 2304]⟩
abbrev S1024x2304 : Shape := ⟨2, ![1024, 2304]⟩
abbrev S8x2304 : Shape := ⟨2, ![8, 2304]⟩
abbrev S1x2304 : Shape := ⟨2, ![1, 2304]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x1x2304, .f32⟩
  | .hbm, ⟨3, _⟩ => ⟨S4x8x2304, .f32⟩
  | .local _ .vmem, ⟨0, _⟩ => ⟨S8x1024, .f32⟩
  | .local _ .vmem, ⟨1, _⟩ => ⟨S1x1024x2304, .f32⟩
  | .local _ .vmem, ⟨2, _⟩ => ⟨S1x1024x2304, .f32⟩
  | .local _ .vmem, ⟨3, _⟩ => ⟨S1x1x2304, .f32⟩
  | .local _ .vmem, ⟨4, _⟩ => ⟨S1x1x2304, .f32⟩
  | .local _ .vmem, ⟨5, _⟩ => ⟨S1x8x2304, .f32⟩
  | .local _ .vmem, ⟨6, _⟩ => ⟨S1x8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModColsReferenceIdeal.lean ====
abbrev S8x1024 : Shape := ⟨2, ![8, 1024]⟩
abbrev S4x1024x2304 : Shape := ⟨3, ![4, 1024, 2304]⟩
abbrev S4x1x2304 : Shape := ⟨3, ![4, 1, 2304]⟩
abbrev S4x2304x8 : Shape := ⟨3, ![4, 2304, 8]⟩
abbrev S4x8x2304 : Shape := ⟨3, ![4, 8, 2304]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x2304, .f32⟩
  | .hbm, ⟨2, _⟩ => ⟨S4x1x2304, .f32⟩
  | .hbm, ⟨3, _⟩ => ⟨S4x2304x8, .f32⟩
  | .hbm, ⟨4, _⟩ => ⟨S4x8x2304, .f32⟩
  | .hbm, ⟨5, _⟩ => ⟨S4x8x2304, .f32⟩
  | .hbm, ⟨6, _⟩ => ⟨S4x8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradConvIn.lean ====
abbrev S16384x1024 : Shape := ⟨2, ![16384, 1024]⟩
abbrev S16384x2048 : Shape := ⟨2, ![16384, 2048]⟩
abbrev S2x4x1024x512 : Shape := ⟨4, ![2, 4, 1024, 512]⟩
abbrev S1024x1024 : Shape := ⟨2, ![1024, 1024]⟩
abbrev S1024x512 : Shape := ⟨2, ![1024, 512]⟩
abbrev S1x1x1024x512 : Shape := ⟨4, ![1, 1, 1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S2x4x1024x512, .f32⟩
  | .hbm, ⟨3, _⟩ => ⟨S2x4x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x1x1024x512, .f32⟩
  | .local _ .vmem, ⟨5, _⟩ => ⟨S1x1x1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradConvInReferenceIdeal.lean ====
abbrev S16384x1024 : Shape := ⟨2, ![16384, 1024]⟩
abbrev S16384x2048 : Shape := ⟨2, ![16384, 2048]⟩
abbrev S2x4x1024x512 : Shape := ⟨4, ![2, 4, 1024, 512]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩
abbrev S1x4x1024x512 : Shape := ⟨4, ![1, 4, 1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S2x4x1024x512, .f32⟩
  | .hbm, ⟨3, _⟩ => ⟨S_, .f32⟩
  | .hbm, ⟨4, _⟩ => ⟨S1024x2048, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S1024x4x512, .f32⟩
  | .hbm, ⟨11, _⟩ => ⟨S4x1024x512, .f32⟩
  | .hbm, ⟨12, _⟩ => ⟨S1x4x1024x512, .f32⟩
  | .hbm, ⟨13, _⟩ => ⟨S1x4x1024x512, .f32⟩
  | .hbm, ⟨14, _⟩ => ⟨S2x4x1024x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GradConvOut.lean ====
abbrev S16384x1024 : Shape := ⟨2, ![16384, 1024]⟩
abbrev S2x1x1024x1024 : Shape := ⟨4, ![2, 1, 1024, 1024]⟩
abbrev S1024x1024 : Shape := ⟨2, ![1024, 1024]⟩
abbrev S1x1x1024x1024 : Shape := ⟨4, ![1, 1, 1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x1x1024x1024, .f32⟩
  | .hbm, ⟨3, _⟩ => ⟨S2x1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradConvOutReferenceIdeal.lean ====
abbrev S16384x1024 : Shape := ⟨2, ![16384, 1024]⟩
abbrev S2x1x1024x1024 : Shape := ⟨4, ![2, 1, 1024, 1024]⟩
abbrev S_ : Shape := ⟨0, ![]⟩
abbrev S1024x1024 : Shape := ⟨2, ![1024, 1024]⟩
abbrev S1x1x1024x1024 : Shape := ⟨4, ![1, 1, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2x1x1024x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1x1024x1024, .f32⟩
  | .hbm, ⟨11, _⟩ => ⟨S1x1x1024x1024, .f32⟩
  | .hbm, ⟨12, _⟩ => ⟨S2x1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GradQkv.lean ====
abbrev S16384x1024 : Shape := ⟨2, ![16384, 1024]⟩
abbrev S16384x3072 : Shape := ⟨2, ![16384, 3072]⟩
abbrev S1x4x1024x768 : Shape := ⟨4, ![1, 4, 1024, 768]⟩
abbrev S1024x1024 : Shape := ⟨2, ![1024, 1024]⟩
abbrev S1024x768 : Shape := ⟨2, ![1024, 768]⟩
abbrev S1x1x1024x768 : Shape := ⟨4, ![1, 1, 1024, 768]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1x4x1024x768, .f32⟩
  | .hbm, ⟨3, _⟩ => ⟨S1x4x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x1x1024x768, .f32⟩
  | .local _ .vmem, ⟨5, _⟩ => ⟨S1x1x1024x768, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradQkvReferenceIdeal.lean ====
abbrev S16384x1024 : Shape := ⟨2, ![16384, 1024]⟩
abbrev S16384x3072 : Shape := ⟨2, ![16384, 3072]⟩
abbrev S1x4x1024x768 : Shape := ⟨4, ![1, 4, 1024, 768]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S1x4x1024x768, .f32⟩
  | .hbm, ⟨3, _⟩ => ⟨S_, .f32⟩
  | .hbm, ⟨4, _⟩ => ⟨S1024x3072, .f32⟩
  | .hbm, ⟨5, _⟩ => ⟨S16384x1024, .f32⟩
  | .hbm, ⟨6, _⟩ => ⟨S16384x3072, .f32⟩
  | .hbm, ⟨7, _⟩ => ⟨S16384x3072, .f32⟩
  | .hbm, ⟨8, _⟩ => ⟨S3072x1024, .f32⟩
  | .hbm, ⟨9, _⟩ => ⟨S1024x3072, .f32⟩
  | .hbm, ⟨10, _⟩ => ⟨S1024x4x768, .f32⟩
  | .hbm, ⟨11, _⟩ => ⟨S4x1024x768, .f32⟩
  | .hbm, ⟨12, _⟩ => ⟨S1x4x1024x768, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GradAttnOut.lean ====
abbrev S16384x1024 : Shape := ⟨2, ![16384, 1024]⟩
abbrev S1x1x1024x1024 : Shape := ⟨4, ![1, 1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1x1024x1024, .f32⟩
  | .hbm, ⟨3, _⟩ => ⟨S1x1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradAttnOutReferenceIdeal.lean ====
abbrev S16384x1024 : Shape := ⟨2, ![16384, 1024]⟩
abbrev S1x1x1024x1024 : Shape := ⟨4, ![1, 1, 1024, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1x1x1024x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1x1x1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutFwd.lean ====
abbrev S16384x1024 : Shape := ⟨2, ![16384, 1024]⟩
abbrev S8x1024 : Shape := ⟨2, ![8, 1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .bf16⟩
  | .hbm, ⟨4, _⟩ => ⟨S16384x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdReferenceIdeal.lean ====
abbrev S16384x1024 : Shape := ⟨2, ![16384, 1024]⟩
abbrev S8x1024 : Shape := ⟨2, ![8, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .bf16⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutBwd.lean ====
abbrev S16384x1024 : Shape := ⟨2, ![16384, 1024]⟩
abbrev S8x1024 : Shape := ⟨2, ![8, 1024]⟩
abbrev S1024x1024 : Shape := ⟨2, ![1024, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .bf16⟩
  | .hbm, ⟨4, _⟩ => ⟨S16384x1024, .bf16⟩
  | .hbm, ⟨5, _⟩ => ⟨S16384x1024, .bf16⟩
  | .hbm, ⟨6, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OutBwdReferenceIdeal.lean ====
abbrev S16384x1024 : Shape := ⟨2, ![16384, 1024]⟩
abbrev S8x1024 : Shape := ⟨2, ![8, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S2x1024 : Shape := ⟨2, ![2, 1024]⟩
abbrev S5x1024 : Shape := ⟨2, ![5, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x1024, .f32⟩
  | .hbm, ⟨3, _⟩ => ⟨S1024x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S16384x1024, .bf16⟩
  | .hbm, ⟨15, _⟩ => ⟨S_, .f32⟩
  | .hbm, ⟨16, _⟩ => ⟨S16384x1024, .f32⟩
  | .hbm, ⟨17, _⟩ => ⟨S1024x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S_, .f32⟩
  | .hbm, ⟨23, _⟩ => ⟨S2x1024, .f32⟩
  | .hbm, ⟨24, _⟩ => ⟨S_, .f32⟩
  | .hbm, ⟨25, _⟩ => ⟨S5x1024, .f32⟩
  | .hbm, ⟨26, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proof.AdamMath.lean ====
/- One AdamW step of one weight entry, and of an array of entries. -/
module

public import Idealize.ShloMosaic.PureOps
public import Idealize.ShloMosaic.Lib.Pointwise

@[expose] public section

noncomputable section

open Idealize.ShloMosaic

namespace Cert.Adam

/-- The first moment after the step, from the gradient and the moment before it. -/
def first (g m : EReal) : EReal :=
  Ideal.ofBits .f32 0x3F666666#32 * m + Ideal.ofBits .f32 0x3DCCCCCD#32 * g

/-- The second moment after the step, from the gradient and the moment before it. -/
def second (g v : EReal) : EReal :=
  Ideal.ofBits .f32 0x3F7FBE77#32 * v + Ideal.ofBits .f32 0x3A83126F#32 * (g * g)

/-- The quotient of the corrected first moment and the root of the corrected second. -/
def quotient (g m v : EReal) : EReal :=
  Ideal.div (Ideal.div (first g m) (Ideal.ofBits .f32 0x3F26BD02#32))
    (Ideal.sqrt (Ideal.div (second g v) (Ideal.ofBits .f32 0x3C231ACC#32)) + Ideal.ofBits .f32 0x322BCC77#32)

/-- The change of the weight: the quotient and the decay, at the learning rate. -/
def delta (w g m v : EReal) : EReal :=
  Ideal.ofBits .f32 0xBA83126F#32 * (quotient g m v + Ideal.ofBits .f32 0x3C23D70A#32 * w)

variable {ι : Type}

/-- The changes of an array of weights, entry by entry. -/
def deltas (w g m v : ι → EReal) : ι → EReal := fun i => delta (w i) (g i) (m i) (v i)
/-- The first moments after the step, entry by entry. -/
def firsts (g m : ι → EReal) : ι → EReal := fun i => first (g i) (m i)
/-- The second moments after the step, entry by entry. -/
def seconds (g v : ι → EReal) : ι → EReal := fun i => second (g i) (v i)

end Cert.Adam

end
-- ==== Proof.AdamFfn.lean ====
/- The optimiser's call for weights of shape [4, 2, 1024, 704]: its three arrays, entry by entry one AdamW step, and its reference's. -/
module

public import proofs.«01_k».proof.Defs
public import proofs.«01_k».proof.Proof.Gen.AdamFfnIdeal
public import proofs.«01_k».proof.Proof.Gen.AdamFfnIdeal.Frame
public import proofs.«01_k».proof.Proof.Gen.AdamFfnReferenceIdeal
public import proofs.«01_k».proof.Proof.Gen.AdamFfnReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamFfnIdeal.Step

open Cert.AdamFfnIdeal Cert.AdamFfnIdeal.Gen

variable (m : (ℓ : Loc nD τ sig) → Buf (Elt Ideal) ℓ) (ρ : Dev nD → PrngReg)

/-- The weights' changes of one block. -/
theorem block4 (x0 x1 x2 x3 : Vec Ideal S256x1024 .f32) (y : S256x1024.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v3) (V m c main_v4) (V m c main_v5) (V m c main_v6) : Vec Ideal S5632x1024 .f32) := by
  refine (dats m 0 c).arrAt_eq_of_covers 4 (Adam.deltas (V m c main_v3) (V m c main_v4) (V m c main_v5) (V m c main_v6) : Vec Ideal S5632x1024 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x1024 .f32) (y : S256x1024.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v4) (V m c main_v5) : Vec Ideal S5632x1024 .f32) := by
  refine (dats m 0 c).arrAt_eq_of_covers 5 (Adam.firsts (V m c main_v4) (V m c main_v5) : Vec Ideal S5632x1024 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x1024 .f32) (y : S256x1024.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v4) (V m c main_v6) : Vec Ideal S5632x1024 .f32) := by
  refine (dats m 0 c).arrAt_eq_of_covers 6 (Adam.seconds (V m c main_v4) (V m c main_v6) : Vec Ideal S5632x1024 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v3 = shapeCast S5632x1024 (transpose S4x2x704x1024 [0, 1, 3, 2] (m (c.tc.loc main_arg0)) transposes_S4x2x1024x704_S4x2x704x1024_0_1_3_2) shapeCasts_S4x2x704x1024_S5632x1024 := by
  unfold V V0 hostOps0
  simp only [List.flatten_cons, List.flatten_nil, List.append_nil]
  after_results_simp
  rfl

/-- Operand 1 of the call, from the arguments. -/
theorem operand1 (c : Dev nD) : V m c main_v4 = shapeCast S5632x1024 (m (c.tc.loc main_arg1)) shapeCasts_S4x2x704x1024_S5632x1024 := by
  unfold V V0 hostOps0
  simp only [List.flatten_cons, List.flatten_nil, List.append_nil]
  after_results_simp
  rfl

/-- Operand 2 of the call, from the arguments. -/
theorem operand2 (c : Dev nD) : V m c main_v5 = shapeCast S5632x1024 (transpose S4x2x704x1024 [0, 1, 3, 2] (m (c.tc.loc main_arg2)) transposes_S4x2x1024x704_S4x2x704x1024_0_1_3_2) shapeCasts_S4x2x704x1024_S5632x1024 := by
  unfold V V0 hostOps0
  simp only [List.flatten_cons, List.flatten_nil, List.append_nil]
  after_results_simp
  rfl

/-- Operand 3 of the call, from the arguments. -/
theorem operand3 (c : Dev nD) : V m c main_v6 = shapeCast S5632x1024 (transpose S4x2x704x1024 [0, 1, 3, 2] (m (c.tc.loc main_arg3)) transposes_S4x2x1024x704_S4x2x704x1024_0_1_3_2) shapeCasts_S4x2x704x1024_S5632x1024 := by
  unfold V V0 hostOps0
  simp only [List.flatten_cons, List.flatten_nil, List.append_nil]
  after_results_simp
  rfl

/-- A transpose of the last two axes there and back. -/
theorem back (x : Vec Ideal S4x2x1024x704 .f32) : transpose S4x2x1024x704 [0, 1, 3, 2] (transpose S4x2x704x1024 [0, 1, 3, 2] x
    transposes_S4x2x1024x704_S4x2x704x1024_0_1_3_2) transposes_S4x2x704x1024_S4x2x1024x704_0_1_3_2 = x := by
  funext i
  idx_vars i
  pointwise

/-- The weights' changes at the end, through the host lines after the call. -/
theorem tail4 (c : Dev nD) : Pipeline.afterTail₀ cfgs (dats m) 0 (V0 m) [hostOps1] c main_v11 = transpose S4x2x1024x704 [0, 1, 3, 2] (shapeCast S4x2x704x1024 ((dats m 0 c).arrAt 4 cfg0.N) shapeCasts_S5632x1024_S4x2x704x1024) transposes_S4x2x704x1024_S4x2x1024x704_0_1_3_2 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v7_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v11
    = (Adam.deltas (m (c.tc.loc main_arg0)) (transpose S4x2x1024x704 [0, 1, 3, 2] (m (c.tc.loc main_arg1)) transposes_S4x2x704x1024_S4x2x1024x704_0_1_3_2) (m (c.tc.loc main_arg2)) (m (c.tc.loc main_arg3)) : Vec Ideal S4x2x1024x704 .f32) := by
  rw [tail4, rows4, operand0, operand1, operand2, operand3]
  refine Eq.trans (show _ = (Adam.deltas (transpose S4x2x1024x704 [0, 1, 3, 2] (shapeCast S4x2x704x1024 (shapeCast S5632x1024 (transpose S4x2x704x1024 [0, 1, 3, 2] (m (c.tc.loc main_arg0)) transposes_S4x2x1024x704_S4x2x704x1024_0_1_3_2) shapeCasts_S4x2x704x1024_S5632x1024) shapeCasts_S5632x1024_S4x2x704x1024) transposes_S4x2x704x1024_S4x2x1024x704_0_1_3_2) (transpose S4x2x1024x704 [0, 1, 3, 2] (shapeCast S4x2x704x1024 (shapeCast S5632x1024 (m (c.tc.loc main_arg1)) shapeCasts_S4x2x704x1024_S5632x1024) shapeCasts_S5632x1024_S4x2x704x1024) transposes_S4x2x704x1024_S4x2x1024x704_0_1_3_2) (transpose S4x2x1024x704 [0, 1, 3, 2] (shapeCast S4x2x704x1024 (shapeCast S5632x1024 (transpose S4x2x704x1024 [0, 1, 3, 2] (m (c.tc.loc main_arg2)) transposes_S4x2x1024x704_S4x2x704x1024_0_1_3_2) shapeCasts_S4x2x704x1024_S5632x1024) shapeCasts_S5632x1024_S4x2x704x1024) transposes_S4x2x704x1024_S4x2x1024x704_0_1_3_2) (transpose S4x2x1024x704 [0, 1, 3, 2] (shapeCast S4x2x704x1024 (shapeCast S5632x1024 (transpose S4x2x704x1024 [0, 1, 3, 2] (m (c.tc.loc main_arg3)) transposes_S4x2x1024x704_S4x2x704x1024_0_1_3_2) shapeCasts_S4x2x704x1024_S5632x1024) shapeCasts_S5632x1024_S4x2x704x1024) transposes_S4x2x704x1024_S4x2x1024x704_0_1_3_2) : Vec Ideal S4x2x1024x704 .f32) from rfl) ?_
  simp only [Idealize.ShloMosaic.shapeCast_shapeCast]
  congr 1 <;> exact back _

/-- The first moments at the end, through the host lines after the call. -/
theorem tail5 (c : Dev nD) : Pipeline.afterTail₀ cfgs (dats m) 0 (V0 m) [hostOps1] c main_v12 = transpose S4x2x1024x704 [0, 1, 3, 2] (shapeCast S4x2x704x1024 ((dats m 0 c).arrAt 5 cfg0.N) shapeCasts_S5632x1024_S4x2x704x1024) transposes_S4x2x704x1024_S4x2x1024x704_0_1_3_2 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v7_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v12
    = (Adam.firsts (transpose S4x2x1024x704 [0, 1, 3, 2] (m (c.tc.loc main_arg1)) transposes_S4x2x704x1024_S4x2x1024x704_0_1_3_2) (m (c.tc.loc main_arg2)) : Vec Ideal S4x2x1024x704 .f32) := by
  rw [tail5, rows5, operand1, operand2]
  refine Eq.trans (show _ = (Adam.firsts (transpose S4x2x1024x704 [0, 1, 3, 2] (shapeCast S4x2x704x1024 (shapeCast S5632x1024 (m (c.tc.loc main_arg1)) shapeCasts_S4x2x704x1024_S5632x1024) shapeCasts_S5632x1024_S4x2x704x1024) transposes_S4x2x704x1024_S4x2x1024x704_0_1_3_2) (transpose S4x2x1024x704 [0, 1, 3, 2] (shapeCast S4x2x704x1024 (shapeCast S5632x1024 (transpose S4x2x704x1024 [0, 1, 3, 2] (m (c.tc.loc main_arg2)) transposes_S4x2x1024x704_S4x2x704x1024_0_1_3_2) shapeCasts_S4x2x704x1024_S5632x1024) shapeCasts_S5632x1024_S4x2x704x1024) transposes_S4x2x704x1024_S4x2x1024x704_0_1_3_2) : Vec Ideal S4x2x1024x704 .f32) from rfl) ?_
  simp only [Idealize.ShloMosaic.shapeCast_shapeCast]
  congr 1 <;> exact back _

/-- The second moments at the end, through the host lines after the call. -/
theorem tail6 (c : Dev nD) : Pipeline.afterTail₀ cfgs (dats m) 0 (V0 m) [hostOps1] c main_v13 = transpose S4x2x1024x704 [0, 1, 3, 2] (shapeCast S4x2x704x1024 ((dats m 0 c).arrAt 6 cfg0.N) shapeCasts_S5632x1024_S4x2x704x1024) transposes_S4x2x704x1024_S4x2x1024x704_0_1_3_2 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v7_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v13
    = (Adam.seconds (transpose S4x2x1024x704 [0, 1, 3, 2] (m (c.tc.loc main_arg1)) transposes_S4x2x704x1024_S4x2x1024x704_0_1_3_2) (m (c.tc.loc main_arg3)) : Vec Ideal S4x2x1024x704 .f32) := by
  rw [tail6, rows6, operand1, operand3]
  refine Eq.trans (show _ = (Adam.seconds (transpose S4x2x1024x704 [0, 1, 3, 2] (shapeCast S4x2x704x1024 (shapeCast S5632x1024 (m (c.tc.loc main_arg1)) shapeCasts_S4x2x704x1024_S5632x1024) shapeCasts_S5632x1024_S4x2x704x1024) transposes_S4x2x704x1024_S4x2x1024x704_0_1_3_2) (transpose S4x2x1024x704 [0, 1, 3, 2] (shapeCast S4x2x704x1024 (shapeCast S5632x1024 (transpose S4x2x704x1024 [0, 1, 3, 2] (m (c.tc.loc main_arg3)) transposes_S4x2x1024x704_S4x2x704x1024_0_1_3_2) shapeCasts_S4x2x704x1024_S5632x1024) shapeCasts_S5632x1024_S4x2x704x1024) transposes_S4x2x704x1024_S4x2x1024x704_0_1_3_2) : Vec Ideal S4x2x1024x704 .f32) from rfl) ?_
  simp only [Idealize.ShloMosaic.shapeCast_shapeCast]
  congr 1 <;> exact back _

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v11) = (Adam.deltas (m (c.tc.loc main_arg0)) (transpose S4x2x1024x704 [0, 1, 3, 2] (m (c.tc.loc main_arg1)) transposes_S4x2x704x1024_S4x2x1024x704_0_1_3_2) (m (c.tc.loc main_arg2)) (m (c.tc.loc main_arg3)) : Vec Ideal S4x2x1024x704 .f32)
      ∧ r.2.mem (c.tc.loc main_v12) = (Adam.firsts (transpose S4x2x1024x704 [0, 1, 3, 2] (m (c.tc.loc main_arg1)) transposes_S4x2x704x1024_S4x2x1024x704_0_1_3_2) (m (c.tc.loc main_arg2)) : Vec Ideal S4x2x1024x704 .f32)
      ∧ r.2.mem (c.tc.loc main_v13) = (Adam.seconds (transpose S4x2x1024x704 [0, 1, 3, 2] (m (c.tc.loc main_arg1)) transposes_S4x2x704x1024_S4x2x1024x704_0_1_3_2) (m (c.tc.loc main_arg3)) : Vec Ideal S4x2x1024x704 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v11 (Pipeline.mem_restRefs_of main_v11 (by decide) (by decide))).trans (left4 m c),
    ((h c).2 main_v12 (Pipeline.mem_restRefs_of main_v12 (by decide) (by decide))).trans (left5 m c),
    ((h c).2 main_v13 (Pipeline.mem_restRefs_of main_v13 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamFfnReferenceIdeal.nD AdamFfnReferenceIdeal.τ AdamFfnReferenceIdeal.sig) → Buf (Elt Ideal) ℓ) (ρ : Dev AdamFfnReferenceIdeal.nD → PrngReg) :
    θ_run (AdamFfnReferenceIdeal.defs (F := Ideal)) (onTc (τ := AdamFfnReferenceIdeal.τ) (AdamFfnReferenceIdeal.main (F := Ideal))) ⟨m, fun _ => 0, ρ⟩ fun r =>
      ∀ c : Dev AdamFfnReferenceIdeal.nD, (r.2.mem (c.tc.loc AdamFfnReferenceIdeal.main_v24) = (Adam.deltas (m (c.tc.loc AdamFfnReferenceIdeal.main_arg0)) (transpose S4x2x1024x704 [0, 1, 3, 2] (m (c.tc.loc AdamFfnReferenceIdeal.main_arg1)) transposes_S4x2x704x1024_S4x2x1024x704_0_1_3_2) (m (c.tc.loc AdamFfnReferenceIdeal.main_arg2)) (m (c.tc.loc AdamFfnReferenceIdeal.main_arg3)) : Vec Ideal S4x2x1024x704 .f32)
      ∧ r.2.mem (c.tc.loc AdamFfnReferenceIdeal.main_v5) = (Adam.firsts (transpose S4x2x1024x704 [0, 1, 3, 2] (m (c.tc.loc AdamFfnReferenceIdeal.main_arg1)) transposes_S4x2x704x1024_S4x2x1024x704_0_1_3_2) (m (c.tc.loc AdamFfnReferenceIdeal.main_arg2)) : Vec Ideal S4x2x1024x704 .f32)
      ∧ r.2.mem (c.tc.loc AdamFfnReferenceIdeal.main_v11) = (Adam.seconds (transpose S4x2x1024x704 [0, 1, 3, 2] (m (c.tc.loc AdamFfnReferenceIdeal.main_arg1)) transposes_S4x2x704x1024_S4x2x1024x704_0_1_3_2) (m (c.tc.loc AdamFfnReferenceIdeal.main_arg3)) : Vec Ideal S4x2x1024x704 .f32))
      ∧ r.2.mem (c.tc.loc AdamFfnReferenceIdeal.main_arg0) = m (c.tc.loc AdamFfnReferenceIdeal.main_arg0)
      ∧ r.2.mem (c.tc.loc AdamFfnReferenceIdeal.main_arg1) = m (c.tc.loc AdamFfnReferenceIdeal.main_arg1)
      ∧ r.2.mem (c.tc.loc AdamFfnReferenceIdeal.main_arg2) = m (c.tc.loc AdamFfnReferenceIdeal.main_arg2)
      ∧ r.2.mem (c.tc.loc AdamFfnReferenceIdeal.main_arg3) = m (c.tc.loc AdamFfnReferenceIdeal.main_arg3) := by
  refine (θ_run _ _ _).mono (fun r h c => ?_) (AdamFfnReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamFfnReferenceIdeal (hAdamFfnReferenceIdeal := AdamFfnReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamFfnIdeal_AdamFfnReferenceIdeal (hAdamFfnIdeal := Cert.AdamFfnIdeal.Gen.facts) (hAdamFfnReferenceIdeal := AdamFfnReferenceIdeal.Gen.facts) := by
  intro m ρ m' ρ' _ hargs
  refine ⟨fun c => (Adam.deltas (m (c.tc.loc main_arg0)) (transpose S4x2x1024x704 [0, 1, 3, 2] (m (c.tc.loc main_arg1)) transposes_S4x2x704x1024_S4x2x1024x704_0_1_3_2) (m (c.tc.loc main_arg2)) (m (c.tc.loc main_arg3)) : Vec Ideal S4x2x1024x704 .f32),
    fun c => (Adam.firsts (transpose S4x2x1024x704 [0, 1, 3, 2] (m (c.tc.loc main_arg1)) transposes_S4x2x704x1024_S4x2x1024x704_0_1_3_2) (m (c.tc.loc main_arg2)) : Vec Ideal S4x2x1024x704 .f32),
    fun c => (Adam.seconds (transpose S4x2x1024x704 [0, 1, 3, 2] (m (c.tc.loc main_arg1)) transposes_S4x2x704x1024_S4x2x1024x704_0_1_3_2) (m (c.tc.loc main_arg3)) : Vec Ideal S4x2x1024x704 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamFfnIdeal.Step
-- ==== Proof.AdamFfnOut.lean ====
/- The optimiser's call for weights of shape [4, 2, 704, 1024]: its three arrays, entry by entry one AdamW step, and its reference's. -/
module

public import proofs.«01_k».proof.Defs
public import proofs.«01_k».proof.Proof.Gen.AdamFfnOutIdeal
public import proofs.«01_k».proof.Proof.Gen.AdamFfnOutIdeal.Frame
public import proofs.«01_k».proof.Proof.Gen.AdamFfnOutReferenceIdeal
public import proofs.«01_k».proof.Proof.Gen.AdamFfnOutReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamFfnOutIdeal.Step

open Cert.AdamFfnOutIdeal Cert.AdamFfnOutIdeal.Gen

variable (m : (ℓ : Loc nD τ sig) → Buf (Elt Ideal) ℓ) (ρ : Dev nD → PrngReg)

/-- The weights' changes of one block. -/
theorem block4 (x0 x1 x2 x3 : Vec Ideal S256x1024 .f32) (y : S256x1024.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S5632x1024 .f32) := by
  refine (dats m 0 c).arrAt_eq_of_covers 4 (Adam.deltas (V m c main_v0) (V m c main_v1) (V m c main_v2) (V m c main_v3) : Vec Ideal S5632x1024 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x1024 .f32) (y : S256x1024.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S5632x1024 .f32) := by
  refine (dats m 0 c).arrAt_eq_of_covers 5 (Adam.firsts (V m c main_v1) (V m c main_v2) : Vec Ideal S5632x1024 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x1024 .f32) (y : S256x1024.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S5632x1024 .f32) := by
  refine (dats m 0 c).arrAt_eq_of_covers 6 (Adam.seconds (V m c main_v1) (V m c main_v3) : Vec Ideal S5632x1024 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S5632x1024 (m (c.tc.loc main_arg0)) shapeCasts_S4x2x704x1024_S5632x1024 := by
  unfold V V0 hostOps0
  simp only [List.flatten_cons, List.flatten_nil, List.append_nil]
  after_results_simp
  rfl

/-- Operand 1 of the call, from the arguments. -/
theorem operand1 (c : Dev nD) : V m c main_v1 = shapeCast S5632x1024 (m (c.tc.loc main_arg1)) shapeCasts_S4x2x704x1024_S5632x1024 := by
  unfold V V0 hostOps0
  simp only [List.flatten_cons, List.flatten_nil, List.append_nil]
  after_results_simp
  rfl

/-- Operand 2 of the call, from the arguments. -/
theorem operand2 (c : Dev nD) : V m c main_v2 = shapeCast S5632x1024 (m (c.tc.loc main_arg2)) shapeCasts_S4x2x704x1024_S5632x1024 := by
  unfold V V0 hostOps0
  simp only [List.flatten_cons, List.flatten_nil, List.append_nil]
  after_results_simp
  rfl

/-- Operand 3 of the call, from the arguments. -/
theorem operand3 (c : Dev nD) : V m c main_v3 = shapeCast S5632x1024 (m (c.tc.loc main_arg3)) shapeCasts_S4x2x704x1024_S5632x1024 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S4x2x704x1024 ((dats m 0 c).arrAt 4 cfg0.N) shapeCasts_S5632x1024_S4x2x704x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S4x2x704x1024 .f32) := by
  rw [tail4, rows4, operand0, operand1, operand2, operand3]
  refine Eq.trans (show _ = (Adam.deltas (shapeCast S4x2x704x1024 (shapeCast S5632x1024 (m (c.tc.loc main_arg0)) shapeCasts_S4x2x704x1024_S5632x1024) shapeCasts_S5632x1024_S4x2x704x1024) (shapeCast S4x2x704x1024 (shapeCast S5632x1024 (m (c.tc.loc main_arg1)) shapeCasts_S4x2x704x1024_S5632x1024) shapeCasts_S5632x1024_S4x2x704x1024) (shapeCast S4x2x704x1024 (shapeCast S5632x1024 (m (c.tc.loc main_arg2)) shapeCasts_S4x2x704x1024_S5632x1024) shapeCasts_S5632x1024_S4x2x704x1024) (shapeCast S4x2x704x1024 (shapeCast S5632x1024 (m (c.tc.loc main_arg3)) shapeCasts_S4x2x704x1024_S5632x1024) shapeCasts_S5632x1024_S4x2x704x1024) : Vec Ideal S4x2x704x1024 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S4x2x704x1024 ((dats m 0 c).arrAt 5 cfg0.N) shapeCasts_S5632x1024_S4x2x704x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S4x2x704x1024 .f32) := by
  rw [tail5, rows5, operand1, operand2]
  refine Eq.trans (show _ = (Adam.firsts (shapeCast S4x2x704x1024 (shapeCast S5632x1024 (m (c.tc.loc main_arg1)) shapeCasts_S4x2x704x1024_S5632x1024) shapeCasts_S5632x1024_S4x2x704x1024) (shapeCast S4x2x704x1024 (shapeCast S5632x1024 (m (c.tc.loc main_arg2)) shapeCasts_S4x2x704x1024_S5632x1024) shapeCasts_S5632x1024_S4x2x704x1024) : Vec Ideal S4x2x704x1024 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S4x2x704x1024 ((dats m 0 c).arrAt 6 cfg0.N) shapeCasts_S5632x1024_S4x2x704x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S4x2x704x1024 .f32) := by
  rw [tail6, rows6, operand1, operand3]
  refine Eq.trans (show _ = (Adam.seconds (shapeCast S4x2x704x1024 (shapeCast S5632x1024 (m (c.tc.loc main_arg1)) shapeCasts_S4x2x704x1024_S5632x1024) shapeCasts_S5632x1024_S4x2x704x1024) (shapeCast S4x2x704x1024 (shapeCast S5632x1024 (m (c.tc.loc main_arg3)) shapeCasts_S4x2x704x1024_S5632x1024) shapeCasts_S5632x1024_S4x2x704x1024) : Vec Ideal S4x2x704x1024 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S4x2x704x1024 .f32)
      ∧ r.2.mem (c.tc.loc main_v6) = (Adam.firsts (m (c.tc.loc main_arg1)) (m (c.tc.loc main_arg2)) : Vec Ideal S4x2x704x1024 .f32)
      ∧ r.2.mem (c.tc.loc main_v7) = (Adam.seconds (m (c.tc.loc main_arg1)) (m (c.tc.loc main_arg3)) : Vec Ideal S4x2x704x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamFfnOutReferenceIdeal.nD AdamFfnOutReferenceIdeal.τ AdamFfnOutReferenceIdeal.sig) → Buf (Elt Ideal) ℓ) (ρ : Dev AdamFfnOutReferenceIdeal.nD → PrngReg) :
    θ_run (AdamFfnOutReferenceIdeal.defs (F := Ideal)) (onTc (τ := AdamFfnOutReferenceIdeal.τ) (AdamFfnOutReferenceIdeal.main (F := Ideal))) ⟨m, fun _ => 0, ρ⟩ fun r =>
      ∀ c : Dev AdamFfnOutReferenceIdeal.nD, (r.2.mem (c.tc.loc AdamFfnOutReferenceIdeal.main_v23) = (Adam.deltas (m (c.tc.loc AdamFfnOutReferenceIdeal.main_arg0)) (m (c.tc.loc AdamFfnOutReferenceIdeal.main_arg1)) (m (c.tc.loc AdamFfnOutReferenceIdeal.main_arg2)) (m (c.tc.loc AdamFfnOutReferenceIdeal.main_arg3)) : Vec Ideal S4x2x704x1024 .f32)
      ∧ r.2.mem (c.tc.loc AdamFfnOutReferenceIdeal.main_v4) = (Adam.firsts (m (c.tc.loc AdamFfnOutReferenceIdeal.main_arg1)) (m (c.tc.loc AdamFfnOutReferenceIdeal.main_arg2)) : Vec Ideal S4x2x704x1024 .f32)
      ∧ r.2.mem (c.tc.loc AdamFfnOutReferenceIdeal.main_v10) = (Adam.seconds (m (c.tc.loc AdamFfnOutReferenceIdeal.main_arg1)) (m (c.tc.loc AdamFfnOutReferenceIdeal.main_arg3)) : Vec Ideal S4x2x704x1024 .f32))
      ∧ r.2.mem (c.tc.loc AdamFfnOutReferenceIdeal.main_arg0) = m (c.tc.loc AdamFfnOutReferenceIdeal.main_arg0)
      ∧ r.2.mem (c.tc.loc AdamFfnOutReferenceIdeal.main_arg1) = m (c.tc.loc AdamFfnOutReferenceIdeal.main_arg1)
      ∧ r.2.mem (c.tc.loc AdamFfnOutReferenceIdeal.main_arg2) = m (c.tc.loc AdamFfnOutReferenceIdeal.main_arg2)
      ∧ r.2.mem (c.tc.loc AdamFfnOutReferenceIdeal.main_arg3) = m (c.tc.loc AdamFfnOutReferenceIdeal.main_arg3) := by
  refine (θ_run _ _ _).mono (fun r h c => ?_) (AdamFfnOutReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamFfnOutReferenceIdeal (hAdamFfnOutReferenceIdeal := AdamFfnOutReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamFfnOutIdeal_AdamFfnOutReferenceIdeal (hAdamFfnOutIdeal := Cert.AdamFfnOutIdeal.Gen.facts) (hAdamFfnOutReferenceIdeal := AdamFfnOutReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S4x2x704x1024 .f32),
    fun c => (Adam.firsts (m (c.tc.loc main_arg1)) (m (c.tc.loc main_arg2)) : Vec Ideal S4x2x704x1024 .f32),
    fun c => (Adam.seconds (m (c.tc.loc main_arg1)) (m (c.tc.loc main_arg3)) : Vec Ideal S4x2x704x1024 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamFfnOutIdeal.Step
-- ==== Proof.AdamConvIn.lean ====
/- The optimiser's call for weights of shape [2, 1024, 512]: its three arrays, entry by entry one AdamW step, and its reference's. -/
module

public import proofs.«01_k».proof.Defs
public import proofs.«01_k».proof.Proof.Gen.AdamConvInIdeal
public import proofs.«01_k».proof.Proof.Gen.AdamConvInIdeal.Frame
public import proofs.«01_k».proof.Proof.Gen.AdamConvInReferenceIdeal
public import proofs.«01_k».proof.Proof.Gen.AdamConvInReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamConvInIdeal.Step

open Cert.AdamConvInIdeal Cert.AdamConvInIdeal.Gen

variable (m : (ℓ : Loc nD τ sig) → Buf (Elt Ideal) ℓ) (ρ : Dev nD → PrngReg)

/-- The weights' changes of one block. -/
theorem block4 (x0 x1 x2 x3 : Vec Ideal S512x512 .f32) (y : S512x512.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S2048x512 .f32) := by
  refine (dats m 0 c).arrAt_eq_of_covers 4 (Adam.deltas (V m c main_v0) (V m c main_v1) (V m c main_v2) (V m c main_v3) : Vec Ideal S2048x512 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S512x512 .f32) (y : S512x512.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S2048x512 .f32) := by
  refine (dats m 0 c).arrAt_eq_of_covers 5 (Adam.firsts (V m c main_v1) (V m c main_v2) : Vec Ideal S2048x512 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S512x512 .f32) (y : S512x512.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S2048x512 .f32) := by
  refine (dats m 0 c).arrAt_eq_of_covers 6 (Adam.seconds (V m c main_v1) (V m c main_v3) : Vec Ideal S2048x512 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S2048x512 (m (c.tc.loc main_arg0)) shapeCasts_S2x1024x512_S2048x512 := by
  unfold V V0 hostOps0
  simp only [List.flatten_cons, List.flatten_nil, List.append_nil]
  after_results_simp
  rfl

/-- Operand 1 of the call, from the arguments. -/
theorem operand1 (c : Dev nD) : V m c main_v1 = shapeCast S2048x512 (m (c.tc.loc main_arg1)) shapeCasts_S2x1024x512_S2048x512 := by
  unfold V V0 hostOps0
  simp only [List.flatten_cons, List.flatten_nil, List.append_nil]
  after_results_simp
  rfl

/-- Operand 2 of the call, from the arguments. -/
theorem operand2 (c : Dev nD) : V m c main_v2 = shapeCast S2048x512 (m (c.tc.loc main_arg2)) shapeCasts_S2x1024x512_S2048x512 := by
  unfold V V0 hostOps0
  simp only [List.flatten_cons, List.flatten_nil, List.append_nil]
  after_results_simp
  rfl

/-- Operand 3 of the call, from the arguments. -/
theorem operand3 (c : Dev nD) : V m c main_v3 = shapeCast S2048x512 (m (c.tc.loc main_arg3)) shapeCasts_S2x1024x512_S2048x512 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S2x1024x512 ((dats m 0 c).arrAt 4 cfg0.N) shapeCasts_S2048x512_S2x1024x512 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S2x1024x512 .f32) := by
  rw [tail4, rows4, operand0, operand1, operand2, operand3]
  refine Eq.trans (show _ = (Adam.deltas (shapeCast S2x1024x512 (shapeCast S2048x512 (m (c.tc.loc main_arg0)) shapeCasts_S2x1024x512_S2048x512) shapeCasts_S2048x512_S2x1024x512) (shapeCast S2x1024x512 (shapeCast S2048x512 (m (c.tc.loc main_arg1)) shapeCasts_S2x1024x512_S2048x512) shapeCasts_S2048x512_S2x1024x512) (shapeCast S2x1024x512 (shapeCast S2048x512 (m (c.tc.loc main_arg2)) shapeCasts_S2x1024x512_S2048x512) shapeCasts_S2048x512_S2x1024x512) (shapeCast S2x1024x512 (shapeCast S2048x512 (m (c.tc.loc main_arg3)) shapeCasts_S2x1024x512_S2048x512) shapeCasts_S2048x512_S2x1024x512) : Vec Ideal S2x1024x512 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S2x1024x512 ((dats m 0 c).arrAt 5 cfg0.N) shapeCasts_S2048x512_S2x1024x512 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S2x1024x512 .f32) := by
  rw [tail5, rows5, operand1, operand2]
  refine Eq.trans (show _ = (Adam.firsts (shapeCast S2x1024x512 (shapeCast S2048x512 (m (c.tc.loc main_arg1)) shapeCasts_S2x1024x512_S2048x512) shapeCasts_S2048x512_S2x1024x512) (shapeCast S2x1024x512 (shapeCast S2048x512 (m (c.tc.loc main_arg2)) shapeCasts_S2x1024x512_S2048x512) shapeCasts_S2048x512_S2x1024x512) : Vec Ideal S2x1024x512 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S2x1024x512 ((dats m 0 c).arrAt 6 cfg0.N) shapeCasts_S2048x512_S2x1024x512 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S2x1024x512 .f32) := by
  rw [tail6, rows6, operand1, operand3]
  refine Eq.trans (show _ = (Adam.seconds (shapeCast S2x1024x512 (shapeCast S2048x512 (m (c.tc.loc main_arg1)) shapeCasts_S2x1024x512_S2048x512) shapeCasts_S2048x512_S2x1024x512) (shapeCast S2x1024x512 (shapeCast S2048x512 (m (c.tc.loc main_arg3)) shapeCasts_S2x1024x512_S2048x512) shapeCasts_S2048x512_S2x1024x512) : Vec Ideal S2x1024x512 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S2x1024x512 .f32)
      ∧ r.2.mem (c.tc.loc main_v6) = (Adam.firsts (m (c.tc.loc main_arg1)) (m (c.tc.loc main_arg2)) : Vec Ideal S2x1024x512 .f32)
      ∧ r.2.mem (c.tc.loc main_v7) = (Adam.seconds (m (c.tc.loc main_arg1)) (m (c.tc.loc main_arg3)) : Vec Ideal S2x1024x512 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamConvInReferenceIdeal.nD AdamConvInReferenceIdeal.τ AdamConvInReferenceIdeal.sig) → Buf (Elt Ideal) ℓ) (ρ : Dev AdamConvInReferenceIdeal.nD → PrngReg) :
    θ_run (AdamConvInReferenceIdeal.defs (F := Ideal)) (onTc (τ := AdamConvInReferenceIdeal.τ) (AdamConvInReferenceIdeal.main (F := Ideal))) ⟨m, fun _ => 0, ρ⟩ fun r =>
      ∀ c : Dev AdamConvInReferenceIdeal.nD, (r.2.mem (c.tc.loc AdamConvInReferenceIdeal.main_v23) = (Adam.deltas (m (c.tc.loc AdamConvInReferenceIdeal.main_arg0)) (m (c.tc.loc AdamConvInReferenceIdeal.main_arg1)) (m (c.tc.loc AdamConvInReferenceIdeal.main_arg2)) (m (c.tc.loc AdamConvInReferenceIdeal.main_arg3)) : Vec Ideal S2x1024x512 .f32)
      ∧ r.2.mem (c.tc.loc AdamConvInReferenceIdeal.main_v4) = (Adam.firsts (m (c.tc.loc AdamConvInReferenceIdeal.main_arg1)) (m (c.tc.loc AdamConvInReferenceIdeal.main_arg2)) : Vec Ideal S2x1024x512 .f32)
      ∧ r.2.mem (c.tc.loc AdamConvInReferenceIdeal.main_v10) = (Adam.seconds (m (c.tc.loc AdamConvInReferenceIdeal.main_arg1)) (m (c.tc.loc AdamConvInReferenceIdeal.main_arg3)) : Vec Ideal S2x1024x512 .f32))
      ∧ r.2.mem (c.tc.loc AdamConvInReferenceIdeal.main_arg0) = m (c.tc.loc AdamConvInReferenceIdeal.main_arg0)
      ∧ r.2.mem (c.tc.loc AdamConvInReferenceIdeal.main_arg1) = m (c.tc.loc AdamConvInReferenceIdeal.main_arg1)
      ∧ r.2.mem (c.tc.loc AdamConvInReferenceIdeal.main_arg2) = m (c.tc.loc AdamConvInReferenceIdeal.main_arg2)
      ∧ r.2.mem (c.tc.loc AdamConvInReferenceIdeal.main_arg3) = m (c.tc.loc AdamConvInReferenceIdeal.main_arg3) := by
  refine (θ_run _ _ _).mono (fun r h c => ?_) (AdamConvInReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamConvInReferenceIdeal (hAdamConvInReferenceIdeal := AdamConvInReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamConvInIdeal_AdamConvInReferenceIdeal (hAdamConvInIdeal := Cert.AdamConvInIdeal.Gen.facts) (hAdamConvInReferenceIdeal := AdamConvInReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S2x1024x512 .f32),
    fun c => (Adam.firsts (m (c.tc.loc main_arg1)) (m (c.tc.loc main_arg2)) : Vec Ideal S2x1024x512 .f32),
    fun c => (Adam.seconds (m (c.tc.loc main_arg1)) (m (c.tc.loc main_arg3)) : Vec Ideal S2x1024x512 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamConvInIdeal.Step
-- ==== Proof.AdamConvOut.lean ====
/- The optimiser's call for weights of shape [2, 256, 1024]: its three arrays, entry by entry one AdamW step, and its reference's. -/
module

public import proofs.«01_k».proof.Defs
public import proofs.«01_k».proof.Proof.Gen.AdamConvOutIdeal
public import proofs.«01_k».proof.Proof.Gen.AdamConvOutIdeal.Frame
public import proofs.«01_k».proof.Proof.Gen.AdamConvOutReferenceIdeal
public import proofs.«01_k».proof.Proof.Gen.AdamConvOutReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamConvOutIdeal.Step

open Cert.AdamConvOutIdeal Cert.AdamConvOutIdeal.Gen

variable (m : (ℓ : Loc nD τ sig) → Buf (Elt Ideal) ℓ) (ρ : Dev nD → PrngReg)

/-- The weights' changes of one block. -/
theorem block4 (x0 x1 x2 x3 : Vec Ideal S256x1024 .f32) (y : S256x1024.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S512x1024 .f32) := by
  refine (dats m 0 c).arrAt_eq_of_covers 4 (Adam.deltas (V m c main_v0) (V m c main_v1) (V m c main_v2) (V m c main_v3) : Vec Ideal S512x1024 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x1024 .f32) (y : S256x1024.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S512x1024 .f32) := by
  refine (dats m 0 c).arrAt_eq_of_covers 5 (Adam.firsts (V m c main_v1) (V m c main_v2) : Vec Ideal S512x1024 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x1024 .f32) (y : S256x1024.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S512x1024 .f32) := by
  refine (dats m 0 c).arrAt_eq_of_covers 6 (Adam.seconds (V m c main_v1) (V m c main_v3) : Vec Ideal S512x1024 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S512x1024 (m (c.tc.loc main_arg0)) shapeCasts_S2x256x1024_S512x1024 := by
  unfold V V0 hostOps0
  simp only [List.flatten_cons, List.flatten_nil, List.append_nil]
  after_results_simp
  rfl

/-- Operand 1 of the call, from the arguments. -/
theorem operand1 (c : Dev nD) : V m c main_v1 = shapeCast S512x1024 (m (c.tc.loc main_arg1)) shapeCasts_S2x256x1024_S512x1024 := by
  unfold V V0 hostOps0
  simp only [List.flatten_cons, List.flatten_nil, List.append_nil]
  after_results_simp
  rfl

/-- Operand 2 of the call, from the arguments. -/
theorem operand2 (c : Dev nD) : V m c main_v2 = shapeCast S512x1024 (m (c.tc.loc main_arg2)) shapeCasts_S2x256x1024_S512x1024 := by
  unfold V V0 hostOps0
  simp only [List.flatten_cons, List.flatten_nil, List.append_nil]
  after_results_simp
  rfl

/-- Operand 3 of the call, from the arguments. -/
theorem operand3 (c : Dev nD) : V m c main_v3 = shapeCast S512x1024 (m (c.tc.loc main_arg3)) shapeCasts_S2x256x1024_S512x1024 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S2x256x1024 ((dats m 0 c).arrAt 4 cfg0.N) shapeCasts_S512x1024_S2x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S2x256x1024 .f32) := by
  rw [tail4, rows4, operand0, operand1, operand2, operand3]
  refine Eq.trans (show _ = (Adam.deltas (shapeCast S2x256x1024 (shapeCast S512x1024 (m (c.tc.loc main_arg0)) shapeCasts_S2x256x1024_S512x1024) shapeCasts_S512x1024_S2x256x1024) (shapeCast S2x256x1024 (shapeCast S512x1024 (m (c.tc.loc main_arg1)) shapeCasts_S2x256x1024_S512x1024) shapeCasts_S512x1024_S2x256x1024) (shapeCast S2x256x1024 (shapeCast S512x1024 (m (c.tc.loc main_arg2)) shapeCasts_S2x256x1024_S512x1024) shapeCasts_S512x1024_S2x256x1024) (shapeCast S2x256x1024 (shapeCast S512x1024 (m (c.tc.loc main_arg3)) shapeCasts_S2x256x1024_S512x1024) shapeCasts_S512x1024_S2x256x1024) : Vec Ideal S2x256x1024 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S2x256x1024 ((dats m 0 c).arrAt 5 cfg0.N) shapeCasts_S512x1024_S2x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S2x256x1024 .f32) := by
  rw [tail5, rows5, operand1, operand2]
  refine Eq.trans (show _ = (Adam.firsts (shapeCast S2x256x1024 (shapeCast S512x1024 (m (c.tc.loc main_arg1)) shapeCasts_S2x256x1024_S512x1024) shapeCasts_S512x1024_S2x256x1024) (shapeCast S2x256x1024 (shapeCast S512x1024 (m (c.tc.loc main_arg2)) shapeCasts_S2x256x1024_S512x1024) shapeCasts_S512x1024_S2x256x1024) : Vec Ideal S2x256x1024 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S2x256x1024 ((dats m 0 c).arrAt 6 cfg0.N) shapeCasts_S512x1024_S2x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S2x256x1024 .f32) := by
  rw [tail6, rows6, operand1, operand3]
  refine Eq.trans (show _ = (Adam.seconds (shapeCast S2x256x1024 (shapeCast S512x1024 (m (c.tc.loc main_arg1)) shapeCasts_S2x256x1024_S512x1024) shapeCasts_S512x1024_S2x256x1024) (shapeCast S2x256x1024 (shapeCast S512x1024 (m (c.tc.loc main_arg3)) shapeCasts_S2x256x1024_S512x1024) shapeCasts_S512x1024_S2x256x1024) : Vec Ideal S2x256x1024 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S2x256x1024 .f32)
      ∧ r.2.mem (c.tc.loc main_v6) = (Adam.firsts (m (c.tc.loc main_arg1)) (m (c.tc.loc main_arg2)) : Vec Ideal S2x256x1024 .f32)
      ∧ r.2.mem (c.tc.loc main_v7) = (Adam.seconds (m (c.tc.loc main_arg1)) (m (c.tc.loc main_arg3)) : Vec Ideal S2x256x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamConvOutReferenceIdeal.nD AdamConvOutReferenceIdeal.τ AdamConvOutReferenceIdeal.sig) → Buf (Elt Ideal) ℓ) (ρ : Dev AdamConvOutReferenceIdeal.nD → PrngReg) :
    θ_run (AdamConvOutReferenceIdeal.defs (F := Ideal)) (onTc (τ := AdamConvOutReferenceIdeal.τ) (AdamConvOutReferenceIdeal.main (F := Ideal))) ⟨m, fun _ => 0, ρ⟩ fun r =>
      ∀ c : Dev AdamConvOutReferenceIdeal.nD, (r.2.mem (c.tc.loc AdamConvOutReferenceIdeal.main_v23) = (Adam.deltas (m (c.tc.loc AdamConvOutReferenceIdeal.main_arg0)) (m (c.tc.loc AdamConvOutReferenceIdeal.main_arg1)) (m (c.tc.loc AdamConvOutReferenceIdeal.main_arg2)) (m (c.tc.loc AdamConvOutReferenceIdeal.main_arg3)) : Vec Ideal S2x256x1024 .f32)
      ∧ r.2.mem (c.tc.loc AdamConvOutReferenceIdeal.main_v4) = (Adam.firsts (m (c.tc.loc AdamConvOutReferenceIdeal.main_arg1)) (m (c.tc.loc AdamConvOutReferenceIdeal.main_arg2)) : Vec Ideal S2x256x1024 .f32)
      ∧ r.2.mem (c.tc.loc AdamConvOutReferenceIdeal.main_v10) = (Adam.seconds (m (c.tc.loc AdamConvOutReferenceIdeal.main_arg1)) (m (c.tc.loc AdamConvOutReferenceIdeal.main_arg3)) : Vec Ideal S2x256x1024 .f32))
      ∧ r.2.mem (c.tc.loc AdamConvOutReferenceIdeal.main_arg0) = m (c.tc.loc AdamConvOutReferenceIdeal.main_arg0)
      ∧ r.2.mem (c.tc.loc AdamConvOutReferenceIdeal.main_arg1) = m (c.tc.loc AdamConvOutReferenceIdeal.main_arg1)
      ∧ r.2.mem (c.tc.loc AdamConvOutReferenceIdeal.main_arg2) = m (c.tc.loc AdamConvOutReferenceIdeal.main_arg2)
      ∧ r.2.mem (c.tc.loc AdamConvOutReferenceIdeal.main_arg3) = m (c.tc.loc AdamConvOutReferenceIdeal.main_arg3) := by
  refine (θ_run _ _ _).mono (fun r h c => ?_) (AdamConvOutReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamConvOutReferenceIdeal (hAdamConvOutReferenceIdeal := AdamConvOutReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamConvOutIdeal_AdamConvOutReferenceIdeal (hAdamConvOutIdeal := Cert.AdamConvOutIdeal.Gen.facts) (hAdamConvOutReferenceIdeal := AdamConvOutReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S2x256x1024 .f32),
    fun c => (Adam.firsts (m (c.tc.loc main_arg1)) (m (c.tc.loc main_arg2)) : Vec Ideal S2x256x1024 .f32),
    fun c => (Adam.seconds (m (c.tc.loc main_arg1)) (m (c.tc.loc main_arg3)) : Vec Ideal S2x256x1024 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamConvOutIdeal.Step
-- ==== Proof.AdamQkv.lean ====
/- The optimiser's call for weights of shape [1, 1024, 768]: its three arrays, entry by entry one AdamW step, and its reference's. -/
module

public import proofs.«01_k».proof.Defs
public import proofs.«01_k».proof.Proof.Gen.AdamQkvIdeal
public import proofs.«01_k».proof.Proof.Gen.AdamQkvIdeal.Frame
public import proofs.«01_k».proof.Proof.Gen.AdamQkvReferenceIdeal
public import proofs.«01_k».proof.Proof.Gen.AdamQkvReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamQkvIdeal.Step

open Cert.AdamQkvIdeal Cert.AdamQkvIdeal.Gen

variable (m : (ℓ : Loc nD τ sig) → Buf (Elt Ideal) ℓ) (ρ : Dev nD → PrngReg)

/-- The weights' changes of one block. -/
theorem block4 (x0 x1 x2 x3 : Vec Ideal S256x768 .f32) (y : S256x768.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S1024x768 .f32) := by
  refine (dats m 0 c).arrAt_eq_of_covers 4 (Adam.deltas (V m c main_v0) (V m c main_v1) (V m c main_v2) (V m c main_v3) : Vec Ideal S1024x768 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x768 .f32) (y : S256x768.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S1024x768 .f32) := by
  refine (dats m 0 c).arrAt_eq_of_covers 5 (Adam.firsts (V m c main_v1) (V m c main_v2) : Vec Ideal S1024x768 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x768 .f32) (y : S256x768.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S1024x768 .f32) := by
  refine (dats m 0 c).arrAt_eq_of_covers 6 (Adam.seconds (V m c main_v1) (V m c main_v3) : Vec Ideal S1024x768 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S1024x768 (m (c.tc.loc main_arg0)) shapeCasts_S1x1024x768_S1024x768 := by
  unfold V V0 hostOps0
  simp only [List.flatten_cons, List.flatten_nil, List.append_nil]
  after_results_simp
  rfl

/-- Operand 1 of the call, from the arguments. -/
theorem operand1 (c : Dev nD) : V m c main_v1 = shapeCast S1024x768 (m (c.tc.loc main_arg1)) shapeCasts_S1x1024x768_S1024x768 := by
  unfold V V0 hostOps0
  simp only [List.flatten_cons, List.flatten_nil, List.append_nil]
  after_results_simp
  rfl

/-- Operand 2 of the call, from the arguments. -/
theorem operand2 (c : Dev nD) : V m c main_v2 = shapeCast S1024x768 (m (c.tc.loc main_arg2)) shapeCasts_S1x1024x768_S1024x768 := by
  unfold V V0 hostOps0
  simp only [List.flatten_cons, List.flatten_nil, List.append_nil]
  after_results_simp
  rfl

/-- Operand 3 of the call, from the arguments. -/
theorem operand3 (c : Dev nD) : V m c main_v3 = shapeCast S1024x768 (m (c.tc.loc main_arg3)) shapeCasts_S1x1024x768_S1024x768 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S1x1024x768 ((dats m 0 c).arrAt 4 cfg0.N) shapeCasts_S1024x768_S1x1024x768 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S1x1024x768 .f32) := by
  rw [tail4, rows4, operand0, operand1, operand2, operand3]
  refine Eq.trans (show _ = (Adam.deltas (shapeCast S1x1024x768 (shapeCast S1024x768 (m (c.tc.loc main_arg0)) shapeCasts_S1x1024x768_S1024x768) shapeCasts_S1024x768_S1x1024x768) (shapeCast S1x1024x768 (shapeCast S1024x768 (m (c.tc.loc main_arg1)) shapeCasts_S1x1024x768_S1024x768) shapeCasts_S1024x768_S1x1024x768) (shapeCast S1x1024x768 (shapeCast S1024x768 (m (c.tc.loc main_arg2)) shapeCasts_S1x1024x768_S1024x768) shapeCasts_S1024x768_S1x1024x768) (shapeCast S1x1024x768 (shapeCast S1024x768 (m (c.tc.loc main_arg3)) shapeCasts_S1x1024x768_S1024x768) shapeCasts_S1024x768_S1x1024x768) : Vec Ideal S1x1024x768 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S1x1024x768 ((dats m 0 c).arrAt 5 cfg0.N) shapeCasts_S1024x768_S1x1024x768 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S1x1024x768 .f32) := by
  rw [tail5, rows5, operand1, operand2]
  refine Eq.trans (show _ = (Adam.firsts (shapeCast S1x1024x768 (shapeCast S1024x768 (m (c.tc.loc main_arg1)) shapeCasts_S1x1024x768_S1024x768) shapeCasts_S1024x768_S1x1024x768) (shapeCast S1x1024x768 (shapeCast S1024x768 (m (c.tc.loc main_arg2)) shapeCasts_S1x1024x768_S1024x768) shapeCasts_S1024x768_S1x1024x768) : Vec Ideal S1x1024x768 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S1x1024x768 ((dats m 0 c).arrAt 6 cfg0.N) shapeCasts_S1024x768_S1x1024x768 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S1x1024x768 .f32) := by
  rw [tail6, rows6, operand1, operand3]
  refine Eq.trans (show _ = (Adam.seconds (shapeCast S1x1024x768 (shapeCast S1024x768 (m (c.tc.loc main_arg1)) shapeCasts_S1x1024x768_S1024x768) shapeCasts_S1024x768_S1x1024x768) (shapeCast S1x1024x768 (shapeCast S1024x768 (m (c.tc.loc main_arg3)) shapeCasts_S1x1024x768_S1024x768) shapeCasts_S1024x768_S1x1024x768) : Vec Ideal S1x1024x768 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S1x1024x768 .f32)
      ∧ r.2.mem (c.tc.loc main_v6) = (Adam.firsts (m (c.tc.loc main_arg1)) (m (c.tc.loc main_arg2)) : Vec Ideal S1x1024x768 .f32)
      ∧ r.2.mem (c.tc.loc main_v7) = (Adam.seconds (m (c.tc.loc main_arg1)) (m (c.tc.loc main_arg3)) : Vec Ideal S1x1024x768 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamQkvReferenceIdeal.nD AdamQkvReferenceIdeal.τ AdamQkvReferenceIdeal.sig) → Buf (Elt Ideal) ℓ) (ρ : Dev AdamQkvReferenceIdeal.nD → PrngReg) :
    θ_run (AdamQkvReferenceIdeal.defs (F := Ideal)) (onTc (τ := AdamQkvReferenceIdeal.τ) (AdamQkvReferenceIdeal.main (F := Ideal))) ⟨m, fun _ => 0, ρ⟩ fun r =>
      ∀ c : Dev AdamQkvReferenceIdeal.nD, (r.2.mem (c.tc.loc AdamQkvReferenceIdeal.main_v23) = (Adam.deltas (m (c.tc.loc AdamQkvReferenceIdeal.main_arg0)) (m (c.tc.loc AdamQkvReferenceIdeal.main_arg1)) (m (c.tc.loc AdamQkvReferenceIdeal.main_arg2)) (m (c.tc.loc AdamQkvReferenceIdeal.main_arg3)) : Vec Ideal S1x1024x768 .f32)
      ∧ r.2.mem (c.tc.loc AdamQkvReferenceIdeal.main_v4) = (Adam.firsts (m (c.tc.loc AdamQkvReferenceIdeal.main_arg1)) (m (c.tc.loc AdamQkvReferenceIdeal.main_arg2)) : Vec Ideal S1x1024x768 .f32)
      ∧ r.2.mem (c.tc.loc AdamQkvReferenceIdeal.main_v10) = (Adam.seconds (m (c.tc.loc AdamQkvReferenceIdeal.main_arg1)) (m (c.tc.loc AdamQkvReferenceIdeal.main_arg3)) : Vec Ideal S1x1024x768 .f32))
      ∧ r.2.mem (c.tc.loc AdamQkvReferenceIdeal.main_arg0) = m (c.tc.loc AdamQkvReferenceIdeal.main_arg0)
      ∧ r.2.mem (c.tc.loc AdamQkvReferenceIdeal.main_arg1) = m (c.tc.loc AdamQkvReferenceIdeal.main_arg1)
      ∧ r.2.mem (c.tc.loc AdamQkvReferenceIdeal.main_arg2) = m (c.tc.loc AdamQkvReferenceIdeal.main_arg2)
      ∧ r.2.mem (c.tc.loc AdamQkvReferenceIdeal.main_arg3) = m (c.tc.loc AdamQkvReferenceIdeal.main_arg3) := by
  refine (θ_run _ _ _).mono (fun r h c => ?_) (AdamQkvReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamQkvReferenceIdeal (hAdamQkvReferenceIdeal := AdamQkvReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamQkvIdeal_AdamQkvReferenceIdeal (hAdamQkvIdeal := Cert.AdamQkvIdeal.Gen.facts) (hAdamQkvReferenceIdeal := AdamQkvReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S1x1024x768 .f32),
    fun c => (Adam.firsts (m (c.tc.loc main_arg1)) (m (c.tc.loc main_arg2)) : Vec Ideal S1x1024x768 .f32),
    fun c => (Adam.seconds (m (c.tc.loc main_arg1)) (m (c.tc.loc main_arg3)) : Vec Ideal S1x1024x768 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamQkvIdeal.Step
-- ==== Proof.AdamAttnOut.lean ====
/- The optimiser's call for weights of shape [1, 256, 1024]: its three arrays, entry by entry one AdamW step, and its reference's. -/
module

public import proofs.«01_k».proof.Defs
public import proofs.«01_k».proof.Proof.Gen.AdamAttnOutIdeal
public import proofs.«01_k».proof.Proof.Gen.AdamAttnOutIdeal.Frame
public import proofs.«01_k».proof.Proof.Gen.AdamAttnOutReferenceIdeal
public import proofs.«01_k».proof.Proof.Gen.AdamAttnOutReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamAttnOutIdeal.Step

open Cert.AdamAttnOutIdeal Cert.AdamAttnOutIdeal.Gen

variable (m : (ℓ : Loc nD τ sig) → Buf (Elt Ideal) ℓ) (ρ : Dev nD → PrngReg)

/-- The weights' changes of one block. -/
theorem block4 (x0 x1 x2 x3 : Vec Ideal S256x1024 .f32) (y : S256x1024.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S256x1024 .f32) := by
  refine (dats m 0 c).arrAt_eq_of_covers 4 (Adam.deltas (V m c main_v0) (V m c main_v1) (V m c main_v2) (V m c main_v3) : Vec Ideal S256x1024 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x1024 .f32) (y : S256x1024.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S256x1024 .f32) := by
  refine (dats m 0 c).arrAt_eq_of_covers 5 (Adam.firsts (V m c main_v1) (V m c main_v2) : Vec Ideal S256x1024 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x1024 .f32) (y : S256x1024.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S256x1024 .f32) := by
  refine (dats m 0 c).arrAt_eq_of_covers 6 (Adam.seconds (V m c main_v1) (V m c main_v3) : Vec Ideal S256x1024 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S256x1024 (m (c.tc.loc main_arg0)) shapeCasts_S1x256x1024_S256x1024 := by
  unfold V V0 hostOps0
  simp only [List.flatten_cons, List.flatten_nil, List.append_nil]
  after_results_simp
  rfl

/-- Operand 1 of the call, from the arguments. -/
theorem operand1 (c : Dev nD) : V m c main_v1 = shapeCast S256x1024 (m (c.tc.loc main_arg1)) shapeCasts_S1x256x1024_S256x1024 := by
  unfold V V0 hostOps0
  simp only [List.flatten_cons, List.flatten_nil, List.append_nil]
  after_results_simp
  rfl

/-- Operand 2 of the call, from the arguments. -/
theorem operand2 (c : Dev nD) : V m c main_v2 = shapeCast S256x1024 (m (c.tc.loc main_arg2)) shapeCasts_S1x256x1024_S256x1024 := by
  unfold V V0 hostOps0
  simp only [List.flatten_cons, List.flatten_nil, List.append_nil]
  after_results_simp
  rfl

/-- Operand 3 of the call, from the arguments. -/
theorem operand3 (c : Dev nD) : V m c main_v3 = shapeCast S256x1024 (m (c.tc.loc main_arg3)) shapeCasts_S1x256x1024_S256x1024 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S1x256x1024 ((dats m 0 c).arrAt 4 cfg0.N) shapeCasts_S256x1024_S1x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S1x256x1024 .f32) := by
  rw [tail4, rows4, operand0, operand1, operand2, operand3]
  refine Eq.trans (show _ = (Adam.deltas (shapeCast S1x256x1024 (shapeCast S256x1024 (m (c.tc.loc main_arg0)) shapeCasts_S1x256x1024_S256x1024) shapeCasts_S256x1024_S1x256x1024) (shapeCast S1x256x1024 (shapeCast S256x1024 (m (c.tc.loc main_arg1)) shapeCasts_S1x256x1024_S256x1024) shapeCasts_S256x1024_S1x256x1024) (shapeCast S1x256x1024 (shapeCast S256x1024 (m (c.tc.loc main_arg2)) shapeCasts_S1x256x1024_S256x1024) shapeCasts_S256x1024_S1x256x1024) (shapeCast S1x256x1024 (shapeCast S256x1024 (m (c.tc.loc main_arg3)) shapeCasts_S1x256x1024_S256x1024) shapeCasts_S256x1024_S1x256x1024) : Vec Ideal S1x256x1024 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S1x256x1024 ((dats m 0 c).arrAt 5 cfg0.N) shapeCasts_S256x1024_S1x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S1x256x1024 .f32) := by
  rw [tail5, rows5, operand1, operand2]
  refine Eq.trans (show _ = (Adam.firsts (shapeCast S1x256x1024 (shapeCast S256x1024 (m (c.tc.loc main_arg1)) shapeCasts_S1x256x1024_S256x1024) shapeCasts_S256x1024_S1x256x1024) (shapeCast S1x256x1024 (shapeCast S256x1024 (m (c.tc.loc main_arg2)) shapeCasts_S1x256x1024_S256x1024) shapeCasts_S256x1024_S1x256x1024) : Vec Ideal S1x256x1024 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S1x256x1024 ((dats m 0 c).arrAt 6 cfg0.N) shapeCasts_S256x1024_S1x256x1024 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S1x256x1024 .f32) := by
  rw [tail6, rows6, operand1, operand3]
  refine Eq.trans (show _ = (Adam.seconds (shapeCast S1x256x1024 (shapeCast S256x1024 (m (c.tc.loc main_arg1)) shapeCasts_S1x256x1024_S256x1024) shapeCasts_S256x1024_S1x256x1024) (shapeCast S1x256x1024 (shapeCast S256x1024 (m (c.tc.loc main_arg3)) shapeCasts_S1x256x1024_S256x1024) shapeCasts_S256x1024_S1x256x1024) : Vec Ideal S1x256x1024 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S1x256x1024 .f32)
      ∧ r.2.mem (c.tc.loc main_v6) = (Adam.firsts (m (c.tc.loc main_arg1)) (m (c.tc.loc main_arg2)) : Vec Ideal S1x256x1024 .f32)
      ∧ r.2.mem (c.tc.loc main_v7) = (Adam.seconds (m (c.tc.loc main_arg1)) (m (c.tc.loc main_arg3)) : Vec Ideal S1x256x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamAttnOutReferenceIdeal.nD AdamAttnOutReferenceIdeal.τ AdamAttnOutReferenceIdeal.sig) → Buf (Elt Ideal) ℓ) (ρ : Dev AdamAttnOutReferenceIdeal.nD → PrngReg) :
    θ_run (AdamAttnOutReferenceIdeal.defs (F := Ideal)) (onTc (τ := AdamAttnOutReferenceIdeal.τ) (AdamAttnOutReferenceIdeal.main (F := Ideal))) ⟨m, fun _ => 0, ρ⟩ fun r =>
      ∀ c : Dev AdamAttnOutReferenceIdeal.nD, (r.2.mem (c.tc.loc AdamAttnOutReferenceIdeal.main_v23) = (Adam.deltas (m (c.tc.loc AdamAttnOutReferenceIdeal.main_arg0)) (m (c.tc.loc AdamAttnOutReferenceIdeal.main_arg1)) (m (c.tc.loc AdamAttnOutReferenceIdeal.main_arg2)) (m (c.tc.loc AdamAttnOutReferenceIdeal.main_arg3)) : Vec Ideal S1x256x1024 .f32)
      ∧ r.2.mem (c.tc.loc AdamAttnOutReferenceIdeal.main_v4) = (Adam.firsts (m (c.tc.loc AdamAttnOutReferenceIdeal.main_arg1)) (m (c.tc.loc AdamAttnOutReferenceIdeal.main_arg2)) : Vec Ideal S1x256x1024 .f32)
      ∧ r.2.mem (c.tc.loc AdamAttnOutReferenceIdeal.main_v10) = (Adam.seconds (m (c.tc.loc AdamAttnOutReferenceIdeal.main_arg1)) (m (c.tc.loc AdamAttnOutReferenceIdeal.main_arg3)) : Vec Ideal S1x256x1024 .f32))
      ∧ r.2.mem (c.tc.loc AdamAttnOutReferenceIdeal.main_arg0) = m (c.tc.loc AdamAttnOutReferenceIdeal.main_arg0)
      ∧ r.2.mem (c.tc.loc AdamAttnOutReferenceIdeal.main_arg1) = m (c.tc.loc AdamAttnOutReferenceIdeal.main_arg1)
      ∧ r.2.mem (c.tc.loc AdamAttnOutReferenceIdeal.main_arg2) = m (c.tc.loc AdamAttnOutReferenceIdeal.main_arg2)
      ∧ r.2.mem (c.tc.loc AdamAttnOutReferenceIdeal.main_arg3) = m (c.tc.loc AdamAttnOutReferenceIdeal.main_arg3) := by
  refine (θ_run _ _ _).mono (fun r h c => ?_) (AdamAttnOutReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamAttnOutReferenceIdeal (hAdamAttnOutReferenceIdeal := AdamAttnOutReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamAttnOutIdeal_AdamAttnOutReferenceIdeal (hAdamAttnOutIdeal := Cert.AdamAttnOutIdeal.Gen.facts) (hAdamAttnOutReferenceIdeal := AdamAttnOutReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S1x256x1024 .f32),
    fun c => (Adam.firsts (m (c.tc.loc main_arg1)) (m (c.tc.loc main_arg2)) : Vec Ideal S1x256x1024 .f32),
    fun c => (Adam.seconds (m (c.tc.loc main_arg1)) (m (c.tc.loc main_arg3)) : Vec Ideal S1x256x1024 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamAttnOutIdeal.Step
-- ==== Proof.AdamCond.lean ====
/- The optimiser's call for weights of shape [256, 1024]: its three arrays, entry by entry one AdamW step, and its reference's. -/
module

public import proofs.«01_k».proof.Defs
public import proofs.«01_k».proof.Proof.Gen.AdamCondIdeal
public import proofs.«01_k».proof.Proof.Gen.AdamCondIdeal.Frame
public import proofs.«01_k».proof.Proof.Gen.AdamCondReferenceIdeal
public import proofs.«01_k».proof.Proof.Gen.AdamCondReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamCondIdeal.Step

open Cert.AdamCondIdeal Cert.AdamCondIdeal.Gen

variable (m : (ℓ : Loc nD τ sig) → Buf (Elt Ideal) ℓ) (ρ : Dev nD → PrngReg)

/-- The weights' changes of one block. -/
theorem block4 (x0 x1 x2 x3 : Vec Ideal S256x1024 .f32) (y : S256x1024.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_arg0) (V m c main_arg1) (V m c main_arg2) (V m c main_arg3) : Vec Ideal S256x1024 .f32) := by
  refine (dats m 0 c).arrAt_eq_of_covers 4 (Adam.deltas (V m c main_arg0) (V m c main_arg1) (V m c main_arg2) (V m c main_arg3) : Vec Ideal S256x1024 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S256x1024 .f32) (y : S256x1024.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_arg1) (V m c main_arg2) : Vec Ideal S256x1024 .f32) := by
  refine (dats m 0 c).arrAt_eq_of_covers 5 (Adam.firsts (V m c main_arg1) (V m c main_arg2) : Vec Ideal S256x1024 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S256x1024 .f32) (y : S256x1024.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_arg1) (V m c main_arg3) : Vec Ideal S256x1024 .f32) := by
  refine (dats m 0 c).arrAt_eq_of_covers 6 (Adam.seconds (V m c main_arg1) (V m c main_arg3) : Vec Ideal S256x1024 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v0_0) = (Adam.deltas (m (c.tc.loc main_arg0)) (m (c.tc.loc main_arg1)) (m (c.tc.loc main_arg2)) (m (c.tc.loc main_arg3)) : Vec Ideal S256x1024 .f32)
      ∧ r.2.mem (c.tc.loc main_v0_1) = (Adam.firsts (m (c.tc.loc main_arg1)) (m (c.tc.loc main_arg2)) : Vec Ideal S256x1024 .f32)
      ∧ r.2.mem (c.tc.loc main_v0_2) = (Adam.seconds (m (c.tc.loc main_arg1)) (m (c.tc.loc main_arg3)) : Vec Ideal S256x1024 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).1 4).trans (rows4 m c),
    ((h c).1 5).trans (rows5 m c),
    ((h c).1 6).trans (rows6 m c),
    ((h c).1 0).trans (((dats m 0 c).arrAt_in 0 rfl cfg0.N).trans ((A_eq m c 0).trans (V_main_arg0 m c))),
    ((h c).1 1).trans (((dats m 0 c).arrAt_in 1 rfl cfg0.N).trans ((A_eq m c 1).trans (V_main_arg1 m c))),
    ((h c).1 2).trans (((dats m 0 c).arrAt_in 2 rfl cfg0.N).trans ((A_eq m c 2).trans (V_main_arg2 m c))),
    ((h c).1 3).trans (((dats m 0 c).arrAt_in 3 rfl cfg0.N).trans ((A_eq m c 3).trans (V_main_arg3 m c)))⟩) (run_main m ρ)

/-- Every run of the reference ends with the same arrays of its own arguments and keeps them. -/
theorem reference (m : (ℓ : Loc AdamCondReferenceIdeal.nD AdamCondReferenceIdeal.τ AdamCondReferenceIdeal.sig) → Buf (Elt Ideal) ℓ) (ρ : Dev AdamCondReferenceIdeal.nD → PrngReg) :
    θ_run (AdamCondReferenceIdeal.defs (F := Ideal)) (onTc (τ := AdamCondReferenceIdeal.τ) (AdamCondReferenceIdeal.main (F := Ideal))) ⟨m, fun _ => 0, ρ⟩ fun r =>
      ∀ c : Dev AdamCondReferenceIdeal.nD, (r.2.mem (c.tc.loc AdamCondReferenceIdeal.main_v23) = (Adam.deltas (m (c.tc.loc AdamCondReferenceIdeal.main_arg0)) (m (c.tc.loc AdamCondReferenceIdeal.main_arg1)) (m (c.tc.loc AdamCondReferenceIdeal.main_arg2)) (m (c.tc.loc AdamCondReferenceIdeal.main_arg3)) : Vec Ideal S256x1024 .f32)
      ∧ r.2.mem (c.tc.loc AdamCondReferenceIdeal.main_v4) = (Adam.firsts (m (c.tc.loc AdamCondReferenceIdeal.main_arg1)) (m (c.tc.loc AdamCondReferenceIdeal.main_arg2)) : Vec Ideal S256x1024 .f32)
      ∧ r.2.mem (c.tc.loc AdamCondReferenceIdeal.main_v10) = (Adam.seconds (m (c.tc.loc AdamCondReferenceIdeal.main_arg1)) (m (c.tc.loc AdamCondReferenceIdeal.main_arg3)) : Vec Ideal S256x1024 .f32))
      ∧ r.2.mem (c.tc.loc AdamCondReferenceIdeal.main_arg0) = m (c.tc.loc AdamCondReferenceIdeal.main_arg0)
      ∧ r.2.mem (c.tc.loc AdamCondReferenceIdeal.main_arg1) = m (c.tc.loc AdamCondReferenceIdeal.main_arg1)
      ∧ r.2.mem (c.tc.loc AdamCondReferenceIdeal.main_arg2) = m (c.tc.loc AdamCondReferenceIdeal.main_arg2)
      ∧ r.2.mem (c.tc.loc AdamCondReferenceIdeal.main_arg3) = m (c.tc.loc AdamCondReferenceIdeal.main_arg3) := by
  refine (θ_run _ _ _).mono (fun r h c => ?_) (AdamCondReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamCondReferenceIdeal (hAdamCondReferenceIdeal := AdamCondReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamCondIdeal_AdamCondReferenceIdeal (hAdamCondIdeal := Cert.AdamCondIdeal.Gen.facts) (hAdamCondReferenceIdeal := AdamCondReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S256x1024 .f32),
    fun c => (Adam.firsts (m (c.tc.loc main_arg1)) (m (c.tc.loc main_arg2)) : Vec Ideal S256x1024 .f32),
    fun c => (Adam.seconds (m (c.tc.loc main_arg1)) (m (c.tc.loc main_arg3)) : Vec Ideal S256x1024 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamCondIdeal.Step
-- ==== Proof.AdamAda.lean ====
/- The optimiser's call for weights of shape [4, 1024, 2304]: its three arrays, entry by entry one AdamW step, and its reference's. -/
module

public import proofs.«01_k».proof.Defs
public import proofs.«01_k».proof.Proof.Gen.AdamAdaIdeal
public import proofs.«01_k».proof.Proof.Gen.AdamAdaIdeal.Frame
public import proofs.«01_k».proof.Proof.Gen.AdamAdaReferenceIdeal
public import proofs.«01_k».proof.Proof.Gen.AdamAdaReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamAdaIdeal.Step

open Cert.AdamAdaIdeal Cert.AdamAdaIdeal.Gen

variable (m : (ℓ : Loc nD τ sig) → Buf (Elt Ideal) ℓ) (ρ : Dev nD → PrngReg)

/-- The weights' changes of one block. -/
theorem block4 (x0 x1 x2 x3 : Vec Ideal S64x2304 .f32) (y : S64x2304.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v0) (V m c main_v1) (V m c main_v2) (V m c main_v3) : Vec Ideal S4096x2304 .f32) := by
  refine (dats m 0 c).arrAt_eq_of_covers 4 (Adam.deltas (V m c main_v0) (V m c main_v1) (V m c main_v2) (V m c main_v3) : Vec Ideal S4096x2304 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S64x2304 .f32) (y : S64x2304.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v1) (V m c main_v2) : Vec Ideal S4096x2304 .f32) := by
  refine (dats m 0 c).arrAt_eq_of_covers 5 (Adam.firsts (V m c main_v1) (V m c main_v2) : Vec Ideal S4096x2304 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S64x2304 .f32) (y : S64x2304.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v1) (V m c main_v3) : Vec Ideal S4096x2304 .f32) := by
  refine (dats m 0 c).arrAt_eq_of_covers 6 (Adam.seconds (V m c main_v1) (V m c main_v3) : Vec Ideal S4096x2304 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- Operand 0 of the call, from the arguments. -/
theorem operand0 (c : Dev nD) : V m c main_v0 = shapeCast S4096x2304 (m (c.tc.loc main_arg0)) shapeCasts_S4x1024x2304_S4096x2304 := by
  unfold V V0 hostOps0
  simp only [List.flatten_cons, List.flatten_nil, List.append_nil]
  after_results_simp
  rfl

/-- Operand 1 of the call, from the arguments. -/
theorem operand1 (c : Dev nD) : V m c main_v1 = shapeCast S4096x2304 (m (c.tc.loc main_arg1)) shapeCasts_S4x1024x2304_S4096x2304 := by
  unfold V V0 hostOps0
  simp only [List.flatten_cons, List.flatten_nil, List.append_nil]
  after_results_simp
  rfl

/-- Operand 2 of the call, from the arguments. -/
theorem operand2 (c : Dev nD) : V m c main_v2 = shapeCast S4096x2304 (m (c.tc.loc main_arg2)) shapeCasts_S4x1024x2304_S4096x2304 := by
  unfold V V0 hostOps0
  simp only [List.flatten_cons, List.flatten_nil, List.append_nil]
  after_results_simp
  rfl

/-- Operand 3 of the call, from the arguments. -/
theorem operand3 (c : Dev nD) : V m c main_v3 = shapeCast S4096x2304 (m (c.tc.loc main_arg3)) shapeCasts_S4x1024x2304_S4096x2304 := by
  unfold V V0 hostOps0
  simp only [List.flatten_cons, List.flatten_nil, List.append_nil]
  after_results_simp
  rfl

/-- The weights' changes at the end, through the host lines after the call. -/
theorem tail4 (c : Dev nD) : Pipeline.afterTail₀ cfgs (dats m) 0 (V0 m) [hostOps1] c main_v5 = shapeCast S4x1024x2304 ((dats m 0 c).arrAt 4 cfg0.N) shapeCasts_S4096x2304_S4x1024x2304 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_0))
    = (dats m 0 c).arrAt 4 cfg0.N from Pipeline.withArrays_arr spec0 launch0.win.arr_inj c _ _ 4]
  rfl

/-- The weights' changes at the end, from the arguments. -/
theorem left4 (c : Dev nD) : Pipeline.afterTail₀ cfgs (dats m) 0 (V0 m) [hostOps1] c main_v5
    = (Adam.deltas (m (c.tc.loc main_arg0)) (m (c.tc.loc main_arg1)) (m (c.tc.loc main_arg2)) (m (c.tc.loc main_arg3)) : Vec Ideal S4x1024x2304 .f32) := by
  rw [tail4, rows4, operand0, operand1, operand2, operand3]
  refine Eq.trans (show _ = (Adam.deltas (shapeCast S4x1024x2304 (shapeCast S4096x2304 (m (c.tc.loc main_arg0)) shapeCasts_S4x1024x2304_S4096x2304) shapeCasts_S4096x2304_S4x1024x2304) (shapeCast S4x1024x2304 (shapeCast S4096x2304 (m (c.tc.loc main_arg1)) shapeCasts_S4x1024x2304_S4096x2304) shapeCasts_S4096x2304_S4x1024x2304) (shapeCast S4x1024x2304 (shapeCast S4096x2304 (m (c.tc.loc main_arg2)) shapeCasts_S4x1024x2304_S4096x2304) shapeCasts_S4096x2304_S4x1024x2304) (shapeCast S4x1024x2304 (shapeCast S4096x2304 (m (c.tc.loc main_arg3)) shapeCasts_S4x1024x2304_S4096x2304) shapeCasts_S4096x2304_S4x1024x2304) : Vec Ideal S4x1024x2304 .f32) from rfl) ?_
  simp only [Idealize.ShloMosaic.shapeCast_shapeCast]

/-- The first moments at the end, through the host lines after the call. -/
theorem tail5 (c : Dev nD) : Pipeline.afterTail₀ cfgs (dats m) 0 (V0 m) [hostOps1] c main_v6 = shapeCast S4x1024x2304 ((dats m 0 c).arrAt 5 cfg0.N) shapeCasts_S4096x2304_S4x1024x2304 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_1))
    = (dats m 0 c).arrAt 5 cfg0.N from Pipeline.withArrays_arr spec0 launch0.win.arr_inj c _ _ 5]
  rfl

/-- The first moments at the end, from the arguments. -/
theorem left5 (c : Dev nD) : Pipeline.afterTail₀ cfgs (dats m) 0 (V0 m) [hostOps1] c main_v6
    = (Adam.firsts (m (c.tc.loc main_arg1)) (m (c.tc.loc main_arg2)) : Vec Ideal S4x1024x2304 .f32) := by
  rw [tail5, rows5, operand1, operand2]
  refine Eq.trans (show _ = (Adam.firsts (shapeCast S4x1024x2304 (shapeCast S4096x2304 (m (c.tc.loc main_arg1)) shapeCasts_S4x1024x2304_S4096x2304) shapeCasts_S4096x2304_S4x1024x2304) (shapeCast S4x1024x2304 (shapeCast S4096x2304 (m (c.tc.loc main_arg2)) shapeCasts_S4x1024x2304_S4096x2304) shapeCasts_S4096x2304_S4x1024x2304) : Vec Ideal S4x1024x2304 .f32) from rfl) ?_
  simp only [Idealize.ShloMosaic.shapeCast_shapeCast]

/-- The second moments at the end, through the host lines after the call. -/
theorem tail6 (c : Dev nD) : Pipeline.afterTail₀ cfgs (dats m) 0 (V0 m) [hostOps1] c main_v7 = shapeCast S4x1024x2304 ((dats m 0 c).arrAt 6 cfg0.N) shapeCasts_S4096x2304_S4x1024x2304 := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v4_2))
    = (dats m 0 c).arrAt 6 cfg0.N from Pipeline.withArrays_arr spec0 launch0.win.arr_inj c _ _ 6]
  rfl

/-- The second moments at the end, from the arguments. -/
theorem left6 (c : Dev nD) : Pipeline.afterTail₀ cfgs (dats m) 0 (V0 m) [hostOps1] c main_v7
    = (Adam.seconds (m (c.tc.loc main_arg1)) (m (c.tc.loc main_arg3)) : Vec Ideal S4x1024x2304 .f32) := by
  rw [tail6, rows6, operand1, operand3]
  refine Eq.trans (show _ = (Adam.seconds (shapeCast S4x1024x2304 (shapeCast S4096x2304 (m (c.tc.loc main_arg1)) shapeCasts_S4x1024x2304_S4096x2304) shapeCasts_S4096x2304_S4x1024x2304) (shapeCast S4x1024x2304 (shapeCast S4096x2304 (m (c.tc.loc main_arg3)) shapeCasts_S4x1024x2304_S4096x2304) shapeCasts_S4096x2304_S4x1024x2304) : Vec Ideal S4x1024x2304 .f32) from rfl) ?_
  simp only [Idealize.ShloMosaic.shapeCast_shapeCast]

/-- Every run of the call ends with the three arrays of one AdamW step and keeps the arguments. -/
theorem run : θ_run (defs (F := Ideal)) (onTc (τ := τ) (main (F := Ideal))) ⟨m, fun _ => 0, ρ⟩ fun r => ∀ c : Dev nD,
    r.2.mem (c.tc.loc main_v5) = (Adam.deltas (m (c.tc.loc main_arg0)) (m (c.tc.loc main_arg1)) (m (c.tc.loc main_arg2)) (m (c.tc.loc main_arg3)) : Vec Ideal S4x1024x2304 .f32)
      ∧ r.2.mem (c.tc.loc main_v6) = (Adam.firsts (m (c.tc.loc main_arg1)) (m (c.tc.loc main_arg2)) : Vec Ideal S4x1024x2304 .f32)
      ∧ r.2.mem (c.tc.loc main_v7) = (Adam.seconds (m (c.tc.loc main_arg1)) (m (c.tc.loc main_arg3)) : Vec Ideal S4x1024x2304 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).2 main_v5 (Pipeline.mem_restRefs_of main_v5 (by decide) (by decide))).trans (left4 m c),
    ((h c).2 main_v6 (Pipeline.mem_restRefs_of main_v6 (by decide) (by decide))).trans (left5 m c),
    ((h c).2 main_v7 (Pipeline.mem_restRefs_of main_v7 (by decide) (by decide))).trans (left6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

/-- Every run of the reference ends with the same arrays of its own arguments and keeps them. -/
theorem reference (m : (ℓ : Loc AdamAdaReferenceIdeal.nD AdamAdaReferenceIdeal.τ AdamAdaReferenceIdeal.sig) → Buf (Elt Ideal) ℓ) (ρ : Dev AdamAdaReferenceIdeal.nD → PrngReg) :
    θ_run (AdamAdaReferenceIdeal.defs (F := Ideal)) (onTc (τ := AdamAdaReferenceIdeal.τ) (AdamAdaReferenceIdeal.main (F := Ideal))) ⟨m, fun _ => 0, ρ⟩ fun r =>
      ∀ c : Dev AdamAdaReferenceIdeal.nD, (r.2.mem (c.tc.loc AdamAdaReferenceIdeal.main_v23) = (Adam.deltas (m (c.tc.loc AdamAdaReferenceIdeal.main_arg0)) (m (c.tc.loc AdamAdaReferenceIdeal.main_arg1)) (m (c.tc.loc AdamAdaReferenceIdeal.main_arg2)) (m (c.tc.loc AdamAdaReferenceIdeal.main_arg3)) : Vec Ideal S4x1024x2304 .f32)
      ∧ r.2.mem (c.tc.loc AdamAdaReferenceIdeal.main_v4) = (Adam.firsts (m (c.tc.loc AdamAdaReferenceIdeal.main_arg1)) (m (c.tc.loc AdamAdaReferenceIdeal.main_arg2)) : Vec Ideal S4x1024x2304 .f32)
      ∧ r.2.mem (c.tc.loc AdamAdaReferenceIdeal.main_v10) = (Adam.seconds (m (c.tc.loc AdamAdaReferenceIdeal.main_arg1)) (m (c.tc.loc AdamAdaReferenceIdeal.main_arg3)) : Vec Ideal S4x1024x2304 .f32))
      ∧ r.2.mem (c.tc.loc AdamAdaReferenceIdeal.main_arg0) = m (c.tc.loc AdamAdaReferenceIdeal.main_arg0)
      ∧ r.2.mem (c.tc.loc AdamAdaReferenceIdeal.main_arg1) = m (c.tc.loc AdamAdaReferenceIdeal.main_arg1)
      ∧ r.2.mem (c.tc.loc AdamAdaReferenceIdeal.main_arg2) = m (c.tc.loc AdamAdaReferenceIdeal.main_arg2)
      ∧ r.2.mem (c.tc.loc AdamAdaReferenceIdeal.main_arg3) = m (c.tc.loc AdamAdaReferenceIdeal.main_arg3) := by
  refine (θ_run _ _ _).mono (fun r h c => ?_) (AdamAdaReferenceIdeal.Value.run m ρ)
  obtain ⟨h0, h1, h2, hkeep⟩ := h c
  refine ⟨⟨h0.trans ?_, h1.trans ?_, h2.trans ?_⟩, hkeep⟩
  all_goals
    funext i
    idx_vars i
    simp only [Adam.deltas, Adam.firsts, Adam.seconds]
    pointwise
    rfl

/-- The reference runs, keeps its arguments and declares no semaphore. -/
theorem frameReference : Cert.quiescent_AdamAdaReferenceIdeal (hAdamAdaReferenceIdeal := AdamAdaReferenceIdeal.Gen.facts) :=
  fun m ρ _ => (θ_run _ _ _).mono (fun r h => ⟨fun c => (h c).2, sem_eq_zero_of_no_sems rfl r.2⟩) (reference m ρ)

/-- The call and its reference end with the same three arrays. -/
theorem algebraic : Cert.algebraic_AdamAdaIdeal_AdamAdaReferenceIdeal (hAdamAdaIdeal := Cert.AdamAdaIdeal.Gen.facts) (hAdamAdaReferenceIdeal := AdamAdaReferenceIdeal.Gen.facts) := by
  intro m ρ m' ρ' _ hargs
  refine ⟨fun c => (Adam.deltas (m (c.tc.loc main_arg0)) (m (c.tc.loc main_arg1)) (m (c.tc.loc main_arg2)) (m (c.tc.loc main_arg3)) : Vec Ideal S4x1024x2304 .f32),
    fun c => (Adam.firsts (m (c.tc.loc main_arg1)) (m (c.tc.loc main_arg2)) : Vec Ideal S4x1024x2304 .f32),
    fun c => (Adam.seconds (m (c.tc.loc main_arg1)) (m (c.tc.loc main_arg3)) : Vec Ideal S4x1024x2304 .f32),
    run m ρ, (θ_run _ _ _).mono (fun r h c => ?_) (reference m' ρ')⟩
  obtain ⟨⟨h0, h1, h2⟩, hkeep⟩ := h c
  obtain ⟨a0, a1, a2, a3⟩ := hargs c
  rw [a0, a1, a2, a3] at h0
  rw [a1, a2] at h1
  rw [a1, a3] at h2
  exact ⟨h0, h1, h2, hkeep⟩

end Cert.AdamAdaIdeal.Step
-- ==== Proof.AdamPack.lean ====
/- The packing of the fourteen small weights into the one array the optimiser takes, and back. -/
module

public import proofs.«01_k».proof.Defs
public import proofs.«01_k».proof.Proof.Gen.AdamSmallIdeal
public import proofs.«01_k».proof.Proof.Gen.AdamSmallIdeal.Frame
public import proofs.«01_k».proof.Proof.Gen.AdamSmallReferenceIdeal
public import proofs.«01_k».proof.Proof.Gen.AdamSmallReferenceIdeal.Run
public import proofs.«01_k».proof.Proof.AdamMath
public import Idealize.ShloMosaic.Lib.Pipeline.ValueKit
public import Idealize.ShloMosaic.Lib.Pipeline.FrameSuffix
public import Idealize.ShloMosaic.Lib.Claim
public import Idealize.ShloMosaic.Lib.KernelVsHost
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamSmallIdeal.Step

open Cert.AdamSmallIdeal Cert.AdamSmallIdeal.Gen

variable (m : (ℓ : Loc nD τ sig) → Buf (Elt Ideal) ℓ) (ρ : Dev nD → PrngReg)

/-- Fourteen vectors end to end, filled up at the end. -/
def packed (x0 : Vec Ideal S3072 .f32) (x1 : Vec Ideal S1024 .f32) (x2 : Vec Ideal S15872 .f32) (x3 : Vec Ideal S512 .f32) (x4 : Vec Ideal S512 .f32) (x5 : Vec Ideal S512 .f32) (x6 : Vec Ideal S512 .f32) (x7 : Vec Ideal S65536 .f32) (x8 : Vec Ideal S256 .f32) (x9 : Vec Ideal S256 .f32) (x10 : Vec Ideal S1024 .f32) (x11 : Vec Ideal S36864 .f32) (x12 : Vec Ideal S64 .f32) (x13 : Vec Ideal S64 .f32) (z : Vec Ideal S_ .f32) : Vec Ideal S126976 .f32 :=
  pad S126976 ![0] ![896] ![0] (concatenate S126080 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0) z pads_S126080_S126976_08960 h_S_

section

variable (x0 : Vec Ideal S3072 .f32) (x1 : Vec Ideal S1024 .f32) (x2 : Vec Ideal S15872 .f32) (x3 : Vec Ideal S512 .f32) (x4 : Vec Ideal S512 .f32) (x5 : Vec Ideal S512 .f32) (x6 : Vec Ideal S512 .f32) (x7 : Vec Ideal S65536 .f32) (x8 : Vec Ideal S256 .f32) (x9 : Vec Ideal S256 .f32) (x10 : Vec Ideal S1024 .f32) (x11 : Vec Ideal S36864 .f32) (x12 : Vec Ideal S64 .f32) (x13 : Vec Ideal S64 .f32) (z : Vec Ideal S_ .f32)

/-- The length of the vectors in front of piece 0. -/
theorem before0 : (([] : List Shape).map fun s => if h : s.rank = S126080.rank then s.size (Fin.cast h.symm 0) else 0).sum = 0 := by
  decide +kernel

/-- Piece 0 of the packed vector. -/
theorem piece0 : extractStridedSlice S3072 ![0] (packed x0 x1 x2 x3 x4 x5 x6 x7 x8 x9 x10 x11 x12 x13 z) slices_S126976_S3072_0 = x0 := by
  funext i
  have hi : (i 0).val < 3072 := (i 0).isLt
  refine (extractStridedSlice_apply _ _ _ i (ix1 ⟨0 + (i 0).val, by omega⟩) ?_).trans ?_
  · intro a
    obtain rfl : a = 0 := Subsingleton.elim _ _
    rfl
  refine (pad_apply_of_inside _ _ _ _ _ _ _ _ (ix1 ⟨0 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨0 + (i 0).val, by omega⟩) 0 (show 0 < 14 by decide) S3072 x0 rfl rfl 0 ?_ i
    (fun b hb => absurd (Subsingleton.elim _ _) hb) ?_
  · exact before0
  · rfl

/-- The length of the vectors in front of piece 1. -/
theorem before1 : (([S3072] : List Shape).map fun s => if h : s.rank = S126080.rank then s.size (Fin.cast h.symm 0) else 0).sum = 3072 := by
  decide +kernel

/-- Piece 1 of the packed vector. -/
theorem piece1 : extractStridedSlice S1024 ![3072] (packed x0 x1 x2 x3 x4 x5 x6 x7 x8 x9 x10 x11 x12 x13 z) slices_S126976_S1024_3072 = x1 := by
  funext i
  have hi : (i 0).val < 1024 := (i 0).isLt
  refine (extractStridedSlice_apply _ _ _ i (ix1 ⟨3072 + (i 0).val, by omega⟩) ?_).trans ?_
  · intro a
    obtain rfl : a = 0 := Subsingleton.elim _ _
    rfl
  refine (pad_apply_of_inside _ _ _ _ _ _ _ _ (ix1 ⟨3072 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨3072 + (i 0).val, by omega⟩) 1 (show 1 < 14 by decide) S1024 x1 rfl rfl 3072 ?_ i
    (fun b hb => absurd (Subsingleton.elim _ _) hb) ?_
  · exact before1
  · rfl

/-- The length of the vectors in front of piece 2. -/
theorem before2 : (([S3072, S1024] : List Shape).map fun s => if h : s.rank = S126080.rank then s.size (Fin.cast h.symm 0) else 0).sum = 4096 := by
  decide +kernel

/-- Piece 2 of the packed vector. -/
theorem piece2 : extractStridedSlice S15872 ![4096] (packed x0 x1 x2 x3 x4 x5 x6 x7 x8 x9 x10 x11 x12 x13 z) slices_S126976_S15872_4096 = x2 := by
  funext i
  have hi : (i 0).val < 15872 := (i 0).isLt
  refine (extractStridedSlice_apply _ _ _ i (ix1 ⟨4096 + (i 0).val, by omega⟩) ?_).trans ?_
  · intro a
    obtain rfl : a = 0 := Subsingleton.elim _ _
    rfl
  refine (pad_apply_of_inside _ _ _ _ _ _ _ _ (ix1 ⟨4096 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨4096 + (i 0).val, by omega⟩) 2 (show 2 < 14 by decide) S15872 x2 rfl rfl 4096 ?_ i
    (fun b hb => absurd (Subsingleton.elim _ _) hb) ?_
  · exact before2
  · rfl

/-- The length of the vectors in front of piece 3. -/
theorem before3 : (([S3072, S1024, S15872] : List Shape).map fun s => if h : s.rank = S126080.rank then s.size (Fin.cast h.symm 0) else 0).sum = 19968 := by
  decide +kernel

/-- Piece 3 of the packed vector. -/
theorem piece3 : extractStridedSlice S512 ![19968] (packed x0 x1 x2 x3 x4 x5 x6 x7 x8 x9 x10 x11 x12 x13 z) slices_S126976_S512_19968 = x3 := by
  funext i
  have hi : (i 0).val < 512 := (i 0).isLt
  refine (extractStridedSlice_apply _ _ _ i (ix1 ⟨19968 + (i 0).val, by omega⟩) ?_).trans ?_
  · intro a
    obtain rfl : a = 0 := Subsingleton.elim _ _
    rfl
  refine (pad_apply_of_inside _ _ _ _ _ _ _ _ (ix1 ⟨19968 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨19968 + (i 0).val, by omega⟩) 3 (show 3 < 14 by decide) S512 x3 rfl rfl 19968 ?_ i
    (fun b hb => absurd (Subsingleton.elim _ _) hb) ?_
  · exact before3
  · rfl

/-- The length of the vectors in front of piece 4. -/
theorem before4 : (([S3072, S1024, S15872, S512] : List Shape).map fun s => if h : s.rank = S126080.rank then s.size (Fin.cast h.symm 0) else 0).sum = 20480 := by
  decide +kernel

/-- Piece 4 of the packed vector. -/
theorem piece4 : extractStridedSlice S512 ![20480] (packed x0 x1 x2 x3 x4 x5 x6 x7 x8 x9 x10 x11 x12 x13 z) slices_S126976_S512_20480 = x4 := by
  funext i
  have hi : (i 0).val < 512 := (i 0).isLt
  refine (extractStridedSlice_apply _ _ _ i (ix1 ⟨20480 + (i 0).val, by omega⟩) ?_).trans ?_
  · intro a
    obtain rfl : a = 0 := Subsingleton.elim _ _
    rfl
  refine (pad_apply_of_inside _ _ _ _ _ _ _ _ (ix1 ⟨20480 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨20480 + (i 0).val, by omega⟩) 4 (show 4 < 14 by decide) S512 x4 rfl rfl 20480 ?_ i
    (fun b hb => absurd (Subsingleton.elim _ _) hb) ?_
  · exact before4
  · rfl

/-- The length of the vectors in front of piece 5. -/
theorem before5 : (([S3072, S1024, S15872, S512, S512] : List Shape).map fun s => if h : s.rank = S126080.rank then s.size (Fin.cast h.symm 0) else 0).sum = 20992 := by
  decide +kernel

/-- Piece 5 of the packed vector. -/
theorem piece5 : extractStridedSlice S512 ![20992] (packed x0 x1 x2 x3 x4 x5 x6 x7 x8 x9 x10 x11 x12 x13 z) slices_S126976_S512_20992 = x5 := by
  funext i
  have hi : (i 0).val < 512 := (i 0).isLt
  refine (extractStridedSlice_apply _ _ _ i (ix1 ⟨20992 + (i 0).val, by omega⟩) ?_).trans ?_
  · intro a
    obtain rfl : a = 0 := Subsingleton.elim _ _
    rfl
  refine (pad_apply_of_inside _ _ _ _ _ _ _ _ (ix1 ⟨20992 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨20992 + (i 0).val, by omega⟩) 5 (show 5 < 14 by decide) S512 x5 rfl rfl 20992 ?_ i
    (fun b hb => absurd (Subsingleton.elim _ _) hb) ?_
  · exact before5
  · rfl

/-- The length of the vectors in front of piece 6. -/
theorem before6 : (([S3072, S1024, S15872, S512, S512, S512] : List Shape).map fun s => if h : s.rank = S126080.rank then s.size (Fin.cast h.symm 0) else 0).sum = 21504 := by
  decide +kernel

/-- Piece 6 of the packed vector. -/
theorem piece6 : extractStridedSlice S512 ![21504] (packed x0 x1 x2 x3 x4 x5 x6 x7 x8 x9 x10 x11 x12 x13 z) slices_S126976_S512_21504 = x6 := by
  funext i
  have hi : (i 0).val < 512 := (i 0).isLt
  refine (extractStridedSlice_apply _ _ _ i (ix1 ⟨21504 + (i 0).val, by omega⟩) ?_).trans ?_
  · intro a
    obtain rfl : a = 0 := Subsingleton.elim _ _
    rfl
  refine (pad_apply_of_inside _ _ _ _ _ _ _ _ (ix1 ⟨21504 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨21504 + (i 0).val, by omega⟩) 6 (show 6 < 14 by decide) S512 x6 rfl rfl 21504 ?_ i
    (fun b hb => absurd (Subsingleton.elim _ _) hb) ?_
  · exact before6
  · rfl

/-- The length of the vectors in front of piece 7. -/
theorem before7 : (([S3072, S1024, S15872, S512, S512, S512, S512] : List Shape).map fun s => if h : s.rank = S126080.rank then s.size (Fin.cast h.symm 0) else 0).sum = 22016 := by
  decide +kernel

/-- Piece 7 of the packed vector. -/
theorem piece7 : extractStridedSlice S65536 ![22016] (packed x0 x1 x2 x3 x4 x5 x6 x7 x8 x9 x10 x11 x12 x13 z) slices_S126976_S65536_22016 = x7 := by
  funext i
  have hi : (i 0).val < 65536 := (i 0).isLt
  refine (extractStridedSlice_apply _ _ _ i (ix1 ⟨22016 + (i 0).val, by omega⟩) ?_).trans ?_
  · intro a
    obtain rfl : a = 0 := Subsingleton.elim _ _
    rfl
  refine (pad_apply_of_inside _ _ _ _ _ _ _ _ (ix1 ⟨22016 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨22016 + (i 0).val, by omega⟩) 7 (show 7 < 14 by decide) S65536 x7 rfl rfl 22016 ?_ i
    (fun b hb => absurd (Subsingleton.elim _ _) hb) ?_
  · exact before7
  · rfl

/-- The length of the vectors in front of piece 8. -/
theorem before8 : (([S3072, S1024, S15872, S512, S512, S512, S512, S65536] : List Shape).map fun s => if h : s.rank = S126080.rank then s.size (Fin.cast h.symm 0) else 0).sum = 87552 := by
  decide +kernel

/-- Piece 8 of the packed vector. -/
theorem piece8 : extractStridedSlice S256 ![87552] (packed x0 x1 x2 x3 x4 x5 x6 x7 x8 x9 x10 x11 x12 x13 z) slices_S126976_S256_87552 = x8 := by
  funext i
  have hi : (i 0).val < 256 := (i 0).isLt
  refine (extractStridedSlice_apply _ _ _ i (ix1 ⟨87552 + (i 0).val, by omega⟩) ?_).trans ?_
  · intro a
    obtain rfl : a = 0 := Subsingleton.elim _ _
    rfl
  refine (pad_apply_of_inside _ _ _ _ _ _ _ _ (ix1 ⟨87552 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨87552 + (i 0).val, by omega⟩) 8 (show 8 < 14 by decide) S256 x8 rfl rfl 87552 ?_ i
    (fun b hb => absurd (Subsingleton.elim _ _) hb) ?_
  · exact before8
  · rfl

/-- The length of the vectors in front of piece 9. -/
theorem before9 : (([S3072, S1024, S15872, S512, S512, S512, S512, S65536, S256] : List Shape).map fun s => if h : s.rank = S126080.rank then s.size (Fin.cast h.symm 0) else 0).sum = 87808 := by
  decide +kernel

/-- Piece 9 of the packed vector. -/
theorem piece9 : extractStridedSlice S256 ![87808] (packed x0 x1 x2 x3 x4 x5 x6 x7 x8 x9 x10 x11 x12 x13 z) slices_S126976_S256_87808 = x9 := by
  funext i
  have hi : (i 0).val < 256 := (i 0).isLt
  refine (extractStridedSlice_apply _ _ _ i (ix1 ⟨87808 + (i 0).val, by omega⟩) ?_).trans ?_
  · intro a
    obtain rfl : a = 0 := Subsingleton.elim _ _
    rfl
  refine (pad_apply_of_inside _ _ _ _ _ _ _ _ (ix1 ⟨87808 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨87808 + (i 0).val, by omega⟩) 9 (show 9 < 14 by decide) S256 x9 rfl rfl 87808 ?_ i
    (fun b hb => absurd (Subsingleton.elim _ _) hb) ?_
  · exact before9
  · rfl

/-- The length of the vectors in front of piece 10. -/
theorem before10 : (([S3072, S1024, S15872, S512, S512, S512, S512, S65536, S256, S256] : List Shape).map fun s => if h : s.rank = S126080.rank then s.size (Fin.cast h.symm 0) else 0).sum = 88064 := by
  decide +kernel

/-- Piece 10 of the packed vector. -/
theorem piece10 : extractStridedSlice S1024 ![88064] (packed x0 x1 x2 x3 x4 x5 x6 x7 x8 x9 x10 x11 x12 x13 z) slices_S126976_S1024_88064 = x10 := by
  funext i
  have hi : (i 0).val < 1024 := (i 0).isLt
  refine (extractStridedSlice_apply _ _ _ i (ix1 ⟨88064 + (i 0).val, by omega⟩) ?_).trans ?_
  · intro a
    obtain rfl : a = 0 := Subsingleton.elim _ _
    rfl
  refine (pad_apply_of_inside _ _ _ _ _ _ _ _ (ix1 ⟨88064 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨88064 + (i 0).val, by omega⟩) 10 (show 10 < 14 by decide) S1024 x10 rfl rfl 88064 ?_ i
    (fun b hb => absurd (Subsingleton.elim _ _) hb) ?_
  · exact before10
  · rfl

/-- The length of the vectors in front of piece 11. -/
theorem before11 : (([S3072, S1024, S15872, S512, S512, S512, S512, S65536, S256, S256, S1024] : List Shape).map fun s => if h : s.rank = S126080.rank then s.size (Fin.cast h.symm 0) else 0).sum = 89088 := by
  decide +kernel

/-- Piece 11 of the packed vector. -/
theorem piece11 : extractStridedSlice S36864 ![89088] (packed x0 x1 x2 x3 x4 x5 x6 x7 x8 x9 x10 x11 x12 x13 z) slices_S126976_S36864_89088 = x11 := by
  funext i
  have hi : (i 0).val < 36864 := (i 0).isLt
  refine (extractStridedSlice_apply _ _ _ i (ix1 ⟨89088 + (i 0).val, by omega⟩) ?_).trans ?_
  · intro a
    obtain rfl : a = 0 := Subsingleton.elim _ _
    rfl
  refine (pad_apply_of_inside _ _ _ _ _ _ _ _ (ix1 ⟨89088 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨89088 + (i 0).val, by omega⟩) 11 (show 11 < 14 by decide) S36864 x11 rfl rfl 89088 ?_ i
    (fun b hb => absurd (Subsingleton.elim _ _) hb) ?_
  · exact before11
  · rfl

/-- The length of the vectors in front of piece 12. -/
theorem before12 : (([S3072, S1024, S15872, S512, S512, S512, S512, S65536, S256, S256, S1024, S36864] : List Shape).map fun s => if h : s.rank = S126080.rank then s.size (Fin.cast h.symm 0) else 0).sum = 125952 := by
  decide +kernel

/-- Piece 12 of the packed vector. -/
theorem piece12 : extractStridedSlice S64 ![125952] (packed x0 x1 x2 x3 x4 x5 x6 x7 x8 x9 x10 x11 x12 x13 z) slices_S126976_S64_125952 = x12 := by
  funext i
  have hi : (i 0).val < 64 := (i 0).isLt
  refine (extractStridedSlice_apply _ _ _ i (ix1 ⟨125952 + (i 0).val, by omega⟩) ?_).trans ?_
  · intro a
    obtain rfl : a = 0 := Subsingleton.elim _ _
    rfl
  refine (pad_apply_of_inside _ _ _ _ _ _ _ _ (ix1 ⟨125952 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨125952 + (i 0).val, by omega⟩) 12 (show 12 < 14 by decide) S64 x12 rfl rfl 125952 ?_ i
    (fun b hb => absurd (Subsingleton.elim _ _) hb) ?_
  · exact before12
  · rfl

/-- The length of the vectors in front of piece 13. -/
theorem before13 : (([S3072, S1024, S15872, S512, S512, S512, S512, S65536, S256, S256, S1024, S36864, S64] : List Shape).map fun s => if h : s.rank = S126080.rank then s.size (Fin.cast h.symm 0) else 0).sum = 126016 := by
  decide +kernel

/-- Piece 13 of the packed vector. -/
theorem piece13 : extractStridedSlice S64 ![126016] (packed x0 x1 x2 x3 x4 x5 x6 x7 x8 x9 x10 x11 x12 x13 z) slices_S126976_S64_126016 = x13 := by
  funext i
  have hi : (i 0).val < 64 := (i 0).isLt
  refine (extractStridedSlice_apply _ _ _ i (ix1 ⟨126016 + (i 0).val, by omega⟩) ?_).trans ?_
  · intro a
    obtain rfl : a = 0 := Subsingleton.elim _ _
    rfl
  refine (pad_apply_of_inside _ _ _ _ _ _ _ _ (ix1 ⟨126016 + (i 0).val, by omega⟩) ?_).trans ?_
  · intro a
    obtain rfl : a = 0 := Subsingleton.elim _ _
    exact (Nat.zero_add _).symm.trans (congrArg _ (Nat.mul_one _).symm)
  refine concatenate_apply_piece 0 [⟨S3072, x0⟩, ⟨S1024, x1⟩, ⟨S15872, x2⟩, ⟨S512, x3⟩, ⟨S512, x4⟩, ⟨S512, x5⟩, ⟨S512, x6⟩, ⟨S65536, x7⟩, ⟨S256, x8⟩, ⟨S256, x9⟩, ⟨S1024, x10⟩, ⟨S36864, x11⟩, ⟨S64, x12⟩, ⟨S64, x13⟩] concatenates_S3072_S1024_S15872_S512_S512_S512_S512_S65536_S256_S256_S1024_S36864_S64_S64_S126080_d0 (ix1 ⟨126016 + (i 0).val, by omega⟩) 13 (show 13 < 14 by decide) S64 x13 rfl rfl 126016 ?_ i
    (fun b hb => absurd (Subsingleton.elim _ _) hb) ?_
  · exact before13
  · rfl

end

/-- What fills the packed vector up. -/
def filler : Vec Ideal S_ .f32 := sitofp (F := Ideal) .f32 (constantI S_ 32 0#32)

/-- The packed rows of fourteen weights. -/
def rowsOf (y0 : Vec Ideal S4x3x256 .f32) (y1 : Vec Ideal S2x512 .f32) (y2 : Vec Ideal S2x31x256 .f32) (y3 : Vec Ideal S2x256 .f32) (y4 : Vec Ideal S2x256 .f32) (y5 : Vec Ideal S2x256 .f32) (y6 : Vec Ideal S2x256 .f32) (y7 : Vec Ideal S1x4x64x256 .f32) (y8 : Vec Ideal S1x4x64 .f32) (y9 : Vec Ideal S1x256 .f32) (y10 : Vec Ideal S1024 .f32) (y11 : Vec Ideal S4x9216 .f32) (y12 : Vec Ideal S1x64 .f32) (y13 : Vec Ideal S1x64 .f32) (z : Vec Ideal S_ .f32) : Vec Ideal S992x128 .f32 :=
  shapeCast S992x128 (packed (shapeCast S3072 y0 shapeCasts_S4x3x256_S3072) (shapeCast S1024 y1 shapeCasts_S2x512_S1024) (shapeCast S15872 y2 shapeCasts_S2x31x256_S15872) (shapeCast S512 y3 shapeCasts_S2x256_S512) (shapeCast S512 y4 shapeCasts_S2x256_S512) (shapeCast S512 y5 shapeCasts_S2x256_S512) (shapeCast S512 y6 shapeCasts_S2x256_S512) (shapeCast S65536 y7 shapeCasts_S1x4x64x256_S65536) (shapeCast S256 y8 shapeCasts_S1x4x64_S256) (shapeCast S256 y9 shapeCasts_S1x256_S256) y10 (shapeCast S36864 y11 shapeCasts_S4x9216_S36864) (shapeCast S64 y12 shapeCasts_S1x64_S64) (shapeCast S64 y13 shapeCasts_S1x64_S64) z) shapeCasts_S126976_S992x128

/-- Weight 0 of packed rows. -/
def weight0 (x : Vec Ideal S992x128 .f32) : Vec Ideal S4x3x256 .f32 :=
  shapeCast S4x3x256 (extractStridedSlice S3072 ![0] (shapeCast S126976 x shapeCasts_S992x128_S126976) slices_S126976_S3072_0) shapeCasts_S3072_S4x3x256

/-- Weight 1 of packed rows. -/
def weight1 (x : Vec Ideal S992x128 .f32) : Vec Ideal S2x512 .f32 :=
  shapeCast S2x512 (extractStridedSlice S1024 ![3072] (shapeCast S126976 x shapeCasts_S992x128_S126976) slices_S126976_S1024_3072) shapeCasts_S1024_S2x512

/-- Weight 2 of packed rows. -/
def weight2 (x : Vec Ideal S992x128 .f32) : Vec Ideal S2x31x256 .f32 :=
  shapeCast S2x31x256 (extractStridedSlice S15872 ![4096] (shapeCast S126976 x shapeCasts_S992x128_S126976) slices_S126976_S15872_4096) shapeCasts_S15872_S2x31x256

/-- Weight 3 of packed rows. -/
def weight3 (x : Vec Ideal S992x128 .f32) : Vec Ideal S2x256 .f32 :=
  shapeCast S2x256 (extractStridedSlice S512 ![19968] (shapeCast S126976 x shapeCasts_S992x128_S126976) slices_S126976_S512_19968) shapeCasts_S512_S2x256

/-- Weight 4 of packed rows. -/
def weight4 (x : Vec Ideal S992x128 .f32) : Vec Ideal S2x256 .f32 :=
  shapeCast S2x256 (extractStridedSlice S512 ![20480] (shapeCast S126976 x shapeCasts_S992x128_S126976) slices_S126976_S512_20480) shapeCasts_S512_S2x256

/-- Weight 5 of packed rows. -/
def weight5 (x : Vec Ideal S992x128 .f32) : Vec Ideal S2x256 .f32 :=
  shapeCast S2x256 (extractStridedSlice S512 ![20992] (shapeCast S126976 x shapeCasts_S992x128_S126976) slices_S126976_S512_20992) shapeCasts_S512_S2x256

/-- Weight 6 of packed rows. -/
def weight6 (x : Vec Ideal S992x128 .f32) : Vec Ideal S2x256 .f32 :=
  shapeCast S2x256 (extractStridedSlice S512 ![21504] (shapeCast S126976 x shapeCasts_S992x128_S126976) slices_S126976_S512_21504) shapeCasts_S512_S2x256

/-- Weight 7 of packed rows. -/
def weight7 (x : Vec Ideal S992x128 .f32) : Vec Ideal S1x4x64x256 .f32 :=
  shapeCast S1x4x64x256 (extractStridedSlice S65536 ![22016] (shapeCast S126976 x shapeCasts_S992x128_S126976) slices_S126976_S65536_22016) shapeCasts_S65536_S1x4x64x256

/-- Weight 8 of packed rows. -/
def weight8 (x : Vec Ideal S992x128 .f32) : Vec Ideal S1x4x64 .f32 :=
  shapeCast S1x4x64 (extractStridedSlice S256 ![87552] (shapeCast S126976 x shapeCasts_S992x128_S126976) slices_S126976_S256_87552) shapeCasts_S256_S1x4x64

/-- Weight 9 of packed rows. -/
def weight9 (x : Vec Ideal S992x128 .f32) : Vec Ideal S1x256 .f32 :=
  shapeCast S1x256 (extractStridedSlice S256 ![87808] (shapeCast S126976 x shapeCasts_S992x128_S126976) slices_S126976_S256_87808) shapeCasts_S256_S1x256

/-- Weight 10 of packed rows. -/
def weight10 (x : Vec Ideal S992x128 .f32) : Vec Ideal S1024 .f32 :=
  (extractStridedSlice S1024 ![88064] (shapeCast S126976 x shapeCasts_S992x128_S126976) slices_S126976_S1024_88064)

/-- Weight 11 of packed rows. -/
def weight11 (x : Vec Ideal S992x128 .f32) : Vec Ideal S4x9216 .f32 :=
  shapeCast S4x9216 (extractStridedSlice S36864 ![89088] (shapeCast S126976 x shapeCasts_S992x128_S126976) slices_S126976_S36864_89088) shapeCasts_S36864_S4x9216

/-- Weight 12 of packed rows. -/
def weight12 (x : Vec Ideal S992x128 .f32) : Vec Ideal S1x64 .f32 :=
  shapeCast S1x64 (extractStridedSlice S64 ![125952] (shapeCast S126976 x shapeCasts_S992x128_S126976) slices_S126976_S64_125952) shapeCasts_S64_S1x64

/-- Weight 13 of packed rows. -/
def weight13 (x : Vec Ideal S992x128 .f32) : Vec Ideal S1x64 .f32 :=
  shapeCast S1x64 (extractStridedSlice S64 ![126016] (shapeCast S126976 x shapeCasts_S992x128_S126976) slices_S126976_S64_126016) shapeCasts_S64_S1x64

/-- Operand 0 of the call, packed from the arguments. -/
theorem operand0 (c : Dev nD) : V m c main_v15 = rowsOf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) filler := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

/-- Operand 1 of the call, packed from the arguments. -/
theorem operand1 (c : Dev nD) : V m c main_v31 = rowsOf (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) filler := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

/-- Operand 2 of the call, packed from the arguments. -/
theorem operand2 (c : Dev nD) : V m c main_v47 = rowsOf (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) filler := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

/-- Operand 3 of the call, packed from the arguments. -/
theorem operand3 (c : Dev nD) : V m c main_v63 = rowsOf (m (c.tc.loc main_arg42)) (m (c.tc.loc main_arg43)) (m (c.tc.loc main_arg44)) (m (c.tc.loc main_arg45)) (m (c.tc.loc main_arg46)) (m (c.tc.loc main_arg47)) (m (c.tc.loc main_arg48)) (m (c.tc.loc main_arg49)) (m (c.tc.loc main_arg50)) (m (c.tc.loc main_arg51)) (m (c.tc.loc main_arg52)) (m (c.tc.loc main_arg53)) (m (c.tc.loc main_arg54)) (m (c.tc.loc main_arg55)) filler := by
  unfold V V0 hostOps0 hostOps0_1 hostOps0_2 hostOps0_3 hostOps0_4 hostOps0_5 hostOps0_6 hostOps0_7 hostOps0_8
  simp only [List.flatten_cons, List.flatten_nil, List.append_nil, List.cons_append, List.nil_append]
  after_results_simp
  rfl

variable (y0 : Vec Ideal S4x3x256 .f32) (y1 : Vec Ideal S2x512 .f32) (y2 : Vec Ideal S2x31x256 .f32) (y3 : Vec Ideal S2x256 .f32) (y4 : Vec Ideal S2x256 .f32) (y5 : Vec Ideal S2x256 .f32) (y6 : Vec Ideal S2x256 .f32) (y7 : Vec Ideal S1x4x64x256 .f32) (y8 : Vec Ideal S1x4x64 .f32) (y9 : Vec Ideal S1x256 .f32) (y10 : Vec Ideal S1024 .f32) (y11 : Vec Ideal S4x9216 .f32) (y12 : Vec Ideal S1x64 .f32) (y13 : Vec Ideal S1x64 .f32) (z : Vec Ideal S_ .f32)

/-- Weight 0 comes back out of the packed rows. -/
theorem back0 : weight0 (rowsOf y0 y1 y2 y3 y4 y5 y6 y7 y8 y9 y10 y11 y12 y13 z) = y0 := by
  unfold weight0 rowsOf
  rw [Idealize.ShloMosaic.shapeCast_shapeCast, piece0, Idealize.ShloMosaic.shapeCast_shapeCast]

/-- Weight 1 comes back out of the packed rows. -/
theorem back1 : weight1 (rowsOf y0 y1 y2 y3 y4 y5 y6 y7 y8 y9 y10 y11 y12 y13 z) = y1 := by
  unfold weight1 rowsOf
  rw [Idealize.ShloMosaic.shapeCast_shapeCast, piece1, Idealize.ShloMosaic.shapeCast_shapeCast]

/-- Weight 2 comes back out of the packed rows. -/
theorem back2 : weight2 (rowsOf y0 y1 y2 y3 y4 y5 y6 y7 y8 y9 y10 y11 y12 y13 z) = y2 := by
  unfold weight2 rowsOf
  rw [Idealize.ShloMosaic.shapeCast_shapeCast, piece2, Idealize.ShloMosaic.shapeCast_shapeCast]

/-- Weight 3 comes back out of the packed rows. -/
theorem back3 : weight3 (rowsOf y0 y1 y2 y3 y4 y5 y6 y7 y8 y9 y10 y11 y12 y13 z) = y3 := by
  unfold weight3 rowsOf
  rw [Idealize.ShloMosaic.shapeCast_shapeCast, piece3, Idealize.ShloMosaic.shapeCast_shapeCast]

/-- Weight 4 comes back out of the packed rows. -/
theorem back4 : weight4 (rowsOf y0 y1 y2 y3 y4 y5 y6 y7 y8 y9 y10 y11 y12 y13 z) = y4 := by
  unfold weight4 rowsOf
  rw [Idealize.ShloMosaic.shapeCast_shapeCast, piece4, Idealize.ShloMosaic.shapeCast_shapeCast]

/-- Weight 5 comes back out of the packed rows. -/
theorem back5 : weight5 (rowsOf y0 y1 y2 y3 y4 y5 y6 y7 y8 y9 y10 y11 y12 y13 z) = y5 := by
  unfold weight5 rowsOf
  rw [Idealize.ShloMosaic.shapeCast_shapeCast, piece5, Idealize.ShloMosaic.shapeCast_shapeCast]

/-- Weight 6 comes back out of the packed rows. -/
theorem back6 : weight6 (rowsOf y0 y1 y2 y3 y4 y5 y6 y7 y8 y9 y10 y11 y12 y13 z) = y6 := by
  unfold weight6 rowsOf
  rw [Idealize.ShloMosaic.shapeCast_shapeCast, piece6, Idealize.ShloMosaic.shapeCast_shapeCast]

/-- Weight 7 comes back out of the packed rows. -/
theorem back7 : weight7 (rowsOf y0 y1 y2 y3 y4 y5 y6 y7 y8 y9 y10 y11 y12 y13 z) = y7 := by
  unfold weight7 rowsOf
  rw [Idealize.ShloMosaic.shapeCast_shapeCast, piece7, Idealize.ShloMosaic.shapeCast_shapeCast]

/-- Weight 8 comes back out of the packed rows. -/
theorem back8 : weight8 (rowsOf y0 y1 y2 y3 y4 y5 y6 y7 y8 y9 y10 y11 y12 y13 z) = y8 := by
  unfold weight8 rowsOf
  rw [Idealize.ShloMosaic.shapeCast_shapeCast, piece8, Idealize.ShloMosaic.shapeCast_shapeCast]

/-- Weight 9 comes back out of the packed rows. -/
theorem back9 : weight9 (rowsOf y0 y1 y2 y3 y4 y5 y6 y7 y8 y9 y10 y11 y12 y13 z) = y9 := by
  unfold weight9 rowsOf
  rw [Idealize.ShloMosaic.shapeCast_shapeCast, piece9, Idealize.ShloMosaic.shapeCast_shapeCast]

/-- Weight 10 comes back out of the packed rows. -/
theorem back10 : weight10 (rowsOf y0 y1 y2 y3 y4 y5 y6 y7 y8 y9 y10 y11 y12 y13 z) = y10 := by
  unfold weight10 rowsOf
  rw [Idealize.ShloMosaic.shapeCast_shapeCast, piece10]

/-- Weight 11 comes back out of the packed rows. -/
theorem back11 : weight11 (rowsOf y0 y1 y2 y3 y4 y5 y6 y7 y8 y9 y10 y11 y12 y13 z) = y11 := by
  unfold weight11 rowsOf
  rw [Idealize.ShloMosaic.shapeCast_shapeCast, piece11, Idealize.ShloMosaic.shapeCast_shapeCast]

/-- Weight 12 comes back out of the packed rows. -/
theorem back12 : weight12 (rowsOf y0 y1 y2 y3 y4 y5 y6 y7 y8 y9 y10 y11 y12 y13 z) = y12 := by
  unfold weight12 rowsOf
  rw [Idealize.ShloMosaic.shapeCast_shapeCast, piece12, Idealize.ShloMosaic.shapeCast_shapeCast]

/-- Weight 13 comes back out of the packed rows. -/
theorem back13 : weight13 (rowsOf y0 y1 y2 y3 y4 y5 y6 y7 y8 y9 y10 y11 y12 y13 z) = y13 := by
  unfold weight13 rowsOf
  rw [Idealize.ShloMosaic.shapeCast_shapeCast, piece13, Idealize.ShloMosaic.shapeCast_shapeCast]

end Cert.AdamSmallIdeal.Step

end
-- ==== Proof.AdamSmall.lean ====
/- The optimiser's call for the fourteen small weights, packed into one array: one AdamW step of each weight, and its reference's. -/
module

public import proofs.«01_k».proof.Defs
public import proofs.«01_k».proof.Proof.Gen.AdamSmallIdeal
public import proofs.«01_k».proof.Proof.Gen.AdamSmallIdeal.Frame
public import proofs.«01_k».proof.Proof.Gen.AdamSmallReferenceIdeal
public import proofs.«01_k».proof.Proof.Gen.AdamSmallReferenceIdeal.Run
public import proofs.«01_k».proof.Proof.AdamMath
public import proofs.«01_k».proof.Proof.AdamPack
public import Idealize.ShloMosaic.Lib.Pipeline.ValueKit
public import Idealize.ShloMosaic.Lib.Pipeline.FrameSuffix
public import Idealize.ShloMosaic.Lib.Claim
public import Idealize.ShloMosaic.Lib.KernelVsHost
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamSmallIdeal.Step

open Cert.AdamSmallIdeal Cert.AdamSmallIdeal.Gen

variable (m : (ℓ : Loc nD τ sig) → Buf (Elt Ideal) ℓ) (ρ : Dev nD → PrngReg)

/-- The weights' changes of one block. -/
theorem block4 (x0 x1 x2 x3 : Vec Ideal S992x128 .f32) (y : S992x128.Idx) :
    out0_4 x0 x1 x2 x3 y = Adam.delta (x0 y) (x1 y) (x2 y) (x3 y) := by
  unfold out0_4
  open_payloads
  frame_out
  idx_vars y
  pointwise
  rfl

/-- The weights' changes as rows after the call. -/
theorem rows4 (c : Dev nD) : (dats m 0 c).arrAt 4 cfg0.N
    = (Adam.deltas (V m c main_v15) (V m c main_v31) (V m c main_v47) (V m c main_v63) : Vec Ideal S992x128 .f32) := by
  refine (dats m 0 c).arrAt_eq_of_covers 4 (Adam.deltas (V m c main_v15) (V m c main_v31) (V m c main_v47) (V m c main_v63) : Vec Ideal S992x128 .f32) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  rfl

/-- The first moments of one block. -/
theorem block5 (x0 x1 x2 x3 : Vec Ideal S992x128 .f32) (y : S992x128.Idx) :
    out0_5 x0 x1 x2 x3 y = Adam.first (x1 y) (x2 y) := by
  unfold out0_5
  open_payloads
  frame_out
  idx_vars y
  pointwise
  rfl

/-- The first moments as rows after the call. -/
theorem rows5 (c : Dev nD) : (dats m 0 c).arrAt 5 cfg0.N
    = (Adam.firsts (V m c main_v31) (V m c main_v47) : Vec Ideal S992x128 .f32) := by
  refine (dats m 0 c).arrAt_eq_of_covers 5 (Adam.firsts (V m c main_v31) (V m c main_v47) : Vec Ideal S992x128 .f32) (by decide +kernel) fun t hf y => ?_
  rw [after0_5]
  generalize e0 : iblk m c 0 t = x0
  generalize e1 : iblk m c 1 t = x1
  generalize e2 : iblk m c 2 t = x2
  generalize e3 : iblk m c 3 t = x3
  blk_simp
  rw [block5, ← e1, ← e2]
  rfl

/-- The second moments of one block. -/
theorem block6 (x0 x1 x2 x3 : Vec Ideal S992x128 .f32) (y : S992x128.Idx) :
    out0_6 x0 x1 x2 x3 y = Adam.second (x1 y) (x3 y) := by
  unfold out0_6
  open_payloads
  frame_out
  idx_vars y
  pointwise
  rfl

/-- The second moments as rows after the call. -/
theorem rows6 (c : Dev nD) : (dats m 0 c).arrAt 6 cfg0.N
    = (Adam.seconds (V m c main_v31) (V m c main_v63) : Vec Ideal S992x128 .f32) := by
  refine (dats m 0 c).arrAt_eq_of_covers 6 (Adam.seconds (V m c main_v31) (V m c main_v63) : Vec Ideal S992x128 .f32) (by decide +kernel) fun t hf y => ?_
  rw [after0_6]
  generalize e0 : iblk m c 0 t = x0
  generalize e1 : iblk m c 1 t = x1
  generalize e2 : iblk m c 2 t = x2
  generalize e3 : iblk m c 3 t = x3
  blk_simp
  rw [block6, ← e1, ← e3]
  rfl

/-- After the call's arrays are put back, the one of window 4 is the call's. -/
theorem kept4 (c : Dev nD) : Pipeline.withArrays spec0 c (V0 m c) (fun w => (dats m 0 c).arrAt w cfg0.N) (Proc.devRef .tc main_v64_0)
    = (dats m 0 c).arrAt 4 cfg0.N := Pipeline.withArrays_arr spec0 launch0.win.arr_inj c _ _ 4

/-- The weights' changes of weight 0 at the end, through the host lines after the call. -/
theorem tail4_0 (c : Dev nD) : Pipeline.afterTail₀ cfgs (dats m) 0 (V0 m) [hostOps1] c main_v67 =
    (weight0 ((dats m 0 c).arrAt 4 cfg0.N)) := by
  unfold Pipeline.afterTail₀ hostOps1
  simp only [List.flatten_cons, List.flatten_nil, List.append_nil]
  after_results_simp
  rw [kept4]
  rfl

/-- The weights' changes of weight 0 at the end, from the arguments. -/
theorem left4_0 (c : Dev nD) : Pipeline.afterTail₀ cfgs (dats m) 0 (V0 m) [hostOps1] c main_v67
    = (Adam.deltas (m (c.tc.loc main_arg0)) (m (c.tc.loc main_arg14)) (m (c.tc.loc main_arg28)) (m (c.tc.loc main_arg42)) : Vec Ideal S4x3x256 .f32) := by
  rw [tail4_0, rows4]
  refine Eq.trans (show _ = (Adam.deltas (weight0 (V m c main_v15)) (weight0 (V m c main_v31)) (weight0 (V m c main_v47)) (weight0 (V m c main_v63)) : Vec Ideal S4x3x256 .f32) from rfl) ?_
  rw [operand0, operand1, operand2, operand3, back0, back0, back0, back0]

/-- The weights' changes of weight 1 at the end, through the host lines after the call. -/
theorem tail4_1 (c : Dev nD) : Pipeline.afterTail₀ cfgs (dats m) 0 (V0 m) [hostOps1] c main_v69 =
    (weight1 ((dats m 0 c).arrAt 4 cfg0.N)) := by
  unfold Pipeline.afterTail₀ hostOps1
  simp only [List.flatten_cons, List.flatten_nil, List.append_nil]
  after_results_simp
  rw [kept4]
  rfl

/-- The weights' changes of weight 1 at the end, from the arguments. -/
theorem left4_1 (c : Dev nD) : Pipeline.afterTail₀ cfgs (dats m) 0 (V0 m) [hostOps1] c main_v69
    = (Adam.deltas (m (c.tc.loc main_arg1)) (m (c.tc.loc main_arg15)) (m (c.tc.loc main_arg29)) (m (c.tc.loc main_arg43)) : Vec Ideal S2x512 .f32) := by
  rw [tail4_1, rows4]
  refine Eq.trans (show _ = (Adam.deltas (weight1 (V m c main_v15)) (weight1 (V m c main_v31)) (weight1 (V m c main_v47)) (weight1 (V m c main_v63)) : Vec Ideal S2x512 .f32) from rfl) ?_
  rw [operand0, operand1, operand2, operand3, back1, back1, back1, back1]

/-- The weights' changes of weight 2 at the end, through the host lines after the call. -/
theorem tail4_2 (c : Dev nD) : Pipeline.afterTail₀ cfgs (dats m) 0 (V0 m) [hostOps1] c main_v71 =
    (weight2 ((dats m 0 c).arrAt 4 cfg0.N)) := by
  unfold Pipeline.afterTail₀ hostOps1
  simp only [List.flatten_cons, List.flatten_nil, List.append_nil]
  after_results_simp
  rw [kept4]
  rfl

/-- The weights' changes of weight 2 at the end, from the arguments. -/
theorem left4_2 (c : Dev nD) : Pipeline.afterTail₀ cfgs (dats m) 0 (V0 m) [hostOps1] c main_v71
    = (Adam.deltas (m (c.tc.loc main_arg2)) (m (c.tc.loc main_arg16)) (m (c.tc.loc main_arg30)) (m (c.tc.loc main_arg44)) : Vec Ideal S2x31x256 .f32) := by
  rw [tail4_2, rows4]
  refine Eq.trans (show _ = (Adam.deltas (weight2 (V m c main_v15)) (weight2 (V m c main_v31)) (weight2 (V m c main_v47)) (weight2 (V m c main_v63)) : Vec Ideal S2x31x256 .f32) from rfl) ?_
  rw [operand0, operand1, operand2, operand3, back2, back2, back2, back2]

/-- The weights' changes of weight 3 at the end, through the host lines after the call. -/
theorem tail4_3 (c : Dev nD) : Pipeline.afterTail₀ cfgs (dats m) 0 (V0 m) [hostOps1] c main_v73 =
    (weight3 ((dats m 0 c).arrAt 4 cfg0.N)) := by
  unfold Pipeline.afterTail₀ hostOps1
  simp only [List.flatten_cons, List.flatten_nil, List.append_nil]
  after_results_simp
  rw [kept4]
  rfl

/-- The weights' changes of weight 3 at the end, from the arguments. -/
theorem left4_3 (c : Dev nD) : Pipeline.afterTail₀ cfgs (dats m) 0 (V0 m) [hostOps1] c main_v73
    = (Adam.deltas (m (c.tc.loc main_arg3)) (m (c.tc.loc main_arg17)) (m (c.tc.loc main_arg31)) (m (c.tc.loc main_arg45)) : Vec Ideal S2x256 .f32) := by
  rw [tail4_3, rows4]
  refine Eq.trans (show _ = (Adam.deltas (weight3 (V m c main_v15)) (weight3 (V m c main_v31)) (weight3 (V m c main_v47)) (weight3 (V m c main_v63)) : Vec Ideal S2x256 .f32) from rfl) ?_
  rw [operand0, operand1, operand2, operand3, back3, back3, back3, back3]

/-- The weights' changes of weight 4 at the end, through the host lines after the call. -/
theorem tail4_4 (c : Dev nD) : Pipeline.afterTail₀ cfgs (dats m) 0 (V0 m) [hostOps1] c main_v75 =
    (weight4 ((dats m 0 c).arrAt 4 cfg0.N)) := by
  unfold Pipeline.afterTail₀ hostOps1
  simp only [List.flatten_cons, List.flatten_nil, List.append_nil]
  after_results_simp
  rw [kept4]
  rfl

/-- The weights' changes of weight 4 at the end, from the arguments. -/
theorem left4_4 (c : Dev nD) : Pipeline.afterTail₀ cfgs (dats m) 0 (V0 m) [hostOps1] c main_v75
    = (Adam.deltas (m (c.tc.loc main_arg4)) (m (c.tc.loc main_arg18)) (m (c.tc.loc main_arg32)) (m (c.tc.loc main_arg46)) : Vec Ideal S2x256 .f32) := by
  rw [tail4_4, rows4]
  refine Eq.trans (show _ = (Adam.deltas (weight4 (V m c main_v15)) (weight4 (V m c main_v31)) (weight4 (V m c main_v47)) (weight4 (V m c main_v63)) : Vec Ideal S2x256 .f32) from rfl) ?_
  rw [operand0, operand1, operand2, operand3, back4, back4, back4, back4]

/-- The weights' changes of weight 5 at the end, through the host lines after the call. -/
theorem tail4_5 (c : Dev nD) : Pipeline.afterTail₀ cfgs (dats m) 0 (V0 m) [hostOps1] c main_v77 =
    (weight5 ((dats m 0 c).arrAt 4 cfg0.N)) := by
  unfold Pipeline.afterTail₀ hostOps1
  simp only [List.flatten_cons, List.flatten_nil, List.append_nil]
  after_results_simp
  rw [kept4]
  rfl

/-- The weights' changes of weight 5 at the end, from the arguments. -/
theorem left4_5 (c : Dev nD) : Pipeline.afterTail₀ cfgs (dats m) 0 (V0 m) [hostOps1] c main_v77
    = (Adam.deltas (m (c.tc.loc main_arg5)) (m (c.tc.loc main_arg19)) (m (c.tc.loc main_arg33)) (m (c.tc.loc main_arg47)) : Vec Ideal S2x256 .f32) := by
  rw [tail4_5, rows4]
  refine Eq.trans (show _ = (Adam.deltas (weight5 (V m c main_v15)) (weight5 (V m c main_v31)) (weight5 (V m c main_v47)) (weight5 (V m c main_v63)) : Vec Ideal S2x256 .f32) from rfl) ?_
  rw [operand0, operand1, operand2, operand3, back5, back5, back5, back5]

/-- The weights' changes of weight 6 at the end, through the host lines after the call. -/
theorem tail4_6 (c : Dev nD) : Pipeline.afterTail₀ cfgs (dats m) 0 (V0 m) [hostOps1] c main_v79 =
    (weight6 ((dats m 0 c).arrAt 4 cfg0.N)) := by
  unfold Pipeline.afterTail₀ hostOps1
  simp only [List.flatten_cons, List.flatten_nil, List.append_nil]
  after_results_simp
  rw [kept4]
  rfl

/-- The weights' changes of weight 6 at the end, from the arguments. -/
theorem left4_6 (c : Dev nD) : Pipeline.afterTail₀ cfgs (dats m) 0 (V0 m) [hostOps1] c main_v79
    = (Adam.deltas (m (c.tc.loc main_arg6)) (m (c.tc.loc main_arg20)) (m (c.tc.loc main_arg34)) (m (c.tc.loc main_arg48)) : Vec Ideal S2x256 .f32) := by
  rw [tail4_6, rows4]
  refine Eq.trans (show _ = (Adam.deltas (weight6 (V m c main_v15)) (weight6 (V m c main_v31)) (weight6 (V m c main_v47)) (weight6 (V m c main_v63)) : Vec Ideal S2x256 .f32) from rfl) ?_
  rw [operand0, operand1, operand2, operand3, back6, back6, back6, back6]

/-- The weights' changes of weight 7 at the end, through the host lines after the call. -/
theorem tail4_7 (c : Dev nD) : Pipeline.afterTail₀ cfgs (dats m) 0 (V0 m) [hostOps1] c main_v81 =
    (weight7 ((dats m 0 c).arrAt 4 cfg0.N)) := by
  unfold Pipeline.afterTail₀ hostOps1
  simp only [List.flatten_cons, List.flatten_nil, List.append_nil]
  after_results_simp
  rw [kept4]
  rfl

/-- The weights' changes of weight 7 at the end, from the arguments. -/
theorem left4_7 (c : Dev nD) : Pipeline.afterTail₀ cfgs (dats m) 0 (V0 m) [hostOps1] c main_v81
    = (Adam.deltas (m (c.tc.loc main_arg7)) (m (c.tc.loc main_arg21)) (m (c.tc.loc main_arg35)) (m (c.tc.loc main_arg49)) : Vec Ideal S1x4x64x256 .f32) := by
  rw [tail4_7, rows4]
  refine Eq.trans (show _ = (Adam.deltas (weight7 (V m c main_v15)) (weight7 (V m c main_v31)) (weight7 (V m c main_v47)) (weight7 (V m c main_v63)) : Vec Ideal S1x4x64x256 .f32) from rfl) ?_
  rw [operand0, operand1, operand2, operand3, back7, back7, back7, back7]

/-- The weights' changes of weight 8 at the end, through the host lines after the call. -/
theorem tail4_8 (c : Dev nD) : Pipeline.afterTail₀ cfgs (dats m) 0 (V0 m) [hostOps1] c main_v83 =
    (weight8 ((dats m 0 c).arrAt 4 cfg0.N)) := by
  unfold Pipeline.afterTail₀ hostOps1
  simp only [List.flatten_cons, List.flatten_nil, List.append_nil]
  after_results_simp
  rw [kept4]
  rfl

/-- The weights' changes of weight 8 at the end, from the arguments. -/
theorem left4_8 (c : Dev nD) : Pipeline.afterTail₀ cfgs (dats m) 0 (V0 m) [hostOps1] c main_v83
    = (Adam.deltas (m (c.tc.loc main_arg8)) (m (c.tc.loc main_arg22)) (m (c.tc.loc main_arg36)) (m (c.tc.loc main_arg50)) : Vec Ideal S1x4x64 .f32) := by
  rw [tail4_8, rows4]
  refine Eq.trans (show _ = (Adam.deltas (weight8 (V m c main_v15)) (weight8 (V m c main_v31)) (weight8 (V m c main_v47)) (weight8 (V m c main_v63)) : Vec Ideal S1x4x64 .f32) from rfl) ?_
  rw [operand0, operand1, operand2, operand3, back8, back8, back8, back8]

/-- The weights' changes of weight 9 at the end, through the host lines after the call. -/
theorem tail4_9 (c : Dev nD) : Pipeline.afterTail₀ cfgs (dats m) 0 (V0 m) [hostOps1] c main_v85 =
    (weight9 ((dats m 0 c).arrAt 4 cfg0.N)) := by
  unfold Pipeline.afterTail₀ hostOps1
  simp only [List.flatten_cons, List.flatten_nil, List.append_nil]
  after_results_simp
  rw [kept4]
  rfl

/-- The weights' changes of weight 9 at the end, from the arguments. -/
theorem left4_9 (c : Dev nD) : Pipeline.afterTail₀ cfgs (dats m) 0 (V0 m) [hostOps1] c main_v85
    = (Adam.deltas (m (c.tc.loc main_arg9)) (m (c.tc.loc main_arg23)) (m (c.tc.loc main_arg37)) (m (c.tc.loc main_arg51)) : Vec Ideal S1x256 .f32) := by
  rw [tail4_9, rows4]
  refine Eq.trans (show _ = (Adam.deltas (weight9 (V m c main_v15)) (weight9 (V m c main_v31)) (weight9 (V m c main_v47)) (weight9 (V m c main_v63)) : Vec Ideal S1x256 .f32) from rfl) ?_
  rw [operand0, operand1, operand2, operand3, back9, back9, back9, back9]

/-- The weights' changes of weight 10 at the end, through the host lines after the call. -/
theorem tail4_10 (c : Dev nD) : Pipeline.afterTail₀ cfgs (dats m) 0 (V0 m) [hostOps1] c main_v86 =
    weight10 ((dats m 0 c).arrAt 4 cfg0.N) := by
  unfold Pipeline.afterTail₀ hostOps1
  simp only [List.flatten_cons, List.flatten_nil, List.append_nil]
  after_results_simp
  rw [kept4]
  rfl

/-- The weights' changes of weight 10 at the end, from the arguments. -/
theorem left4_10 (c : Dev nD) : Pipeline.afterTail₀ cfgs (dats m) 0 (V0 m) [hostOps1] c main_v86
    = (Adam.deltas (m (c.tc.loc main_arg10)) (m (c.tc.loc main_arg24)) (m (c.tc.loc main_arg38)) (m (c.tc.loc main_arg52)) : Vec Ideal S1024 .f32) := by
  rw [tail4_10, rows4]
  refine Eq.trans (show _ = (Adam.deltas (weight10 (V m c main_v15)) (weight10 (V m c main_v31)) (weight10 (V m c main_v47)) (weight10 (V m c main_v63)) : Vec Ideal S1024 .f32) from rfl) ?_
  rw [operand0, operand1, operand2, operand3, back10, back10, back10, back10]

/-- The weights' changes of weight 11 at the end, through the host lines after the call. -/
theorem tail4_11 (c : Dev nD) : Pipeline.afterTail₀ cfgs (dats m) 0 (V0 m) [hostOps1] c main_v88 =
    (weight11 ((dats m 0 c).arrAt 4 cfg0.N)) := by
  unfold Pipeline.afterTail₀ hostOps1
  simp only [List.flatten_cons, List.flatten_nil, List.append_nil]
  after_results_simp
  rw [kept4]
  rfl

/-- The weights' changes of weight 11 at the end, from the arguments. -/
theorem left4_11 (c : Dev nD) : Pipeline.afterTail₀ cfgs (dats m) 0 (V0 m) [hostOps1] c main_v88
    = (Adam.deltas (m (c.tc.loc main_arg11)) (m (c.tc.loc main_arg25)) (m (c.tc.loc main_arg39)) (m (c.tc.loc main_arg53)) : Vec Ideal S4x9216 .f32) := by
  rw [tail4_11, rows4]
  refine Eq.trans (show _ = (Adam.deltas (weight11 (V m c main_v15)) (weight11 (V m c main_v31)) (weight11 (V m c main_v47)) (weight11 (V m c main_v63)) : Vec Ideal S4x9216 .f32) from rfl) ?_
  rw [operand0, operand1, operand2, operand3, back11, back11, back11, back11]

/-- The weights' changes of weight 12 at the end, through the host lines after the call. -/
theorem tail4_12 (c : Dev nD) : Pipeline.afterTail₀ cfgs (dats m) 0 (V0 m) [hostOps1] c main_v90 =
    (weight12 ((dats m 0 c).arrAt 4 cfg0.N)) := by
  unfold Pipeline.afterTail₀ hostOps1
  simp only [List.flatten_cons, List.flatten_nil, List.append_nil]
  after_results_simp
  rw [kept4]
  rfl

/-- The weights' changes of weight 12 at the end, from the arguments. -/
theorem left4_12 (c : Dev nD) : Pipeline.afterTail₀ cfgs (dats m) 0 (V0 m) [hostOps1] c main_v90
    = (Adam.deltas (m (c.tc.loc main_arg12)) (m (c.tc.loc main_arg26)) (m (c.tc.loc main_arg40)) (m (c.tc.loc main_arg54)) : Vec Ideal S1x64 .f32) := by
  rw [tail4_12, rows4]
  refine Eq.trans (show _ = (Adam.deltas (weight12 (V m c main_v15)) (weight12 (V m c main_v31)) (weight12 (V m c main_v47)) (weight12 (V m c main_v63)) : Vec Ideal S1x64 .f32) from rfl) ?_
  rw [operand0, operand1, operand2, operand3, back12, back12, back12, back12]

/-- The weights' changes of weight 13 at the end, through the host lines after the call. -/
theorem tail4_13 (c : Dev nD) : Pipeline.afterTail₀ cfgs (dats m) 0 (V0 m) [hostOps1] c main_v92 =
    (weight13 ((dats m 0 c).arrAt 4 cfg0.N)) := by
  unfold Pipeline.afterTail₀ hostOps1
  simp only [List.flatten_cons, List.flatten_nil, List.append_nil]
  after_results_simp
  rw [kept4]
  rfl

/-- The weights' changes of weight 13 at the end, from the arguments. -/
theorem left4_13 (c : Dev nD) : Pipeline.afterTail₀ cfgs (dats m) 0 (V0 m) [hostOps1] c main_v92
    = (Adam.deltas (m (c.tc.loc main_arg13)) (m (c.tc.loc main_arg27)) (m (c.tc.loc main_arg41)) (m (c.tc.loc main_arg55)) : Vec Ideal S1x64 .f32) := by
  rw [tail4_13, rows4]
  refine Eq.trans (show _ = (Adam.deltas (weight13 (V m c main_v15)) (weight13 (V m c main_v31)) (weight13 (V m c main_v47)) (weight13 (V m c main_v63)) : Vec Ideal S1x64 .f32) from rfl) ?_
  rw [operand0, operand1, operand2, operand3, back13, back13, back13, back13]

/-- After the call's arrays are put back, the one of window 5 is the call's. -/
theorem kept5 (c : Dev nD) : Pipeline.withArrays spec0 c (V0 m c) (fun w => (dats m 0 c).arrAt w cfg0.N) (Proc.devRef .tc main_v64_1)
    = (dats m 0 c).arrAt 5 cfg0.N := Pipeline.withArrays_arr spec0 launch0.win.arr_inj c _ _ 5

/-- The first moments of weight 0 at the end, through the host lines after the call. -/
theorem tail5_0 (c : Dev nD) : Pipeline.afterTail₀ cfgs (dats m) 0 (V0 m) [hostOps1] c main_v95 =
    (weight0 ((dats m 0 c).arrAt 5 cfg0.N)) := by
  unfold Pipeline.afterTail₀ hostOps1
  simp only [List.flatten_cons, List.flatten_nil, List.append_nil]
  after_results_simp
  rw [kept5]
  rfl

/-- The first moments of weight 0 at the end, from the arguments. -/
theorem left5_0 (c : Dev nD) : Pipeline.afterTail₀ cfgs (dats m) 0 (V0 m) [hostOps1] c main_v95
    = (Adam.firsts (m (c.tc.loc main_arg14)) (m (c.tc.loc main_arg28)) : Vec Ideal S4x3x256 .f32) := by
  rw [tail5_0, rows5]
  refine Eq.trans (show _ = (Adam.firsts (weight0 (V m c main_v31)) (weight0 (V m c main_v47)) : Vec Ideal S4x3x256 .f32) from rfl) ?_
  rw [operand1, operand2, back0, back0]

/-- The first moments of weight 1 at the end, through the host lines after the call. -/
theorem tail5_1 (c : Dev nD) : Pipeline.afterTail₀ cfgs (dats m) 0 (V0 m) [hostOps1] c main_v97 =
    (weight1 ((dats m 0 c).arrAt 5 cfg0.N)) := by
  unfold Pipeline.afterTail₀ hostOps1
  simp only [List.flatten_cons, List.flatten_nil, List.append_nil]
  after_results_simp
  rw [kept5]
  rfl

/-- The first moments of weight 1 at the end, from the arguments. -/
theorem left5_1 (c : Dev nD) : Pipeline.afterTail₀ cfgs (dats m) 0 (V0 m) [hostOps1] c main_v97
    = (Adam.firsts (m (c.tc.loc main_arg15)) (m (c.tc.loc main_arg29)) : Vec Ideal S2x512 .f32) := by
  rw [tail5_1, rows5]
  refine Eq.trans (show _ = (Adam.firsts (weight1 (V m c main_v31)) (weight1 (V m c main_v47)) : Vec Ideal S2x512 .f32) from rfl) ?_
  rw [operand1, operand2, back1, back1]

/-- The first moments of weight 2 at the end, through the host lines after the call. -/
theorem tail5_2 (c : Dev nD) : Pipeline.afterTail₀ cfgs (dats m) 0 (V0 m) [hostOps1] c main_v99 =
    (weight2 ((dats m 0 c).arrAt 5 cfg0.N)) := by
  unfold Pipeline.afterTail₀ hostOps1
  simp only [List.flatten_cons, List.flatten_nil, List.append_nil]
  after_results_simp
  rw [kept5]
  rfl

/-- The first moments of weight 2 at the end, from the arguments. -/
theorem left5_2 (c : Dev nD) : Pipeline.afterTail₀ cfgs (dats m) 0 (V0 m) [hostOps1] c main_v99
    = (Adam.firsts (m (c.tc.loc main_arg16)) (m (c.tc.loc main_arg30)) : Vec Ideal S2x31x256 .f32) := by
  rw [tail5_2, rows5]
  refine Eq.trans (show _ = (Adam.firsts (weight2 (V m c main_v31)) (weight2 (V m c main_v47)) : Vec Ideal S2x31x256 .f32) from rfl) ?_
  rw [operand1, operand2, back2, back2]

/-- The first moments of weight 3 at the end, through the host lines after the call. -/
theorem tail5_3 (c : Dev nD) : Pipeline.afterTail₀ cfgs (dats m) 0 (V0 m) [hostOps1] c main_v101 =
    (weight3 ((dats m 0 c).arrAt 5 cfg0.N)) := by
  unfold Pipeline.afterTail₀ hostOps1
  simp only [List.flatten_cons, List.flatten_nil, List.append_nil]
  after_results_simp
  rw [kept5]
  rfl

/-- The first moments of weight 3 at the end, from the arguments. -/
theorem left5_3 (c : Dev nD) : Pipeline.afterTail₀ cfgs (dats m) 0 (V0 m) [hostOps1] c main_v101
    = (Adam.firsts (m (c.tc.loc main_arg17)) (m (c.tc.loc main_arg31)) : Vec Ideal S2x256 .f32) := by
  rw [tail5_3, rows5]
  refine Eq.trans (show _ = (Adam.firsts (weight3 (V m c main_v31)) (weight3 (V m c main_v47)) : Vec Ideal S2x256 .f32) from rfl) ?_
  rw [operand1, operand2, back3, back3]

/-- The first moments of weight 4 at the end, through the host lines after the call. -/
theorem tail5_4 (c : Dev nD) : Pipeline.afterTail₀ cfgs (dats m) 0 (V0 m) [hostOps1] c main_v103 =
    (weight4 ((dats m 0 c).arrAt 5 cfg0.N)) := by
  unfold Pipeline.afterTail₀ hostOps1
  simp only [List.flatten_cons, List.flatten_nil, List.append_nil]
  after_results_simp
  rw [kept5]
  rfl

/-- The first moments of weight 4 at the end, from the arguments. -/
theorem left5_4 (c : Dev nD) : Pipeline.afterTail₀ cfgs (dats m) 0 (V0 m) [hostOps1] c main_v103
    = (Adam.firsts (m (c.tc.loc main_arg18)) (m (c.tc.loc main_arg32)) : Vec Ideal S2x256 .f32) := by
  rw [tail5_4, rows5]
  refine Eq.trans (show _ = (Adam.firsts (weight4 (V m c main_v31)) (weight4 (V m c main_v47)) : Vec Ideal S2x256 .f32) from rfl) ?_
  rw [operand1, operand2, back4, back4]

/-- The first moments of weight 5 at the end, through the host lines after the call. -/
theorem tail5_5 (c : Dev nD) : Pipeline.afterTail₀ cfgs (dats m) 0 (V0 m) [hostOps1] c main_v105 =
    (weight5 ((dats m 0 c).arrAt 5 cfg0.N)) := by
  unfold Pipeline.afterTail₀ hostOps1
  simp only [List.flatten_cons, List.flatten_nil, List.append_nil]
  after_results_simp
  rw [kept5]
  rfl

/-- The first moments of weight 5 at the end, from the arguments. -/
theorem left5_5 (c : Dev nD) : Pipeline.afterTail₀ cfgs (dats m) 0 (V0 m) [hostOps1] c main_v105
    = (Adam.firsts (m (c.tc.loc main_arg19)) (m (c.tc.loc main_arg33)) : Vec Ideal S2x256 .f32) := by
  rw [tail5_5, rows5]
  refine Eq.trans (show _ = (Adam.firsts (weight5 (V m c main_v31)) (weight5 (V m c main_v47)) : Vec Ideal S2x256 .f32) from rfl) ?_
  rw [operand1, operand2, back5, back5]

/-- The first moments of weight 6 at the end, through the host lines after the call. -/
theorem tail5_6 (c : Dev nD) : Pipeline.afterTail₀ cfgs (dats m) 0 (V0 m) [hostOps1] c main_v107 =
    (weight6 ((dats m 0 c).arrAt 5 cfg0.N)) := by
  unfold Pipeline.afterTail₀ hostOps1
  simp only [List.flatten_cons, List.flatten_nil, List.append_nil]
  after_results_simp
  rw [kept5]
  rfl

/-- The first moments of weight 6 at the end, from the arguments. -/
theorem left5_6 (c : Dev nD) : Pipeline.afterTail₀ cfgs (dats m) 0 (V0 m) [hostOps1] c main_v107
    = (Adam.firsts (m (c.tc.loc main_arg20)) (m (c.tc.loc main_arg34)) : Vec Ideal S2x256 .f32) := by
  rw [tail5_6, rows5]
  refine Eq.trans (show _ = (Adam.firsts (weight6 (V m c main_v31)) (weight6 (V m c main_v47)) : Vec Ideal S2x256 .f32) from rfl) ?_
  rw [operand1, operand2, back6, back6]

/-- The first moments of weight 7 at the end, through the host lines after the call. -/
theorem tail5_7 (c : Dev nD) : Pipeline.afterTail₀ cfgs (dats m) 0 (V0 m) [hostOps1] c main_v109 =
    (weight7 ((dats m 0 c).arrAt 5 cfg0.N)) := by
  unfold Pipeline.afterTail₀ hostOps1
  simp only [List.flatten_cons, List.flatten_nil, List.append_nil]
  after_results_simp
  rw [kept5]
  rfl

/-- The first moments of weight 7 at the end, from the arguments. -/
theorem left5_7 (c : Dev nD) : Pipeline.afterTail₀ cfgs (dats m) 0 (V0 m) [hostOps1] c main_v109
    = (Adam.firsts (m (c.tc.loc main_arg21)) (m (c.tc.loc main_arg35)) : Vec Ideal S1x4x64x256 .f32) := by
  rw [tail5_7, rows5]
  refine Eq.trans (show _ = (Adam.firsts (weight7 (V m c main_v31)) (weight7 (V m c main_v47)) : Vec Ideal S1x4x64x256 .f32) from rfl) ?_
  rw [operand1, operand2, back7, back7]

/-- The first moments of weight 8 at the end, through the host lines after the call. -/
theorem tail5_8 (c : Dev nD) : Pipeline.afterTail₀ cfgs (dats m) 0 (V0 m) [hostOps1] c main_v111 =
    (weight8 ((dats m 0 c).arrAt 5 cfg0.N)) := by
  unfold Pipeline.afterTail₀ hostOps1
  simp only [List.flatten_cons, List.flatten_nil, List.append_nil]
  after_results_simp
  rw [kept5]
  rfl

/-- The first moments of weight 8 at the end, from the arguments. -/
theorem left5_8 (c : Dev nD) : Pipeline.afterTail₀ cfgs (dats m) 0 (V0 m) [hostOps1] c main_v111
    = (Adam.firsts (m (c.tc.loc main_arg22)) (m (c.tc.loc main_arg36)) : Vec Ideal S1x4x64 .f32) := by
  rw [tail5_8, rows5]
  refine Eq.trans (show _ = (Adam.firsts (weight8 (V m c main_v31)) (weight8 (V m c main_v47)) : Vec Ideal S1x4x64 .f32) from rfl) ?_
  rw [operand1, operand2, back8, back8]

/-- The first moments of weight 9 at the end, through the host lines after the call. -/
theorem tail5_9 (c : Dev nD) : Pipeline.afterTail₀ cfgs (dats m) 0 (V0 m) [hostOps1] c main_v113 =
    (weight9 ((dats m 0 c).arrAt 5 cfg0.N)) := by
  unfold Pipeline.afterTail₀ hostOps1
  simp only [List.flatten_cons, List.flatten_nil, List.append_nil]
  after_results_simp
  rw [kept5]
  rfl

/-- The first moments of weight 9 at the end, from the arguments. -/
theorem left5_9 (c : Dev nD) : Pipeline.afterTail₀ cfgs (dats m) 0 (V0 m) [hostOps1] c main_v113
    = (Adam.firsts (m (c.tc.loc main_arg23)) (m (c.tc.loc main_arg37)) : Vec Ideal S1x256 .f32) := by
  rw [tail5_9, rows5]
  refine Eq.trans (show _ = (Adam.firsts (weight9 (V m c main_v31)) (weight9 (V m c main_v47)) : Vec Ideal S1x256 .f32) from rfl) ?_
  rw [operand1, operand2, back9, back9]

/-- The first moments of weight 10 at the end, through the host lines after the call. -/
theorem tail5_10 (c : Dev nD) : Pipeline.afterTail₀ cfgs (dats m) 0 (V0 m) [hostOps1] c main_v114 =
    weight10 ((dats m 0 c).arrAt 5 cfg0.N) := by
  unfold Pipeline.afterTail₀ hostOps1
  simp only [List.flatten_cons, List.flatten_nil, List.append_nil]
  after_results_simp
  rw [kept5]
  rfl

/-- The first moments of weight 10 at the end, from the arguments. -/
theorem left5_10 (c : Dev nD) : Pipeline.afterTail₀ cfgs (dats m) 0 (V0 m) [hostOps1] c main_v114
    = (Adam.firsts (m (c.tc.loc main_arg24)) (m (c.tc.loc main_arg38)) : Vec Ideal S1024 .f32) := by
  rw [tail5_10, rows5]
  refine Eq.trans (show _ = (Adam.firsts (weight10 (V m c main_v31)) (weight10 (V m c main_v47)) : Vec Ideal S1024 .f32) from rfl) ?_
  rw [operand1, operand2, back10, back10]

/-- The first moments of weight 11 at the end, through the host lines after the call. -/
theorem tail5_11 (c : Dev nD) : Pipeline.afterTail₀ cfgs (dats m) 0 (V0 m) [hostOps1] c main_v116 =
    (weight11 ((dats m 0 c).arrAt 5 cfg0.N)) := by
  unfold Pipeline.afterTail₀ hostOps1
  simp only [List.flatten_cons, List.flatten_nil, List.append_nil]
  after_results_simp
  rw [kept5]
  rfl

/-- The first moments of weight 11 at the end, from the arguments. -/
theorem left5_11 (c : Dev nD) : Pipeline.afterTail₀ cfgs (dats m) 0 (V0 m) [hostOps1] c main_v116
    = (Adam.firsts (m (c.tc.loc main_arg25)) (m (c.tc.loc main_arg39)) : Vec Ideal S4x9216 .f32) := by
  rw [tail5_11, rows5]
  refine Eq.trans (show _ = (Adam.firsts (weight11 (V m c main_v31)) (weight11 (V m c main_v47)) : Vec Ideal S4x9216 .f32) from rfl) ?_
  rw [operand1, operand2, back11, back11]

/-- The first moments of weight 12 at the end, through the host lines after the call. -/
theorem tail5_12 (c : Dev nD) : Pipeline.afterTail₀ cfgs (dats m) 0 (V0 m) [hostOps1] c main_v118 =
    (weight12 ((dats m 0 c).arrAt 5 cfg0.N)) := by
  unfold Pipeline.afterTail₀ hostOps1
  simp only [List.flatten_cons, List.flatten_nil, List.append_nil]
  after_results_simp
  rw [kept5]
  rfl

/-- The first moments of weight 12 at the end, from the arguments. -/
theorem left5_12 (c : Dev nD) : Pipeline.afterTail₀ cfgs (dats m) 0 (V0 m) [hostOps1] c main_v118
    = (Adam.firsts (m (c.tc.loc main_arg26)) (m (c.tc.loc main_arg40)) : Vec Ideal S1x64 .f32) := by
  rw [tail5_12, rows5]
  refine Eq.trans (show _ = (Adam.firsts (weight12 (V m c main_v31)) (weight12 (V m c main_v47)) : Vec Ideal S1x64 .f32) from rfl) ?_
  rw [operand1, operand2, back12, back12]

/-- The first moments of weight 13 at the end, through the host lines after the call. -/
theorem tail5_13 (c : Dev nD) : Pipeline.afterTail₀ cfgs (dats m) 0 (V0 m) [hostOps1] c main_v120 =
    (weight13 ((dats m 0 c).arrAt 5 cfg0.N)) := by
  unfold Pipeline.afterTail₀ hostOps1
  simp only [List.flatten_cons, List.flatten_nil, List.append_nil]
  after_results_simp
  rw [kept5]
  rfl

/-- The first moments of weight 13 at the end, from the arguments. -/
theorem left5_13 (c : Dev nD) : Pipeline.afterTail₀ cfgs (dats m) 0 (V0 m) [hostOps1] c main_v120
    = (Adam.firsts (m (c.tc.loc main_arg27)) (m (c.tc.loc main_arg41)) : Vec Ideal S1x64 .f32) := by
  rw [tail5_13, rows5]
  refine Eq.trans (show _ = (Adam.firsts (weight13 (V m c main_v31)) (weight13 (V m c main_v47)) : Vec Ideal S1x64 .f32) from rfl) ?_
  rw [operand1, operand2, back13, back13]

/-- After the call's arrays are put back, the one of window 6 is the call's. -/
theorem kept6 (c : Dev nD) : Pipeline.withArrays spec0 c (V0 m c) (fun w => (dats m 0 c).arrAt w cfg0.N) (Proc.devRef .tc main_v64_2)
    = (dats m 0 c).arrAt 6 cfg0.N := Pipeline.withArrays_arr spec0 launch0.win.arr_inj c _ _ 6

/-- The second moments of weight 0 at the end, through the host lines after the call. -/
theorem tail6_0 (c : Dev nD) : Pipeline.afterTail₀ cfgs (dats m) 0 (V0 m) [hostOps1] c main_v123 =
    (weight0 ((dats m 0 c).arrAt 6 cfg0.N)) := by
  unfold Pipeline.afterTail₀ hostOps1
  simp only [List.flatten_cons, List.flatten_nil, List.append_nil]
  after_results_simp
  rw [kept6]
  rfl

/-- The second moments of weight 0 at the end, from the arguments. -/
theorem left6_0 (c : Dev nD) : Pipeline.afterTail₀ cfgs (dats m) 0 (V0 m) [hostOps1] c main_v123
    = (Adam.seconds (m (c.tc.loc main_arg14)) (m (c.tc.loc main_arg42)) : Vec Ideal S4x3x256 .f32) := by
  rw [tail6_0, rows6]
  refine Eq.trans (show _ = (Adam.seconds (weight0 (V m c main_v31)) (weight0 (V m c main_v63)) : Vec Ideal S4x3x256 .f32) from rfl) ?_
  rw [operand1, operand3, back0, back0]

/-- The second moments of weight 1 at the end, through the host lines after the call. -/
theorem tail6_1 (c : Dev nD) : Pipeline.afterTail₀ cfgs (dats m) 0 (V0 m) [hostOps1] c main_v125 =
    (weight1 ((dats m 0 c).arrAt 6 cfg0.N)) := by
  unfold Pipeline.afterTail₀ hostOps1
  simp only [List.flatten_cons, List.flatten_nil, List.append_nil]
  after_results_simp
  rw [kept6]
  rfl

/-- The second moments of weight 1 at the end, from the arguments. -/
theorem left6_1 (c : Dev nD) : Pipeline.afterTail₀ cfgs (dats m) 0 (V0 m) [hostOps1] c main_v125
    = (Adam.seconds (m (c.tc.loc main_arg15)) (m (c.tc.loc main_arg43)) : Vec Ideal S2x512 .f32) := by
  rw [tail6_1, rows6]
  refine Eq.trans (show _ = (Adam.seconds (weight1 (V m c main_v31)) (weight1 (V m c main_v63)) : Vec Ideal S2x512 .f32) from rfl) ?_
  rw [operand1, operand3, back1, back1]

/-- The second moments of weight 2 at the end, through the host lines after the call. -/
theorem tail6_2 (c : Dev nD) : Pipeline.afterTail₀ cfgs (dats m) 0 (V0 m) [hostOps1] c main_v127 =
    (weight2 ((dats m 0 c).arrAt 6 cfg0.N)) := by
  unfold Pipeline.afterTail₀ hostOps1
  simp only [List.flatten_cons, List.flatten_nil, List.append_nil]
  after_results_simp
  rw [kept6]
  rfl

/-- The second moments of weight 2 at the end, from the arguments. -/
theorem left6_2 (c : Dev nD) : Pipeline.afterTail₀ cfgs (dats m) 0 (V0 m) [hostOps1] c main_v127
    = (Adam.seconds (m (c.tc.loc main_arg16)) (m (c.tc.loc main_arg44)) : Vec Ideal S2x31x256 .f32) := by
  rw [tail6_2, rows6]
  refine Eq.trans (show _ = (Adam.seconds (weight2 (V m c main_v31)) (weight2 (V m c main_v63)) : Vec Ideal S2x31x256 .f32) from rfl) ?_
  rw [operand1, operand3, back2, back2]

/-- The second moments of weight 3 at the end, through the host lines after the call. -/
theorem tail6_3 (c : Dev nD) : Pipeline.afterTail₀ cfgs (dats m) 0 (V0 m) [hostOps1] c main_v129 =
    (weight3 ((dats m 0 c).arrAt 6 cfg0.N)) := by
  unfold Pipeline.afterTail₀ hostOps1
  simp only [List.flatten_cons, List.flatten_nil, List.append_nil]
  after_results_simp
  rw [kept6]
  rfl

/-- The second moments of weight 3 at the end, from the arguments. -/
theorem left6_3 (c : Dev nD) : Pipeline.afterTail₀ cfgs (dats m) 0 (V0 m) [hostOps1] c main_v129
    = (Adam.seconds (m (c.tc.loc main_arg17)) (m (c.tc.loc main_arg45)) : Vec Ideal S2x256 .f32) := by
  rw [tail6_3, rows6]
  refine Eq.trans (show _ = (Adam.seconds (weight3 (V m c main_v31)) (weight3 (V m c main_v63)) : Vec Ideal S2x256 .f32) from rfl) ?_
  rw [operand1, operand3, back3, back3]

/-- The second moments of weight 4 at the end, through the host lines after the call. -/
theorem tail6_4 (c : Dev nD) : Pipeline.afterTail₀ cfgs (dats m) 0 (V0 m) [hostOps1] c main_v131 =
    (weight4 ((dats m 0 c).arrAt 6 cfg0.N)) := by
  unfold Pipeline.afterTail₀ hostOps1
  simp only [List.flatten_cons, List.flatten_nil, List.append_nil]
  after_results_simp
  rw [kept6]
  rfl

/-- The second moments of weight 4 at the end, from the arguments. -/
theorem left6_4 (c : Dev nD) : Pipeline.afterTail₀ cfgs (dats m) 0 (V0 m) [hostOps1] c main_v131
    = (Adam.seconds (m (c.tc.loc main_arg18)) (m (c.tc.loc main_arg46)) : Vec Ideal S2x256 .f32) := by
  rw [tail6_4, rows6]
  refine Eq.trans (show _ = (Adam.seconds (weight4 (V m c main_v31)) (weight4 (V m c main_v63)) : Vec Ideal S2x256 .f32) from rfl) ?_
  rw [operand1, operand3, back4, back4]

/-- The second moments of weight 5 at the end, through the host lines after the call. -/
theorem tail6_5 (c : Dev nD) : Pipeline.afterTail₀ cfgs (dats m) 0 (V0 m) [hostOps1] c main_v133 =
    (weight5 ((dats m 0 c).arrAt 6 cfg0.N)) := by
  unfold Pipeline.afterTail₀ hostOps1
  simp only [List.flatten_cons, List.flatten_nil, List.append_nil]
  after_results_simp
  rw [kept6]
  rfl

/-- The second moments of weight 5 at the end, from the arguments. -/
theorem left6_5 (c : Dev nD) : Pipeline.afterTail₀ cfgs (dats m) 0 (V0 m) [hostOps1] c main_v133
    = (Adam.seconds (m (c.tc.loc main_arg19)) (m (c.tc.loc main_arg47)) : Vec Ideal S2x256 .f32) := by
  rw [tail6_5, rows6]
  refine Eq.trans (show _ = (Adam.seconds (weight5 (V m c main_v31)) (weight5 (V m c main_v63)) : Vec Ideal S2x256 .f32) from rfl) ?_
  rw [operand1, operand3, back5, back5]

/-- The second moments of weight 6 at the end, through the host lines after the call. -/
theorem tail6_6 (c : Dev nD) : Pipeline.afterTail₀ cfgs (dats m) 0 (V0 m) [hostOps1] c main_v135 =
    (weight6 ((dats m 0 c).arrAt 6 cfg0.N)) := by
  unfold Pipeline.afterTail₀ hostOps1
  simp only [List.flatten_cons, List.flatten_nil, List.append_nil]
  after_results_simp
  rw [kept6]
  rfl

/-- The second moments of weight 6 at the end, from the arguments. -/
theorem left6_6 (c : Dev nD) : Pipeline.afterTail₀ cfgs (dats m) 0 (V0 m) [hostOps1] c main_v135
    = (Adam.seconds (m (c.tc.loc main_arg20)) (m (c.tc.loc main_arg48)) : Vec Ideal S2x256 .f32) := by
  rw [tail6_6, rows6]
  refine Eq.trans (show _ = (Adam.seconds (weight6 (V m c main_v31)) (weight6 (V m c main_v63)) : Vec Ideal S2x256 .f32) from rfl) ?_
  rw [operand1, operand3, back6, back6]

/-- The second moments of weight 7 at the end, through the host lines after the call. -/
theorem tail6_7 (c : Dev nD) : Pipeline.afterTail₀ cfgs (dats m) 0 (V0 m) [hostOps1] c main_v137 =
    (weight7 ((dats m 0 c).arrAt 6 cfg0.N)) := by
  unfold Pipeline.afterTail₀ hostOps1
  simp only [List.flatten_cons, List.flatten_nil, List.append_nil]
  after_results_simp
  rw [kept6]
  rfl

/-- The second moments of weight 7 at the end, from the arguments. -/
theorem left6_7 (c : Dev nD) : Pipeline.afterTail₀ cfgs (dats m) 0 (V0 m) [hostOps1] c main_v137
    = (Adam.seconds (m (c.tc.loc main_arg21)) (m (c.tc.loc main_arg49)) : Vec Ideal S1x4x64x256 .f32) := by
  rw [tail6_7, rows6]
  refine Eq.trans (show _ = (Adam.seconds (weight7 (V m c main_v31)) (weight7 (V m c main_v63)) : Vec Ideal S1x4x64x256 .f32) from rfl) ?_
  rw [operand1, operand3, back7, back7]

/-- The second moments of weight 8 at the end, through the host lines after the call. -/
theorem tail6_8 (c : Dev nD) : Pipeline.afterTail₀ cfgs (dats m) 0 (V0 m) [hostOps1] c main_v139 =
    (weight8 ((dats m 0 c).arrAt 6 cfg0.N)) := by
  unfold Pipeline.afterTail₀ hostOps1
  simp only [List.flatten_cons, List.flatten_nil, List.append_nil]
  after_results_simp
  rw [kept6]
  rfl

/-- The second moments of weight 8 at the end, from the arguments. -/
theorem left6_8 (c : Dev nD) : Pipeline.afterTail₀ cfgs (dats m) 0 (V0 m) [hostOps1] c main_v139
    = (Adam.seconds (m (c.tc.loc main_arg22)) (m (c.tc.loc main_arg50)) : Vec Ideal S1x4x64 .f32) := by
  rw [tail6_8, rows6]
  refine Eq.trans (show _ = (Adam.seconds (weight8 (V m c main_v31)) (weight8 (V m c main_v63)) : Vec Ideal S1x4x64 .f32) from rfl) ?_
  rw [operand1, operand3, back8, back8]

/-- The second moments of weight 9 at the end, through the host lines after the call. -/
theorem tail6_9 (c : Dev nD) : Pipeline.afterTail₀ cfgs (dats m) 0 (V0 m) [hostOps1] c main_v141 =
    (weight9 ((dats m 0 c).arrAt 6 cfg0.N)) := by
  unfold Pipeline.afterTail₀ hostOps1
  simp only [List.flatten_cons, List.flatten_nil, List.append_nil]
  after_results_simp
  rw [kept6]
  rfl

/-- The second moments of weight 9 at the end, from the arguments. -/
theorem left6_9 (c : Dev nD) : Pipeline.afterTail₀ cfgs (dats m) 0 (V0 m) [hostOps1] c main_v141
    = (Adam.seconds (m (c.tc.loc main_arg23)) (m (c.tc.loc main_arg51)) : Vec Ideal S1x256 .f32) := by
  rw [tail6_9, rows6]
  refine Eq.trans (show _ = (Adam.seconds (weight9 (V m c main_v31)) (weight9 (V m c main_v63)) : Vec Ideal S1x256 .f32) from rfl) ?_
  rw [operand1, operand3, back9, back9]

/-- The second moments of weight 10 at the end, through the host lines after the call. -/
theorem tail6_10 (c : Dev nD) : Pipeline.afterTail₀ cfgs (dats m) 0 (V0 m) [hostOps1] c main_v142 =
    weight10 ((dats m 0 c).arrAt 6 cfg0.N) := by
  unfold Pipeline.afterTail₀ hostOps1
  simp only [List.flatten_cons, List.flatten_nil, List.append_nil]
  after_results_simp
  rw [kept6]
  rfl

/-- The second moments of weight 10 at the end, from the arguments. -/
theorem left6_10 (c : Dev nD) : Pipeline.afterTail₀ cfgs (dats m) 0 (V0 m) [hostOps1] c main_v142
    = (Adam.seconds (m (c.tc.loc main_arg24)) (m (c.tc.loc main_arg52)) : Vec Ideal S1024 .f32) := by
  rw [tail6_10, rows6]
  refine Eq.trans (show _ = (Adam.seconds (weight10 (V m c main_v31)) (weight10 (V m c main_v63)) : Vec Ideal S1024 .f32) from rfl) ?_
  rw [operand1, operand3, back10, back10]

/-- The second moments of weight 11 at the end, through the host lines after the call. -/
theorem tail6_11 (c : Dev nD) : Pipeline.afterTail₀ cfgs (dats m) 0 (V0 m) [hostOps1] c main_v144 =
    (weight11 ((dats m 0 c).arrAt 6 cfg0.N)) := by
  unfold Pipeline.afterTail₀ hostOps1
  simp only [List.flatten_cons, List.flatten_nil, List.append_nil]
  after_results_simp
  rw [kept6]
  rfl

/-- The second moments of weight 11 at the end, from the arguments. -/
theorem left6_11 (c : Dev nD) : Pipeline.afterTail₀ cfgs (dats m) 0 (V0 m) [hostOps1] c main_v144
    = (Adam.seconds (m (c.tc.loc main_arg25)) (m (c.tc.loc main_arg53)) : Vec Ideal S4x9216 .f32) := by
  rw [tail6_11, rows6]
  refine Eq.trans (show _ = (Adam.seconds (weight11 (V m c main_v31)) (weight11 (V m c main_v63)) : Vec Ideal S4x9216 .f32) from rfl) ?_
  rw [operand1, operand3, back11, back11]

/-- The second moments of weight 12 at the end, through the host lines after the call. -/
theorem tail6_12 (c : Dev nD) : Pipeline.afterTail₀ cfgs (dats m) 0 (V0 m) [hostOps1] c main_v146 =
    (weight12 ((dats m 0 c).arrAt 6 cfg0.N)) := by
  unfold Pipeline.afterTail₀ hostOps1
  simp only [List.flatten_cons, List.flatten_nil, List.append_nil]
  after_results_simp
  rw [kept6]
  rfl

/-- The second moments of weight 12 at the end, from the arguments. -/
theorem left6_12 (c : Dev nD) : Pipeline.afterTail₀ cfgs (dats m) 0 (V0 m) [hostOps1] c main_v146
    = (Adam.seconds (m (c.tc.loc main_arg26)) (m (c.tc.loc main_arg54)) : Vec Ideal S1x64 .f32) := by
  rw [tail6_12, rows6]
  refine Eq.trans (show _ = (Adam.seconds (weight12 (V m c main_v31)) (weight12 (V m c main_v63)) : Vec Ideal S1x64 .f32) from rfl) ?_
  rw [operand1, operand3, back12, back12]

/-- The second moments of weight 13 at the end, through the host lines after the call. -/
theorem tail6_13 (c : Dev nD) : Pipeline.afterTail₀ cfgs (dats m) 0 (V0 m) [hostOps1] c main_v148 =
    (weight13 ((dats m 0 c).arrAt 6 cfg0.N)) := by
  unfold Pipeline.afterTail₀ hostOps1
  simp only [List.flatten_cons, List.flatten_nil, List.append_nil]
  after_results_simp
  rw [kept6]
  rfl

/-- The second moments of weight 13 at the end, from the arguments. -/
theorem left6_13 (c : Dev nD) : Pipeline.afterTail₀ cfgs (dats m) 0 (V0 m) [hostOps1] c main_v148
    = (Adam.seconds (m (c.tc.loc main_arg27)) (m (c.tc.loc main_arg55)) : Vec Ideal S1x64 .f32) := by
  rw [tail6_13, rows6]
  refine Eq.trans (show _ = (Adam.seconds (weight13 (V m c main_v31)) (weight13 (V m c main_v63)) : Vec Ideal S1x64 .f32) from rfl) ?_
  rw [operand1, operand3, back13, back13]

set_option maxHeartbeats 4000000 in
/-- Every run of the call ends with one AdamW step of each of the fourteen weights and keeps the arguments. -/
theorem run : θ_run (defs (F := Ideal)) (onTc (τ := τ) (main (F := Ideal))) ⟨m, fun _ => 0, ρ⟩ fun r => ∀ c : Dev nD,
    r.2.mem (c.tc.loc main_v67) = (Adam.deltas (m (c.tc.loc main_arg0)) (m (c.tc.loc main_arg14)) (m (c.tc.loc main_arg28)) (m (c.tc.loc main_arg42)) : Vec Ideal S4x3x256 .f32)
      ∧ r.2.mem (c.tc.loc main_v69) = (Adam.deltas (m (c.tc.loc main_arg1)) (m (c.tc.loc main_arg15)) (m (c.tc.loc main_arg29)) (m (c.tc.loc main_arg43)) : Vec Ideal S2x512 .f32)
      ∧ r.2.mem (c.tc.loc main_v71) = (Adam.deltas (m (c.tc.loc main_arg2)) (m (c.tc.loc main_arg16)) (m (c.tc.loc main_arg30)) (m (c.tc.loc main_arg44)) : Vec Ideal S2x31x256 .f32)
      ∧ r.2.mem (c.tc.loc main_v73) = (Adam.deltas (m (c.tc.loc main_arg3)) (m (c.tc.loc main_arg17)) (m (c.tc.loc main_arg31)) (m (c.tc.loc main_arg45)) : Vec Ideal S2x256 .f32)
      ∧ r.2.mem (c.tc.loc main_v75) = (Adam.deltas (m (c.tc.loc main_arg4)) (m (c.tc.loc main_arg18)) (m (c.tc.loc main_arg32)) (m (c.tc.loc main_arg46)) : Vec Ideal S2x256 .f32)
      ∧ r.2.mem (c.tc.loc main_v77) = (Adam.deltas (m (c.tc.loc main_arg5)) (m (c.tc.loc main_arg19)) (m (c.tc.loc main_arg33)) (m (c.tc.loc main_arg47)) : Vec Ideal S2x256 .f32)
      ∧ r.2.mem (c.tc.loc main_v79) = (Adam.deltas (m (c.tc.loc main_arg6)) (m (c.tc.loc main_arg20)) (m (c.tc.loc main_arg34)) (m (c.tc.loc main_arg48)) : Vec Ideal S2x256 .f32)
      ∧ r.2.mem (c.tc.loc main_v81) = (Adam.deltas (m (c.tc.loc main_arg7)) (m (c.tc.loc main_arg21)) (m (c.tc.loc main_arg35)) (m (c.tc.loc main_arg49)) : Vec Ideal S1x4x64x256 .f32)
      ∧ r.2.mem (c.tc.loc main_v83) = (Adam.deltas (m (c.tc.loc main_arg8)) (m (c.tc.loc main_arg22)) (m (c.tc.loc main_arg36)) (m (c.tc.loc main_arg50)) : Vec Ideal S1x4x64 .f32)
      ∧ r.2.mem (c.tc.loc main_v85) = (Adam.deltas (m (c.tc.loc main_arg9)) (m (c.tc.loc main_arg23)) (m (c.tc.loc main_arg37)) (m (c.tc.loc main_arg51)) : Vec Ideal S1x256 .f32)
      ∧ r.2.mem (c.tc.loc main_v86) = (Adam.deltas (m (c.tc.loc main_arg10)) (m (c.tc.loc main_arg24)) (m (c.tc.loc main_arg38)) (m (c.tc.loc main_arg52)) : Vec Ideal S1024 .f32)
      ∧ r.2.mem (c.tc.loc main_v88) = (Adam.deltas (m (c.tc.loc main_arg11)) (m (c.tc.loc main_arg25)) (m (c.tc.loc main_arg39)) (m (c.tc.loc main_arg53)) : Vec Ideal S4x9216 .f32)
      ∧ r.2.mem (c.tc.loc main_v90) = (Adam.deltas (m (c.tc.loc main_arg12)) (m (c.tc.loc main_arg26)) (m (c.tc.loc main_arg40)) (m (c.tc.loc main_arg54)) : Vec Ideal S1x64 .f32)
      ∧ r.2.mem (c.tc.loc main_v92) = (Adam.deltas (m (c.tc.loc main_arg13)) (m (c.tc.loc main_arg27)) (m (c.tc.loc main_arg41)) (m (c.tc.loc main_arg55)) : Vec Ideal S1x64 .f32)
      ∧ r.2.mem (c.tc.loc main_v95) = (Adam.firsts (m (c.tc.loc main_arg14)) (m (c.tc.loc main_arg28)) : Vec Ideal S4x3x256 .f32)
      ∧ r.2.mem (c.tc.loc main_v97) = (Adam.firsts (m (c.tc.loc main_arg15)) (m (c.tc.loc main_arg29)) : Vec Ideal S2x512 .f32)
      ∧ r.2.mem (c.tc.loc main_v99) = (Adam.firsts (m (c.tc.loc main_arg16)) (m (c.tc.loc main_arg30)) : Vec Ideal S2x31x256 .f32)
      ∧ r.2.mem (c.tc.loc main_v101) = (Adam.firsts (m (c.tc.loc main_arg17)) (m (c.tc.loc main_arg31)) : Vec Ideal S2x256 .f32)
      ∧ r.2.mem (c.tc.loc main_v103) = (Adam.firsts (m (c.tc.loc main_arg18)) (m (c.tc.loc main_arg32)) : Vec Ideal S2x256 .f32)
      ∧ r.2.mem (c.tc.loc main_v105) = (Adam.firsts (m (c.tc.loc main_arg19)) (m (c.tc.loc main_arg33)) : Vec Ideal S2x256 .f32)
      ∧ r.2.mem (c.tc.loc main_v107) = (Adam.firsts (m (c.tc.loc main_arg20)) (m (c.tc.loc main_arg34)) : Vec Ideal S2x256 .f32)
      ∧ r.2.mem (c.tc.loc main_v109) = (Adam.firsts (m (c.tc.loc main_arg21)) (m (c.tc.loc main_arg35)) : Vec Ideal S1x4x64x256 .f32)
      ∧ r.2.mem (c.tc.loc main_v111) = (Adam.firsts (m (c.tc.loc main_arg22)) (m (c.tc.loc main_arg36)) : Vec Ideal S1x4x64 .f32)
      ∧ r.2.mem (c.tc.loc main_v113) = (Adam.firsts (m (c.tc.loc main_arg23)) (m (c.tc.loc main_arg37)) : Vec Ideal S1x256 .f32)
      ∧ r.2.mem (c.tc.loc main_v114) = (Adam.firsts (m (c.tc.loc main_arg24)) (m (c.tc.loc main_arg38)) : Vec Ideal S1024 .f32)
      ∧ r.2.mem (c.tc.loc main_v116) = (Adam.firsts (m (c.tc.loc main_arg25)) (m (c.tc.loc main_arg39)) : Vec Ideal S4x9216 .f32)
      ∧ r.2.mem (c.tc.loc main_v118) = (Adam.firsts (m (c.tc.loc main_arg26)) (m (c.tc.loc main_arg40)) : Vec Ideal S1x64 .f32)
      ∧ r.2.mem (c.tc.loc main_v120) = (Adam.firsts (m (c.tc.loc main_arg27)) (m (c.tc.loc main_arg41)) : Vec Ideal S1x64 .f32)
      ∧ r.2.mem (c.tc.loc main_v123) = (Adam.seconds (m (c.tc.loc main_arg14)) (m (c.tc.loc main_arg42)) : Vec Ideal S4x3x256 .f32)
      ∧ r.2.mem (c.tc.loc main_v125) = (Adam.seconds (m (c.tc.loc main_arg15)) (m (c.tc.loc main_arg43)) : Vec Ideal S2x512 .f32)
      ∧ r.2.mem (c.tc.loc main_v127) = (Adam.seconds (m (c.tc.loc main_arg16)) (m (c.tc.loc main_arg44)) : Vec Ideal S2x31x256 .f32)
      ∧ r.2.mem (c.tc.loc main_v129) = (Adam.seconds (m (c.tc.loc main_arg17)) (m (c.tc.loc main_arg45)) : Vec Ideal S2x256 .f32)
      ∧ r.2.mem (c.tc.loc main_v131) = (Adam.seconds (m (c.tc.loc main_arg18)) (m (c.tc.loc main_arg46)) : Vec Ideal S2x256 .f32)
      ∧ r.2.mem (c.tc.loc main_v133) = (Adam.seconds (m (c.tc.loc main_arg19)) (m (c.tc.loc main_arg47)) : Vec Ideal S2x256 .f32)
      ∧ r.2.mem (c.tc.loc main_v135) = (Adam.seconds (m (c.tc.loc main_arg20)) (m (c.tc.loc main_arg48)) : Vec Ideal S2x256 .f32)
      ∧ r.2.mem (c.tc.loc main_v137) = (Adam.seconds (m (c.tc.loc main_arg21)) (m (c.tc.loc main_arg49)) : Vec Ideal S1x4x64x256 .f32)
      ∧ r.2.mem (c.tc.loc main_v139) = (Adam.seconds (m (c.tc.loc main_arg22)) (m (c.tc.loc main_arg50)) : Vec Ideal S1x4x64 .f32)
      ∧ r.2.mem (c.tc.loc main_v141) = (Adam.seconds (m (c.tc.loc main_arg23)) (m (c.tc.loc main_arg51)) : Vec Ideal S1x256 .f32)
      ∧ r.2.mem (c.tc.loc main_v142) = (Adam.seconds (m (c.tc.loc main_arg24)) (m (c.tc.loc main_arg52)) : Vec Ideal S1024 .f32)
      ∧ r.2.mem (c.tc.loc main_v144) = (Adam.seconds (m (c.tc.loc main_arg25)) (m (c.tc.loc main_arg53)) : Vec Ideal S4x9216 .f32)
      ∧ r.2.mem (c.tc.loc main_v146) = (Adam.seconds (m (c.tc.loc main_arg26)) (m (c.tc.loc main_arg54)) : Vec Ideal S1x64 .f32)
      ∧ r.2.mem (c.tc.loc main_v148) = (Adam.seconds (m (c.tc.loc main_arg27)) (m (c.tc.loc main_arg55)) : Vec Ideal S1x64 .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12)
      ∧ r.2.mem (c.tc.loc main_arg13) = m (c.tc.loc main_arg13)
      ∧ r.2.mem (c.tc.loc main_arg14) = m (c.tc.loc main_arg14)
      ∧ r.2.mem (c.tc.loc main_arg15) = m (c.tc.loc main_arg15)
      ∧ r.2.mem (c.tc.loc main_arg16) = m (c.tc.loc main_arg16)
      ∧ r.2.mem (c.tc.loc main_arg17) = m (c.tc.loc main_arg17)
      ∧ r.2.mem (c.tc.loc main_arg18) = m (c.tc.loc main_arg18)
      ∧ r.2.mem (c.tc.loc main_arg19) = m (c.tc.loc main_arg19)
      ∧ r.2.mem (c.tc.loc main_arg20) = m (c.tc.loc main_arg20)
      ∧ r.2.mem (c.tc.loc main_arg21) = m (c.tc.loc main_arg21)
      ∧ r.2.mem (c.tc.loc main_arg22) = m (c.tc.loc main_arg22)
      ∧ r.2.mem (c.tc.loc main_arg23) = m (c.tc.loc main_arg23)
      ∧ r.2.mem (c.tc.loc main_arg24) = m (c.tc.loc main_arg24)
      ∧ r.2.mem (c.tc.loc main_arg25) = m (c.tc.loc main_arg25)
      ∧ r.2.mem (c.tc.loc main_arg26) = m (c.tc.loc main_arg26)
      ∧ r.2.mem (c.tc.loc main_arg27) = m (c.tc.loc main_arg27)
      ∧ r.2.mem (c.tc.loc main_arg28) = m (c.tc.loc main_arg28)
      ∧ r.2.mem (c.tc.loc main_arg29) = m (c.tc.loc main_arg29)
      ∧ r.2.mem (c.tc.loc main_arg30) = m (c.tc.loc main_arg30)
      ∧ r.2.mem (c.tc.loc main_arg31) = m (c.tc.loc main_arg31)
      ∧ r.2.mem (c.tc.loc main_arg32) = m (c.tc.loc main_arg32)
      ∧ r.2.mem (c.tc.loc main_arg33) = m (c.tc.loc main_arg33)
      ∧ r.2.mem (c.tc.loc main_arg34) = m (c.tc.loc main_arg34)
      ∧ r.2.mem (c.tc.loc main_arg35) = m (c.tc.loc main_arg35)
      ∧ r.2.mem (c.tc.loc main_arg36) = m (c.tc.loc main_arg36)
      ∧ r.2.mem (c.tc.loc main_arg37) = m (c.tc.loc main_arg37)
      ∧ r.2.mem (c.tc.loc main_arg38) = m (c.tc.loc main_arg38)
      ∧ r.2.mem (c.tc.loc main_arg39) = m (c.tc.loc main_arg39)
      ∧ r.2.mem (c.tc.loc main_arg40) = m (c.tc.loc main_arg40)
      ∧ r.2.mem (c.tc.loc main_arg41) = m (c.tc.loc main_arg41)
      ∧ r.2.mem (c.tc.loc main_arg42) = m (c.tc.loc main_arg42)
      ∧ r.2.mem (c.tc.loc main_arg43) = m (c.tc.loc main_arg43)
      ∧ r.2.mem (c.tc.loc main_arg44) = m (c.tc.loc main_arg44)
      ∧ r.2.mem (c.tc.loc main_arg45) = m (c.tc.loc main_arg45)
      ∧ r.2.mem (c.tc.loc main_arg46) = m (c.tc.loc main_arg46)
      ∧ r.2.mem (c.tc.loc main_arg47) = m (c.tc.loc main_arg47)
      ∧ r.2.mem (c.tc.loc main_arg48) = m (c.tc.loc main_arg48)
      ∧ r.2.mem (c.tc.loc main_arg49) = m (c.tc.loc main_arg49)
      ∧ r.2.mem (c.tc.loc main_arg50) = m (c.tc.loc main_arg50)
      ∧ r.2.mem (c.tc.loc main_arg51) = m (c.tc.loc main_arg51)
      ∧ r.2.mem (c.tc.loc main_arg52) = m (c.tc.loc main_arg52)
      ∧ r.2.mem (c.tc.loc main_arg53) = m (c.tc.loc main_arg53)
      ∧ r.2.mem (c.tc.loc main_arg54) = m (c.tc.loc main_arg54)
      ∧ r.2.mem (c.tc.loc main_arg55) = m (c.tc.loc main_arg55) :=
  (θ_run defs _ _).mono (fun r h c => ⟨((h c).2 main_v67 (Pipeline.mem_restRefs_of main_v67 (by decide) (by decide))).trans (left4_0 m c),
    ((h c).2 main_v69 (Pipeline.mem_restRefs_of main_v69 (by decide) (by decide))).trans (left4_1 m c),
    ((h c).2 main_v71 (Pipeline.mem_restRefs_of main_v71 (by decide) (by decide))).trans (left4_2 m c),
    ((h c).2 main_v73 (Pipeline.mem_restRefs_of main_v73 (by decide) (by decide))).trans (left4_3 m c),
    ((h c).2 main_v75 (Pipeline.mem_restRefs_of main_v75 (by decide) (by decide))).trans (left4_4 m c),
    ((h c).2 main_v77 (Pipeline.mem_restRefs_of main_v77 (by decide) (by decide))).trans (left4_5 m c),
    ((h c).2 main_v79 (Pipeline.mem_restRefs_of main_v79 (by decide) (by decide))).trans (left4_6 m c),
    ((h c).2 main_v81 (Pipeline.mem_restRefs_of main_v81 (by decide) (by decide))).trans (left4_7 m c),
    ((h c).2 main_v83 (Pipeline.mem_restRefs_of main_v83 (by decide) (by decide))).trans (left4_8 m c),
    ((h c).2 main_v85 (Pipeline.mem_restRefs_of main_v85 (by decide) (by decide))).trans (left4_9 m c),
    ((h c).2 main_v86 (Pipeline.mem_restRefs_of main_v86 (by decide) (by decide))).trans (left4_10 m c),
    ((h c).2 main_v88 (Pipeline.mem_restRefs_of main_v88 (by decide) (by decide))).trans (left4_11 m c),
    ((h c).2 main_v90 (Pipeline.mem_restRefs_of main_v90 (by decide) (by decide))).trans (left4_12 m c),
    ((h c).2 main_v92 (Pipeline.mem_restRefs_of main_v92 (by decide) (by decide))).trans (left4_13 m c),
    ((h c).2 main_v95 (Pipeline.mem_restRefs_of main_v95 (by decide) (by decide))).trans (left5_0 m c),
    ((h c).2 main_v97 (Pipeline.mem_restRefs_of main_v97 (by decide) (by decide))).trans (left5_1 m c),
    ((h c).2 main_v99 (Pipeline.mem_restRefs_of main_v99 (by decide) (by decide))).trans (left5_2 m c),
    ((h c).2 main_v101 (Pipeline.mem_restRefs_of main_v101 (by decide) (by decide))).trans (left5_3 m c),
    ((h c).2 main_v103 (Pipeline.mem_restRefs_of main_v103 (by decide) (by decide))).trans (left5_4 m c),
    ((h c).2 main_v105 (Pipeline.mem_restRefs_of main_v105 (by decide) (by decide))).trans (left5_5 m c),
    ((h c).2 main_v107 (Pipeline.mem_restRefs_of main_v107 (by decide) (by decide))).trans (left5_6 m c),
    ((h c).2 main_v109 (Pipeline.mem_restRefs_of main_v109 (by decide) (by decide))).trans (left5_7 m c),
    ((h c).2 main_v111 (Pipeline.mem_restRefs_of main_v111 (by decide) (by decide))).trans (left5_8 m c),
    ((h c).2 main_v113 (Pipeline.mem_restRefs_of main_v113 (by decide) (by decide))).trans (left5_9 m c),
    ((h c).2 main_v114 (Pipeline.mem_restRefs_of main_v114 (by decide) (by decide))).trans (left5_10 m c),
    ((h c).2 main_v116 (Pipeline.mem_restRefs_of main_v116 (by decide) (by decide))).trans (left5_11 m c),
    ((h c).2 main_v118 (Pipeline.mem_restRefs_of main_v118 (by decide) (by decide))).trans (left5_12 m c),
    ((h c).2 main_v120 (Pipeline.mem_restRefs_of main_v120 (by decide) (by decide))).trans (left5_13 m c),
    ((h c).2 main_v123 (Pipeline.mem_restRefs_of main_v123 (by decide) (by decide))).trans (left6_0 m c),
    ((h c).2 main_v125 (Pipeline.mem_restRefs_of main_v125 (by decide) (by decide))).trans (left6_1 m c),
    ((h c).2 main_v127 (Pipeline.mem_restRefs_of main_v127 (by decide) (by decide))).trans (left6_2 m c),
    ((h c).2 main_v129 (Pipeline.mem_restRefs_of main_v129 (by decide) (by decide))).trans (left6_3 m c),
    ((h c).2 main_v131 (Pipeline.mem_restRefs_of main_v131 (by decide) (by decide))).trans (left6_4 m c),
    ((h c).2 main_v133 (Pipeline.mem_restRefs_of main_v133 (by decide) (by decide))).trans (left6_5 m c),
    ((h c).2 main_v135 (Pipeline.mem_restRefs_of main_v135 (by decide) (by decide))).trans (left6_6 m c),
    ((h c).2 main_v137 (Pipeline.mem_restRefs_of main_v137 (by decide) (by decide))).trans (left6_7 m c),
    ((h c).2 main_v139 (Pipeline.mem_restRefs_of main_v139 (by decide) (by decide))).trans (left6_8 m c),
    ((h c).2 main_v141 (Pipeline.mem_restRefs_of main_v141 (by decide) (by decide))).trans (left6_9 m c),
    ((h c).2 main_v142 (Pipeline.mem_restRefs_of main_v142 (by decide) (by decide))).trans (left6_10 m c),
    ((h c).2 main_v144 (Pipeline.mem_restRefs_of main_v144 (by decide) (by decide))).trans (left6_11 m c),
    ((h c).2 main_v146 (Pipeline.mem_restRefs_of main_v146 (by decide) (by decide))).trans (left6_12 m c),
    ((h c).2 main_v148 (Pipeline.mem_restRefs_of main_v148 (by decide) (by decide))).trans (left6_13 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c),
    ((h c).2 main_arg21 (Pipeline.mem_restRefs_of main_arg21 (by decide) (by decide))).trans (W_main_arg21 m (dats m) c),
    ((h c).2 main_arg22 (Pipeline.mem_restRefs_of main_arg22 (by decide) (by decide))).trans (W_main_arg22 m (dats m) c),
    ((h c).2 main_arg23 (Pipeline.mem_restRefs_of main_arg23 (by decide) (by decide))).trans (W_main_arg23 m (dats m) c),
    ((h c).2 main_arg24 (Pipeline.mem_restRefs_of main_arg24 (by decide) (by decide))).trans (W_main_arg24 m (dats m) c),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c),
    ((h c).2 main_arg30 (Pipeline.mem_restRefs_of main_arg30 (by decide) (by decide))).trans (W_main_arg30 m (dats m) c),
    ((h c).2 main_arg31 (Pipeline.mem_restRefs_of main_arg31 (by decide) (by decide))).trans (W_main_arg31 m (dats m) c),
    ((h c).2 main_arg32 (Pipeline.mem_restRefs_of main_arg32 (by decide) (by decide))).trans (W_main_arg32 m (dats m) c),
    ((h c).2 main_arg33 (Pipeline.mem_restRefs_of main_arg33 (by decide) (by decide))).trans (W_main_arg33 m (dats m) c),
    ((h c).2 main_arg34 (Pipeline.mem_restRefs_of main_arg34 (by decide) (by decide))).trans (W_main_arg34 m (dats m) c),
    ((h c).2 main_arg35 (Pipeline.mem_restRefs_of main_arg35 (by decide) (by decide))).trans (W_main_arg35 m (dats m) c),
    ((h c).2 main_arg36 (Pipeline.mem_restRefs_of main_arg36 (by decide) (by decide))).trans (W_main_arg36 m (dats m) c),
    ((h c).2 main_arg37 (Pipeline.mem_restRefs_of main_arg37 (by decide) (by decide))).trans (W_main_arg37 m (dats m) c),
    ((h c).2 main_arg38 (Pipeline.mem_restRefs_of main_arg38 (by decide) (by decide))).trans (W_main_arg38 m (dats m) c),
    ((h c).2 main_arg39 (Pipeline.mem_restRefs_of main_arg39 (by decide) (by decide))).trans (W_main_arg39 m (dats m) c),
    ((h c).2 main_arg40 (Pipeline.mem_restRefs_of main_arg40 (by decide) (by decide))).trans (W_main_arg40 m (dats m) c),
    ((h c).2 main_arg41 (Pipeline.mem_restRefs_of main_arg41 (by decide) (by decide))).trans (W_main_arg41 m (dats m) c),
    ((h c).2 main_arg42 (Pipeline.mem_restRefs_of main_arg42 (by decide) (by decide))).trans (W_main_arg42 m (dats m) c),
    ((h c).2 main_arg43 (Pipeline.mem_restRefs_of main_arg43 (by decide) (by decide))).trans (W_main_arg43 m (dats m) c),
    ((h c).2 main_arg44 (Pipeline.mem_restRefs_of main_arg44 (by decide) (by decide))).trans (W_main_arg44 m (dats m) c),
    ((h c).2 main_arg45 (Pipeline.mem_restRefs_of main_arg45 (by decide) (by decide))).trans (W_main_arg45 m (dats m) c),
    ((h c).2 main_arg46 (Pipeline.mem_restRefs_of main_arg46 (by decide) (by decide))).trans (W_main_arg46 m (dats m) c),
    ((h c).2 main_arg47 (Pipeline.mem_restRefs_of main_arg47 (by decide) (by decide))).trans (W_main_arg47 m (dats m) c),
    ((h c).2 main_arg48 (Pipeline.mem_restRefs_of main_arg48 (by decide) (by decide))).trans (W_main_arg48 m (dats m) c),
    ((h c).2 main_arg49 (Pipeline.mem_restRefs_of main_arg49 (by decide) (by decide))).trans (W_main_arg49 m (dats m) c),
    ((h c).2 main_arg50 (Pipeline.mem_restRefs_of main_arg50 (by decide) (by decide))).trans (W_main_arg50 m (dats m) c),
    ((h c).2 main_arg51 (Pipeline.mem_restRefs_of main_arg51 (by decide) (by decide))).trans (W_main_arg51 m (dats m) c),
    ((h c).2 main_arg52 (Pipeline.mem_restRefs_of main_arg52 (by decide) (by decide))).trans (W_main_arg52 m (dats m) c),
    ((h c).2 main_arg53 (Pipeline.mem_restRefs_of main_arg53 (by decide) (by decide))).trans (W_main_arg53 m (dats m) c),
    ((h c).2 main_arg54 (Pipeline.mem_restRefs_of main_arg54 (by decide) (by decide))).trans (W_main_arg54 m (dats m) c),
    ((h c).2 main_arg55 (Pipeline.mem_restRefs_of main_arg55 (by decide) (by decide))).trans (W_main_arg55 m (dats m) c)⟩) (run_main m ρ)

set_option maxHeartbeats 4000000 in
/-- Every run of the reference ends with the same arrays of its own arguments and keeps them. -/
theorem reference (m : (ℓ : Loc AdamSmallReferenceIdeal.nD AdamSmallReferenceIdeal.τ AdamSmallReferenceIdeal.sig) → Buf (Elt Ideal) ℓ) (ρ : Dev AdamSmallReferenceIdeal.nD → PrngReg) :
    θ_run (AdamSmallReferenceIdeal.defs (F := Ideal)) (onTc (τ := AdamSmallReferenceIdeal.τ) (AdamSmallReferenceIdeal.main (F := Ideal))) ⟨m, fun _ => 0, ρ⟩ fun r =>
      ∀ c : Dev AdamSmallReferenceIdeal.nD, (r.2.mem (c.tc.loc AdamSmallReferenceIdeal.main_v23) = (Adam.deltas (m (c.tc.loc AdamSmallReferenceIdeal.main_arg0)) (m (c.tc.loc AdamSmallReferenceIdeal.main_arg14)) (m (c.tc.loc AdamSmallReferenceIdeal.main_arg28)) (m (c.tc.loc AdamSmallReferenceIdeal.main_arg42)) : Vec Ideal S4x3x256 .f32)
      ∧ r.2.mem (c.tc.loc AdamSmallReferenceIdeal.main_v47) = (Adam.deltas (m (c.tc.loc AdamSmallReferenceIdeal.main_arg1)) (m (c.tc.loc AdamSmallReferenceIdeal.main_arg15)) (m (c.tc.loc AdamSmallReferenceIdeal.main_arg29)) (m (c.tc.loc AdamSmallReferenceIdeal.main_arg43)) : Vec Ideal S2x512 .f32)
      ∧ r.2.mem (c.tc.loc AdamSmallReferenceIdeal.main_v71) = (Adam.deltas (m (c.tc.loc AdamSmallReferenceIdeal.main_arg2)) (m (c.tc.loc AdamSmallReferenceIdeal.main_arg16)) (m (c.tc.loc AdamSmallReferenceIdeal.main_arg30)) (m (c.tc.loc AdamSmallReferenceIdeal.main_arg44)) : Vec Ideal S2x31x256 .f32)
      ∧ r.2.mem (c.tc.loc AdamSmallReferenceIdeal.main_v95) = (Adam.deltas (m (c.tc.loc AdamSmallReferenceIdeal.main_arg3)) (m (c.tc.loc AdamSmallReferenceIdeal.main_arg17)) (m (c.tc.loc AdamSmallReferenceIdeal.main_arg31)) (m (c.tc.loc AdamSmallReferenceIdeal.main_arg45)) : Vec Ideal S2x256 .f32)
      ∧ r.2.mem (c.tc.loc AdamSmallReferenceIdeal.main_v119) = (Adam.deltas (m (c.tc.loc AdamSmallReferenceIdeal.main_arg4)) (m (c.tc.loc AdamSmallReferenceIdeal.main_arg18)) (m (c.tc.loc AdamSmallReferenceIdeal.main_arg32)) (m (c.tc.loc AdamSmallReferenceIdeal.main_arg46)) : Vec Ideal S2x256 .f32)
      ∧ r.2.mem (c.tc.loc AdamSmallReferenceIdeal.main_v143) = (Adam.deltas (m (c.tc.loc AdamSmallReferenceIdeal.main_arg5)) (m (c.tc.loc AdamSmallReferenceIdeal.main_arg19)) (m (c.tc.loc AdamSmallReferenceIdeal.main_arg33)) (m (c.tc.loc AdamSmallReferenceIdeal.main_arg47)) : Vec Ideal S2x256 .f32)
      ∧ r.2.mem (c.tc.loc AdamSmallReferenceIdeal.main_v167) = (Adam.deltas (m (c.tc.loc AdamSmallReferenceIdeal.main_arg6)) (m (c.tc.loc AdamSmallReferenceIdeal.main_arg20)) (m (c.tc.loc AdamSmallReferenceIdeal.main_arg34)) (m (c.tc.loc AdamSmallReferenceIdeal.main_arg48)) : Vec Ideal S2x256 .f32)
      ∧ r.2.mem (c.tc.loc AdamSmallReferenceIdeal.main_v191) = (Adam.deltas (m (c.tc.loc AdamSmallReferenceIdeal.main_arg7)) (m (c.tc.loc AdamSmallReferenceIdeal.main_arg21)) (m (c.tc.loc AdamSmallReferenceIdeal.main_arg35)) (m (c.tc.loc AdamSmallReferenceIdeal.main_arg49)) : Vec Ideal S1x4x64x256 .f32)
      ∧ r.2.mem (c.tc.loc AdamSmallReferenceIdeal.main_v215) = (Adam.deltas (m (c.tc.loc AdamSmallReferenceIdeal.main_arg8)) (m (c.tc.loc AdamSmallReferenceIdeal.main_arg22)) (m (c.tc.loc AdamSmallReferenceIdeal.main_arg36)) (m (c.tc.loc AdamSmallReferenceIdeal.main_arg50)) : Vec Ideal S1x4x64 .f32)
      ∧ r.2.mem (c.tc.loc AdamSmallReferenceIdeal.main_v239) = (Adam.deltas (m (c.tc.loc AdamSmallReferenceIdeal.main_arg9)) (m (c.tc.loc AdamSmallReferenceIdeal.main_arg23)) (m (c.tc.loc AdamSmallReferenceIdeal.main_arg37)) (m (c.tc.loc AdamSmallReferenceIdeal.main_arg51)) : Vec Ideal S1x256 .f32)
      ∧ r.2.mem (c.tc.loc AdamSmallReferenceIdeal.main_v263) = (Adam.deltas (m (c.tc.loc AdamSmallReferenceIdeal.main_arg10)) (m (c.tc.loc AdamSmallReferenceIdeal.main_arg24)) (m (c.tc.loc AdamSmallReferenceIdeal.main_arg38)) (m (c.tc.loc AdamSmallReferenceIdeal.main_arg52)) : Vec Ideal S1024 .f32)
      ∧ r.2.mem (c.tc.loc AdamSmallReferenceIdeal.main_v287) = (Adam.deltas (m (c.tc.loc AdamSmallReferenceIdeal.main_arg11)) (m (c.tc.loc AdamSmallReferenceIdeal.main_arg25)) (m (c.tc.loc AdamSmallReferenceIdeal.main_arg39)) (m (c.tc.loc AdamSmallReferenceIdeal.main_arg53)) : Vec Ideal S4x9216 .f32)
      ∧ r.2.mem (c.tc.loc AdamSmallReferenceIdeal.main_v311) = (Adam.deltas (m (c.tc.loc AdamSmallReferenceIdeal.main_arg12)) (m (c.tc.loc AdamSmallReferenceIdeal.main_arg26)) (m (c.tc.loc AdamSmallReferenceIdeal.main_arg40)) (m (c.tc.loc AdamSmallReferenceIdeal.main_arg54)) : Vec Ideal S1x64 .f32)
      ∧ r.2.mem (c.tc.loc AdamSmallReferenceIdeal.main_v335) = (Adam.deltas (m (c.tc.loc AdamSmallReferenceIdeal.main_arg13)) (m (c.tc.loc AdamSmallReferenceIdeal.main_arg27)) (m (c.tc.loc AdamSmallReferenceIdeal.main_arg41)) (m (c.tc.loc AdamSmallReferenceIdeal.main_arg55)) : Vec Ideal S1x64 .f32)
      ∧ r.2.mem (c.tc.loc AdamSmallReferenceIdeal.main_v4) = (Adam.firsts (m (c.tc.loc AdamSmallReferenceIdeal.main_arg14)) (m (c.tc.loc AdamSmallReferenceIdeal.main_arg28)) : Vec Ideal S4x3x256 .f32)
      ∧ r.2.mem (c.tc.loc AdamSmallReferenceIdeal.main_v28) = (Adam.firsts (m (c.tc.loc AdamSmallReferenceIdeal.main_arg15)) (m (c.tc.loc AdamSmallReferenceIdeal.main_arg29)) : Vec Ideal S2x512 .f32)
      ∧ r.2.mem (c.tc.loc AdamSmallReferenceIdeal.main_v52) = (Adam.firsts (m (c.tc.loc AdamSmallReferenceIdeal.main_arg16)) (m (c.tc.loc AdamSmallReferenceIdeal.main_arg30)) : Vec Ideal S2x31x256 .f32)
      ∧ r.2.mem (c.tc.loc AdamSmallReferenceIdeal.main_v76) = (Adam.firsts (m (c.tc.loc AdamSmallReferenceIdeal.main_arg17)) (m (c.tc.loc AdamSmallReferenceIdeal.main_arg31)) : Vec Ideal S2x256 .f32)
      ∧ r.2.mem (c.tc.loc AdamSmallReferenceIdeal.main_v100) = (Adam.firsts (m (c.tc.loc AdamSmallReferenceIdeal.main_arg18)) (m (c.tc.loc AdamSmallReferenceIdeal.main_arg32)) : Vec Ideal S2x256 .f32)
      ∧ r.2.mem (c.tc.loc AdamSmallReferenceIdeal.main_v124) = (Adam.firsts (m (c.tc.loc AdamSmallReferenceIdeal.main_arg19)) (m (c.tc.loc AdamSmallReferenceIdeal.main_arg33)) : Vec Ideal S2x256 .f32)
      ∧ r.2.mem (c.tc.loc AdamSmallReferenceIdeal.main_v148) = (Adam.firsts (m (c.tc.loc AdamSmallReferenceIdeal.main_arg20)) (m (c.tc.loc AdamSmallReferenceIdeal.main_arg34)) : Vec Ideal S2x256 .f32)
      ∧ r.2.mem (c.tc.loc AdamSmallReferenceIdeal.main_v172) = (Adam.firsts (m (c.tc.loc AdamSmallReferenceIdeal.main_arg21)) (m (c.tc.loc AdamSmallReferenceIdeal.main_arg35)) : Vec Ideal S1x4x64x256 .f32)
      ∧ r.2.mem (c.tc.loc AdamSmallReferenceIdeal.main_v196) = (Adam.firsts (m (c.tc.loc AdamSmallReferenceIdeal.main_arg22)) (m (c.tc.loc AdamSmallReferenceIdeal.main_arg36)) : Vec Ideal S1x4x64 .f32)
      ∧ r.2.mem (c.tc.loc AdamSmallReferenceIdeal.main_v220) = (Adam.firsts (m (c.tc.loc AdamSmallReferenceIdeal.main_arg23)) (m (c.tc.loc AdamSmallReferenceIdeal.main_arg37)) : Vec Ideal S1x256 .f32)
      ∧ r.2.mem (c.tc.loc AdamSmallReferenceIdeal.main_v244) = (Adam.firsts (m (c.tc.loc AdamSmallReferenceIdeal.main_arg24)) (m (c.tc.loc AdamSmallReferenceIdeal.main_arg38)) : Vec Ideal S1024 .f32)
      ∧ r.2.mem (c.tc.loc AdamSmallReferenceIdeal.main_v268) = (Adam.firsts (m (c.tc.loc AdamSmallReferenceIdeal.main_arg25)) (m (c.tc.loc AdamSmallReferenceIdeal.main_arg39)) : Vec Ideal S4x9216 .f32)
      ∧ r.2.mem (c.tc.loc AdamSmallReferenceIdeal.main_v292) = (Adam.firsts (m (c.tc.loc AdamSmallReferenceIdeal.main_arg26)) (m (c.tc.loc AdamSmallReferenceIdeal.main_arg40)) : Vec Ideal S1x64 .f32)
      ∧ r.2.mem (c.tc.loc AdamSmallReferenceIdeal.main_v316) = (Adam.firsts (m (c.tc.loc AdamSmallReferenceIdeal.main_arg27)) (m (c.tc.loc AdamSmallReferenceIdeal.main_arg41)) : Vec Ideal S1x64 .f32)
      ∧ r.2.mem (c.tc.loc AdamSmallReferenceIdeal.main_v10) = (Adam.seconds (m (c.tc.loc AdamSmallReferenceIdeal.main_arg14)) (m (c.tc.loc AdamSmallReferenceIdeal.main_arg42)) : Vec Ideal S4x3x256 .f32)
      ∧ r.2.mem (c.tc.loc AdamSmallReferenceIdeal.main_v34) = (Adam.seconds (m (c.tc.loc AdamSmallReferenceIdeal.main_arg15)) (m (c.tc.loc AdamSmallReferenceIdeal.main_arg43)) : Vec Ideal S2x512 .f32)
      ∧ r.2.mem (c.tc.loc AdamSmallReferenceIdeal.main_v58) = (Adam.seconds (m (c.tc.loc AdamSmallReferenceIdeal.main_arg16)) (m (c.tc.loc AdamSmallReferenceIdeal.main_arg44)) : Vec Ideal S2x31x256 .f32)
      ∧ r.2.mem (c.tc.loc AdamSmallReferenceIdeal.main_v82) = (Adam.seconds (m (c.tc.loc AdamSmallReferenceIdeal.main_arg17)) (m (c.tc.loc AdamSmallReferenceIdeal.main_arg45)) : Vec Ideal S2x256 .f32)
      ∧ r.2.mem (c.tc.loc AdamSmallReferenceIdeal.main_v106) = (Adam.seconds (m (c.tc.loc AdamSmallReferenceIdeal.main_arg18)) (m (c.tc.loc AdamSmallReferenceIdeal.main_arg46)) : Vec Ideal S2x256 .f32)
      ∧ r.2.mem (c.tc.loc AdamSmallReferenceIdeal.main_v130) = (Adam.seconds (m (c.tc.loc AdamSmallReferenceIdeal.main_arg19)) (m (c.tc.loc AdamSmallReferenceIdeal.main_arg47)) : Vec Ideal S2x256 .f32)
      ∧ r.2.mem (c.tc.loc AdamSmallReferenceIdeal.main_v154) = (Adam.seconds (m (c.tc.loc AdamSmallReferenceIdeal.main_arg20)) (m (c.tc.loc AdamSmallReferenceIdeal.main_arg48)) : Vec Ideal S2x256 .f32)
      ∧ r.2.mem (c.tc.loc AdamSmallReferenceIdeal.main_v178) = (Adam.seconds (m (c.tc.loc AdamSmallReferenceIdeal.main_arg21)) (m (c.tc.loc AdamSmallReferenceIdeal.main_arg49)) : Vec Ideal S1x4x64x256 .f32)
      ∧ r.2.mem (c.tc.loc AdamSmallReferenceIdeal.main_v202) = (Adam.seconds (m (c.tc.loc AdamSmallReferenceIdeal.main_arg22)) (m (c.tc.loc AdamSmallReferenceIdeal.main_arg50)) : Vec Ideal S1x4x64 .f32)
      ∧ r.2.mem (c.tc.loc AdamSmallReferenceIdeal.main_v226) = (Adam.seconds (m (c.tc.loc AdamSmallReferenceIdeal.main_arg23)) (m (c.tc.loc AdamSmallReferenceIdeal.main_arg51)) : Vec Ideal S1x256 .f32)
      ∧ r.2.mem (c.tc.loc AdamSmallReferenceIdeal.main_v250) = (Adam.seconds (m (c.tc.loc AdamSmallReferenceIdeal.main_arg24)) (m (c.tc.loc AdamSmallReferenceIdeal.main_arg52)) : Vec Ideal S1024 .f32)
      ∧ r.2.mem (c.tc.loc AdamSmallReferenceIdeal.main_v274) = (Adam.seconds (m (c.tc.loc AdamSmallReferenceIdeal.main_arg25)) (m (c.tc.loc AdamSmallReferenceIdeal.main_arg53)) : Vec Ideal S4x9216 .f32)
      ∧ r.2.mem (c.tc.loc AdamSmallReferenceIdeal.main_v298) = (Adam.seconds (m (c.tc.loc AdamSmallReferenceIdeal.main_arg26)) (m (c.tc.loc AdamSmallReferenceIdeal.main_arg54)) : Vec Ideal S1x64 .f32)
      ∧ r.2.mem (c.tc.loc AdamSmallReferenceIdeal.main_v322) = (Adam.seconds (m (c.tc.loc AdamSmallReferenceIdeal.main_arg27)) (m (c.tc.loc AdamSmallReferenceIdeal.main_arg55)) : Vec Ideal S1x64 .f32))
      ∧ r.2.mem (c.tc.loc AdamSmallReferenceIdeal.main_arg0) = m (c.tc.loc AdamSmallReferenceIdeal.main_arg0)
      ∧ r.2.mem (c.tc.loc AdamSmallReferenceIdeal.main_arg1) = m (c.tc.loc AdamSmallReferenceIdeal.main_arg1)
      ∧ r.2.mem (c.tc.loc AdamSmallReferenceIdeal.main_arg2) = m (c.tc.loc AdamSmallReferenceIdeal.main_arg2)
      ∧ r.2.mem (c.tc.loc AdamSmallReferenceIdeal.main_arg3) = m (c.tc.loc AdamSmallReferenceIdeal.main_arg3)
      ∧ r.2.mem (c.tc.loc AdamSmallReferenceIdeal.main_arg4) = m (c.tc.loc AdamSmallReferenceIdeal.main_arg4)
      ∧ r.2.mem (c.tc.loc AdamSmallReferenceIdeal.main_arg5) = m (c.tc.loc AdamSmallReferenceIdeal.main_arg5)
      ∧ r.2.mem (c.tc.loc AdamSmallReferenceIdeal.main_arg6) = m (c.tc.loc AdamSmallReferenceIdeal.main_arg6)
      ∧ r.2.mem (c.tc.loc AdamSmallReferenceIdeal.main_arg7) = m (c.tc.loc AdamSmallReferenceIdeal.main_arg7)
      ∧ r.2.mem (c.tc.loc AdamSmallReferenceIdeal.main_arg8) = m (c.tc.loc AdamSmallReferenceIdeal.main_arg8)
      ∧ r.2.mem (c.tc.loc AdamSmallReferenceIdeal.main_arg9) = m (c.tc.loc AdamSmallReferenceIdeal.main_arg9)
      ∧ r.2.mem (c.tc.loc AdamSmallReferenceIdeal.main_arg10) = m (c.tc.loc AdamSmallReferenceIdeal.main_arg10)
      ∧ r.2.mem (c.tc.loc AdamSmallReferenceIdeal.main_arg11) = m (c.tc.loc AdamSmallReferenceIdeal.main_arg11)
      ∧ r.2.mem (c.tc.loc AdamSmallReferenceIdeal.main_arg12) = m (c.tc.loc AdamSmallReferenceIdeal.main_arg12)
      ∧ r.2.mem (c.tc.loc AdamSmallReferenceIdeal.main_arg13) = m (c.tc.loc AdamSmallReferenceIdeal.main_arg13)
      ∧ r.2.mem (c.tc.loc AdamSmallReferenceIdeal.main_arg14) = m (c.tc.loc AdamSmallReferenceIdeal.main_arg14)
      ∧ r.2.mem (c.tc.loc AdamSmallReferenceIdeal.main_arg15) = m (c.tc.loc AdamSmallReferenceIdeal.main_arg15)
      ∧ r.2.mem (c.tc.loc AdamSmallReferenceIdeal.main_arg16) = m (c.tc.loc AdamSmallReferenceIdeal.main_arg16)
      ∧ r.2.mem (c.tc.loc AdamSmallReferenceIdeal.main_arg17) = m (c.tc.loc AdamSmallReferenceIdeal.main_arg17)
      ∧ r.2.mem (c.tc.loc AdamSmallReferenceIdeal.main_arg18) = m (c.tc.loc AdamSmallReferenceIdeal.main_arg18)
      ∧ r.2.mem (c.tc.loc AdamSmallReferenceIdeal.main_arg19) = m (c.tc.loc AdamSmallReferenceIdeal.main_arg19)
      ∧ r.2.mem (c.tc.loc AdamSmallReferenceIdeal.main_arg20) = m (c.tc.loc AdamSmallReferenceIdeal.main_arg20)
      ∧ r.2.mem (c.tc.loc AdamSmallReferenceIdeal.main_arg21) = m (c.tc.loc AdamSmallReferenceIdeal.main_arg21)
      ∧ r.2.mem (c.tc.loc AdamSmallReferenceIdeal.main_arg22) = m (c.tc.loc AdamSmallReferenceIdeal.main_arg22)
      ∧ r.2.mem (c.tc.loc AdamSmallReferenceIdeal.main_arg23) = m (c.tc.loc AdamSmallReferenceIdeal.main_arg23)
      ∧ r.2.mem (c.tc.loc AdamSmallReferenceIdeal.main_arg24) = m (c.tc.loc AdamSmallReferenceIdeal.main_arg24)
      ∧ r.2.mem (c.tc.loc AdamSmallReferenceIdeal.main_arg25) = m (c.tc.loc AdamSmallReferenceIdeal.main_arg25)
      ∧ r.2.mem (c.tc.loc AdamSmallReferenceIdeal.main_arg26) = m (c.tc.loc AdamSmallReferenceIdeal.main_arg26)
      ∧ r.2.mem (c.tc.loc AdamSmallReferenceIdeal.main_arg27) = m (c.tc.loc AdamSmallReferenceIdeal.main_arg27)
      ∧ r.2.mem (c.tc.loc AdamSmallReferenceIdeal.main_arg28) = m (c.tc.loc AdamSmallReferenceIdeal.main_arg28)
      ∧ r.2.mem (c.tc.loc AdamSmallReferenceIdeal.main_arg29) = m (c.tc.loc AdamSmallReferenceIdeal.main_arg29)
      ∧ r.2.mem (c.tc.loc AdamSmallReferenceIdeal.main_arg30) = m (c.tc.loc AdamSmallReferenceIdeal.main_arg30)
      ∧ r.2.mem (c.tc.loc AdamSmallReferenceIdeal.main_arg31) = m (c.tc.loc AdamSmallReferenceIdeal.main_arg31)
      ∧ r.2.mem (c.tc.loc AdamSmallReferenceIdeal.main_arg32) = m (c.tc.loc AdamSmallReferenceIdeal.main_arg32)
      ∧ r.2.mem (c.tc.loc AdamSmallReferenceIdeal.main_arg33) = m (c.tc.loc AdamSmallReferenceIdeal.main_arg33)
      ∧ r.2.mem (c.tc.loc AdamSmallReferenceIdeal.main_arg34) = m (c.tc.loc AdamSmallReferenceIdeal.main_arg34)
      ∧ r.2.mem (c.tc.loc AdamSmallReferenceIdeal.main_arg35) = m (c.tc.loc AdamSmallReferenceIdeal.main_arg35)
      ∧ r.2.mem (c.tc.loc AdamSmallReferenceIdeal.main_arg36) = m (c.tc.loc AdamSmallReferenceIdeal.main_arg36)
      ∧ r.2.mem (c.tc.loc AdamSmallReferenceIdeal.main_arg37) = m (c.tc.loc AdamSmallReferenceIdeal.main_arg37)
      ∧ r.2.mem (c.tc.loc AdamSmallReferenceIdeal.main_arg38) = m (c.tc.loc AdamSmallReferenceIdeal.main_arg38)
      ∧ r.2.mem (c.tc.loc AdamSmallReferenceIdeal.main_arg39) = m (c.tc.loc AdamSmallReferenceIdeal.main_arg39)
      ∧ r.2.mem (c.tc.loc AdamSmallReferenceIdeal.main_arg40) = m (c.tc.loc AdamSmallReferenceIdeal.main_arg40)
      ∧ r.2.mem (c.tc.loc AdamSmallReferenceIdeal.main_arg41) = m (c.tc.loc AdamSmallReferenceIdeal.main_arg41)
      ∧ r.2.mem (c.tc.loc AdamSmallReferenceIdeal.main_arg42) = m (c.tc.loc AdamSmallReferenceIdeal.main_arg42)
      ∧ r.2.mem (c.tc.loc AdamSmallReferenceIdeal.main_arg43) = m (c.tc.loc AdamSmallReferenceIdeal.main_arg43)
      ∧ r.2.mem (c.tc.loc AdamSmallReferenceIdeal.main_arg44) = m (c.tc.loc AdamSmallReferenceIdeal.main_arg44)
      ∧ r.2.mem (c.tc.loc AdamSmallReferenceIdeal.main_arg45) = m (c.tc.loc AdamSmallReferenceIdeal.main_arg45)
      ∧ r.2.mem (c.tc.loc AdamSmallReferenceIdeal.main_arg46) = m (c.tc.loc AdamSmallReferenceIdeal.main_arg46)
      ∧ r.2.mem (c.tc.loc AdamSmallReferenceIdeal.main_arg47) = m (c.tc.loc AdamSmallReferenceIdeal.main_arg47)
      ∧ r.2.mem (c.tc.loc AdamSmallReferenceIdeal.main_arg48) = m (c.tc.loc AdamSmallReferenceIdeal.main_arg48)
      ∧ r.2.mem (c.tc.loc AdamSmallReferenceIdeal.main_arg49) = m (c.tc.loc AdamSmallReferenceIdeal.main_arg49)
      ∧ r.2.mem (c.tc.loc AdamSmallReferenceIdeal.main_arg50) = m (c.tc.loc AdamSmallReferenceIdeal.main_arg50)
      ∧ r.2.mem (c.tc.loc AdamSmallReferenceIdeal.main_arg51) = m (c.tc.loc AdamSmallReferenceIdeal.main_arg51)
      ∧ r.2.mem (c.tc.loc AdamSmallReferenceIdeal.main_arg52) = m (c.tc.loc AdamSmallReferenceIdeal.main_arg52)
      ∧ r.2.mem (c.tc.loc AdamSmallReferenceIdeal.main_arg53) = m (c.tc.loc AdamSmallReferenceIdeal.main_arg53)
      ∧ r.2.mem (c.tc.loc AdamSmallReferenceIdeal.main_arg54) = m (c.tc.loc AdamSmallReferenceIdeal.main_arg54)
      ∧ r.2.mem (c.tc.loc AdamSmallReferenceIdeal.main_arg55) = m (c.tc.loc AdamSmallReferenceIdeal.main_arg55) := by
  refine (θ_run _ _ _).mono (fun r h c => ?_) (AdamSmallReferenceIdeal.Value.run m ρ)
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, hkeep⟩ := h c
  exact ⟨⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, h15.trans rfl, h16.trans rfl, h17.trans rfl, h18.trans rfl, h19.trans rfl, h20.trans rfl, h21.trans rfl, h22.trans rfl, h23.trans rfl, h24.trans rfl, h25.trans rfl, h26.trans rfl, h27.trans rfl, h28.trans rfl, h29.trans rfl, h30.trans rfl, h31.trans rfl, h32.trans rfl, h33.trans rfl, h34.trans rfl, h35.trans rfl, h36.trans rfl, h37.trans rfl, h38.trans rfl, h39.trans rfl, h40.trans rfl, h41.trans rfl⟩, hkeep⟩

/-- The reference runs, keeps its arguments and declares no semaphore. -/
theorem frameReference : Cert.quiescent_AdamSmallReferenceIdeal (hAdamSmallReferenceIdeal := AdamSmallReferenceIdeal.Gen.facts) :=
  fun m ρ _ => (θ_run _ _ _).mono (fun r h => ⟨fun c => (h c).2, sem_eq_zero_of_no_sems rfl r.2⟩) (reference m ρ)

set_option maxHeartbeats 4000000 in
/-- The call and its reference end with the same arrays. -/
theorem algebraic : Cert.algebraic_AdamSmallIdeal_AdamSmallReferenceIdeal (hAdamSmallIdeal := Cert.AdamSmallIdeal.Gen.facts) (hAdamSmallReferenceIdeal := AdamSmallReferenceIdeal.Gen.facts) := by
  intro m ρ m' ρ' _ hargs
  refine ⟨fun c => (Adam.deltas (m (c.tc.loc main_arg0)) (m (c.tc.loc main_arg14)) (m (c.tc.loc main_arg28)) (m (c.tc.loc main_arg42)) : Vec Ideal S4x3x256 .f32),
    fun c => (Adam.deltas (m (c.tc.loc main_arg1)) (m (c.tc.loc main_arg15)) (m (c.tc.loc main_arg29)) (m (c.tc.loc main_arg43)) : Vec Ideal S2x512 .f32),
    fun c => (Adam.deltas (m (c.tc.loc main_arg2)) (m (c.tc.loc main_arg16)) (m (c.tc.loc main_arg30)) (m (c.tc.loc main_arg44)) : Vec Ideal S2x31x256 .f32),
    fun c => (Adam.deltas (m (c.tc.loc main_arg3)) (m (c.tc.loc main_arg17)) (m (c.tc.loc main_arg31)) (m (c.tc.loc main_arg45)) : Vec Ideal S2x256 .f32),
    fun c => (Adam.deltas (m (c.tc.loc main_arg4)) (m (c.tc.loc main_arg18)) (m (c.tc.loc main_arg32)) (m (c.tc.loc main_arg46)) : Vec Ideal S2x256 .f32),
    fun c => (Adam.deltas (m (c.tc.loc main_arg5)) (m (c.tc.loc main_arg19)) (m (c.tc.loc main_arg33)) (m (c.tc.loc main_arg47)) : Vec Ideal S2x256 .f32),
    fun c => (Adam.deltas (m (c.tc.loc main_arg6)) (m (c.tc.loc main_arg20)) (m (c.tc.loc main_arg34)) (m (c.tc.loc main_arg48)) : Vec Ideal S2x256 .f32),
    fun c => (Adam.deltas (m (c.tc.loc main_arg7)) (m (c.tc.loc main_arg21)) (m (c.tc.loc main_arg35)) (m (c.tc.loc main_arg49)) : Vec Ideal S1x4x64x256 .f32),
    fun c => (Adam.deltas (m (c.tc.loc main_arg8)) (m (c.tc.loc main_arg22)) (m (c.tc.loc main_arg36)) (m (c.tc.loc main_arg50)) : Vec Ideal S1x4x64 .f32),
    fun c => (Adam.deltas (m (c.tc.loc main_arg9)) (m (c.tc.loc main_arg23)) (m (c.tc.loc main_arg37)) (m (c.tc.loc main_arg51)) : Vec Ideal S1x256 .f32),
    fun c => (Adam.deltas (m (c.tc.loc main_arg10)) (m (c.tc.loc main_arg24)) (m (c.tc.loc main_arg38)) (m (c.tc.loc main_arg52)) : Vec Ideal S1024 .f32),
    fun c => (Adam.deltas (m (c.tc.loc main_arg11)) (m (c.tc.loc main_arg25)) (m (c.tc.loc main_arg39)) (m (c.tc.loc main_arg53)) : Vec Ideal S4x9216 .f32),
    fun c => (Adam.deltas (m (c.tc.loc main_arg12)) (m (c.tc.loc main_arg26)) (m (c.tc.loc main_arg40)) (m (c.tc.loc main_arg54)) : Vec Ideal S1x64 .f32),
    fun c => (Adam.deltas (m (c.tc.loc main_arg13)) (m (c.tc.loc main_arg27)) (m (c.tc.loc main_arg41)) (m (c.tc.loc main_arg55)) : Vec Ideal S1x64 .f32),
    fun c => (Adam.firsts (m (c.tc.loc main_arg14)) (m (c.tc.loc main_arg28)) : Vec Ideal S4x3x256 .f32),
    fun c => (Adam.firsts (m (c.tc.loc main_arg15)) (m (c.tc.loc main_arg29)) : Vec Ideal S2x512 .f32),
    fun c => (Adam.firsts (m (c.tc.loc main_arg16)) (m (c.tc.loc main_arg30)) : Vec Ideal S2x31x256 .f32),
    fun c => (Adam.firsts (m (c.tc.loc main_arg17)) (m (c.tc.loc main_arg31)) : Vec Ideal S2x256 .f32),
    fun c => (Adam.firsts (m (c.tc.loc main_arg18)) (m (c.tc.loc main_arg32)) : Vec Ideal S2x256 .f32),
    fun c => (Adam.firsts (m (c.tc.loc main_arg19)) (m (c.tc.loc main_arg33)) : Vec Ideal S2x256 .f32),
    fun c => (Adam.firsts (m (c.tc.loc main_arg20)) (m (c.tc.loc main_arg34)) : Vec Ideal S2x256 .f32),
    fun c => (Adam.firsts (m (c.tc.loc main_arg21)) (m (c.tc.loc main_arg35)) : Vec Ideal S1x4x64x256 .f32),
    fun c => (Adam.firsts (m (c.tc.loc main_arg22)) (m (c.tc.loc main_arg36)) : Vec Ideal S1x4x64 .f32),
    fun c => (Adam.firsts (m (c.tc.loc main_arg23)) (m (c.tc.loc main_arg37)) : Vec Ideal S1x256 .f32),
    fun c => (Adam.firsts (m (c.tc.loc main_arg24)) (m (c.tc.loc main_arg38)) : Vec Ideal S1024 .f32),
    fun c => (Adam.firsts (m (c.tc.loc main_arg25)) (m (c.tc.loc main_arg39)) : Vec Ideal S4x9216 .f32),
    fun c => (Adam.firsts (m (c.tc.loc main_arg26)) (m (c.tc.loc main_arg40)) : Vec Ideal S1x64 .f32),
    fun c => (Adam.firsts (m (c.tc.loc main_arg27)) (m (c.tc.loc main_arg41)) : Vec Ideal S1x64 .f32),
    fun c => (Adam.seconds (m (c.tc.loc main_arg14)) (m (c.tc.loc main_arg42)) : Vec Ideal S4x3x256 .f32),
    fun c => (Adam.seconds (m (c.tc.loc main_arg15)) (m (c.tc.loc main_arg43)) : Vec Ideal S2x512 .f32),
    fun c => (Adam.seconds (m (c.tc.loc main_arg16)) (m (c.tc.loc main_arg44)) : Vec Ideal S2x31x256 .f32),
    fun c => (Adam.seconds (m (c.tc.loc main_arg17)) (m (c.tc.loc main_arg45)) : Vec Ideal S2x256 .f32),
    fun c => (Adam.seconds (m (c.tc.loc main_arg18)) (m (c.tc.loc main_arg46)) : Vec Ideal S2x256 .f32),
    fun c => (Adam.seconds (m (c.tc.loc main_arg19)) (m (c.tc.loc main_arg47)) : Vec Ideal S2x256 .f32),
    fun c => (Adam.seconds (m (c.tc.loc main_arg20)) (m (c.tc.loc main_arg48)) : Vec Ideal S2x256 .f32),
    fun c => (Adam.seconds (m (c.tc.loc main_arg21)) (m (c.tc.loc main_arg49)) : Vec Ideal S1x4x64x256 .f32),
    fun c => (Adam.seconds (m (c.tc.loc main_arg22)) (m (c.tc.loc main_arg50)) : Vec Ideal S1x4x64 .f32),
    fun c => (Adam.seconds (m (c.tc.loc main_arg23)) (m (c.tc.loc main_arg51)) : Vec Ideal S1x256 .f32),
    fun c => (Adam.seconds (m (c.tc.loc main_arg24)) (m (c.tc.loc main_arg52)) : Vec Ideal S1024 .f32),
    fun c => (Adam.seconds (m (c.tc.loc main_arg25)) (m (c.tc.loc main_arg53)) : Vec Ideal S4x9216 .f32),
    fun c => (Adam.seconds (m (c.tc.loc main_arg26)) (m (c.tc.loc main_arg54)) : Vec Ideal S1x64 .f32),
    fun c => (Adam.seconds (m (c.tc.loc main_arg27)) (m (c.tc.loc main_arg55)) : Vec Ideal S1x64 .f32),
    run m ρ, (θ_run _ _ _).mono (fun r h c => ?_) (reference m' ρ')⟩
  obtain ⟨⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41⟩, hkeep⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55⟩ := hargs c
  rw [a0, a14, a28, a42] at h0
  rw [a1, a15, a29, a43] at h1
  rw [a2, a16, a30, a44] at h2
  rw [a3, a17, a31, a45] at h3
  rw [a4, a18, a32, a46] at h4
  rw [a5, a19, a33, a47] at h5
  rw [a6, a20, a34, a48] at h6
  rw [a7, a21, a35, a49] at h7
  rw [a8, a22, a36, a50] at h8
  rw [a9, a23, a37, a51] at h9
  rw [a10, a24, a38, a52] at h10
  rw [a11, a25, a39, a53] at h11
  rw [a12, a26, a40, a54] at h12
  rw [a13, a27, a41, a55] at h13
  rw [a14, a28] at h14
  rw [a15, a29] at h15
  rw [a16, a30] at h16
  rw [a17, a31] at h17
  rw [a18, a32] at h18
  rw [a19, a33] at h19
  rw [a20, a34] at h20
  rw [a21, a35] at h21
  rw [a22, a36] at h22
  rw [a23, a37] at h23
  rw [a24, a38] at h24
  rw [a25, a39] at h25
  rw [a26, a40] at h26
  rw [a27, a41] at h27
  rw [a14, a42] at h28
  rw [a15, a43] at h29
  rw [a16, a44] at h30
  rw [a17, a45] at h31
  rw [a18, a46] at h32
  rw [a19, a47] at h33
  rw [a20, a48] at h34
  rw [a21, a49] at h35
  rw [a22, a50] at h36
  rw [a23, a51] at h37
  rw [a24, a52] at h38
  rw [a25, a53] at h39
  rw [a26, a54] at h40
  rw [a27, a55] at h41
  exact ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, hkeep⟩

end Cert.AdamSmallIdeal.Step

end
-- ==== Proof.ModBwd.lean ====
/- The gradient of the modulation layers: each layer's weight gradient, and the conditioning's summed over the layers and this chip's columns. -/
module

public import proofs.«01_k».proof.Defs
public import proofs.«01_k».proof.Proof.Gen.ModBwdIdeal
public import proofs.«01_k».proof.Proof.Gen.ModBwdIdeal.Frame
public import proofs.«01_k».proof.Proof.Gen.ModBwdReferenceIdeal
public import proofs.«01_k».proof.Proof.Gen.ModBwdReferenceIdeal.Run
public import proofs.«01_k».proof.Proof.Gen.ModBwdIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModBwdIdeal.Step

open Cert.ModBwdIdeal Cert.ModBwdIdeal.Gen

variable (m : (ℓ : Loc nD τ sig) → Buf (Elt Ideal) ℓ) (ρ : Dev nD → PrngReg)

/-- The weights' gradient: the conditioning against the modulations' gradient, summed over the batch. -/
def weights (e : Vec Ideal S8x1024 .f32) (d : Vec Ideal S4x8x2304 .f32) : Vec Ideal S4x1024x2304 .f32 :=
  fun i => (∑ b : Fin 8, (e (ix2 b (i 1)) * d (ix3 (i 0) b (i 2)) : EReal) : EReal)

/-- The conditioning's gradient: the modulations' gradient against the weights, summed over columns and layers. -/
def conditioning (d : Vec Ideal S4x8x2304 .f32) (w : Vec Ideal S4x1024x2304 .f32) : Vec Ideal S8x1024 .f32 :=
  fun i => (∑ l : Fin 4, ∑ n : Fin 2304, (d (ix3 l (i 0) n) * w (ix3 l (i 1) n) : EReal) : EReal)

/-- Every window's block index at a grid point. -/
theorem idx : ∀ t : Fin cfg0.N, win0_0.index t = ![0, 0] ∧ win0_1.index t = ![t.val, 0, 0]
    ∧ win0_2.index t = ![t.val, 0, 0] ∧ win0_3.index t = ![t.val, 0, 0] ∧ win0_4.index t = ![0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The conditioning at a grid point. -/
def act (c : Dev nD) (t : Fin cfg0.N) (b : Fin 8) (d : Fin 1024) : EReal := iblk m c 0 t (ix2 b d)
/-- The modulations' gradient at a grid point. -/
def lhs (c : Dev nD) (t : Fin cfg0.N) (b : Fin 8) (n : Fin 2304) : EReal := iblk m c 1 t (ix3 0 b n)
/-- The weights at a grid point. -/
def rhs (c : Dev nD) (t : Fin cfg0.N) (d : Fin 1024) (n : Fin 2304) : EReal := iblk m c 2 t (ix3 0 d n)

/-- What one grid point adds at an element of the conditioning's gradient. -/
def term (c : Dev nD) (t : Fin cfg0.N) (j : S8x1024.Idx) : EReal :=
  ∑ n : Fin 2304, lhs m c t (j 0) n * rhs m c t (j 1) n

/-- One layer's weight gradient. -/
theorem layer (c : Dev nD) (t : Fin cfg0.N) (j : S1x1024x2304.Idx) :
    (outsAt0 m c t.val t.isLt).1 j = (∑ b : Fin 8, act m c t b (j 1) * lhs m c t b (j 2)) := by
  by_cases h : t.val % 4 = 0
  · rw [outsAt0_A m c t h]
    frame_out
    idx_vars j
    unfold k0_pay2
    pointwise
    rfl
  · rw [outsAt0_B m c t h]
    frame_out
    idx_vars j
    unfold k0_pay2
    pointwise
    rfl

/-- After the last layer the conditioning's gradient is the sum over the layers. -/
theorem acc (c : Dev nD) (t : Fin cfg0.N) (hr : t.val % 4 = 3) (j : S8x1024.Idx) :
    (outsAt0 m c t.val t.isLt).2 j
      = 0 + ∑ s : Fin 4, term m c ⟨4 * (t.val / 4) + s.val, Pipeline.run_point_lt_of_flush t hr s⟩ j := by
  refine Pipeline.eq_sum_fin_of_reset_step_apply_of_flush (fun n h => (outsAt0 m c n h).2) 4 (fun _ => 0) (term m c)
    (fun t h j => ?_) (fun t h j => ?_) t hr j
  · beta_reduce
    rw [outsAt0_A m c t h]
    frame_out
    idx_vars j
    unfold k0_pay3 k0_pay1
    pointwise
    rfl
  · beta_reduce
    rw [outsAt0_B m c t h]
    frame_out
    idx_vars j
    unfold k0_pay3
    pointwise
    rfl

/-- The weights' gradient after the call. -/
theorem left3 (c : Dev nD) : (dats m 0 c).arrAt 3 cfg0.N
    = weights (m (c.tc.loc main_arg0)) (m (c.tc.loc main_arg1)) := by
  refine (dats m 0 c).arrAt_eq_of_covers 3 (weights (m (c.tc.loc main_arg0)) (m (c.tc.loc main_arg1))) (by decide +kernel) fun t hf y => ?_
  rw [after0_3]
  obtain ⟨e0, e1, -, e3, -⟩ := idx t
  blk_simp
  rw [layer]
  unfold weights act lhs
  refine sum_same fun b => ?_
  congr 1
  · blk_ext [iblk, V_main_arg0, e0, e3]
  · blk_ext [iblk, V_main_arg1, e1, e3]

/-- The conditioning's gradient after the call. -/
theorem left4 (c : Dev nD) : (dats m 0 c).arrAt 4 cfg0.N
    = conditioning (m (c.tc.loc main_arg1)) (m (c.tc.loc main_arg2)) := by
  refine (dats m 0 c).arrAt_eq_of_covers 4 (conditioning (m (c.tc.loc main_arg1)) (m (c.tc.loc main_arg2))) (by decide +kernel) fun t hf y => ?_
  rw [after0_4]
  blk_simp
  have hr : t.val % 4 = 3 := (flush0_4 t).mp hf
  rw [acc m c t hr, zero_add]
  unfold term conditioning lhs rhs
  refine sum_same fun s => sum_same fun n => ?_
  have hq : 4 * (t.val / 4) + s.val < cfg0.N := Pipeline.run_point_lt_of_flush t hr s
  have ht : t.val < 4 := Nat.lt_of_lt_of_eq t.isLt N_0
  have hs : 4 * (t.val / 4) + s.val = s.val := by omega
  rw [show (⟨4 * (t.val / 4) + s.val, hq⟩ : Fin cfg0.N) = ⟨s.val, hs ▸ hq⟩ from Fin.ext hs]
  obtain ⟨-, e1, e2, -, -⟩ := idx ⟨s.val, hs ▸ hq⟩
  obtain ⟨-, -, -, -, e4⟩ := idx t
  congr 1
  · blk_ext [iblk, V_main_arg1, e1, e4]
  · blk_ext [iblk, V_main_arg2, e2, e4]

/-- Every run of the call ends with the two gradients and keeps the arguments. -/
theorem run : θ_run (defs (F := Ideal)) (onTc (τ := τ) (main (F := Ideal))) ⟨m, fun _ => 0, ρ⟩ fun r => ∀ c : Dev nD,
    r.2.mem (c.tc.loc main_v0_0) = (weights (m (c.tc.loc main_arg0)) (m (c.tc.loc main_arg1)))
      ∧ r.2.mem (c.tc.loc main_v0_1) = (conditioning (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left3 m c), (h c).2.1.trans (left4 m c), (h c).2.2⟩)
    (ModBwdIdeal.Value.run_blocks m ρ)

/-- Every run of the reference ends with the same arrays of its own arguments and keeps them. -/
theorem reference (m : (ℓ : Loc ModBwdReferenceIdeal.nD ModBwdReferenceIdeal.τ ModBwdReferenceIdeal.sig) → Buf (Elt Ideal) ℓ) (ρ : Dev ModBwdReferenceIdeal.nD → PrngReg) :
    θ_run (ModBwdReferenceIdeal.defs (F := Ideal)) (onTc (τ := ModBwdReferenceIdeal.τ) (ModBwdReferenceIdeal.main (F := Ideal))) ⟨m, fun _ => 0, ρ⟩ fun r =>
      ∀ c : Dev ModBwdReferenceIdeal.nD, (r.2.mem (c.tc.loc ModBwdReferenceIdeal.main_v5) = (weights (m (c.tc.loc ModBwdReferenceIdeal.main_arg0)) (m (c.tc.loc ModBwdReferenceIdeal.main_arg1)))
      ∧ r.2.mem (c.tc.loc ModBwdReferenceIdeal.main_v3) = (conditioning (m (c.tc.loc ModBwdReferenceIdeal.main_arg1)) (m (c.tc.loc ModBwdReferenceIdeal.main_arg2))))
      ∧ r.2.mem (c.tc.loc ModBwdReferenceIdeal.main_arg0) = m (c.tc.loc ModBwdReferenceIdeal.main_arg0)
      ∧ r.2.mem (c.tc.loc ModBwdReferenceIdeal.main_arg1) = m (c.tc.loc ModBwdReferenceIdeal.main_arg1)
      ∧ r.2.mem (c.tc.loc ModBwdReferenceIdeal.main_arg2) = m (c.tc.loc ModBwdReferenceIdeal.main_arg2) := by
  refine (θ_run _ _ _).mono (fun r h c => ?_) (ModBwdReferenceIdeal.Value.run m ρ)
  obtain ⟨h0, h1, hkeep⟩ := h c
  refine ⟨⟨h0.trans ?_, h1.trans ?_⟩, hkeep⟩
  · funext i
    unfold weights
    idx_vars i
    pointwise
    exact sum_same fun b => mul_comm _ _
  · funext i
    unfold conditioning
    idx_vars i
    pointwise

/-- The reference runs, keeps its arguments and declares no semaphore. -/
theorem frameReference : Cert.quiescent_ModBwdReferenceIdeal (hModBwdReferenceIdeal := ModBwdReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_ModBwdIdeal_ModBwdReferenceIdeal (hModBwdIdeal := Cert.ModBwdIdeal.Gen.facts) (hModBwdReferenceIdeal := ModBwdReferenceIdeal.Gen.facts) := by
  intro m ρ m' ρ' _ hargs
  refine ⟨fun c => (weights (m (c.tc.loc main_arg0)) (m (c.tc.loc main_arg1))),
    fun c => (conditioning (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  obtain ⟨h0, h1⟩ := hv
  exact ⟨h0, h1, hkeep⟩

end Cert.ModBwdIdeal.Step
-- ==== Proof.FfnMath.lean ====
/- The feed-forward sublayer as functions of its arguments, over the extended reals: what the forward call saves and
   returns, and the gradients of the backward call. -/
module

public import proofs.«01_k».proof.Defs

@[expose] public section

noncomputable section

open Idealize.ShloMosaic

namespace Cert.Ffn

/-- The sublayer's arguments on one device, each entry an extended real: the tokens and the gradient of the tokens after
    the sublayer, the four vectors of the modulation, and the three weights chunk by chunk. -/
structure Args where
  x : Fin 16384 → Fin 1024 → EReal
  dxo : Fin 16384 → Fin 1024 → EReal
  gain : Fin 1024 → EReal
  shift : Fin 1024 → EReal
  scale : Fin 1024 → EReal
  gate : Fin 1024 → EReal
  w1 : Fin 4 → Fin 1024 → Fin 704 → EReal
  w3 : Fin 4 → Fin 1024 → Fin 704 → EReal
  w2 : Fin 4 → Fin 704 → Fin 1024 → EReal

namespace Args

variable (a : Args)

/-- The mean square of a token plus the norm's small constant. -/
def power (i : Fin 16384) : EReal :=
  Ideal.div (∑ d, a.x i d * a.x i d) (Ideal.ofBits .f32 1149239296#32) + Ideal.ofBits .f32 897988541#32
/-- The normalised tokens. -/
def n (i : Fin 16384) (d : Fin 1024) : EReal := a.x i d * Ideal.rsqrt (a.power i)
/-- The factor of the modulation. -/
def g (d : Fin 1024) : EReal := a.gain d * (1 + a.scale d)
/-- The factor of the sublayer's step. -/
def factor (d : Fin 1024) : EReal := Ideal.ofBits .f32 1056964608#32 * a.gate d
/-- The modulated tokens. -/
def h (i : Fin 16384) (d : Fin 1024) : EReal := a.n i d * a.g d + a.shift d
/-- The two products of the modulated tokens. -/
def a1 (j : Fin 4) (i : Fin 16384) (f : Fin 704) : EReal := ∑ d, a.h i d * a.w1 j d f
/-- The third product. -/
def a3 (j : Fin 4) (i : Fin 16384) (f : Fin 704) : EReal := ∑ d, a.h i d * a.w3 j d f
/-- The gated product. -/
def u (j : Fin 4) (i : Fin 16384) (f : Fin 704) : EReal := a.a1 j i f * Ideal.logistic (a.a1 j i f) * a.a3 j i f
/-- The sublayer's product before its step. -/
def y (i : Fin 16384) (d : Fin 1024) : EReal := ∑ j, ∑ f, a.u j i f * a.w2 j f d
/-- The tokens after the sublayer. -/
def xo (i : Fin 16384) (d : Fin 1024) : EReal := a.x i d + a.factor d * a.y i d
/-- The gradient of the sublayer's product. -/
def dy (i : Fin 16384) (d : Fin 1024) : EReal := a.factor d * a.dxo i d
/-- The gradient of the gated product. -/
def du (j : Fin 4) (i : Fin 16384) (f : Fin 704) : EReal := ∑ d, a.dy i d * a.w2 j f d
/-- The gradients of the two products of the modulated tokens. -/
def da1 (j : Fin 4) (i : Fin 16384) (f : Fin 704) : EReal :=
  a.du j i f * a.a3 j i f
    * (Ideal.logistic (a.a1 j i f) * (1 + a.a1 j i f * (1 - Ideal.logistic (a.a1 j i f))))
/-- The cotangent of the third product. -/
def da3 (j : Fin 4) (i : Fin 16384) (f : Fin 704) : EReal := a.du j i f * (a.a1 j i f * Ideal.logistic (a.a1 j i f))
/-- The gradient of the modulated tokens. -/
def dh (i : Fin 16384) (d : Fin 1024) : EReal :=
  ∑ j, (∑ f, a.da1 j i f * a.w1 j d f + ∑ f, a.da3 j i f * a.w3 j d f)
/-- The gradient of the normalised tokens. -/
def dn (i : Fin 16384) (d : Fin 1024) : EReal := a.dh i d * a.g d
/-- The gradient of the tokens. -/
def dx (i : Fin 16384) (d : Fin 1024) : EReal :=
  a.dxo i d + Ideal.rsqrt (a.power i)
    * (a.dn i d - a.n i d * Ideal.div (∑ e, a.dn i e * a.n i e) (Ideal.ofBits .f32 1149239296#32))
/-- The sums over the tokens: the gradients of the modulation's factor and shift and of the step's factor, then zeros. -/
def sums (r : Fin 8) (d : Fin 1024) : EReal :=
  if r.val = 0 then ∑ i, a.dh i d * a.n i d else if r.val = 1 then ∑ i, a.dh i d
  else if r.val = 2 then ∑ i, a.dxo i d * a.y i d else 0

end Args

end Cert.Ffn
-- ==== Proof.FfnReal.lean ====
/- The gradients as differentiation writes them, and their equality with the closed forms where every argument is a real
   number. -/
module

public import proofs.«01_k».proof.Proof.FfnMath
public import Idealize.ShloMosaic.Lib.IdealHost
public import Mathlib.Tactic.FieldSimp
public import Mathlib.Tactic.LinearCombination

@[expose] public section

noncomputable section

open Idealize.ShloMosaic

namespace Cert.Ffn

/-- A sum over the flattened chunks is the sum over the chunks of the sums inside each. -/
theorem flat (F : Fin 4 → Fin 704 → EReal) :
    (∑ x : Fin 2816, F ⟨x.val / 704, by omega⟩ ⟨x.val % 704, by omega⟩) = ∑ j, ∑ f, F j f := by
  refine ((Equiv.sum_comp (finProdFinEquiv (m := 4) (n := 704)).symm fun p => F p.1 p.2).trans ?_)
  exact Fintype.sum_prod_type _

namespace Args

variable (a : Args)

/-- The sublayer's product as one contraction over the flattened chunks. -/
def flatY (i : Fin 16384) (d : Fin 1024) : EReal :=
  ∑ x : Fin 2816, a.u ⟨x.val / 704, by omega⟩ i ⟨x.val % 704, by omega⟩ * a.w2 ⟨x.val / 704, by omega⟩ ⟨x.val % 704, by omega⟩ d
/-- The gate's gradient at the first product, as differentiation writes it. -/
def adjDa1 (j : Fin 4) (i : Fin 16384) (f : Fin 704) : EReal :=
  a.du j i f * a.a3 j i f * Ideal.logistic (a.a1 j i f)
    + a.a1 j i f * (a.du j i f * a.a3 j i f) * (Ideal.logistic (a.a1 j i f) * (1 - Ideal.logistic (a.a1 j i f)))
/-- The gate's gradient at the second product, as differentiation writes it. -/
def adjDa3 (j : Fin 4) (i : Fin 16384) (f : Fin 704) : EReal :=
  a.a1 j i f * Ideal.logistic (a.a1 j i f) * a.du j i f
/-- The gradient of the modulated tokens, as differentiation writes it. -/
def adjDh (i : Fin 16384) (d : Fin 1024) : EReal :=
  (∑ x : Fin 2816, a.adjDa1 ⟨x.val / 704, by omega⟩ i ⟨x.val % 704, by omega⟩ * a.w1 ⟨x.val / 704, by omega⟩ d ⟨x.val % 704, by omega⟩)
   + ∑ x : Fin 2816, a.adjDa3 ⟨x.val / 704, by omega⟩ i ⟨x.val % 704, by omega⟩ * a.w3 ⟨x.val / 704, by omega⟩ d ⟨x.val % 704, by omega⟩
/-- The gradient of the normalised tokens, as differentiation writes it. -/
def adjDn (i : Fin 16384) (d : Fin 1024) : EReal := a.adjDh i d * a.g d
/-- The part of the tokens' gradient that passes through the mean square. -/
def adjPower (i : Fin 16384) : EReal :=
  Ideal.div ((∑ e, a.x i e * a.adjDn i e)
    * (Ideal.ofBits .f32 3204448256#32 * Ideal.div (Ideal.rsqrt (a.power i)) (a.power i))) (Ideal.ofBits .f32 1149239296#32)
/-- The gradient of the tokens, as differentiation writes it. -/
def adjDx (i : Fin 16384) (d : Fin 1024) : EReal :=
  a.dxo i d + (a.adjDn i d * Ideal.rsqrt (a.power i) + a.x i d * a.adjPower i + a.adjPower i * a.x i d)
/-- The sums over the tokens, as differentiation writes them. -/
def adjSums (r : Fin 8) (d : Fin 1024) : EReal :=
  if r.val = 0 then ∑ i, a.n i d * a.adjDh i d else if r.val = 1 then ∑ i, a.adjDh i d else
    if r.val = 2 then ∑ i, a.dxo i d * a.flatY i d else 0

end Args

/-- An extended real that is a real number. -/
def IsReal (v : EReal) : Prop := ∃ r : ℝ, v = (r : EReal)

/-- Reals are closed under addition. -/
theorem IsReal.add {v w : EReal} : IsReal v → IsReal w → IsReal (v + w)
  | ⟨r, hr⟩, ⟨s, hs⟩ => ⟨r + s, by rw [hr, hs, EReal.coe_add]⟩
/-- Reals are closed under multiplication. -/
theorem IsReal.mul {v w : EReal} : IsReal v → IsReal w → IsReal (v * w)
  | ⟨r, hr⟩, ⟨s, hs⟩ => ⟨r * s, by rw [hr, hs, EReal.coe_mul]⟩
/-- Reals are closed under subtraction. -/
theorem IsReal.sub {v w : EReal} : IsReal v → IsReal w → IsReal (v - w)
  | ⟨r, hr⟩, ⟨s, hs⟩ => ⟨r - s, by rw [hr, hs, EReal.coe_sub]⟩
/-- Zero is a real. -/
theorem IsReal.zero : IsReal 0 := ⟨0, rfl⟩
/-- One is a real. -/
theorem IsReal.one : IsReal 1 := ⟨1, rfl⟩
/-- Reals are closed under finite sums. -/
theorem IsReal.sum {ι : Type} (s : Finset ι) {f : ι → EReal} (h : ∀ i, IsReal (f i)) : IsReal (∑ i ∈ s, f i) := by
  classical
  induction s using Finset.induction_on with
  | empty => exact IsReal.zero
  | insert i s hi ih => rw [Finset.sum_insert hi]; exact (h i).add ih
/-- A finite sum of reals, taken among the reals or among the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]
/-- The logistic function of a real is a real. -/
theorem IsReal.logistic {v : EReal} : IsReal v → IsReal (Ideal.logistic v)
  | ⟨r, hr⟩ => by
    subst hr
    have h : (1 : EReal) + Ideal.exp (-(r : EReal)) = ((1 + Real.exp (-r) : ℝ) : EReal) := by
      rw [EReal.coe_add]; rfl
    refine ⟨1 * (1 / (1 + Real.exp (-r))), ?_⟩
    rw [Ideal.logistic, h, Ideal.div_coe (by positivity), EReal.coe_mul]
    rfl

/-- The number of features, as a word. -/
theorem width : Ideal.ofBits .f32 1149239296#32 = ((1024 : ℝ) : EReal) := by
  simp [Ideal.ofBits, Ideal.ieee, -EReal.coe_mul]; norm_num
/-- Minus a half, as a word. -/
theorem minusHalf : Ideal.ofBits .f32 3204448256#32 = ((-(1 / 2) : ℝ) : EReal) := by
  simp [Ideal.ofBits, Ideal.ieee, -EReal.coe_mul]; norm_num
/-- A half, as a word. -/
theorem half : Ideal.ofBits .f32 1056964608#32 = ((1 / 2 : ℝ) : EReal) := by
  simp [Ideal.ofBits, Ideal.ieee, -EReal.coe_mul]; norm_num
/-- The norm's small constant is a positive real. -/
theorem small : ∃ r : ℝ, 0 < r ∧ Ideal.ofBits .f32 897988541#32 = (r : EReal) := by
  refine ⟨_, ?_, by simp [Ideal.ofBits, Ideal.ieee, -EReal.coe_mul]; rfl⟩
  norm_num

/-- Division of reals by a real other than zero is the quotient. -/
theorem div_real (r : ℝ) {s : ℝ} (h : s ≠ 0) : Ideal.div (r : EReal) (s : EReal) = ((r / s : ℝ) : EReal) := by
  rw [Ideal.div_coe h, ← EReal.coe_mul, mul_one_div]

/-- The reciprocal root of a positive real. -/
theorem rsqrt_real {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.le.not_gt, if_neg h.ne']

namespace Args

/-- Every argument is a real number. -/
structure Finite (a : Args) : Prop where
  x : ∀ i d, IsReal (a.x i d)
  dxo : ∀ i d, IsReal (a.dxo i d)
  gain : ∀ d, IsReal (a.gain d)
  shift : ∀ d, IsReal (a.shift d)
  scale : ∀ d, IsReal (a.scale d)
  gate : ∀ d, IsReal (a.gate d)
  w1 : ∀ j d f, IsReal (a.w1 j d f)
  w3 : ∀ j d f, IsReal (a.w3 j d f)
  w2 : ∀ j f d, IsReal (a.w2 j f d)

variable {a : Args}

/-- Where the arguments are real the mean square plus the small constant is a positive real. -/
theorem Finite.power (H : a.Finite) (i : Fin 16384) : ∃ p : ℝ, 0 < p ∧ a.power i = (p : EReal) := by
  choose x hx using H.x
  obtain ⟨e, he, hs⟩ := small
  refine ⟨(∑ d, x i d * x i d) / 1024 + e, ?_, ?_⟩
  · have : 0 ≤ ∑ d, x i d * x i d := Finset.sum_nonneg fun d _ => mul_self_nonneg _
    positivity
  · have h : ∑ d, a.x i d * a.x i d = ((∑ d, x i d * x i d : ℝ) : EReal) := by
      rw [coe_sum]
      exact Finset.sum_congr rfl fun d _ => by rw [hx, EReal.coe_mul]
    rw [Args.power, h, width, hs, div_real _ (by norm_num), EReal.coe_add]
/-- Where the arguments are real the reciprocal root is real. -/
theorem Finite.root (H : a.Finite) (i : Fin 16384) : IsReal (Ideal.rsqrt (a.power i)) := by
  obtain ⟨p, hp, h⟩ := H.power i
  exact ⟨_, by rw [h, rsqrt_real hp]⟩
/-- Where the arguments are real so are the values the two calls compute of them. -/
theorem Finite.n (H : a.Finite) (i d) : IsReal (a.n i d) := (H.x i d).mul (H.root i)
/-- Finite arguments give a finite gain. -/
theorem Finite.g (H : a.Finite) (d) : IsReal (a.g d) := (H.gain d).mul (IsReal.one.add (H.scale d))
/-- Finite arguments give a finite step factor. -/
theorem Finite.factor (H : a.Finite) (d) : IsReal (a.factor d) := IsReal.mul ⟨_, half⟩ (H.gate d)
/-- Finite arguments give a finite modulated input. -/
theorem Finite.h (H : a.Finite) (i d) : IsReal (a.h i d) := ((H.n i d).mul (H.g d)).add (H.shift d)
/-- Finite arguments give a finite first product. -/
theorem Finite.a1 (H : a.Finite) (j i f) : IsReal (a.a1 j i f) := .sum _ fun d => (H.h i d).mul (H.w1 j d f)
/-- Finite arguments give a finite third product. -/
theorem Finite.a3 (H : a.Finite) (j i f) : IsReal (a.a3 j i f) := .sum _ fun d => (H.h i d).mul (H.w3 j d f)
/-- Finite arguments give a finite output cotangent. -/
theorem Finite.dy (H : a.Finite) (i d) : IsReal (a.dy i d) := (H.factor d).mul (H.dxo i d)
/-- Finite arguments give a finite gated cotangent. -/
theorem Finite.du (H : a.Finite) (j i f) : IsReal (a.du j i f) := .sum _ fun d => (H.dy i d).mul (H.w2 j f d)
/-- Finite arguments give a finite first product's cotangent. -/
theorem Finite.da1 (H : a.Finite) (j i f) : IsReal (a.da1 j i f) :=
  ((H.du j i f).mul (H.a3 j i f)).mul ((H.a1 j i f).logistic.mul
    (IsReal.one.add ((H.a1 j i f).mul (IsReal.one.sub (H.a1 j i f).logistic))))
/-- Finite arguments give a finite third product's cotangent. -/
theorem Finite.da3 (H : a.Finite) (j i f) : IsReal (a.da3 j i f) :=
  (H.du j i f).mul ((H.a1 j i f).mul (H.a1 j i f).logistic)
/-- Finite arguments give a finite modulated input's cotangent. -/
theorem Finite.dh (H : a.Finite) (i d) : IsReal (a.dh i d) :=
  .sum _ fun j => (IsReal.sum _ fun f => (H.da1 j i f).mul (H.w1 j d f)).add
    (IsReal.sum _ fun f => (H.da3 j i f).mul (H.w3 j d f))
/-- Finite arguments give a finite normalised input's cotangent. -/
theorem Finite.dn (H : a.Finite) (i d) : IsReal (a.dn i d) := (H.dh i d).mul (H.g d)

/-- The product over the flattened chunks is the product chunk by chunk. -/
theorem flatY_eq (a : Args) (i d) : a.flatY i d = a.y i d := flat fun j f => a.u j i f * a.w2 j f d

/-- The two ways to write the gate's gradient at the first product agree on reals. -/
theorem Finite.adjDa1 (H : a.Finite) (j i f) : a.adjDa1 j i f = a.da1 j i f := by
  obtain ⟨p, hp⟩ := H.du j i f
  obtain ⟨q, hq⟩ := H.a3 j i f
  obtain ⟨r, hr⟩ := H.a1 j i f
  obtain ⟨s, hs⟩ := (H.a1 j i f).logistic
  rw [Args.adjDa1, Args.da1, hs, hp, hq, hr]
  norm_cast
  ring

/-- The gate's gradient at the second product, in either order of its factors. -/
theorem adjDa3_eq (a : Args) (j i f) : a.adjDa3 j i f = a.da3 j i f := mul_comm _ _

/-- The gradient of the modulated tokens over the flattened chunks is the one chunk by chunk. -/
theorem Finite.adjDh (H : a.Finite) (i d) : a.adjDh i d = a.dh i d := by
  have h := congrArg₂ (· + ·) (flat fun j f => a.adjDa1 j i f * a.w1 j d f) (flat fun j f => a.adjDa3 j i f * a.w3 j d f)
  refine h.trans ?_
  simp only [H.adjDa1, adjDa3_eq, Args.dh, Finset.sum_add_distrib]

/-- The gradient of the normalised tokens agrees. -/
theorem Finite.adjDn (H : a.Finite) (i d) : a.adjDn i d = a.dn i d := by rw [Args.adjDn, H.adjDh, Args.dn]

/-- The two ways to write the norm's gradient agree on reals. -/
theorem Finite.adjDx (H : a.Finite) (i d) : a.adjDx i d = a.dx i d := by
  choose x hx using H.x
  choose w hw using H.dxo
  choose y hy using H.dn
  obtain ⟨p, hp, h⟩ := H.power i
  have hr := Real.sqrt_pos.mpr hp
  have hh : Real.sqrt p * Real.sqrt p = p := Real.mul_self_sqrt hp.le
  have e1 : ∑ e, a.x i e * a.adjDn i e = ((∑ e, x i e * y i e : ℝ) : EReal) := by
    rw [coe_sum]
    exact Finset.sum_congr rfl fun e _ => by rw [H.adjDn, hx, hy, EReal.coe_mul]
  have e2 : ∑ e, a.dn i e * a.n i e = (((Real.sqrt p)⁻¹ * ∑ e, x i e * y i e : ℝ) : EReal) := by
    rw [Finset.mul_sum, coe_sum]
    refine Finset.sum_congr rfl fun e _ => ?_
    rw [Args.n, hx, hy, h, rsqrt_real hp, ← EReal.coe_mul, ← EReal.coe_mul]
    congr 1
    ring
  rw [Args.adjDx, Args.adjPower, Args.dx, e1, e2, Args.n, H.adjDn, hx, hy, hw, h, rsqrt_real hp, width, minusHalf]
  generalize ∑ e, x i e * y i e = t
  generalize Real.sqrt p = r at hr hh
  subst hh
  rw [div_real _ hp.ne', div_real _ (by norm_num), ← EReal.coe_mul (-(1 / 2)), ← EReal.coe_mul t, div_real _ (by norm_num)]
  norm_cast
  field_simp
  ring

/-- The sums over the tokens agree. -/
theorem Finite.adjSums (H : a.Finite) (r d) : a.adjSums r d = a.sums r d := by
  simp only [Args.adjSums, Args.sums, H.adjDh, flatY_eq, mul_comm]

end Args

end Cert.Ffn
-- ==== Proof.FfnTile.lean ====
/- What one grid point of the forward call stores, as functions of the arguments. -/
module

public import proofs.«01_k».proof.Defs
public import proofs.«01_k».proof.Proof.Gen.KernelIdeal.Frame
public import proofs.«01_k».proof.Proof.FfnMath
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

/-- The five blocks of a forward grid point hold the arguments' rows `row` and the whole of the other arguments. -/
structure Forward (a : Args) (row : Fin 512 → Fin 16384) (x0 : Vec Ideal S512x1024 .f32) (x1 : Vec Ideal S8x1024 .f32)
    (x2 x3 : Vec Ideal S1x1x4x1024x704 .bf16) (x4 : Vec Ideal S1x1x4x704x1024 .bf16) : Prop where
  x : ∀ k d, (x0 (ix2 k d) : EReal) = a.x (row k) d
  g : ∀ d, (x1 (ix2 0 d) : EReal) = a.g d
  shift : ∀ d, (x1 (ix2 1 d) : EReal) = a.shift d
  factor : ∀ d, (x1 (ix2 2 d) : EReal) = a.factor d
  w1 : ∀ j d f, (x2 (ix5 0 0 j d f) : EReal) = a.w1 j d f
  w3 : ∀ j d f, (x3 (ix5 0 0 j d f) : EReal) = a.w3 j d f
  w2 : ∀ j f d, (x4 (ix5 0 0 j f d) : EReal) = a.w2 j f d

namespace Forward

variable {a : Args} {row : Fin 512 → Fin 16384} {x0 : Vec Ideal S512x1024 .f32} {x1 : Vec Ideal S8x1024 .f32}
    {x2 x3 : Vec Ideal S1x1x4x1024x704 .bf16} {x4 : Vec Ideal S1x1x4x704x1024 .bf16}

/-- The block of the first product of the modulated tokens. -/
theorem a1 (H : Forward a row x0 x1 x2 x3 x4) (j : Fin 4) (k : Fin 512) (f : Fin 704) :
    (out0_6 x0 x1 x2 x3 x4 (ix3 j k f) : EReal) = a.a1 j (row k) f := by
  unfold_out out0_6
  canon_tiles b c
  all_goals
    idx_vars b
    obtain rfl : k = b1 := Fin.ext (by exact c1)
    obtain rfl : f = b2 := Fin.ext (by exact c2)
  · obtain rfl : j = 3 := Fin.ext (by change j.val = 3 + b0.val at c0; omega)
    open_payloads
    pointwise
    simp only [H.x, H.g, H.shift, H.w1]
    rfl
  · obtain rfl : j = 2 := Fin.ext (by change j.val = 2 + b0.val at c0; omega)
    open_payloads
    pointwise
    simp only [H.x, H.g, H.shift, H.w1]
    rfl
  · obtain rfl : j = 1 := Fin.ext (by change j.val = 1 + b0.val at c0; omega)
    open_payloads
    pointwise
    simp only [H.x, H.g, H.shift, H.w1]
    rfl
  · obtain rfl : j = 0 := Fin.ext (by change j.val = b0.val at c0; omega)
    open_payloads
    pointwise
    simp only [H.x, H.g, H.shift, H.w1]
    rfl

/-- The block of the second product of the modulated tokens. -/
theorem a3 (H : Forward a row x0 x1 x2 x3 x4) (j : Fin 4) (k : Fin 512) (f : Fin 704) :
    (out0_7 x0 x1 x2 x3 x4 (ix3 j k f) : EReal) = a.a3 j (row k) f := by
  unfold_out out0_7
  canon_tiles b c
  all_goals
    idx_vars b
    obtain rfl : k = b1 := Fin.ext (by exact c1)
    obtain rfl : f = b2 := Fin.ext (by exact c2)
  · obtain rfl : j = 3 := Fin.ext (by change j.val = 3 + b0.val at c0; omega)
    open_payloads
    pointwise
    simp only [H.x, H.g, H.shift, H.w3]
    rfl
  · obtain rfl : j = 2 := Fin.ext (by change j.val = 2 + b0.val at c0; omega)
    open_payloads
    pointwise
    simp only [H.x, H.g, H.shift, H.w3]
    rfl
  · obtain rfl : j = 1 := Fin.ext (by change j.val = 1 + b0.val at c0; omega)
    open_payloads
    pointwise
    simp only [H.x, H.g, H.shift, H.w3]
    rfl
  · obtain rfl : j = 0 := Fin.ext (by change j.val = b0.val at c0; omega)
    open_payloads
    pointwise
    simp only [H.x, H.g, H.shift, H.w3]
    rfl

/-- The block of the sublayer's product. -/
theorem y (H : Forward a row x0 x1 x2 x3 x4) (k : Fin 512) (d : Fin 1024) :
    (out0_8 x0 x1 x2 x3 x4 (ix2 k d) : EReal) = a.y (row k) d := by
  unfold_out out0_8
  canon_tiles b c
  idx_vars b
  obtain rfl : k = b0 := Fin.ext (by exact c0)
  obtain rfl : d = b1 := Fin.ext (by exact c1)
  open_payloads
  pointwise
  simp only [H.x, H.g, H.shift, H.factor, H.w1, H.w3, H.w2]
  rw [Args.y, Fin.sum_univ_four]
  rfl

/-- The block of the tokens after the sublayer. -/
theorem xo (H : Forward a row x0 x1 x2 x3 x4) (k : Fin 512) (d : Fin 1024) :
    (out0_5 x0 x1 x2 x3 x4 (ix2 k d) : EReal) = a.xo (row k) d := by
  unfold_out out0_5
  canon_tiles b c
  idx_vars b
  obtain rfl : k = b0 := Fin.ext (by exact c0)
  obtain rfl : d = b1 := Fin.ext (by exact c1)
  open_payloads
  pointwise
  simp only [H.x, H.g, H.shift, H.factor, H.w1, H.w3, H.w2]
  rw [Args.xo, Args.y, Fin.sum_univ_four]
  rfl

end Forward

end Cert.KernelIdeal.Ffn
-- ==== Proof.FfnForward.lean ====
/- The forward call's arrays as functions of the arguments. -/
module

public import proofs.«01_k».proof.Defs
public import proofs.«01_k».proof.Proof.Gen.KernelIdeal.Frame
public import proofs.«01_k».proof.Proof.FfnTile
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (m : (ℓ : Loc nD τ sig) → Buf (Elt Ideal) ℓ) (ρ : Dev nD → PrngReg)

/-- The kernel's arguments in a memory. -/
def args (c : Dev nD) : Args where
  x i d := m ((c.tc : Thread nD τ).loc main_arg0) (ix2 i d)
  dxo i d := m ((c.tc : Thread nD τ).loc main_arg1) (ix2 i d)
  gain d := m ((c.tc : Thread nD τ).loc main_arg2) (ix1 d)
  shift d := m ((c.tc : Thread nD τ).loc main_arg3) (ix1 d)
  scale d := m ((c.tc : Thread nD τ).loc main_arg4) (ix1 d)
  gate d := m ((c.tc : Thread nD τ).loc main_arg5) (ix1 d)
  w1 j d f := m ((c.tc : Thread nD τ).loc main_arg6) (ix5 0 0 j d f)
  w3 j d f := m ((c.tc : Thread nD τ).loc main_arg7) (ix5 0 0 j d f)
  w2 j f d := m ((c.tc : Thread nD τ).loc main_arg8) (ix5 0 0 j f d)

/-- The first three rows of the modulation's vectors, before they are stacked. -/
theorem parts (c : Dev nD) (d : Fin 1024) (v : EReal) :
    (v = (args m c).g d → (StableHlo.after (hostOps0.take 12) (W0 m ρ c) (Proc.devRef .tc main_v5) (ix2 0 d)) = v)
    ∧ (v = (args m c).shift d → (StableHlo.after (hostOps0.take 12) (W0 m ρ c) (Proc.devRef .tc main_v6) (ix2 0 d)) = v)
    ∧ (v = (args m c).factor d → (StableHlo.after (hostOps0.take 12) (W0 m ρ c) (Proc.devRef .tc main_v7) (ix2 0 d)) = v) := by
  unfold hostOps0
  simp only [List.take]
  refine ⟨fun h => ?_, fun h => ?_, fun h => ?_⟩ <;> subst h <;> after_results <;> pointwise <;> rfl

/-- The stacked vectors' row 0: the modulation's factor. -/
theorem vec0 (c : Dev nD) (d : Fin 1024) (v : EReal) (hv : v = (args m c).g d) :
    (V1 m ρ c main_v9 : Vec Ideal S8x1024 .f32) (ix2 0 d) = v := by
  show StableHlo.after hostOps0 (W0 m ρ c) (Proc.devRef .tc main_v9) (ix2 0 d) = _
  after_results
  pointwise
  exact (parts m ρ c d v).1 hv

/-- Row 1: the modulation's shift. -/
theorem vec1 (c : Dev nD) (d : Fin 1024) (v : EReal) (hv : v = (args m c).shift d) :
    (V1 m ρ c main_v9 : Vec Ideal S8x1024 .f32) (ix2 1 d) = v := by
  show StableHlo.after hostOps0 (W0 m ρ c) (Proc.devRef .tc main_v9) (ix2 1 d) = _
  after_results
  pointwise
  exact (parts m ρ c d v).2.1 hv

/-- Row 2: the step's factor. -/
theorem vec2 (c : Dev nD) (d : Fin 1024) (v : EReal) (hv : v = (args m c).factor d) :
    (V1 m ρ c main_v9 : Vec Ideal S8x1024 .f32) (ix2 2 d) = v := by
  show StableHlo.after hostOps0 (W0 m ρ c) (Proc.devRef .tc main_v9) (ix2 2 d) = _
  after_results
  pointwise
  exact (parts m ρ c d v).2.2 hv

/-- The forward call finds each argument as launched. -/
theorem entry (c : Dev nD) (b : Ref sig .tc) (h : b ∈ ([main_arg0, main_arg1, main_arg2, main_arg3, main_arg4, main_arg5, main_arg6, main_arg7, main_arg8] : List (Ref sig .tc))) :
    V1 m ρ c b = m (c.tc.loc b) := W1_args m ρ c b h

/-- The token of row `k` of the forward call's block at a grid point. -/
def row (t : Fin cfg0.N) (k : Fin 512) : Fin 16384 := ⟨512 * t.val + k.val, by have h : t.val < 32 := t.isLt; omega⟩

/-- Every window's block index at a grid point of the forward call. -/
theorem idx0 : ∀ t : Fin cfg0.N, win0_0.index t = ![t.val, 0] ∧ win0_1.index t = ![0, 0]
    ∧ win0_2.index t = ![0, 0, 0, 0, 0] ∧ win0_3.index t = ![0, 0, 0, 0, 0] ∧ win0_4.index t = ![0, 0, 0, 0, 0]
    ∧ win0_5.index t = ![t.val, 0] ∧ win0_6.index t = ![0, t.val, 0] ∧ win0_7.index t = ![0, t.val, 0]
    ∧ win0_8.index t = ![t.val, 0] :=
  (by decide +kernel : ∀ t : Fin grid0.N, _)

/-- A block of the forward call at an index is the argument's entry there. -/
theorem blockX (c : Dev nD) (t : Fin cfg0.N) (k : Fin 512) (d : Fin 1024) :
    (iblk0 (V1 m ρ) c 0 t (ix2 k d) : EReal) = (args m c).x (row t k) d := by
  obtain ⟨e0, -⟩ := idx0 t
  refine Eq.trans ?_ (congrFun (entry m ρ c main_arg0 (by decide)) (ix2 (row t k) d))
  blk_ext [iblk0, e0, row]
/-- The gain row of the packed vector, at every grid point. -/
theorem blockG (c : Dev nD) (t : Fin cfg0.N) (d : Fin 1024) :
    (iblk0 (V1 m ρ) c 1 t (ix2 0 d) : EReal) = (args m c).g d := by
  obtain ⟨-, e1, -⟩ := idx0 t
  refine Eq.trans ?_ (vec0 m ρ c d _ rfl)
  blk_ext [iblk0, e1]
/-- The shift row of the packed vector, at every grid point. -/
theorem blockShift (c : Dev nD) (t : Fin cfg0.N) (d : Fin 1024) :
    (iblk0 (V1 m ρ) c 1 t (ix2 1 d) : EReal) = (args m c).shift d := by
  obtain ⟨-, e1, -⟩ := idx0 t
  refine Eq.trans ?_ (vec1 m ρ c d _ rfl)
  blk_ext [iblk0, e1]
/-- The step factor row of the packed vector, at every grid point. -/
theorem blockFactor (c : Dev nD) (t : Fin cfg0.N) (d : Fin 1024) :
    (iblk0 (V1 m ρ) c 1 t (ix2 2 d) : EReal) = (args m c).factor d := by
  obtain ⟨-, e1, -⟩ := idx0 t
  refine Eq.trans ?_ (vec2 m ρ c d _ rfl)
  blk_ext [iblk0, e1]
/-- The first weight's block is the whole first weight of the sublayer. -/
theorem blockW1 (c : Dev nD) (t : Fin cfg0.N) (j : Fin 4) (d : Fin 1024) (f : Fin 704) :
    (iblk0 (V1 m ρ) c 2 t (ix5 0 0 j d f) : EReal) = (args m c).w1 j d f := by
  obtain ⟨-, -, e2, -⟩ := idx0 t
  refine Eq.trans ?_ (congrFun (entry m ρ c main_arg6 (by decide)) (ix5 0 0 j d f))
  blk_ext [iblk0, e2]
/-- The third weight's block is the whole third weight of the sublayer. -/
theorem blockW3 (c : Dev nD) (t : Fin cfg0.N) (j : Fin 4) (d : Fin 1024) (f : Fin 704) :
    (iblk0 (V1 m ρ) c 3 t (ix5 0 0 j d f) : EReal) = (args m c).w3 j d f := by
  obtain ⟨-, -, -, e3, -⟩ := idx0 t
  refine Eq.trans ?_ (congrFun (entry m ρ c main_arg7 (by decide)) (ix5 0 0 j d f))
  blk_ext [iblk0, e3]
/-- The second weight's block is the whole second weight of the sublayer. -/
theorem blockW2 (c : Dev nD) (t : Fin cfg0.N) (j : Fin 4) (f : Fin 704) (d : Fin 1024) :
    (iblk0 (V1 m ρ) c 4 t (ix5 0 0 j f d) : EReal) = (args m c).w2 j f d := by
  obtain ⟨-, -, -, -, e4, -⟩ := idx0 t
  refine Eq.trans ?_ (congrFun (entry m ρ c main_arg8 (by decide)) (ix5 0 0 j f d))
  blk_ext [iblk0, e4]

/-- The blocks at a grid point of the forward call hold that point's rows. -/
theorem forward (c : Dev nD) (t : Fin cfg0.N) : Forward (args m c) (row t) (iblk0 (V1 m ρ) c 0 t) (iblk0 (V1 m ρ) c 1 t)
    (iblk0 (V1 m ρ) c 2 t) (iblk0 (V1 m ρ) c 3 t) (iblk0 (V1 m ρ) c 4 t) :=
  ⟨blockX m ρ c t, blockG m ρ c t, blockShift m ρ c t, blockFactor m ρ c t, blockW1 m ρ c t, blockW3 m ρ c t,
    blockW2 m ρ c t⟩

end Cert.KernelIdeal.Ffn
-- ==== Proof.FfnArrays.lean ====
/- What the forward call leaves in its arrays, as functions of the arguments. -/
module

public import proofs.«01_k».proof.Defs
public import proofs.«01_k».proof.Proof.Gen.KernelIdeal.Frame
public import proofs.«01_k».proof.Proof.FfnForward
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (m : (ℓ : Loc nD τ sig) → Buf (Elt Ideal) ℓ) (ρ : Dev nD → PrngReg)
  (V : (c : Dev nD) → (b : Ref sig .tc) → Buf (Elt Ideal) (c.tc.loc b))

/-- The tokens after the sublayer as an array. -/
def xoArray (a : Args) : Vec Ideal S16384x1024 .f32 := fun i => a.xo (i 0) (i 1)
/-- What the forward call leaves there. -/
theorem final5 (a : Args) (c : Dev nD) (H : ∀ t, Forward a (row t) (iblk0 V c 0 t) (iblk0 V c 1 t)
    (iblk0 V c 2 t) (iblk0 V c 3 t) (iblk0 V c 4 t)) : (dat0 V c).arrAt 5 cfg0.N = xoArray a := by
  refine (dat0 V c).arrAt_eq_of_covers 5 (xoArray a) (by decide +kernel) fun t hf y => ?_
  rw [after0_5]
  blk_simp
  obtain ⟨-, -, -, -, -, e5, -⟩ := idx0 t
  idx_vars y
  refine ((H t).xo y0 y1).trans ?_
  have h0 : ((win0_5.blk t).view.emb (ix2 y0 y1) : S16384x1024.Idx) = ix2 (row t y0) y1 := by
    blk_ext [e5, row]
  exact (congrArg (xoArray a) h0).symm

/-- The first products as an array. -/
def a1Array (a : Args) : Vec Ideal S4x16384x704 .bf16 := fun i => a.a1 (i 0) (i 1) (i 2)
/-- What the forward call leaves there. -/
theorem final6 (a : Args) (c : Dev nD) (H : ∀ t, Forward a (row t) (iblk0 V c 0 t) (iblk0 V c 1 t)
    (iblk0 V c 2 t) (iblk0 V c 3 t) (iblk0 V c 4 t)) : (dat0 V c).arrAt 6 cfg0.N = a1Array a := by
  refine (dat0 V c).arrAt_eq_of_covers 6 (a1Array a) (by decide +kernel) fun t hf y => ?_
  rw [after0_6]
  blk_simp
  obtain ⟨-, -, -, -, -, -, e6, -⟩ := idx0 t
  idx_vars y
  refine ((H t).a1 y0 y1 y2).trans ?_
  have h0 : ((win0_6.blk t).view.emb (ix3 y0 y1 y2) : S4x16384x704.Idx) = ix3 y0 (row t y1) y2 := by
    blk_ext [e6, row]
  exact (congrArg (a1Array a) h0).symm

/-- The second products as an array. -/
def a3Array (a : Args) : Vec Ideal S4x16384x704 .bf16 := fun i => a.a3 (i 0) (i 1) (i 2)
/-- What the forward call leaves there. -/
theorem final7 (a : Args) (c : Dev nD) (H : ∀ t, Forward a (row t) (iblk0 V c 0 t) (iblk0 V c 1 t)
    (iblk0 V c 2 t) (iblk0 V c 3 t) (iblk0 V c 4 t)) : (dat0 V c).arrAt 7 cfg0.N = a3Array a := by
  refine (dat0 V c).arrAt_eq_of_covers 7 (a3Array a) (by decide +kernel) fun t hf y => ?_
  rw [after0_7]
  blk_simp
  obtain ⟨-, -, -, -, -, -, -, e7, -⟩ := idx0 t
  idx_vars y
  refine ((H t).a3 y0 y1 y2).trans ?_
  have h0 : ((win0_7.blk t).view.emb (ix3 y0 y1 y2) : S4x16384x704.Idx) = ix3 y0 (row t y1) y2 := by
    blk_ext [e7, row]
  exact (congrArg (a3Array a) h0).symm

/-- The sublayer's product as an array. -/
def yArray (a : Args) : Vec Ideal S16384x1024 .bf16 := fun i => a.y (i 0) (i 1)
/-- What the forward call leaves there. -/
theorem final8 (a : Args) (c : Dev nD) (H : ∀ t, Forward a (row t) (iblk0 V c 0 t) (iblk0 V c 1 t)
    (iblk0 V c 2 t) (iblk0 V c 3 t) (iblk0 V c 4 t)) : (dat0 V c).arrAt 8 cfg0.N = yArray a := by
  refine (dat0 V c).arrAt_eq_of_covers 8 (yArray a) (by decide +kernel) fun t hf y => ?_
  rw [after0_8]
  blk_simp
  obtain ⟨-, -, -, -, -, -, -, -, e8⟩ := idx0 t
  idx_vars y
  refine ((H t).y y0 y1).trans ?_
  have h0 : ((win0_8.blk t).view.emb (ix2 y0 y1) : S16384x1024.Idx) = ix2 (row t y0) y1 := by
    blk_ext [e8, row]
  exact (congrArg (yArray a) h0).symm

/-- The backward call finds in the forward call's arrays what that call left there. -/
theorem saved (c : Dev nD) (w : Fin cfg0.W) :
    V2 m ρ c (Pipeline.arrRef spec0 w) = (dat0 (V1 m ρ) c).arrAt w cfg0.N := W2_arr m ρ c w
/-- The sublayer's output after the forward call. -/
theorem saved_xo (c : Dev nD) : V2 m ρ c main_v10_0 = xoArray (args m c) :=
  (saved m ρ c 5).trans (final5 _ _ c (forward m ρ c))
/-- The first product saved by the forward call. -/
theorem saved_a1 (c : Dev nD) : V2 m ρ c main_v10_1 = a1Array (args m c) :=
  (saved m ρ c 6).trans (final6 _ _ c (forward m ρ c))
/-- The third product saved by the forward call. -/
theorem saved_a3 (c : Dev nD) : V2 m ρ c main_v10_2 = a3Array (args m c) :=
  (saved m ρ c 7).trans (final7 _ _ c (forward m ρ c))
/-- The feed-forward output saved by the forward call. -/
theorem saved_y (c : Dev nD) : V2 m ρ c main_v10_3 = yArray (args m c) :=
  (saved m ρ c 8).trans (final8 _ _ c (forward m ρ c))
/-- It finds the modulation's vectors and the arguments as the forward call did. -/
theorem saved_vec (c : Dev nD) : V2 m ρ c main_v9 = V1 m ρ c main_v9 :=
  W2_of m ρ c main_v9 (by decide)
/-- An argument keeps its contents through the forward call. -/
theorem saved_arg (c : Dev nD) (b : Ref sig .tc) (h : b ∈ ([main_arg0, main_arg1, main_arg2, main_arg3, main_arg4, main_arg5, main_arg6, main_arg7, main_arg8] : List (Ref sig .tc))) :
    V2 m ρ c b = m (c.tc.loc b) := W2_args m ρ c b h

end Cert.KernelIdeal.Ffn
-- ==== Proof.FfnBackTile.lean ====
/- What one grid point of the backward call stores, as functions of the arguments. -/
module

public import proofs.«01_k».proof.Defs
public import proofs.«01_k».proof.Proof.Gen.KernelIdeal.Frame
public import proofs.«01_k».proof.Proof.FfnMath
public import Idealize.ShloMosaic.Lib.Pipeline.ValueKit
public import Idealize.ShloMosaic.Lib.Claim
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) (c.tc.loc b))

/-- The blocks of a backward grid point hold the arguments' rows `row`, what the forward call saved there, and the whole of
    the other arguments. -/
structure Backward (a : Args) (row : Fin 256 → Fin 16384) (x0 x1 : Vec Ideal S256x1024 .f32)
    (x2 x3 : Vec Ideal S4x256x704 .bf16) (x4 : Vec Ideal S256x1024 .bf16) (x5 : Vec Ideal S8x1024 .f32)
    (x6 x7 : Vec Ideal S1x1x4x1024x704 .bf16) (x8 : Vec Ideal S1x1x4x704x1024 .bf16) : Prop where
  x : ∀ k d, (x0 (ix2 k d) : EReal) = a.x (row k) d
  dxo : ∀ k d, (x1 (ix2 k d) : EReal) = a.dxo (row k) d
  a1 : ∀ j k f, (x2 (ix3 j k f) : EReal) = a.a1 j (row k) f
  a3 : ∀ j k f, (x3 (ix3 j k f) : EReal) = a.a3 j (row k) f
  y : ∀ k d, (x4 (ix2 k d) : EReal) = a.y (row k) d
  g : ∀ d, (x5 (ix2 0 d) : EReal) = a.g d
  shift : ∀ d, (x5 (ix2 1 d) : EReal) = a.shift d
  factor : ∀ d, (x5 (ix2 2 d) : EReal) = a.factor d
  w1 : ∀ j d f, (x6 (ix5 0 0 j d f) : EReal) = a.w1 j d f
  w3 : ∀ j d f, (x7 (ix5 0 0 j d f) : EReal) = a.w3 j d f
  w2 : ∀ j f d, (x8 (ix5 0 0 j f d) : EReal) = a.w2 j f d

/-- The gradient of the modulated tokens, its eight products added one after the other. -/
theorem dh_flat (a : Args) (i : Fin 16384) (d : Fin 1024) : a.dh i d =
    (∑ f, a.da1 0 i f * a.w1 0 d f) + (∑ f, a.da3 0 i f * a.w3 0 d f) + (∑ f, a.da1 1 i f * a.w1 1 d f)
      + (∑ f, a.da3 1 i f * a.w3 1 d f) + (∑ f, a.da1 2 i f * a.w1 2 d f) + (∑ f, a.da3 2 i f * a.w3 2 d f)
      + (∑ f, a.da1 3 i f * a.w1 3 d f) + (∑ f, a.da3 3 i f * a.w3 3 d f) := by
  rw [Args.dh, Fin.sum_univ_four]
  simp only [add_assoc]

variable {V} {a : Args} {row : Fin 256 → Fin 16384} {c : Dev nD} {t : Fin cfg1.N}

/-- The block of the gradient of the tokens. -/
theorem Backward.dx_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (k : Fin 256) (d : Fin 1024) : ((outsAt1 V c t.val t.isLt).1 (ix2 k d) : EReal) = a.dx (row k) d := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    simp only [Args.dx, Args.dn, dh_flat]
    rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    simp only [Args.dx, Args.dn, dh_flat]
    rfl

/-- The block of the modulated tokens. -/
theorem Backward.h_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (k : Fin 256) (d : Fin 1024) : ((outsAt1 V c t.val t.isLt).2.1 (ix2 k d) : EReal) = a.h (row k) d := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    rfl

/-- The block of the gradient of the output before the gate. -/
theorem Backward.dy_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (k : Fin 256) (d : Fin 1024) : ((outsAt1 V c t.val t.isLt).2.2.1 (ix2 k d) : EReal) = a.dy (row k) d := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    open_payloads
    pointwise
    simp only [H.x, H.dxo, H.a1, H.a3, H.y, H.g, H.shift, H.factor, H.w1, H.w3, H.w2]
    rfl

/-- The block of the gated activations. -/
theorem Backward.u_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (j : Fin 4) (k : Fin 256) (f : Fin 704) : ((outsAt1 V c t.val t.isLt).2.2.2.1 (ix3 j k f) : EReal) = a.u j (row k) f := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl

/-- The block of the gradient of the first product. -/
theorem Backward.da1_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (j : Fin 4) (k : Fin 256) (f : Fin 704) : ((outsAt1 V c t.val t.isLt).2.2.2.2.1 (ix3 j k f) : EReal) = a.da1 j (row k) f := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl

/-- The block of the gradient of the second product. -/
theorem Backward.da3_out (H : Backward a row (iblk1 V c 0 t) (iblk1 V c 1 t) (iblk1 V c 2 t) (iblk1 V c 3 t) (iblk1 V c 4 t) (iblk1 V c 5 t) (iblk1 V c 6 t) (iblk1 V c 7 t) (iblk1 V c 8 t))
    (j : Fin 4) (k : Fin 256) (f : Fin 704) : ((outsAt1 V c t.val t.isLt).2.2.2.2.2.1 (ix3 j k f) : EReal) = a.da3 j (row k) f := by
  by_cases h0 : t.val % 64 = 0
  · rw [outsAt1_A V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl
  · rw [outsAt1_B V c t h0]
    dsimp only
    frame_out
    generalize iblk1 V c 0 t = x0 at H ⊢
    generalize iblk1 V c 1 t = x1 at H ⊢
    generalize iblk1 V c 2 t = x2 at H ⊢
    generalize iblk1 V c 3 t = x3 at H ⊢
    generalize iblk1 V c 4 t = x4 at H ⊢
    generalize iblk1 V c 5 t = x5 at H ⊢
    generalize iblk1 V c 6 t = x6 at H ⊢
    generalize iblk1 V c 7 t = x7 at H ⊢
    generalize iblk1 V c 8 t = x8 at H ⊢
    canon_tiles b c
    all_goals
      idx_vars b
      obtain rfl : k = b1 := Fin.ext (by exact c1)
      obtain rfl : f = b2 := Fin.ext (by exact c2)
    · obtain rfl : j = 3 := Fin.ext (by change j.val = 3 + b0.val at c0; omega)
      open_payloads
      pointwise
      simp only [H.x, H.dxo, H.a1, H.a3, H.y, H.g, H.shift, H.factor, H.w1, H.w3, H.w2]
      rfl
    · obtain rfl : j = 2 := Fin.ext (by change j.val = 2 + b0.val at c0; omega)
      open_payloads
      pointwise
      simp only [H.x, H.dxo, H.a1, H.a3, H.y, H.g, H.shift, H.factor, H.w1, H.w3, H.w2]
      rfl
    · obtain rfl : j = 1 := Fin.ext (by change j.val = 1 + b0.val at c0; omega)
      open_payloads
      pointwise
      simp only [H.x, H.dxo, H.a1, H.a3, H.y, H.g, H.shift, H.factor, H.w1, H.w3, H.w2]
      rfl
    · obtain rfl : j = 0 := Fin.ext (by change j.val = b0.val at c0; omega)
      open_payloads
      pointwise
      simp only [H.x, H.dxo, H.a1, H.a3, H.y, H.g, H.shift, H.factor, H.w1, H.w3, H.w2]
      rfl

end Cert.KernelIdeal.Ffn
-- ==== Proof.FfnBackward.lean ====
/- What the backward call reads, as functions of the arguments. -/
module

public import proofs.«01_k».proof.Defs
public import proofs.«01_k».proof.Proof.Gen.KernelIdeal.Frame
public import proofs.«01_k».proof.Proof.FfnArrays
public import proofs.«01_k».proof.Proof.FfnBackTile
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (m : (ℓ : Loc nD τ sig) → Buf (Elt Ideal) ℓ) (ρ : Dev nD → PrngReg)

/-- The token of row `k` of the backward call's block at a grid point. -/
def rowB (t : Fin cfg1.N) (k : Fin 256) : Fin 16384 := ⟨256 * t.val + k.val, by have h : t.val < 64 := t.isLt; omega⟩

/-- Every window's block index at a grid point of the backward call. -/
theorem idx1 : ∀ t : Fin cfg1.N, win1_0.index t = ![t.val, 0]
    ∧ win1_1.index t = ![t.val, 0]
    ∧ win1_2.index t = ![0, t.val, 0]
    ∧ win1_3.index t = ![0, t.val, 0]
    ∧ win1_4.index t = ![t.val, 0]
    ∧ win1_5.index t = ![0, 0]
    ∧ win1_6.index t = ![0, 0, 0, 0, 0]
    ∧ win1_7.index t = ![0, 0, 0, 0, 0]
    ∧ win1_8.index t = ![0, 0, 0, 0, 0]
    ∧ win1_9.index t = ![t.val, 0]
    ∧ win1_10.index t = ![t.val, 0]
    ∧ win1_11.index t = ![t.val, 0]
    ∧ win1_12.index t = ![0, t.val, 0]
    ∧ win1_13.index t = ![0, t.val, 0]
    ∧ win1_14.index t = ![0, t.val, 0]
    ∧ win1_15.index t = ![0, 0] :=
  (by decide +kernel : ∀ t : Fin grid1.N, _)

/-- A block of the backward call at an index is the argument's entry there, or what the forward call left there. -/
theorem backX (c : Dev nD) (t : Fin cfg1.N) (k : Fin 256) (d : Fin 1024) :
    (iblk1 (V2 m ρ) c 0 t (ix2 k d) : EReal) = (args m c).x (rowB t k) d := by
  obtain ⟨e0, -⟩ := idx1 t
  refine Eq.trans ?_ (congrFun (saved_arg m ρ c main_arg0 (by decide)) (ix2 (rowB t k) d))
  blk_ext [iblk1, e0, rowB]

/-- Likewise. -/
theorem backDxo (c : Dev nD) (t : Fin cfg1.N) (k : Fin 256) (d : Fin 1024) :
    (iblk1 (V2 m ρ) c 1 t (ix2 k d) : EReal) = (args m c).dxo (rowB t k) d := by
  obtain ⟨-, e1, -⟩ := idx1 t
  refine Eq.trans ?_ (congrFun (saved_arg m ρ c main_arg1 (by decide)) (ix2 (rowB t k) d))
  blk_ext [iblk1, e1, rowB]

/-- Likewise. -/
theorem backA1 (c : Dev nD) (t : Fin cfg1.N) (j : Fin 4) (k : Fin 256) (f : Fin 704) :
    (iblk1 (V2 m ρ) c 2 t (ix3 j k f) : EReal) = (args m c).a1 j (rowB t k) f := by
  obtain ⟨-, -, e2, -⟩ := idx1 t
  refine Eq.trans ?_ (congrFun (saved_a1 m ρ c) (ix3 j (rowB t k) f))
  blk_ext [iblk1, e2, rowB]

/-- Likewise. -/
theorem backA3 (c : Dev nD) (t : Fin cfg1.N) (j : Fin 4) (k : Fin 256) (f : Fin 704) :
    (iblk1 (V2 m ρ) c 3 t (ix3 j k f) : EReal) = (args m c).a3 j (rowB t k) f := by
  obtain ⟨-, -, -, e3, -⟩ := idx1 t
  refine Eq.trans ?_ (congrFun (saved_a3 m ρ c) (ix3 j (rowB t k) f))
  blk_ext [iblk1, e3, rowB]

/-- Likewise. -/
theorem backY (c : Dev nD) (t : Fin cfg1.N) (k : Fin 256) (d : Fin 1024) :
    (iblk1 (V2 m ρ) c 4 t (ix2 k d) : EReal) = (args m c).y (rowB t k) d := by
  obtain ⟨-, -, -, -, e4, -⟩ := idx1 t
  refine Eq.trans ?_ (congrFun (saved_y m ρ c) (ix2 (rowB t k) d))
  blk_ext [iblk1, e4, rowB]

/-- Likewise. -/
theorem backG (c : Dev nD) (t : Fin cfg1.N) (d : Fin 1024) :
    (iblk1 (V2 m ρ) c 5 t (ix2 0 d) : EReal) = (args m c).g d := by
  obtain ⟨-, -, -, -, -, e5, -⟩ := idx1 t
  refine Eq.trans ?_ ((congrFun (saved_vec m ρ c) (ix2 0 d)).trans (vec0 m ρ c d _ rfl))
  blk_ext [iblk1, e5]

/-- Likewise. -/
theorem backShift (c : Dev nD) (t : Fin cfg1.N) (d : Fin 1024) :
    (iblk1 (V2 m ρ) c 5 t (ix2 1 d) : EReal) = (args m c).shift d := by
  obtain ⟨-, -, -, -, -, e5, -⟩ := idx1 t
  refine Eq.trans ?_ ((congrFun (saved_vec m ρ c) (ix2 1 d)).trans (vec1 m ρ c d _ rfl))
  blk_ext [iblk1, e5]

/-- Likewise. -/
theorem backFactor (c : Dev nD) (t : Fin cfg1.N) (d : Fin 1024) :
    (iblk1 (V2 m ρ) c 5 t (ix2 2 d) : EReal) = (args m c).factor d := by
  obtain ⟨-, -, -, -, -, e5, -⟩ := idx1 t
  refine Eq.trans ?_ ((congrFun (saved_vec m ρ c) (ix2 2 d)).trans (vec2 m ρ c d _ rfl))
  blk_ext [iblk1, e5]

/-- Likewise. -/
theorem backW1 (c : Dev nD) (t : Fin cfg1.N) (j : Fin 4) (d : Fin 1024) (f : Fin 704) :
    (iblk1 (V2 m ρ) c 6 t (ix5 0 0 j d f) : EReal) = (args m c).w1 j d f := by
  obtain ⟨-, -, -, -, -, -, e6, -⟩ := idx1 t
  refine Eq.trans ?_ (congrFun (saved_arg m ρ c main_arg6 (by decide)) (ix5 0 0 j d f))
  blk_ext [iblk1, e6]

/-- Likewise. -/
theorem backW3 (c : Dev nD) (t : Fin cfg1.N) (j : Fin 4) (d : Fin 1024) (f : Fin 704) :
    (iblk1 (V2 m ρ) c 7 t (ix5 0 0 j d f) : EReal) = (args m c).w3 j d f := by
  obtain ⟨-, -, -, -, -, -, -, e7, -⟩ := idx1 t
  refine Eq.trans ?_ (congrFun (saved_arg m ρ c main_arg7 (by decide)) (ix5 0 0 j d f))
  blk_ext [iblk1, e7]

/-- Likewise. -/
theorem backW2 (c : Dev nD) (t : Fin cfg1.N) (j : Fin 4) (f : Fin 704) (d : Fin 1024) :
    (iblk1 (V2 m ρ) c 8 t (ix5 0 0 j f d) : EReal) = (args m c).w2 j f d := by
  obtain ⟨-, -, -, -, -, -, -, -, e8, -⟩ := idx1 t
  refine Eq.trans ?_ (congrFun (saved_arg m ρ c main_arg8 (by decide)) (ix5 0 0 j f d))
  blk_ext [iblk1, e8]

/-- The blocks at a grid point of the backward call hold that point's rows. -/
theorem backward (c : Dev nD) (t : Fin cfg1.N) : Backward (args m c) (rowB t) (iblk1 (V2 m ρ) c 0 t) (iblk1 (V2 m ρ) c 1 t) (iblk1 (V2 m ρ) c 2 t) (iblk1 (V2 m ρ) c 3 t) (iblk1 (V2 m ρ) c 4 t) (iblk1 (V2 m ρ) c 5 t) (iblk1 (V2 m ρ) c 6 t) (iblk1 (V2 m ρ) c 7 t) (iblk1 (V2 m ρ) c 8 t) :=
  ⟨backX m ρ c t, backDxo m ρ c t, backA1 m ρ c t, backA3 m ρ c t, backY m ρ c t, backG m ρ c t, backShift m ρ c t, backFactor m ρ c t, backW1 m ρ c t, backW3 m ρ c t, backW2 m ρ c t⟩

end Cert.KernelIdeal.Ffn
-- ==== Proof.FfnBackSums.lean ====
/- What one grid point of the backward call adds to the sums over the tokens. -/
module

public import proofs.«01_k».proof.Defs
public import proofs.«01_k».proof.Proof.Gen.KernelIdeal.Frame
public import proofs.«01_k».proof.Proof.FfnBackTile
public import Idealize.ShloMosaic.Lib.Pipeline.ValueKit
public import Idealize.ShloMosaic.Lib.Claim
public import Idealize.ShloMosaic.Lib.Pointwise
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (V : (c : Dev nD) → (b : Ref sig .tc) → Buf (Elt Ideal) (c.tc.loc b))

variable {V : (c : Dev nD) → (b : Ref sig .tc) → Buf (Elt Ideal) (c.tc.loc b)}
variable {a : Args} {row : Fin 256 → Fin 16384} {c : Dev nD} {t : Fin cfg1.N}

/-- What the backward grid point of the rows `row` adds to the sums over the tokens. -/
def part (a : Args) (row : Fin 256 → Fin 16384) (r : Fin 8) (d : Fin 1024) : EReal :=
  if r.val = 0 then ∑ k, a.dh (row k) d * a.n (row k) d else if r.val = 1 then ∑ k, a.dh (row k) d
  else if r.val = 2 then ∑ k, a.dxo (row k) d * a.y (row k) d else 0

/-- The sums after the first point: row 0. -/
theorem Backward.sums0A (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : t.val % 64 = 0)
    (d : Fin 1024) : ((outsAt1 V c t.val t.isLt).2.2.2.2.2.2 (ix2 0 d) : EReal) = 0 + ∑ k, a.dh (row k) d * a.n (row k) d := by
  rw [outsAt1_A V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  refine Eq.trans (View.read_writes_junk_apply_eq_canon (ms1_15 t).view _ _).symm ?_
  refine Eq.trans (View.read_writes_cons_rows_of_not_mem _ _ _ _ _ _ rfl (show S1x1024.size 0 = 1 from rfl) (.inl (show 0 < 1 by decide))) ?_
  refine Eq.trans (View.read_writes_cons_rows_of_mem _ _ _ _ _ _ (ix2 0 d : S1x1024.Idx) rfl rfl rfl) ?_
  simp (disch := first | rfl | decide) only [View.readCov_skip, View.readCov_fill]
  open_payloads
  pointwise
  simp only [H.x, H.dxo, H.a1, H.a3, H.y, H.g, H.shift, H.factor, H.w1, H.w3, H.w2]
  simp only [dh_flat]
  rfl

/-- The sums after the first point: row 1. -/
theorem Backward.sums1A (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : t.val % 64 = 0)
    (d : Fin 1024) : ((outsAt1 V c t.val t.isLt).2.2.2.2.2.2 (ix2 1 d) : EReal) = 0 + ∑ k, a.dh (row k) d := by
  rw [outsAt1_A V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  refine Eq.trans (View.read_writes_junk_apply_eq_canon (ms1_15 t).view _ _).symm ?_
  refine Eq.trans (View.read_writes_cons_rows_of_mem _ _ _ _ _ _ (ix2 0 d : S1x1024.Idx) rfl rfl rfl) ?_
  simp (disch := first | rfl | decide) only [View.readCov_skip, View.readCov_fill]
  open_payloads
  pointwise
  simp only [H.x, H.dxo, H.a1, H.a3, H.y, H.g, H.shift, H.factor, H.w1, H.w3, H.w2]
  simp only [dh_flat]
  rfl

/-- The sums after the first point: row 2. -/
theorem Backward.sums2A (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : t.val % 64 = 0)
    (d : Fin 1024) : ((outsAt1 V c t.val t.isLt).2.2.2.2.2.2 (ix2 2 d) : EReal) = 0 + ∑ k, a.dxo (row k) d * a.y (row k) d := by
  rw [outsAt1_A V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  refine Eq.trans (View.read_writes_junk_apply_eq_canon (ms1_15 t).view _ _).symm ?_
  refine Eq.trans (View.read_writes_cons_rows_of_not_mem _ _ _ _ _ _ rfl (show S1x1024.size 0 = 1 from rfl) (.inr (show 1 + 1 ≤ 2 by decide))) ?_
  refine Eq.trans (View.read_writes_cons_rows_of_not_mem _ _ _ _ _ _ rfl (show S1x1024.size 0 = 1 from rfl) (.inr (show 0 + 1 ≤ 2 by decide))) ?_
  refine Eq.trans (View.read_writes_cons_rows_of_mem _ _ _ _ _ _ (ix2 0 d : S1x1024.Idx) rfl rfl rfl) ?_
  simp (disch := first | rfl | decide) only [View.readCov_skip, View.readCov_fill]
  open_payloads
  pointwise
  simp only [H.x, H.dxo, H.a1, H.a3, H.y, H.g, H.shift, H.factor, H.w1, H.w3, H.w2]

/-- The sums after the first point: the rows past 2. -/
theorem Backward.sums3A (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : t.val % 64 = 0)
    (r : Fin 8) (hr : 3 ≤ r.val) (d : Fin 1024) : ((outsAt1 V c t.val t.isLt).2.2.2.2.2.2 (ix2 r d) : EReal) = 0 := by
  rw [outsAt1_A V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  refine Eq.trans (View.read_writes_junk_apply_eq_canon (ms1_15 t).view _ _).symm ?_
  refine Eq.trans (View.read_writes_cons_rows_of_not_mem _ _ _ _ _ _ rfl (show S1x1024.size 0 = 1 from rfl) (.inr (by show _ ≤ r.val; omega))) ?_
  refine Eq.trans (View.read_writes_cons_rows_of_not_mem _ _ _ _ _ _ rfl (show S1x1024.size 0 = 1 from rfl) (.inr (by show _ ≤ r.val; omega))) ?_
  refine Eq.trans (View.read_writes_cons_rows_of_not_mem _ _ _ _ _ _ rfl (show S1x1024.size 0 = 1 from rfl) (.inr (by show _ ≤ r.val; omega))) ?_
  refine Eq.trans (View.read_writes_cons_rows_of_mem _ _ _ _ _ _ (ix2 r d : S8x1024.Idx) rfl (Nat.zero_add _).symm rfl) ?_
  unfold k1_pay2
  pointwise

/-- The sums after a later point: row 0. -/
theorem Backward.sums0B (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : ¬t.val % 64 = 0)
    (d : Fin 1024) : ((outsAt1 V c t.val t.isLt).2.2.2.2.2.2 (ix2 0 d) : EReal) = ((outsAt1 V c (t.val - 1) (Nat.lt_of_le_of_lt (Nat.sub_le _ _) t.isLt)).2.2.2.2.2.2 (ix2 0 d) : EReal) + ∑ k, a.dh (row k) d * a.n (row k) d := by
  rw [outsAt1_B V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  generalize (outsAt1 V c (t.val - 1) (Nat.lt_of_le_of_lt (Nat.sub_le _ _) t.isLt)).2.2.2.2.2.2 = p
  refine Eq.trans (View.read_writes_cons_rows_of_not_mem _ _ _ _ _ _ rfl (show S1x1024.size 0 = 1 from rfl) (.inl (show 0 < 1 by decide))) ?_
  refine Eq.trans (View.read_writes_cons_rows_of_mem _ _ _ _ _ _ (ix2 0 d : S1x1024.Idx) rfl rfl rfl) ?_
  open_payloads
  pointwise
  simp only [H.x, H.dxo, H.a1, H.a3, H.y, H.g, H.shift, H.factor, H.w1, H.w3, H.w2]
  simp only [dh_flat]
  rfl

/-- The sums after a later point: row 1. -/
theorem Backward.sums1B (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : ¬t.val % 64 = 0)
    (d : Fin 1024) : ((outsAt1 V c t.val t.isLt).2.2.2.2.2.2 (ix2 1 d) : EReal) = ((outsAt1 V c (t.val - 1) (Nat.lt_of_le_of_lt (Nat.sub_le _ _) t.isLt)).2.2.2.2.2.2 (ix2 1 d) : EReal) + ∑ k, a.dh (row k) d := by
  rw [outsAt1_B V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  generalize (outsAt1 V c (t.val - 1) (Nat.lt_of_le_of_lt (Nat.sub_le _ _) t.isLt)).2.2.2.2.2.2 = p
  refine Eq.trans (View.read_writes_cons_rows_of_mem _ _ _ _ _ _ (ix2 0 d : S1x1024.Idx) rfl rfl rfl) ?_
  open_payloads
  pointwise
  simp only [H.x, H.dxo, H.a1, H.a3, H.y, H.g, H.shift, H.factor, H.w1, H.w3, H.w2]
  simp only [dh_flat]
  rfl

/-- The sums after a later point: row 2. -/
theorem Backward.sums2B (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : ¬t.val % 64 = 0)
    (d : Fin 1024) : ((outsAt1 V c t.val t.isLt).2.2.2.2.2.2 (ix2 2 d) : EReal) = ((outsAt1 V c (t.val - 1) (Nat.lt_of_le_of_lt (Nat.sub_le _ _) t.isLt)).2.2.2.2.2.2 (ix2 2 d) : EReal) + ∑ k, a.dxo (row k) d * a.y (row k) d := by
  rw [outsAt1_B V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  generalize (outsAt1 V c (t.val - 1) (Nat.lt_of_le_of_lt (Nat.sub_le _ _) t.isLt)).2.2.2.2.2.2 = p
  refine Eq.trans (View.read_writes_cons_rows_of_not_mem _ _ _ _ _ _ rfl (show S1x1024.size 0 = 1 from rfl) (.inr (show 1 + 1 ≤ 2 by decide))) ?_
  refine Eq.trans (View.read_writes_cons_rows_of_not_mem _ _ _ _ _ _ rfl (show S1x1024.size 0 = 1 from rfl) (.inr (show 0 + 1 ≤ 2 by decide))) ?_
  refine Eq.trans (View.read_writes_cons_rows_of_mem _ _ _ _ _ _ (ix2 0 d : S1x1024.Idx) rfl rfl rfl) ?_
  open_payloads
  pointwise
  simp only [H.x, H.dxo, H.a1, H.a3, H.y, H.g, H.shift, H.factor, H.w1, H.w3, H.w2]

/-- The sums after a later point: the rows past 2. -/
theorem Backward.sums3B (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : ¬t.val % 64 = 0)
    (r : Fin 8) (hr : 3 ≤ r.val) (d : Fin 1024) : ((outsAt1 V c t.val t.isLt).2.2.2.2.2.2 (ix2 r d) : EReal) = ((outsAt1 V c (t.val - 1) (Nat.lt_of_le_of_lt (Nat.sub_le _ _) t.isLt)).2.2.2.2.2.2 (ix2 r d) : EReal) := by
  rw [outsAt1_B V c t h0]
  dsimp only
  frame_out
  generalize iblk1 V c 0 t = x0 at H ⊢
  generalize iblk1 V c 1 t = x1 at H ⊢
  generalize iblk1 V c 2 t = x2 at H ⊢
  generalize iblk1 V c 3 t = x3 at H ⊢
  generalize iblk1 V c 4 t = x4 at H ⊢
  generalize iblk1 V c 5 t = x5 at H ⊢
  generalize iblk1 V c 6 t = x6 at H ⊢
  generalize iblk1 V c 7 t = x7 at H ⊢
  generalize iblk1 V c 8 t = x8 at H ⊢
  generalize (outsAt1 V c (t.val - 1) (Nat.lt_of_le_of_lt (Nat.sub_le _ _) t.isLt)).2.2.2.2.2.2 = p
  refine Eq.trans (View.read_writes_cons_rows_of_not_mem _ _ _ _ _ _ rfl (show S1x1024.size 0 = 1 from rfl) (.inr (by show _ ≤ r.val; omega))) ?_
  refine Eq.trans (View.read_writes_cons_rows_of_not_mem _ _ _ _ _ _ rfl (show S1x1024.size 0 = 1 from rfl) (.inr (by show _ ≤ r.val; omega))) ?_
  refine Eq.trans (View.read_writes_cons_rows_of_not_mem _ _ _ _ _ _ rfl (show S1x1024.size 0 = 1 from rfl) (.inr (by show _ ≤ r.val; omega))) ?_
  exact congrFun (Memref.IsWhole.read_unread _ _) _

/-- The sums after the first point. -/
theorem Backward.sumsA (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : t.val % 64 = 0) (r : Fin 8) (d : Fin 1024) :
    ((outsAt1 V c t.val t.isLt).2.2.2.2.2.2 (ix2 r d) : EReal) = 0 + part a row r d := by
  unfold part
  by_cases e0 : r.val = 0
  · obtain rfl : r = 0 := Fin.ext e0
    exact H.sums0A h0 d
  by_cases e1 : r.val = 1
  · obtain rfl : r = 1 := Fin.ext e1
    exact H.sums1A h0 d
  by_cases e2 : r.val = 2
  · obtain rfl : r = 2 := Fin.ext e2
    exact H.sums2A h0 d
  rw [if_neg e0, if_neg e1, if_neg e2, add_zero]
  exact H.sums3A h0 r (by omega) d

/-- The sums after a later point. -/
theorem Backward.sumsB (H : Backward a row (iblk1 V c 0 t) (iblk1 V c 1 t) (iblk1 V c 2 t) (iblk1 V c 3 t) (iblk1 V c 4 t) (iblk1 V c 5 t) (iblk1 V c 6 t) (iblk1 V c 7 t) (iblk1 V c 8 t)) (h0 : ¬t.val % 64 = 0) (r : Fin 8) (d : Fin 1024) :
    ((outsAt1 V c t.val t.isLt).2.2.2.2.2.2 (ix2 r d) : EReal) = ((outsAt1 V c (t.val - 1) (Nat.lt_of_le_of_lt (Nat.sub_le _ _) t.isLt)).2.2.2.2.2.2 (ix2 r d) : EReal) + part a row r d := by
  unfold part
  by_cases e0 : r.val = 0
  · obtain rfl : r = 0 := Fin.ext e0
    exact H.sums0B h0 d
  by_cases e1 : r.val = 1
  · obtain rfl : r = 1 := Fin.ext e1
    exact H.sums1B h0 d
  by_cases e2 : r.val = 2
  · obtain rfl : r = 2 := Fin.ext e2
    exact H.sums2B h0 d
  rw [if_neg e0, if_neg e1, if_neg e2, add_zero]
  exact H.sums3B h0 r (by omega) d

end Cert.KernelIdeal.Ffn
-- ==== Proof.FfnBackArrays.lean ====
/- What the backward call leaves in its arrays, as functions of the arguments. -/
module

public import proofs.«01_k».proof.Defs
public import proofs.«01_k».proof.Proof.Gen.KernelIdeal.Frame
public import proofs.«01_k».proof.Proof.FfnBackward
public import proofs.«01_k».proof.Proof.FfnBackSums
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ffn

open Cert.KernelIdeal Cert.KernelIdeal.Gen Cert.Ffn

variable (m : (ℓ : Loc nD τ sig) → Buf (Elt Ideal) ℓ) (ρ : Dev nD → PrngReg)
  (V : (c : Dev nD) → (b : Ref sig .tc) → Buf (Elt Ideal) (c.tc.loc b))

/-- The gradient of the tokens as an array. -/
def dxArray (a : Args) : Vec Ideal S16384x1024 .f32 := fun i => a.dx (i 0) (i 1)
/-- What the backward call leaves there. -/
theorem final9 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 9 cfg1.N = dxArray a := by
  refine (dat1 V c).arrAt_eq_of_covers 9 (dxArray a) (by decide +kernel) fun t hf y => ?_
  rw [after1_9]
  blk_simp
  obtain ⟨-, -, -, -, -, -, -, -, -, e9, -⟩ := idx1 t
  idx_vars y
  refine ((H t).dx_out y0 y1).trans ?_
  have h0 : ((win1_9.blk t).view.emb (ix2 y0 y1) : S16384x1024.Idx) = ix2 (rowB t y0) y1 := by
    blk_ext [e9, rowB]
  exact (congrArg (dxArray a) h0).symm

/-- The modulated tokens as an array. -/
def hArray (a : Args) : Vec Ideal S16384x1024 .bf16 := fun i => a.h (i 0) (i 1)
/-- What the backward call leaves there. -/
theorem final10 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 10 cfg1.N = hArray a := by
  refine (dat1 V c).arrAt_eq_of_covers 10 (hArray a) (by decide +kernel) fun t hf y => ?_
  rw [after1_10]
  blk_simp
  obtain ⟨-, -, -, -, -, -, -, -, -, -, e10, -⟩ := idx1 t
  idx_vars y
  refine ((H t).h_out y0 y1).trans ?_
  have h0 : ((win1_10.blk t).view.emb (ix2 y0 y1) : S16384x1024.Idx) = ix2 (rowB t y0) y1 := by
    blk_ext [e10, rowB]
  exact (congrArg (hArray a) h0).symm

/-- The gradient of the sublayer's product as an array. -/
def dyArray (a : Args) : Vec Ideal S16384x1024 .bf16 := fun i => a.dy (i 0) (i 1)
/-- What the backward call leaves there. -/
theorem final11 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 11 cfg1.N = dyArray a := by
  refine (dat1 V c).arrAt_eq_of_covers 11 (dyArray a) (by decide +kernel) fun t hf y => ?_
  rw [after1_11]
  blk_simp
  obtain ⟨-, -, -, -, -, -, -, -, -, -, -, e11, -⟩ := idx1 t
  idx_vars y
  refine ((H t).dy_out y0 y1).trans ?_
  have h0 : ((win1_11.blk t).view.emb (ix2 y0 y1) : S16384x1024.Idx) = ix2 (rowB t y0) y1 := by
    blk_ext [e11, rowB]
  exact (congrArg (dyArray a) h0).symm

/-- The gated activations as an array. -/
def uArray (a : Args) : Vec Ideal S4x16384x704 .bf16 := fun i => a.u (i 0) (i 1) (i 2)
/-- What the backward call leaves there. -/
theorem final12 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 12 cfg1.N = uArray a := by
  refine (dat1 V c).arrAt_eq_of_covers 12 (uArray a) (by decide +kernel) fun t hf y => ?_
  rw [after1_12]
  blk_simp
  obtain ⟨-, -, -, -, -, -, -, -, -, -, -, -, e12, -⟩ := idx1 t
  idx_vars y
  refine ((H t).u_out y0 y1 y2).trans ?_
  have h0 : ((win1_12.blk t).view.emb (ix3 y0 y1 y2) : S4x16384x704.Idx) = ix3 y0 (rowB t y1) y2 := by
    blk_ext [e12, rowB]
  exact (congrArg (uArray a) h0).symm

/-- The gradients of the first products as an array. -/
def da1Array (a : Args) : Vec Ideal S4x16384x704 .bf16 := fun i => a.da1 (i 0) (i 1) (i 2)
/-- What the backward call leaves there. -/
theorem final13 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 13 cfg1.N = da1Array a := by
  refine (dat1 V c).arrAt_eq_of_covers 13 (da1Array a) (by decide +kernel) fun t hf y => ?_
  rw [after1_13]
  blk_simp
  obtain ⟨-, -, -, -, -, -, -, -, -, -, -, -, -, e13, -⟩ := idx1 t
  idx_vars y
  refine ((H t).da1_out y0 y1 y2).trans ?_
  have h0 : ((win1_13.blk t).view.emb (ix3 y0 y1 y2) : S4x16384x704.Idx) = ix3 y0 (rowB t y1) y2 := by
    blk_ext [e13, rowB]
  exact (congrArg (da1Array a) h0).symm

/-- The gradients of the second products as an array. -/
def da3Array (a : Args) : Vec Ideal S4x16384x704 .bf16 := fun i => a.da3 (i 0) (i 1) (i 2)
/-- What the backward call leaves there. -/
theorem final14 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 14 cfg1.N = da3Array a := by
  refine (dat1 V c).arrAt_eq_of_covers 14 (da3Array a) (by decide +kernel) fun t hf y => ?_
  rw [after1_14]
  blk_simp
  obtain ⟨-, -, -, -, -, -, -, -, -, -, -, -, -, -, e14, -⟩ := idx1 t
  idx_vars y
  refine ((H t).da3_out y0 y1 y2).trans ?_
  have h0 : ((win1_14.blk t).view.emb (ix3 y0 y1 y2) : S4x16384x704.Idx) = ix3 y0 (rowB t y1) y2 := by
    blk_ext [e14, rowB]
  exact (congrArg (da3Array a) h0).symm

/-- The sums over the tokens as an array. -/
def sumsArray (a : Args) : Vec Ideal S8x1024 .f32 := fun i => a.sums (i 0) (i 1)

/-- The sums over all blocks' rows are the sums over the tokens. -/
theorem sum_part (a : Args) (r : Fin 8) (d : Fin 1024) :
    ∑ s : Fin cfg1.N, part a (rowB s) r d = a.sums r d := by
  have h (F : Fin 16384 → EReal) : ∑ s : Fin cfg1.N, ∑ k : Fin 256, F (rowB s k) = ∑ i, F i := by
    refine Fin.sum_mul_add_congr fun s k hl => ?_
    exact congrArg F (Fin.ext (by show 256 * s.val + k.val = s.val * 256 + k.val; omega))
  unfold part Args.sums
  split_ifs
  · exact h fun i => a.dh i d * a.n i d
  · exact h fun i => a.dh i d
  · exact h fun i => a.dxo i d * a.y i d
  · exact Finset.sum_const_zero

/-- After the last point the sums are those over all blocks' rows. -/
theorem sums_run (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t))
    (t : Fin cfg1.N) (hr : t.val % 64 = 63) (r : Fin 8) (d : Fin 1024) :
    ((outsAt1 V c t.val t.isLt).2.2.2.2.2.2 (ix2 r d) : EReal) = a.sums r d := by
  refine (Pipeline.eq_sum_fin_of_reset_step_apply_of_flush (ι := Fin 8 × Fin 1024) (M := EReal)
    (fun n h i => ((outsAt1 V c n h).2.2.2.2.2.2 (ix2 i.1 i.2) : EReal)) 64 (fun _ => 0) (fun t i => part a (rowB t) i.1 i.2)
    (fun t h i => (H t).sumsA h i.1 i.2) (fun t h i => (H t).sumsB h i.1 i.2) t hr (r, d)).trans ?_
  rw [zero_add, ← sum_part]
  refine Finset.sum_congr rfl fun s _ => ?_
  have e : (⟨64 * (t.val / 64) + s.val, Pipeline.run_point_lt_of_flush t hr s⟩ : Fin cfg1.N) = s :=
    Fin.ext (by have h : t.val < 64 := t.isLt; show 64 * (t.val / 64) + s.val = s.val; omega)
  rw [e]

/-- What the backward call leaves there. -/
theorem final15 (a : Args) (c : Dev nD) (H : ∀ t, Backward a (rowB t) (iblk1 V c 0 t) (iblk1 V c 1 t) (iblk1 V c 2 t) (iblk1 V c 3 t) (iblk1 V c 4 t) (iblk1 V c 5 t) (iblk1 V c 6 t) (iblk1 V c 7 t) (iblk1 V c 8 t)) :
    (dat1 V c).arrAt 15 cfg1.N = sumsArray a := by
  refine (dat1 V c).arrAt_eq_of_covers 15 (sumsArray a) (by decide +kernel) fun t hf y => ?_
  rw [after1_15]
  blk_simp
  obtain ⟨-, -, -, -, -, -, -, -, -, -, -, -, -, -, -, e15⟩ := idx1 t
  idx_vars y
  refine (sums_run V a c H t ((flush1_15 t).mp hf) y0 y1).trans ?_
  have h0 : ((win1_15.blk t).view.emb (ix2 y0 y1) : S8x1024.Idx) = ix2 y0 y1 := by
    blk_ext [e15]
  exact (congrArg (sumsArray a) h0).symm

/-- What the run leaves in the result arrays. -/
theorem left_xo (c : Dev nD) : W3 m ρ c (Proc.devRef .tc main_v10_0) = xoArray (args m c) :=
  (W3_of m ρ c main_v10_0 (by decide)).trans (saved_xo m ρ c)
/-- The backward call's array of the gradient of the sublayer's input. -/
theorem left_dx (c : Dev nD) : W3 m ρ c (Proc.devRef .tc main_v11_0) = dxArray (args m c) :=
  (W3_arr m ρ c 9).trans (final9 _ _ c (backward m ρ c))
/-- The backward call's array of the modulated input. -/
theorem left_h (c : Dev nD) : W3 m ρ c (Proc.devRef .tc main_v11_1) = hArray (args m c) :=
  (W3_arr m ρ c 10).trans (final10 _ _ c (backward m ρ c))
/-- The backward call's array of the cotangent of the feed-forward output. -/
theorem left_dy (c : Dev nD) : W3 m ρ c (Proc.devRef .tc main_v11_2) = dyArray (args m c) :=
  (W3_arr m ρ c 11).trans (final11 _ _ c (backward m ρ c))
/-- The backward call's array of the gated product. -/
theorem left_u (c : Dev nD) : W3 m ρ c (Proc.devRef .tc main_v11_3) = uArray (args m c) :=
  (W3_arr m ρ c 12).trans (final12 _ _ c (backward m ρ c))
/-- The backward call's array of the cotangent of the first product. -/
theorem left_da1 (c : Dev nD) : W3 m ρ c (Proc.devRef .tc main_v11_4) = da1Array (args m c) :=
  (W3_arr m ρ c 13).trans (final13 _ _ c (backward m ρ c))
/-- The backward call's array of the cotangent of the third product. -/
theorem left_da3 (c : Dev nD) : W3 m ρ c (Proc.devRef .tc main_v11_5) = da3Array (args m c) :=
  (W3_arr m ρ c 14).trans (final14 _ _ c (backward m ρ c))
/-- The backward call's array of the three vectors' gradients. -/
theorem left_sums (c : Dev nD) : W3 m ρ c (Proc.devRef .tc main_v11_6) = sumsArray (args m c) :=
  (W3_arr m ρ c 15).trans (final15 _ _ c (backward m ρ c))

end Cert.KernelIdeal.Ffn
-- ==== Proof.FfnRun.lean ====
/- What every run of the two calls ends with, and what the precondition says of the arguments. -/
module

public import proofs.«01_k».proof.Defs
public import proofs.«01_k».proof.Proof.Gen.KernelIdeal
public import proofs.«01_k».proof.Proof.Gen.KernelIdeal.Frame
public import proofs.«01_k».proof.Proof.Gen.Pre_finite
public import proofs.«01_k».proof.Proof.FfnReal
public import proofs.«01_k».proof.Proof.FfnBackArrays
public import Idealize.ShloMosaic.Lib.Pipeline.RegionsLoop
public import Idealize.ShloMosaic.Lib.Pipeline.FrameSuffix
public import Idealize.ShloMosaic.Lib.ReduceAll
public import Idealize.ShloMosaic.Lib.Pointwise
public import Idealize.ShloMosaic.Lib.Tactic

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Ffn

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each array at the contents the fold over the two calls gives it. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- An extended real whose absolute value is below the infinity is real. -/
theorem isReal_of_lt (v : EReal) (h : Ideal.cmp .olt (max v (-v)) (Ideal.ofBits .f32 0x7F800000#32) = 1#1) : IsReal v := by
  have htop : Ideal.ofBits .f32 0x7F800000#32 = ⊤ := by simp [Ideal.ofBits, Ideal.ieee]
  rw [htop] at h
  have hlt : max v (-v) < ⊤ := by
    by_contra hn
    have h0 : Ideal.cmp .olt (max v (-v)) ⊤ = 0#1 := by simp [Ideal.cmp, hn]
    rw [h0] at h
    exact absurd h (by decide)
  induction v using EReal.rec with
  | bot => exact absurd hlt (by simp)
  | coe r => exact ⟨r, rfl⟩
  | top => exact absurd hlt (by simp)

/-- Under the precondition every argument entry is real. -/
theorem finite (h : Cert.Pre_KernelIdeal_finite (hPre_finite := Cert.Pre_finite.Gen.facts) m) (c : Dev nD) :
    (args m c).Finite := by
  have h0 := congrFun (h c) ix0
  unfold Cert.Pre_finite.fn Cert.Pre_finite.fn_part1 Cert.Pre_finite.fn_part2 at h0
  simp only [andi_apply, IntOp.andi_eq_one] at h0
  obtain ⟨⟨⟨⟨⟨⟨⟨⟨h0, h1⟩, h2⟩, h3⟩, h4⟩, h5⟩, h6⟩, h7⟩, h8⟩ := h0
  exact ⟨fun i d => isReal_of_lt _ (Host.reduce_andi_all _ _ _ _ _ h0 (ix2 i d)),
    fun i d => isReal_of_lt _ (Host.reduce_andi_all _ _ _ _ _ h1 (ix2 i d)),
    fun d => isReal_of_lt _ (Host.reduce_andi_all _ _ _ _ _ h2 (ix1 d)),
    fun d => isReal_of_lt _ (Host.reduce_andi_all _ _ _ _ _ h3 (ix1 d)),
    fun d => isReal_of_lt _ (Host.reduce_andi_all _ _ _ _ _ h4 (ix1 d)),
    fun d => isReal_of_lt _ (Host.reduce_andi_all _ _ _ _ _ h5 (ix1 d)),
    fun j d f => isReal_of_lt _ (Host.reduce_andi_all _ _ _ _ _ h6 (ix5 0 0 j d f)),
    fun j d f => isReal_of_lt _ (Host.reduce_andi_all _ _ _ _ _ h7 (ix5 0 0 j d f)),
    fun j f d => isReal_of_lt _ (Host.reduce_andi_all _ _ _ _ _ h8 (ix5 0 0 j f d))⟩

end Cert.KernelIdeal.Ffn
-- ==== Proof.CondBwd.lean ====
/- The gradient of the conditioning layer: its weight's and its bias's, through the SiLU, from the chips' parts. -/
module

public import proofs.«01_k».proof.Defs
public import proofs.«01_k».proof.Proof.Gen.CondBwdIdeal
public import proofs.«01_k».proof.Proof.Gen.CondBwdIdeal.Frame
public import proofs.«01_k».proof.Proof.Gen.CondBwdReferenceIdeal
public import proofs.«01_k».proof.Proof.Gen.CondBwdReferenceIdeal.Run
public import proofs.«01_k».proof.Proof.Gen.CondBwdIdeal.Value
public import proofs.«01_k».proof.Proof.Gen.Pre_finite_pre
public import proofs.«01_k».proof.Proof.FfnReal
public import proofs.«01_k».proof.Proof.FfnRun
public import Idealize.ShloMosaic.Lib.ReduceAll
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CondBwdIdeal.Step

open Cert.CondBwdIdeal Cert.CondBwdIdeal.Gen

variable (m : (ℓ : Loc nD τ sig) → Buf (Elt Ideal) ℓ) (ρ : Dev nD → PrngReg)

/-- The conditioning's gradient at an element: the sum of the four chips' parts. -/
def part (a : Vec Ideal S8x8x1024 .f32) (b : Fin 8) (d : Fin 1024) : EReal :=
  a (ix3 0 b d) + a (ix3 2 b d) + a (ix3 4 b d) + a (ix3 6 b d)

/-- The SiLU's gradient `q` at `v`, with the slope as one factor. -/
def silu (q v : EReal) : EReal := q * (Ideal.logistic v * (1 + v * (1 - Ideal.logistic v)))

/-- The SiLU's gradient `q` at `v`, as the sum of what its two factors pass on. -/
def siluSplit (q v : EReal) : EReal := q * Ideal.logistic v + v * q * (Ideal.logistic v * (1 - Ideal.logistic v))

/-- The gradient at the SiLU's input, with the slope as one factor. -/
def slope (a : Vec Ideal S8x8x1024 .f32) (p : Vec Ideal S8x1024 .f32) (b : Fin 8) (d : Fin 1024) : EReal :=
  silu (part a b d) (p (ix2 b d))

/-- The gradient at the SiLU's input, as the sum of what its two factors pass on. -/
def split (a : Vec Ideal S8x8x1024 .f32) (p : Vec Ideal S8x1024 .f32) (b : Fin 8) (d : Fin 1024) : EReal :=
  siluSplit (part a b d) (p (ix2 b d))

/-- The weight's gradient from the gradient at the SiLU's input. -/
def weight (g : Fin 8 → Fin 1024 → EReal) (x : Vec Ideal S8x256 .f32) : Vec Ideal S256x1024 .f32 :=
  fun i => (∑ b : Fin 8, ((x (ix2 b (i 0)) : EReal) * g b (i 1)) : EReal)

/-- The bias's gradient from the gradient at the SiLU's input. -/
def bias (g : Fin 8 → Fin 1024 → EReal) : Vec Ideal S1x1024 .f32 :=
  fun i => (∑ b : Fin 8, g b (i 1) : EReal)

/-- Sums of equal terms are equal. -/
theorem sum_same {n : Nat} {f g : Fin n → EReal} (h : ∀ k, f k = g k) : (∑ k : Fin n, f k) = ∑ k : Fin n, g k :=
  Finset.sum_congr rfl fun k _ => h k

/-- On reals the two forms of the SiLU's gradient agree. -/
theorem silu_eq {q v : EReal} (hq : Cert.Ffn.IsReal q) (hv : Cert.Ffn.IsReal v) : siluSplit q v = silu q v := by
  obtain ⟨s, hs⟩ := Cert.Ffn.IsReal.logistic hv
  obtain ⟨q, rfl⟩ := hq
  obtain ⟨r, rfl⟩ := hv
  unfold siluSplit silu
  rw [hs]
  norm_cast
  ring

/-- Under the precondition the summed parts and the SiLU's inputs are real. -/
theorem finite (h : Cert.Pre_CondBwdIdeal_finite_pre (hPre_finite_pre := Cert.Pre_finite_pre.Gen.facts) m) (c : Dev nD) (b : Fin 8) (d : Fin 1024) :
    Cert.Ffn.IsReal (part (m (c.tc.loc main_arg0)) b d) ∧ Cert.Ffn.IsReal ((m (c.tc.loc main_arg1)) (ix2 b d)) := by
  have h0 := congrFun (h c) ix0
  unfold Cert.Pre_finite_pre.fn at h0
  simp only [andi_apply, IntOp.andi_eq_one] at h0
  obtain ⟨h0, h1⟩ := h0
  refine ⟨?_, Cert.KernelIdeal.Ffn.isReal_of_lt _ (Host.reduce_andi_all _ _ _ _ _ h1 (ix2 b d))⟩
  have h2 := Host.reduce_andi_all _ _ _ _ _ h0 (ix2 b d)
  generalize m (c.tc.loc main_arg0) = a at h2 ⊢
  refine Cert.KernelIdeal.Ffn.isReal_of_lt _ ?_
  rw [← h2]
  unfold part
  pointwise
  rfl

/-- Every window's block index at a grid point. -/
theorem idx : ∀ t : Fin cfg0.N, win0_0.index t = ![0, 0, 0] ∧ win0_1.index t = ![0, 0] ∧ win0_2.index t = ![0, 0]
    ∧ win0_3.index t = ![0, 0] ∧ win0_4.index t = ![0, 0] :=
  (by decide +kernel : ∀ t : Fin grid0.N, _)

/-- The weight's gradient from the blocks. -/
theorem block3 (x0 : Vec Ideal S8x8x1024 .f32) (x1 : Vec Ideal S8x1024 .f32) (x2 : Vec Ideal S8x256 .f32) (y : S256x1024.Idx) :
    out0_3 x0 x1 x2 y = weight (slope x0 x1) x2 y := by
  unfold out0_3
  open_payloads
  frame_out
  unfold weight slope silu part
  idx_vars y
  pointwise

/-- The bias's gradient from the blocks. -/
theorem block4 (x0 : Vec Ideal S8x8x1024 .f32) (x1 : Vec Ideal S8x1024 .f32) (x2 : Vec Ideal S8x256 .f32) (y : S1x1024.Idx) :
    out0_4 x0 x1 x2 y = bias (slope x0 x1) y := by
  unfold out0_4
  open_payloads
  frame_out
  unfold bias slope silu part
  idx_vars y
  pointwise

/-- The first block is the whole argument. -/
theorem whole0 (c : Dev nD) (t : Fin cfg0.N) : iblk m c 0 t = m (c.tc.loc main_arg0) := by
  funext y
  idx_vars y
  blk_ext [iblk, V_main_arg0, (idx t).1]

/-- The second block is the whole argument. -/
theorem whole1 (c : Dev nD) (t : Fin cfg0.N) : iblk m c 1 t = m (c.tc.loc main_arg1) := by
  funext y
  idx_vars y
  blk_ext [iblk, V_main_arg1, (idx t).2.1]

/-- The third block is the whole argument. -/
theorem whole2 (c : Dev nD) (t : Fin cfg0.N) : iblk m c 2 t = m (c.tc.loc main_arg2) := by
  funext y
  idx_vars y
  blk_ext [iblk, V_main_arg2, (idx t).2.2.1]

/-- The weight's gradient after the call. -/
theorem left3 (c : Dev nD) : (dats m 0 c).arrAt 3 cfg0.N
    = weight (slope (m (c.tc.loc main_arg0)) (m (c.tc.loc main_arg1))) (m (c.tc.loc main_arg2)) := by
  refine (dats m 0 c).arrAt_eq_of_covers 3 (weight (slope (m (c.tc.loc main_arg0)) (m (c.tc.loc main_arg1))) (m (c.tc.loc main_arg2))) (by decide +kernel) fun t hf y => ?_
  rw [after0_3, whole0, whole1, whole2]
  blk_simp
  rw [block3]
  refine congrArg (weight _ _) ?_
  blk_ext [(idx t).2.2.2.1]

/-- The bias's gradient after the call. -/
theorem left4 (c : Dev nD) : (dats m 0 c).arrAt 4 cfg0.N
    = bias (slope (m (c.tc.loc main_arg0)) (m (c.tc.loc main_arg1))) := by
  refine (dats m 0 c).arrAt_eq_of_covers 4 (bias (slope (m (c.tc.loc main_arg0)) (m (c.tc.loc main_arg1)))) (by decide +kernel) fun t hf y => ?_
  rw [after0_4, whole0, whole1, whole2]
  blk_simp
  rw [block4]
  refine congrArg (bias _) ?_
  blk_ext [(idx t).2.2.2.2]

/-- Every run of the call ends with the two gradients and keeps the arguments. -/
theorem run : θ_run (defs (F := Ideal)) (onTc (τ := τ) (main (F := Ideal))) ⟨m, fun _ => 0, ρ⟩ fun r => ∀ c : Dev nD,
    r.2.mem (c.tc.loc main_v0_0) = (weight (slope (m (c.tc.loc main_arg0)) (m (c.tc.loc main_arg1))) (m (c.tc.loc main_arg2)))
      ∧ r.2.mem (c.tc.loc main_v0_1) = (bias (slope (m (c.tc.loc main_arg0)) (m (c.tc.loc main_arg1))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left3 m c), (h c).2.1.trans (left4 m c), (h c).2.2⟩)
    (CondBwdIdeal.Value.run_blocks m ρ)

/-- Every run of the reference ends with the gradients of its own arguments and keeps them. -/
theorem reference (m : (ℓ : Loc CondBwdReferenceIdeal.nD CondBwdReferenceIdeal.τ CondBwdReferenceIdeal.sig) → Buf (Elt Ideal) ℓ) (ρ : Dev CondBwdReferenceIdeal.nD → PrngReg) :
    θ_run (CondBwdReferenceIdeal.defs (F := Ideal)) (onTc (τ := CondBwdReferenceIdeal.τ) (CondBwdReferenceIdeal.main (F := Ideal))) ⟨m, fun _ => 0, ρ⟩ fun r =>
      ∀ c : Dev CondBwdReferenceIdeal.nD, (r.2.mem (c.tc.loc CondBwdReferenceIdeal.main_v21) = (weight (split (m (c.tc.loc CondBwdReferenceIdeal.main_arg0)) (m (c.tc.loc CondBwdReferenceIdeal.main_arg1))) (m (c.tc.loc CondBwdReferenceIdeal.main_arg2)))
      ∧ r.2.mem (c.tc.loc CondBwdReferenceIdeal.main_v19) = (bias (split (m (c.tc.loc CondBwdReferenceIdeal.main_arg0)) (m (c.tc.loc CondBwdReferenceIdeal.main_arg1)))))
      ∧ r.2.mem (c.tc.loc CondBwdReferenceIdeal.main_arg0) = m (c.tc.loc CondBwdReferenceIdeal.main_arg0)
      ∧ r.2.mem (c.tc.loc CondBwdReferenceIdeal.main_arg1) = m (c.tc.loc CondBwdReferenceIdeal.main_arg1)
      ∧ r.2.mem (c.tc.loc CondBwdReferenceIdeal.main_arg2) = m (c.tc.loc CondBwdReferenceIdeal.main_arg2) := by
  refine (θ_run _ _ _).mono (fun r h c => ?_) (CondBwdReferenceIdeal.Value.run m ρ)
  obtain ⟨h0, h1, hkeep⟩ := h c
  refine ⟨⟨h0.trans ?_, h1.trans ?_⟩, hkeep⟩
  · funext i
    unfold weight split siluSplit part
    idx_vars i
    pointwise
    refine sum_same fun b => ?_
    rw [mul_comm]
    rfl
  · funext i
    unfold bias split siluSplit part
    idx_vars i
    pointwise
    rfl

/-- The reference runs, keeps its arguments and declares no semaphore. -/
theorem frameReference : Cert.quiescent_CondBwdReferenceIdeal (hCondBwdReferenceIdeal := CondBwdReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_CondBwdIdeal_CondBwdReferenceIdeal_pre_finite_pre (hCondBwdIdeal := Cert.CondBwdIdeal.Gen.facts) (hCondBwdReferenceIdeal := CondBwdReferenceIdeal.Gen.facts) (hPre_finite_pre := Cert.Pre_finite_pre.Gen.facts) := by
  intro m ρ m' ρ' hpre hargs
  refine ⟨fun c => (weight (slope (m (c.tc.loc main_arg0)) (m (c.tc.loc main_arg1))) (m (c.tc.loc main_arg2))),
    fun c => (bias (slope (m (c.tc.loc main_arg0)) (m (c.tc.loc main_arg1)))),
    run m ρ, (θ_run _ _ _).mono (fun r h c => ?_) (reference m' ρ')⟩
  obtain ⟨hv, hkeep⟩ := h c
  obtain ⟨a0, a1, a2⟩ := hargs c
  rw [a0, a1, a2] at hv
  have e : split (m (c.tc.loc main_arg0)) (m (c.tc.loc main_arg1))
      = slope (m (c.tc.loc main_arg0)) (m (c.tc.loc main_arg1)) :=
    funext fun b => funext fun d => silu_eq (finite m hpre c b d).1 (finite m hpre c b d).2
  rw [e] at hv
  obtain ⟨h0, h1⟩ := hv
  exact ⟨h0, h1, hkeep⟩

end Cert.CondBwdIdeal.Step
-- ==== Proof.SumAda.lean ====
/- The gradient of the modulation bias: the sum of the eight devices' gradients, and its reference. -/
module

public import proofs.«01_k».proof.Defs
public import proofs.«01_k».proof.Proof.Gen.SumAdaIdeal
public import proofs.«01_k».proof.Proof.Gen.SumAdaIdeal.Frame
public import proofs.«01_k».proof.Proof.Gen.SumAdaReferenceIdeal
public import proofs.«01_k».proof.Proof.Gen.SumAdaReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumAdaIdeal.Step

open Cert.SumAdaIdeal Cert.SumAdaIdeal.Gen

variable (m : (ℓ : Loc nD τ sig) → Buf (Elt Ideal) ℓ) (ρ : Dev nD → PrngReg)

/-- The sum over the devices. -/
def total (a : Vec Ideal S8x4x9216 .f32) : Vec Ideal S4x9216 .f32 :=
  fun i => (∑ k : Fin 8, (a (ix3 k (i 0) (i 1)) : EReal) : EReal)

/-- Sums of equal terms are equal. -/
theorem sum_same {n : Nat} {f g : Fin n → EReal} (h : ∀ k, f k = g k) : (∑ k : Fin n, f k) = ∑ k : Fin n, g k :=
  Finset.sum_congr rfl fun k _ => h k

/-- Every window's block index at a grid point. -/
theorem idx : ∀ t : Fin cfg0.N, win0_0.index t = ![0, 0, 0] ∧ win0_1.index t = ![0, 0] :=
  (by decide +kernel : ∀ t : Fin grid0.N, _)

/-- The sums of the block. -/
theorem block1 (x0 : Vec Ideal S8x4x9216 .f32) (y : S4x9216.Idx) :
    out0_1 x0 y = (∑ k : Fin 8, (x0 (ix3 k (y 0) (y 1)) : EReal) : EReal) := by
  unfold out0_1
  open_payloads
  frame_out
  idx_vars y
  pointwise
  exact (Fin.sum_univ_eight fun k : Fin 8 => (x0 (ix3 k y0 y1) : EReal)).symm

/-- The sums after the call. -/
theorem rows1 (c : Dev nD) : (dats m 0 c).arrAt 1 cfg0.N = total (m (c.tc.loc main_arg0)) := by
  refine (dats m 0 c).arrAt_eq_of_covers 1 (total (m (c.tc.loc main_arg0))) (by decide +kernel) fun t hf y => ?_
  rw [after0_1]
  generalize e0 : iblk m c 0 t = x0
  blk_simp
  rw [block1, ← e0]
  unfold total
  refine sum_same fun k => ?_
  blk_ext [iblk, V_main_arg0, (idx t).1, (idx t).2]

/-- Every run of the call ends with the sum and keeps the argument. -/
theorem run : θ_run (defs (F := Ideal)) (onTc (τ := τ) (main (F := Ideal))) ⟨m, fun _ => 0, ρ⟩ fun r => ∀ c : Dev nD,
    r.2.mem (c.tc.loc main_v0) = (total (m (c.tc.loc main_arg0)))
      ∧ r.2.mem (c.tc.loc main_arg0) = m (c.tc.loc main_arg0) :=
  (θ_run defs _ _).mono (fun r h c => ⟨((h c).1 1).trans (rows1 m c),
    ((h c).1 0).trans (((dats m 0 c).arrAt_in 0 rfl cfg0.N).trans ((A_eq m c 0).trans (V_main_arg0 m c)))⟩) (run_main m ρ)

/-- Every run of the reference ends with the same arrays of its own arguments and keeps them. -/
theorem reference (m : (ℓ : Loc SumAdaReferenceIdeal.nD SumAdaReferenceIdeal.τ SumAdaReferenceIdeal.sig) → Buf (Elt Ideal) ℓ) (ρ : Dev SumAdaReferenceIdeal.nD → PrngReg) :
    θ_run (SumAdaReferenceIdeal.defs (F := Ideal)) (onTc (τ := SumAdaReferenceIdeal.τ) (SumAdaReferenceIdeal.main (F := Ideal))) ⟨m, fun _ => 0, ρ⟩ fun r =>
      ∀ c : Dev SumAdaReferenceIdeal.nD, (r.2.mem (c.tc.loc SumAdaReferenceIdeal.main_v0) = (total (m (c.tc.loc SumAdaReferenceIdeal.main_arg0))))
      ∧ r.2.mem (c.tc.loc SumAdaReferenceIdeal.main_arg0) = m (c.tc.loc SumAdaReferenceIdeal.main_arg0) := by
  refine (θ_run _ _ _).mono (fun r h c => ?_) (SumAdaReferenceIdeal.Value.run m ρ)
  obtain ⟨h0, hkeep⟩ := h c
  refine ⟨h0.trans ?_, hkeep⟩
  funext i
  unfold total
  idx_vars i
  pointwise

/-- The reference runs, keeps its arguments and declares no semaphore. -/
theorem frameReference : Cert.quiescent_SumAdaReferenceIdeal (hSumAdaReferenceIdeal := SumAdaReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumAdaIdeal_SumAdaReferenceIdeal (hSumAdaIdeal := Cert.SumAdaIdeal.Gen.facts) (hSumAdaReferenceIdeal := SumAdaReferenceIdeal.Gen.facts) := by
  intro m ρ m' ρ' _ hargs
  refine ⟨fun c => (total (m (c.tc.loc main_arg0))),
    run m ρ, (θ_run _ _ _).mono (fun r h c => ?_) (reference m' ρ')⟩
  obtain ⟨hv, hkeep⟩ := h c
  have a0 := hargs c
  rw [a0] at hv
  exact ⟨hv, hkeep⟩

end Cert.SumAdaIdeal.Step
-- ==== Proof.SumSmall.lean ====
/- The gradients of the small weights: the sum of the eight devices' packed gradients, unpacked and cut to this chip's share, and its reference. -/
module

public import proofs.«01_k».proof.Defs
public import proofs.«01_k».proof.Proof.Gen.SumSmallIdeal
public import proofs.«01_k».proof.Proof.Gen.SumSmallIdeal.Frame
public import proofs.«01_k».proof.Proof.Gen.SumSmallReferenceIdeal
public import proofs.«01_k».proof.Proof.Gen.SumSmallReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic

namespace Cert.SumSmallReferenceIdeal.Parts

open Cert.SumSmallReferenceIdeal Cert.SumSmallReferenceIdeal.Gen

/-- The small gradient number 0 in the packed rows `x`, as this chip keeps it. -/
def part0 (x : Vec Ideal S2768x128 .f32) (chip : Vec Ideal S_ .i32) : Vec Ideal S4x3x256 .f32 :=
  Host.dynamicSlice S4x3x256 (shapeCast _ (extractStridedSlice S12288 ![0] (shapeCast _ x shapeCasts_S2768x128_S354304) slices_S354304_S12288_0) shapeCasts_S12288_S4x3x1024) (fun k => (((![constantI S_ 32 0#32, constantI S_ 32 0#32, select (cmpi .slt (muli chip (constantI S_ 32 256#32)) (constantI S_ 32 0#32)) (addi (muli chip (constantI S_ 32 256#32)) (constantI S_ 32 1024#32)) (muli chip (constantI S_ 32 256#32))] : Fin 3 → (⟨S_, .i32⟩ : BufTy).Contents (Elt Ideal))) k (Shape.Idx.first h_S_)).toInt) sliceFits_S4x3x1024_S4x3x256

/-- The small gradient number 1 in the packed rows `x`, as this chip keeps it. -/
def part1 (x : Vec Ideal S2768x128 .f32) (chip : Vec Ideal S_ .i32) : Vec Ideal S2x512 .f32 :=
  Host.dynamicSlice S2x512 (shapeCast _ (extractStridedSlice S4096 ![12288] (shapeCast _ x shapeCasts_S2768x128_S354304) slices_S354304_S4096_12288) shapeCasts_S4096_S2x2048) (fun k => (((![constantI S_ 32 0#32, select (cmpi .slt (muli chip (constantI S_ 32 512#32)) (constantI S_ 32 0#32)) (addi (muli chip (constantI S_ 32 512#32)) (constantI S_ 32 2048#32)) (muli chip (constantI S_ 32 512#32))] : Fin 2 → (⟨S_, .i32⟩ : BufTy).Contents (Elt Ideal))) k (Shape.Idx.first h_S_)).toInt) sliceFits_S2x2048_S2x512

/-- The small gradient number 2 in the packed rows `x`, as this chip keeps it. -/
def part2 (x : Vec Ideal S2768x128 .f32) (chip : Vec Ideal S_ .i32) : Vec Ideal S2x31x256 .f32 :=
  Host.dynamicSlice S2x31x256 (shapeCast _ (extractStridedSlice S63488 ![16384] (shapeCast _ x shapeCasts_S2768x128_S354304) slices_S354304_S63488_16384) shapeCasts_S63488_S2x31x1024) (fun k => (((![constantI S_ 32 0#32, constantI S_ 32 0#32, select (cmpi .slt (muli chip (constantI S_ 32 256#32)) (constantI S_ 32 0#32)) (addi (muli chip (constantI S_ 32 256#32)) (constantI S_ 32 1024#32)) (muli chip (constantI S_ 32 256#32))] : Fin 3 → (⟨S_, .i32⟩ : BufTy).Contents (Elt Ideal))) k (Shape.Idx.first h_S_)).toInt) sliceFits_S2x31x1024_S2x31x256

/-- The small gradient number 3 in the packed rows `x`, as this chip keeps it. -/
def part3 (x : Vec Ideal S2768x128 .f32) (chip : Vec Ideal S_ .i32) : Vec Ideal S2x256 .f32 :=
  Host.dynamicSlice S2x256 (shapeCast _ (extractStridedSlice S2048 ![79872] (shapeCast _ x shapeCasts_S2768x128_S354304) slices_S354304_S2048_79872) shapeCasts_S2048_S2x1024) (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S2x1024_S2x256

/-- The small gradient number 4 in the packed rows `x`, as this chip keeps it. -/
def part4 (x : Vec Ideal S2768x128 .f32) (chip : Vec Ideal S_ .i32) : Vec Ideal S2x256 .f32 :=
  Host.dynamicSlice S2x256 (shapeCast _ (extractStridedSlice S2048 ![81920] (shapeCast _ x shapeCasts_S2768x128_S354304) slices_S354304_S2048_81920) shapeCasts_S2048_S2x1024) (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S2x1024_S2x256

/-- The small gradient number 5 in the packed rows `x`, as this chip keeps it. -/
def part5 (x : Vec Ideal S2768x128 .f32) (chip : Vec Ideal S_ .i32) : Vec Ideal S2x256 .f32 :=
  Host.dynamicSlice S2x256 (shapeCast _ (extractStridedSlice S2048 ![83968] (shapeCast _ x shapeCasts_S2768x128_S354304) slices_S354304_S2048_83968) shapeCasts_S2048_S2x1024) (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S2x1024_S2x256

/-- The small gradient number 6 in the packed rows `x`, as this chip keeps it. -/
def part6 (x : Vec Ideal S2768x128 .f32) (chip : Vec Ideal S_ .i32) : Vec Ideal S2x256 .f32 :=
  Host.dynamicSlice S2x256 (shapeCast _ (extractStridedSlice S2048 ![86016] (shapeCast _ x shapeCasts_S2768x128_S354304) slices_S354304_S2048_86016) shapeCasts_S2048_S2x1024) (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S2x1024_S2x256

/-- The small gradient number 7 in the packed rows `x`, as this chip keeps it. -/
def part7 (x : Vec Ideal S2768x128 .f32) (chip : Vec Ideal S_ .i32) : Vec Ideal S1x4x64x256 .f32 :=
  Host.dynamicSlice S1x4x64x256 (shapeCast _ (extractStridedSlice S262144 ![88064] (shapeCast _ x shapeCasts_S2768x128_S354304) slices_S354304_S262144_88064) shapeCasts_S262144_S1x4x256x256) (fun k => (((![constantI S_ 32 0#32, constantI S_ 32 0#32, select (cmpi .slt (muli chip (constantI S_ 32 64#32)) (constantI S_ 32 0#32)) (addi (muli chip (constantI S_ 32 64#32)) (constantI S_ 32 256#32)) (muli chip (constantI S_ 32 64#32)), constantI S_ 32 0#32] : Fin 4 → (⟨S_, .i32⟩ : BufTy).Contents (Elt Ideal))) k (Shape.Idx.first h_S_)).toInt) sliceFits_S1x4x256x256_S1x4x64x256

/-- The small gradient number 8 in the packed rows `x`, as this chip keeps it. -/
def part8 (x : Vec Ideal S2768x128 .f32) (chip : Vec Ideal S_ .i32) : Vec Ideal S1x4x64 .f32 :=
  Host.dynamicSlice S1x4x64 (shapeCast _ (extractStridedSlice S1024 ![350208] (shapeCast _ x shapeCasts_S2768x128_S354304) slices_S354304_S1024_350208) shapeCasts_S1024_S1x4x256) (fun k => (((![constantI S_ 32 0#32, constantI S_ 32 0#32, select (cmpi .slt (muli chip (constantI S_ 32 64#32)) (constantI S_ 32 0#32)) (addi (muli chip (constantI S_ 32 64#32)) (constantI S_ 32 256#32)) (muli chip (constantI S_ 32 64#32))] : Fin 3 → (⟨S_, .i32⟩ : BufTy).Contents (Elt Ideal))) k (Shape.Idx.first h_S_)).toInt) sliceFits_S1x4x256_S1x4x64

/-- The small gradient number 9 in the packed rows `x`, as this chip keeps it. -/
def part9 (x : Vec Ideal S2768x128 .f32) (chip : Vec Ideal S_ .i32) : Vec Ideal S1x256 .f32 :=
  Host.dynamicSlice S1x256 (shapeCast _ (extractStridedSlice S1024 ![351232] (shapeCast _ x shapeCasts_S2768x128_S354304) slices_S354304_S1024_351232) shapeCasts_S1024_S1x1024) (fun k => (((![constantI S_ 32 0#32, select (cmpi .slt (muli chip (constantI S_ 32 256#32)) (constantI S_ 32 0#32)) (addi (muli chip (constantI S_ 32 256#32)) (constantI S_ 32 1024#32)) (muli chip (constantI S_ 32 256#32))] : Fin 2 → (⟨S_, .i32⟩ : BufTy).Contents (Elt Ideal))) k (Shape.Idx.first h_S_)).toInt) sliceFits_S1x1024_S1x256

/-- The small gradient number 10 in the packed rows `x`, as this chip keeps it. -/
def part10 (x : Vec Ideal S2768x128 .f32) (chip : Vec Ideal S_ .i32) : Vec Ideal S1x64 .f32 :=
  shapeCast _ (extractStridedSlice S64 ![352256] (shapeCast _ x shapeCasts_S2768x128_S354304) slices_S354304_S64_352256) shapeCasts_S64_S1x64

/-- The small gradient number 11 in the packed rows `x`, as this chip keeps it. -/
def part11 (x : Vec Ideal S2768x128 .f32) (chip : Vec Ideal S_ .i32) : Vec Ideal S1x64 .f32 :=
  shapeCast _ (extractStridedSlice S64 ![352320] (shapeCast _ x shapeCasts_S2768x128_S354304) slices_S354304_S64_352320) shapeCasts_S64_S1x64

end Cert.SumSmallReferenceIdeal.Parts

open Idealize.ShloMosaic Idealize.ShloMosaic.TcCoe Idealize.SL.Sem
open Idealize.ShloMosaic.Pipeline (Dat)

namespace Cert.SumSmallIdeal.Step

open Cert.SumSmallIdeal Cert.SumSmallIdeal.Gen

variable (m : (ℓ : Loc nD τ sig) → Buf (Elt Ideal) ℓ) (ρ : Dev nD → PrngReg)

open SumSmallReferenceIdeal.Parts

/-- The sum over the devices. -/
def total (a : Vec Ideal S8x2768x128 .f32) : Vec Ideal S2768x128 .f32 :=
  fun i => (∑ k : Fin 8, (a (ix3 k (i 0) (i 1)) : EReal) : EReal)

/-- Sums of equal terms are equal. -/
theorem sum_same {n : Nat} {f g : Fin n → EReal} (h : ∀ k, f k = g k) : (∑ k : Fin n, f k) = ∑ k : Fin n, g k :=
  Finset.sum_congr rfl fun k _ => h k

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S8x1384x128 .f32) (y : S1384x128.Idx) :
    out0_1 x0 y = (∑ k : Fin 8, (x0 (ix3 k (y 0) (y 1)) : EReal) : EReal) := by
  unfold out0_1
  open_payloads
  frame_out
  idx_vars y
  pointwise
  exact (Fin.sum_univ_eight fun k : Fin 8 => (x0 (ix3 k y0 y1) : EReal)).symm

/-- The sums after the call. -/
theorem rows1 (c : Dev nD) : (dats m 0 c).arrAt 1 cfg0.N = total (m (c.tc.loc main_arg0)) := by
  refine (dats m 0 c).arrAt_eq_of_covers 1 (total (m (c.tc.loc main_arg0))) (by decide +kernel) fun t hf y => ?_
  rw [after0_1]
  generalize e0 : iblk m c 0 t = x0
  blk_simp
  rw [block1, ← e0]
  unfold total
  refine sum_same fun k => ?_
  blk_ext [iblk, V_main_arg0, (idx t).1, (idx t).2]

/-- The rows the host lines after the call find. -/
theorem found (c : Dev nD) : (Pipeline.withArrays spec0 c (V0 m c) (fun w => (dats m 0 c).arrAt w cfg0.N) (Proc.devRef .tc main_v0))
    = total (m (c.tc.loc main_arg0)) :=
  (Pipeline.withArrays_arr spec0 launch0.win.arr_inj c _ _ 1).trans (rows1 m c)

/-- The chip's number the host lines after the call find. -/
theorem found_chip (c : Dev nD) : (Pipeline.withArrays spec0 c (V0 m c) (fun w => (dats m 0 c).arrAt w cfg0.N) (Proc.devRef .tc main_arg1))
    = m (c.tc.loc main_arg1) :=
  (Pipeline.withArrays_of_ne spec0 c (V0 m c) _ main_arg1 (by exact (by decide : ∀ w, Pipeline.arrRef spec0 w ≠ main_arg1))).trans (V_main_arg1 m c)

set_option maxHeartbeats 4000000 in
/-- The small gradient number 0 at the end. -/
theorem tail0 (c : Dev nD) : Pipeline.afterTail₀ cfgs (dats m) 0 (V0 m) [hostOps1] c main_v30
    = part0 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part0
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 1 at the end. -/
theorem tail1 (c : Dev nD) : Pipeline.afterTail₀ cfgs (dats m) 0 (V0 m) [hostOps1] c main_v35
    = part1 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part1
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 2 at the end. -/
theorem tail2 (c : Dev nD) : Pipeline.afterTail₀ cfgs (dats m) 0 (V0 m) [hostOps1] c main_v40
    = part2 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part2
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 3 at the end. -/
theorem tail3 (c : Dev nD) : Pipeline.afterTail₀ cfgs (dats m) 0 (V0 m) [hostOps1] c main_v45
    = part3 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part3
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 4 at the end. -/
theorem tail4 (c : Dev nD) : Pipeline.afterTail₀ cfgs (dats m) 0 (V0 m) [hostOps1] c main_v50
    = part4 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part4
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 5 at the end. -/
theorem tail5 (c : Dev nD) : Pipeline.afterTail₀ cfgs (dats m) 0 (V0 m) [hostOps1] c main_v55
    = part5 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part5
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 6 at the end. -/
theorem tail6 (c : Dev nD) : Pipeline.afterTail₀ cfgs (dats m) 0 (V0 m) [hostOps1] c main_v60
    = part6 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part6
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 7 at the end. -/
theorem tail7 (c : Dev nD) : Pipeline.afterTail₀ cfgs (dats m) 0 (V0 m) [hostOps1] c main_v65
    = part7 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part7
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 8 at the end. -/
theorem tail8 (c : Dev nD) : Pipeline.afterTail₀ cfgs (dats m) 0 (V0 m) [hostOps1] c main_v70
    = part8 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part8
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 9 at the end. -/
theorem tail9 (c : Dev nD) : Pipeline.afterTail₀ cfgs (dats m) 0 (V0 m) [hostOps1] c main_v75
    = part9 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part9
  after_results_simp
  congr 1
  funext k
  fin_cases k <;> (try simp only [Matrix.cons_val_zero', Matrix.cons_val_succ', Fin.zero_eta, Fin.mk_one, Matrix.cons_val_zero, Matrix.cons_val_one, Matrix.head_cons]) <;> (try after_results_simp) <;> rfl

set_option maxHeartbeats 4000000 in
/-- The small gradient number 10 at the end. -/
theorem tail10 (c : Dev nD) : Pipeline.afterTail₀ cfgs (dats m) 0 (V0 m) [hostOps1] c main_v23
    = part10 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part10
  after_results_simp
  rfl

set_option maxHeartbeats 4000000 in
/-- The small gradient number 11 at the end. -/
theorem tail11 (c : Dev nD) : Pipeline.afterTail₀ cfgs (dats m) 0 (V0 m) [hostOps1] c main_v25
    = part11 (total (m (c.tc.loc main_arg0))) (m (c.tc.loc main_arg1)) := by
  rw [← found m c, ← found_chip m c]
  unfold Pipeline.afterTail₀
  rw [List.flatten_cons, List.flatten_nil, List.append_nil]
  generalize Pipeline.withArrays spec0 c (V0 m c) (fun w => (dats m 0 c).arrAt w cfg0.N) = u
  unfold part11
  after_results_simp
  rfl

/-- Every run of the call ends with the twelve gradients and keeps the arguments. -/
theorem run : θ_run (defs (F := Ideal)) (onTc (τ := τ) (main (F := Ideal))) ⟨m, fun _ => 0, ρ⟩ fun r => ∀ c : Dev nD,
    r.2.mem (c.tc.loc main_v30) = (SumSmallReferenceIdeal.Parts.part0 (total (m (c.tc.loc main_arg0))) (m (c.tc.loc main_arg1)))
      ∧ r.2.mem (c.tc.loc main_v35) = (SumSmallReferenceIdeal.Parts.part1 (total (m (c.tc.loc main_arg0))) (m (c.tc.loc main_arg1)))
      ∧ r.2.mem (c.tc.loc main_v40) = (SumSmallReferenceIdeal.Parts.part2 (total (m (c.tc.loc main_arg0))) (m (c.tc.loc main_arg1)))
      ∧ r.2.mem (c.tc.loc main_v45) = (SumSmallReferenceIdeal.Parts.part3 (total (m (c.tc.loc main_arg0))) (m (c.tc.loc main_arg1)))
      ∧ r.2.mem (c.tc.loc main_v50) = (SumSmallReferenceIdeal.Parts.part4 (total (m (c.tc.loc main_arg0))) (m (c.tc.loc main_arg1)))
      ∧ r.2.mem (c.tc.loc main_v55) = (SumSmallReferenceIdeal.Parts.part5 (total (m (c.tc.loc main_arg0))) (m (c.tc.loc main_arg1)))
      ∧ r.2.mem (c.tc.loc main_v60) = (SumSmallReferenceIdeal.Parts.part6 (total (m (c.tc.loc main_arg0))) (m (c.tc.loc main_arg1)))
      ∧ r.2.mem (c.tc.loc main_v65) = (SumSmallReferenceIdeal.Parts.part7 (total (m (c.tc.loc main_arg0))) (m (c.tc.loc main_arg1)))
      ∧ r.2.mem (c.tc.loc main_v70) = (SumSmallReferenceIdeal.Parts.part8 (total (m (c.tc.loc main_arg0))) (m (c.tc.loc main_arg1)))
      ∧ r.2.mem (c.tc.loc main_v75) = (SumSmallReferenceIdeal.Parts.part9 (total (m (c.tc.loc main_arg0))) (m (c.tc.loc main_arg1)))
      ∧ r.2.mem (c.tc.loc main_v23) = (SumSmallReferenceIdeal.Parts.part10 (total (m (c.tc.loc main_arg0))) (m (c.tc.loc main_arg1)))
      ∧ r.2.mem (c.tc.loc main_v25) = (SumSmallReferenceIdeal.Parts.part11 (total (m (c.tc.loc main_arg0))) (m (c.tc.loc main_arg1)))
      ∧ r.2.mem (c.tc.loc main_arg0) = m (c.tc.loc main_arg0)
      ∧ r.2.mem (c.tc.loc main_arg1) = m (c.tc.loc main_arg1) :=
  (θ_run defs _ _).mono (fun r h c => ⟨((h c).2 main_v30 (Pipeline.mem_restRefs_of main_v30 (by decide) (by decide))).trans (tail0 m c),
    ((h c).2 main_v35 (Pipeline.mem_restRefs_of main_v35 (by decide) (by decide))).trans (tail1 m c),
    ((h c).2 main_v40 (Pipeline.mem_restRefs_of main_v40 (by decide) (by decide))).trans (tail2 m c),
    ((h c).2 main_v45 (Pipeline.mem_restRefs_of main_v45 (by decide) (by decide))).trans (tail3 m c),
    ((h c).2 main_v50 (Pipeline.mem_restRefs_of main_v50 (by decide) (by decide))).trans (tail4 m c),
    ((h c).2 main_v55 (Pipeline.mem_restRefs_of main_v55 (by decide) (by decide))).trans (tail5 m c),
    ((h c).2 main_v60 (Pipeline.mem_restRefs_of main_v60 (by decide) (by decide))).trans (tail6 m c),
    ((h c).2 main_v65 (Pipeline.mem_restRefs_of main_v65 (by decide) (by decide))).trans (tail7 m c),
    ((h c).2 main_v70 (Pipeline.mem_restRefs_of main_v70 (by decide) (by decide))).trans (tail8 m c),
    ((h c).2 main_v75 (Pipeline.mem_restRefs_of main_v75 (by decide) (by decide))).trans (tail9 m c),
    ((h c).2 main_v23 (Pipeline.mem_restRefs_of main_v23 (by decide) (by decide))).trans (tail10 m c),
    ((h c).2 main_v25 (Pipeline.mem_restRefs_of main_v25 (by decide) (by decide))).trans (tail11 m c),
    ((h c).1 0).trans (((dats m 0 c).arrAt_in 0 rfl cfg0.N).trans ((A_eq m c 0).trans (V_main_arg0 m c))),
    ((h c).2 main_arg1 (Pipeline.mem_restRefs_of main_arg1 (by decide) (by decide))).trans (W_main_arg1 m (dats m) c)⟩) (run_main m ρ)

/-- The reference's sum over the devices. -/
theorem reduced (a : Vec Ideal S8x2768x128 .f32) :
    Host.reduceAdd a (constant (F := Ideal) SumSmallReferenceIdeal.S_ .f32 0x00000000#32) SumSmallReferenceIdeal.Facts₀.reducesTo_S8x2768x128_S2768x128_d0 SumSmallReferenceIdeal.Facts₀.h_S_ = total a := by
  funext i
  unfold total
  idx_vars i
  pointwise

/-- Every run of the reference ends with the same arrays of its own arguments and keeps them. -/
theorem reference (m : (ℓ : Loc SumSmallReferenceIdeal.nD SumSmallReferenceIdeal.τ SumSmallReferenceIdeal.sig) → Buf (Elt Ideal) ℓ) (ρ : Dev SumSmallReferenceIdeal.nD → PrngReg) :
    θ_run (SumSmallReferenceIdeal.defs (F := Ideal)) (onTc (τ := SumSmallReferenceIdeal.τ) (SumSmallReferenceIdeal.main (F := Ideal))) ⟨m, fun _ => 0, ρ⟩ fun r =>
      ∀ c : Dev SumSmallReferenceIdeal.nD, r.2.mem (c.tc.loc SumSmallReferenceIdeal.main_v8) = (SumSmallReferenceIdeal.Parts.part0 (total (m (c.tc.loc SumSmallReferenceIdeal.main_arg0))) (m (c.tc.loc SumSmallReferenceIdeal.main_arg1)))
      ∧ r.2.mem (c.tc.loc SumSmallReferenceIdeal.main_v15) = (SumSmallReferenceIdeal.Parts.part1 (total (m (c.tc.loc SumSmallReferenceIdeal.main_arg0))) (m (c.tc.loc SumSmallReferenceIdeal.main_arg1)))
      ∧ r.2.mem (c.tc.loc SumSmallReferenceIdeal.main_v22) = (SumSmallReferenceIdeal.Parts.part2 (total (m (c.tc.loc SumSmallReferenceIdeal.main_arg0))) (m (c.tc.loc SumSmallReferenceIdeal.main_arg1)))
      ∧ r.2.mem (c.tc.loc SumSmallReferenceIdeal.main_v29) = (SumSmallReferenceIdeal.Parts.part3 (total (m (c.tc.loc SumSmallReferenceIdeal.main_arg0))) (m (c.tc.loc SumSmallReferenceIdeal.main_arg1)))
      ∧ r.2.mem (c.tc.loc SumSmallReferenceIdeal.main_v36) = (SumSmallReferenceIdeal.Parts.part4 (total (m (c.tc.loc SumSmallReferenceIdeal.main_arg0))) (m (c.tc.loc SumSmallReferenceIdeal.main_arg1)))
      ∧ r.2.mem (c.tc.loc SumSmallReferenceIdeal.main_v43) = (SumSmallReferenceIdeal.Parts.part5 (total (m (c.tc.loc SumSmallReferenceIdeal.main_arg0))) (m (c.tc.loc SumSmallReferenceIdeal.main_arg1)))
      ∧ r.2.mem (c.tc.loc SumSmallReferenceIdeal.main_v50) = (SumSmallReferenceIdeal.Parts.part6 (total (m (c.tc.loc SumSmallReferenceIdeal.main_arg0))) (m (c.tc.loc SumSmallReferenceIdeal.main_arg1)))
      ∧ r.2.mem (c.tc.loc SumSmallReferenceIdeal.main_v57) = (SumSmallReferenceIdeal.Parts.part7 (total (m (c.tc.loc SumSmallReferenceIdeal.main_arg0))) (m (c.tc.loc SumSmallReferenceIdeal.main_arg1)))
      ∧ r.2.mem (c.tc.loc SumSmallReferenceIdeal.main_v64) = (SumSmallReferenceIdeal.Parts.part8 (total (m (c.tc.loc SumSmallReferenceIdeal.main_arg0))) (m (c.tc.loc SumSmallReferenceIdeal.main_arg1)))
      ∧ r.2.mem (c.tc.loc SumSmallReferenceIdeal.main_v71) = (SumSmallReferenceIdeal.Parts.part9 (total (m (c.tc.loc SumSmallReferenceIdeal.main_arg0))) (m (c.tc.loc SumSmallReferenceIdeal.main_arg1)))
      ∧ r.2.mem (c.tc.loc SumSmallReferenceIdeal.main_v73) = (SumSmallReferenceIdeal.Parts.part10 (total (m (c.tc.loc SumSmallReferenceIdeal.main_arg0))) (m (c.tc.loc SumSmallReferenceIdeal.main_arg1)))
      ∧ r.2.mem (c.tc.loc SumSmallReferenceIdeal.main_v75) = (SumSmallReferenceIdeal.Parts.part11 (total (m (c.tc.loc SumSmallReferenceIdeal.main_arg0))) (m (c.tc.loc SumSmallReferenceIdeal.main_arg1)))
      ∧ r.2.mem (c.tc.loc SumSmallReferenceIdeal.main_arg0) = m (c.tc.loc SumSmallReferenceIdeal.main_arg0)
      ∧ r.2.mem (c.tc.loc SumSmallReferenceIdeal.main_arg1) = m (c.tc.loc SumSmallReferenceIdeal.main_arg1) := by
  refine (θ_run _ _ _).mono (fun r h c => ?_) (SumSmallReferenceIdeal.Value.run m ρ)
  have hc := h c
  simp only [reduced] at hc
  exact hc

/-- The reference runs, keeps its arguments and declares no semaphore. -/
theorem frameReference : Cert.quiescent_SumSmallReferenceIdeal (hSumSmallReferenceIdeal := SumSmallReferenceIdeal.Gen.facts) :=
  fun m ρ _ => (θ_run _ _ _).mono (fun r h => ⟨fun c => (h c).2.2.2.2.2.2.2.2.2.2.2.2, sem_eq_zero_of_no_sems rfl r.2⟩) (reference m ρ)

/-- The call and its reference end with the same arrays. -/
theorem algebraic : Cert.algebraic_SumSmallIdeal_SumSmallReferenceIdeal (hSumSmallIdeal := Cert.SumSmallIdeal.Gen.facts) (hSumSmallReferenceIdeal := SumSmallReferenceIdeal.Gen.facts) := by
  intro m ρ m' ρ' _ hargs
  refine ⟨fun c => (SumSmallReferenceIdeal.Parts.part0 (total (m (c.tc.loc main_arg0))) (m (c.tc.loc main_arg1))),
    fun c => (SumSmallReferenceIdeal.Parts.part1 (total (m (c.tc.loc main_arg0))) (m (c.tc.loc main_arg1))),
    fun c => (SumSmallReferenceIdeal.Parts.part2 (total (m (c.tc.loc main_arg0))) (m (c.tc.loc main_arg1))),
    fun c => (SumSmallReferenceIdeal.Parts.part3 (total (m (c.tc.loc main_arg0))) (m (c.tc.loc main_arg1))),
    fun c => (SumSmallReferenceIdeal.Parts.part4 (total (m (c.tc.loc main_arg0))) (m (c.tc.loc main_arg1))),
    fun c => (SumSmallReferenceIdeal.Parts.part5 (total (m (c.tc.loc main_arg0))) (m (c.tc.loc main_arg1))),
    fun c => (SumSmallReferenceIdeal.Parts.part6 (total (m (c.tc.loc main_arg0))) (m (c.tc.loc main_arg1))),
    fun c => (SumSmallReferenceIdeal.Parts.part7 (total (m (c.tc.loc main_arg0))) (m (c.tc.loc main_arg1))),
    fun c => (SumSmallReferenceIdeal.Parts.part8 (total (m (c.tc.loc main_arg0))) (m (c.tc.loc main_arg1))),
    fun c => (SumSmallReferenceIdeal.Parts.part9 (total (m (c.tc.loc main_arg0))) (m (c.tc.loc main_arg1))),
    fun c => (SumSmallReferenceIdeal.Parts.part10 (total (m (c.tc.loc main_arg0))) (m (c.tc.loc main_arg1))),
    fun c => (SumSmallReferenceIdeal.Parts.part11 (total (m (c.tc.loc main_arg0))) (m (c.tc.loc main_arg1))),
    run m ρ, (θ_run _ _ _).mono (fun r h c => ?_) (reference m' ρ')⟩
  have hv := h c
  obtain ⟨a0, a1⟩ := hargs c
  rw [a0, a1] at hv
  rw [a0, a1]
  exact hv

end Cert.SumSmallIdeal.Step
-- ==== Proof.SumFfnIn.lean ====
/- The gradient of the first and the third feed-forward weight: the four chips' pieces of one half summed, joined with the other half, and its reference. -/
module

public import proofs.«01_k».proof.Defs
public import proofs.«01_k».proof.Proof.Gen.SumFfnInIdeal
public import proofs.«01_k».proof.Proof.Gen.SumFfnInIdeal.Frame
public import proofs.«01_k».proof.Proof.Gen.SumFfnInReferenceIdeal
public import proofs.«01_k».proof.Proof.Gen.SumFfnInReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumFfnInIdeal.Step

open Cert.SumFfnInIdeal Cert.SumFfnInIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x2816x1024 .bf16) : Vec Ideal S2816x1024 .f32 :=
  fun i => (∑ k : Fin 4, (a (ix3 k (i 0) (i 1)) : EReal) : EReal)

/-- The sum of the four chips' pieces. -/
def total (a : Vec Ideal S4x8x352x1024 .bf16) : Vec Ideal S8x352x1024 .f32 :=
  fun i => (∑ k : Fin 4, (a (ix4 k (i 0) (i 1) (i 2)) : EReal) : EReal)

/-- Of a pair's two halves the upper is the even device's own, the lower the odd device's. -/
def halves (own other : Vec Ideal S8x352x1024 .f32) (core : Vec Ideal S_ .i32) : Vec Ideal SumFfnInReferenceIdeal.S8x704x1024 .f32 :=
  concatenate SumFfnInReferenceIdeal.S8x704x1024 1 [⟨S8x352x1024, (select (broadcastInDim S8x352x1024 ![] SumFfnInReferenceIdeal.Facts₀.bcast_S_S8x352x1024 (cmpi .eq core (constantI S_ 32 0#32))) own other : Vec Ideal S8x352x1024 .f32)⟩,
    ⟨S8x352x1024, (select (broadcastInDim S8x352x1024 ![] SumFfnInReferenceIdeal.Facts₀.bcast_S_S8x352x1024 (cmpi .eq core (constantI S_ 32 0#32))) other own : Vec Ideal S8x352x1024 .f32)⟩] SumFfnInReferenceIdeal.Facts₀.concatenates_S8x352x1024_S8x352x1024_S8x704x1024_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x256x1024 .bf16) (y : S256x1024.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x2816x1024 (m (c.tc.loc main_arg0)) shapeCasts_S4x8x352x1024_S4x2816x1024 := by
  unfold V V0 hostOps0
  simp only [List.flatten_cons, List.flatten_nil, List.append_nil]
  after_results_simp
  rfl

/-- The sum's rows as pieces are the sum of the pieces. -/
theorem total_rows (a : Vec Ideal S4x8x352x1024 .bf16) :
    shapeCast S8x352x1024 (totalRows (shapeCast S4x2816x1024 a shapeCasts_S4x8x352x1024_S4x2816x1024)) shapeCasts_S2816x1024_S8x352x1024 = total a := by
  funext i
  unfold totalRows total
  idx_vars i
  pointwise
  refine sum_same fun k => ?_
  congr 2 <;> exact Fin.ext (by dsimp only; omega)

/-- The halves stacked and in order are the halves one under the other. -/
theorem stacked (own other : Vec Ideal S8x352x1024 .f32) (core : Vec Ideal S_ .i32) :
    shapeCast SumFfnInReferenceIdeal.S8x704x1024 (select (broadcastInDim S8x2x352x1024 ![] bcast_S_S8x2x352x1024 (cmpi .eq core (constantI S_ 32 0#32)))
      (concatenate S8x2x352x1024 1 [⟨S8x1x352x1024, (broadcastInDim S8x1x352x1024 ![0, 2, 3] bcast_S8x352x1024_S8x1x352x1024_0_2_3 own : Vec Ideal S8x1x352x1024 .f32)⟩, ⟨S8x1x352x1024, (broadcastInDim S8x1x352x1024 ![0, 2, 3] bcast_S8x352x1024_S8x1x352x1024_0_2_3 other : Vec Ideal S8x1x352x1024 .f32)⟩] concatenates_S8x1x352x1024_S8x1x352x1024_S8x2x352x1024_d1)
      (concatenate S8x2x352x1024 1 [⟨S8x1x352x1024, (broadcastInDim S8x1x352x1024 ![0, 2, 3] bcast_S8x352x1024_S8x1x352x1024_0_2_3 other : Vec Ideal S8x1x352x1024 .f32)⟩, ⟨S8x1x352x1024, (broadcastInDim S8x1x352x1024 ![0, 2, 3] bcast_S8x352x1024_S8x1x352x1024_0_2_3 own : Vec Ideal S8x1x352x1024 .f32)⟩] concatenates_S8x1x352x1024_S8x1x352x1024_S8x2x352x1024_d1) : Vec Ideal S8x2x352x1024 .f32) (by decide +kernel : S8x2x352x1024.ShapeCasts SumFfnInReferenceIdeal.S8x704x1024)
      = halves own other core := by
  funext i
  unfold halves
  idx_vars i
  pointwise
  by_cases hu : i1.val < 352
  · rw [dif_pos (show i1.val / 352 < 1 by omega), dif_pos (show i1.val / 352 < 1 by omega), dif_pos hu]
    simp only [Nat.mod_eq_of_lt hu]
  · rw [dif_neg (show ¬i1.val / 352 < 1 by omega), dif_neg (show ¬i1.val / 352 < 1 by omega), dif_neg hu]
    simp only [show i1.val % 352 = i1.val - 352 by omega]

/-- The weight's gradient: the two halves, as the weight is shaped. -/
def gradient (a : Vec Ideal S4x8x352x1024 .bf16) (other : Vec Ideal S8x352x1024 .f32) (core : Vec Ideal S_ .i32) : Vec Ideal S4x2x1024x704 .f32 :=
  transpose S4x2x1024x704 [0, 1, 3, 2] (shapeCast S4x2x704x1024 (halves (total a) other core) SumFfnInReferenceIdeal.Facts₀.shapeCasts_S8x704x1024_S4x2x704x1024) transposes_S4x2x704x1024_S4x2x1024x704_0_1_3_2

/-- The gradient at the end, through the host lines after the call. -/
theorem tail1 (c : Dev nD) : Pipeline.afterTail₀ cfgs (dats m) 0 (V0 m) [hostOps1, hostOps1_1, hostOps1_2] c main_v12
    = transpose S4x2x1024x704 [0, 1, 3, 2] (shapeCast S4x2x704x1024 (select (broadcastInDim S8x2x352x1024 ![] bcast_S_S8x2x352x1024 (cmpi .eq (m (c.tc.loc main_arg2)) (constantI S_ 32 0#32))) (concatenate S8x2x352x1024 1 [⟨S8x1x352x1024, (broadcastInDim S8x1x352x1024 ![0, 2, 3] bcast_S8x352x1024_S8x1x352x1024_0_2_3 (shapeCast S8x352x1024 ((dats m 0 c).arrAt 1 cfg0.N) shapeCasts_S2816x1024_S8x352x1024) : Vec Ideal S8x1x352x1024 .f32)⟩, ⟨S8x1x352x1024, (broadcastInDim S8x1x352x1024 ![0, 2, 3] bcast_S8x352x1024_S8x1x352x1024_0_2_3 (m (c.tc.loc main_arg1)) : Vec Ideal S8x1x352x1024 .f32)⟩] concatenates_S8x1x352x1024_S8x1x352x1024_S8x2x352x1024_d1) (concatenate S8x2x352x1024 1 [⟨S8x1x352x1024, (broadcastInDim S8x1x352x1024 ![0, 2, 3] bcast_S8x352x1024_S8x1x352x1024_0_2_3 (m (c.tc.loc main_arg1)) : Vec Ideal S8x1x352x1024 .f32)⟩, ⟨S8x1x352x1024, (broadcastInDim S8x1x352x1024 ![0, 2, 3] bcast_S8x352x1024_S8x1x352x1024_0_2_3 (shapeCast S8x352x1024 ((dats m 0 c).arrAt 1 cfg0.N) shapeCasts_S2816x1024_S8x352x1024) : Vec Ideal S8x1x352x1024 .f32)⟩] concatenates_S8x1x352x1024_S8x1x352x1024_S8x2x352x1024_d1) : Vec Ideal S8x2x352x1024 .f32) shapeCasts_S8x2x352x1024_S4x2x704x1024) transposes_S4x2x704x1024_S4x2x1024x704_0_1_3_2 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v12
    = gradient (m (c.tc.loc main_arg0)) (m (c.tc.loc main_arg1)) (m (c.tc.loc main_arg2)) := by
  rw [tail1, rows1, operand0, total_rows]
  unfold gradient
  rw [← stacked]
  refine congrArg (fun v => transpose S4x2x1024x704 [0, 1, 3, 2] v transposes_S4x2x704x1024_S4x2x1024x704_0_1_3_2) ?_
  exact (cast_twice _ _ _ _).symm

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v12) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v12 (Pipeline.mem_restRefs_of main_v12 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x8x352x1024 .bf16) :
    Host.reduceAdd (extf .f32 a SumFfnInReferenceIdeal.Facts₀.bitsLt_bf16_f32) (constant (F := Ideal) SumFfnInReferenceIdeal.S_ .f32 0x00000000#32) SumFfnInReferenceIdeal.Facts₀.reducesTo_S4x8x352x1024_S8x352x1024_d0 SumFfnInReferenceIdeal.Facts₀.h_S_ = total a := by
  funext i
  unfold total
  idx_vars i
  pointwise

/-- Every run of the reference ends with the same arrays of its own arguments and keeps them. -/
theorem reference (m : (ℓ : Loc SumFfnInReferenceIdeal.nD SumFfnInReferenceIdeal.τ SumFfnInReferenceIdeal.sig) → Buf (Elt Ideal) ℓ) (ρ : Dev SumFfnInReferenceIdeal.nD → PrngReg) :
    θ_run (SumFfnInReferenceIdeal.defs (F := Ideal)) (onTc (τ := SumFfnInReferenceIdeal.τ) (SumFfnInReferenceIdeal.main (F := Ideal))) ⟨m, fun _ => 0, ρ⟩ fun r =>
      ∀ c : Dev SumFfnInReferenceIdeal.nD, (r.2.mem (c.tc.loc SumFfnInReferenceIdeal.main_v8) = (gradient (m (c.tc.loc SumFfnInReferenceIdeal.main_arg0)) (m (c.tc.loc SumFfnInReferenceIdeal.main_arg1)) (m (c.tc.loc SumFfnInReferenceIdeal.main_arg2))))
      ∧ r.2.mem (c.tc.loc SumFfnInReferenceIdeal.main_arg0) = m (c.tc.loc SumFfnInReferenceIdeal.main_arg0)
      ∧ r.2.mem (c.tc.loc SumFfnInReferenceIdeal.main_arg1) = m (c.tc.loc SumFfnInReferenceIdeal.main_arg1)
      ∧ r.2.mem (c.tc.loc SumFfnInReferenceIdeal.main_arg2) = m (c.tc.loc SumFfnInReferenceIdeal.main_arg2) := by
  refine (θ_run _ _ _).mono (fun r h c => ?_) (SumFfnInReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumFfnInReferenceIdeal (hSumFfnInReferenceIdeal := SumFfnInReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumFfnInIdeal_SumFfnInReferenceIdeal (hSumFfnInIdeal := Cert.SumFfnInIdeal.Gen.facts) (hSumFfnInReferenceIdeal := SumFfnInReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumFfnInIdeal.Step
-- ==== Proof.SumFfnOut.lean ====
/- The gradient of the second feed-forward weight: the four chips' pieces of one half summed, joined with the other half, and its reference. -/
module

public import proofs.«01_k».proof.Defs
public import proofs.«01_k».proof.Proof.Gen.SumFfnOutIdeal
public import proofs.«01_k».proof.Proof.Gen.SumFfnOutIdeal.Frame
public import proofs.«01_k».proof.Proof.Gen.SumFfnOutReferenceIdeal
public import proofs.«01_k».proof.Proof.Gen.SumFfnOutReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumFfnOutIdeal.Step

open Cert.SumFfnOutIdeal Cert.SumFfnOutIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x2816x1024 .bf16) : Vec Ideal S2816x1024 .f32 :=
  fun i => (∑ k : Fin 4, (a (ix3 k (i 0) (i 1)) : EReal) : EReal)

/-- The sum of the four chips' pieces. -/
def total (a : Vec Ideal S4x8x352x1024 .bf16) : Vec Ideal S8x352x1024 .f32 :=
  fun i => (∑ k : Fin 4, (a (ix4 k (i 0) (i 1) (i 2)) : EReal) : EReal)

/-- Of a pair's two halves the upper is the even device's own, the lower the odd device's. -/
def halves (own other : Vec Ideal S8x352x1024 .f32) (core : Vec Ideal S_ .i32) : Vec Ideal SumFfnOutReferenceIdeal.S8x704x1024 .f32 :=
  concatenate SumFfnOutReferenceIdeal.S8x704x1024 1 [⟨S8x352x1024, (select (broadcastInDim S8x352x1024 ![] SumFfnOutReferenceIdeal.Facts₀.bcast_S_S8x352x1024 (cmpi .eq core (constantI S_ 32 0#32))) own other : Vec Ideal S8x352x1024 .f32)⟩,
    ⟨S8x352x1024, (select (broadcastInDim S8x352x1024 ![] SumFfnOutReferenceIdeal.Facts₀.bcast_S_S8x352x1024 (cmpi .eq core (constantI S_ 32 0#32))) other own : Vec Ideal S8x352x1024 .f32)⟩] SumFfnOutReferenceIdeal.Facts₀.concatenates_S8x352x1024_S8x352x1024_S8x704x1024_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x256x1024 .bf16) (y : S256x1024.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x2816x1024 (m (c.tc.loc main_arg0)) shapeCasts_S4x8x352x1024_S4x2816x1024 := by
  unfold V V0 hostOps0
  simp only [List.flatten_cons, List.flatten_nil, List.append_nil]
  after_results_simp
  rfl

/-- The sum's rows as pieces are the sum of the pieces. -/
theorem total_rows (a : Vec Ideal S4x8x352x1024 .bf16) :
    shapeCast S8x352x1024 (totalRows (shapeCast S4x2816x1024 a shapeCasts_S4x8x352x1024_S4x2816x1024)) shapeCasts_S2816x1024_S8x352x1024 = total a := by
  funext i
  unfold totalRows total
  idx_vars i
  pointwise
  refine sum_same fun k => ?_
  congr 2 <;> exact Fin.ext (by dsimp only; omega)

/-- The halves stacked and in order are the halves one under the other. -/
theorem stacked (own other : Vec Ideal S8x352x1024 .f32) (core : Vec Ideal S_ .i32) :
    shapeCast SumFfnOutReferenceIdeal.S8x704x1024 (select (broadcastInDim S8x2x352x1024 ![] bcast_S_S8x2x352x1024 (cmpi .eq core (constantI S_ 32 0#32)))
      (concatenate S8x2x352x1024 1 [⟨S8x1x352x1024, (broadcastInDim S8x1x352x1024 ![0, 2, 3] bcast_S8x352x1024_S8x1x352x1024_0_2_3 own : Vec Ideal S8x1x352x1024 .f32)⟩, ⟨S8x1x352x1024, (broadcastInDim S8x1x352x1024 ![0, 2, 3] bcast_S8x352x1024_S8x1x352x1024_0_2_3 other : Vec Ideal S8x1x352x1024 .f32)⟩] concatenates_S8x1x352x1024_S8x1x352x1024_S8x2x352x1024_d1)
      (concatenate S8x2x352x1024 1 [⟨S8x1x352x1024, (broadcastInDim S8x1x352x1024 ![0, 2, 3] bcast_S8x352x1024_S8x1x352x1024_0_2_3 other : Vec Ideal S8x1x352x1024 .f32)⟩, ⟨S8x1x352x1024, (broadcastInDim S8x1x352x1024 ![0, 2, 3] bcast_S8x352x1024_S8x1x352x1024_0_2_3 own : Vec Ideal S8x1x352x1024 .f32)⟩] concatenates_S8x1x352x1024_S8x1x352x1024_S8x2x352x1024_d1) : Vec Ideal S8x2x352x1024 .f32) (by decide +kernel : S8x2x352x1024.ShapeCasts SumFfnOutReferenceIdeal.S8x704x1024)
      = halves own other core := by
  funext i
  unfold halves
  idx_vars i
  pointwise
  by_cases hu : i1.val < 352
  · rw [dif_pos (show i1.val / 352 < 1 by omega), dif_pos (show i1.val / 352 < 1 by omega), dif_pos hu]
    simp only [Nat.mod_eq_of_lt hu]
  · rw [dif_neg (show ¬i1.val / 352 < 1 by omega), dif_neg (show ¬i1.val / 352 < 1 by omega), dif_neg hu]
    simp only [show i1.val % 352 = i1.val - 352 by omega]

/-- The weight's gradient: the two halves, as the weight is shaped. -/
def gradient (a : Vec Ideal S4x8x352x1024 .bf16) (other : Vec Ideal S8x352x1024 .f32) (core : Vec Ideal S_ .i32) : Vec Ideal S4x2x704x1024 .f32 :=
  shapeCast S4x2x704x1024 (halves (total a) other core) SumFfnOutReferenceIdeal.Facts₀.shapeCasts_S8x704x1024_S4x2x704x1024

/-- The gradient at the end, through the host lines after the call. -/
theorem tail1 (c : Dev nD) : Pipeline.afterTail₀ cfgs (dats m) 0 (V0 m) [hostOps1, hostOps1_1, hostOps1_2] c main_v11
    = shapeCast S4x2x704x1024 (select (broadcastInDim S8x2x352x1024 ![] bcast_S_S8x2x352x1024 (cmpi .eq (m (c.tc.loc main_arg2)) (constantI S_ 32 0#32))) (concatenate S8x2x352x1024 1 [⟨S8x1x352x1024, (broadcastInDim S8x1x352x1024 ![0, 2, 3] bcast_S8x352x1024_S8x1x352x1024_0_2_3 (shapeCast S8x352x1024 ((dats m 0 c).arrAt 1 cfg0.N) shapeCasts_S2816x1024_S8x352x1024) : Vec Ideal S8x1x352x1024 .f32)⟩, ⟨S8x1x352x1024, (broadcastInDim S8x1x352x1024 ![0, 2, 3] bcast_S8x352x1024_S8x1x352x1024_0_2_3 (m (c.tc.loc main_arg1)) : Vec Ideal S8x1x352x1024 .f32)⟩] concatenates_S8x1x352x1024_S8x1x352x1024_S8x2x352x1024_d1) (concatenate S8x2x352x1024 1 [⟨S8x1x352x1024, (broadcastInDim S8x1x352x1024 ![0, 2, 3] bcast_S8x352x1024_S8x1x352x1024_0_2_3 (m (c.tc.loc main_arg1)) : Vec Ideal S8x1x352x1024 .f32)⟩, ⟨S8x1x352x1024, (broadcastInDim S8x1x352x1024 ![0, 2, 3] bcast_S8x352x1024_S8x1x352x1024_0_2_3 (shapeCast S8x352x1024 ((dats m 0 c).arrAt 1 cfg0.N) shapeCasts_S2816x1024_S8x352x1024) : Vec Ideal S8x1x352x1024 .f32)⟩] concatenates_S8x1x352x1024_S8x1x352x1024_S8x2x352x1024_d1) : Vec Ideal S8x2x352x1024 .f32) shapeCasts_S8x2x352x1024_S4x2x704x1024 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v11
    = gradient (m (c.tc.loc main_arg0)) (m (c.tc.loc main_arg1)) (m (c.tc.loc main_arg2)) := by
  rw [tail1, rows1, operand0, total_rows]
  unfold gradient
  rw [← stacked]
  exact (cast_twice _ _ _ _).symm

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v11) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v11 (Pipeline.mem_restRefs_of main_v11 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x8x352x1024 .bf16) :
    Host.reduceAdd (extf .f32 a SumFfnOutReferenceIdeal.Facts₀.bitsLt_bf16_f32) (constant (F := Ideal) SumFfnOutReferenceIdeal.S_ .f32 0x00000000#32) SumFfnOutReferenceIdeal.Facts₀.reducesTo_S4x8x352x1024_S8x352x1024_d0 SumFfnOutReferenceIdeal.Facts₀.h_S_ = total a := by
  funext i
  unfold total
  idx_vars i
  pointwise

/-- Every run of the reference ends with the same arrays of its own arguments and keeps them. -/
theorem reference (m : (ℓ : Loc SumFfnOutReferenceIdeal.nD SumFfnOutReferenceIdeal.τ SumFfnOutReferenceIdeal.sig) → Buf (Elt Ideal) ℓ) (ρ : Dev SumFfnOutReferenceIdeal.nD → PrngReg) :
    θ_run (SumFfnOutReferenceIdeal.defs (F := Ideal)) (onTc (τ := SumFfnOutReferenceIdeal.τ) (SumFfnOutReferenceIdeal.main (F := Ideal))) ⟨m, fun _ => 0, ρ⟩ fun r =>
      ∀ c : Dev SumFfnOutReferenceIdeal.nD, (r.2.mem (c.tc.loc SumFfnOutReferenceIdeal.main_v7) = (gradient (m (c.tc.loc SumFfnOutReferenceIdeal.main_arg0)) (m (c.tc.loc SumFfnOutReferenceIdeal.main_arg1)) (m (c.tc.loc SumFfnOutReferenceIdeal.main_arg2))))
      ∧ r.2.mem (c.tc.loc SumFfnOutReferenceIdeal.main_arg0) = m (c.tc.loc SumFfnOutReferenceIdeal.main_arg0)
      ∧ r.2.mem (c.tc.loc SumFfnOutReferenceIdeal.main_arg1) = m (c.tc.loc SumFfnOutReferenceIdeal.main_arg1)
      ∧ r.2.mem (c.tc.loc SumFfnOutReferenceIdeal.main_arg2) = m (c.tc.loc SumFfnOutReferenceIdeal.main_arg2) := by
  refine (θ_run _ _ _).mono (fun r h c => ?_) (SumFfnOutReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumFfnOutReferenceIdeal (hSumFfnOutReferenceIdeal := SumFfnOutReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumFfnOutIdeal_SumFfnOutReferenceIdeal (hSumFfnOutIdeal := Cert.SumFfnOutIdeal.Gen.facts) (hSumFfnOutReferenceIdeal := SumFfnOutReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumFfnOutIdeal.Step
-- ==== Proof.SumConvIn.lean ====
/- The gradient of the convolution's input weight: the four chips' pieces of one half summed, joined with the other half, and its reference. -/
module

public import proofs.«01_k».proof.Defs
public import proofs.«01_k».proof.Proof.Gen.SumConvInIdeal
public import proofs.«01_k».proof.Proof.Gen.SumConvInIdeal.Frame
public import proofs.«01_k».proof.Proof.Gen.SumConvInReferenceIdeal
public import proofs.«01_k».proof.Proof.Gen.SumConvInReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumConvInIdeal.Step

open Cert.SumConvInIdeal Cert.SumConvInIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x1024x512 .bf16) : Vec Ideal S1024x512 .f32 :=
  fun i => (∑ k : Fin 4, (a (ix3 k (i 0) (i 1)) : EReal) : EReal)

/-- The sum of the four chips' pieces. -/
def total (a : Vec Ideal S4x2x512x512 .bf16) : Vec Ideal S2x512x512 .f32 :=
  fun i => (∑ k : Fin 4, (a (ix4 k (i 0) (i 1) (i 2)) : EReal) : EReal)

/-- Of a pair's two halves the upper is the even device's own, the lower the odd device's. -/
def halves (own other : Vec Ideal S2x512x512 .f32) (core : Vec Ideal S_ .i32) : Vec Ideal SumConvInReferenceIdeal.S2x1024x512 .f32 :=
  concatenate SumConvInReferenceIdeal.S2x1024x512 1 [⟨S2x512x512, (select (broadcastInDim S2x512x512 ![] SumConvInReferenceIdeal.Facts₀.bcast_S_S2x512x512 (cmpi .eq core (constantI S_ 32 0#32))) own other : Vec Ideal S2x512x512 .f32)⟩,
    ⟨S2x512x512, (select (broadcastInDim S2x512x512 ![] SumConvInReferenceIdeal.Facts₀.bcast_S_S2x512x512 (cmpi .eq core (constantI S_ 32 0#32))) other own : Vec Ideal S2x512x512 .f32)⟩] SumConvInReferenceIdeal.Facts₀.concatenates_S2x512x512_S2x512x512_S2x1024x512_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x512x512 .bf16) (y : S512x512.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x1024x512 (m (c.tc.loc main_arg0)) shapeCasts_S4x2x512x512_S4x1024x512 := by
  unfold V V0 hostOps0
  simp only [List.flatten_cons, List.flatten_nil, List.append_nil]
  after_results_simp
  rfl

/-- The sum's rows as pieces are the sum of the pieces. -/
theorem total_rows (a : Vec Ideal S4x2x512x512 .bf16) :
    shapeCast S2x512x512 (totalRows (shapeCast S4x1024x512 a shapeCasts_S4x2x512x512_S4x1024x512)) shapeCasts_S1024x512_S2x512x512 = total a := by
  funext i
  unfold totalRows total
  idx_vars i
  pointwise
  refine sum_same fun k => ?_
  congr 2 <;> exact Fin.ext (by dsimp only; omega)

/-- The halves stacked and in order are the halves one under the other. -/
theorem stacked (own other : Vec Ideal S2x512x512 .f32) (core : Vec Ideal S_ .i32) :
    shapeCast SumConvInReferenceIdeal.S2x1024x512 (select (broadcastInDim S2x2x512x512 ![] bcast_S_S2x2x512x512 (cmpi .eq core (constantI S_ 32 0#32)))
      (concatenate S2x2x512x512 1 [⟨S2x1x512x512, (broadcastInDim S2x1x512x512 ![0, 2, 3] bcast_S2x512x512_S2x1x512x512_0_2_3 own : Vec Ideal S2x1x512x512 .f32)⟩, ⟨S2x1x512x512, (broadcastInDim S2x1x512x512 ![0, 2, 3] bcast_S2x512x512_S2x1x512x512_0_2_3 other : Vec Ideal S2x1x512x512 .f32)⟩] concatenates_S2x1x512x512_S2x1x512x512_S2x2x512x512_d1)
      (concatenate S2x2x512x512 1 [⟨S2x1x512x512, (broadcastInDim S2x1x512x512 ![0, 2, 3] bcast_S2x512x512_S2x1x512x512_0_2_3 other : Vec Ideal S2x1x512x512 .f32)⟩, ⟨S2x1x512x512, (broadcastInDim S2x1x512x512 ![0, 2, 3] bcast_S2x512x512_S2x1x512x512_0_2_3 own : Vec Ideal S2x1x512x512 .f32)⟩] concatenates_S2x1x512x512_S2x1x512x512_S2x2x512x512_d1) : Vec Ideal S2x2x512x512 .f32) (by decide +kernel : S2x2x512x512.ShapeCasts SumConvInReferenceIdeal.S2x1024x512)
      = halves own other core := by
  funext i
  unfold halves
  idx_vars i
  pointwise
  by_cases hu : i1.val < 512
  · rw [dif_pos (show i1.val / 512 < 1 by omega), dif_pos (show i1.val / 512 < 1 by omega), dif_pos hu]
    simp only [Nat.mod_eq_of_lt hu]
  · rw [dif_neg (show ¬i1.val / 512 < 1 by omega), dif_neg (show ¬i1.val / 512 < 1 by omega), dif_neg hu]
    simp only [show i1.val % 512 = i1.val - 512 by omega]

/-- The weight's gradient: the two halves, as the weight is shaped. -/
def gradient (a : Vec Ideal S4x2x512x512 .bf16) (other : Vec Ideal S2x512x512 .f32) (core : Vec Ideal S_ .i32) : Vec Ideal S2x1024x512 .f32 :=
  halves (total a) other core

/-- The gradient at the end, through the host lines after the call. -/
theorem tail1 (c : Dev nD) : Pipeline.afterTail₀ cfgs (dats m) 0 (V0 m) [hostOps1, hostOps1_1, hostOps1_2] c main_v11
    = shapeCast S2x1024x512 (select (broadcastInDim S2x2x512x512 ![] bcast_S_S2x2x512x512 (cmpi .eq (m (c.tc.loc main_arg2)) (constantI S_ 32 0#32))) (concatenate S2x2x512x512 1 [⟨S2x1x512x512, (broadcastInDim S2x1x512x512 ![0, 2, 3] bcast_S2x512x512_S2x1x512x512_0_2_3 (shapeCast S2x512x512 ((dats m 0 c).arrAt 1 cfg0.N) shapeCasts_S1024x512_S2x512x512) : Vec Ideal S2x1x512x512 .f32)⟩, ⟨S2x1x512x512, (broadcastInDim S2x1x512x512 ![0, 2, 3] bcast_S2x512x512_S2x1x512x512_0_2_3 (m (c.tc.loc main_arg1)) : Vec Ideal S2x1x512x512 .f32)⟩] concatenates_S2x1x512x512_S2x1x512x512_S2x2x512x512_d1) (concatenate S2x2x512x512 1 [⟨S2x1x512x512, (broadcastInDim S2x1x512x512 ![0, 2, 3] bcast_S2x512x512_S2x1x512x512_0_2_3 (m (c.tc.loc main_arg1)) : Vec Ideal S2x1x512x512 .f32)⟩, ⟨S2x1x512x512, (broadcastInDim S2x1x512x512 ![0, 2, 3] bcast_S2x512x512_S2x1x512x512_0_2_3 (shapeCast S2x512x512 ((dats m 0 c).arrAt 1 cfg0.N) shapeCasts_S1024x512_S2x512x512) : Vec Ideal S2x1x512x512 .f32)⟩] concatenates_S2x1x512x512_S2x1x512x512_S2x2x512x512_d1) : Vec Ideal S2x2x512x512 .f32) shapeCasts_S2x2x512x512_S2x1024x512 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v11
    = gradient (m (c.tc.loc main_arg0)) (m (c.tc.loc main_arg1)) (m (c.tc.loc main_arg2)) := by
  rw [tail1, rows1, operand0, total_rows]
  unfold gradient
  exact stacked _ _ _

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v11) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v11 (Pipeline.mem_restRefs_of main_v11 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x2x512x512 .bf16) :
    Host.reduceAdd (extf .f32 a SumConvInReferenceIdeal.Facts₀.bitsLt_bf16_f32) (constant (F := Ideal) SumConvInReferenceIdeal.S_ .f32 0x00000000#32) SumConvInReferenceIdeal.Facts₀.reducesTo_S4x2x512x512_S2x512x512_d0 SumConvInReferenceIdeal.Facts₀.h_S_ = total a := by
  funext i
  unfold total
  idx_vars i
  pointwise

/-- Every run of the reference ends with the same arrays of its own arguments and keeps them. -/
theorem reference (m : (ℓ : Loc SumConvInReferenceIdeal.nD SumConvInReferenceIdeal.τ SumConvInReferenceIdeal.sig) → Buf (Elt Ideal) ℓ) (ρ : Dev SumConvInReferenceIdeal.nD → PrngReg) :
    θ_run (SumConvInReferenceIdeal.defs (F := Ideal)) (onTc (τ := SumConvInReferenceIdeal.τ) (SumConvInReferenceIdeal.main (F := Ideal))) ⟨m, fun _ => 0, ρ⟩ fun r =>
      ∀ c : Dev SumConvInReferenceIdeal.nD, (r.2.mem (c.tc.loc SumConvInReferenceIdeal.main_v6) = (gradient (m (c.tc.loc SumConvInReferenceIdeal.main_arg0)) (m (c.tc.loc SumConvInReferenceIdeal.main_arg1)) (m (c.tc.loc SumConvInReferenceIdeal.main_arg2))))
      ∧ r.2.mem (c.tc.loc SumConvInReferenceIdeal.main_arg0) = m (c.tc.loc SumConvInReferenceIdeal.main_arg0)
      ∧ r.2.mem (c.tc.loc SumConvInReferenceIdeal.main_arg1) = m (c.tc.loc SumConvInReferenceIdeal.main_arg1)
      ∧ r.2.mem (c.tc.loc SumConvInReferenceIdeal.main_arg2) = m (c.tc.loc SumConvInReferenceIdeal.main_arg2) := by
  refine (θ_run _ _ _).mono (fun r h c => ?_) (SumConvInReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumConvInReferenceIdeal (hSumConvInReferenceIdeal := SumConvInReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumConvInIdeal_SumConvInReferenceIdeal (hSumConvInIdeal := Cert.SumConvInIdeal.Gen.facts) (hSumConvInReferenceIdeal := SumConvInReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumConvInIdeal.Step
-- ==== Proof.SumConvOut.lean ====
/- The gradient of the convolution's output weight: the four chips' pieces of one half summed, joined with the other half, and its reference. -/
module

public import proofs.«01_k».proof.Defs
public import proofs.«01_k».proof.Proof.Gen.SumConvOutIdeal
public import proofs.«01_k».proof.Proof.Gen.SumConvOutIdeal.Frame
public import proofs.«01_k».proof.Proof.Gen.SumConvOutReferenceIdeal
public import proofs.«01_k».proof.Proof.Gen.SumConvOutReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumConvOutIdeal.Step

open Cert.SumConvOutIdeal Cert.SumConvOutIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x256x1024 .bf16) : Vec Ideal S256x1024 .f32 :=
  fun i => (∑ k : Fin 4, (a (ix3 k (i 0) (i 1)) : EReal) : EReal)

/-- The sum of the four chips' pieces. -/
def total (a : Vec Ideal S4x2x128x1024 .bf16) : Vec Ideal S2x128x1024 .f32 :=
  fun i => (∑ k : Fin 4, (a (ix4 k (i 0) (i 1) (i 2)) : EReal) : EReal)

/-- Of a pair's two halves the upper is the even device's own, the lower the odd device's. -/
def halves (own other : Vec Ideal S2x128x1024 .f32) (core : Vec Ideal S_ .i32) : Vec Ideal SumConvOutReferenceIdeal.S2x256x1024 .f32 :=
  concatenate SumConvOutReferenceIdeal.S2x256x1024 1 [⟨S2x128x1024, (select (broadcastInDim S2x128x1024 ![] SumConvOutReferenceIdeal.Facts₀.bcast_S_S2x128x1024 (cmpi .eq core (constantI S_ 32 0#32))) own other : Vec Ideal S2x128x1024 .f32)⟩,
    ⟨S2x128x1024, (select (broadcastInDim S2x128x1024 ![] SumConvOutReferenceIdeal.Facts₀.bcast_S_S2x128x1024 (cmpi .eq core (constantI S_ 32 0#32))) other own : Vec Ideal S2x128x1024 .f32)⟩] SumConvOutReferenceIdeal.Facts₀.concatenates_S2x128x1024_S2x128x1024_S2x256x1024_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x256x1024 .bf16) (y : S256x1024.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x256x1024 (m (c.tc.loc main_arg0)) shapeCasts_S4x2x128x1024_S4x256x1024 := by
  unfold V V0 hostOps0
  simp only [List.flatten_cons, List.flatten_nil, List.append_nil]
  after_results_simp
  rfl

/-- The sum's rows as pieces are the sum of the pieces. -/
theorem total_rows (a : Vec Ideal S4x2x128x1024 .bf16) :
    shapeCast S2x128x1024 (totalRows (shapeCast S4x256x1024 a shapeCasts_S4x2x128x1024_S4x256x1024)) shapeCasts_S256x1024_S2x128x1024 = total a := by
  funext i
  unfold totalRows total
  idx_vars i
  pointwise
  refine sum_same fun k => ?_
  congr 2 <;> exact Fin.ext (by dsimp only; omega)

/-- The halves stacked and in order are the halves one under the other. -/
theorem stacked (own other : Vec Ideal S2x128x1024 .f32) (core : Vec Ideal S_ .i32) :
    shapeCast SumConvOutReferenceIdeal.S2x256x1024 (select (broadcastInDim S2x2x128x1024 ![] bcast_S_S2x2x128x1024 (cmpi .eq core (constantI S_ 32 0#32)))
      (concatenate S2x2x128x1024 1 [⟨S2x1x128x1024, (broadcastInDim S2x1x128x1024 ![0, 2, 3] bcast_S2x128x1024_S2x1x128x1024_0_2_3 own : Vec Ideal S2x1x128x1024 .f32)⟩, ⟨S2x1x128x1024, (broadcastInDim S2x1x128x1024 ![0, 2, 3] bcast_S2x128x1024_S2x1x128x1024_0_2_3 other : Vec Ideal S2x1x128x1024 .f32)⟩] concatenates_S2x1x128x1024_S2x1x128x1024_S2x2x128x1024_d1)
      (concatenate S2x2x128x1024 1 [⟨S2x1x128x1024, (broadcastInDim S2x1x128x1024 ![0, 2, 3] bcast_S2x128x1024_S2x1x128x1024_0_2_3 other : Vec Ideal S2x1x128x1024 .f32)⟩, ⟨S2x1x128x1024, (broadcastInDim S2x1x128x1024 ![0, 2, 3] bcast_S2x128x1024_S2x1x128x1024_0_2_3 own : Vec Ideal S2x1x128x1024 .f32)⟩] concatenates_S2x1x128x1024_S2x1x128x1024_S2x2x128x1024_d1) : Vec Ideal S2x2x128x1024 .f32) (by decide +kernel : S2x2x128x1024.ShapeCasts SumConvOutReferenceIdeal.S2x256x1024)
      = halves own other core := by
  funext i
  unfold halves
  idx_vars i
  pointwise
  by_cases hu : i1.val < 128
  · rw [dif_pos (show i1.val / 128 < 1 by omega), dif_pos (show i1.val / 128 < 1 by omega), dif_pos hu]
    simp only [Nat.mod_eq_of_lt hu]
  · rw [dif_neg (show ¬i1.val / 128 < 1 by omega), dif_neg (show ¬i1.val / 128 < 1 by omega), dif_neg hu]
    simp only [show i1.val % 128 = i1.val - 128 by omega]

/-- The weight's gradient: the two halves, as the weight is shaped. -/
def gradient (a : Vec Ideal S4x2x128x1024 .bf16) (other : Vec Ideal S2x128x1024 .f32) (core : Vec Ideal S_ .i32) : Vec Ideal S2x256x1024 .f32 :=
  halves (total a) other core

/-- The gradient at the end, through the host lines after the call. -/
theorem tail1 (c : Dev nD) : Pipeline.afterTail₀ cfgs (dats m) 0 (V0 m) [hostOps1, hostOps1_1, hostOps1_2] c main_v11
    = shapeCast S2x256x1024 (select (broadcastInDim S2x2x128x1024 ![] bcast_S_S2x2x128x1024 (cmpi .eq (m (c.tc.loc main_arg2)) (constantI S_ 32 0#32))) (concatenate S2x2x128x1024 1 [⟨S2x1x128x1024, (broadcastInDim S2x1x128x1024 ![0, 2, 3] bcast_S2x128x1024_S2x1x128x1024_0_2_3 (shapeCast S2x128x1024 ((dats m 0 c).arrAt 1 cfg0.N) shapeCasts_S256x1024_S2x128x1024) : Vec Ideal S2x1x128x1024 .f32)⟩, ⟨S2x1x128x1024, (broadcastInDim S2x1x128x1024 ![0, 2, 3] bcast_S2x128x1024_S2x1x128x1024_0_2_3 (m (c.tc.loc main_arg1)) : Vec Ideal S2x1x128x1024 .f32)⟩] concatenates_S2x1x128x1024_S2x1x128x1024_S2x2x128x1024_d1) (concatenate S2x2x128x1024 1 [⟨S2x1x128x1024, (broadcastInDim S2x1x128x1024 ![0, 2, 3] bcast_S2x128x1024_S2x1x128x1024_0_2_3 (m (c.tc.loc main_arg1)) : Vec Ideal S2x1x128x1024 .f32)⟩, ⟨S2x1x128x1024, (broadcastInDim S2x1x128x1024 ![0, 2, 3] bcast_S2x128x1024_S2x1x128x1024_0_2_3 (shapeCast S2x128x1024 ((dats m 0 c).arrAt 1 cfg0.N) shapeCasts_S256x1024_S2x128x1024) : Vec Ideal S2x1x128x1024 .f32)⟩] concatenates_S2x1x128x1024_S2x1x128x1024_S2x2x128x1024_d1) : Vec Ideal S2x2x128x1024 .f32) shapeCasts_S2x2x128x1024_S2x256x1024 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v11
    = gradient (m (c.tc.loc main_arg0)) (m (c.tc.loc main_arg1)) (m (c.tc.loc main_arg2)) := by
  rw [tail1, rows1, operand0, total_rows]
  unfold gradient
  exact stacked _ _ _

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v11) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v11 (Pipeline.mem_restRefs_of main_v11 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x2x128x1024 .bf16) :
    Host.reduceAdd (extf .f32 a SumConvOutReferenceIdeal.Facts₀.bitsLt_bf16_f32) (constant (F := Ideal) SumConvOutReferenceIdeal.S_ .f32 0x00000000#32) SumConvOutReferenceIdeal.Facts₀.reducesTo_S4x2x128x1024_S2x128x1024_d0 SumConvOutReferenceIdeal.Facts₀.h_S_ = total a := by
  funext i
  unfold total
  idx_vars i
  pointwise

/-- Every run of the reference ends with the same arrays of its own arguments and keeps them. -/
theorem reference (m : (ℓ : Loc SumConvOutReferenceIdeal.nD SumConvOutReferenceIdeal.τ SumConvOutReferenceIdeal.sig) → Buf (Elt Ideal) ℓ) (ρ : Dev SumConvOutReferenceIdeal.nD → PrngReg) :
    θ_run (SumConvOutReferenceIdeal.defs (F := Ideal)) (onTc (τ := SumConvOutReferenceIdeal.τ) (SumConvOutReferenceIdeal.main (F := Ideal))) ⟨m, fun _ => 0, ρ⟩ fun r =>
      ∀ c : Dev SumConvOutReferenceIdeal.nD, (r.2.mem (c.tc.loc SumConvOutReferenceIdeal.main_v6) = (gradient (m (c.tc.loc SumConvOutReferenceIdeal.main_arg0)) (m (c.tc.loc SumConvOutReferenceIdeal.main_arg1)) (m (c.tc.loc SumConvOutReferenceIdeal.main_arg2))))
      ∧ r.2.mem (c.tc.loc SumConvOutReferenceIdeal.main_arg0) = m (c.tc.loc SumConvOutReferenceIdeal.main_arg0)
      ∧ r.2.mem (c.tc.loc SumConvOutReferenceIdeal.main_arg1) = m (c.tc.loc SumConvOutReferenceIdeal.main_arg1)
      ∧ r.2.mem (c.tc.loc SumConvOutReferenceIdeal.main_arg2) = m (c.tc.loc SumConvOutReferenceIdeal.main_arg2) := by
  refine (θ_run _ _ _).mono (fun r h c => ?_) (SumConvOutReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumConvOutReferenceIdeal (hSumConvOutReferenceIdeal := SumConvOutReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumConvOutIdeal_SumConvOutReferenceIdeal (hSumConvOutIdeal := Cert.SumConvOutIdeal.Gen.facts) (hSumConvOutReferenceIdeal := SumConvOutReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumConvOutIdeal.Step
-- ==== Proof.SumQkv.lean ====
/- The gradient of the query, key and value weight: the four chips' pieces of one half summed, joined with the other half, and its reference. -/
module

public import proofs.«01_k».proof.Defs
public import proofs.«01_k».proof.Proof.Gen.SumQkvIdeal
public import proofs.«01_k».proof.Proof.Gen.SumQkvIdeal.Frame
public import proofs.«01_k».proof.Proof.Gen.SumQkvReferenceIdeal
public import proofs.«01_k».proof.Proof.Gen.SumQkvReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumQkvIdeal.Step

open Cert.SumQkvIdeal Cert.SumQkvIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x512x768 .bf16) : Vec Ideal S512x768 .f32 :=
  fun i => (∑ k : Fin 4, (a (ix3 k (i 0) (i 1)) : EReal) : EReal)

/-- The sum of the four chips' pieces. -/
def total (a : Vec Ideal S4x1x512x768 .bf16) : Vec Ideal S1x512x768 .f32 :=
  fun i => (∑ k : Fin 4, (a (ix4 k (i 0) (i 1) (i 2)) : EReal) : EReal)

/-- Of a pair's two halves the upper is the even device's own, the lower the odd device's. -/
def halves (own other : Vec Ideal S1x512x768 .f32) (core : Vec Ideal S_ .i32) : Vec Ideal SumQkvReferenceIdeal.S1x1024x768 .f32 :=
  concatenate SumQkvReferenceIdeal.S1x1024x768 1 [⟨S1x512x768, (select (broadcastInDim S1x512x768 ![] SumQkvReferenceIdeal.Facts₀.bcast_S_S1x512x768 (cmpi .eq core (constantI S_ 32 0#32))) own other : Vec Ideal S1x512x768 .f32)⟩,
    ⟨S1x512x768, (select (broadcastInDim S1x512x768 ![] SumQkvReferenceIdeal.Facts₀.bcast_S_S1x512x768 (cmpi .eq core (constantI S_ 32 0#32))) other own : Vec Ideal S1x512x768 .f32)⟩] SumQkvReferenceIdeal.Facts₀.concatenates_S1x512x768_S1x512x768_S1x1024x768_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x256x768 .bf16) (y : S256x768.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x512x768 (m (c.tc.loc main_arg0)) shapeCasts_S4x1x512x768_S4x512x768 := by
  unfold V V0 hostOps0
  simp only [List.flatten_cons, List.flatten_nil, List.append_nil]
  after_results_simp
  rfl

/-- The sum's rows as pieces are the sum of the pieces. -/
theorem total_rows (a : Vec Ideal S4x1x512x768 .bf16) :
    shapeCast S1x512x768 (totalRows (shapeCast S4x512x768 a shapeCasts_S4x1x512x768_S4x512x768)) shapeCasts_S512x768_S1x512x768 = total a := by
  funext i
  unfold totalRows total
  idx_vars i
  pointwise
  rw [Subsingleton.elim i0 0]

/-- The halves stacked and in order are the halves one under the other. -/
theorem stacked (own other : Vec Ideal S1x512x768 .f32) (core : Vec Ideal S_ .i32) :
    shapeCast SumQkvReferenceIdeal.S1x1024x768 (select (broadcastInDim S1x2x512x768 ![] bcast_S_S1x2x512x768 (cmpi .eq core (constantI S_ 32 0#32)))
      (concatenate S1x2x512x768 1 [⟨S1x1x512x768, (broadcastInDim S1x1x512x768 ![0, 2, 3] bcast_S1x512x768_S1x1x512x768_0_2_3 own : Vec Ideal S1x1x512x768 .f32)⟩, ⟨S1x1x512x768, (broadcastInDim S1x1x512x768 ![0, 2, 3] bcast_S1x512x768_S1x1x512x768_0_2_3 other : Vec Ideal S1x1x512x768 .f32)⟩] concatenates_S1x1x512x768_S1x1x512x768_S1x2x512x768_d1)
      (concatenate S1x2x512x768 1 [⟨S1x1x512x768, (broadcastInDim S1x1x512x768 ![0, 2, 3] bcast_S1x512x768_S1x1x512x768_0_2_3 other : Vec Ideal S1x1x512x768 .f32)⟩, ⟨S1x1x512x768, (broadcastInDim S1x1x512x768 ![0, 2, 3] bcast_S1x512x768_S1x1x512x768_0_2_3 own : Vec Ideal S1x1x512x768 .f32)⟩] concatenates_S1x1x512x768_S1x1x512x768_S1x2x512x768_d1) : Vec Ideal S1x2x512x768 .f32) (by decide +kernel : S1x2x512x768.ShapeCasts SumQkvReferenceIdeal.S1x1024x768)
      = halves own other core := by
  funext i
  unfold halves
  idx_vars i
  pointwise
  by_cases hu : i1.val < 512
  · rw [dif_pos (show i1.val / 512 < 1 by omega), dif_pos (show i1.val / 512 < 1 by omega), dif_pos hu]
    simp only [Nat.mod_eq_of_lt hu]
  · rw [dif_neg (show ¬i1.val / 512 < 1 by omega), dif_neg (show ¬i1.val / 512 < 1 by omega), dif_neg hu]
    simp only [show i1.val % 512 = i1.val - 512 by omega]

/-- The weight's gradient: the two halves, as the weight is shaped. -/
def gradient (a : Vec Ideal S4x1x512x768 .bf16) (other : Vec Ideal S1x512x768 .f32) (core : Vec Ideal S_ .i32) : Vec Ideal S1x1024x768 .f32 :=
  halves (total a) other core

/-- The gradient at the end, through the host lines after the call. -/
theorem tail1 (c : Dev nD) : Pipeline.afterTail₀ cfgs (dats m) 0 (V0 m) [hostOps1, hostOps1_1, hostOps1_2] c main_v11
    = shapeCast S1x1024x768 (select (broadcastInDim S1x2x512x768 ![] bcast_S_S1x2x512x768 (cmpi .eq (m (c.tc.loc main_arg2)) (constantI S_ 32 0#32))) (concatenate S1x2x512x768 1 [⟨S1x1x512x768, (broadcastInDim S1x1x512x768 ![0, 2, 3] bcast_S1x512x768_S1x1x512x768_0_2_3 (shapeCast S1x512x768 ((dats m 0 c).arrAt 1 cfg0.N) shapeCasts_S512x768_S1x512x768) : Vec Ideal S1x1x512x768 .f32)⟩, ⟨S1x1x512x768, (broadcastInDim S1x1x512x768 ![0, 2, 3] bcast_S1x512x768_S1x1x512x768_0_2_3 (m (c.tc.loc main_arg1)) : Vec Ideal S1x1x512x768 .f32)⟩] concatenates_S1x1x512x768_S1x1x512x768_S1x2x512x768_d1) (concatenate S1x2x512x768 1 [⟨S1x1x512x768, (broadcastInDim S1x1x512x768 ![0, 2, 3] bcast_S1x512x768_S1x1x512x768_0_2_3 (m (c.tc.loc main_arg1)) : Vec Ideal S1x1x512x768 .f32)⟩, ⟨S1x1x512x768, (broadcastInDim S1x1x512x768 ![0, 2, 3] bcast_S1x512x768_S1x1x512x768_0_2_3 (shapeCast S1x512x768 ((dats m 0 c).arrAt 1 cfg0.N) shapeCasts_S512x768_S1x512x768) : Vec Ideal S1x1x512x768 .f32)⟩] concatenates_S1x1x512x768_S1x1x512x768_S1x2x512x768_d1) : Vec Ideal S1x2x512x768 .f32) shapeCasts_S1x2x512x768_S1x1024x768 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v11
    = gradient (m (c.tc.loc main_arg0)) (m (c.tc.loc main_arg1)) (m (c.tc.loc main_arg2)) := by
  rw [tail1, rows1, operand0, total_rows]
  unfold gradient
  exact stacked _ _ _

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v11) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v11 (Pipeline.mem_restRefs_of main_v11 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x1x512x768 .bf16) :
    Host.reduceAdd (extf .f32 a SumQkvReferenceIdeal.Facts₀.bitsLt_bf16_f32) (constant (F := Ideal) SumQkvReferenceIdeal.S_ .f32 0x00000000#32) SumQkvReferenceIdeal.Facts₀.reducesTo_S4x1x512x768_S1x512x768_d0 SumQkvReferenceIdeal.Facts₀.h_S_ = total a := by
  funext i
  unfold total
  idx_vars i
  pointwise
  rw [Subsingleton.elim i0 0]
/-- Every run of the reference ends with the same arrays of its own arguments and keeps them. -/
theorem reference (m : (ℓ : Loc SumQkvReferenceIdeal.nD SumQkvReferenceIdeal.τ SumQkvReferenceIdeal.sig) → Buf (Elt Ideal) ℓ) (ρ : Dev SumQkvReferenceIdeal.nD → PrngReg) :
    θ_run (SumQkvReferenceIdeal.defs (F := Ideal)) (onTc (τ := SumQkvReferenceIdeal.τ) (SumQkvReferenceIdeal.main (F := Ideal))) ⟨m, fun _ => 0, ρ⟩ fun r =>
      ∀ c : Dev SumQkvReferenceIdeal.nD, (r.2.mem (c.tc.loc SumQkvReferenceIdeal.main_v6) = (gradient (m (c.tc.loc SumQkvReferenceIdeal.main_arg0)) (m (c.tc.loc SumQkvReferenceIdeal.main_arg1)) (m (c.tc.loc SumQkvReferenceIdeal.main_arg2))))
      ∧ r.2.mem (c.tc.loc SumQkvReferenceIdeal.main_arg0) = m (c.tc.loc SumQkvReferenceIdeal.main_arg0)
      ∧ r.2.mem (c.tc.loc SumQkvReferenceIdeal.main_arg1) = m (c.tc.loc SumQkvReferenceIdeal.main_arg1)
      ∧ r.2.mem (c.tc.loc SumQkvReferenceIdeal.main_arg2) = m (c.tc.loc SumQkvReferenceIdeal.main_arg2) := by
  refine (θ_run _ _ _).mono (fun r h c => ?_) (SumQkvReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumQkvReferenceIdeal (hSumQkvReferenceIdeal := SumQkvReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumQkvIdeal_SumQkvReferenceIdeal (hSumQkvIdeal := Cert.SumQkvIdeal.Gen.facts) (hSumQkvReferenceIdeal := SumQkvReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumQkvIdeal.Step
-- ==== Proof.SumAttnOut.lean ====
/- The gradient of the attention's output weight: the four chips' pieces of one half summed, joined with the other half, and its reference. -/
module

public import proofs.«01_k».proof.Defs
public import proofs.«01_k».proof.Proof.Gen.SumAttnOutIdeal
public import proofs.«01_k».proof.Proof.Gen.SumAttnOutIdeal.Frame
public import proofs.«01_k».proof.Proof.Gen.SumAttnOutReferenceIdeal
public import proofs.«01_k».proof.Proof.Gen.SumAttnOutReferenceIdeal.Run
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.SumAttnOutIdeal.Step

open Cert.SumAttnOutIdeal Cert.SumAttnOutIdeal.Gen

variable (m : (ℓ : Loc nD τ sig) → Buf (Elt Ideal) ℓ) (ρ : Dev nD → PrngReg)

/-- Sums of equal terms are equal. -/
theorem sum_same {n : Nat} {f g : Fin n → EReal} (h : ∀ k, f k = g k) : (∑ k : Fin n, f k) = ∑ k : Fin n, g k :=
  Finset.sum_congr rfl fun k _ => h k

/-- Reshaping twice is reshaping once. -/
theorem cast_twice {s t u : Shape} {α : Type} (v : s.Idx → α) (h : s.ShapeCasts t) (h' : t.ShapeCasts u) (h'' : s.ShapeCasts u) :
    shapeCast u (shapeCast t v h) h' = shapeCast u v h'' :=
  funext fun i => congrArg v (by
    show Shape.reshapeEquiv _ (Shape.reshapeEquiv _ i) = Shape.reshapeEquiv _ i
    rw [Shape.reshapeEquiv_reshapeEquiv])

/-- The sum of the four chips' pieces, row by row. -/
def totalRows (a : Vec Ideal S4x128x1024 .bf16) : Vec Ideal S128x1024 .f32 :=
  fun i => (∑ k : Fin 4, (a (ix3 k (i 0) (i 1)) : EReal) : EReal)

/-- The sum of the four chips' pieces. -/
def total (a : Vec Ideal S4x1x128x1024 .bf16) : Vec Ideal S1x128x1024 .f32 :=
  fun i => (∑ k : Fin 4, (a (ix4 k (i 0) (i 1) (i 2)) : EReal) : EReal)

/-- Of a pair's two halves the upper is the even device's own, the lower the odd device's. -/
def halves (own other : Vec Ideal S1x128x1024 .f32) (core : Vec Ideal S_ .i32) : Vec Ideal SumAttnOutReferenceIdeal.S1x256x1024 .f32 :=
  concatenate SumAttnOutReferenceIdeal.S1x256x1024 1 [⟨S1x128x1024, (select (broadcastInDim S1x128x1024 ![] SumAttnOutReferenceIdeal.Facts₀.bcast_S_S1x128x1024 (cmpi .eq core (constantI S_ 32 0#32))) own other : Vec Ideal S1x128x1024 .f32)⟩,
    ⟨S1x128x1024, (select (broadcastInDim S1x128x1024 ![] SumAttnOutReferenceIdeal.Facts₀.bcast_S_S1x128x1024 (cmpi .eq core (constantI S_ 32 0#32))) other own : Vec Ideal S1x128x1024 .f32)⟩] SumAttnOutReferenceIdeal.Facts₀.concatenates_S1x128x1024_S1x128x1024_S1x256x1024_d1

/-- Every window's block index at a grid point. -/
theorem idx : ∀ t : Fin cfg0.N, win0_0.index t = ![0, t.val, 0] ∧ win0_1.index t = ![t.val, 0] :=
  (by decide +kernel : ∀ t : Fin grid0.N, _)

/-- The sums of one block. -/
theorem block1 (x0 : Vec Ideal S4x128x1024 .bf16) (y : S128x1024.Idx) :
    out0_1 x0 y = (∑ k : Fin 4, (x0 (ix3 k (y 0) (y 1)) : EReal) : EReal) := by
  unfold out0_1
  open_payloads
  frame_out
  idx_vars y
  pointwise
  exact (Fin.sum_univ_four fun k : Fin 4 => (x0 (ix3 k y0 y1) : EReal)).symm

/-- The sums as rows after the call. -/
theorem rows1 (c : Dev nD) : (dats m 0 c).arrAt 1 cfg0.N = totalRows (V m c main_v0) := by
  refine (dats m 0 c).arrAt_eq_of_covers 1 (totalRows (V m c main_v0)) (by decide +kernel) fun t hf y => ?_
  rw [after0_1]
  generalize e0 : iblk m c 0 t = x0
  blk_simp
  rw [block1, ← e0]
  unfold totalRows
  refine sum_same fun k => ?_
  blk_ext [iblk, (idx t).1, (idx t).2]

/-- The call's operand, from the arguments. -/
theorem operand0 (c : Dev nD) : V m c main_v0 = shapeCast S4x128x1024 (m (c.tc.loc main_arg0)) shapeCasts_S4x1x128x1024_S4x128x1024 := by
  unfold V V0 hostOps0
  simp only [List.flatten_cons, List.flatten_nil, List.append_nil]
  after_results_simp
  rfl

/-- The sum's rows as pieces are the sum of the pieces. -/
theorem total_rows (a : Vec Ideal S4x1x128x1024 .bf16) :
    shapeCast S1x128x1024 (totalRows (shapeCast S4x128x1024 a shapeCasts_S4x1x128x1024_S4x128x1024)) shapeCasts_S128x1024_S1x128x1024 = total a := by
  funext i
  unfold totalRows total
  idx_vars i
  pointwise
  rw [Subsingleton.elim i0 0]

/-- The halves stacked and in order are the halves one under the other. -/
theorem stacked (own other : Vec Ideal S1x128x1024 .f32) (core : Vec Ideal S_ .i32) :
    shapeCast SumAttnOutReferenceIdeal.S1x256x1024 (select (broadcastInDim S1x2x128x1024 ![] bcast_S_S1x2x128x1024 (cmpi .eq core (constantI S_ 32 0#32)))
      (concatenate S1x2x128x1024 1 [⟨S1x1x128x1024, (broadcastInDim S1x1x128x1024 ![0, 2, 3] bcast_S1x128x1024_S1x1x128x1024_0_2_3 own : Vec Ideal S1x1x128x1024 .f32)⟩, ⟨S1x1x128x1024, (broadcastInDim S1x1x128x1024 ![0, 2, 3] bcast_S1x128x1024_S1x1x128x1024_0_2_3 other : Vec Ideal S1x1x128x1024 .f32)⟩] concatenates_S1x1x128x1024_S1x1x128x1024_S1x2x128x1024_d1)
      (concatenate S1x2x128x1024 1 [⟨S1x1x128x1024, (broadcastInDim S1x1x128x1024 ![0, 2, 3] bcast_S1x128x1024_S1x1x128x1024_0_2_3 other : Vec Ideal S1x1x128x1024 .f32)⟩, ⟨S1x1x128x1024, (broadcastInDim S1x1x128x1024 ![0, 2, 3] bcast_S1x128x1024_S1x1x128x1024_0_2_3 own : Vec Ideal S1x1x128x1024 .f32)⟩] concatenates_S1x1x128x1024_S1x1x128x1024_S1x2x128x1024_d1) : Vec Ideal S1x2x128x1024 .f32) (by decide +kernel : S1x2x128x1024.ShapeCasts SumAttnOutReferenceIdeal.S1x256x1024)
      = halves own other core := by
  funext i
  unfold halves
  idx_vars i
  pointwise
  by_cases hu : i1.val < 128
  · rw [dif_pos (show i1.val / 128 < 1 by omega), dif_pos (show i1.val / 128 < 1 by omega), dif_pos hu]
    simp only [Nat.mod_eq_of_lt hu]
  · rw [dif_neg (show ¬i1.val / 128 < 1 by omega), dif_neg (show ¬i1.val / 128 < 1 by omega), dif_neg hu]
    simp only [show i1.val % 128 = i1.val - 128 by omega]

/-- The weight's gradient: the two halves, as the weight is shaped. -/
def gradient (a : Vec Ideal S4x1x128x1024 .bf16) (other : Vec Ideal S1x128x1024 .f32) (core : Vec Ideal S_ .i32) : Vec Ideal S1x256x1024 .f32 :=
  halves (total a) other core

/-- The gradient at the end, through the host lines after the call. -/
theorem tail1 (c : Dev nD) : Pipeline.afterTail₀ cfgs (dats m) 0 (V0 m) [hostOps1, hostOps1_1, hostOps1_2] c main_v11
    = shapeCast S1x256x1024 (select (broadcastInDim S1x2x128x1024 ![] bcast_S_S1x2x128x1024 (cmpi .eq (m (c.tc.loc main_arg2)) (constantI S_ 32 0#32))) (concatenate S1x2x128x1024 1 [⟨S1x1x128x1024, (broadcastInDim S1x1x128x1024 ![0, 2, 3] bcast_S1x128x1024_S1x1x128x1024_0_2_3 (shapeCast S1x128x1024 ((dats m 0 c).arrAt 1 cfg0.N) shapeCasts_S128x1024_S1x128x1024) : Vec Ideal S1x1x128x1024 .f32)⟩, ⟨S1x1x128x1024, (broadcastInDim S1x1x128x1024 ![0, 2, 3] bcast_S1x128x1024_S1x1x128x1024_0_2_3 (m (c.tc.loc main_arg1)) : Vec Ideal S1x1x128x1024 .f32)⟩] concatenates_S1x1x128x1024_S1x1x128x1024_S1x2x128x1024_d1) (concatenate S1x2x128x1024 1 [⟨S1x1x128x1024, (broadcastInDim S1x1x128x1024 ![0, 2, 3] bcast_S1x128x1024_S1x1x128x1024_0_2_3 (m (c.tc.loc main_arg1)) : Vec Ideal S1x1x128x1024 .f32)⟩, ⟨S1x1x128x1024, (broadcastInDim S1x1x128x1024 ![0, 2, 3] bcast_S1x128x1024_S1x1x128x1024_0_2_3 (shapeCast S1x128x1024 ((dats m 0 c).arrAt 1 cfg0.N) shapeCasts_S128x1024_S1x128x1024) : Vec Ideal S1x1x128x1024 .f32)⟩] concatenates_S1x1x128x1024_S1x1x128x1024_S1x2x128x1024_d1) : Vec Ideal S1x2x128x1024 .f32) shapeCasts_S1x2x128x1024_S1x256x1024 := by
  unfold Pipeline.afterTail₀ hostOps1 hostOps1_1 hostOps1_2
  simp only [List.flatten_cons, List.flatten_nil, List.append_nil, List.cons_append, List.nil_append, StableHlo.TRef.ternary, StableHlo.TRef.toBuf, StableHlo.TRef.ofBuf, cast_eq]
  after_results
  rw [show (Pipeline.withArrays spec0 c (V0 m c) (fun w => (dats m 0 c).arrAt w cfg0.N) (Proc.devRef .tc main_v1))
    = (dats m 0 c).arrAt 1 cfg0.N from Pipeline.withArrays_arr spec0 launch0.win.arr_inj c _ _ 1,
    Pipeline.withArrays_of_ne spec0 c (V0 m c) _ main_arg1 (by exact (by decide : ∀ w, Pipeline.arrRef spec0 w ≠ main_arg1)),
    Pipeline.withArrays_of_ne spec0 c (V0 m c) _ main_arg2 (by exact (by decide : ∀ w, Pipeline.arrRef spec0 w ≠ main_arg2)),
    show V0 m c (Proc.devRef .tc main_arg1) = m (c.tc.loc main_arg1) from V_main_arg1 m c,
    show V0 m c (Proc.devRef .tc main_arg2) = m (c.tc.loc main_arg2) from V_main_arg2 m c]
  rfl

/-- The gradient at the end, from the arguments. -/
theorem left1 (c : Dev nD) : Pipeline.afterTail₀ cfgs (dats m) 0 (V0 m) [hostOps1, hostOps1_1, hostOps1_2] c main_v11
    = gradient (m (c.tc.loc main_arg0)) (m (c.tc.loc main_arg1)) (m (c.tc.loc main_arg2)) := by
  rw [tail1, rows1, operand0, total_rows]
  unfold gradient
  exact stacked _ _ _

/-- Every run of the call ends with the gradient and keeps the arguments. -/
theorem run : θ_run (defs (F := Ideal)) (onTc (τ := τ) (main (F := Ideal))) ⟨m, fun _ => 0, ρ⟩ fun r => ∀ c : Dev nD,
    r.2.mem (c.tc.loc main_v11) = (gradient (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).2 main_v11 (Pipeline.mem_restRefs_of main_v11 (by decide) (by decide))).trans (left1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

/-- The reference's sum over the pieces. -/
theorem reduced (a : Vec Ideal S4x1x128x1024 .bf16) :
    Host.reduceAdd (extf .f32 a SumAttnOutReferenceIdeal.Facts₀.bitsLt_bf16_f32) (constant (F := Ideal) SumAttnOutReferenceIdeal.S_ .f32 0x00000000#32) SumAttnOutReferenceIdeal.Facts₀.reducesTo_S4x1x128x1024_S1x128x1024_d0 SumAttnOutReferenceIdeal.Facts₀.h_S_ = total a := by
  funext i
  unfold total
  idx_vars i
  pointwise
  rw [Subsingleton.elim i0 0]
/-- Every run of the reference ends with the same arrays of its own arguments and keeps them. -/
theorem reference (m : (ℓ : Loc SumAttnOutReferenceIdeal.nD SumAttnOutReferenceIdeal.τ SumAttnOutReferenceIdeal.sig) → Buf (Elt Ideal) ℓ) (ρ : Dev SumAttnOutReferenceIdeal.nD → PrngReg) :
    θ_run (SumAttnOutReferenceIdeal.defs (F := Ideal)) (onTc (τ := SumAttnOutReferenceIdeal.τ) (SumAttnOutReferenceIdeal.main (F := Ideal))) ⟨m, fun _ => 0, ρ⟩ fun r =>
      ∀ c : Dev SumAttnOutReferenceIdeal.nD, (r.2.mem (c.tc.loc SumAttnOutReferenceIdeal.main_v6) = (gradient (m (c.tc.loc SumAttnOutReferenceIdeal.main_arg0)) (m (c.tc.loc SumAttnOutReferenceIdeal.main_arg1)) (m (c.tc.loc SumAttnOutReferenceIdeal.main_arg2))))
      ∧ r.2.mem (c.tc.loc SumAttnOutReferenceIdeal.main_arg0) = m (c.tc.loc SumAttnOutReferenceIdeal.main_arg0)
      ∧ r.2.mem (c.tc.loc SumAttnOutReferenceIdeal.main_arg1) = m (c.tc.loc SumAttnOutReferenceIdeal.main_arg1)
      ∧ r.2.mem (c.tc.loc SumAttnOutReferenceIdeal.main_arg2) = m (c.tc.loc SumAttnOutReferenceIdeal.main_arg2) := by
  refine (θ_run _ _ _).mono (fun r h c => ?_) (SumAttnOutReferenceIdeal.Value.run m ρ)
  obtain ⟨h0, hkeep⟩ := h c
  refine ⟨h0.trans ?_, hkeep⟩
  rw [reduced]
  rfl

/-- The reference runs, keeps its arguments and declares no semaphore. -/
theorem frameReference : Cert.quiescent_SumAttnOutReferenceIdeal (hSumAttnOutReferenceIdeal := SumAttnOutReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_SumAttnOutIdeal_SumAttnOutReferenceIdeal (hSumAttnOutIdeal := Cert.SumAttnOutIdeal.Gen.facts) (hSumAttnOutReferenceIdeal := SumAttnOutReferenceIdeal.Gen.facts) := by
  intro m ρ m' ρ' _ hargs
  refine ⟨fun c => (gradient (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.SumAttnOutIdeal.Step
-- ==== Proof.LossHead.lean ====
/- One device's share of the loss, and the loss's cotangent of its tokens. -/
module

public import proofs.«01_k».proof.Defs
public import proofs.«01_k».proof.Proof.Gen.LossHeadIdeal
public import proofs.«01_k».proof.Proof.Gen.LossHeadIdeal.Frame
public import proofs.«01_k».proof.Proof.Gen.LossHeadReferenceIdeal
public import proofs.«01_k».proof.Proof.Gen.LossHeadReferenceIdeal.Run
public import proofs.«01_k».proof.Proof.Gen.LossHeadIdeal.Frame
public import Idealize.ShloMosaic.Lib.Pipeline.FrameSuffix
public import Idealize.ShloMosaic.Lib.WritesUnit
public import Idealize.ShloMosaic.Lib.Pipeline.ReadBack
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.LossHeadIdeal.Step

open Cert.LossHeadIdeal Cert.LossHeadIdeal.Gen

variable (m : (ℓ : Loc nD τ sig) → Buf (Elt Ideal) ℓ) (ρ : Dev nD → PrngReg)

/-- The squared error of one entry. -/
def square (y : Vec Ideal S16384x1024 .f32) (t : Vec Ideal S16384x1024 .f32) (s : Fin 16384) (d : Fin 1024) : EReal :=
  (y (ix2 s d) - t (ix2 s d) : EReal) * (y (ix2 s d) - t (ix2 s d) : EReal)

/-- The share of the loss: half the mean over the features of the squared errors, summed over the tokens. -/
def loss (y : Vec Ideal S16384x1024 .f32) (t : Vec Ideal S16384x1024 .f32) : Vec Ideal S_ .f32 :=
  fun _ => ((1 / 2048 : ℝ) : EReal) * ∑ d : Fin 1024, ∑ s : Fin 16384, square y t s d

/-- The cotangent of the tokens. -/
def slope (y : Vec Ideal S16384x1024 .f32) (t : Vec Ideal S16384x1024 .f32) : Vec Ideal S16384x1024 .f32 :=
  fun i => (y i - t i : EReal) * ((1 / 1024 : ℝ) : EReal)

/-- The squared errors summed over the tokens, in row 0 of an array of zeros. -/
def sums (y : Vec Ideal S16384x1024 .f32) (t : Vec Ideal S16384x1024 .f32) : Vec Ideal S8x1024 .f32 :=
  fun i => if (i 0).val = 0 then ∑ s : Fin 16384, square y t s (i 1) else (0 : EReal)

/-- 1/2048, as a word. -/
theorem word2048 : Ideal.ofBits .f32 0x3A000000#32 = ((1 / 2048 : ℝ) : EReal) := by
  simp [Ideal.ofBits, Ideal.ieee, -EReal.coe_mul]; norm_num
/-- 1/1024, as a word. -/
theorem word1024 : Ideal.ofBits .f32 0x3A800000#32 = ((1 / 1024 : ℝ) : EReal) := by
  simp [Ideal.ofBits, Ideal.ieee, -EReal.coe_mul]; norm_num
/-- 1024, as a word. -/
theorem width : Ideal.ofBits .f32 0x44800000#32 = ((1024 : ℝ) : EReal) := by
  simp [Ideal.ofBits, Ideal.ieee, -EReal.coe_mul]; norm_num
/-- A half, as a word. -/
theorem half : Ideal.ofBits .f32 0x3F000000#32 = ((1 / 2 : ℝ) : EReal) := by
  simp [Ideal.ofBits, Ideal.ieee, -EReal.coe_mul]; norm_num
/-- Two, as a word. -/
theorem two : Ideal.ofBits .f32 0x40000000#32 = ((2 : ℝ) : EReal) := by
  simp [Ideal.ofBits, Ideal.ieee, -EReal.coe_mul]; norm_num

/-- A real factor that is not negative goes into a sum of extended reals. -/
theorem scale_sum {r : ℝ} (hr : 0 ≤ r) : ∀ {n : Nat} (f : Fin n → EReal), (r : EReal) * ∑ k : Fin n, f k = ∑ k : Fin n, (r : EReal) * f k
  | 0, f => by rw [Fin.sum_univ_zero, Fin.sum_univ_zero, mul_zero]
  | n + 1, f => by
    rw [Fin.sum_univ_succ, Fin.sum_univ_succ,
      EReal.left_distrib_of_nonneg_of_ne_top (EReal.coe_nonneg.mpr hr) (EReal.coe_ne_top r), scale_sum hr]

/-- Half the sum of the rows' means is the sum of all entries times 1/2048. -/
theorem mean (f : Fin 16384 → Fin 1024 → EReal) :
    ((1 / 2 : ℝ) : EReal) * ∑ s : Fin 16384, Ideal.div (∑ d : Fin 1024, f s d) ((1024 : ℝ) : EReal)
      = ((1 / 2048 : ℝ) : EReal) * ∑ d : Fin 1024, ∑ s : Fin 16384, f s d := by
  have h : ∀ s : Fin 16384, Ideal.div (∑ d : Fin 1024, f s d) ((1024 : ℝ) : EReal) = ((1 / 1024 : ℝ) : EReal) * ∑ d : Fin 1024, f s d :=
    fun s => by rw [Ideal.div_coe (by norm_num), mul_comm]
  rw [Finset.sum_congr rfl fun s _ => h s, ← scale_sum (by norm_num), ← mul_assoc, ← EReal.coe_mul, Finset.sum_comm]
  norm_num

/-- The factor of the cotangent: a half divided by 1024, times two. -/
theorem factor (e : EReal) : Ideal.div ((1 / 2 : ℝ) : EReal) ((1024 : ℝ) : EReal) * (((2 : ℝ) : EReal) * e) = e * ((1 / 1024 : ℝ) : EReal) := by
  rw [Ideal.div_coe (by norm_num), ← mul_assoc, ← EReal.coe_mul, ← EReal.coe_mul, mul_comm]
  norm_num

/-- Every window's block index at a grid point. -/
theorem idx : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The tokens at a grid point. -/
def lhs (c : Dev nD) (t : Fin cfg0.N) (k : Fin 512) (d : Fin 1024) : EReal := iblk m c 0 t (ix2 k d)
/-- The targets at a grid point. -/
def rhs (c : Dev nD) (t : Fin cfg0.N) (k : Fin 512) (d : Fin 1024) : EReal := iblk m c 1 t (ix2 k d)
/-- The error at a grid point. -/
def miss (c : Dev nD) (t : Fin cfg0.N) (k : Fin 512) (d : Fin 1024) : EReal := lhs m c t k d - rhs m c t k d

/-- A sum of zeros is zero. -/
theorem sum_none {n : Nat} {f : Fin n → EReal} (h : ∀ k, f k = 0) : (∑ k : Fin n, f k) = 0 :=
  Finset.sum_eq_zero fun k _ => h k

/-- What one grid point adds to the sums over the tokens. -/
def part (c : Dev nD) (t : Fin cfg0.N) (d : Fin 1024) : EReal := ∑ k : Fin 512, miss m c t k d * miss m c t k d

/-- The same, at every row: the other rows get nothing. -/
def term (c : Dev nD) (t : Fin cfg0.N) (j : S8x1024.Idx) : EReal := if (j 0).val = 0 then part m c t (j 1) else 0

/-- The sums after the first point: the row that is added to. -/
theorem rowA (c : Dev nD) (t : Fin cfg0.N) (h : t.val % 32 = 0) (d : Fin 1024) :
    ((outsAt0 m c t.val t.isLt).2 (ix2 0 d) : EReal) = 0 + part m c t d := by
  unfold part miss lhs rhs
  rw [outsAt0_A m c t h]
  dsimp only
  frame_out
  generalize iblk m c 0 t = x0
  generalize iblk m c 1 t = x1
  refine Eq.trans (View.read_writes_junk_apply_eq_canon (ms0_3 t).view _ _).symm ?_
  refine Eq.trans (View.read_writes_cons_rows_of_mem _ _ _ _ _ _ (ix2 0 d : S1x1024.Idx) rfl rfl rfl) ?_
  simp (disch := first | rfl | decide) only [View.readCov_skip, View.readCov_fill]
  open_payloads
  pointwise

/-- The sums after the first point: the other rows. -/
theorem restA (c : Dev nD) (t : Fin cfg0.N) (h : t.val % 32 = 0) (r : Fin 8) (hr : r.val ≠ 0) (d : Fin 1024) :
    ((outsAt0 m c t.val t.isLt).2 (ix2 r d) : EReal) = 0 := by
  rw [outsAt0_A m c t h]
  dsimp only
  frame_out
  generalize iblk m c 0 t = x0
  generalize iblk m c 1 t = x1
  refine Eq.trans (View.read_writes_junk_apply_eq_canon (ms0_3 t).view _ _).symm ?_
  refine Eq.trans (View.read_writes_cons_rows_of_not_mem _ _ _ _ _ _ rfl (show S1x1024.size 0 = 1 from rfl) (.inr (by show _ ≤ r.val; omega))) ?_
  refine Eq.trans (View.read_writes_cons_rows_of_mem _ _ _ _ _ _ (ix2 r d : S8x1024.Idx) rfl (Nat.zero_add _).symm rfl) ?_
  unfold k0_pay1
  pointwise

/-- The sums after a later point: the row that is added to. -/
theorem rowB (c : Dev nD) (t : Fin cfg0.N) (h : ¬t.val % 32 = 0) (d : Fin 1024) :
    ((outsAt0 m c t.val t.isLt).2 (ix2 0 d) : EReal) = ((outsAt0 m c (t.val - 1) (Nat.lt_of_le_of_lt (Nat.sub_le _ _) t.isLt)).2 (ix2 0 d) : EReal) + part m c t d := by
  unfold part miss lhs rhs
  rw [outsAt0_B m c t h]
  dsimp only
  frame_out
  generalize iblk m c 0 t = x0
  generalize iblk m c 1 t = x1
  generalize (outsAt0 m c (t.val - 1) (Nat.lt_of_le_of_lt (Nat.sub_le _ _) t.isLt)).2 = p
  refine Eq.trans (View.read_writes_cons_rows_of_mem _ _ _ _ _ _ (ix2 0 d : S1x1024.Idx) rfl rfl rfl) ?_
  open_payloads
  pointwise

/-- The sums after a later point: the other rows. -/
theorem restB (c : Dev nD) (t : Fin cfg0.N) (h : ¬t.val % 32 = 0) (r : Fin 8) (hr : r.val ≠ 0) (d : Fin 1024) :
    ((outsAt0 m c t.val t.isLt).2 (ix2 r d) : EReal) = ((outsAt0 m c (t.val - 1) (Nat.lt_of_le_of_lt (Nat.sub_le _ _) t.isLt)).2 (ix2 r d) : EReal) := by
  rw [outsAt0_B m c t h]
  dsimp only
  frame_out
  generalize iblk m c 0 t = x0
  generalize iblk m c 1 t = x1
  generalize (outsAt0 m c (t.val - 1) (Nat.lt_of_le_of_lt (Nat.sub_le _ _) t.isLt)).2 = p
  refine Eq.trans (View.read_writes_cons_rows_of_not_mem _ _ _ _ _ _ rfl (show S1x1024.size 0 = 1 from rfl) (.inr (by show _ ≤ r.val; omega))) ?_
  exact congrFun (Memref.IsWhole.read_unread _ _) _

/-- After the last token tile the sums hold the sum of the thirty-two tiles' parts. -/
theorem acc (c : Dev nD) (t : Fin cfg0.N) (hr : t.val % 32 = 31) (j : S8x1024.Idx) :
    (outsAt0 m c t.val t.isLt).2 j
      = 0 + ∑ s : Fin 32, term m c ⟨32 * (t.val / 32) + s.val, Pipeline.run_point_lt_of_flush t hr s⟩ j := by
  refine Pipeline.eq_sum_fin_of_reset_step_apply_of_flush (fun n h => (outsAt0 m c n h).2) 32 (fun _ => 0) (term m c)
    (fun t h j => ?_) (fun t h j => ?_) t hr j
  · beta_reduce
    idx_vars j
    unfold term
    by_cases hj : j0.val = 0
    · obtain rfl : j0 = 0 := Fin.ext hj
      exact rowA m c t h j1
    · exact (restA m c t h j0 hj j1).trans ((congrArg (fun a : EReal => 0 + a) (if_neg hj)).trans (add_zero _)).symm
  · beta_reduce
    idx_vars j
    unfold term
    by_cases hj : j0.val = 0
    · obtain rfl : j0 = 0 := Fin.ext hj
      exact rowB m c t h j1
    · exact (restB m c t h j0 hj j1).trans ((congrArg (fun a : EReal => (outsAt0 m c (t.val - 1) (Nat.lt_of_le_of_lt (Nat.sub_le _ _) t.isLt)).2 (ix2 j0 j1) + a) (if_neg hj)).trans (add_zero _)).symm

/-- The cotangent of one block. -/
theorem outs (c : Dev nD) (t : Fin cfg0.N) (j : S512x1024.Idx) :
    (outsAt0 m c t.val t.isLt).1 j = miss m c t (j 0) (j 1) * ((1 / 1024 : ℝ) : EReal) := by
  unfold miss lhs rhs
  rw [← word1024]
  by_cases h : t.val % 32 = 0
  · rw [outsAt0_A m c t h]
    frame_out
    idx_vars j
    unfold k0_pay4 k0_pay2
    pointwise
  · rw [outsAt0_B m c t h]
    frame_out
    idx_vars j
    unfold k0_pay4 k0_pay2
    pointwise

/-- The cotangent after the call. -/
theorem left2 (c : Dev nD) : (dats m 0 c).arrAt 2 cfg0.N = slope (m (c.tc.loc main_arg0)) (m (c.tc.loc main_arg1)) := by
  refine (dats m 0 c).arrAt_eq_of_covers 2 (slope (m (c.tc.loc main_arg0)) (m (c.tc.loc main_arg1))) (by decide +kernel) fun t hf y => ?_
  rw [after0_2]
  blk_simp
  rw [outs]
  unfold miss lhs rhs slope
  refine congrArg₂ (fun a b : EReal => (a - b) * ((1 / 1024 : ℝ) : EReal)) ?_ ?_
  · blk_ext [iblk, V_main_arg0, (idx t).1, (idx t).2.2.1]
  · blk_ext [iblk, V_main_arg1, (idx t).2.1, (idx t).2.2.1]

/-- The sums after the call. -/
theorem left3 (c : Dev nD) : (dats m 0 c).arrAt 3 cfg0.N = sums (m (c.tc.loc main_arg0)) (m (c.tc.loc main_arg1)) := by
  refine (dats m 0 c).arrAt_eq_of_covers 3 (sums (m (c.tc.loc main_arg0)) (m (c.tc.loc main_arg1))) (by decide +kernel) fun t hf y => ?_
  rw [after0_3]
  have hr : t.val % 32 = 31 := (flush0_3 t).mp hf
  have ht : t.val < 32 := Nat.lt_of_lt_of_eq t.isLt N_0
  blk_simp
  rw [acc m c t hr, zero_add]
  obtain ⟨-, -, -, e3⟩ := idx t
  have e : ∀ d : Fin 1024, (∑ s : Fin 32, part m c ⟨32 * (t.val / 32) + s.val, Pipeline.run_point_lt_of_flush t hr s⟩ d)
      = ∑ s : Fin 16384, square (m (c.tc.loc main_arg0)) (m (c.tc.loc main_arg1)) s d := fun d => by
    unfold part miss lhs rhs square
    refine Fin.sum_mul_add_congr fun s k hl => ?_
    have hq : 32 * (t.val / 32) + s.val < cfg0.N := Pipeline.run_point_lt_of_flush t hr s
    obtain ⟨e0, e1, -⟩ := idx ⟨32 * (t.val / 32) + s.val, hq⟩
    refine congrArg₂ (fun a b : EReal => (a - b) * (a - b)) ?_ ?_
    · blk_ext [iblk, V_main_arg0, e0]
    · blk_ext [iblk, V_main_arg1, e1]
  unfold term sums
  have h0 : ((win0_3.blk t).view.emb y 0).val = (y 0).val := by blk_simp [e3]
  have h1 : (win0_3.blk t).view.emb y 1 = y 1 := Fin.ext (by blk_simp [e3])
  by_cases hj : (y 0).val = 0
  · rw [if_pos (h0.trans hj), h1]
    exact (sum_same fun s => if_pos hj).trans (e _)
  · rw [if_neg fun h => hj (h0.symm.trans h)]
    exact sum_none fun s => if_neg hj

/-- The share of the loss, through the host lines after the call. -/
theorem tail (c : Dev nD) : Pipeline.afterTail₀ cfgs (dats m) 0 (V0 m) [hostOps1] c main_v4 = loss (m (c.tc.loc main_arg0)) (m (c.tc.loc main_arg1)) := by
  unfold Pipeline.afterTail₀ hostOps1
  simp only [List.flatten_cons, List.flatten_nil, List.append_nil]
  after_results_simp
  rw [show (Pipeline.withArrays spec0 c (V0 m c) (fun w => (dats m 0 c).arrAt w cfg0.N) (Proc.devRef .tc main_v0_1))
    = (dats m 0 c).arrAt 3 cfg0.N from Pipeline.withArrays_arr spec0 launch0.win.arr_inj c _ _ 3, left3]
  funext i
  unfold loss sums
  rw [← word2048]
  pointwise

/-- Every run of the call ends with the share of the loss and the cotangent, and keeps the arguments. -/
theorem run : θ_run (defs (F := Ideal)) (onTc (τ := τ) (main (F := Ideal))) ⟨m, fun _ => 0, ρ⟩ fun r => ∀ c : Dev nD,
    r.2.mem (c.tc.loc main_v4) = (loss (m (c.tc.loc main_arg0)) (m (c.tc.loc main_arg1)))
      ∧ r.2.mem (c.tc.loc main_v0_0) = (slope (m (c.tc.loc main_arg0)) (m (c.tc.loc main_arg1)))
      ∧ r.2.mem (c.tc.loc main_arg0) = m (c.tc.loc main_arg0)
      ∧ r.2.mem (c.tc.loc main_arg1) = m (c.tc.loc main_arg1) :=
  (θ_run defs _ _).mono (fun r h c => ⟨((h c).2 main_v4 (Pipeline.mem_restRefs_of main_v4 (by decide) (by decide))).trans (tail m c),
    ((h c).1 2).trans (left2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ)

/-- Every run of the reference ends with the same arrays of its own arguments and keeps them. -/
theorem reference (m : (ℓ : Loc LossHeadReferenceIdeal.nD LossHeadReferenceIdeal.τ LossHeadReferenceIdeal.sig) → Buf (Elt Ideal) ℓ) (ρ : Dev LossHeadReferenceIdeal.nD → PrngReg) :
    θ_run (LossHeadReferenceIdeal.defs (F := Ideal)) (onTc (τ := LossHeadReferenceIdeal.τ) (LossHeadReferenceIdeal.main (F := Ideal))) ⟨m, fun _ => 0, ρ⟩ fun r =>
      ∀ c : Dev LossHeadReferenceIdeal.nD, (r.2.mem (c.tc.loc LossHeadReferenceIdeal.main_v8) = (loss (m (c.tc.loc LossHeadReferenceIdeal.main_arg0)) (m (c.tc.loc LossHeadReferenceIdeal.main_arg1)))
      ∧ r.2.mem (c.tc.loc LossHeadReferenceIdeal.main_v14) = (slope (m (c.tc.loc LossHeadReferenceIdeal.main_arg0)) (m (c.tc.loc LossHeadReferenceIdeal.main_arg1))))
      ∧ r.2.mem (c.tc.loc LossHeadReferenceIdeal.main_arg0) = m (c.tc.loc LossHeadReferenceIdeal.main_arg0)
      ∧ r.2.mem (c.tc.loc LossHeadReferenceIdeal.main_arg1) = m (c.tc.loc LossHeadReferenceIdeal.main_arg1) := by
  refine (θ_run _ _ _).mono (fun r h c => ?_) (LossHeadReferenceIdeal.Value.run m ρ)
  obtain ⟨h0, h1, hkeep⟩ := h c
  refine ⟨⟨h0.trans ?_, h1.trans ?_⟩, hkeep⟩
  · funext i
    unfold loss
    rw [← mean, ← half, ← width]
    unfold square
    pointwise
  · funext i
    unfold slope
    idx_vars i
    rw [← factor, ← half, ← width, ← two]
    pointwise

/-- The reference runs, keeps its arguments and declares no semaphore. -/
theorem frameReference : Cert.quiescent_LossHeadReferenceIdeal (hLossHeadReferenceIdeal := LossHeadReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_LossHeadIdeal_LossHeadReferenceIdeal (hLossHeadIdeal := facts) (hLossHeadReferenceIdeal := LossHeadReferenceIdeal.Gen.facts) := by
  intro m ρ m' ρ' _ hargs
  refine ⟨fun c => (loss (m (c.tc.loc main_arg0)) (m (c.tc.loc main_arg1))),
    fun c => (slope (m (c.tc.loc main_arg0)) (m (c.tc.loc main_arg1))),
    run m ρ, (θ_run _ _ _).mono (fun r h c => ?_) (reference m' ρ')⟩
  obtain ⟨hv, hkeep⟩ := h c
  obtain ⟨a0, a1⟩ := hargs c
  rw [a0, a1] at hv
  obtain ⟨h0, h1⟩ := hv
  exact ⟨h0, h1, hkeep⟩

end Cert.LossHeadIdeal.Step
-- ==== Proof.CondPre.lean ====
/- This chip's part of the conditioning layer: its columns of the embedding against its rows of the weight. -/
module

public import proofs.«01_k».proof.Defs
public import proofs.«01_k».proof.Proof.Gen.CondPreIdeal
public import proofs.«01_k».proof.Proof.Gen.CondPreIdeal.Frame
public import proofs.«01_k».proof.Proof.Gen.CondPreReferenceIdeal
public import proofs.«01_k».proof.Proof.Gen.CondPreReferenceIdeal.Run
public import proofs.«01_k».proof.Proof.Gen.CondPreIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CondPreIdeal.Step

open Cert.CondPreIdeal Cert.CondPreIdeal.Gen

variable (m : (ℓ : Loc nD τ sig) → Buf (Elt Ideal) ℓ) (ρ : Dev nD → PrngReg)

/-- The product of the two arguments. -/
def product (x : Vec Ideal S8x256 .f32) (w : Vec Ideal S256x1024 .f32) : Vec Ideal S8x1024 .f32 :=
  fun i => (∑ k : Fin 256, (x (ix2 (i 0) k) * w (ix2 k (i 1)) : EReal) : EReal)

/-- Every window's block index at a grid point. -/
theorem idx : ∀ t : Fin cfg0.N, win0_0.index t = ![0, 0] ∧ win0_1.index t = ![0, 0] ∧ win0_2.index t = ![0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The product of one block. -/
theorem block2 (x0 : Vec Ideal S8x256 .f32) (x1 : Vec Ideal S256x1024 .f32) (y : S8x1024.Idx) :
    out0_2 x0 x1 y = product x0 x1 y := by
  unfold out0_2
  open_payloads
  frame_out
  unfold product
  idx_vars y
  pointwise

/-- The product after the call. -/
theorem left2 (c : Dev nD) : (dats m 0 c).arrAt 2 cfg0.N = product (m (c.tc.loc main_arg0)) (m (c.tc.loc main_arg1)) := by
  refine (dats m 0 c).arrAt_eq_of_covers 2 (product (m (c.tc.loc main_arg0)) (m (c.tc.loc main_arg1))) (by decide +kernel) fun t hf y => ?_
  rw [after0_2]
  generalize e0 : iblk m c 0 t = x0
  generalize e1 : iblk m c 1 t = x1
  blk_simp
  rw [block2, ← e0, ← e1]
  unfold product
  refine sum_same fun k => ?_
  congr 1
  · blk_ext [iblk, V_main_arg0, (idx t).1, (idx t).2.2]
  · blk_ext [iblk, V_main_arg1, (idx t).2.1, (idx t).2.2]

/-- Every run of the call ends with these arrays and keeps the arguments. -/
theorem run : θ_run (defs (F := Ideal)) (onTc (τ := τ) (main (F := Ideal))) ⟨m, fun _ => 0, ρ⟩ fun r => ∀ c : Dev nD,
    r.2.mem (c.tc.loc main_v0) = (product (m (c.tc.loc main_arg0)) (m (c.tc.loc main_arg1)))
      ∧ r.2.mem (c.tc.loc main_arg0) = m (c.tc.loc main_arg0)
      ∧ r.2.mem (c.tc.loc main_arg1) = m (c.tc.loc main_arg1) :=
  (θ_run defs _ _).mono (fun r h c => ⟨(h c).1.trans (left2 m c), (h c).2⟩) (CondPreIdeal.Value.run_blocks m ρ)

/-- Every run of the reference ends with the same arrays of its own arguments and keeps them. -/
theorem reference (m : (ℓ : Loc CondPreReferenceIdeal.nD CondPreReferenceIdeal.τ CondPreReferenceIdeal.sig) → Buf (Elt Ideal) ℓ) (ρ : Dev CondPreReferenceIdeal.nD → PrngReg) :
    θ_run (CondPreReferenceIdeal.defs (F := Ideal)) (onTc (τ := CondPreReferenceIdeal.τ) (CondPreReferenceIdeal.main (F := Ideal))) ⟨m, fun _ => 0, ρ⟩ fun r =>
      ∀ c : Dev CondPreReferenceIdeal.nD, (r.2.mem (c.tc.loc CondPreReferenceIdeal.main_v0) = (product (m (c.tc.loc CondPreReferenceIdeal.main_arg0)) (m (c.tc.loc CondPreReferenceIdeal.main_arg1))))
      ∧ r.2.mem (c.tc.loc CondPreReferenceIdeal.main_arg0) = m (c.tc.loc CondPreReferenceIdeal.main_arg0)
      ∧ r.2.mem (c.tc.loc CondPreReferenceIdeal.main_arg1) = m (c.tc.loc CondPreReferenceIdeal.main_arg1) := by
  refine (θ_run _ _ _).mono (fun r h c => ?_) (CondPreReferenceIdeal.Value.run m ρ)
  obtain ⟨h0, hkeep⟩ := h c
  refine ⟨h0.trans ?_, hkeep⟩
  funext i
  unfold product
  idx_vars i
  pointwise

/-- The reference runs, keeps its arguments and declares no semaphore. -/
theorem frameReference : Cert.quiescent_CondPreReferenceIdeal (hCondPreReferenceIdeal := CondPreReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_CondPreIdeal_CondPreReferenceIdeal (hCondPreIdeal := facts) (hCondPreReferenceIdeal := CondPreReferenceIdeal.Gen.facts) := by
  intro m ρ m' ρ' _ hargs
  refine ⟨fun c => (product (m (c.tc.loc main_arg0)) (m (c.tc.loc main_arg1))),
    run m ρ, (θ_run _ _ _).mono (fun r h c => ?_) (reference m' ρ')⟩
  obtain ⟨hv, hkeep⟩ := h c
  obtain ⟨a0, a1⟩ := hargs c
  rw [a0, a1] at hv
  exact ⟨hv, hkeep⟩

end Cert.CondPreIdeal.Step
-- ==== Proof.CondE.lean ====
/- The conditioning layer's output: the chips' parts and the bias added, and its SiLU. -/
module

public import proofs.«01_k».proof.Defs
public import proofs.«01_k».proof.Proof.Gen.CondEIdeal
public import proofs.«01_k».proof.Proof.Gen.CondEIdeal.Frame
public import proofs.«01_k».proof.Proof.Gen.CondEReferenceIdeal
public import proofs.«01_k».proof.Proof.Gen.CondEReferenceIdeal.Run
public import proofs.«01_k».proof.Proof.Gen.CondEIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.CondEIdeal.Step

open Cert.CondEIdeal Cert.CondEIdeal.Gen

variable (m : (ℓ : Loc nD τ sig) → Buf (Elt Ideal) ℓ) (ρ : Dev nD → PrngReg)

/-- The parts of one column of chips and the bias added. -/
def before (p : Vec Ideal S8x8x1024 .f32) (b : Vec Ideal S1x1024 .f32) : Vec Ideal S8x1024 .f32 :=
  fun i => (p (ix3 0 (i 0) (i 1)) + p (ix3 2 (i 0) (i 1)) + p (ix3 4 (i 0) (i 1)) + p (ix3 6 (i 0) (i 1)) + b (ix2 0 (i 1)) : EReal)

/-- The SiLU of an extended real. -/
def silu (x : EReal) : EReal := x * Ideal.div 1 (1 + Ideal.exp (-x))

/-- The SiLU of the sum. -/
def after (p : Vec Ideal S8x8x1024 .f32) (b : Vec Ideal S1x1024 .f32) : Vec Ideal S8x1024 .f32 :=
  fun i => silu (before p b i)

/-- Every window's block index at a grid point. -/
theorem idx : ∀ t : Fin cfg0.N, win0_0.index t = ![0, 0, 0] ∧ win0_1.index t = ![0, 0] ∧ win0_2.index t = ![0, 0] ∧ win0_3.index t = ![0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The sum of one block. -/
theorem block2 (x0 : Vec Ideal S8x8x1024 .f32) (x1 : Vec Ideal S1x1024 .f32) (y : S8x1024.Idx) :
    out0_2 x0 x1 y = before x0 x1 y := by
  unfold out0_2
  open_payloads
  frame_out
  unfold before
  idx_vars y
  pointwise

/-- The sum's SiLU of one block. -/
theorem block3 (x0 : Vec Ideal S8x8x1024 .f32) (x1 : Vec Ideal S1x1024 .f32) (y : S8x1024.Idx) :
    out0_3 x0 x1 y = after x0 x1 y := by
  unfold out0_3
  open_payloads
  frame_out
  unfold after silu before
  idx_vars y
  pointwise
  rfl

/-- The first block is the whole argument. -/
theorem whole0 (c : Dev nD) (t : Fin cfg0.N) : iblk m c 0 t = m (c.tc.loc main_arg0) := by
  funext y
  idx_vars y
  blk_ext [iblk, V_main_arg0, (idx t).1]

/-- The second block is the whole argument. -/
theorem whole1 (c : Dev nD) (t : Fin cfg0.N) : iblk m c 1 t = m (c.tc.loc main_arg1) := by
  funext y
  idx_vars y
  blk_ext [iblk, V_main_arg1, (idx t).2.1]

/-- The sum after the call. -/
theorem left2 (c : Dev nD) : (dats m 0 c).arrAt 2 cfg0.N = before (m (c.tc.loc main_arg0)) (m (c.tc.loc main_arg1)) := by
  refine (dats m 0 c).arrAt_eq_of_covers 2 (before (m (c.tc.loc main_arg0)) (m (c.tc.loc main_arg1))) (by decide +kernel) fun t hf y => ?_
  rw [after0_2, whole0, whole1]
  blk_simp
  rw [block2]
  refine congrArg (before _ _) ?_
  blk_ext [(idx t).2.2.1]

/-- The sum's SiLU after the call. -/
theorem left3 (c : Dev nD) : (dats m 0 c).arrAt 3 cfg0.N = after (m (c.tc.loc main_arg0)) (m (c.tc.loc main_arg1)) := by
  refine (dats m 0 c).arrAt_eq_of_covers 3 (after (m (c.tc.loc main_arg0)) (m (c.tc.loc main_arg1))) (by decide +kernel) fun t hf y => ?_
  rw [after0_3, whole0, whole1]
  blk_simp
  rw [block3]
  refine congrArg (after _ _) ?_
  blk_ext [(idx t).2.2.2]

/-- Every run of the call ends with these arrays and keeps the arguments. -/
theorem run : θ_run (defs (F := Ideal)) (onTc (τ := τ) (main (F := Ideal))) ⟨m, fun _ => 0, ρ⟩ fun r => ∀ c : Dev nD,
    r.2.mem (c.tc.loc main_v0_0) = (before (m (c.tc.loc main_arg0)) (m (c.tc.loc main_arg1)))
      ∧ r.2.mem (c.tc.loc main_v0_1) = (after (m (c.tc.loc main_arg0)) (m (c.tc.loc main_arg1)))
      ∧ r.2.mem (c.tc.loc main_arg0) = m (c.tc.loc main_arg0)
      ∧ r.2.mem (c.tc.loc main_arg1) = m (c.tc.loc main_arg1) :=
  (θ_run defs _ _).mono (fun r h c => ⟨(h c).1.trans (left2 m c), (h c).2.1.trans (left3 m c), (h c).2.2⟩) (CondEIdeal.Value.run_blocks m ρ)

/-- Every run of the reference ends with the same arrays of its own arguments and keeps them. -/
theorem reference (m : (ℓ : Loc CondEReferenceIdeal.nD CondEReferenceIdeal.τ CondEReferenceIdeal.sig) → Buf (Elt Ideal) ℓ) (ρ : Dev CondEReferenceIdeal.nD → PrngReg) :
    θ_run (CondEReferenceIdeal.defs (F := Ideal)) (onTc (τ := CondEReferenceIdeal.τ) (CondEReferenceIdeal.main (F := Ideal))) ⟨m, fun _ => 0, ρ⟩ fun r =>
      ∀ c : Dev CondEReferenceIdeal.nD, (r.2.mem (c.tc.loc CondEReferenceIdeal.main_v12) = (before (m (c.tc.loc CondEReferenceIdeal.main_arg0)) (m (c.tc.loc CondEReferenceIdeal.main_arg1)))
      ∧ r.2.mem (c.tc.loc CondEReferenceIdeal.main_v13) = (after (m (c.tc.loc CondEReferenceIdeal.main_arg0)) (m (c.tc.loc CondEReferenceIdeal.main_arg1))))
      ∧ r.2.mem (c.tc.loc CondEReferenceIdeal.main_arg0) = m (c.tc.loc CondEReferenceIdeal.main_arg0)
      ∧ r.2.mem (c.tc.loc CondEReferenceIdeal.main_arg1) = m (c.tc.loc CondEReferenceIdeal.main_arg1) := by
  refine (θ_run _ _ _).mono (fun r h c => ?_) (CondEReferenceIdeal.Value.run m ρ)
  obtain ⟨h0, h1, hkeep⟩ := h c
  refine ⟨⟨h0.trans ?_, h1.trans ?_⟩, hkeep⟩
  · funext i
    unfold before
    idx_vars i
    pointwise
  · funext i
    unfold after silu before
    idx_vars i
    pointwise

/-- The reference runs, keeps its arguments and declares no semaphore. -/
theorem frameReference : Cert.quiescent_CondEReferenceIdeal (hCondEReferenceIdeal := CondEReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_CondEIdeal_CondEReferenceIdeal (hCondEIdeal := facts) (hCondEReferenceIdeal := CondEReferenceIdeal.Gen.facts) := by
  intro m ρ m' ρ' _ hargs
  refine ⟨fun c => (before (m (c.tc.loc main_arg0)) (m (c.tc.loc main_arg1))),
    fun c => (after (m (c.tc.loc main_arg0)) (m (c.tc.loc main_arg1))),
    run m ρ, (θ_run _ _ _).mono (fun r h c => ?_) (reference m' ρ')⟩
  obtain ⟨hv, hkeep⟩ := h c
  obtain ⟨a0, a1⟩ := hargs c
  rw [a0, a1] at hv
  obtain ⟨h0, h1⟩ := hv
  exact ⟨h0, h1, hkeep⟩

end Cert.CondEIdeal.Step
-- ==== Proof.ModCols.lean ====
/- This chip's columns of the modulations: the conditioning against each layer's weight, with the bias. -/
module

public import proofs.«01_k».proof.Defs
public import proofs.«01_k».proof.Proof.Gen.ModColsIdeal
public import proofs.«01_k».proof.Proof.Gen.ModColsIdeal.Frame
public import proofs.«01_k».proof.Proof.Gen.ModColsReferenceIdeal
public import proofs.«01_k».proof.Proof.Gen.ModColsReferenceIdeal.Run
public import proofs.«01_k».proof.Proof.Gen.ModColsIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModColsIdeal.Step

open Cert.ModColsIdeal Cert.ModColsIdeal.Gen

variable (m : (ℓ : Loc nD τ sig) → Buf (Elt Ideal) ℓ) (ρ : Dev nD → PrngReg)

/-- The modulations: each layer's product and its bias. -/
def cols (e : Vec Ideal S8x1024 .f32) (w : Vec Ideal S4x1024x2304 .f32) (b : Vec Ideal S4x1x2304 .f32) : Vec Ideal S4x8x2304 .f32 :=
  fun i => ((∑ k : Fin 1024, (e (ix2 (i 1) k) * w (ix3 (i 0) k (i 2)) : EReal)) + b (ix3 (i 0) 0 (i 2)) : EReal)

/-- The modulations of one layer. -/
def layer (e : Vec Ideal S8x1024 .f32) (w : Vec Ideal S1x1024x2304 .f32) (b : Vec Ideal S1x1x2304 .f32) (y : S1x8x2304.Idx) : EReal :=
  (∑ k : Fin 1024, (e (ix2 (y 1) k) * w (ix3 0 k (y 2)) : EReal)) + b (ix3 0 0 (y 2))

/-- Every window's block index at a grid point. -/
theorem idx : ∀ t : Fin cfg0.N, win0_0.index t = ![0, 0] ∧ win0_1.index t = ![t.val, 0, 0] ∧ win0_2.index t = ![t.val, 0, 0] ∧ win0_3.index t = ![t.val, 0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The modulations of one block. -/
theorem block3 (x0 : Vec Ideal S8x1024 .f32) (x1 : Vec Ideal S1x1024x2304 .f32) (x2 : Vec Ideal S1x1x2304 .f32) (y : S1x8x2304.Idx) :
    out0_3 x0 x1 x2 y = layer x0 x1 x2 y := by
  unfold out0_3
  open_payloads
  frame_out
  unfold layer
  idx_vars y
  pointwise

/-- The modulations after the call. -/
theorem left3 (c : Dev nD) : (dats m 0 c).arrAt 3 cfg0.N = cols (m (c.tc.loc main_arg0)) (m (c.tc.loc main_arg1)) (m (c.tc.loc main_arg2)) := by
  refine (dats m 0 c).arrAt_eq_of_covers 3 (cols (m (c.tc.loc main_arg0)) (m (c.tc.loc main_arg1)) (m (c.tc.loc main_arg2))) (by decide +kernel) fun t hf y => ?_
  rw [after0_3]
  generalize e0 : iblk m c 0 t = x0
  generalize e1 : iblk m c 1 t = x1
  generalize e2 : iblk m c 2 t = x2
  blk_simp
  rw [block3, ← e0, ← e1, ← e2]
  unfold cols layer
  refine congrArg₂ (fun a b : EReal => a + b) (sum_same fun k => ?_) ?_
  · congr 1
    · blk_ext [iblk, V_main_arg0, (idx t).1, (idx t).2.2.2]
    · blk_ext [iblk, V_main_arg1, (idx t).2.1, (idx t).2.2.2]
  · blk_ext [iblk, V_main_arg2, (idx t).2.2.1, (idx t).2.2.2]

/-- Every run of the call ends with these arrays and keeps the arguments. -/
theorem run : θ_run (defs (F := Ideal)) (onTc (τ := τ) (main (F := Ideal))) ⟨m, fun _ => 0, ρ⟩ fun r => ∀ c : Dev nD,
    r.2.mem (c.tc.loc main_v0) = (cols (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left3 m c), (h c).2⟩) (ModColsIdeal.Value.run_blocks m ρ)

/-- Every run of the reference ends with the same arrays of its own arguments and keeps them. -/
theorem reference (m : (ℓ : Loc ModColsReferenceIdeal.nD ModColsReferenceIdeal.τ ModColsReferenceIdeal.sig) → Buf (Elt Ideal) ℓ) (ρ : Dev ModColsReferenceIdeal.nD → PrngReg) :
    θ_run (ModColsReferenceIdeal.defs (F := Ideal)) (onTc (τ := ModColsReferenceIdeal.τ) (ModColsReferenceIdeal.main (F := Ideal))) ⟨m, fun _ => 0, ρ⟩ fun r =>
      ∀ c : Dev ModColsReferenceIdeal.nD, (r.2.mem (c.tc.loc ModColsReferenceIdeal.main_v3) = (cols (m (c.tc.loc ModColsReferenceIdeal.main_arg0)) (m (c.tc.loc ModColsReferenceIdeal.main_arg1)) (m (c.tc.loc ModColsReferenceIdeal.main_arg2))))
      ∧ r.2.mem (c.tc.loc ModColsReferenceIdeal.main_arg0) = m (c.tc.loc ModColsReferenceIdeal.main_arg0)
      ∧ r.2.mem (c.tc.loc ModColsReferenceIdeal.main_arg1) = m (c.tc.loc ModColsReferenceIdeal.main_arg1)
      ∧ r.2.mem (c.tc.loc ModColsReferenceIdeal.main_arg2) = m (c.tc.loc ModColsReferenceIdeal.main_arg2) := by
  refine (θ_run _ _ _).mono (fun r h c => ?_) (ModColsReferenceIdeal.Value.run m ρ)
  obtain ⟨h0, hkeep⟩ := h c
  refine ⟨h0.trans ?_, hkeep⟩
  funext i
  unfold cols
  idx_vars i
  pointwise
  refine congrArg₂ (fun a b : EReal => a + b) (sum_same fun k => mul_comm _ _) ?_
  rfl

/-- The reference runs, keeps its arguments and declares no semaphore. -/
theorem frameReference : Cert.quiescent_ModColsReferenceIdeal (hModColsReferenceIdeal := ModColsReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_ModColsIdeal_ModColsReferenceIdeal (hModColsIdeal := facts) (hModColsReferenceIdeal := ModColsReferenceIdeal.Gen.facts) := by
  intro m ρ m' ρ' _ hargs
  refine ⟨fun c => (cols (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.ModColsIdeal.Step
-- ==== Proof.GradConvIn.lean ====
/- The gradient of the convolution's input weight: the product over all tokens, each chip's columns by themselves. -/
module

public import proofs.«01_k».proof.Defs
public import proofs.«01_k».proof.Proof.Gen.GradConvInIdeal
public import proofs.«01_k».proof.Proof.Gen.GradConvInIdeal.Frame
public import proofs.«01_k».proof.Proof.Gen.GradConvInReferenceIdeal
public import proofs.«01_k».proof.Proof.Gen.GradConvInReferenceIdeal.Run
public import proofs.«01_k».proof.Proof.Gen.GradConvInIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradConvInIdeal.Step

open Cert.GradConvInIdeal Cert.GradConvInIdeal.Gen

variable (m : (ℓ : Loc nD τ sig) → Buf (Elt Ideal) ℓ) (ρ : Dev nD → PrngReg)

/-- A column of the whole weight, from the chip's place and the column among its own. -/
def col (j : Fin 4) (d : Fin 512) : Fin 2048 := ⟨j.val * 512 + d.val, by omega⟩

/-- Every window's block index at a grid point. -/
theorem idx : ∀ t : Fin cfg0.N, win0_0.index t = ![t.val % 16, 0] ∧ win0_1.index t = ![t.val % 16, t.val / 16]
    ∧ win0_2.index t = ![0, t.val / 16, 0, 0] :=
  (by decide +kernel : ∀ t : Fin grid0.N, _)

/-- The first operand's block at a grid point. -/
def lhs (c : Dev nD) (t : Fin cfg0.N) (k r : Fin 1024) : EReal := iblk m c 0 t (ix2 k r)
/-- The second operand's block at a grid point. -/
def rhs (c : Dev nD) (t : Fin cfg0.N) (k : Fin 1024) (d : Fin 512) : EReal := iblk m c 1 t (ix2 k d)

/-- What one grid point adds at an element of its block. -/
def term (c : Dev nD) (t : Fin cfg0.N) (j : S1x1x1024x512.Idx) : EReal :=
  ∑ k : Fin 1024, lhs m c t k (j 2) * rhs m c t k (j 3)

/-- After the last token tile a block holds the sum of the sixteen tiles' products. -/
theorem acc (c : Dev nD) (t : Fin cfg0.N) (hr : t.val % 16 = 15) (j : S1x1x1024x512.Idx) :
    outsAt0 m c t.val t.isLt j
      = 0 + ∑ s : Fin 16, term m c ⟨16 * (t.val / 16) + s.val, Pipeline.run_point_lt_of_flush t hr s⟩ j := by
  refine Pipeline.eq_sum_fin_of_reset_step_apply_of_flush (fun n h => outsAt0 m c n h) 16 (fun _ => 0) (term m c)
    (fun t h j => ?_) (fun t h j => ?_) t hr j
  · beta_reduce
    rw [outsAt0_A m c t h]
    frame_out
    idx_vars j
    unfold k0_pay2 k0_pay1
    pointwise
    rfl
  · beta_reduce
    rw [outsAt0_B m c t h]
    frame_out
    idx_vars j
    unfold k0_pay2
    pointwise
    rw [Subsingleton.elim j0 0, Subsingleton.elim j1 0]
    rfl

/-- The product over all tokens. -/
def product (a : Vec Ideal S16384x1024 .bf16) (b : Vec Ideal S16384x2048 .bf16) : Vec Ideal S2x4x1024x512 .f32 := fun i =>
  (∑ s : Fin 16384, (a (ix2 s (i 2)) * b (ix2 s (col (i 1) (i 3))) : EReal) : EReal)

/-- The result array: slot 0 is the product over all tokens; the other slot is the argument's. -/
def result (a : Vec Ideal S16384x1024 .bf16) (b : Vec Ideal S16384x2048 .bf16) (x : Vec Ideal S2x4x1024x512 .f32) :
    Vec Ideal S2x4x1024x512 .f32 := fun i => if (i 0).val = 0 then product a b i else x i

/-- The array the call leaves is the result array of its arguments. -/
theorem left (c : Dev nD) : (dats m 0 c).arrAt 2 cfg0.N = result (m (c.tc.loc main_arg0)) (m (c.tc.loc main_arg1)) (m (c.tc.loc main_arg2)) := by
  refine ((dats m 0 c).arrAt_eq_of_coversWhere 2 (product (m (c.tc.loc main_arg0)) (m (c.tc.loc main_arg1)))
    (fun β => β (0 : Fin _) = 0) (by decide +kernel) (P := fun i : S2x4x1024x512.Idx => (i 0).val = 0) (fun t hf y => ?_)
    (fun j => by blk_simp [Pipeline.Window.cell_apply]; omega)).trans ?_
  · blk_simp
    have hr : t.val % 16 = 15 := (flush0_2 t).mp hf
    rw [after0_2, acc m c t hr, zero_add]
    unfold term product lhs rhs
    refine Fin.sum_mul_add_congr fun s k hl => ?_
    have hq : 16 * (t.val / 16) + s.val < cfg0.N := Pipeline.run_point_lt_of_flush t hr s
    obtain ⟨e0, e1, -⟩ := idx ⟨16 * (t.val / 16) + s.val, hq⟩
    obtain ⟨-, -, e2⟩ := idx t
    congr 1
    · blk_ext [iblk, V_main_arg0, e0, e2]
    · blk_ext [iblk, V_main_arg1, e1, e2, col]
  · rfl

/-- Every run of the call ends with the result array and keeps the arguments. -/
theorem run : θ_run (defs (F := Ideal)) (onTc (τ := τ) (main (F := Ideal))) ⟨m, fun _ => 0, ρ⟩ fun r => ∀ c : Dev nD,
    r.2.mem (c.tc.loc main_v0) = (result (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left m c), (h c).2⟩) (GradConvInIdeal.Value.run_blocks m ρ)

/-- The factors of a product of two extended reals in the other order. -/
theorem swap (a b : EReal) : a * b = b * a := mul_comm a b

/-- Every run of the reference ends with the same arrays of its own arguments and keeps them. -/
theorem reference (m : (ℓ : Loc GradConvInReferenceIdeal.nD GradConvInReferenceIdeal.τ GradConvInReferenceIdeal.sig) → Buf (Elt Ideal) ℓ) (ρ : Dev GradConvInReferenceIdeal.nD → PrngReg) :
    θ_run (GradConvInReferenceIdeal.defs (F := Ideal)) (onTc (τ := GradConvInReferenceIdeal.τ) (GradConvInReferenceIdeal.main (F := Ideal))) ⟨m, fun _ => 0, ρ⟩ fun r =>
      ∀ c : Dev GradConvInReferenceIdeal.nD, (r.2.mem (c.tc.loc GradConvInReferenceIdeal.main_v10) = (result (m (c.tc.loc GradConvInReferenceIdeal.main_arg0)) (m (c.tc.loc GradConvInReferenceIdeal.main_arg1)) (m (c.tc.loc GradConvInReferenceIdeal.main_arg2))))
      ∧ r.2.mem (c.tc.loc GradConvInReferenceIdeal.main_arg0) = m (c.tc.loc GradConvInReferenceIdeal.main_arg0)
      ∧ r.2.mem (c.tc.loc GradConvInReferenceIdeal.main_arg1) = m (c.tc.loc GradConvInReferenceIdeal.main_arg1)
      ∧ r.2.mem (c.tc.loc GradConvInReferenceIdeal.main_arg2) = m (c.tc.loc GradConvInReferenceIdeal.main_arg2) := by
  refine (θ_run _ _ _).mono (fun r h c => ?_) (GradConvInReferenceIdeal.Value.run m ρ)
  obtain ⟨h0, hkeep⟩ := h c
  refine ⟨h0.trans ?_, hkeep⟩
  funext i
  unfold result product
  idx_vars i
  pointwise
  by_cases h0 : i0.val = 0
  · rw [dif_pos (show i0.val < 1 by omega)]
    refine Eq.trans ?_ (if_pos h0).symm
    exact Finset.sum_congr rfl fun x _ => swap _ _
  · rw [dif_neg (show ¬i0.val < 1 by omega)]
    refine Eq.trans ?_ (if_neg h0).symm
    congr 2
    exact Fin.ext (show 1 + (i0.val - 1) = i0.val by omega)

/-- The reference runs, keeps its arguments and declares no semaphore. -/
theorem frameReference : Cert.quiescent_GradConvInReferenceIdeal (hGradConvInReferenceIdeal := GradConvInReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_GradConvInIdeal_GradConvInReferenceIdeal (hGradConvInIdeal := facts) (hGradConvInReferenceIdeal := GradConvInReferenceIdeal.Gen.facts) := by
  intro m ρ m' ρ' _ hargs
  refine ⟨fun c => (result (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.GradConvInIdeal.Step
-- ==== Proof.GradConvOut.lean ====
/- The gradient of the convolution's output weight: the product over all tokens, each chip's columns by themselves. -/
module

public import proofs.«01_k».proof.Defs
public import proofs.«01_k».proof.Proof.Gen.GradConvOutIdeal
public import proofs.«01_k».proof.Proof.Gen.GradConvOutIdeal.Frame
public import proofs.«01_k».proof.Proof.Gen.GradConvOutReferenceIdeal
public import proofs.«01_k».proof.Proof.Gen.GradConvOutReferenceIdeal.Run
public import proofs.«01_k».proof.Proof.Gen.GradConvOutIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradConvOutIdeal.Step

open Cert.GradConvOutIdeal Cert.GradConvOutIdeal.Gen

variable (m : (ℓ : Loc nD τ sig) → Buf (Elt Ideal) ℓ) (ρ : Dev nD → PrngReg)

/-- Every window's block index at a grid point. -/
theorem idx : ∀ t : Fin cfg0.N, win0_0.index t = ![t.val % 16, 0] ∧ win0_1.index t = ![t.val % 16, 0]
    ∧ win0_2.index t = ![0, t.val / 16, 0, 0] :=
  (by decide +kernel : ∀ t : Fin grid0.N, _)

/-- The first operand's block at a grid point. -/
def lhs (c : Dev nD) (t : Fin cfg0.N) (k r : Fin 1024) : EReal := iblk m c 0 t (ix2 k r)
/-- The second operand's block at a grid point. -/
def rhs (c : Dev nD) (t : Fin cfg0.N) (k : Fin 1024) (d : Fin 1024) : EReal := iblk m c 1 t (ix2 k d)

/-- What one grid point adds at an element of its block. -/
def term (c : Dev nD) (t : Fin cfg0.N) (j : S1x1x1024x1024.Idx) : EReal :=
  ∑ k : Fin 1024, lhs m c t k (j 2) * rhs m c t k (j 3)

/-- After the last token tile a block holds the sum of the sixteen tiles' products. -/
theorem acc (c : Dev nD) (t : Fin cfg0.N) (hr : t.val % 16 = 15) (j : S1x1x1024x1024.Idx) :
    outsAt0 m c t.val t.isLt j
      = 0 + ∑ s : Fin 16, term m c ⟨16 * (t.val / 16) + s.val, Pipeline.run_point_lt_of_flush t hr s⟩ j := by
  refine Pipeline.eq_sum_fin_of_reset_step_apply_of_flush (fun n h => outsAt0 m c n h) 16 (fun _ => 0) (term m c)
    (fun t h j => ?_) (fun t h j => ?_) t hr j
  · beta_reduce
    rw [outsAt0_A m c t h]
    frame_out
    idx_vars j
    unfold k0_pay2 k0_pay1
    pointwise
    rfl
  · beta_reduce
    rw [outsAt0_B m c t h]
    frame_out
    idx_vars j
    unfold k0_pay2
    pointwise
    rw [Subsingleton.elim j0 0, Subsingleton.elim j1 0]
    rfl

/-- The product over all tokens. -/
def product (a : Vec Ideal S16384x1024 .bf16) (b : Vec Ideal S16384x1024 .bf16) : Vec Ideal S2x1x1024x1024 .f32 := fun i =>
  (∑ s : Fin 16384, (a (ix2 s (i 2)) * b (ix2 s (i 3)) : EReal) : EReal)

/-- The result array: slot 0 is the product over all tokens; the other slot is the argument's. -/
def result (a : Vec Ideal S16384x1024 .bf16) (b : Vec Ideal S16384x1024 .bf16) (x : Vec Ideal S2x1x1024x1024 .f32) :
    Vec Ideal S2x1x1024x1024 .f32 := fun i => if (i 0).val = 0 then product a b i else x i

/-- The array the call leaves is the result array of its arguments. -/
theorem left (c : Dev nD) : (dats m 0 c).arrAt 2 cfg0.N = result (m (c.tc.loc main_arg0)) (m (c.tc.loc main_arg1)) (m (c.tc.loc main_arg2)) := by
  refine ((dats m 0 c).arrAt_eq_of_coversWhere 2 (product (m (c.tc.loc main_arg0)) (m (c.tc.loc main_arg1)))
    (fun β => β (0 : Fin _) = 0) (by decide +kernel) (P := fun i : S2x1x1024x1024.Idx => (i 0).val = 0) (fun t hf y => ?_)
    (fun j => by blk_simp [Pipeline.Window.cell_apply]; omega)).trans ?_
  · blk_simp
    have hr : t.val % 16 = 15 := (flush0_2 t).mp hf
    rw [after0_2, acc m c t hr, zero_add]
    unfold term product lhs rhs
    refine Fin.sum_mul_add_congr fun s k hl => ?_
    have hq : 16 * (t.val / 16) + s.val < cfg0.N := Pipeline.run_point_lt_of_flush t hr s
    obtain ⟨e0, e1, -⟩ := idx ⟨16 * (t.val / 16) + s.val, hq⟩
    obtain ⟨-, -, e2⟩ := idx t
    congr 1
    · blk_ext [iblk, V_main_arg0, e0, e2]
    · blk_ext [iblk, V_main_arg1, e1, e2]
  · rfl

/-- Every run of the call ends with the result array and keeps the arguments. -/
theorem run : θ_run (defs (F := Ideal)) (onTc (τ := τ) (main (F := Ideal))) ⟨m, fun _ => 0, ρ⟩ fun r => ∀ c : Dev nD,
    r.2.mem (c.tc.loc main_v0) = (result (m (c.tc.loc main_arg0)) (m (c.tc.loc main_arg1)) (m (c.tc.loc main_arg2)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left m c), (h c).2⟩) (GradConvOutIdeal.Value.run_blocks m ρ)

/-- The factors of a product of two extended reals in the other order. -/
theorem swap (a b : EReal) : a * b = b * a := mul_comm a b

/-- Every run of the reference ends with the same arrays of its own arguments and keeps them. -/
theorem reference (m : (ℓ : Loc GradConvOutReferenceIdeal.nD GradConvOutReferenceIdeal.τ GradConvOutReferenceIdeal.sig) → Buf (Elt Ideal) ℓ) (ρ : Dev GradConvOutReferenceIdeal.nD → PrngReg) :
    θ_run (GradConvOutReferenceIdeal.defs (F := Ideal)) (onTc (τ := GradConvOutReferenceIdeal.τ) (GradConvOutReferenceIdeal.main (F := Ideal))) ⟨m, fun _ => 0, ρ⟩ fun r =>
      ∀ c : Dev GradConvOutReferenceIdeal.nD, (r.2.mem (c.tc.loc GradConvOutReferenceIdeal.main_v8) = (result (m (c.tc.loc GradConvOutReferenceIdeal.main_arg0)) (m (c.tc.loc GradConvOutReferenceIdeal.main_arg1)) (m (c.tc.loc GradConvOutReferenceIdeal.main_arg2))))
      ∧ r.2.mem (c.tc.loc GradConvOutReferenceIdeal.main_arg0) = m (c.tc.loc GradConvOutReferenceIdeal.main_arg0)
      ∧ r.2.mem (c.tc.loc GradConvOutReferenceIdeal.main_arg1) = m (c.tc.loc GradConvOutReferenceIdeal.main_arg1)
      ∧ r.2.mem (c.tc.loc GradConvOutReferenceIdeal.main_arg2) = m (c.tc.loc GradConvOutReferenceIdeal.main_arg2) := by
  refine (θ_run _ _ _).mono (fun r h c => ?_) (GradConvOutReferenceIdeal.Value.run m ρ)
  obtain ⟨h0, hkeep⟩ := h c
  refine ⟨h0.trans ?_, hkeep⟩
  funext i
  unfold result product
  idx_vars i
  obtain rfl : i1 = 0 := Subsingleton.elim _ _
  pointwise
  by_cases h0 : i0.val = 0
  · rw [dif_pos (show i0.val < 1 by omega)]
    refine Eq.trans ?_ (if_pos h0).symm
    exact Finset.sum_congr rfl fun x _ => swap _ _
  · rw [dif_neg (show ¬i0.val < 1 by omega)]
    refine Eq.trans ?_ (if_neg h0).symm
    congr 2
    exact Fin.ext (show 1 + (i0.val - 1) = i0.val by omega)

/-- The reference runs, keeps its arguments and declares no semaphore. -/
theorem frameReference : Cert.quiescent_GradConvOutReferenceIdeal (hGradConvOutReferenceIdeal := GradConvOutReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_GradConvOutIdeal_GradConvOutReferenceIdeal (hGradConvOutIdeal := facts) (hGradConvOutReferenceIdeal := GradConvOutReferenceIdeal.Gen.facts) := by
  intro m ρ m' ρ' _ hargs
  refine ⟨fun c => (result (m (c.tc.loc main_arg0)) (m (c.tc.loc main_arg1)) (m (c.tc.loc main_arg2))),
    run m ρ, (θ_run _ _ _).mono (fun r h c => ?_) (reference m' ρ')⟩
  obtain ⟨hv, hkeep⟩ := h c
  obtain ⟨a0, a1, a2⟩ := hargs c
  rw [a0, a1, a2] at hv
  exact ⟨hv, hkeep⟩

end Cert.GradConvOutIdeal.Step
-- ==== Proof.GradQkv.lean ====
/- The gradient of the attention's query, key and value weight: the product over all tokens, each chip's columns by themselves. -/
module

public import proofs.«01_k».proof.Defs
public import proofs.«01_k».proof.Proof.Gen.GradQkvIdeal
public import proofs.«01_k».proof.Proof.Gen.GradQkvIdeal.Frame
public import proofs.«01_k».proof.Proof.Gen.GradQkvReferenceIdeal
public import proofs.«01_k».proof.Proof.Gen.GradQkvReferenceIdeal.Run
public import proofs.«01_k».proof.Proof.Gen.GradQkvIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradQkvIdeal.Step

open Cert.GradQkvIdeal Cert.GradQkvIdeal.Gen

variable (m : (ℓ : Loc nD τ sig) → Buf (Elt Ideal) ℓ) (ρ : Dev nD → PrngReg)

/-- A column of the whole weight, from the chip's place and the column among its own. -/
def col (j : Fin 4) (d : Fin 768) : Fin 3072 := ⟨j.val * 768 + d.val, by omega⟩

/-- Every window's block index at a grid point. -/
theorem idx : ∀ t : Fin cfg0.N, win0_0.index t = ![t.val % 16, 0] ∧ win0_1.index t = ![t.val % 16, t.val / 16]
    ∧ win0_2.index t = ![0, t.val / 16, 0, 0] :=
  (by decide +kernel : ∀ t : Fin grid0.N, _)

/-- The first operand's block at a grid point. -/
def lhs (c : Dev nD) (t : Fin cfg0.N) (k r : Fin 1024) : EReal := iblk m c 0 t (ix2 k r)
/-- The second operand's block at a grid point. -/
def rhs (c : Dev nD) (t : Fin cfg0.N) (k : Fin 1024) (d : Fin 768) : EReal := iblk m c 1 t (ix2 k d)

/-- What one grid point adds at an element of its block. -/
def term (c : Dev nD) (t : Fin cfg0.N) (j : S1x1x1024x768.Idx) : EReal :=
  ∑ k : Fin 1024, lhs m c t k (j 2) * rhs m c t k (j 3)

/-- After the last token tile a block holds the sum of the sixteen tiles' products. -/
theorem acc (c : Dev nD) (t : Fin cfg0.N) (hr : t.val % 16 = 15) (j : S1x1x1024x768.Idx) :
    outsAt0 m c t.val t.isLt j
      = 0 + ∑ s : Fin 16, term m c ⟨16 * (t.val / 16) + s.val, Pipeline.run_point_lt_of_flush t hr s⟩ j := by
  refine Pipeline.eq_sum_fin_of_reset_step_apply_of_flush (fun n h => outsAt0 m c n h) 16 (fun _ => 0) (term m c)
    (fun t h j => ?_) (fun t h j => ?_) t hr j
  · beta_reduce
    rw [outsAt0_A m c t h]
    frame_out
    idx_vars j
    unfold k0_pay2 k0_pay1
    pointwise
    rfl
  · beta_reduce
    rw [outsAt0_B m c t h]
    frame_out
    idx_vars j
    unfold k0_pay2
    pointwise
    rw [Subsingleton.elim j0 0, Subsingleton.elim j1 0]
    rfl

/-- The product over all tokens. -/
def product (a : Vec Ideal S16384x1024 .bf16) (b : Vec Ideal S16384x3072 .bf16) : Vec Ideal S1x4x1024x768 .f32 := fun i =>
  (∑ s : Fin 16384, (a (ix2 s (i 2)) * b (ix2 s (col (i 1) (i 3))) : EReal) : EReal)

/-- The array the call leaves is the result array of its arguments. -/
theorem left (c : Dev nD) : (dats m 0 c).arrAt 2 cfg0.N = product (m (c.tc.loc main_arg0)) (m (c.tc.loc main_arg1)) := by
  refine (dats m 0 c).arrAt_eq_of_covers 2 (product (m (c.tc.loc main_arg0)) (m (c.tc.loc main_arg1))) (by decide +kernel) fun t hf y => ?_
  · blk_simp
    have hr : t.val % 16 = 15 := (flush0_2 t).mp hf
    rw [after0_2, acc m c t hr, zero_add]
    unfold term product lhs rhs
    refine Fin.sum_mul_add_congr fun s k hl => ?_
    have hq : 16 * (t.val / 16) + s.val < cfg0.N := Pipeline.run_point_lt_of_flush t hr s
    obtain ⟨e0, e1, -⟩ := idx ⟨16 * (t.val / 16) + s.val, hq⟩
    obtain ⟨-, -, e2⟩ := idx t
    congr 1
    · blk_ext [iblk, V_main_arg0, e0, e2]
    · blk_ext [iblk, V_main_arg1, e1, e2, col]

/-- Every run of the call ends with the result array and keeps the arguments. -/
theorem run : θ_run (defs (F := Ideal)) (onTc (τ := τ) (main (F := Ideal))) ⟨m, fun _ => 0, ρ⟩ fun r => ∀ c : Dev nD,
    r.2.mem (c.tc.loc main_v0) = (product (m (c.tc.loc main_arg0)) (m (c.tc.loc main_arg1)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left m c), (h c).2⟩) (GradQkvIdeal.Value.run_blocks m ρ)

/-- The factors of a product of two extended reals in the other order. -/
theorem swap (a b : EReal) : a * b = b * a := mul_comm a b

/-- Every run of the reference ends with the same arrays of its own arguments and keeps them. -/
theorem reference (m : (ℓ : Loc GradQkvReferenceIdeal.nD GradQkvReferenceIdeal.τ GradQkvReferenceIdeal.sig) → Buf (Elt Ideal) ℓ) (ρ : Dev GradQkvReferenceIdeal.nD → PrngReg) :
    θ_run (GradQkvReferenceIdeal.defs (F := Ideal)) (onTc (τ := GradQkvReferenceIdeal.τ) (GradQkvReferenceIdeal.main (F := Ideal))) ⟨m, fun _ => 0, ρ⟩ fun r =>
      ∀ c : Dev GradQkvReferenceIdeal.nD, (r.2.mem (c.tc.loc GradQkvReferenceIdeal.main_v8) = (product (m (c.tc.loc GradQkvReferenceIdeal.main_arg0)) (m (c.tc.loc GradQkvReferenceIdeal.main_arg1))))
      ∧ r.2.mem (c.tc.loc GradQkvReferenceIdeal.main_arg0) = m (c.tc.loc GradQkvReferenceIdeal.main_arg0)
      ∧ r.2.mem (c.tc.loc GradQkvReferenceIdeal.main_arg1) = m (c.tc.loc GradQkvReferenceIdeal.main_arg1)
      ∧ r.2.mem (c.tc.loc GradQkvReferenceIdeal.main_arg2) = m (c.tc.loc GradQkvReferenceIdeal.main_arg2) := by
  refine (θ_run _ _ _).mono (fun r h c => ?_) (GradQkvReferenceIdeal.Value.run m ρ)
  obtain ⟨h0, hkeep⟩ := h c
  refine ⟨h0.trans ?_, hkeep⟩
  funext i
  unfold product
  idx_vars i
  pointwise
  exact Finset.sum_congr rfl fun x _ => swap _ _

/-- The reference runs, keeps its arguments and declares no semaphore. -/
theorem frameReference : Cert.quiescent_GradQkvReferenceIdeal (hGradQkvReferenceIdeal := GradQkvReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_GradQkvIdeal_GradQkvReferenceIdeal (hGradQkvIdeal := facts) (hGradQkvReferenceIdeal := GradQkvReferenceIdeal.Gen.facts) := by
  intro m ρ m' ρ' _ hargs
  refine ⟨fun c => (product (m (c.tc.loc main_arg0)) (m (c.tc.loc main_arg1))),
    run m ρ, (θ_run _ _ _).mono (fun r h c => ?_) (reference m' ρ')⟩
  obtain ⟨hv, hkeep⟩ := h c
  obtain ⟨a0, a1, a2⟩ := hargs c
  rw [a0, a1] at hv
  exact ⟨hv, hkeep⟩

end Cert.GradQkvIdeal.Step
-- ==== Proof.GradAttnOut.lean ====
/- The gradient of the attention's output weight: the product over all tokens, each chip's columns by themselves. -/
module

public import proofs.«01_k».proof.Defs
public import proofs.«01_k».proof.Proof.Gen.GradAttnOutIdeal
public import proofs.«01_k».proof.Proof.Gen.GradAttnOutIdeal.Frame
public import proofs.«01_k».proof.Proof.Gen.GradAttnOutReferenceIdeal
public import proofs.«01_k».proof.Proof.Gen.GradAttnOutReferenceIdeal.Run
public import proofs.«01_k».proof.Proof.Gen.GradAttnOutIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GradAttnOutIdeal.Step

open Cert.GradAttnOutIdeal Cert.GradAttnOutIdeal.Gen

variable (m : (ℓ : Loc nD τ sig) → Buf (Elt Ideal) ℓ) (ρ : Dev nD → PrngReg)

/-- Every window's block index at a grid point. -/
theorem idx : ∀ t : Fin cfg0.N, win0_0.index t = ![t.val % 16, 0] ∧ win0_1.index t = ![t.val % 16, 0]
    ∧ win0_2.index t = ![0, t.val / 16, 0, 0] :=
  (by decide +kernel : ∀ t : Fin grid0.N, _)

/-- The first operand's block at a grid point. -/
def lhs (c : Dev nD) (t : Fin cfg0.N) (k r : Fin 1024) : EReal := iblk m c 0 t (ix2 k r)
/-- The second operand's block at a grid point. -/
def rhs (c : Dev nD) (t : Fin cfg0.N) (k : Fin 1024) (d : Fin 1024) : EReal := iblk m c 1 t (ix2 k d)

/-- What one grid point adds at an element of its block. -/
def term (c : Dev nD) (t : Fin cfg0.N) (j : S1x1x1024x1024.Idx) : EReal :=
  ∑ k : Fin 1024, lhs m c t k (j 2) * rhs m c t k (j 3)

/-- After the last token tile a block holds the sum of the sixteen tiles' products. -/
theorem acc (c : Dev nD) (t : Fin cfg0.N) (hr : t.val % 16 = 15) (j : S1x1x1024x1024.Idx) :
    outsAt0 m c t.val t.isLt j
      = 0 + ∑ s : Fin 16, term m c ⟨16 * (t.val / 16) + s.val, Pipeline.run_point_lt_of_flush t hr s⟩ j := by
  refine Pipeline.eq_sum_fin_of_reset_step_apply_of_flush (fun n h => outsAt0 m c n h) 16 (fun _ => 0) (term m c)
    (fun t h j => ?_) (fun t h j => ?_) t hr j
  · beta_reduce
    rw [outsAt0_A m c t h]
    frame_out
    idx_vars j
    unfold k0_pay2 k0_pay1
    pointwise
    rfl
  · beta_reduce
    rw [outsAt0_B m c t h]
    frame_out
    idx_vars j
    unfold k0_pay2
    pointwise
    rw [Subsingleton.elim j0 0, Subsingleton.elim j1 0]
    rfl

/-- The product over all tokens. -/
def product (a : Vec Ideal S16384x1024 .bf16) (b : Vec Ideal S16384x1024 .bf16) : Vec Ideal S1x1x1024x1024 .f32 := fun i =>
  (∑ s : Fin 16384, (a (ix2 s (i 2)) * b (ix2 s (i 3)) : EReal) : EReal)

/-- The array the call leaves is the result array of its arguments. -/
theorem left (c : Dev nD) : (dats m 0 c).arrAt 2 cfg0.N = product (m (c.tc.loc main_arg0)) (m (c.tc.loc main_arg1)) := by
  refine (dats m 0 c).arrAt_eq_of_covers 2 (product (m (c.tc.loc main_arg0)) (m (c.tc.loc main_arg1))) (by decide +kernel) fun t hf y => ?_
  · blk_simp
    have hr : t.val % 16 = 15 := (flush0_2 t).mp hf
    rw [after0_2, acc m c t hr, zero_add]
    unfold term product lhs rhs
    refine Fin.sum_mul_add_congr fun s k hl => ?_
    have hq : 16 * (t.val / 16) + s.val < cfg0.N := Pipeline.run_point_lt_of_flush t hr s
    obtain ⟨e0, e1, -⟩ := idx ⟨16 * (t.val / 16) + s.val, hq⟩
    obtain ⟨-, -, e2⟩ := idx t
    congr 1
    · blk_ext [iblk, V_main_arg0, e0, e2]
    · blk_ext [iblk, V_main_arg1, e1, e2]

/-- Every run of the call ends with the result array and keeps the arguments. -/
theorem run : θ_run (defs (F := Ideal)) (onTc (τ := τ) (main (F := Ideal))) ⟨m, fun _ => 0, ρ⟩ fun r => ∀ c : Dev nD,
    r.2.mem (c.tc.loc main_v0) = (product (m (c.tc.loc main_arg0)) (m (c.tc.loc main_arg1)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨(h c).1.trans (left m c), (h c).2⟩) (GradAttnOutIdeal.Value.run_blocks m ρ)

/-- The factors of a product of two extended reals in the other order. -/
theorem swap (a b : EReal) : a * b = b * a := mul_comm a b

/-- Every run of the reference ends with the same arrays of its own arguments and keeps them. -/
theorem reference (m : (ℓ : Loc GradAttnOutReferenceIdeal.nD GradAttnOutReferenceIdeal.τ GradAttnOutReferenceIdeal.sig) → Buf (Elt Ideal) ℓ) (ρ : Dev GradAttnOutReferenceIdeal.nD → PrngReg) :
    θ_run (GradAttnOutReferenceIdeal.defs (F := Ideal)) (onTc (τ := GradAttnOutReferenceIdeal.τ) (GradAttnOutReferenceIdeal.main (F := Ideal))) ⟨m, fun _ => 0, ρ⟩ fun r =>
      ∀ c : Dev GradAttnOutReferenceIdeal.nD, (r.2.mem (c.tc.loc GradAttnOutReferenceIdeal.main_v6) = (product (m (c.tc.loc GradAttnOutReferenceIdeal.main_arg0)) (m (c.tc.loc GradAttnOutReferenceIdeal.main_arg1))))
      ∧ r.2.mem (c.tc.loc GradAttnOutReferenceIdeal.main_arg0) = m (c.tc.loc GradAttnOutReferenceIdeal.main_arg0)
      ∧ r.2.mem (c.tc.loc GradAttnOutReferenceIdeal.main_arg1) = m (c.tc.loc GradAttnOutReferenceIdeal.main_arg1)
      ∧ r.2.mem (c.tc.loc GradAttnOutReferenceIdeal.main_arg2) = m (c.tc.loc GradAttnOutReferenceIdeal.main_arg2) := by
  refine (θ_run _ _ _).mono (fun r h c => ?_) (GradAttnOutReferenceIdeal.Value.run m ρ)
  obtain ⟨h0, hkeep⟩ := h c
  refine ⟨h0.trans ?_, hkeep⟩
  funext i
  unfold product
  idx_vars i
  pointwise
  exact Finset.sum_congr rfl fun x _ => swap _ _

/-- The reference runs, keeps its arguments and declares no semaphore. -/
theorem frameReference : Cert.quiescent_GradAttnOutReferenceIdeal (hGradAttnOutReferenceIdeal := GradAttnOutReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_GradAttnOutIdeal_GradAttnOutReferenceIdeal (hGradAttnOutIdeal := facts) (hGradAttnOutReferenceIdeal := GradAttnOutReferenceIdeal.Gen.facts) := by
  intro m ρ m' ρ' _ hargs
  refine ⟨fun c => (product (m (c.tc.loc main_arg0)) (m (c.tc.loc main_arg1))),
    run m ρ, (θ_run _ _ _).mono (fun r h c => ?_) (reference m' ρ')⟩
  obtain ⟨hv, hkeep⟩ := h c
  obtain ⟨a0, a1, a2⟩ := hargs c
  rw [a0, a1] at hv
  exact ⟨hv, hkeep⟩

end Cert.GradAttnOutIdeal.Step
-- ==== Proof.OutFwd.lean ====
/- The attention's output projection: the projected tokens, and the gated sum with the stream. -/
module

public import proofs.«01_k».proof.Defs
public import proofs.«01_k».proof.Proof.Gen.OutFwdIdeal
public import proofs.«01_k».proof.Proof.Gen.OutFwdIdeal.Frame
public import proofs.«01_k».proof.Proof.Gen.OutFwdReferenceIdeal
public import proofs.«01_k».proof.Proof.Gen.OutFwdReferenceIdeal.Run
public import proofs.«01_k».proof.Proof.Gen.OutFwdIdeal.Value
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutFwdIdeal.Step

open Cert.OutFwdIdeal Cert.OutFwdIdeal.Gen

variable (m : (ℓ : Loc nD τ sig) → Buf (Elt Ideal) ℓ) (ρ : Dev nD → PrngReg)

/-- The projection of one token's row. -/
def proj (t : Fin 1024 → EReal) (w : Vec Ideal S1024x1024 .bf16) (d : Fin 1024) : EReal := ∑ k : Fin 1024, t k * w (ix2 k d)

/-- The projected tokens. -/
def project (t : Vec Ideal S16384x1024 .bf16) (w : Vec Ideal S1024x1024 .bf16) : Vec Ideal S16384x1024 .bf16 :=
  fun i => proj (fun k => t (ix2 (i 0) k)) w (i 1)

/-- The stream with the gated projection added. -/
def summed (x : Vec Ideal S16384x1024 .f32) (t : Vec Ideal S16384x1024 .bf16) (v : Vec Ideal S8x1024 .f32) (w : Vec Ideal S1024x1024 .bf16) :
    Vec Ideal S16384x1024 .f32 :=
  fun i => (x i + v (ix2 2 (i 1)) * proj (fun k => t (ix2 (i 0) k)) w (i 1) : EReal)

/-- Every window's block index at a grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The projected tokens of one block. -/
theorem block5 (x0 : Vec Ideal S512x1024 .f32) (x1 : Vec Ideal S512x1024 .bf16) (x2 : Vec Ideal S8x1024 .f32) (x3 : Vec Ideal S1024x1024 .bf16) (y : S512x1024.Idx) :
    out0_5 x0 x1 x2 x3 y = proj (fun k => x1 (ix2 (y 0) k)) x3 (y 1) := by
  unfold out0_5
  open_payloads
  frame_out
  unfold proj
  idx_vars y
  pointwise

/-- The gated sum of one block. -/
theorem block4 (x0 : Vec Ideal S512x1024 .f32) (x1 : Vec Ideal S512x1024 .bf16) (x2 : Vec Ideal S8x1024 .f32) (x3 : Vec Ideal S1024x1024 .bf16) (y : S512x1024.Idx) :
    out0_4 x0 x1 x2 x3 y = (x0 y + x2 (ix2 2 (y 1)) * proj (fun k => x1 (ix2 (y 0) k)) x3 (y 1) : EReal) := by
  unfold out0_4
  open_payloads
  frame_out
  unfold proj
  idx_vars y
  pointwise

/-- The projected tokens after the call. -/
theorem left5 (c : Dev nD) : (dats m 0 c).arrAt 5 cfg0.N = project (m (c.tc.loc main_arg1)) (m (c.tc.loc main_arg3)) := by
  refine (dats m 0 c).arrAt_eq_of_covers 5 (project (m (c.tc.loc main_arg1)) (m (c.tc.loc main_arg3))) (by decide +kernel) fun t hf y => ?_
  rw [after0_5]
  generalize e1 : iblk m c 1 t = x1
  generalize e3 : iblk m c 3 t = x3
  blk_simp
  rw [block5, ← e1, ← e3]
  unfold project proj
  refine sum_same fun k => ?_
  congr 1
  · blk_ext [iblk, V_main_arg1, (idx t).2.1, (idx t).2.2.2.2.2]
  · blk_ext [iblk, V_main_arg3, (idx t).2.2.2.1, (idx t).2.2.2.2.2]

/-- The gated sum after the call. -/
theorem left4 (c : Dev nD) : (dats m 0 c).arrAt 4 cfg0.N = summed (m (c.tc.loc main_arg0)) (m (c.tc.loc main_arg1)) (m (c.tc.loc main_arg2)) (m (c.tc.loc main_arg3)) := by
  refine (dats m 0 c).arrAt_eq_of_covers 4 (summed (m (c.tc.loc main_arg0)) (m (c.tc.loc main_arg1)) (m (c.tc.loc main_arg2)) (m (c.tc.loc main_arg3))) (by decide +kernel) fun t hf y => ?_
  rw [after0_4]
  generalize e0 : iblk m c 0 t = x0
  generalize e1 : iblk m c 1 t = x1
  generalize e2 : iblk m c 2 t = x2
  generalize e3 : iblk m c 3 t = x3
  blk_simp
  rw [block4, ← e0, ← e1, ← e2, ← e3]
  unfold summed proj
  refine congrArg₂ (fun a b : EReal => a + b) ?_ (congrArg₂ (fun a b : EReal => a * b) ?_ (sum_same fun k => ?_))
  · blk_ext [iblk, V_main_arg0, (idx t).1, (idx t).2.2.2.2.1]
  · blk_ext [iblk, V_main_arg2, (idx t).2.2.1, (idx t).2.2.2.2.1]
  congr 1
  · blk_ext [iblk, V_main_arg1, (idx t).2.1, (idx t).2.2.2.2.1]
  · blk_ext [iblk, V_main_arg3, (idx t).2.2.2.1, (idx t).2.2.2.2.1]

/-- Every run of the call ends with these arrays and keeps the arguments. -/
theorem run : θ_run (defs (F := Ideal)) (onTc (τ := τ) (main (F := Ideal))) ⟨m, fun _ => 0, ρ⟩ fun r => ∀ c : Dev nD,
    r.2.mem (c.tc.loc main_v0_0) = (summed (m (c.tc.loc main_arg0)) (m (c.tc.loc main_arg1)) (m (c.tc.loc main_arg2)) (m (c.tc.loc main_arg3)))
      ∧ r.2.mem (c.tc.loc main_v0_1) = (project (m (c.tc.loc main_arg1)) (m (c.tc.loc main_arg3)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (left4 m c), (h c).2.1.trans (left5 m c), (h c).2.2⟩) (OutFwdIdeal.Value.run_blocks m ρ)

/-- Every run of the reference ends with the same arrays of its own arguments and keeps them. -/
theorem reference (m : (ℓ : Loc OutFwdReferenceIdeal.nD OutFwdReferenceIdeal.τ OutFwdReferenceIdeal.sig) → Buf (Elt Ideal) ℓ) (ρ : Dev OutFwdReferenceIdeal.nD → PrngReg) :
    θ_run (OutFwdReferenceIdeal.defs (F := Ideal)) (onTc (τ := OutFwdReferenceIdeal.τ) (OutFwdReferenceIdeal.main (F := Ideal))) ⟨m, fun _ => 0, ρ⟩ fun r =>
      ∀ c : Dev OutFwdReferenceIdeal.nD, (r.2.mem (c.tc.loc OutFwdReferenceIdeal.main_v8) = (summed (m (c.tc.loc OutFwdReferenceIdeal.main_arg0)) (m (c.tc.loc OutFwdReferenceIdeal.main_arg1)) (m (c.tc.loc OutFwdReferenceIdeal.main_arg2)) (m (c.tc.loc OutFwdReferenceIdeal.main_arg3)))
      ∧ r.2.mem (c.tc.loc OutFwdReferenceIdeal.main_v9) = (project (m (c.tc.loc OutFwdReferenceIdeal.main_arg1)) (m (c.tc.loc OutFwdReferenceIdeal.main_arg3))))
      ∧ r.2.mem (c.tc.loc OutFwdReferenceIdeal.main_arg0) = m (c.tc.loc OutFwdReferenceIdeal.main_arg0)
      ∧ r.2.mem (c.tc.loc OutFwdReferenceIdeal.main_arg1) = m (c.tc.loc OutFwdReferenceIdeal.main_arg1)
      ∧ r.2.mem (c.tc.loc OutFwdReferenceIdeal.main_arg2) = m (c.tc.loc OutFwdReferenceIdeal.main_arg2)
      ∧ r.2.mem (c.tc.loc OutFwdReferenceIdeal.main_arg3) = m (c.tc.loc OutFwdReferenceIdeal.main_arg3) := by
  refine (θ_run _ _ _).mono (fun r h c => ?_) (OutFwdReferenceIdeal.Value.run m ρ)
  obtain ⟨h0, h1, hkeep⟩ := h c
  refine ⟨⟨h0.trans ?_, h1.trans ?_⟩, hkeep⟩
  · funext i
    unfold summed proj
    idx_vars i
    pointwise
  · funext i
    unfold project proj
    idx_vars i
    pointwise

/-- The reference runs, keeps its arguments and declares no semaphore. -/
theorem frameReference : Cert.quiescent_OutFwdReferenceIdeal (hOutFwdReferenceIdeal := OutFwdReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_OutFwdIdeal_OutFwdReferenceIdeal (hOutFwdIdeal := facts) (hOutFwdReferenceIdeal := OutFwdReferenceIdeal.Gen.facts) := by
  intro m ρ m' ρ' _ hargs
  refine ⟨fun c => (summed (m (c.tc.loc main_arg0)) (m (c.tc.loc main_arg1)) (m (c.tc.loc main_arg2)) (m (c.tc.loc main_arg3))),
    fun c => (project (m (c.tc.loc main_arg1)) (m (c.tc.loc main_arg3))),
    run m ρ, (θ_run _ _ _).mono (fun r h c => ?_) (reference m' ρ')⟩
  obtain ⟨hv, hkeep⟩ := h c
  obtain ⟨a0, a1, a2, a3⟩ := hargs c
  rw [a0, a1, a2, a3] at hv
  obtain ⟨h0, h1⟩ := hv
  exact ⟨h0, h1, hkeep⟩

end Cert.OutFwdIdeal.Step
-- ==== Proof.OutBwd.lean ====
/- The attention's output projection backward: the gated cotangent, the projection's input's, and the gate's summed over the tokens. -/
module

public import proofs.«01_k».proof.Defs
public import proofs.«01_k».proof.Proof.Gen.OutBwdIdeal
public import proofs.«01_k».proof.Proof.Gen.OutBwdIdeal.Frame
public import proofs.«01_k».proof.Proof.Gen.OutBwdReferenceIdeal
public import proofs.«01_k».proof.Proof.Gen.OutBwdReferenceIdeal.Run
public import proofs.«01_k».proof.Proof.Gen.OutBwdIdeal.Value
public import Idealize.ShloMosaic.Lib.WritesUnit
public import Idealize.ShloMosaic.Lib.Pipeline.ReadBack
public import Idealize.ShloMosaic.Lib.Pipeline.ValueKit
public import Idealize.ShloMosaic.Lib.Pipeline.FrameSuffix
public import Idealize.ShloMosaic.Lib.Claim
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutBwdIdeal.Step

open Cert.OutBwdIdeal Cert.OutBwdIdeal.Gen

variable (m : (ℓ : Loc nD τ sig) → Buf (Elt Ideal) ℓ) (ρ : Dev nD → PrngReg)

/-- The cotangent of the projected tokens: the gate times the stream's. -/
def gated (g : Vec Ideal S16384x1024 .f32) (v : Vec Ideal S8x1024 .f32) : Vec Ideal S16384x1024 .bf16 :=
  fun i => (v (ix2 2 (i 1)) * g i : EReal)

/-- The cotangent of the projection's input, for one row of the stream's cotangent. -/
def proj (g : Fin 1024 → EReal) (v : Vec Ideal S8x1024 .f32) (w : Vec Ideal S1024x1024 .bf16) (d : Fin 1024) : EReal :=
  ∑ k : Fin 1024, v (ix2 2 k) * g k * w (ix2 d k)

/-- The cotangent of the projection's input. -/
def back (g : Vec Ideal S16384x1024 .f32) (v : Vec Ideal S8x1024 .f32) (w : Vec Ideal S1024x1024 .bf16) : Vec Ideal S16384x1024 .bf16 :=
  fun i => proj (fun k => g (ix2 (i 0) k)) v w (i 1)

/-- The gate's gradient, the sum over all tokens. -/
def gate (g : Vec Ideal S16384x1024 .f32) (y : Vec Ideal S16384x1024 .bf16) (d : Fin 1024) : EReal :=
  ∑ s : Fin 16384, g (ix2 s d) * y (ix2 s d)

/-- The gate's gradient in row 2 of an array of zeros. -/
def sums (g : Vec Ideal S16384x1024 .f32) (y : Vec Ideal S16384x1024 .bf16) : Vec Ideal S8x1024 .f32 :=
  fun i => if (i 0).val = 2 then gate g y (i 1) else (0 : EReal)

/-- Every window's block index at a grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![0, 0] :=
  (by decide +kernel : ∀ t : Fin grid0.N, _)

/-- Sums of equal terms are equal. -/
theorem sum_same {n : Nat} {f g : Fin n → EReal} (h : ∀ k, f k = g k) : (∑ k : Fin n, f k) = ∑ k : Fin n, g k :=
  Finset.sum_congr rfl fun k _ => h k

/-- The stream's cotangent at a grid point. -/
def lhs (c : Dev nD) (t : Fin cfg0.N) (k : Fin 512) (d : Fin 1024) : EReal := iblk m c 0 t (ix2 k d)
/-- The projected tokens at a grid point. -/
def rhs (c : Dev nD) (t : Fin cfg0.N) (k : Fin 512) (d : Fin 1024) : EReal := iblk m c 1 t (ix2 k d)
/-- The gate at a grid point. -/
def scale (c : Dev nD) (t : Fin cfg0.N) (d : Fin 1024) : EReal := iblk m c 2 t (ix2 2 d)

/-- A sum of zeros is zero. -/
theorem sum_none {n : Nat} {f : Fin n → EReal} (h : ∀ k, f k = 0) : (∑ k : Fin n, f k) = 0 :=
  Finset.sum_eq_zero fun k _ => h k

/-- What one grid point adds to the sums over the tokens. -/
def part (c : Dev nD) (t : Fin cfg0.N) (d : Fin 1024) : EReal := ∑ k : Fin 512, lhs m c t k d * rhs m c t k d

/-- The same, at every row: the other rows get nothing. -/
def term (c : Dev nD) (t : Fin cfg0.N) (j : S8x1024.Idx) : EReal := if (j 0).val = 2 then part m c t (j 1) else 0

/-- The sums after the first point: the row that is added to. -/
theorem rowA (c : Dev nD) (t : Fin cfg0.N) (h : t.val % 32 = 0) (d : Fin 1024) :
    ((outsAt0 m c t.val t.isLt).2.2 (ix2 2 d) : EReal) = 0 + part m c t d := by
  unfold part lhs rhs
  rw [outsAt0_A m c t h]
  dsimp only
  frame_out
  generalize iblk m c 0 t = x0
  generalize iblk m c 1 t = x1
  generalize iblk m c 2 t = x2
  generalize iblk m c 3 t = x3
  refine Eq.trans (View.read_writes_junk_apply_eq_canon (ms0_6 t).view _ _).symm ?_
  refine Eq.trans (View.read_writes_cons_rows_of_mem _ _ _ _ _ _ (ix2 0 d : S1x1024.Idx) rfl rfl rfl) ?_
  simp (disch := first | rfl | decide) only [View.readCov_skip, View.readCov_fill]
  open_payloads
  pointwise

/-- The sums after the first point: the other rows. -/
theorem restA (c : Dev nD) (t : Fin cfg0.N) (h : t.val % 32 = 0) (r : Fin 8) (hr : r.val ≠ 2) (d : Fin 1024) :
    ((outsAt0 m c t.val t.isLt).2.2 (ix2 r d) : EReal) = 0 := by
  rw [outsAt0_A m c t h]
  dsimp only
  frame_out
  generalize iblk m c 0 t = x0
  generalize iblk m c 1 t = x1
  generalize iblk m c 2 t = x2
  generalize iblk m c 3 t = x3
  refine Eq.trans (View.read_writes_junk_apply_eq_canon (ms0_6 t).view _ _).symm ?_
  rcases Nat.lt_or_gt_of_ne hr with h2 | h2
  · refine Eq.trans (View.read_writes_cons_rows_of_not_mem _ _ _ _ _ _ rfl (show S1x1024.size 0 = 1 from rfl) (.inl h2)) ?_
    refine Eq.trans (View.read_writes_cons_rows_of_mem _ _ _ _ _ _ (ix2 r d : S8x1024.Idx) rfl (Nat.zero_add _).symm rfl) ?_
    unfold k0_pay1
    pointwise
  · refine Eq.trans (View.read_writes_cons_rows_of_not_mem _ _ _ _ _ _ rfl (show S1x1024.size 0 = 1 from rfl) (.inr h2)) ?_
    refine Eq.trans (View.read_writes_cons_rows_of_mem _ _ _ _ _ _ (ix2 r d : S8x1024.Idx) rfl (Nat.zero_add _).symm rfl) ?_
    unfold k0_pay1
    pointwise

/-- The sums after a later point: the row that is added to. -/
theorem rowB (c : Dev nD) (t : Fin cfg0.N) (h : ¬t.val % 32 = 0) (d : Fin 1024) :
    ((outsAt0 m c t.val t.isLt).2.2 (ix2 2 d) : EReal) = ((outsAt0 m c (t.val - 1) (Nat.lt_of_le_of_lt (Nat.sub_le _ _) t.isLt)).2.2 (ix2 2 d) : EReal) + part m c t d := by
  unfold part lhs rhs
  rw [outsAt0_B m c t h]
  dsimp only
  frame_out
  generalize iblk m c 0 t = x0
  generalize iblk m c 1 t = x1
  generalize iblk m c 2 t = x2
  generalize iblk m c 3 t = x3
  generalize (outsAt0 m c (t.val - 1) (Nat.lt_of_le_of_lt (Nat.sub_le _ _) t.isLt)).2.2 = p
  refine Eq.trans (View.read_writes_cons_rows_of_mem _ _ _ _ _ _ (ix2 0 d : S1x1024.Idx) rfl rfl rfl) ?_
  open_payloads
  pointwise

/-- The sums after a later point: the other rows. -/
theorem restB (c : Dev nD) (t : Fin cfg0.N) (h : ¬t.val % 32 = 0) (r : Fin 8) (hr : r.val ≠ 2) (d : Fin 1024) :
    ((outsAt0 m c t.val t.isLt).2.2 (ix2 r d) : EReal) = ((outsAt0 m c (t.val - 1) (Nat.lt_of_le_of_lt (Nat.sub_le _ _) t.isLt)).2.2 (ix2 r d) : EReal) := by
  rw [outsAt0_B m c t h]
  dsimp only
  frame_out
  generalize iblk m c 0 t = x0
  generalize iblk m c 1 t = x1
  generalize iblk m c 2 t = x2
  generalize iblk m c 3 t = x3
  generalize (outsAt0 m c (t.val - 1) (Nat.lt_of_le_of_lt (Nat.sub_le _ _) t.isLt)).2.2 = p
  rcases Nat.lt_or_gt_of_ne hr with h2 | h2
  · refine Eq.trans (View.read_writes_cons_rows_of_not_mem _ _ _ _ _ _ rfl (show S1x1024.size 0 = 1 from rfl) (.inl h2)) ?_
    exact congrFun (Memref.IsWhole.read_unread _ _) _
  · refine Eq.trans (View.read_writes_cons_rows_of_not_mem _ _ _ _ _ _ rfl (show S1x1024.size 0 = 1 from rfl) (.inr h2)) ?_
    exact congrFun (Memref.IsWhole.read_unread _ _) _

/-- After the last token tile the sums hold the sum of the thirty-two tiles' parts. -/
theorem acc (c : Dev nD) (t : Fin cfg0.N) (hr : t.val % 32 = 31) (j : S8x1024.Idx) :
    (outsAt0 m c t.val t.isLt).2.2 j
      = 0 + ∑ s : Fin 32, term m c ⟨32 * (t.val / 32) + s.val, Pipeline.run_point_lt_of_flush t hr s⟩ j := by
  refine Pipeline.eq_sum_fin_of_reset_step_apply_of_flush (fun n h => (outsAt0 m c n h).2.2) 32 (fun _ => 0) (term m c)
    (fun t h j => ?_) (fun t h j => ?_) t hr j
  · beta_reduce
    idx_vars j
    unfold term
    by_cases hj : j0.val = 2
    · obtain rfl : j0 = 2 := Fin.ext hj
      exact rowA m c t h j1
    · exact (restA m c t h j0 hj j1).trans ((congrArg (fun a : EReal => 0 + a) (if_neg hj)).trans (add_zero _)).symm
  · beta_reduce
    idx_vars j
    unfold term
    by_cases hj : j0.val = 2
    · obtain rfl : j0 = 2 := Fin.ext hj
      exact rowB m c t h j1
    · exact (restB m c t h j0 hj j1).trans ((congrArg (fun a : EReal => (outsAt0 m c (t.val - 1) (Nat.lt_of_le_of_lt (Nat.sub_le _ _) t.isLt)).2.2 (ix2 j0 j1) + a) (if_neg hj)).trans (add_zero _)).symm

/-- The projection's input's cotangent of one block. -/
theorem tokens (c : Dev nD) (t : Fin cfg0.N) (j : S512x1024.Idx) :
    (outsAt0 m c t.val t.isLt).1 j = proj (fun k => iblk m c 0 t (ix2 (j 0) k)) (iblk m c 2 t) (iblk m c 3 t) (j 1) := by
  unfold proj
  by_cases h : t.val % 32 = 0
  · rw [outsAt0_A m c t h]
    frame_out
    idx_vars j
    unfold k0_pay4 k0_pay3
    pointwise
  · rw [outsAt0_B m c t h]
    frame_out
    idx_vars j
    unfold k0_pay4 k0_pay3
    pointwise

/-- The gated cotangent of one block. -/
theorem outs (c : Dev nD) (t : Fin cfg0.N) (j : S512x1024.Idx) :
    (outsAt0 m c t.val t.isLt).2.1 j = scale m c t (j 1) * lhs m c t (j 0) (j 1) := by
  unfold scale lhs
  by_cases h : t.val % 32 = 0
  · rw [outsAt0_A m c t h]
    frame_out
    idx_vars j
    unfold k0_pay3
    pointwise
  · rw [outsAt0_B m c t h]
    frame_out
    idx_vars j
    unfold k0_pay3
    pointwise

/-- The projection's input's cotangent after the call. -/
theorem left4 (c : Dev nD) : (dats m 0 c).arrAt 4 cfg0.N = back (m (c.tc.loc main_arg0)) (m (c.tc.loc main_arg2)) (m (c.tc.loc main_arg3)) := by
  refine (dats m 0 c).arrAt_eq_of_covers 4 (back (m (c.tc.loc main_arg0)) (m (c.tc.loc main_arg2)) (m (c.tc.loc main_arg3))) (by decide +kernel) fun t hf y => ?_
  rw [after0_4]
  blk_simp
  rw [tokens]
  unfold back proj
  refine sum_same fun k => ?_
  refine congrArg₂ (fun a b : EReal => a * b) (congrArg₂ (fun a b : EReal => a * b) ?_ ?_) ?_
  · blk_ext [iblk, V_main_arg2, (idx t).2.2.1, (idx t).2.2.2.2.1]
  · blk_ext [iblk, V_main_arg0, (idx t).1, (idx t).2.2.2.2.1]
  · blk_ext [iblk, V_main_arg3, (idx t).2.2.2.1, (idx t).2.2.2.2.1]

/-- The gated cotangent after the call. -/
theorem left5 (c : Dev nD) : (dats m 0 c).arrAt 5 cfg0.N = gated (m (c.tc.loc main_arg0)) (m (c.tc.loc main_arg2)) := by
  refine (dats m 0 c).arrAt_eq_of_covers 5 (gated (m (c.tc.loc main_arg0)) (m (c.tc.loc main_arg2))) (by decide +kernel) fun t hf y => ?_
  rw [after0_5]
  blk_simp
  rw [outs]
  unfold scale lhs gated
  refine congrArg₂ (fun a b : EReal => a * b) ?_ ?_
  · blk_ext [iblk, V_main_arg2, (idx t).2.2.1, (idx t).2.2.2.2.2.1]
  · blk_ext [iblk, V_main_arg0, (idx t).1, (idx t).2.2.2.2.2.1]

/-- The sums after the call. -/
theorem left6 (c : Dev nD) : (dats m 0 c).arrAt 6 cfg0.N = sums (m (c.tc.loc main_arg0)) (m (c.tc.loc main_arg1)) := by
  refine (dats m 0 c).arrAt_eq_of_covers 6 (sums (m (c.tc.loc main_arg0)) (m (c.tc.loc main_arg1))) (by decide +kernel) fun t hf y => ?_
  rw [after0_6]
  have hr : t.val % 32 = 31 := (flush0_6 t).mp hf
  have ht : t.val < 32 := Nat.lt_of_lt_of_eq t.isLt N_0
  blk_simp
  rw [acc m c t hr, zero_add]
  obtain ⟨-, -, -, -, -, -, e6⟩ := idx t
  have e : ∀ d : Fin 1024, (∑ s : Fin 32, part m c ⟨32 * (t.val / 32) + s.val, Pipeline.run_point_lt_of_flush t hr s⟩ d)
      = gate (m (c.tc.loc main_arg0)) (m (c.tc.loc main_arg1)) d := fun d => by
    unfold part lhs rhs gate
    refine Fin.sum_mul_add_congr fun s k hl => ?_
    have hq : 32 * (t.val / 32) + s.val < cfg0.N := Pipeline.run_point_lt_of_flush t hr s
    obtain ⟨e0, e1, -⟩ := idx ⟨32 * (t.val / 32) + s.val, hq⟩
    congr 1
    · blk_ext [iblk, V_main_arg0, e0]
    · blk_ext [iblk, V_main_arg1, e1]
  unfold term sums
  have h0 : ((win0_6.blk t).view.emb y 0).val = (y 0).val := by blk_simp [e6]
  have h1 : (win0_6.blk t).view.emb y 1 = y 1 := Fin.ext (by blk_simp [e6])
  by_cases hj : (y 0).val = 2
  · rw [if_pos (h0.trans hj), h1]
    exact (sum_same fun s => if_pos hj).trans (e _)
  · rw [if_neg fun h => hj (h0.symm.trans h)]
    exact sum_none fun s => if_neg hj

/-- Every run of the call ends with these arrays and keeps the arguments. -/
theorem run : θ_run (defs (F := Ideal)) (onTc (τ := τ) (main (F := Ideal))) ⟨m, fun _ => 0, ρ⟩ fun r => ∀ c : Dev nD,
    r.2.mem (c.tc.loc main_v0_0) = (back (m (c.tc.loc main_arg0)) (m (c.tc.loc main_arg2)) (m (c.tc.loc main_arg3)))
      ∧ r.2.mem (c.tc.loc main_v0_1) = (gated (m (c.tc.loc main_arg0)) (m (c.tc.loc main_arg2)))
      ∧ r.2.mem (c.tc.loc main_v0_2) = (sums (m (c.tc.loc main_arg0)) (m (c.tc.loc main_arg1)))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨(h c).1.trans (left4 m c), (h c).2.1.trans (left5 m c), (h c).2.2.1.trans (left6 m c), (h c).2.2.2⟩) (OutBwdIdeal.Value.run_blocks m ρ)

/-- Every run of the reference ends with the same arrays of its own arguments and keeps them. -/
theorem reference (m : (ℓ : Loc OutBwdReferenceIdeal.nD OutBwdReferenceIdeal.τ OutBwdReferenceIdeal.sig) → Buf (Elt Ideal) ℓ) (ρ : Dev OutBwdReferenceIdeal.nD → PrngReg) :
    θ_run (OutBwdReferenceIdeal.defs (F := Ideal)) (onTc (τ := OutBwdReferenceIdeal.τ) (OutBwdReferenceIdeal.main (F := Ideal))) ⟨m, fun _ => 0, ρ⟩ fun r =>
      ∀ c : Dev OutBwdReferenceIdeal.nD, (r.2.mem (c.tc.loc OutBwdReferenceIdeal.main_v15) = (back (m (c.tc.loc OutBwdReferenceIdeal.main_arg0)) (m (c.tc.loc OutBwdReferenceIdeal.main_arg2)) (m (c.tc.loc OutBwdReferenceIdeal.main_arg3)))
      ∧ r.2.mem (c.tc.loc OutBwdReferenceIdeal.main_v9) = (gated (m (c.tc.loc OutBwdReferenceIdeal.main_arg0)) (m (c.tc.loc OutBwdReferenceIdeal.main_arg2)))
      ∧ r.2.mem (c.tc.loc OutBwdReferenceIdeal.main_v18) = (sums (m (c.tc.loc OutBwdReferenceIdeal.main_arg0)) (m (c.tc.loc OutBwdReferenceIdeal.main_arg1))))
      ∧ r.2.mem (c.tc.loc OutBwdReferenceIdeal.main_arg0) = m (c.tc.loc OutBwdReferenceIdeal.main_arg0)
      ∧ r.2.mem (c.tc.loc OutBwdReferenceIdeal.main_arg1) = m (c.tc.loc OutBwdReferenceIdeal.main_arg1)
      ∧ r.2.mem (c.tc.loc OutBwdReferenceIdeal.main_arg2) = m (c.tc.loc OutBwdReferenceIdeal.main_arg2)
      ∧ r.2.mem (c.tc.loc OutBwdReferenceIdeal.main_arg3) = m (c.tc.loc OutBwdReferenceIdeal.main_arg3) := by
  refine (θ_run _ _ _).mono (fun r h c => ?_) (OutBwdReferenceIdeal.Value.run m ρ)
  obtain ⟨h0, h1, h2, hkeep⟩ := h c
  refine ⟨⟨h0.trans ?_, h1.trans ?_, h2.trans ?_⟩, hkeep⟩
  · funext i
    unfold back proj
    idx_vars i
    pointwise
  · funext i
    unfold gated
    idx_vars i
    pointwise
  · funext i
    unfold sums gate
    idx_vars i
    pointwise
    by_cases h : i0.val = 2
    · rw [dif_neg (show ¬i0.val < 2 by omega), dif_pos (show i0.val - 2 < 1 by omega)]
      exact (if_pos h).symm
    · refine Eq.trans ?_ (if_neg h).symm
      by_cases h2 : i0.val < 2
      · rw [dif_pos h2]
      · rw [dif_neg h2, dif_neg (show ¬i0.val - 2 < 1 by omega)]

/-- The reference runs, keeps its arguments and declares no semaphore. -/
theorem frameReference : Cert.quiescent_OutBwdReferenceIdeal (hOutBwdReferenceIdeal := OutBwdReferenceIdeal.Gen.facts) :=
  fun m ρ _ => (θ_run _ _ _).mono (fun r h => ⟨fun c => (h c).2, sem_eq_zero_of_no_sems rfl r.2⟩) (reference m ρ)

/-- The call and its reference end with the same arrays. -/
theorem algebraic : Cert.algebraic_OutBwdIdeal_OutBwdReferenceIdeal (hOutBwdIdeal := facts) (hOutBwdReferenceIdeal := OutBwdReferenceIdeal.Gen.facts) := by
  intro m ρ m' ρ' _ hargs
  refine ⟨fun c => (back (m (c.tc.loc main_arg0)) (m (c.tc.loc main_arg2)) (m (c.tc.loc main_arg3))),
    fun c => (gated (m (c.tc.loc main_arg0)) (m (c.tc.loc main_arg2))),
    fun c => (sums (m (c.tc.loc main_arg0)) (m (c.tc.loc main_arg1))),
    run m ρ, (θ_run _ _ _).mono (fun r h c => ?_) (reference m' ρ')⟩
  obtain ⟨hv, hkeep⟩ := h c
  obtain ⟨a0, a1, a2, a3⟩ := hargs c
  rw [a0, a1, a2, a3] at hv
  obtain ⟨h0, h1, h2⟩ := hv
  exact ⟨h0, h1, h2, hkeep⟩

end Cert.OutBwdIdeal.Step
-- ==== Proof.GradValue.lean ====
/- The weight gradient's result array as one function of its arguments: slot 0 holds the four chunks' products, summed
   over the token tiles; the other slots keep the argument's contents. -/
module

public import proofs.«01_k».proof.Defs
public import proofs.«01_k».proof.Proof.Gen.GradIdeal.Value
public import proofs.«01_k».proof.Proof.Gen.GradReferenceIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GradIdeal.Sum

open Cert.GradIdeal Cert.GradIdeal.Gen Cert.GradIdeal.Value

variable (m : (ℓ : Loc nD τ sig) → Buf (Elt Ideal) ℓ) (ρ : Dev nD → PrngReg)

/-- Every window's block index at a grid point, on the axes that move. -/
theorem idx : ∀ t : Fin cfg0.N, win0_0.index t = ![t.val / 16, t.val % 16, 0] ∧ win0_1.index t = ![t.val % 16, 0]
    ∧ win0_2.index t = ![0, t.val / 16, 0, 0] :=
  (by decide +kernel : ∀ t : Fin grid0.N, _)

/-- The two operands' blocks at a grid point, as extended reals. -/
def lhs (c : Dev nD) (t : Fin cfg0.N) (k : Fin 1024) (r : Fin 704) : EReal := iblk m c 0 t (ix3 0 k r)
/-- The second operand's block at a grid point, as extended reals. -/
def rhs (c : Dev nD) (t : Fin cfg0.N) (k d : Fin 1024) : EReal := iblk m c 1 t (ix2 k d)

/-- What one grid point adds at an element of its block. -/
def term (c : Dev nD) (t : Fin cfg0.N) (j : S1x1x704x1024.Idx) : EReal :=
  ∑ k : Fin 1024, lhs m c t k (j 2) * rhs m c t k (j 3)

/-- After a chunk's last token tile its block holds the sum of the sixteen tiles' products. -/
theorem acc (c : Dev nD) (t : Fin cfg0.N) (hr : t.val % 16 = 15) (j : S1x1x704x1024.Idx) :
    outsAt0 m c t.val t.isLt j
      = 0 + ∑ s : Fin 16, term m c ⟨16 * (t.val / 16) + s.val, Pipeline.run_point_lt_of_flush t hr s⟩ j := by
  refine Pipeline.eq_sum_fin_of_reset_step_apply_of_flush (fun n h => outsAt0 m c n h) 16 (fun _ => 0) (term m c)
    (fun t h j => ?_) (fun t h j => ?_) t hr j
  · beta_reduce
    rw [outsAt0_A m c t h]
    frame_out
    idx_vars j
    unfold k0_pay2 k0_pay1
    pointwise
    rfl
  · beta_reduce
    rw [outsAt0_B m c t h]
    frame_out
    idx_vars j
    unfold k0_pay2
    pointwise
    rw [Subsingleton.elim j0 0, Subsingleton.elim j1 0]
    rfl

/-- The product over all tokens, chunk by chunk. -/
def product (u : Vec Ideal S4x16384x704 .bf16) (dy : Vec Ideal S16384x1024 .bf16) (i : S8x4x704x1024.Idx) : EReal :=
  ∑ s : Fin 16384, (u (ix3 (i 1) s (i 2)) * dy (ix2 s (i 3)) : EReal)

/-- The result array: slot 0 is the product over all tokens; the other slots are the argument's. -/
def result (u : Vec Ideal S4x16384x704 .bf16) (dy : Vec Ideal S16384x1024 .bf16) (a : Vec Ideal S8x4x704x1024 .f32) :
    Vec Ideal S8x4x704x1024 .f32 := fun i => if (i 0).val = 0 then product u dy i else a i

/-- The array the call leaves is the result array of its arguments. -/
theorem final (c : Dev nD) : (dats m 0 c).arrAt 2 cfg0.N = result (m (c.tc.loc main_arg0))
    (m (c.tc.loc main_arg1)) (m (c.tc.loc main_arg2)) := by
  refine ((dats m 0 c).arrAt_eq_of_coversWhere 2
    (product (m (c.tc.loc main_arg0)) (m (c.tc.loc main_arg1)))
    (fun β => β (0 : Fin _) = 0) (by decide +kernel) (P := fun i : S8x4x704x1024.Idx => (i 0).val = 0) (fun t hf y => ?_)
    (fun j => by blk_simp [Pipeline.Window.cell_apply]; omega)).trans ?_
  · blk_simp
    have hr : t.val % 16 = 15 := (flush0_2 t).mp hf
    rw [after0_2, acc m c t hr, zero_add]
    unfold term product lhs rhs
    refine Fin.sum_mul_add_congr fun s k hl => ?_
    have hq : 16 * (t.val / 16) + s.val < cfg0.N := Pipeline.run_point_lt_of_flush t hr s
    obtain ⟨e0, e1, -⟩ := idx ⟨16 * (t.val / 16) + s.val, hq⟩
    obtain ⟨-, -, e2⟩ := idx t
    congr 1
    · blk_ext [iblk, V_main_arg0, e0, e2]
    · blk_ext [iblk, V_main_arg1, e1, e2]
  · rfl

/-- The factors of a product of two extended reals in the other order. -/
theorem swap (a b : EReal) : a * b = b * a := mul_comm a b

/-- The reference ends with the same result array and keeps its arguments. -/
theorem reference (m : (ℓ : Loc Cert.GradReferenceIdeal.nD Cert.GradReferenceIdeal.τ Cert.GradReferenceIdeal.sig) → Buf (Elt Ideal) ℓ) (ρ : Dev Cert.GradReferenceIdeal.nD → PrngReg) :
    θ_run (Cert.GradReferenceIdeal.defs (F := Ideal)) (onTc (τ := Cert.GradReferenceIdeal.τ) (Cert.GradReferenceIdeal.main (F := Ideal))) ⟨m, fun _ => 0, ρ⟩ fun r =>
      ∀ c : Dev Cert.GradReferenceIdeal.nD,
      r.2.mem (c.tc.loc Cert.GradReferenceIdeal.main_v10)
        = result (m (c.tc.loc Cert.GradReferenceIdeal.main_arg0)) (m (c.tc.loc Cert.GradReferenceIdeal.main_arg1))
          (m (c.tc.loc Cert.GradReferenceIdeal.main_arg2))
      ∧ r.2.mem (c.tc.loc Cert.GradReferenceIdeal.main_arg0) = m (c.tc.loc Cert.GradReferenceIdeal.main_arg0)
      ∧ r.2.mem (c.tc.loc Cert.GradReferenceIdeal.main_arg1) = m (c.tc.loc Cert.GradReferenceIdeal.main_arg1)
      ∧ r.2.mem (c.tc.loc Cert.GradReferenceIdeal.main_arg2) = m (c.tc.loc Cert.GradReferenceIdeal.main_arg2) := by
  refine (θ_run _ _ _).mono (fun r h c => ⟨(h c).1.trans ?_, (h c).2⟩) (Cert.GradReferenceIdeal.Value.run m ρ)
  funext i
  unfold result product
  idx_vars i
  pointwise
  by_cases h0 : i0.val = 0
  · rw [dif_pos (show i0.val < 1 by omega)]
    refine Eq.trans ?_ (if_pos h0).symm
    exact Finset.sum_congr rfl fun x _ => swap _ _
  · rw [dif_neg (show ¬i0.val < 1 by omega)]
    refine Eq.trans ?_ (if_neg h0).symm
    congr 2
    exact Fin.ext (show 1 + (i0.val - 1) = i0.val by omega)

end Cert.GradIdeal.Sum
-- ==== Proof.FfnReference.lean ====
/- The reference's results as functions of its arguments. -/
module

public import proofs.«01_k».proof.Defs
public import proofs.«01_k».proof.Proof.Gen.ReferenceIdeal.Run
public import proofs.«01_k».proof.Proof.FfnReal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
namespace Cert.ReferenceIdeal.Ffn

open Cert.ReferenceIdeal Cert.ReferenceIdeal.Gen Cert.ReferenceIdeal.Value Cert.Ffn
variable (m : (ℓ : Loc nD τ sig) → Buf (Elt Ideal) ℓ) (ρ : Dev nD → PrngReg)

/-- The reference's arguments in a memory. -/
def args (c : Dev nD) : Args where
  x i d := m ((c.tc : Thread nD τ).loc main_arg0) (ix2 i d)
  dxo i d := m ((c.tc : Thread nD τ).loc main_arg1) (ix2 i d)
  gain d := m ((c.tc : Thread nD τ).loc main_arg2) (ix1 d)
  shift d := m ((c.tc : Thread nD τ).loc main_arg3) (ix1 d)
  scale d := m ((c.tc : Thread nD τ).loc main_arg4) (ix1 d)
  gate d := m ((c.tc : Thread nD τ).loc main_arg5) (ix1 d)
  w1 j d f := m ((c.tc : Thread nD τ).loc main_arg6) (ix5 0 0 j d f)
  w3 j d f := m ((c.tc : Thread nD τ).loc main_arg7) (ix5 0 0 j d f)
  w2 j f d := m ((c.tc : Thread nD τ).loc main_arg8) (ix5 0 0 j f d)

/-- The tokens after the sublayer. -/
theorem xo (c : Dev nD) (i : Fin 16384) (d : Fin 1024) :
    (res_main_v46 m c : Vec Ideal S16384x1024 .f32) (ix2 i d) = (args m c).xo i d := by
  unfold res_main_v46
  pointwise
  exact congrArg (fun s : EReal => (args m c).x i d + (args m c).factor d * s)
    (flat fun j f => (args m c).u j i f * (args m c).w2 j f d)

/-- The gradient of the tokens. -/
theorem dx (c : Dev nD) (i : Fin 16384) (d : Fin 1024) :
    (res_main_v83 m c : Vec Ideal S16384x1024 .f32) (ix2 i d) = (args m c).adjDx i d := by
  unfold res_main_v83
  pointwise
  simp only [Fin.sum_univ_one]
  rfl

/-- The gated product. -/
theorem u (c : Dev nD) (j : Fin 4) (i : Fin 16384) (f : Fin 704) :
    (res_main_v88 m c : Vec Ideal S4x16384x704 .bf16) (ix3 j i f) = (args m c).u j i f := by
  unfold res_main_v88
  pointwise
  rfl

/-- The gate's gradient at the first product. -/
theorem da1 (c : Dev nD) (j : Fin 4) (i : Fin 16384) (f : Fin 704) :
    (res_main_v91 m c : Vec Ideal S4x16384x704 .bf16) (ix3 j i f) = (args m c).adjDa1 j i f := by
  unfold res_main_v91
  pointwise
  rfl

/-- The sums over the tokens. -/
theorem sums (c : Dev nD) (r : Fin 8) (d : Fin 1024) :
    (res_main_v82 m c : Vec Ideal S8x1024 .f32) (ix2 r d) = (args m c).adjSums r d := by
  unfold res_main_v82
  fin_cases r <;> pointwise <;> rfl

/-- What a memory holds of the reference's eight results, for the arguments `a`. -/
def Results (a : Args) (m : (ℓ : Loc nD τ sig) → Buf (Elt Ideal) ℓ) (c : Dev nD) : Prop :=
  (∀ i d, m ((c.tc : Thread nD τ).loc main_v46) (ix2 i d) = a.xo i d)
    ∧ (∀ i d, m ((c.tc : Thread nD τ).loc main_v83) (ix2 i d) = a.adjDx i d)
    ∧ (∀ i d, m ((c.tc : Thread nD τ).loc main_v84) (ix2 i d) = a.h i d)
    ∧ (∀ i d, m ((c.tc : Thread nD τ).loc main_v85) (ix2 i d) = a.dy i d)
    ∧ (∀ j i f, m ((c.tc : Thread nD τ).loc main_v88) (ix3 j i f) = a.u j i f)
    ∧ (∀ j i f, m ((c.tc : Thread nD τ).loc main_v91) (ix3 j i f) = a.adjDa1 j i f)
    ∧ (∀ j i f, m ((c.tc : Thread nD τ).loc main_v94) (ix3 j i f) = a.adjDa3 j i f)
    ∧ ∀ r d, m ((c.tc : Thread nD τ).loc main_v82) (ix2 r d) = a.adjSums r d

/-- Every run of the reference ends with these results, its arguments unchanged. -/
theorem run : θ_run defs (onTc (τ := τ) (main (F := Ideal))) ⟨m, fun _ => 0, ρ⟩ fun r =>
    ∀ c : Dev nD, Results (args m c) r.2.mem c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run _ _ _).mono (fun r hr c => ?_) (Cert.ReferenceIdeal.Value.run m ρ)
  obtain ⟨h1, h2, h3, h4, h5, h6, h7, h8, hargs⟩ := hr c
  refine ⟨⟨fun i d => ?_, fun i d => ?_, fun i d => ?_, fun i d => ?_, fun j i f => ?_, fun j i f => ?_, fun j i f => ?_,
    fun r d => ?_⟩, hargs⟩
  · rw [h1]; exact xo m c i d
  · rw [h2]; exact dx m c i d
  · rw [h3]; pointwise; rfl
  · rw [h4]; pointwise; rfl
  · rw [h5]; exact u m c j i f
  · rw [h6]; exact da1 m c j i f
  · rw [h7]; pointwise; rfl
  · rw [h8]; exact sums m c r d

end Cert.ReferenceIdeal.Ffn
-- ==== Proof.lean ====
/- The certificate's claims: each program's frame by its generated frame or run, the value claims by the modules read below. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Grad
public import proofs.«01_k».proof.Proof.Gen.Grad.Skeleton
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Launch
public import proofs.«01_k».proof.Proof.Gen.GradIdeal.Points
public import proofs.«01_k».proof.Proof.Gen.GradIdeal.Frame
public import proofs.«01_k».proof.Proof.Gen.GradReferenceIdeal
public import proofs.«01_k».proof.Proof.Gen.Pre_finite
public import proofs.«01_k».proof.Proof.Gen.GradIdeal.Value
public import proofs.«01_k».proof.Proof.Gen.GradReferenceIdeal.Run
public import proofs.«01_k».proof.Proof.Gen.ReferenceIdeal.Run
public import proofs.«01_k».proof.Proof.AdamFfn
public import proofs.«01_k».proof.Proof.AdamFfnOut
public import proofs.«01_k».proof.Proof.AdamConvIn
public import proofs.«01_k».proof.Proof.AdamConvOut
public import proofs.«01_k».proof.Proof.AdamQkv
public import proofs.«01_k».proof.Proof.AdamAttnOut
public import proofs.«01_k».proof.Proof.AdamCond
public import proofs.«01_k».proof.Proof.AdamAda
public import proofs.«01_k».proof.Proof.AdamSmall
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnReferenceIdeal
public import proofs.«01_k».proof.Proof.Gen.AdamFfnReferenceIdeal.Run
public import proofs.«01_k».proof.Proof.Gen.AdamFfnOut
public import proofs.«01_k».proof.Proof.Gen.AdamFfnOut.Skeleton
public import proofs.«01_k».proof.Proof.Gen.AdamFfnOut.Launch
public import proofs.«01_k».proof.Proof.Gen.AdamFfnOut.Points
public import proofs.«01_k».proof.Proof.Gen.AdamFfnOut.Frame
public import proofs.«01_k».proof.Proof.Gen.AdamFfnOutIdeal
public import proofs.«01_k».proof.Proof.Gen.AdamFfnOutIdeal.Skeleton
public import proofs.«01_k».proof.Proof.Gen.AdamFfnOutIdeal.Launch
public import proofs.«01_k».proof.Proof.Gen.AdamFfnOutIdeal.Points
public import proofs.«01_k».proof.Proof.Gen.AdamFfnOutIdeal.Frame
public import proofs.«01_k».proof.Proof.Gen.AdamFfnOutReferenceIdeal
public import proofs.«01_k».proof.Proof.Gen.AdamFfnOutReferenceIdeal.Run
public import proofs.«01_k».proof.Proof.Gen.AdamConvIn
public import proofs.«01_k».proof.Proof.Gen.AdamConvIn.Skeleton
public import proofs.«01_k».proof.Proof.Gen.AdamConvIn.Launch
public import proofs.«01_k».proof.Proof.Gen.AdamConvIn.Points
public import proofs.«01_k».proof.Proof.Gen.AdamConvIn.Frame
public import proofs.«01_k».proof.Proof.Gen.AdamConvInIdeal
public import proofs.«01_k».proof.Proof.Gen.AdamConvInIdeal.Skeleton
public import proofs.«01_k».proof.Proof.Gen.AdamConvInIdeal.Launch
public import proofs.«01_k».proof.Proof.Gen.AdamConvInIdeal.Points
public import proofs.«01_k».proof.Proof.Gen.AdamConvInIdeal.Frame
public import proofs.«01_k».proof.Proof.Gen.AdamConvInReferenceIdeal
public import proofs.«01_k».proof.Proof.Gen.AdamConvInReferenceIdeal.Run
public import proofs.«01_k».proof.Proof.Gen.AdamConvOut
public import proofs.«01_k».proof.Proof.Gen.AdamConvOut.Skeleton
public import proofs.«01_k».proof.Proof.Gen.AdamConvOut.Launch
public import proofs.«01_k».proof.Proof.Gen.AdamConvOut.Points
public import proofs.«01_k».proof.Proof.Gen.AdamConvOut.Frame
public import proofs.«01_k».proof.Proof.Gen.AdamConvOutIdeal
public import proofs.«01_k».proof.Proof.Gen.AdamConvOutIdeal.Skeleton
public import proofs.«01_k».proof.Proof.Gen.AdamConvOutIdeal.Launch
public import proofs.«01_k».proof.Proof.Gen.AdamConvOutIdeal.Points
public import proofs.«01_k».proof.Proof.Gen.AdamConvOutIdeal.Frame
public import proofs.«01_k».proof.Proof.Gen.AdamConvOutReferenceIdeal
public import proofs.«01_k».proof.Proof.Gen.AdamConvOutReferenceIdeal.Run
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvReferenceIdeal
public import proofs.«01_k».proof.Proof.Gen.AdamQkvReferenceIdeal.Run
public import proofs.«01_k».proof.Proof.Gen.AdamAttnOut
public import proofs.«01_k».proof.Proof.Gen.AdamAttnOut.Skeleton
public import proofs.«01_k».proof.Proof.Gen.AdamAttnOut.Launch
public import proofs.«01_k».proof.Proof.Gen.AdamAttnOut.Points
public import proofs.«01_k».proof.Proof.Gen.AdamAttnOut.Frame
public import proofs.«01_k».proof.Proof.Gen.AdamAttnOutIdeal
public import proofs.«01_k».proof.Proof.Gen.AdamAttnOutIdeal.Skeleton
public import proofs.«01_k».proof.Proof.Gen.AdamAttnOutIdeal.Launch
public import proofs.«01_k».proof.Proof.Gen.AdamAttnOutIdeal.Points
public import proofs.«01_k».proof.Proof.Gen.AdamAttnOutIdeal.Frame
public import proofs.«01_k».proof.Proof.Gen.AdamAttnOutReferenceIdeal
public import proofs.«01_k».proof.Proof.Gen.AdamAttnOutReferenceIdeal.Run
public import proofs.«01_k».proof.Proof.Gen.AdamCond
public import proofs.«01_k».proof.Proof.Gen.AdamCond.Skeleton
public import proofs.«01_k».proof.Proof.Gen.AdamCond.Launch
public import proofs.«01_k».proof.Proof.Gen.AdamCond.Points
public import proofs.«01_k».proof.Proof.Gen.AdamCond.Frame
public import proofs.«01_k».proof.Proof.Gen.AdamCondIdeal
public import proofs.«01_k».proof.Proof.Gen.AdamCondIdeal.Skeleton
public import proofs.«01_k».proof.Proof.Gen.AdamCondIdeal.Launch
public import proofs.«01_k».proof.Proof.Gen.AdamCondIdeal.Points
public import proofs.«01_k».proof.Proof.Gen.AdamCondIdeal.Frame
public import proofs.«01_k».proof.Proof.Gen.AdamCondReferenceIdeal
public import proofs.«01_k».proof.Proof.Gen.AdamCondReferenceIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.AdamAdaReferenceIdeal
public import proofs.«01_k».proof.Proof.Gen.AdamAdaReferenceIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallReferenceIdeal
public import proofs.«01_k».proof.Proof.Gen.AdamSmallReferenceIdeal.Run
public import proofs.«01_k».proof.Proof.Gen.ModBwd
public import proofs.«01_k».proof.Proof.Gen.ModBwd.Skeleton
public import proofs.«01_k».proof.Proof.Gen.ModBwd.Launch
public import proofs.«01_k».proof.Proof.Gen.ModBwd.Points
public import proofs.«01_k».proof.Proof.Gen.ModBwd.Frame
public import proofs.«01_k».proof.Proof.Gen.ModBwdIdeal
public import proofs.«01_k».proof.Proof.Gen.ModBwdIdeal.Skeleton
public import proofs.«01_k».proof.Proof.Gen.ModBwdIdeal.Launch
public import proofs.«01_k».proof.Proof.Gen.ModBwdIdeal.Points
public import proofs.«01_k».proof.Proof.Gen.ModBwdIdeal.Frame
public import proofs.«01_k».proof.Proof.Gen.ModBwdIdeal.Value
public import proofs.«01_k».proof.Proof.Gen.ModBwdReferenceIdeal
public import proofs.«01_k».proof.Proof.Gen.ModBwdReferenceIdeal.Run
public import proofs.«01_k».proof.Proof.Gen.CondBwd
public import proofs.«01_k».proof.Proof.Gen.CondBwd.Skeleton
public import proofs.«01_k».proof.Proof.Gen.CondBwd.Launch
public import proofs.«01_k».proof.Proof.Gen.CondBwd.Points
public import proofs.«01_k».proof.Proof.Gen.CondBwd.Frame
public import proofs.«01_k».proof.Proof.Gen.CondBwdIdeal
public import proofs.«01_k».proof.Proof.Gen.CondBwdIdeal.Skeleton
public import proofs.«01_k».proof.Proof.Gen.CondBwdIdeal.Launch
public import proofs.«01_k».proof.Proof.Gen.CondBwdIdeal.Points
public import proofs.«01_k».proof.Proof.Gen.CondBwdIdeal.Frame
public import proofs.«01_k».proof.Proof.Gen.CondBwdIdeal.Value
public import proofs.«01_k».proof.Proof.Gen.CondBwdReferenceIdeal
public import proofs.«01_k».proof.Proof.Gen.CondBwdReferenceIdeal.Run
public import proofs.«01_k».proof.Proof.Gen.SumAda
public import proofs.«01_k».proof.Proof.Gen.SumAda.Skeleton
public import proofs.«01_k».proof.Proof.Gen.SumAda.Launch
public import proofs.«01_k».proof.Proof.Gen.SumAda.Points
public import proofs.«01_k».proof.Proof.Gen.SumAda.Frame
public import proofs.«01_k».proof.Proof.Gen.SumAdaIdeal
public import proofs.«01_k».proof.Proof.Gen.SumAdaIdeal.Skeleton
public import proofs.«01_k».proof.Proof.Gen.SumAdaIdeal.Launch
public import proofs.«01_k».proof.Proof.Gen.SumAdaIdeal.Points
public import proofs.«01_k».proof.Proof.Gen.SumAdaIdeal.Frame
public import proofs.«01_k».proof.Proof.Gen.SumAdaReferenceIdeal
public import proofs.«01_k».proof.Proof.Gen.SumAdaReferenceIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallReferenceIdeal
public import proofs.«01_k».proof.Proof.Gen.SumSmallReferenceIdeal.Run
public import proofs.«01_k».proof.Proof.Gen.SumFfnIn
public import proofs.«01_k».proof.Proof.Gen.SumFfnIn.Skeleton
public import proofs.«01_k».proof.Proof.Gen.SumFfnIn.Launch
public import proofs.«01_k».proof.Proof.Gen.SumFfnIn.Points
public import proofs.«01_k».proof.Proof.Gen.SumFfnIn.Frame
public import proofs.«01_k».proof.Proof.Gen.SumFfnInIdeal
public import proofs.«01_k».proof.Proof.Gen.SumFfnInIdeal.Skeleton
public import proofs.«01_k».proof.Proof.Gen.SumFfnInIdeal.Launch
public import proofs.«01_k».proof.Proof.Gen.SumFfnInIdeal.Points
public import proofs.«01_k».proof.Proof.Gen.SumFfnInIdeal.Frame
public import proofs.«01_k».proof.Proof.Gen.SumFfnInReferenceIdeal
public import proofs.«01_k».proof.Proof.Gen.SumFfnInReferenceIdeal.Run
public import proofs.«01_k».proof.Proof.Gen.SumFfnOut
public import proofs.«01_k».proof.Proof.Gen.SumFfnOut.Skeleton
public import proofs.«01_k».proof.Proof.Gen.SumFfnOut.Launch
public import proofs.«01_k».proof.Proof.Gen.SumFfnOut.Points
public import proofs.«01_k».proof.Proof.Gen.SumFfnOut.Frame
public import proofs.«01_k».proof.Proof.Gen.SumFfnOutIdeal
public import proofs.«01_k».proof.Proof.Gen.SumFfnOutIdeal.Skeleton
public import proofs.«01_k».proof.Proof.Gen.SumFfnOutIdeal.Launch
public import proofs.«01_k».proof.Proof.Gen.SumFfnOutIdeal.Points
public import proofs.«01_k».proof.Proof.Gen.SumFfnOutIdeal.Frame
public import proofs.«01_k».proof.Proof.Gen.SumFfnOutReferenceIdeal
public import proofs.«01_k».proof.Proof.Gen.SumFfnOutReferenceIdeal.Run
public import proofs.«01_k».proof.Proof.Gen.SumConvIn
public import proofs.«01_k».proof.Proof.Gen.SumConvIn.Skeleton
public import proofs.«01_k».proof.Proof.Gen.SumConvIn.Launch
public import proofs.«01_k».proof.Proof.Gen.SumConvIn.Points
public import proofs.«01_k».proof.Proof.Gen.SumConvIn.Frame
public import proofs.«01_k».proof.Proof.Gen.SumConvInIdeal
public import proofs.«01_k».proof.Proof.Gen.SumConvInIdeal.Skeleton
public import proofs.«01_k».proof.Proof.Gen.SumConvInIdeal.Launch
public import proofs.«01_k».proof.Proof.Gen.SumConvInIdeal.Points
public import proofs.«01_k».proof.Proof.Gen.SumConvInIdeal.Frame
public import proofs.«01_k».proof.Proof.Gen.SumConvInReferenceIdeal
public import proofs.«01_k».proof.Proof.Gen.SumConvInReferenceIdeal.Run
public import proofs.«01_k».proof.Proof.Gen.SumConvOut
public import proofs.«01_k».proof.Proof.Gen.SumConvOut.Skeleton
public import proofs.«01_k».proof.Proof.Gen.SumConvOut.Launch
public import proofs.«01_k».proof.Proof.Gen.SumConvOut.Points
public import proofs.«01_k».proof.Proof.Gen.SumConvOut.Frame
public import proofs.«01_k».proof.Proof.Gen.SumConvOutIdeal
public import proofs.«01_k».proof.Proof.Gen.SumConvOutIdeal.Skeleton
public import proofs.«01_k».proof.Proof.Gen.SumConvOutIdeal.Launch
public import proofs.«01_k».proof.Proof.Gen.SumConvOutIdeal.Points
public import proofs.«01_k».proof.Proof.Gen.SumConvOutIdeal.Frame
public import proofs.«01_k».proof.Proof.Gen.SumConvOutReferenceIdeal
public import proofs.«01_k».proof.Proof.Gen.SumConvOutReferenceIdeal.Run
public import proofs.«01_k».proof.Proof.Gen.SumQkv
public import proofs.«01_k».proof.Proof.Gen.SumQkv.Skeleton
public import proofs.«01_k».proof.Proof.Gen.SumQkv.Launch
public import proofs.«01_k».proof.Proof.Gen.SumQkv.Points
public import proofs.«01_k».proof.Proof.Gen.SumQkv.Frame
public import proofs.«01_k».proof.Proof.Gen.SumQkvIdeal
public import proofs.«01_k».proof.Proof.Gen.SumQkvIdeal.Skeleton
public import proofs.«01_k».proof.Proof.Gen.SumQkvIdeal.Launch
public import proofs.«01_k».proof.Proof.Gen.SumQkvIdeal.Points
public import proofs.«01_k».proof.Proof.Gen.SumQkvIdeal.Frame
public import proofs.«01_k».proof.Proof.Gen.SumQkvReferenceIdeal
public import proofs.«01_k».proof.Proof.Gen.SumQkvReferenceIdeal.Run
public import proofs.«01_k».proof.Proof.Gen.SumAttnOut
public import proofs.«01_k».proof.Proof.Gen.SumAttnOut.Skeleton
public import proofs.«01_k».proof.Proof.Gen.SumAttnOut.Launch
public import proofs.«01_k».proof.Proof.Gen.SumAttnOut.Points
public import proofs.«01_k».proof.Proof.Gen.SumAttnOut.Frame
public import proofs.«01_k».proof.Proof.Gen.SumAttnOutIdeal
public import proofs.«01_k».proof.Proof.Gen.SumAttnOutIdeal.Skeleton
public import proofs.«01_k».proof.Proof.Gen.SumAttnOutIdeal.Launch
public import proofs.«01_k».proof.Proof.Gen.SumAttnOutIdeal.Points
public import proofs.«01_k».proof.Proof.Gen.SumAttnOutIdeal.Frame
public import proofs.«01_k».proof.Proof.Gen.SumAttnOutReferenceIdeal
public import proofs.«01_k».proof.Proof.Gen.SumAttnOutReferenceIdeal.Run
public import proofs.«01_k».proof.Proof.Gen.Pre_finite_pre
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadReferenceIdeal
public import proofs.«01_k».proof.Proof.Gen.LossHeadReferenceIdeal.Run
public import proofs.«01_k».proof.Proof.Gen.CondPre
public import proofs.«01_k».proof.Proof.Gen.CondPre.Skeleton
public import proofs.«01_k».proof.Proof.Gen.CondPre.Launch
public import proofs.«01_k».proof.Proof.Gen.CondPre.Points
public import proofs.«01_k».proof.Proof.Gen.CondPre.Frame
public import proofs.«01_k».proof.Proof.Gen.CondPreIdeal
public import proofs.«01_k».proof.Proof.Gen.CondPreIdeal.Skeleton
public import proofs.«01_k».proof.Proof.Gen.CondPreIdeal.Launch
public import proofs.«01_k».proof.Proof.Gen.CondPreIdeal.Points
public import proofs.«01_k».proof.Proof.Gen.CondPreIdeal.Frame
public import proofs.«01_k».proof.Proof.Gen.CondPreIdeal.Value
public import proofs.«01_k».proof.Proof.Gen.CondPreReferenceIdeal
public import proofs.«01_k».proof.Proof.Gen.CondPreReferenceIdeal.Run
public import proofs.«01_k».proof.Proof.Gen.CondE
public import proofs.«01_k».proof.Proof.Gen.CondE.Skeleton
public import proofs.«01_k».proof.Proof.Gen.CondE.Launch
public import proofs.«01_k».proof.Proof.Gen.CondE.Points
public import proofs.«01_k».proof.Proof.Gen.CondE.Frame
public import proofs.«01_k».proof.Proof.Gen.CondEIdeal
public import proofs.«01_k».proof.Proof.Gen.CondEIdeal.Skeleton
public import proofs.«01_k».proof.Proof.Gen.CondEIdeal.Launch
public import proofs.«01_k».proof.Proof.Gen.CondEIdeal.Points
public import proofs.«01_k».proof.Proof.Gen.CondEIdeal.Frame
public import proofs.«01_k».proof.Proof.Gen.CondEIdeal.Value
public import proofs.«01_k».proof.Proof.Gen.CondEReferenceIdeal
public import proofs.«01_k».proof.Proof.Gen.CondEReferenceIdeal.Run
public import proofs.«01_k».proof.Proof.Gen.ModCols
public import proofs.«01_k».proof.Proof.Gen.ModCols.Skeleton
public import proofs.«01_k».proof.Proof.Gen.ModCols.Launch
public import proofs.«01_k».proof.Proof.Gen.ModCols.Points
public import proofs.«01_k».proof.Proof.Gen.ModCols.Frame
public import proofs.«01_k».proof.Proof.Gen.ModColsIdeal
public import proofs.«01_k».proof.Proof.Gen.ModColsIdeal.Skeleton
public import proofs.«01_k».proof.Proof.Gen.ModColsIdeal.Launch
public import proofs.«01_k».proof.Proof.Gen.ModColsIdeal.Points
public import proofs.«01_k».proof.Proof.Gen.ModColsIdeal.Frame
public import proofs.«01_k».proof.Proof.Gen.ModColsIdeal.Value
public import proofs.«01_k».proof.Proof.Gen.ModColsReferenceIdeal
public import proofs.«01_k».proof.Proof.Gen.ModColsReferenceIdeal.Run
public import proofs.«01_k».proof.Proof.Gen.GradConvIn
public import proofs.«01_k».proof.Proof.Gen.GradConvIn.Skeleton
public import proofs.«01_k».proof.Proof.Gen.GradConvIn.Launch
public import proofs.«01_k».proof.Proof.Gen.GradConvIn.Points
public import proofs.«01_k».proof.Proof.Gen.GradConvIn.Frame
public import proofs.«01_k».proof.Proof.Gen.GradConvInIdeal
public import proofs.«01_k».proof.Proof.Gen.GradConvInIdeal.Skeleton
public import proofs.«01_k».proof.Proof.Gen.GradConvInIdeal.Launch
public import proofs.«01_k».proof.Proof.Gen.GradConvInIdeal.Points
public import proofs.«01_k».proof.Proof.Gen.GradConvInIdeal.Frame
public import proofs.«01_k».proof.Proof.Gen.GradConvInIdeal.Value
public import proofs.«01_k».proof.Proof.Gen.GradConvInReferenceIdeal
public import proofs.«01_k».proof.Proof.Gen.GradConvInReferenceIdeal.Run
public import proofs.«01_k».proof.Proof.Gen.GradConvOut
public import proofs.«01_k».proof.Proof.Gen.GradConvOut.Skeleton
public import proofs.«01_k».proof.Proof.Gen.GradConvOut.Launch
public import proofs.«01_k».proof.Proof.Gen.GradConvOut.Points
public import proofs.«01_k».proof.Proof.Gen.GradConvOut.Frame
public import proofs.«01_k».proof.Proof.Gen.GradConvOutIdeal
public import proofs.«01_k».proof.Proof.Gen.GradConvOutIdeal.Skeleton
public import proofs.«01_k».proof.Proof.Gen.GradConvOutIdeal.Launch
public import proofs.«01_k».proof.Proof.Gen.GradConvOutIdeal.Points
public import proofs.«01_k».proof.Proof.Gen.GradConvOutIdeal.Frame
public import proofs.«01_k».proof.Proof.Gen.GradConvOutIdeal.Value
public import proofs.«01_k».proof.Proof.Gen.GradConvOutReferenceIdeal
public import proofs.«01_k».proof.Proof.Gen.GradConvOutReferenceIdeal.Run
public import proofs.«01_k».proof.Proof.Gen.GradQkv
public import proofs.«01_k».proof.Proof.Gen.GradQkv.Skeleton
public import proofs.«01_k».proof.Proof.Gen.GradQkv.Launch
public import proofs.«01_k».proof.Proof.Gen.GradQkv.Points
public import proofs.«01_k».proof.Proof.Gen.GradQkv.Frame
public import proofs.«01_k».proof.Proof.Gen.GradQkvIdeal
public import proofs.«01_k».proof.Proof.Gen.GradQkvIdeal.Skeleton
public import proofs.«01_k».proof.Proof.Gen.GradQkvIdeal.Launch
public import proofs.«01_k».proof.Proof.Gen.GradQkvIdeal.Points
public import proofs.«01_k».proof.Proof.Gen.GradQkvIdeal.Frame
public import proofs.«01_k».proof.Proof.Gen.GradQkvIdeal.Value
public import proofs.«01_k».proof.Proof.Gen.GradQkvReferenceIdeal
public import proofs.«01_k».proof.Proof.Gen.GradQkvReferenceIdeal.Run
public import proofs.«01_k».proof.Proof.Gen.GradAttnOut
public import proofs.«01_k».proof.Proof.Gen.GradAttnOut.Skeleton
public import proofs.«01_k».proof.Proof.Gen.GradAttnOut.Launch
public import proofs.«01_k».proof.Proof.Gen.GradAttnOut.Points
public import proofs.«01_k».proof.Proof.Gen.GradAttnOut.Frame
public import proofs.«01_k».proof.Proof.Gen.GradAttnOutIdeal
public import proofs.«01_k».proof.Proof.Gen.GradAttnOutIdeal.Skeleton
public import proofs.«01_k».proof.Proof.Gen.GradAttnOutIdeal.Launch
public import proofs.«01_k».proof.Proof.Gen.GradAttnOutIdeal.Points
public import proofs.«01_k».proof.Proof.Gen.GradAttnOutIdeal.Frame
public import proofs.«01_k».proof.Proof.Gen.GradAttnOutIdeal.Value
public import proofs.«01_k».proof.Proof.Gen.GradAttnOutReferenceIdeal
public import proofs.«01_k».proof.Proof.Gen.GradAttnOutReferenceIdeal.Run
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdReferenceIdeal
public import proofs.«01_k».proof.Proof.Gen.OutFwdReferenceIdeal.Run
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdIdeal.Value
public import proofs.«01_k».proof.Proof.Gen.OutBwdReferenceIdeal
public import proofs.«01_k».proof.Proof.Gen.OutBwdReferenceIdeal.Run
public import proofs.«01_k».proof.Proof.ModBwd
public import proofs.«01_k».proof.Proof.CondBwd
public import proofs.«01_k».proof.Proof.SumAda
public import proofs.«01_k».proof.Proof.SumSmall
public import proofs.«01_k».proof.Proof.SumFfnIn
public import proofs.«01_k».proof.Proof.SumFfnOut
public import proofs.«01_k».proof.Proof.SumConvIn
public import proofs.«01_k».proof.Proof.SumConvOut
public import proofs.«01_k».proof.Proof.SumQkv
public import proofs.«01_k».proof.Proof.SumAttnOut
public import proofs.«01_k».proof.Proof.LossHead
public import proofs.«01_k».proof.Proof.CondPre
public import proofs.«01_k».proof.Proof.CondE
public import proofs.«01_k».proof.Proof.ModCols
public import proofs.«01_k».proof.Proof.GradConvIn
public import proofs.«01_k».proof.Proof.GradConvOut
public import proofs.«01_k».proof.Proof.GradQkv
public import proofs.«01_k».proof.Proof.GradAttnOut
public import proofs.«01_k».proof.Proof.OutFwd
public import proofs.«01_k».proof.Proof.OutBwd
public import proofs.«01_k».proof.Proof.GradValue
public import proofs.«01_k».proof.Proof.FfnReference
public import proofs.«01_k».proof.Proof.FfnRun
public import Idealize.ShloMosaic.Lib.Quiescent
public import Idealize.ShloMosaic.Adequacy
public import Idealize.ShloMosaic.Init

@[expose] public section

noncomputable section

namespace Cert.Proof

open Idealize.ShloMosaic Idealize.SL.Sem

/-- The weight gradient's plain reference runs, keeps its arguments and declares no semaphore. -/
theorem frameGradReference : Cert.quiescent_GradReferenceIdeal (hGradReferenceIdeal := Cert.GradReferenceIdeal.Gen.facts) :=
  fun m ρ _ => (θ_run _ _ _).mono (fun r h => ⟨fun c => (h c).2, sem_eq_zero_of_no_sems rfl r.2⟩)
    (Cert.GradReferenceIdeal.Value.run m ρ)

/-- The weight gradient's call and its reference end with the same array. -/
theorem algebraicGrad : Cert.algebraic_GradIdeal_GradReferenceIdeal (hGradIdeal := Cert.GradIdeal.Gen.facts)
    (hGradReferenceIdeal := Cert.GradReferenceIdeal.Gen.facts) := by
  intro m ρ m' ρ' _ hargs
  refine ⟨fun c => Cert.GradIdeal.Sum.result (m ((c.tc : Thread _ _).loc Cert.GradIdeal.main_arg0))
    (m ((c.tc : Thread _ _).loc Cert.GradIdeal.main_arg1)) (m ((c.tc : Thread _ _).loc Cert.GradIdeal.main_arg2)),
    (θ_run _ _ _).mono (fun r h c => ⟨(h c).1.trans (Cert.GradIdeal.Sum.final m c), (h c).2⟩)
      (Cert.GradIdeal.Value.run_blocks m ρ),
    (θ_run _ _ _).mono (fun r h c => ⟨(h c).1.trans ?_, (h c).2⟩) (Cert.GradIdeal.Sum.reference m' ρ')⟩
  obtain ⟨h0, h1, h2⟩ := hargs c
  rw [h0, h1, h2]

/-- The reference of the feed-forward calls runs, keeps its arguments and declares no semaphore. -/
theorem frameFfnReference : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Ffn.run m ρ)

/-- The two programs read the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Ffn.args m' c = Cert.KernelIdeal.Ffn.args m c := by
  obtain ⟨h0, h1, h2, h3, h4, h5, h6, h7, h8⟩ := h
  unfold Cert.ReferenceIdeal.Ffn.args Cert.KernelIdeal.Ffn.args
  rw [h0, h1, h2, h3, h4, h5, h6, h7, h8]

/-- The two feed-forward calls and their reference end with the same eight arrays. -/
theorem algebraicFfn : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => Cert.KernelIdeal.Ffn.xoArray (Cert.KernelIdeal.Ffn.args m c),
    fun c => Cert.KernelIdeal.Ffn.dxArray (Cert.KernelIdeal.Ffn.args m c),
    fun c => Cert.KernelIdeal.Ffn.hArray (Cert.KernelIdeal.Ffn.args m c),
    fun c => Cert.KernelIdeal.Ffn.dyArray (Cert.KernelIdeal.Ffn.args m c),
    fun c => Cert.KernelIdeal.Ffn.uArray (Cert.KernelIdeal.Ffn.args m c),
    fun c => Cert.KernelIdeal.Ffn.da1Array (Cert.KernelIdeal.Ffn.args m c),
    fun c => Cert.KernelIdeal.Ffn.da3Array (Cert.KernelIdeal.Ffn.args m c),
    fun c => Cert.KernelIdeal.Ffn.sumsArray (Cert.KernelIdeal.Ffn.args m c),
    (θ_run _ _ _).mono (fun r h c => ?_) (Cert.KernelIdeal.Ffn.run m ρ),
    (θ_run _ _ _).mono (fun r h c => ?_) (Cert.ReferenceIdeal.Ffn.run m' ρ')⟩
  · exact ⟨(h c _ (Cert.KernelIdeal.Gen.mem_uc Cert.KernelIdeal.main_v10_0 (by decide))).trans (Cert.KernelIdeal.Ffn.left_xo m ρ c),
      (h c _ (Cert.KernelIdeal.Gen.mem_uc Cert.KernelIdeal.main_v11_0 (by decide))).trans (Cert.KernelIdeal.Ffn.left_dx m ρ c),
      (h c _ (Cert.KernelIdeal.Gen.mem_uc Cert.KernelIdeal.main_v11_1 (by decide))).trans (Cert.KernelIdeal.Ffn.left_h m ρ c),
      (h c _ (Cert.KernelIdeal.Gen.mem_uc Cert.KernelIdeal.main_v11_2 (by decide))).trans (Cert.KernelIdeal.Ffn.left_dy m ρ c),
      (h c _ (Cert.KernelIdeal.Gen.mem_uc Cert.KernelIdeal.main_v11_3 (by decide))).trans (Cert.KernelIdeal.Ffn.left_u m ρ c),
      (h c _ (Cert.KernelIdeal.Gen.mem_uc Cert.KernelIdeal.main_v11_4 (by decide))).trans (Cert.KernelIdeal.Ffn.left_da1 m ρ c),
      (h c _ (Cert.KernelIdeal.Gen.mem_uc Cert.KernelIdeal.main_v11_5 (by decide))).trans (Cert.KernelIdeal.Ffn.left_da3 m ρ c),
      (h c _ (Cert.KernelIdeal.Gen.mem_uc Cert.KernelIdeal.main_v11_6 (by decide))).trans (Cert.KernelIdeal.Ffn.left_sums m ρ c),
      (h c _ (Cert.KernelIdeal.Gen.mem_uc Cert.KernelIdeal.main_arg0 (by decide))).trans (Cert.KernelIdeal.Gen.W3_main_arg0 m ρ c),
      (h c _ (Cert.KernelIdeal.Gen.mem_uc Cert.KernelIdeal.main_arg1 (by decide))).trans (Cert.KernelIdeal.Gen.W3_main_arg1 m ρ c),
      (h c _ (Cert.KernelIdeal.Gen.mem_uc Cert.KernelIdeal.main_arg2 (by decide))).trans (Cert.KernelIdeal.Gen.W3_main_arg2 m ρ c),
      (h c _ (Cert.KernelIdeal.Gen.mem_uc Cert.KernelIdeal.main_arg3 (by decide))).trans (Cert.KernelIdeal.Gen.W3_main_arg3 m ρ c),
      (h c _ (Cert.KernelIdeal.Gen.mem_uc Cert.KernelIdeal.main_arg4 (by decide))).trans (Cert.KernelIdeal.Gen.W3_main_arg4 m ρ c),
      (h c _ (Cert.KernelIdeal.Gen.mem_uc Cert.KernelIdeal.main_arg5 (by decide))).trans (Cert.KernelIdeal.Gen.W3_main_arg5 m ρ c),
      (h c _ (Cert.KernelIdeal.Gen.mem_uc Cert.KernelIdeal.main_arg6 (by decide))).trans (Cert.KernelIdeal.Gen.W3_main_arg6 m ρ c),
      (h c _ (Cert.KernelIdeal.Gen.mem_uc Cert.KernelIdeal.main_arg7 (by decide))).trans (Cert.KernelIdeal.Gen.W3_main_arg7 m ρ c),
      (h c _ (Cert.KernelIdeal.Gen.mem_uc Cert.KernelIdeal.main_arg8 (by decide))).trans (Cert.KernelIdeal.Gen.W3_main_arg8 m ρ c)⟩
  · have H := Cert.KernelIdeal.Ffn.finite m hpre c
    obtain ⟨⟨h1, h2, h3, h4, h5, h6, h7, h8⟩, hkeep⟩ := h c
    rw [args_eq m m' c (hargs c)] at h1 h2 h3 h4 h5 h6 h7 h8
    refine ⟨?_, ?_, ?_, ?_, ?_, ?_, ?_, ?_, hkeep⟩
    · funext y; idx_vars y; exact h1 y0 y1
    · funext y; idx_vars y; exact (h2 y0 y1).trans (H.adjDx y0 y1)
    · funext y; idx_vars y; exact h3 y0 y1
    · funext y; idx_vars y; exact h4 y0 y1
    · funext y; idx_vars y; exact h5 y0 y1 y2
    · funext y; idx_vars y; exact (h6 y0 y1 y2).trans (H.adjDa1 y0 y1 y2)
    · funext y; idx_vars y; exact (h7 y0 y1 y2).trans (Cert.Ffn.Args.adjDa3_eq _ y0 y1 y2)
    · funext y; idx_vars y; exact (h8 y0 y1).trans (H.adjSums y0 y1)

/-- Every claim of the certificate. -/
theorem claim : Cert.Claim := ⟨Cert.Kernel.Gen.facts, Cert.KernelIdeal.Gen.facts, Cert.ReferenceIdeal.Gen.facts, Cert.Grad.Gen.facts, Cert.GradIdeal.Gen.facts, Cert.GradReferenceIdeal.Gen.facts,
  Cert.AdamFfn.Gen.facts, Cert.AdamFfnIdeal.Gen.facts, Cert.AdamFfnReferenceIdeal.Gen.facts,
  Cert.AdamFfnOut.Gen.facts, Cert.AdamFfnOutIdeal.Gen.facts, Cert.AdamFfnOutReferenceIdeal.Gen.facts,
  Cert.AdamConvIn.Gen.facts, Cert.AdamConvInIdeal.Gen.facts, Cert.AdamConvInReferenceIdeal.Gen.facts,
  Cert.AdamConvOut.Gen.facts, Cert.AdamConvOutIdeal.Gen.facts, Cert.AdamConvOutReferenceIdeal.Gen.facts,
  Cert.AdamQkv.Gen.facts, Cert.AdamQkvIdeal.Gen.facts, Cert.AdamQkvReferenceIdeal.Gen.facts,
  Cert.AdamAttnOut.Gen.facts, Cert.AdamAttnOutIdeal.Gen.facts, Cert.AdamAttnOutReferenceIdeal.Gen.facts,
  Cert.AdamCond.Gen.facts, Cert.AdamCondIdeal.Gen.facts, Cert.AdamCondReferenceIdeal.Gen.facts,
  Cert.AdamAda.Gen.facts, Cert.AdamAdaIdeal.Gen.facts, Cert.AdamAdaReferenceIdeal.Gen.facts,
  Cert.AdamSmall.Gen.facts, Cert.AdamSmallIdeal.Gen.facts, Cert.AdamSmallReferenceIdeal.Gen.facts,
  Cert.ModBwd.Gen.facts, Cert.ModBwdIdeal.Gen.facts, Cert.ModBwdReferenceIdeal.Gen.facts, Cert.CondBwd.Gen.facts, Cert.CondBwdIdeal.Gen.facts, Cert.CondBwdReferenceIdeal.Gen.facts, Cert.SumAda.Gen.facts, Cert.SumAdaIdeal.Gen.facts, Cert.SumAdaReferenceIdeal.Gen.facts, Cert.SumSmall.Gen.facts, Cert.SumSmallIdeal.Gen.facts, Cert.SumSmallReferenceIdeal.Gen.facts, Cert.SumFfnIn.Gen.facts, Cert.SumFfnInIdeal.Gen.facts, Cert.SumFfnInReferenceIdeal.Gen.facts, Cert.SumFfnOut.Gen.facts, Cert.SumFfnOutIdeal.Gen.facts, Cert.SumFfnOutReferenceIdeal.Gen.facts, Cert.SumConvIn.Gen.facts, Cert.SumConvInIdeal.Gen.facts, Cert.SumConvInReferenceIdeal.Gen.facts, Cert.SumConvOut.Gen.facts, Cert.SumConvOutIdeal.Gen.facts, Cert.SumConvOutReferenceIdeal.Gen.facts, Cert.SumQkv.Gen.facts, Cert.SumQkvIdeal.Gen.facts, Cert.SumQkvReferenceIdeal.Gen.facts, Cert.SumAttnOut.Gen.facts, Cert.SumAttnOutIdeal.Gen.facts, Cert.SumAttnOutReferenceIdeal.Gen.facts, Cert.LossHead.Gen.facts, Cert.LossHeadIdeal.Gen.facts, Cert.LossHeadReferenceIdeal.Gen.facts, Cert.CondPre.Gen.facts, Cert.CondPreIdeal.Gen.facts, Cert.CondPreReferenceIdeal.Gen.facts, Cert.CondE.Gen.facts, Cert.CondEIdeal.Gen.facts, Cert.CondEReferenceIdeal.Gen.facts, Cert.ModCols.Gen.facts, Cert.ModColsIdeal.Gen.facts, Cert.ModColsReferenceIdeal.Gen.facts, Cert.GradConvIn.Gen.facts, Cert.GradConvInIdeal.Gen.facts, Cert.GradConvInReferenceIdeal.Gen.facts, Cert.GradConvOut.Gen.facts, Cert.GradConvOutIdeal.Gen.facts, Cert.GradConvOutReferenceIdeal.Gen.facts, Cert.GradQkv.Gen.facts, Cert.GradQkvIdeal.Gen.facts, Cert.GradQkvReferenceIdeal.Gen.facts, Cert.GradAttnOut.Gen.facts, Cert.GradAttnOutIdeal.Gen.facts, Cert.GradAttnOutReferenceIdeal.Gen.facts, Cert.OutFwd.Gen.facts, Cert.OutFwdIdeal.Gen.facts, Cert.OutFwdReferenceIdeal.Gen.facts, Cert.OutBwd.Gen.facts, Cert.OutBwdIdeal.Gen.facts, Cert.OutBwdReferenceIdeal.Gen.facts, Cert.Pre_finite.Gen.facts, Cert.Pre_finite_pre.Gen.facts,
  fun m ρ _ => Cert.Kernel.Gen.frame m ρ, fun m ρ _ => Cert.KernelIdeal.Gen.frame m ρ, fun m ρ _ => Cert.KernelIdeal.Gen.frame m ρ,
  frameFfnReference, fun m ρ _ => frameFfnReference m ρ trivial,
  fun m ρ _ => Cert.Grad.Gen.frame m ρ, fun m ρ _ => Cert.GradIdeal.Gen.frame m ρ, frameGradReference,
  fun m ρ _ => Cert.AdamFfn.Gen.frame m ρ, fun m ρ _ => Cert.AdamFfnIdeal.Gen.frame m ρ, Cert.AdamFfnIdeal.Step.frameReference,
  fun m ρ _ => Cert.AdamFfnOut.Gen.frame m ρ, fun m ρ _ => Cert.AdamFfnOutIdeal.Gen.frame m ρ, Cert.AdamFfnOutIdeal.Step.frameReference,
  fun m ρ _ => Cert.AdamConvIn.Gen.frame m ρ, fun m ρ _ => Cert.AdamConvInIdeal.Gen.frame m ρ, Cert.AdamConvInIdeal.Step.frameReference,
  fun m ρ _ => Cert.AdamConvOut.Gen.frame m ρ, fun m ρ _ => Cert.AdamConvOutIdeal.Gen.frame m ρ, Cert.AdamConvOutIdeal.Step.frameReference,
  fun m ρ _ => Cert.AdamQkv.Gen.frame m ρ, fun m ρ _ => Cert.AdamQkvIdeal.Gen.frame m ρ, Cert.AdamQkvIdeal.Step.frameReference,
  fun m ρ _ => Cert.AdamAttnOut.Gen.frame m ρ, fun m ρ _ => Cert.AdamAttnOutIdeal.Gen.frame m ρ, Cert.AdamAttnOutIdeal.Step.frameReference,
  fun m ρ _ => Cert.AdamCond.Gen.frame m ρ, fun m ρ _ => Cert.AdamCondIdeal.Gen.frame m ρ, Cert.AdamCondIdeal.Step.frameReference,
  fun m ρ _ => Cert.AdamAda.Gen.frame m ρ, fun m ρ _ => Cert.AdamAdaIdeal.Gen.frame m ρ, Cert.AdamAdaIdeal.Step.frameReference,
  fun m ρ _ => Cert.AdamSmall.Gen.frame m ρ, fun m ρ _ => Cert.AdamSmallIdeal.Gen.frame m ρ, Cert.AdamSmallIdeal.Step.frameReference,
  fun m ρ _ => Cert.ModBwd.Gen.frame m ρ, fun m ρ _ => Cert.ModBwdIdeal.Gen.frame m ρ, Cert.ModBwdIdeal.Step.frameReference,
  fun m ρ _ => Cert.CondBwd.Gen.frame m ρ, fun m ρ _ => Cert.CondBwdIdeal.Gen.frame m ρ, fun m ρ _ => Cert.CondBwdIdeal.Gen.frame m ρ, Cert.CondBwdIdeal.Step.frameReference, fun m ρ _ => Cert.CondBwdIdeal.Step.frameReference m ρ trivial,
  fun m ρ _ => Cert.SumAda.Gen.frame m ρ, fun m ρ _ => Cert.SumAdaIdeal.Gen.frame m ρ, Cert.SumAdaIdeal.Step.frameReference,
  fun m ρ _ => Cert.SumSmall.Gen.frame m ρ, fun m ρ _ => Cert.SumSmallIdeal.Gen.frame m ρ, Cert.SumSmallIdeal.Step.frameReference,
  fun m ρ _ => Cert.SumFfnIn.Gen.frame m ρ, fun m ρ _ => Cert.SumFfnInIdeal.Gen.frame m ρ, Cert.SumFfnInIdeal.Step.frameReference,
  fun m ρ _ => Cert.SumFfnOut.Gen.frame m ρ, fun m ρ _ => Cert.SumFfnOutIdeal.Gen.frame m ρ, Cert.SumFfnOutIdeal.Step.frameReference,
  fun m ρ _ => Cert.SumConvIn.Gen.frame m ρ, fun m ρ _ => Cert.SumConvInIdeal.Gen.frame m ρ, Cert.SumConvInIdeal.Step.frameReference,
  fun m ρ _ => Cert.SumConvOut.Gen.frame m ρ, fun m ρ _ => Cert.SumConvOutIdeal.Gen.frame m ρ, Cert.SumConvOutIdeal.Step.frameReference,
  fun m ρ _ => Cert.SumQkv.Gen.frame m ρ, fun m ρ _ => Cert.SumQkvIdeal.Gen.frame m ρ, Cert.SumQkvIdeal.Step.frameReference,
  fun m ρ _ => Cert.SumAttnOut.Gen.frame m ρ, fun m ρ _ => Cert.SumAttnOutIdeal.Gen.frame m ρ, Cert.SumAttnOutIdeal.Step.frameReference,
  fun m ρ _ => Cert.LossHead.Gen.frame m ρ, fun m ρ _ => Cert.LossHeadIdeal.Gen.frame m ρ, Cert.LossHeadIdeal.Step.frameReference,
  fun m ρ _ => Cert.CondPre.Gen.frame m ρ, fun m ρ _ => Cert.CondPreIdeal.Gen.frame m ρ, Cert.CondPreIdeal.Step.frameReference,
  fun m ρ _ => Cert.CondE.Gen.frame m ρ, fun m ρ _ => Cert.CondEIdeal.Gen.frame m ρ, Cert.CondEIdeal.Step.frameReference,
  fun m ρ _ => Cert.ModCols.Gen.frame m ρ, fun m ρ _ => Cert.ModColsIdeal.Gen.frame m ρ, Cert.ModColsIdeal.Step.frameReference,
  fun m ρ _ => Cert.GradConvIn.Gen.frame m ρ, fun m ρ _ => Cert.GradConvInIdeal.Gen.frame m ρ, Cert.GradConvInIdeal.Step.frameReference,
  fun m ρ _ => Cert.GradConvOut.Gen.frame m ρ, fun m ρ _ => Cert.GradConvOutIdeal.Gen.frame m ρ, Cert.GradConvOutIdeal.Step.frameReference,
  fun m ρ _ => Cert.GradQkv.Gen.frame m ρ, fun m ρ _ => Cert.GradQkvIdeal.Gen.frame m ρ, Cert.GradQkvIdeal.Step.frameReference,
  fun m ρ _ => Cert.GradAttnOut.Gen.frame m ρ, fun m ρ _ => Cert.GradAttnOutIdeal.Gen.frame m ρ, Cert.GradAttnOutIdeal.Step.frameReference,
  fun m ρ _ => Cert.OutFwd.Gen.frame m ρ, fun m ρ _ => Cert.OutFwdIdeal.Gen.frame m ρ, Cert.OutFwdIdeal.Step.frameReference,
  fun m ρ _ => Cert.OutBwd.Gen.frame m ρ, fun m ρ _ => Cert.OutBwdIdeal.Gen.frame m ρ, Cert.OutBwdIdeal.Step.frameReference,
  trivial, algebraicFfn, trivial, algebraicGrad,
  trivial, Cert.AdamFfnIdeal.Step.algebraic,
  trivial, Cert.AdamFfnOutIdeal.Step.algebraic,
  trivial, Cert.AdamConvInIdeal.Step.algebraic,
  trivial, Cert.AdamConvOutIdeal.Step.algebraic,
  trivial, Cert.AdamQkvIdeal.Step.algebraic,
  trivial, Cert.AdamAttnOutIdeal.Step.algebraic,
  trivial, Cert.AdamCondIdeal.Step.algebraic,
  trivial, Cert.AdamAdaIdeal.Step.algebraic,
  trivial, Cert.AdamSmallIdeal.Step.algebraic,
  trivial, Cert.ModBwdIdeal.Step.algebraic,
  trivial, Cert.CondBwdIdeal.Step.algebraic,
  trivial, Cert.SumAdaIdeal.Step.algebraic,
  trivial, Cert.SumSmallIdeal.Step.algebraic,
  trivial, Cert.SumFfnInIdeal.Step.algebraic,
  trivial, Cert.SumFfnOutIdeal.Step.algebraic,
  trivial, Cert.SumConvInIdeal.Step.algebraic,
  trivial, Cert.SumConvOutIdeal.Step.algebraic,
  trivial, Cert.SumQkvIdeal.Step.algebraic,
  trivial, Cert.SumAttnOutIdeal.Step.algebraic,
  trivial, Cert.LossHeadIdeal.Step.algebraic,
  trivial, Cert.CondPreIdeal.Step.algebraic,
  trivial, Cert.CondEIdeal.Step.algebraic,
  trivial, Cert.ModColsIdeal.Step.algebraic,
  trivial, Cert.GradConvInIdeal.Step.algebraic,
  trivial, Cert.GradConvOutIdeal.Step.algebraic,
  trivial, Cert.GradQkvIdeal.Step.algebraic,
  trivial, Cert.GradAttnOutIdeal.Step.algebraic,
  trivial, Cert.OutFwdIdeal.Step.algebraic,
  trivial, Cert.OutBwdIdeal.Step.algebraic⟩

end Cert.Proof

end
